-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_lb [hPre_finite_lb : Cert.Pre_finite_lb.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_lb.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16)) (m ((c.tc : Thread Cert.Kernel3Ideal.nD Cert.Kernel3Ideal.τ).loc Cert.Kernel3Ideal.main_arg17)) (m ((c.tc : Thread Cert.Kernel3Ideal.nD Cert.Kernel3Ideal.τ).loc Cert.Kernel3Ideal.main_arg18)) (m ((c.tc : Thread Cert.Kernel3Ideal.nD Cert.Kernel3Ideal.τ).loc Cert.Kernel3Ideal.main_arg19)) (m ((c.tc : Thread Cert.Kernel3Ideal.nD Cert.Kernel3Ideal.τ).loc Cert.Kernel3Ideal.main_arg20))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_lb [hPre_finite_lb : Cert.Pre_finite_lb.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_lb.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16)) (m ((c.tc : Thread Cert.Reference3Ideal.nD Cert.Reference3Ideal.τ).loc Cert.Reference3Ideal.main_arg17)) (m ((c.tc : Thread Cert.Reference3Ideal.nD Cert.Reference3Ideal.τ).loc Cert.Reference3Ideal.main_arg18)) (m ((c.tc : Thread Cert.Reference3Ideal.nD Cert.Reference3Ideal.τ).loc Cert.Reference3Ideal.main_arg19)) (m ((c.tc : Thread Cert.Reference3Ideal.nD Cert.Reference3Ideal.τ).loc Cert.Reference3Ideal.main_arg20))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_hgrn [hPre_finite_hgrn : Cert.Pre_finite_hgrn.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_hgrn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_hgrn [hPre_finite_hgrn : Cert.Pre_finite_hgrn.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_hgrn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Reference9 (m : (ℓ : Loc Cert.Reference9.nD Cert.Reference9.τ Cert.Reference9.sig) → Buf (Elt Bits) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Reference10 (m : (ℓ : Loc Cert.Reference10.nD Cert.Reference10.τ Cert.Reference10.sig) → Buf (Elt Bits) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Reference11 (m : (ℓ : Loc Cert.Reference11.nD Cert.Reference11.τ Cert.Reference11.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17)
      ∧ r.2.mem ((c.tc : Thread Cert.Kernel3.nD Cert.Kernel3.τ).loc Cert.Kernel3.main_arg18) = m ((c.tc : Thread Cert.Kernel3.nD Cert.Kernel3.τ).loc Cert.Kernel3.main_arg18)
      ∧ r.2.mem ((c.tc : Thread Cert.Kernel3.nD Cert.Kernel3.τ).loc Cert.Kernel3.main_arg19) = m ((c.tc : Thread Cert.Kernel3.nD Cert.Kernel3.τ).loc Cert.Kernel3.main_arg19)
      ∧ r.2.mem ((c.tc : Thread Cert.Kernel3.nD Cert.Kernel3.τ).loc Cert.Kernel3.main_arg20) = m ((c.tc : Thread Cert.Kernel3.nD Cert.Kernel3.τ).loc Cert.Kernel3.main_arg20))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
      ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
      ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20))
      ∧ r.2.sem = fun _ => 0)

def quiescent_Kernel3Ideal_pre_finite_lb [hKernel3Ideal : Cert.Kernel3Ideal.Facts] [hPre_finite_lb : Cert.Pre_finite_lb.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_lb m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
      ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
      ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18)
      ∧ r.2.mem ((c.tc : Thread Cert.Reference3Ideal.nD Cert.Reference3Ideal.τ).loc Cert.Reference3Ideal.main_arg19) = m ((c.tc : Thread Cert.Reference3Ideal.nD Cert.Reference3Ideal.τ).loc Cert.Reference3Ideal.main_arg19)
      ∧ r.2.mem ((c.tc : Thread Cert.Reference3Ideal.nD Cert.Reference3Ideal.τ).loc Cert.Reference3Ideal.main_arg20) = m ((c.tc : Thread Cert.Reference3Ideal.nD Cert.Reference3Ideal.τ).loc Cert.Reference3Ideal.main_arg20))
      ∧ r.2.sem = fun _ => 0)

def quiescent_Reference3Ideal_pre_finite_lb [hReference3Ideal : Cert.Reference3Ideal.Facts] [hPre_finite_lb : Cert.Pre_finite_lb.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_lb m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18)
      ∧ r.2.mem ((c.tc : Thread Cert.Reference3Ideal.nD Cert.Reference3Ideal.τ).loc Cert.Reference3Ideal.main_arg19) = m ((c.tc : Thread Cert.Reference3Ideal.nD Cert.Reference3Ideal.τ).loc Cert.Reference3Ideal.main_arg19)
      ∧ r.2.mem ((c.tc : Thread Cert.Reference3Ideal.nD Cert.Reference3Ideal.τ).loc Cert.Reference3Ideal.main_arg20) = m ((c.tc : Thread Cert.Reference3Ideal.nD Cert.Reference3Ideal.τ).loc Cert.Reference3Ideal.main_arg20))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite_hgrn [hKernel4Ideal : Cert.Kernel4Ideal.Facts] [hPre_finite_hgrn : Cert.Pre_finite_hgrn.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_hgrn m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite_hgrn [hReference4Ideal : Cert.Reference4Ideal.Facts] [hPre_finite_hgrn : Cert.Pre_finite_hgrn.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_hgrn m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Reference9 [hReference9 : Cert.Reference9.Facts] : Prop :=
  ∀ (m : (ℓ : Loc Cert.Reference9.nD Cert.Reference9.τ Cert.Reference9.sig) → Buf (Elt Bits) ℓ) (g : Dev Cert.Reference9.nD → PrngReg), Pre_Reference9 m →
    θ_run (Cert.Reference9.defs (F := Bits)) (onTc (τ := Cert.Reference9.τ) (Cert.Reference9.main (F := Bits))) ⟨m, fun _ => 0, g⟩ (fun r => (∀ c : Dev Cert.Reference9.nD,
      r.2.mem ((c.tc : Thread Cert.Reference9.nD Cert.Reference9.τ).loc Cert.Reference9.main_arg0) = m ((c.tc : Thread Cert.Reference9.nD Cert.Reference9.τ).loc Cert.Reference9.main_arg0))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def quiescent_Reference10 [hReference10 : Cert.Reference10.Facts] : Prop :=
  ∀ (m : (ℓ : Loc Cert.Reference10.nD Cert.Reference10.τ Cert.Reference10.sig) → Buf (Elt Bits) ℓ) (g : Dev Cert.Reference10.nD → PrngReg), Pre_Reference10 m →
    θ_run (Cert.Reference10.defs (F := Bits)) (onTc (τ := Cert.Reference10.τ) (Cert.Reference10.main (F := Bits))) ⟨m, fun _ => 0, g⟩ (fun r => (∀ c : Dev Cert.Reference10.nD,
      r.2.mem ((c.tc : Thread Cert.Reference10.nD Cert.Reference10.τ).loc Cert.Reference10.main_arg0) = m ((c.tc : Thread Cert.Reference10.nD Cert.Reference10.τ).loc Cert.Reference10.main_arg0))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11 [hReference11 : Cert.Reference11.Facts] : Prop :=
  ∀ (m : (ℓ : Loc Cert.Reference11.nD Cert.Reference11.τ Cert.Reference11.sig) → Buf (Elt Bits) ℓ) (g : Dev Cert.Reference11.nD → PrngReg), Pre_Reference11 m →
    θ_run (Cert.Reference11.defs (F := Bits)) (onTc (τ := Cert.Reference11.τ) (Cert.Reference11.main (F := Bits))) ⟨m, fun _ => 0, g⟩ (fun r => (∀ c : Dev Cert.Reference11.nD,
      r.2.mem ((c.tc : Thread Cert.Reference11.nD Cert.Reference11.τ).loc Cert.Reference11.main_arg0) = m ((c.tc : Thread Cert.Reference11.nD Cert.Reference11.τ).loc Cert.Reference11.main_arg0)
      ∧ r.2.mem ((c.tc : Thread Cert.Reference11.nD Cert.Reference11.τ).loc Cert.Reference11.main_arg1) = m ((c.tc : Thread Cert.Reference11.nD Cert.Reference11.τ).loc Cert.Reference11.main_arg1)
      ∧ r.2.mem ((c.tc : Thread Cert.Reference11.nD Cert.Reference11.τ).loc Cert.Reference11.main_arg2) = m ((c.tc : Thread Cert.Reference11.nD Cert.Reference11.τ).loc Cert.Reference11.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v165) = v1 c
          ∧ r.2.mem ((c.tc : Thread Cert.ReferenceIdeal.nD Cert.ReferenceIdeal.τ).loc Cert.ReferenceIdeal.main_v162) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_2)) (v2 : (c : Dev Cert.Kernel2Ideal.nD) → Buf (Elt Ideal) ((c.tc : Thread Cert.Kernel2Ideal.nD Cert.Kernel2Ideal.τ).loc Cert.Kernel2Ideal.main_v11_5)) (v3 : (c : Dev Cert.Kernel2Ideal.nD) → Buf (Elt Ideal) ((c.tc : Thread Cert.Kernel2Ideal.nD Cert.Kernel2Ideal.τ).loc Cert.Kernel2Ideal.main_v11_6)) (v4 : (c : Dev Cert.Kernel2Ideal.nD) → Buf (Elt Ideal) ((c.tc : Thread Cert.Kernel2Ideal.nD Cert.Kernel2Ideal.τ).loc Cert.Kernel2Ideal.main_v11_7)) (v5 : (c : Dev Cert.Kernel2Ideal.nD) → Buf (Elt Ideal) ((c.tc : Thread Cert.Kernel2Ideal.nD Cert.Kernel2Ideal.τ).loc Cert.Kernel2Ideal.main_v21_0)) (v6 : (c : Dev Cert.Kernel2Ideal.nD) → Buf (Elt Ideal) ((c.tc : Thread Cert.Kernel2Ideal.nD Cert.Kernel2Ideal.τ).loc Cert.Kernel2Ideal.main_v21_1)) (v7 : (c : Dev Cert.Kernel2Ideal.nD) → Buf (Elt Ideal) ((c.tc : Thread Cert.Kernel2Ideal.nD Cert.Kernel2Ideal.τ).loc Cert.Kernel2Ideal.main_v21_2)) (v8 : (c : Dev Cert.Kernel2Ideal.nD) → Buf (Elt Ideal) ((c.tc : Thread Cert.Kernel2Ideal.nD Cert.Kernel2Ideal.τ).loc Cert.Kernel2Ideal.main_v21_3)) (v9 : (c : Dev Cert.Kernel2Ideal.nD) → Buf (Elt Ideal) ((c.tc : Thread Cert.Kernel2Ideal.nD Cert.Kernel2Ideal.τ).loc Cert.Kernel2Ideal.main_v21_4)) (v10 : (c : Dev Cert.Kernel2Ideal.nD) → Buf (Elt Ideal) ((c.tc : Thread Cert.Kernel2Ideal.nD Cert.Kernel2Ideal.τ).loc Cert.Kernel2Ideal.main_v21_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_2) = v1 c
          ∧ r.2.mem ((c.tc : Thread Cert.Kernel2Ideal.nD Cert.Kernel2Ideal.τ).loc Cert.Kernel2Ideal.main_v11_5) = v2 c
          ∧ r.2.mem ((c.tc : Thread Cert.Kernel2Ideal.nD Cert.Kernel2Ideal.τ).loc Cert.Kernel2Ideal.main_v11_6) = v3 c
          ∧ r.2.mem ((c.tc : Thread Cert.Kernel2Ideal.nD Cert.Kernel2Ideal.τ).loc Cert.Kernel2Ideal.main_v11_7) = v4 c
          ∧ r.2.mem ((c.tc : Thread Cert.Kernel2Ideal.nD Cert.Kernel2Ideal.τ).loc Cert.Kernel2Ideal.main_v21_0) = v5 c
          ∧ r.2.mem ((c.tc : Thread Cert.Kernel2Ideal.nD Cert.Kernel2Ideal.τ).loc Cert.Kernel2Ideal.main_v21_1) = v6 c
          ∧ r.2.mem ((c.tc : Thread Cert.Kernel2Ideal.nD Cert.Kernel2Ideal.τ).loc Cert.Kernel2Ideal.main_v21_2) = v7 c
          ∧ r.2.mem ((c.tc : Thread Cert.Kernel2Ideal.nD Cert.Kernel2Ideal.τ).loc Cert.Kernel2Ideal.main_v21_3) = v8 c
          ∧ r.2.mem ((c.tc : Thread Cert.Kernel2Ideal.nD Cert.Kernel2Ideal.τ).loc Cert.Kernel2Ideal.main_v21_4) = v9 c
          ∧ r.2.mem ((c.tc : Thread Cert.Kernel2Ideal.nD Cert.Kernel2Ideal.τ).loc Cert.Kernel2Ideal.main_v21_5) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v126) = v0 c
          ∧ r.2.mem ((c.tc : Thread Cert.Reference2Ideal.nD Cert.Reference2Ideal.τ).loc Cert.Reference2Ideal.main_v128) = v1 c
          ∧ r.2.mem ((c.tc : Thread Cert.Reference2Ideal.nD Cert.Reference2Ideal.τ).loc Cert.Reference2Ideal.main_v130) = v2 c
          ∧ r.2.mem ((c.tc : Thread Cert.Reference2Ideal.nD Cert.Reference2Ideal.τ).loc Cert.Reference2Ideal.main_v131) = v3 c
          ∧ r.2.mem ((c.tc : Thread Cert.Reference2Ideal.nD Cert.Reference2Ideal.τ).loc Cert.Reference2Ideal.main_v140) = v4 c
          ∧ r.2.mem ((c.tc : Thread Cert.Reference2Ideal.nD Cert.Reference2Ideal.τ).loc Cert.Reference2Ideal.main_v142) = v5 c
          ∧ r.2.mem ((c.tc : Thread Cert.Reference2Ideal.nD Cert.Reference2Ideal.τ).loc Cert.Reference2Ideal.main_v143) = v6 c
          ∧ r.2.mem ((c.tc : Thread Cert.Reference2Ideal.nD Cert.Reference2Ideal.τ).loc Cert.Reference2Ideal.main_v144) = v7 c
          ∧ r.2.mem ((c.tc : Thread Cert.Reference2Ideal.nD Cert.Reference2Ideal.τ).loc Cert.Reference2Ideal.main_v145) = v8 c
          ∧ r.2.mem ((c.tc : Thread Cert.Reference2Ideal.nD Cert.Reference2Ideal.τ).loc Cert.Reference2Ideal.main_v124) = v9 c
          ∧ r.2.mem ((c.tc : Thread Cert.Reference2Ideal.nD Cert.Reference2Ideal.τ).loc Cert.Reference2Ideal.main_v147) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal_pre_finite_lb [hKernel3Ideal : Cert.Kernel3Ideal.Facts] [hReference3Ideal : Cert.Reference3Ideal.Facts] [hPre_finite_lb : Cert.Pre_finite_lb.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_lb m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)
      ∧ m' ((c.tc : Thread Cert.Reference3Ideal.nD Cert.Reference3Ideal.τ).loc Cert.Reference3Ideal.main_arg18) = m ((c.tc : Thread Cert.Kernel3Ideal.nD Cert.Kernel3Ideal.τ).loc Cert.Kernel3Ideal.main_arg18)
      ∧ m' ((c.tc : Thread Cert.Reference3Ideal.nD Cert.Reference3Ideal.τ).loc Cert.Reference3Ideal.main_arg19) = m ((c.tc : Thread Cert.Kernel3Ideal.nD Cert.Kernel3Ideal.τ).loc Cert.Kernel3Ideal.main_arg19)
      ∧ m' ((c.tc : Thread Cert.Reference3Ideal.nD Cert.Reference3Ideal.τ).loc Cert.Reference3Ideal.main_arg20) = m ((c.tc : Thread Cert.Kernel3Ideal.nD Cert.Kernel3Ideal.τ).loc Cert.Kernel3Ideal.main_arg20)) →
    ∃ (v0 : (c : Dev Cert.Kernel3Ideal.nD) → Buf (Elt Ideal) ((c.tc : Thread Cert.Kernel3Ideal.nD Cert.Kernel3Ideal.τ).loc Cert.Kernel3Ideal.main_v31)) (v1 : (c : Dev Cert.Kernel3Ideal.nD) → Buf (Elt Ideal) ((c.tc : Thread Cert.Kernel3Ideal.nD Cert.Kernel3Ideal.τ).loc Cert.Kernel3Ideal.main_v32)) (v2 : (c : Dev Cert.Kernel3Ideal.nD) → Buf (Elt Ideal) ((c.tc : Thread Cert.Kernel3Ideal.nD Cert.Kernel3Ideal.τ).loc Cert.Kernel3Ideal.main_v35)) (v3 : (c : Dev Cert.Kernel3Ideal.nD) → Buf (Elt Ideal) ((c.tc : Thread Cert.Kernel3Ideal.nD Cert.Kernel3Ideal.τ).loc Cert.Kernel3Ideal.main_v36)) (v4 : (c : Dev Cert.Kernel3Ideal.nD) → Buf (Elt Ideal) ((c.tc : Thread Cert.Kernel3Ideal.nD Cert.Kernel3Ideal.τ).loc Cert.Kernel3Ideal.main_v37)) (v5 : (c : Dev Cert.Kernel3Ideal.nD) → Buf (Elt Ideal) ((c.tc : Thread Cert.Kernel3Ideal.nD Cert.Kernel3Ideal.τ).loc Cert.Kernel3Ideal.main_v39)) (v6 : (c : Dev Cert.Kernel3Ideal.nD) → Buf (Elt Ideal) ((c.tc : Thread Cert.Kernel3Ideal.nD Cert.Kernel3Ideal.τ).loc Cert.Kernel3Ideal.main_v40)) (v7 : (c : Dev Cert.Kernel3Ideal.nD) → Buf (Elt Ideal) ((c.tc : Thread Cert.Kernel3Ideal.nD Cert.Kernel3Ideal.τ).loc Cert.Kernel3Ideal.main_v43)) (v8 : (c : Dev Cert.Kernel3Ideal.nD) → Buf (Elt Ideal) ((c.tc : Thread Cert.Kernel3Ideal.nD Cert.Kernel3Ideal.τ).loc Cert.Kernel3Ideal.main_v44)) (v9 : (c : Dev Cert.Kernel3Ideal.nD) → Buf (Elt Ideal) ((c.tc : Thread Cert.Kernel3Ideal.nD Cert.Kernel3Ideal.τ).loc Cert.Kernel3Ideal.main_v45)) (v10 : (c : Dev Cert.Kernel3Ideal.nD) → Buf (Elt Ideal) ((c.tc : Thread Cert.Kernel3Ideal.nD Cert.Kernel3Ideal.τ).loc Cert.Kernel3Ideal.main_v47)) (v11 : (c : Dev Cert.Kernel3Ideal.nD) → Buf (Elt Ideal) ((c.tc : Thread Cert.Kernel3Ideal.nD Cert.Kernel3Ideal.τ).loc Cert.Kernel3Ideal.main_v48)) (v12 : (c : Dev Cert.Kernel3Ideal.nD) → Buf (Elt Ideal) ((c.tc : Thread Cert.Kernel3Ideal.nD Cert.Kernel3Ideal.τ).loc Cert.Kernel3Ideal.main_v51)) (v13 : (c : Dev Cert.Kernel3Ideal.nD) → Buf (Elt Ideal) ((c.tc : Thread Cert.Kernel3Ideal.nD Cert.Kernel3Ideal.τ).loc Cert.Kernel3Ideal.main_v52)) (v14 : (c : Dev Cert.Kernel3Ideal.nD) → Buf (Elt Ideal) ((c.tc : Thread Cert.Kernel3Ideal.nD Cert.Kernel3Ideal.τ).loc Cert.Kernel3Ideal.main_v53)) (v15 : (c : Dev Cert.Kernel3Ideal.nD) → Buf (Elt Ideal) ((c.tc : Thread Cert.Kernel3Ideal.nD Cert.Kernel3Ideal.τ).loc Cert.Kernel3Ideal.main_v55)) (v16 : (c : Dev Cert.Kernel3Ideal.nD) → Buf (Elt Ideal) ((c.tc : Thread Cert.Kernel3Ideal.nD Cert.Kernel3Ideal.τ).loc Cert.Kernel3Ideal.main_v56)) (v17 : (c : Dev Cert.Kernel3Ideal.nD) → Buf (Elt Ideal) ((c.tc : Thread Cert.Kernel3Ideal.nD Cert.Kernel3Ideal.τ).loc Cert.Kernel3Ideal.main_v59)) (v18 : (c : Dev Cert.Kernel3Ideal.nD) → Buf (Elt Ideal) ((c.tc : Thread Cert.Kernel3Ideal.nD Cert.Kernel3Ideal.τ).loc Cert.Kernel3Ideal.main_v60)) (v19 : (c : Dev Cert.Kernel3Ideal.nD) → Buf (Elt Ideal) ((c.tc : Thread Cert.Kernel3Ideal.nD Cert.Kernel3Ideal.τ).loc Cert.Kernel3Ideal.main_v61)) (v20 : (c : Dev Cert.Kernel3Ideal.nD) → Buf (Elt Ideal) ((c.tc : Thread Cert.Kernel3Ideal.nD Cert.Kernel3Ideal.τ).loc Cert.Kernel3Ideal.main_v63)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v31) = v0 c
          ∧ r.2.mem ((c.tc : Thread Cert.Kernel3Ideal.nD Cert.Kernel3Ideal.τ).loc Cert.Kernel3Ideal.main_v32) = v1 c
          ∧ r.2.mem ((c.tc : Thread Cert.Kernel3Ideal.nD Cert.Kernel3Ideal.τ).loc Cert.Kernel3Ideal.main_v35) = v2 c
          ∧ r.2.mem ((c.tc : Thread Cert.Kernel3Ideal.nD Cert.Kernel3Ideal.τ).loc Cert.Kernel3Ideal.main_v36) = v3 c
          ∧ r.2.mem ((c.tc : Thread Cert.Kernel3Ideal.nD Cert.Kernel3Ideal.τ).loc Cert.Kernel3Ideal.main_v37) = v4 c
          ∧ r.2.mem ((c.tc : Thread Cert.Kernel3Ideal.nD Cert.Kernel3Ideal.τ).loc Cert.Kernel3Ideal.main_v39) = v5 c
          ∧ r.2.mem ((c.tc : Thread Cert.Kernel3Ideal.nD Cert.Kernel3Ideal.τ).loc Cert.Kernel3Ideal.main_v40) = v6 c
          ∧ r.2.mem ((c.tc : Thread Cert.Kernel3Ideal.nD Cert.Kernel3Ideal.τ).loc Cert.Kernel3Ideal.main_v43) = v7 c
          ∧ r.2.mem ((c.tc : Thread Cert.Kernel3Ideal.nD Cert.Kernel3Ideal.τ).loc Cert.Kernel3Ideal.main_v44) = v8 c
          ∧ r.2.mem ((c.tc : Thread Cert.Kernel3Ideal.nD Cert.Kernel3Ideal.τ).loc Cert.Kernel3Ideal.main_v45) = v9 c
          ∧ r.2.mem ((c.tc : Thread Cert.Kernel3Ideal.nD Cert.Kernel3Ideal.τ).loc Cert.Kernel3Ideal.main_v47) = v10 c
          ∧ r.2.mem ((c.tc : Thread Cert.Kernel3Ideal.nD Cert.Kernel3Ideal.τ).loc Cert.Kernel3Ideal.main_v48) = v11 c
          ∧ r.2.mem ((c.tc : Thread Cert.Kernel3Ideal.nD Cert.Kernel3Ideal.τ).loc Cert.Kernel3Ideal.main_v51) = v12 c
          ∧ r.2.mem ((c.tc : Thread Cert.Kernel3Ideal.nD Cert.Kernel3Ideal.τ).loc Cert.Kernel3Ideal.main_v52) = v13 c
          ∧ r.2.mem ((c.tc : Thread Cert.Kernel3Ideal.nD Cert.Kernel3Ideal.τ).loc Cert.Kernel3Ideal.main_v53) = v14 c
          ∧ r.2.mem ((c.tc : Thread Cert.Kernel3Ideal.nD Cert.Kernel3Ideal.τ).loc Cert.Kernel3Ideal.main_v55) = v15 c
          ∧ r.2.mem ((c.tc : Thread Cert.Kernel3Ideal.nD Cert.Kernel3Ideal.τ).loc Cert.Kernel3Ideal.main_v56) = v16 c
          ∧ r.2.mem ((c.tc : Thread Cert.Kernel3Ideal.nD Cert.Kernel3Ideal.τ).loc Cert.Kernel3Ideal.main_v59) = v17 c
          ∧ r.2.mem ((c.tc : Thread Cert.Kernel3Ideal.nD Cert.Kernel3Ideal.τ).loc Cert.Kernel3Ideal.main_v60) = v18 c
          ∧ r.2.mem ((c.tc : Thread Cert.Kernel3Ideal.nD Cert.Kernel3Ideal.τ).loc Cert.Kernel3Ideal.main_v61) = v19 c
          ∧ r.2.mem ((c.tc : Thread Cert.Kernel3Ideal.nD Cert.Kernel3Ideal.τ).loc Cert.Kernel3Ideal.main_v63) = v20 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
          ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
          ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
          ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v174) = v0 c
          ∧ r.2.mem ((c.tc : Thread Cert.Reference3Ideal.nD Cert.Reference3Ideal.τ).loc Cert.Reference3Ideal.main_v48) = v1 c
          ∧ r.2.mem ((c.tc : Thread Cert.Reference3Ideal.nD Cert.Reference3Ideal.τ).loc Cert.Reference3Ideal.main_v46) = v2 c
          ∧ r.2.mem ((c.tc : Thread Cert.Reference3Ideal.nD Cert.Reference3Ideal.τ).loc Cert.Reference3Ideal.main_v50) = v3 c
          ∧ r.2.mem ((c.tc : Thread Cert.Reference3Ideal.nD Cert.Reference3Ideal.τ).loc Cert.Reference3Ideal.main_v52) = v4 c
          ∧ r.2.mem ((c.tc : Thread Cert.Reference3Ideal.nD Cert.Reference3Ideal.τ).loc Cert.Reference3Ideal.main_v53) = v5 c
          ∧ r.2.mem ((c.tc : Thread Cert.Reference3Ideal.nD Cert.Reference3Ideal.τ).loc Cert.Reference3Ideal.main_v77) = v6 c
          ∧ r.2.mem ((c.tc : Thread Cert.Reference3Ideal.nD Cert.Reference3Ideal.τ).loc Cert.Reference3Ideal.main_v101) = v7 c
          ∧ r.2.mem ((c.tc : Thread Cert.Reference3Ideal.nD Cert.Reference3Ideal.τ).loc Cert.Reference3Ideal.main_v125) = v8 c
          ∧ r.2.mem ((c.tc : Thread Cert.Reference3Ideal.nD Cert.Reference3Ideal.τ).loc Cert.Reference3Ideal.main_v149) = v9 c
          ∧ r.2.mem ((c.tc : Thread Cert.Reference3Ideal.nD Cert.Reference3Ideal.τ).loc Cert.Reference3Ideal.main_v173) = v10 c
          ∧ r.2.mem ((c.tc : Thread Cert.Reference3Ideal.nD Cert.Reference3Ideal.τ).loc Cert.Reference3Ideal.main_v58) = v11 c
          ∧ r.2.mem ((c.tc : Thread Cert.Reference3Ideal.nD Cert.Reference3Ideal.τ).loc Cert.Reference3Ideal.main_v82) = v12 c
          ∧ r.2.mem ((c.tc : Thread Cert.Reference3Ideal.nD Cert.Reference3Ideal.τ).loc Cert.Reference3Ideal.main_v106) = v13 c
          ∧ r.2.mem ((c.tc : Thread Cert.Reference3Ideal.nD Cert.Reference3Ideal.τ).loc Cert.Reference3Ideal.main_v130) = v14 c
          ∧ r.2.mem ((c.tc : Thread Cert.Reference3Ideal.nD Cert.Reference3Ideal.τ).loc Cert.Reference3Ideal.main_v154) = v15 c
          ∧ r.2.mem ((c.tc : Thread Cert.Reference3Ideal.nD Cert.Reference3Ideal.τ).loc Cert.Reference3Ideal.main_v64) = v16 c
          ∧ r.2.mem ((c.tc : Thread Cert.Reference3Ideal.nD Cert.Reference3Ideal.τ).loc Cert.Reference3Ideal.main_v88) = v17 c
          ∧ r.2.mem ((c.tc : Thread Cert.Reference3Ideal.nD Cert.Reference3Ideal.τ).loc Cert.Reference3Ideal.main_v112) = v18 c
          ∧ r.2.mem ((c.tc : Thread Cert.Reference3Ideal.nD Cert.Reference3Ideal.τ).loc Cert.Reference3Ideal.main_v136) = v19 c
          ∧ r.2.mem ((c.tc : Thread Cert.Reference3Ideal.nD Cert.Reference3Ideal.τ).loc Cert.Reference3Ideal.main_v160) = v20 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17)
          ∧ r.2.mem ((c.tc : Thread Cert.Reference3Ideal.nD Cert.Reference3Ideal.τ).loc Cert.Reference3Ideal.main_arg18) = m' ((c.tc : Thread Cert.Reference3Ideal.nD Cert.Reference3Ideal.τ).loc Cert.Reference3Ideal.main_arg18)
          ∧ r.2.mem ((c.tc : Thread Cert.Reference3Ideal.nD Cert.Reference3Ideal.τ).loc Cert.Reference3Ideal.main_arg19) = m' ((c.tc : Thread Cert.Reference3Ideal.nD Cert.Reference3Ideal.τ).loc Cert.Reference3Ideal.main_arg19)
          ∧ r.2.mem ((c.tc : Thread Cert.Reference3Ideal.nD Cert.Reference3Ideal.τ).loc Cert.Reference3Ideal.main_arg20) = m' ((c.tc : Thread Cert.Reference3Ideal.nD Cert.Reference3Ideal.τ).loc Cert.Reference3Ideal.main_arg20))

def preserves_Kernel4_Kernel4Ideal : Prop :=
  True

def algebraic_Kernel4Ideal_Reference4Ideal_pre_finite_hgrn [hKernel4Ideal : Cert.Kernel4Ideal.Facts] [hReference4Ideal : Cert.Reference4Ideal.Facts] [hPre_finite_hgrn : Cert.Pre_finite_hgrn.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_hgrn m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_v57) = v1 c
          ∧ r.2.mem ((c.tc : Thread Cert.Reference4Ideal.nD Cert.Reference4Ideal.τ).loc Cert.Reference4Ideal.main_v59) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v27_0)) (v1 : (c : Dev Cert.Kernel6Ideal.nD) → Buf (Elt Ideal) ((c.tc : Thread Cert.Kernel6Ideal.nD Cert.Kernel6Ideal.τ).loc Cert.Kernel6Ideal.main_v27_1)) (v2 : (c : Dev Cert.Kernel6Ideal.nD) → Buf (Elt Ideal) ((c.tc : Thread Cert.Kernel6Ideal.nD Cert.Kernel6Ideal.τ).loc Cert.Kernel6Ideal.main_v27_2)) (v3 : (c : Dev Cert.Kernel6Ideal.nD) → Buf (Elt Ideal) ((c.tc : Thread Cert.Kernel6Ideal.nD Cert.Kernel6Ideal.τ).loc Cert.Kernel6Ideal.main_v27_3)) (v4 : (c : Dev Cert.Kernel6Ideal.nD) → Buf (Elt Ideal) ((c.tc : Thread Cert.Kernel6Ideal.nD Cert.Kernel6Ideal.τ).loc Cert.Kernel6Ideal.main_v27_4)) (v5 : (c : Dev Cert.Kernel6Ideal.nD) → Buf (Elt Ideal) ((c.tc : Thread Cert.Kernel6Ideal.nD Cert.Kernel6Ideal.τ).loc Cert.Kernel6Ideal.main_v27_5)) (v6 : (c : Dev Cert.Kernel6Ideal.nD) → Buf (Elt Ideal) ((c.tc : Thread Cert.Kernel6Ideal.nD Cert.Kernel6Ideal.τ).loc Cert.Kernel6Ideal.main_v27_6)) (v7 : (c : Dev Cert.Kernel6Ideal.nD) → Buf (Elt Ideal) ((c.tc : Thread Cert.Kernel6Ideal.nD Cert.Kernel6Ideal.τ).loc Cert.Kernel6Ideal.main_v27_7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v27_0) = v0 c
          ∧ r.2.mem ((c.tc : Thread Cert.Kernel6Ideal.nD Cert.Kernel6Ideal.τ).loc Cert.Kernel6Ideal.main_v27_1) = v1 c
          ∧ r.2.mem ((c.tc : Thread Cert.Kernel6Ideal.nD Cert.Kernel6Ideal.τ).loc Cert.Kernel6Ideal.main_v27_2) = v2 c
          ∧ r.2.mem ((c.tc : Thread Cert.Kernel6Ideal.nD Cert.Kernel6Ideal.τ).loc Cert.Kernel6Ideal.main_v27_3) = v3 c
          ∧ r.2.mem ((c.tc : Thread Cert.Kernel6Ideal.nD Cert.Kernel6Ideal.τ).loc Cert.Kernel6Ideal.main_v27_4) = v4 c
          ∧ r.2.mem ((c.tc : Thread Cert.Kernel6Ideal.nD Cert.Kernel6Ideal.τ).loc Cert.Kernel6Ideal.main_v27_5) = v5 c
          ∧ r.2.mem ((c.tc : Thread Cert.Kernel6Ideal.nD Cert.Kernel6Ideal.τ).loc Cert.Kernel6Ideal.main_v27_6) = v6 c
          ∧ r.2.mem ((c.tc : Thread Cert.Kernel6Ideal.nD Cert.Kernel6Ideal.τ).loc Cert.Kernel6Ideal.main_v27_7) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v79) = v0 c
          ∧ r.2.mem ((c.tc : Thread Cert.Reference6Ideal.nD Cert.Reference6Ideal.τ).loc Cert.Reference6Ideal.main_v80) = v1 c
          ∧ r.2.mem ((c.tc : Thread Cert.Reference6Ideal.nD Cert.Reference6Ideal.τ).loc Cert.Reference6Ideal.main_v81) = v2 c
          ∧ r.2.mem ((c.tc : Thread Cert.Reference6Ideal.nD Cert.Reference6Ideal.τ).loc Cert.Reference6Ideal.main_v83) = v3 c
          ∧ r.2.mem ((c.tc : Thread Cert.Reference6Ideal.nD Cert.Reference6Ideal.τ).loc Cert.Reference6Ideal.main_v85) = v4 c
          ∧ r.2.mem ((c.tc : Thread Cert.Reference6Ideal.nD Cert.Reference6Ideal.τ).loc Cert.Reference6Ideal.main_v88) = v5 c
          ∧ r.2.mem ((c.tc : Thread Cert.Reference6Ideal.nD Cert.Reference6Ideal.τ).loc Cert.Reference6Ideal.main_v91) = v6 c
          ∧ r.2.mem ((c.tc : Thread Cert.Reference6Ideal.nD Cert.Reference6Ideal.τ).loc Cert.Reference6Ideal.main_v94) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)) (v3 : (c : Dev Cert.Kernel7Ideal.nD) → Buf (Elt Ideal) ((c.tc : Thread Cert.Kernel7Ideal.nD Cert.Kernel7Ideal.τ).loc Cert.Kernel7Ideal.main_v1_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_v1_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_v24) = v1 c
          ∧ r.2.mem ((c.tc : Thread Cert.Reference7Ideal.nD Cert.Reference7Ideal.τ).loc Cert.Reference7Ideal.main_v5) = v2 c
          ∧ r.2.mem ((c.tc : Thread Cert.Reference7Ideal.nD Cert.Reference7Ideal.τ).loc Cert.Reference7Ideal.main_v11) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m ((c.tc : Thread Cert.Kernel9Ideal.nD Cert.Kernel9Ideal.τ).loc Cert.Kernel9Ideal.main_arg0) = Layout.block ⟨2, ![512, 896]⟩ ⟨2, ![1024, 896]⟩ 0 2 c (m' (((0 : Dev Cert.Reference9Ideal.nD).tc : Thread Cert.Reference9Ideal.nD Cert.Reference9Ideal.τ).loc Cert.Reference9Ideal.main_arg0))) →
    ∃ (v0 : Buf (Elt Ideal) (((0 : Dev Cert.Reference9Ideal.nD).tc : Thread Cert.Reference9Ideal.nD Cert.Reference9Ideal.τ).loc Cert.Reference9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = Layout.block ⟨2, ![512, 896]⟩ ⟨2, ![1024, 896]⟩ 0 2 c v0
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r =>
          r.2.mem (((0 : Dev Cert.Reference9Ideal.nD).tc : Thread Cert.Reference9Ideal.nD Cert.Reference9Ideal.τ).loc Cert.Reference9Ideal.main_v2) = v0
          ∧ r.2.mem (((0 : Dev Cert.Reference9Ideal.nD).tc : Thread Cert.Reference9Ideal.nD Cert.Reference9Ideal.τ).loc Cert.Reference9Ideal.main_arg0) = m' (((0 : Dev Cert.Reference9Ideal.nD).tc : Thread Cert.Reference9Ideal.nD Cert.Reference9Ideal.τ).loc Cert.Reference9Ideal.main_arg0))

def bitexact_Kernel9_Reference9 [hKernel9 : Cert.Kernel9.Facts] [hReference9 : Cert.Reference9.Facts] : Prop :=
  ∀ (m : (ℓ : Loc Cert.Kernel9.nD Cert.Kernel9.τ Cert.Kernel9.sig) → Buf (Elt Bits) ℓ) (g : Dev Cert.Kernel9.nD → PrngReg)
    (m' : (ℓ : Loc Cert.Reference9.nD Cert.Reference9.τ Cert.Reference9.sig) → Buf (Elt Bits) ℓ) (g' : Dev Cert.Reference9.nD → PrngReg), Pre_Kernel9 m →
    (∀ c : Dev Cert.Kernel9.nD,
      m ((c.tc : Thread Cert.Kernel9.nD Cert.Kernel9.τ).loc Cert.Kernel9.main_arg0) = Layout.block ⟨2, ![512, 896]⟩ ⟨2, ![1024, 896]⟩ 0 2 c (m' (((0 : Dev Cert.Reference9.nD).tc : Thread Cert.Reference9.nD Cert.Reference9.τ).loc Cert.Reference9.main_arg0))) →
    ∃ (v0 : Buf (Elt Bits) (((0 : Dev Cert.Reference9.nD).tc : Thread Cert.Reference9.nD Cert.Reference9.τ).loc Cert.Reference9.main_v2)),
      θ_run (Cert.Kernel9.defs (F := Bits)) (onTc (τ := Cert.Kernel9.τ) (Cert.Kernel9.main (F := Bits))) ⟨m, fun _ => 0, g⟩ (fun r => ∀ c : Dev Cert.Kernel9.nD,
          r.2.mem ((c.tc : Thread Cert.Kernel9.nD Cert.Kernel9.τ).loc Cert.Kernel9.main_v1) = Layout.block ⟨2, ![512, 896]⟩ ⟨2, ![1024, 896]⟩ 0 2 c v0
          ∧ r.2.mem ((c.tc : Thread Cert.Kernel9.nD Cert.Kernel9.τ).loc Cert.Kernel9.main_arg0) = m ((c.tc : Thread Cert.Kernel9.nD Cert.Kernel9.τ).loc Cert.Kernel9.main_arg0))
      ∧ θ_run (Cert.Reference9.defs (F := Bits)) (onTc (τ := Cert.Reference9.τ) (Cert.Reference9.main (F := Bits))) ⟨m', fun _ => 0, g'⟩ (fun r =>
          r.2.mem (((0 : Dev Cert.Reference9.nD).tc : Thread Cert.Reference9.nD Cert.Reference9.τ).loc Cert.Reference9.main_v2) = v0
          ∧ r.2.mem (((0 : Dev Cert.Reference9.nD).tc : Thread Cert.Reference9.nD Cert.Reference9.τ).loc Cert.Reference9.main_arg0) = m' (((0 : Dev Cert.Reference9.nD).tc : Thread Cert.Reference9.nD Cert.Reference9.τ).loc Cert.Reference9.main_arg0))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m ((c.tc : Thread Cert.Kernel10Ideal.nD Cert.Kernel10Ideal.τ).loc Cert.Kernel10Ideal.main_arg0) = Layout.block ⟨4, ![4, 2, 512, 896]⟩ ⟨4, ![8, 2, 512, 896]⟩ 0 2 c (m' (((0 : Dev Cert.Reference10Ideal.nD).tc : Thread Cert.Reference10Ideal.nD Cert.Reference10Ideal.τ).loc Cert.Reference10Ideal.main_arg0))) →
    ∃ (v0 : Buf (Elt Ideal) (((0 : Dev Cert.Reference10Ideal.nD).tc : Thread Cert.Reference10Ideal.nD Cert.Reference10Ideal.τ).loc Cert.Reference10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = Layout.block ⟨3, ![4, 512, 896]⟩ ⟨3, ![8, 512, 896]⟩ 0 2 c v0
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r =>
          r.2.mem (((0 : Dev Cert.Reference10Ideal.nD).tc : Thread Cert.Reference10Ideal.nD Cert.Reference10Ideal.τ).loc Cert.Reference10Ideal.main_v4) = v0
          ∧ r.2.mem (((0 : Dev Cert.Reference10Ideal.nD).tc : Thread Cert.Reference10Ideal.nD Cert.Reference10Ideal.τ).loc Cert.Reference10Ideal.main_arg0) = m' (((0 : Dev Cert.Reference10Ideal.nD).tc : Thread Cert.Reference10Ideal.nD Cert.Reference10Ideal.τ).loc Cert.Reference10Ideal.main_arg0))

def bitexact_Kernel10_Reference10 [hKernel10 : Cert.Kernel10.Facts] [hReference10 : Cert.Reference10.Facts] : Prop :=
  ∀ (m : (ℓ : Loc Cert.Kernel10.nD Cert.Kernel10.τ Cert.Kernel10.sig) → Buf (Elt Bits) ℓ) (g : Dev Cert.Kernel10.nD → PrngReg)
    (m' : (ℓ : Loc Cert.Reference10.nD Cert.Reference10.τ Cert.Reference10.sig) → Buf (Elt Bits) ℓ) (g' : Dev Cert.Reference10.nD → PrngReg), Pre_Kernel10 m →
    (∀ c : Dev Cert.Kernel10.nD,
      m ((c.tc : Thread Cert.Kernel10.nD Cert.Kernel10.τ).loc Cert.Kernel10.main_arg0) = Layout.block ⟨4, ![4, 2, 512, 896]⟩ ⟨4, ![8, 2, 512, 896]⟩ 0 2 c (m' (((0 : Dev Cert.Reference10.nD).tc : Thread Cert.Reference10.nD Cert.Reference10.τ).loc Cert.Reference10.main_arg0))) →
    ∃ (v0 : Buf (Elt Bits) (((0 : Dev Cert.Reference10.nD).tc : Thread Cert.Reference10.nD Cert.Reference10.τ).loc Cert.Reference10.main_v4)),
      θ_run (Cert.Kernel10.defs (F := Bits)) (onTc (τ := Cert.Kernel10.τ) (Cert.Kernel10.main (F := Bits))) ⟨m, fun _ => 0, g⟩ (fun r => ∀ c : Dev Cert.Kernel10.nD,
          r.2.mem ((c.tc : Thread Cert.Kernel10.nD Cert.Kernel10.τ).loc Cert.Kernel10.main_v1) = Layout.block ⟨3, ![4, 512, 896]⟩ ⟨3, ![8, 512, 896]⟩ 0 2 c v0
          ∧ r.2.mem ((c.tc : Thread Cert.Kernel10.nD Cert.Kernel10.τ).loc Cert.Kernel10.main_arg0) = m ((c.tc : Thread Cert.Kernel10.nD Cert.Kernel10.τ).loc Cert.Kernel10.main_arg0))
      ∧ θ_run (Cert.Reference10.defs (F := Bits)) (onTc (τ := Cert.Reference10.τ) (Cert.Reference10.main (F := Bits))) ⟨m', fun _ => 0, g'⟩ (fun r =>
          r.2.mem (((0 : Dev Cert.Reference10.nD).tc : Thread Cert.Reference10.nD Cert.Reference10.τ).loc Cert.Reference10.main_v4) = v0
          ∧ r.2.mem (((0 : Dev Cert.Reference10.nD).tc : Thread Cert.Reference10.nD Cert.Reference10.τ).loc Cert.Reference10.main_arg0) = m' (((0 : Dev Cert.Reference10.nD).tc : Thread Cert.Reference10.nD Cert.Reference10.τ).loc Cert.Reference10.main_arg0))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m ((c.tc : Thread Cert.Kernel11Ideal.nD Cert.Kernel11Ideal.τ).loc Cert.Kernel11Ideal.main_arg0) = Layout.block ⟨2, ![128, 1024]⟩ ⟨2, ![256, 1024]⟩ 0 2 c (m' (((0 : Dev Cert.Reference11Ideal.nD).tc : Thread Cert.Reference11Ideal.nD Cert.Reference11Ideal.τ).loc Cert.Reference11Ideal.main_arg0))
      ∧ m ((c.tc : Thread Cert.Kernel11Ideal.nD Cert.Kernel11Ideal.τ).loc Cert.Kernel11Ideal.main_arg1) = Layout.block ⟨2, ![512, 1408]⟩ ⟨2, ![1024, 1408]⟩ 0 2 c (m' (((0 : Dev Cert.Reference11Ideal.nD).tc : Thread Cert.Reference11Ideal.nD Cert.Reference11Ideal.τ).loc Cert.Reference11Ideal.main_arg1))
      ∧ m ((c.tc : Thread Cert.Kernel11Ideal.nD Cert.Kernel11Ideal.τ).loc Cert.Kernel11Ideal.main_arg2) = Layout.block ⟨2, ![352, 1024]⟩ ⟨2, ![704, 1024]⟩ 0 2 c (m' (((0 : Dev Cert.Reference11Ideal.nD).tc : Thread Cert.Reference11Ideal.nD Cert.Reference11Ideal.τ).loc Cert.Reference11Ideal.main_arg2))) →
    ∃ (v0 : Buf (Elt Ideal) (((0 : Dev Cert.Reference11Ideal.nD).tc : Thread Cert.Reference11Ideal.nD Cert.Reference11Ideal.τ).loc Cert.Reference11Ideal.main_v2)) (v1 : Buf (Elt Ideal) (((0 : Dev Cert.Reference11Ideal.nD).tc : Thread Cert.Reference11Ideal.nD Cert.Reference11Ideal.τ).loc Cert.Reference11Ideal.main_v5)) (v2 : Buf (Elt Ideal) (((0 : Dev Cert.Reference11Ideal.nD).tc : Thread Cert.Reference11Ideal.nD Cert.Reference11Ideal.τ).loc Cert.Reference11Ideal.main_v8)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = Layout.block ⟨2, ![128, 1024]⟩ ⟨2, ![256, 1024]⟩ 0 2 c v0
          ∧ r.2.mem ((c.tc : Thread Cert.Kernel11Ideal.nD Cert.Kernel11Ideal.τ).loc Cert.Kernel11Ideal.main_v1_1) = Layout.block ⟨2, ![512, 1408]⟩ ⟨2, ![1024, 1408]⟩ 0 2 c v1
          ∧ r.2.mem ((c.tc : Thread Cert.Kernel11Ideal.nD Cert.Kernel11Ideal.τ).loc Cert.Kernel11Ideal.main_v1_2) = Layout.block ⟨2, ![352, 1024]⟩ ⟨2, ![704, 1024]⟩ 0 2 c v2
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r =>
          r.2.mem (((0 : Dev Cert.Reference11Ideal.nD).tc : Thread Cert.Reference11Ideal.nD Cert.Reference11Ideal.τ).loc Cert.Reference11Ideal.main_v2) = v0
          ∧ r.2.mem (((0 : Dev Cert.Reference11Ideal.nD).tc : Thread Cert.Reference11Ideal.nD Cert.Reference11Ideal.τ).loc Cert.Reference11Ideal.main_v5) = v1
          ∧ r.2.mem (((0 : Dev Cert.Reference11Ideal.nD).tc : Thread Cert.Reference11Ideal.nD Cert.Reference11Ideal.τ).loc Cert.Reference11Ideal.main_v8) = v2
          ∧ r.2.mem (((0 : Dev Cert.Reference11Ideal.nD).tc : Thread Cert.Reference11Ideal.nD Cert.Reference11Ideal.τ).loc Cert.Reference11Ideal.main_arg0) = m' (((0 : Dev Cert.Reference11Ideal.nD).tc : Thread Cert.Reference11Ideal.nD Cert.Reference11Ideal.τ).loc Cert.Reference11Ideal.main_arg0)
          ∧ r.2.mem (((0 : Dev Cert.Reference11Ideal.nD).tc : Thread Cert.Reference11Ideal.nD Cert.Reference11Ideal.τ).loc Cert.Reference11Ideal.main_arg1) = m' (((0 : Dev Cert.Reference11Ideal.nD).tc : Thread Cert.Reference11Ideal.nD Cert.Reference11Ideal.τ).loc Cert.Reference11Ideal.main_arg1)
          ∧ r.2.mem (((0 : Dev Cert.Reference11Ideal.nD).tc : Thread Cert.Reference11Ideal.nD Cert.Reference11Ideal.τ).loc Cert.Reference11Ideal.main_arg2) = m' (((0 : Dev Cert.Reference11Ideal.nD).tc : Thread Cert.Reference11Ideal.nD Cert.Reference11Ideal.τ).loc Cert.Reference11Ideal.main_arg2))

def bitexact_Kernel11_Reference11 [hKernel11 : Cert.Kernel11.Facts] [hReference11 : Cert.Reference11.Facts] : Prop :=
  ∀ (m : (ℓ : Loc Cert.Kernel11.nD Cert.Kernel11.τ Cert.Kernel11.sig) → Buf (Elt Bits) ℓ) (g : Dev Cert.Kernel11.nD → PrngReg)
    (m' : (ℓ : Loc Cert.Reference11.nD Cert.Reference11.τ Cert.Reference11.sig) → Buf (Elt Bits) ℓ) (g' : Dev Cert.Reference11.nD → PrngReg), Pre_Kernel11 m →
    (∀ c : Dev Cert.Kernel11.nD,
      m ((c.tc : Thread Cert.Kernel11.nD Cert.Kernel11.τ).loc Cert.Kernel11.main_arg0) = Layout.block ⟨2, ![128, 1024]⟩ ⟨2, ![256, 1024]⟩ 0 2 c (m' (((0 : Dev Cert.Reference11.nD).tc : Thread Cert.Reference11.nD Cert.Reference11.τ).loc Cert.Reference11.main_arg0))
      ∧ m ((c.tc : Thread Cert.Kernel11.nD Cert.Kernel11.τ).loc Cert.Kernel11.main_arg1) = Layout.block ⟨2, ![512, 1408]⟩ ⟨2, ![1024, 1408]⟩ 0 2 c (m' (((0 : Dev Cert.Reference11.nD).tc : Thread Cert.Reference11.nD Cert.Reference11.τ).loc Cert.Reference11.main_arg1))
      ∧ m ((c.tc : Thread Cert.Kernel11.nD Cert.Kernel11.τ).loc Cert.Kernel11.main_arg2) = Layout.block ⟨2, ![352, 1024]⟩ ⟨2, ![704, 1024]⟩ 0 2 c (m' (((0 : Dev Cert.Reference11.nD).tc : Thread Cert.Reference11.nD Cert.Reference11.τ).loc Cert.Reference11.main_arg2))) →
    ∃ (v0 : Buf (Elt Bits) (((0 : Dev Cert.Reference11.nD).tc : Thread Cert.Reference11.nD Cert.Reference11.τ).loc Cert.Reference11.main_v2)) (v1 : Buf (Elt Bits) (((0 : Dev Cert.Reference11.nD).tc : Thread Cert.Reference11.nD Cert.Reference11.τ).loc Cert.Reference11.main_v5)) (v2 : Buf (Elt Bits) (((0 : Dev Cert.Reference11.nD).tc : Thread Cert.Reference11.nD Cert.Reference11.τ).loc Cert.Reference11.main_v8)),
      θ_run (Cert.Kernel11.defs (F := Bits)) (onTc (τ := Cert.Kernel11.τ) (Cert.Kernel11.main (F := Bits))) ⟨m, fun _ => 0, g⟩ (fun r => ∀ c : Dev Cert.Kernel11.nD,
          r.2.mem ((c.tc : Thread Cert.Kernel11.nD Cert.Kernel11.τ).loc Cert.Kernel11.main_v1_0) = Layout.block ⟨2, ![128, 1024]⟩ ⟨2, ![256, 1024]⟩ 0 2 c v0
          ∧ r.2.mem ((c.tc : Thread Cert.Kernel11.nD Cert.Kernel11.τ).loc Cert.Kernel11.main_v1_1) = Layout.block ⟨2, ![512, 1408]⟩ ⟨2, ![1024, 1408]⟩ 0 2 c v1
          ∧ r.2.mem ((c.tc : Thread Cert.Kernel11.nD Cert.Kernel11.τ).loc Cert.Kernel11.main_v1_2) = Layout.block ⟨2, ![352, 1024]⟩ ⟨2, ![704, 1024]⟩ 0 2 c v2
          ∧ r.2.mem ((c.tc : Thread Cert.Kernel11.nD Cert.Kernel11.τ).loc Cert.Kernel11.main_arg0) = m ((c.tc : Thread Cert.Kernel11.nD Cert.Kernel11.τ).loc Cert.Kernel11.main_arg0)
          ∧ r.2.mem ((c.tc : Thread Cert.Kernel11.nD Cert.Kernel11.τ).loc Cert.Kernel11.main_arg1) = m ((c.tc : Thread Cert.Kernel11.nD Cert.Kernel11.τ).loc Cert.Kernel11.main_arg1)
          ∧ r.2.mem ((c.tc : Thread Cert.Kernel11.nD Cert.Kernel11.τ).loc Cert.Kernel11.main_arg2) = m ((c.tc : Thread Cert.Kernel11.nD Cert.Kernel11.τ).loc Cert.Kernel11.main_arg2))
      ∧ θ_run (Cert.Reference11.defs (F := Bits)) (onTc (τ := Cert.Reference11.τ) (Cert.Reference11.main (F := Bits))) ⟨m', fun _ => 0, g'⟩ (fun r =>
          r.2.mem (((0 : Dev Cert.Reference11.nD).tc : Thread Cert.Reference11.nD Cert.Reference11.τ).loc Cert.Reference11.main_v2) = v0
          ∧ r.2.mem (((0 : Dev Cert.Reference11.nD).tc : Thread Cert.Reference11.nD Cert.Reference11.τ).loc Cert.Reference11.main_v5) = v1
          ∧ r.2.mem (((0 : Dev Cert.Reference11.nD).tc : Thread Cert.Reference11.nD Cert.Reference11.τ).loc Cert.Reference11.main_v8) = v2
          ∧ r.2.mem (((0 : Dev Cert.Reference11.nD).tc : Thread Cert.Reference11.nD Cert.Reference11.τ).loc Cert.Reference11.main_arg0) = m' (((0 : Dev Cert.Reference11.nD).tc : Thread Cert.Reference11.nD Cert.Reference11.τ).loc Cert.Reference11.main_arg0)
          ∧ r.2.mem (((0 : Dev Cert.Reference11.nD).tc : Thread Cert.Reference11.nD Cert.Reference11.τ).loc Cert.Reference11.main_arg1) = m' (((0 : Dev Cert.Reference11.nD).tc : Thread Cert.Reference11.nD Cert.Reference11.τ).loc Cert.Reference11.main_arg1)
          ∧ r.2.mem (((0 : Dev Cert.Reference11.nD).tc : Thread Cert.Reference11.nD Cert.Reference11.τ).loc Cert.Reference11.main_arg2) = m' (((0 : Dev Cert.Reference11.nD).tc : Thread Cert.Reference11.nD Cert.Reference11.τ).loc Cert.Reference11.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hReference9 : Cert.Reference9.Facts) (hKernel10 : Cert.Kernel10.Facts) (hKernel10Ideal : Cert.Kernel10Ideal.Facts) (hReference10Ideal : Cert.Reference10Ideal.Facts) (hReference10 : Cert.Reference10.Facts) (hKernel11 : Cert.Kernel11.Facts) (hKernel11Ideal : Cert.Kernel11Ideal.Facts) (hReference11Ideal : Cert.Reference11Ideal.Facts) (hReference11 : Cert.Reference11.Facts) (hPre_finite : Cert.Pre_finite.Facts) (hPre_finite_ffn : Cert.Pre_finite_ffn.Facts) (hPre_finite_lb : Cert.Pre_finite_lb.Facts) (hPre_finite_hgrn : Cert.Pre_finite_hgrn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel3 (hKernel3 := hKernel3)
    ∧ quiescent_Kernel3Ideal (hKernel3Ideal := hKernel3Ideal)
    ∧ quiescent_Kernel3Ideal_pre_finite_lb (hKernel3Ideal := hKernel3Ideal) (hPre_finite_lb := hPre_finite_lb)
    ∧ quiescent_Reference3Ideal (hReference3Ideal := hReference3Ideal)
    ∧ quiescent_Reference3Ideal_pre_finite_lb (hReference3Ideal := hReference3Ideal) (hPre_finite_lb := hPre_finite_lb)
    ∧ quiescent_Kernel4 (hKernel4 := hKernel4)
    ∧ quiescent_Kernel4Ideal (hKernel4Ideal := hKernel4Ideal)
    ∧ quiescent_Kernel4Ideal_pre_finite_hgrn (hKernel4Ideal := hKernel4Ideal) (hPre_finite_hgrn := hPre_finite_hgrn)
    ∧ quiescent_Reference4Ideal (hReference4Ideal := hReference4Ideal)
    ∧ quiescent_Reference4Ideal_pre_finite_hgrn (hReference4Ideal := hReference4Ideal) (hPre_finite_hgrn := hPre_finite_hgrn)
    ∧ quiescent_Kernel5 (hKernel5 := hKernel5)
    ∧ quiescent_Kernel5Ideal (hKernel5Ideal := hKernel5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Reference9 (hReference9 := hReference9)
    ∧ quiescent_Kernel10 (hKernel10 := hKernel10)
    ∧ quiescent_Kernel10Ideal (hKernel10Ideal := hKernel10Ideal)
    ∧ quiescent_Reference10Ideal (hReference10Ideal := hReference10Ideal)
    ∧ quiescent_Reference10 (hReference10 := hReference10)
    ∧ quiescent_Kernel11 (hKernel11 := hKernel11)
    ∧ quiescent_Kernel11Ideal (hKernel11Ideal := hKernel11Ideal)
    ∧ quiescent_Reference11Ideal (hReference11Ideal := hReference11Ideal)
    ∧ quiescent_Reference11 (hReference11 := hReference11)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel3_Kernel3Ideal
    ∧ algebraic_Kernel3Ideal_Reference3Ideal_pre_finite_lb (hKernel3Ideal := hKernel3Ideal) (hReference3Ideal := hReference3Ideal) (hPre_finite_lb := hPre_finite_lb)
    ∧ preserves_Kernel4_Kernel4Ideal
    ∧ algebraic_Kernel4Ideal_Reference4Ideal_pre_finite_hgrn (hKernel4Ideal := hKernel4Ideal) (hReference4Ideal := hReference4Ideal) (hPre_finite_hgrn := hPre_finite_hgrn)
    ∧ preserves_Kernel5_Kernel5Ideal
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ bitexact_Kernel9_Reference9 (hKernel9 := hKernel9) (hReference9 := hReference9)
    ∧ preserves_Kernel10_Kernel10Ideal
    ∧ algebraic_Kernel10Ideal_Reference10Ideal (hKernel10Ideal := hKernel10Ideal) (hReference10Ideal := hReference10Ideal)
    ∧ bitexact_Kernel10_Reference10 (hKernel10 := hKernel10) (hReference10 := hReference10)
    ∧ preserves_Kernel11_Kernel11Ideal
    ∧ algebraic_Kernel11Ideal_Reference11Ideal (hKernel11Ideal := hKernel11Ideal) (hReference11Ideal := hReference11Ideal)
    ∧ bitexact_Kernel11_Reference11 (hKernel11 := hKernel11) (hReference11 := hReference11)
-- ==== Pre_finite.lean ====
abbrev S1x8192x1024 : Shape := ⟨3, ![1, 8192, 1024]⟩
abbrev S1x1024 : Shape := ⟨2, ![1, 1024]⟩
abbrev S1x1024x3584 : Shape := ⟨3, ![1, 1024, 3584]⟩
abbrev S8192x512 : Shape := ⟨2, ![8192, 512]⟩
abbrev S8192x2048 : Shape := ⟨2, ![8192, 2048]⟩
abbrev S8192x1024 : Shape := ⟨2, ![8192, 1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x3584 : S_.BroadcastsInDim S1x1024x3584 (![] : Fin 0 → Fin S1x1024x3584.rank)
  reducesTo_S1x1024x3584_S_d0_1_2 : S1x1024x3584.ReducesTo [0, 1, 2] S_
  bcast_S_S8192x512 : S_.BroadcastsInDim S8192x512 (![] : Fin 0 → Fin S8192x512.rank)
  reducesTo_S8192x512_S_d0_1 : S8192x512.ReducesTo [0, 1] S_
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_

variable [Facts]

def fn_part2 {F : FTy → Type} [FloatOps F] (main_v28 : IVec S_ 1) (main_v33 : IVec S_ 1) : IVec S_ 1 :=
  let main_v34 : IVec S_ 1 := andi main_v28 main_v33
  main_v34

def fn_part1 {F : FTy → Type} [FloatOps F] (main_arg4 : FVec F S8192x512 .f32) (main_arg5 : FVec F S8192x512 .f32) (main_arg6 : FVec F S8192x2048 .bf16) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S8192x512 .f32 := Host.absf main_arg4
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  let main_v24 : FVec F S8192x512 .f32 := Host.absf main_arg5
  let main_cst_8 : FVec F S_ .f32 := constant S_ .f32 0x7F800000#32
  let main_v25 : FVec F S8192x512 .f32 := broadcastInDim S8192x512 ![] bcast_S_S8192x512 main_cst_8
  let main_v26 : IVec S8192x512 1 := cmpf .olt main_v24 main_v25
  let main_c_9 : IVec S_ 1 := constantI S_ 1 1#1
  let main_v27 : IVec S_ 1 := (fun x v => Host.reduce IntOp.andi x v reducesTo_S8192x512_S_d0_1 h_S_) main_v26 main_c_9
  let main_v28 : IVec S_ 1 := andi main_v23 main_v27
  let main_v29 : FVec F S8192x2048 .f32 := (extf .f32 · bitsLt_bf16_f32) main_arg6
  let main_v30 : FVec F S8192x2048 .f32 := Host.absf main_v29
  let main_cst_10 : FVec F S_ .f32 := constant S_ .f32 0x7F800000#32
  let main_v31 : FVec F S8192x2048 .f32 := broadcastInDim S8192x2048 ![] bcast_S_S8192x2048 main_cst_10
  let main_v32 : IVec S8192x2048 1 := cmpf .olt main_v30 main_v31
  let main_c_11 : IVec S_ 1 := constantI S_ 1 1#1
  let main_v33 : IVec S_ 1 := (fun x v => Host.reduce IntOp.andi x v reducesTo_S8192x2048_S_d0_1 h_S_) main_v32 main_c_11
  fn_part2 (F := F) main_v28 main_v33

def fn {F : FTy → Type} [FloatOps F] (main_arg0 : FVec F S1x8192x1024 .f32) (main_arg1 : FVec F S1x1024 .f32) (main_arg2 : FVec F S1x1024x3584 .f32) (main_arg3 : FVec F S8192x512 .f32) (main_arg4 : FVec F S8192x512 .f32) (main_arg5 : FVec F S8192x512 .f32) (main_arg6 : FVec F S8192x2048 .bf16) (main_arg7 : FVec F S8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x3584 .f32 := Host.absf main_arg2
  let main_cst_2 : FVec F S_ .f32 := constant S_ .f32 0x7F800000#32
  let main_v10 : FVec F S1x1024x3584 .f32 := broadcastInDim S1x1024x3584 ![] bcast_S_S1x1024x3584 main_cst_2
  let main_v11 : IVec S1x1024x3584 1 := cmpf .olt main_v9 main_v10
  let main_c_3 : IVec S_ 1 := constantI S_ 1 1#1
  let main_v12 : IVec S_ 1 := (fun x v => Host.reduce IntOp.andi x v reducesTo_S1x1024x3584_S_d0_1_2 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_arg5 main_arg6 main_v13 main_v16
-- ==== Pre_finite_ffn.lean ====
abbrev S8192x512 : Shape := ⟨2, ![8192, 512]⟩
abbrev S1x8192x1024 : Shape := ⟨3, ![1, 8192, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1x8192x1024 : S_.BroadcastsInDim S1x8192x1024 (![] : Fin 0 → Fin S1x8192x1024.rank)
  reducesTo_S1x8192x1024_S_d0_1_2 : S1x8192x1024.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1x8192x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1x8192x1024 .f32 := Host.absf main_arg8
  let main_cst_14 : FVec F S_ .f32 := constant S_ .f32 0x7F800000#32
  let main_v40 : FVec F S1x8192x1024 .f32 := broadcastInDim S1x8192x1024 ![] bcast_S_S1x8192x1024 main_cst_14
  let main_v41 : IVec S1x8192x1024 1 := cmpf .olt main_v39 main_v40
  let main_c_15 : IVec S_ 1 := constantI S_ 1 1#1
  let main_v42 : IVec S_ 1 := (fun x v => Host.reduce IntOp.andi x v reducesTo_S1x8192x1024_S_d0_1_2 h_S_) main_v41 main_c_15
  let main_v43 : IVec S_ 1 := andi main_v38 main_v42
  main_v43

def fn_part1 {F : FTy → Type} [FloatOps F] (main_arg4 : FVec F S1x1024 .f32) (main_arg5 : FVec F S1x1024x5632 .f32) (main_arg6 : FVec F S1x2816x1024 .f32) (main_arg7 : FVec F S1024 .f32) (main_arg8 : FVec F S1x8192x1024 .f32) (main_v13 : IVec S_ 1) (main_v16 : IVec S1x1024x1024 1) : IVec S_ 1 :=
  let main_c_5 : IVec S_ 1 := constantI S_ 1 1#1
  let main_v17 : IVec S_ 1 := (fun x v => Host.reduce IntOp.andi x v reducesTo_S1x1024x1024_S_d0_1_2 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024x5632 .f32 := Host.absf main_arg5
  let main_cst_8 : FVec F S_ .f32 := constant S_ .f32 0x7F800000#32
  let main_v25 : FVec F S1x1024x5632 .f32 := broadcastInDim S1x1024x5632 ![] bcast_S_S1x1024x5632 main_cst_8
  let main_v26 : IVec S1x1024x5632 1 := cmpf .olt main_v24 main_v25
  let main_c_9 : IVec S_ 1 := constantI S_ 1 1#1
  let main_v27 : IVec S_ 1 := (fun x v => Host.reduce IntOp.andi x v reducesTo_S1x1024x5632_S_d0_1_2 h_S_) main_v26 main_c_9
  let main_v28 : IVec S_ 1 := andi main_v23 main_v27
  let main_v29 : FVec F S1x2816x1024 .f32 := Host.absf main_arg6
  let main_cst_10 : FVec F S_ .f32 := constant S_ .f32 0x7F800000#32
  let main_v30 : FVec F S1x2816x1024 .f32 := broadcastInDim S1x2816x1024 ![] bcast_S_S1x2816x1024 main_cst_10
  let main_v31 : IVec S1x2816x1024 1 := cmpf .olt main_v29 main_v30
  let main_c_11 : IVec S_ 1 := constantI S_ 1 1#1
  let main_v32 : IVec S_ 1 := (fun x v => Host.reduce IntOp.andi x v reducesTo_S1x2816x1024_S_d0_1_2 h_S_) main_v31 main_c_11
  let main_v33 : IVec S_ 1 := andi main_v28 main_v32
  fn_part2 (F := F) main_arg7 main_arg8 main_v33

def fn {F : FTy → Type} [FloatOps F] (main_arg0 : FVec F S8192x512 .f32) (main_arg1 : FVec F S8192x512 .f32) (main_arg2 : FVec F S1x8192x1024 .f32) (main_arg3 : FVec F S1x1024x1024 .f32) (main_arg4 : FVec F S1x1024 .f32) (main_arg5 : FVec F S1x1024x5632 .f32) (main_arg6 : FVec F S1x2816x1024 .f32) (main_arg7 : FVec F S1024 .f32) (main_arg8 : FVec F S1x8192x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S1x8192x1024 .f32 := Host.absf main_arg2
  let main_cst_2 : FVec F S_ .f32 := constant S_ .f32 0x7F800000#32
  let main_v10 : FVec F S1x8192x1024 .f32 := broadcastInDim S1x8192x1024 ![] bcast_S_S1x8192x1024 main_cst_2
  let main_v11 : IVec S1x8192x1024 1 := cmpf .olt main_v9 main_v10
  let main_c_3 : IVec S_ 1 := constantI S_ 1 1#1
  let main_v12 : IVec S_ 1 := (fun x v => Host.reduce IntOp.andi x v reducesTo_S1x8192x1024_S_d0_1_2 h_S_) main_v11 main_c_3
  let main_v13 : IVec S_ 1 := andi main_v8 main_v12
  let main_v14 : FVec F S1x1024x1024 .f32 := Host.absf main_arg3
  let main_cst_4 : FVec F S_ .f32 := constant S_ .f32 0x7F800000#32
  let main_v15 : FVec F S1x1024x1024 .f32 := broadcastInDim S1x1024x1024 ![] bcast_S_S1x1024x1024 main_cst_4
  let main_v16 : IVec S1x1024x1024 1 := cmpf .olt main_v14 main_v15
  fn_part1 (F := F) main_arg4 main_arg5 main_arg6 main_arg7 main_arg8 main_v13 main_v16
-- ==== Pre_finite_hgrn.lean ====
abbrev S8192x2048 : Shape := ⟨2, ![8192, 2048]⟩
abbrev S2x512 : Shape := ⟨2, ![2, 512]⟩
abbrev S1x512 : Shape := ⟨2, ![1, 512]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2x512 : S_.BroadcastsInDim S2x512 (![] : Fin 0 → Fin S2x512.rank)
  reducesTo_S2x512_S_d0_1 : S2x512.ReducesTo [0, 1] S_

variable [Facts]

def fn {F : FTy → Type} [FloatOps F] (main_arg0 : FVec F S8192x2048 .f32) (main_arg1 : FVec F S2x512 .f32) (main_arg2 : FVec F S1x512 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2x512 .f32 := Host.absf main_arg1
  let main_cst_0 : FVec F S_ .f32 := constant S_ .f32 0x7F800000#32
  let main_v5 : FVec F S2x512 .f32 := broadcastInDim S2x512 ![] bcast_S_S2x512 main_cst_0
  let main_v6 : IVec S2x512 1 := cmpf .olt main_v4 main_v5
  let main_c_1 : IVec S_ 1 := constantI S_ 1 1#1
  let main_v7 : IVec S_ 1 := (fun x v => Host.reduce IntOp.andi x v reducesTo_S2x512_S_d0_1 h_S_) main_v6 main_c_1
  let main_v8 : IVec S_ 1 := andi main_v3 main_v7
  main_v8
-- ==== Pre_finite_lb.lean ====
abbrev S8x1024 : Shape := ⟨2, ![8, 1024]⟩
abbrev S8x512 : Shape := ⟨2, ![8, 512]⟩
abbrev S1x1024 : Shape := ⟨2, ![1, 1024]⟩
abbrev S2x512 : Shape := ⟨2, ![2, 512]⟩
abbrev S1x512 : Shape := ⟨2, ![1, 512]⟩
abbrev S1024 : Shape := ⟨1, ![1024]⟩
abbrev S_ : Shape := ⟨0, ![]⟩

class Facts : Prop where
  bcast_S_S8x512 : S_.BroadcastsInDim S8x512 (![] : Fin 0 → Fin S8x512.rank)
  reducesTo_S8x512_S_d0_1 : S8x512.ReducesTo [0, 1] S_
  h_S_ : 0 < S_.numel
  bcast_S_S2x512 : S_.BroadcastsInDim S2x512 (![] : Fin 0 → Fin S2x512.rank)
  reducesTo_S2x512_S_d0_1 : S2x512.ReducesTo [0, 1] S_

variable [Facts]

def fn {F : FTy → Type} [FloatOps F] (main_arg0 : FVec F S8x1024 .f32) (main_arg1 : FVec F S8x1024 .f32) (main_arg2 : FVec F S8x512 .f32) (main_arg3 : FVec F S8x512 .f32) (main_arg4 : FVec F S8x1024 .f32) (main_arg5 : FVec F S8x1024 .f32) (main_arg6 : FVec F S1x1024 .f32) (main_arg7 : FVec F S2x512 .f32) (main_arg8 : FVec F S1x512 .f32) (main_arg9 : FVec F S1x1024 .f32) (main_arg10 : FVec F S1024 .f32) (main_arg11 : FVec F S1x1024 .f32) (main_arg12 : FVec F S2x512 .f32) (main_arg13 : FVec F S1x512 .f32) (main_arg14 : FVec F S1x1024 .f32) (main_arg15 : FVec F S1024 .f32) (main_arg16 : FVec F S1x1024 .f32) (main_arg17 : FVec F S2x512 .f32) (main_arg18 : FVec F S1x512 .f32) (main_arg19 : FVec F S1x1024 .f32) (main_arg20 : FVec F S1024 .f32) : IVec S_ 1 :=
  let main_v0 : FVec F S8x512 .f32 := Host.absf main_arg2
  let main_cst : FVec F S_ .f32 := constant S_ .f32 0x7F800000#32
  let main_v1 : FVec F S8x512 .f32 := broadcastInDim S8x512 ![] bcast_S_S8x512 main_cst
  let main_v2 : IVec S8x512 1 := cmpf .olt main_v0 main_v1
  let main_c : IVec S_ 1 := constantI S_ 1 1#1
  let main_v3 : IVec S_ 1 := (fun x v => Host.reduce IntOp.andi x v reducesTo_S8x512_S_d0_1 h_S_) main_v2 main_c
  let main_v4 : FVec F S2x512 .f32 := Host.absf main_arg7
  let main_cst_0 : FVec F S_ .f32 := constant S_ .f32 0x7F800000#32
  let main_v5 : FVec F S2x512 .f32 := broadcastInDim S2x512 ![] bcast_S_S2x512 main_cst_0
  let main_v6 : IVec S2x512 1 := cmpf .olt main_v4 main_v5
  let main_c_1 : IVec S_ 1 := constantI S_ 1 1#1
  let main_v7 : IVec S_ 1 := (fun x v => Host.reduce IntOp.andi x v reducesTo_S2x512_S_d0_1 h_S_) main_v6 main_c_1
  let main_v8 : IVec S_ 1 := andi main_v3 main_v7
  main_v8
-- ==== Kernel.lean ====
abbrev S1x8192x1024 : Shape := ⟨3, ![1, 8192, 1024]⟩
abbrev S1x1024 : Shape := ⟨2, ![1, 1024]⟩
abbrev S1x1024x3584 : Shape := ⟨3, ![1, 1024, 3584]⟩
abbrev S8192x512 : Shape := ⟨2, ![8192, 512]⟩
abbrev S8192x2048 : Shape := ⟨2, ![8192, 2048]⟩
abbrev S8192x1024 : Shape := ⟨2, ![8192, 1024]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S1024x3584 : Shape := ⟨2, ![1024, 3584]⟩
abbrev S1024x4x896 : Shape := ⟨3, ![1024, 4, 896]⟩
abbrev S4x1024x896 : Shape := ⟨3, ![4, 1024, 896]⟩
abbrev S8192x3584 : Shape := ⟨2, ![8192, 3584]⟩
abbrev S8x1024 : Shape := ⟨2, ![8, 1024]⟩
abbrev S512x512 : Shape := ⟨2, ![512, 512]⟩
abbrev S512x2048 : Shape := ⟨2, ![512, 2048]⟩
abbrev S512x128 : Shape := ⟨2, ![512, 128]⟩
abbrev S512x1024 : Shape := ⟨2, ![512, 1024]⟩
abbrev S512x3584 : Shape := ⟨2, ![512, 3584]⟩
abbrev S512x1536 : Shape := ⟨2, ![512, 1536]⟩
abbrev S512x896 : Shape := ⟨2, ![512, 896]⟩
abbrev S1x1024x896 : Shape := ⟨3, ![1, 1024, 896]⟩
abbrev S1024x896 : Shape := ⟨2, ![1024, 896]⟩
abbrev S512 : Shape := ⟨1, ![512]⟩
abbrev S512x1 : Shape := ⟨2, ![512, 1]⟩
abbrev S1024 : Shape := ⟨1, ![1024]⟩

abbrev nBuf : Space → Nat
  | .hbm => 40
  | .vmem => 23
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x3584, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x2048, .bf16⟩
  | .hbm, ⟨7, _⟩ => ⟨S8192x1024, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S8192, .f32⟩
  | .hbm, ⟨17, _⟩ => ⟨S8192x1, .f32⟩
  | .hbm, ⟨18, _⟩ => ⟨S1x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S1x8192x1x32, .f32⟩
  | .hbm, ⟨25, _⟩ => ⟨S1x8192x4x32, .f32⟩
  | .hbm, ⟨26, _⟩ => ⟨S8192x128, .f32⟩
  | .hbm, ⟨27, _⟩ => ⟨S8192x32, .f32⟩
  | .hbm, ⟨28, _⟩ => ⟨S8192x64, .f32⟩
  | .hbm, ⟨29, _⟩ => ⟨S1x8192x1x64, .f32⟩
  | .hbm, ⟨30, _⟩ => ⟨S1x8192x2x64, .f32⟩
  | .hbm, ⟨31, _⟩ => ⟨S8192x128, .f32⟩
  | .hbm, ⟨32, _⟩ => ⟨S1024x3584, .f32⟩
  | .hbm, ⟨33, _⟩ => ⟨S1024x3584, .bf16⟩
  | .hbm, ⟨34, _⟩ => ⟨S1024x4x896, .bf16⟩
  | .hbm, ⟨35, _⟩ => ⟨S4x1024x896, .bf16⟩
  | .hbm, ⟨36, _⟩ => ⟨S8192x1024, .f32⟩
  | .hbm, ⟨37, _⟩ => ⟨S8192x3584, .bf16⟩
  | .hbm, ⟨38, _⟩ => ⟨S8192x1024, .f32⟩
  | .hbm, ⟨39, _⟩ => ⟨S8x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S512x2048, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S4x1024x896, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x3584, .bf16⟩
  | .local _ .vmem, ⟨19, _⟩ => ⟨S512x3584, .bf16⟩
  | .local _ .vmem, ⟨20, _⟩ => ⟨S512x1024, .f32⟩
  | .local _ .vmem, ⟨21, _⟩ => ⟨S512x1024, .f32⟩
  | .local _ .vmem, ⟨22, _⟩ => ⟨S8x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27_0 : Ref sig .tc := ⟨.hbm, 37, rfl⟩
abbrev main_v27_1 : Ref sig .tc := ⟨.hbm, 38, rfl⟩
abbrev main_v27_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024x896 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3584 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S1x8192x1024 : Shape := ⟨3, ![1, 8192, 1024]⟩
abbrev S1x1024 : Shape := ⟨2, ![1, 1024]⟩
abbrev S1x1024x3584 : Shape := ⟨3, ![1, 1024, 3584]⟩
abbrev S8192x512 : Shape := ⟨2, ![8192, 512]⟩
abbrev S8192x2048 : Shape := ⟨2, ![8192, 2048]⟩
abbrev S8192x1024 : Shape := ⟨2, ![8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x3584 : Shape := ⟨2, ![1024, 3584]⟩
abbrev S1x8192x3584 : Shape := ⟨3, ![1, 8192, 3584]⟩
abbrev S1x8192x512 : Shape := ⟨3, ![1, 8192, 512]⟩
abbrev S1x8192x8x64 : Shape := ⟨4, ![1, 8192, 8, 64]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x8x32 : Shape := ⟨4, ![1, 8192, 8, 32]⟩
abbrev S1x8192x2048 : Shape := ⟨3, ![1, 8192, 2048]⟩
abbrev S3584x1024 : Shape := ⟨2, ![3584, 1024]⟩
abbrev S7x1024 : Shape := ⟨2, ![7, 1024]⟩
abbrev S8x1024 : Shape := ⟨2, ![8, 1024]⟩
abbrev S8192x3584 : Shape := ⟨2, ![8192, 3584]⟩

abbrev nBuf : Space → Nat
  | .hbm => 196
  | .vmem => 0
  | .smem => 0
  | _ => 0

abbrev hbmTy0_0 (i : Nat) : BufTy := match i % 128 with
  | 0 => ⟨S1x8192x1024, .f32⟩
  | 1 => ⟨S1x1024, .f32⟩
  | 2 => ⟨S1x1024x3584, .f32⟩
  | 3 => ⟨S8192x512, .f32⟩
  | 4 => ⟨S8192x512, .f32⟩
  | 5 => ⟨S8192x512, .f32⟩
  | 6 => ⟨S8192x2048, .bf16⟩
  | 7 => ⟨S8192x1024, .f32⟩
  | 8 => ⟨S1024, .f32⟩
  | 9 => ⟨S1x8192x1024, .f32⟩
  | 10 => ⟨S_, .f32⟩
  | 11 => ⟨S1x8192, .f32⟩
  | 12 => ⟨S1x8192x1, .f32⟩
  | 13 => ⟨S_, .f32⟩
  | 14 => ⟨S1x8192x1, .f32⟩
  | 15 => ⟨S1x8192x1, .f32⟩
  | 16 => ⟨S_, .f32⟩
  | 17 => ⟨S1x8192x1, .f32⟩
  | 18 => ⟨S1x8192x1, .f32⟩
  | 19 => ⟨S1x8192x1, .f32⟩
  | 20 => ⟨S1x8192x1, .f32⟩
  | 21 => ⟨S_, .f32⟩
  | 22 => ⟨S1x8192x1, .f32⟩
  | 23 => ⟨S1x8192x1, .f32⟩
  | 24 => ⟨S1x8192x1024, .f32⟩
  | 25 => ⟨S1x8192x1024, .f32⟩
  | 26 => ⟨S1x1x1024, .f32⟩
  | 27 => ⟨S1x8192x1024, .f32⟩
  | 28 => ⟨S1x8192x1024, .f32⟩
  | 29 => ⟨S1024x3584, .f32⟩
  | 30 => ⟨S1x8192x3584, .f32⟩
  | 31 => ⟨S1x8192x512, .f32⟩
  | 32 => ⟨S1x8192x512, .f32⟩
  | 33 => ⟨S1x8192x512, .f32⟩
  | 34 => ⟨S1x8192x8x64, .f32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S8192, .f32⟩
  | 44 => ⟨S8192x1, .f32⟩
  | 45 => ⟨S1x32, .f32⟩
  | 46 => ⟨S8192x32, .f32⟩
  | 47 => ⟨S8192x32, .f32⟩
  | 48 => ⟨S8192x32, .f32⟩
  | 49 => ⟨S8192x32, .f32⟩
  | 50 => ⟨S1x8192x1x32, .f32⟩
  | 51 => ⟨S8192x32, .f32⟩
  | 52 => ⟨S1x8192x1x32, .f32⟩
  | 53 => ⟨S1x8192x8x32, .f32⟩
  | 54 => ⟨S1x8192x8x32, .f32⟩
  | 55 => ⟨S1x8192x8x32, .f32⟩
  | 56 => ⟨S1x8192x8x32, .f32⟩
  | 57 => ⟨S1x8192x8x32, .f32⟩
  | 58 => ⟨S1x8192x8x32, .f32⟩
  | 59 => ⟨S1x8192x8x32, .f32⟩
  | 60 => ⟨S1x8192x8x32, .f32⟩
  | 61 => ⟨S1x8192x8x32, .f32⟩
  | 62 => ⟨S1x8192x8x32, .f32⟩
  | 63 => ⟨S1x8192x8x32, .f32⟩
  | 64 => ⟨S1x8192x8x32, .f32⟩
  | 65 => ⟨S1x8192x8x64, .f32⟩
  | 66 => ⟨S1x8192x8x64, .f32⟩
  | 67 => ⟨S32, .f32⟩
  | 68 => ⟨S32, .f32⟩
  | 69 => ⟨S_, .f32⟩
  | 70 => ⟨S32, .f32⟩
  | 71 => ⟨S32, .f32⟩
  | 72 => ⟨S_, .f32⟩
  | 73 => ⟨S32, .f32⟩
  | 74 => ⟨S32, .f32⟩
  | 75 => ⟨S8192, .f32⟩
  | 76 => ⟨S8192x1, .f32⟩
  | 77 => ⟨S1x32, .f32⟩
  | 78 => ⟨S8192x32, .f32⟩
  | 79 => ⟨S8192x32, .f32⟩
  | 80 => ⟨S8192x32, .f32⟩
  | 81 => ⟨S8192x32, .f32⟩
  | 82 => ⟨S1x8192x1x32, .f32⟩
  | 83 => ⟨S8192x32, .f32⟩
  | 84 => ⟨S1x8192x1x32, .f32⟩
  | 85 => ⟨S1x8192x8x32, .f32⟩
  | 86 => ⟨S1x8192x8x32, .f32⟩
  | 87 => ⟨S1x8192x8x32, .f32⟩
  | 88 => ⟨S1x8192x8x32, .f32⟩
  | 89 => ⟨S1x8192x8x32, .f32⟩
  | 90 => ⟨S1x8192x8x32, .f32⟩
  | 91 => ⟨S1x8192x8x32, .f32⟩
  | 92 => ⟨S1x8192x8x32, .f32⟩
  | 93 => ⟨S1x8192x8x32, .f32⟩
  | 94 => ⟨S1x8192x8x32, .f32⟩
  | 95 => ⟨S1x8192x8x32, .f32⟩
  | 96 => ⟨S1x8192x8x32, .f32⟩
  | 97 => ⟨S1x8192x8x64, .f32⟩
  | 98 => ⟨S8192x512, .f32⟩
  | 99 => ⟨S8192x512, .f32⟩
  | 100 => ⟨S8192x512, .f32⟩
  | 101 => ⟨S1x8192x2048, .f32⟩
  | 102 => ⟨S8192x2048, .f32⟩
  | 103 => ⟨S8192x2048, .f32⟩
  | 104 => ⟨S1x8192x2048, .f32⟩
  | 105 => ⟨S_, .f32⟩
  | 106 => ⟨S1x8192x3584, .f32⟩
  | 107 => ⟨S1x8192x512, .f32⟩
  | 108 => ⟨S1x8192x8x64, .f32⟩
  | 109 => ⟨S1x8192x8x64, .f32⟩
  | 110 => ⟨S1x8192x8x32, .f32⟩
  | 111 => ⟨S1x8192x8x32, .f32⟩
  | 112 => ⟨S1x8192x8x32, .f32⟩
  | 113 => ⟨S1x8192x8x32, .f32⟩
  | 114 => ⟨S1x8192x8x32, .f32⟩
  | 115 => ⟨S1x8192x8x32, .f32⟩
  | 116 => ⟨S1x8192x8x32, .f32⟩
  | 117 => ⟨S1x8192x8x32, .f32⟩
  | 118 => ⟨S1x8192x8x32, .f32⟩
  | 119 => ⟨S1x8192x8x32, .f32⟩
  | 120 => ⟨S1x8192x8x32, .f32⟩
  | 121 => ⟨S1x8192x8x32, .f32⟩
  | 122 => ⟨S1x8192x8x32, .f32⟩
  | 123 => ⟨S_, .f32⟩
  | 124 => ⟨S1x8192x8x64, .f32⟩
  | 125 => ⟨S_, .f32⟩
  | 126 => ⟨S1x8192x8x64, .f32⟩
  | 127 => ⟨S1x8192x8x64, .f32⟩
  | _ => ⟨S1x8192x1024, .f32⟩

abbrev hbmTy0_1 (i : Nat) : BufTy := match i % 128 with
  | 0 => ⟨S1x8192x512, .f32⟩
  | 1 => ⟨S1x8192x8x32, .f32⟩
  | 2 => ⟨S1x8192x8x32, .f32⟩
  | 3 => ⟨S1x8192x8x32, .f32⟩
  | 4 => ⟨S1x8192x8x32, .f32⟩
  | 5 => ⟨S1x8192x8x32, .f32⟩
  | 6 => ⟨S1x8192x8x32, .f32⟩
  | 7 => ⟨S1x8192x8x32, .f32⟩
  | 8 => ⟨S1x8192x8x32, .f32⟩
  | 9 => ⟨S1x8192x8x32, .f32⟩
  | 10 => ⟨S1x8192x8x32, .f32⟩
  | 11 => ⟨S1x8192x8x32, .f32⟩
  | 12 => ⟨S1x8192x8x32, .f32⟩
  | 13 => ⟨S1x8192x8x32, .f32⟩
  | 14 => ⟨S_, .f32⟩
  | 15 => ⟨S1x8192x8x64, .f32⟩
  | 16 => ⟨S_, .f32⟩
  | 17 => ⟨S1x8192x8x64, .f32⟩
  | 18 => ⟨S1x8192x8x64, .f32⟩
  | 19 => ⟨S1x8192x512, .f32⟩
  | 20 => ⟨S_, .f32⟩
  | 21 => ⟨S1x8192x3584, .f32⟩
  | 22 => ⟨S1x8192x3584, .f32⟩
  | 23 => ⟨S_, .f32⟩
  | 24 => ⟨S1x8192x3584, .f32⟩
  | 25 => ⟨S1x8192x3584, .f32⟩
  | 26 => ⟨S_, .f32⟩
  | 27 => ⟨S1x8192x3584, .f32⟩
  | 28 => ⟨S1x8192x3584, .f32⟩
  | 29 => ⟨S1x8192x1024, .f32⟩
  | 30 => ⟨S3584x1024, .f32⟩
  | 31 => ⟨S1024x3584, .f32⟩
  | 32 => ⟨S1x8192x1024, .f32⟩
  | 33 => ⟨S1x1024x3584, .f32⟩
  | 34 => ⟨S1x8192x1024, .f32⟩
  | 35 => ⟨S_, .f32⟩
  | 36 => ⟨S1x1024, .f32⟩
  | 37 => ⟨S1x1x1024, .f32⟩
  | 38 => ⟨S1x8192x1024, .f32⟩
  | 39 => ⟨S1x8192x1024, .f32⟩
  | 40 => ⟨S_, .f32⟩
  | 41 => ⟨S1024, .f32⟩
  | 42 => ⟨S1x8192x1024, .f32⟩
  | 43 => ⟨S_, .f32⟩
  | 44 => ⟨S1x8192, .f32⟩
  | 45 => ⟨S1x8192x1, .f32⟩
  | 46 => ⟨S1x8192x1024, .f32⟩
  | 47 => ⟨S1x8192x1024, .f32⟩
  | 48 => ⟨S1x8192x1024, .f32⟩
  | 49 => ⟨S1x8192x1, .f32⟩
  | 50 => ⟨S_, .f32⟩
  | 51 => ⟨S1x8192x1, .f32⟩
  | 52 => ⟨S1x8192x1, .f32⟩
  | 53 => ⟨S_, .f32⟩
  | 54 => ⟨S8192, .f32⟩
  | 55 => ⟨S1x8192, .f32⟩
  | 56 => ⟨S1x8192x1024, .f32⟩
  | 57 => ⟨S1x8192x1024, .f32⟩
  | 58 => ⟨S1x8192x1024, .f32⟩
  | 59 => ⟨S1x8192x1024, .f32⟩
  | 60 => ⟨S1x8192x1024, .f32⟩
  | 61 => ⟨S1x1024, .f32⟩
  | 62 => ⟨S_, .f32⟩
  | 63 => ⟨S7x1024, .f32⟩
  | 64 => ⟨S8x1024, .f32⟩
  | 65 => ⟨S8192x3584, .f32⟩
  | 66 => ⟨S8192x3584, .bf16⟩
  | 67 => ⟨S8192x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_5 : Ref sig .tc := ⟨.hbm, 69, rfl⟩
abbrev main_v55 : Ref sig .tc := ⟨.hbm, 70, rfl⟩
abbrev main_v56 : Ref sig .tc := ⟨.hbm, 71, rfl⟩
abbrev main_cst_6 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_cst_7 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_cst_8 : Ref sig .tc := ⟨.hbm, 123, rfl⟩
abbrev main_v106 : Ref sig .tc := ⟨.hbm, 124, rfl⟩
abbrev main_cst_9 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_cst_10 : Ref sig .tc := ⟨.hbm, 142, rfl⟩
abbrev main_v123 : Ref sig .tc := ⟨.hbm, 143, rfl⟩
abbrev main_cst_11 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_cst_12 : Ref sig .tc := ⟨.hbm, 148, rfl⟩
abbrev main_v127 : Ref sig .tc := ⟨.hbm, 149, rfl⟩
abbrev main_v128 : Ref sig .tc := ⟨.hbm, 150, rfl⟩
abbrev main_cst_13 : Ref sig .tc := ⟨.hbm, 151, rfl⟩
abbrev main_v129 : Ref sig .tc := ⟨.hbm, 152, rfl⟩
abbrev main_v130 : Ref sig .tc := ⟨.hbm, 153, rfl⟩
abbrev main_cst_14 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_cst_15 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_cst_16 : Ref sig .tc := ⟨.hbm, 168, rfl⟩
abbrev main_v143 : Ref sig .tc := ⟨.hbm, 169, rfl⟩
abbrev main_v144 : Ref sig .tc := ⟨.hbm, 170, rfl⟩
abbrev main_cst_17 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_cst_18 : Ref sig .tc := ⟨.hbm, 178, rfl⟩
abbrev main_v151 : Ref sig .tc := ⟨.hbm, 179, rfl⟩
abbrev main_v152 : Ref sig .tc := ⟨.hbm, 180, rfl⟩
abbrev main_cst_19 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_cst_20 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩

abbrev nD : Nat := 1
abbrev τ : Topo := Topo.v7x

variable {F : FTy → Type} [FloatOps F]
-- ==== Kernel2.lean ====
abbrev S8192x512 : Shape := ⟨2, ![8192, 512]⟩
abbrev S1x8192x1024 : Shape := ⟨3, ![1, 8192, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S1024x1024 : Shape := ⟨2, ![1024, 1024]⟩
abbrev S2816x1024 : Shape := ⟨2, ![2816, 1024]⟩
abbrev S8192x1024 : Shape := ⟨2, ![8192, 1024]⟩
abbrev S8192x2816 : Shape := ⟨2, ![8192, 2816]⟩
abbrev S8x1024 : Shape := ⟨2, ![8, 1024]⟩
abbrev S256x512 : Shape := ⟨2, ![256, 512]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S512 : Shape := ⟨1, ![512]⟩
abbrev S512x1 : Shape := ⟨2, ![512, 1]⟩
abbrev S_ : Shape := ⟨0, ![]⟩
abbrev S1x512 : Shape := ⟨2, ![1, 512]⟩
abbrev S512x512 : Shape := ⟨2, ![512, 512]⟩
abbrev S8192x5632 : Shape := ⟨2, ![8192, 5632]⟩
abbrev S256x5632 : Shape := ⟨2, ![256, 5632]⟩
abbrev S1408x1024 : Shape := ⟨2, ![1408, 1024]⟩

abbrev nBuf : Space → Nat
  | .hbm => 77
  | .vmem => 54
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x8192x1024, .f32⟩
  | .hbm, ⟨3, _⟩ => ⟨S1x1024x1024, .f32⟩
  | .hbm, ⟨4, _⟩ => ⟨S1x1024, .f32⟩
  | .hbm, ⟨5, _⟩ => ⟨S1x1024x5632, .f32⟩
  | .hbm, ⟨6, _⟩ => ⟨S1x2816x1024, .f32⟩
  | .hbm, ⟨7, _⟩ => ⟨S1024, .f32⟩
  | .hbm, ⟨8, _⟩ => ⟨S1x8192x1024, .f32⟩
  | .hbm, ⟨9, _⟩ => ⟨S1024x5632, .f32⟩
  | .hbm, ⟨10, _⟩ => ⟨S1024x5632, .bf16⟩
  | .hbm, ⟨11, _⟩ => ⟨S1024x4x1408, .bf16⟩
  | .hbm, ⟨12, _⟩ => ⟨S4x1024x1408, .bf16⟩
  | .hbm, ⟨13, _⟩ => ⟨S1024x1024, .f32⟩
  | .hbm, ⟨14, _⟩ => ⟨S1024x1024, .bf16⟩
  | .hbm, ⟨15, _⟩ => ⟨S2816x1024, .f32⟩
  | .hbm, ⟨16, _⟩ => ⟨S2816x1024, .bf16⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .bf16⟩
  | .hbm, ⟨21, _⟩ => ⟨S8192x1024, .f32⟩
  | .hbm, ⟨22, _⟩ => ⟨S8192x1024, .bf16⟩
  | .hbm, ⟨23, _⟩ => ⟨S8192x2816, .bf16⟩
  | .hbm, ⟨24, _⟩ => ⟨S8192x2816, .bf16⟩
  | .hbm, ⟨25, _⟩ => ⟨S8192x2816, .bf16⟩
  | .hbm, ⟨26, _⟩ => ⟨S8192x1024, .f32⟩
  | .hbm, ⟨27, _⟩ => ⟨S8x1024, .f32⟩
  | .hbm, ⟨28, _⟩ => ⟨S512, .i32⟩
  | .hbm, ⟨29, _⟩ => ⟨S512x1, .i32⟩
  | .hbm, ⟨30, _⟩ => ⟨S_, .i32⟩
  | .hbm, ⟨31, _⟩ => ⟨S_, .i32⟩
  | .hbm, ⟨32, _⟩ => ⟨S512x1, .i32⟩
  | .hbm, ⟨33, _⟩ => ⟨S512x1, .i32⟩
  | .hbm, ⟨34, _⟩ => ⟨S512x1, .i32⟩
  | .hbm, ⟨35, _⟩ => ⟨S_, .i32⟩
  | .hbm, ⟨36, _⟩ => ⟨S512x1, .i32⟩
  | .hbm, ⟨37, _⟩ => ⟨S512x1, .i1⟩
  | .hbm, ⟨38, _⟩ => ⟨S512x1, .i32⟩
  | .hbm, ⟨39, _⟩ => ⟨S512x1, .i32⟩
  | .hbm, ⟨40, _⟩ => ⟨S_, .i32⟩
  | .hbm, ⟨41, _⟩ => ⟨S512x1, .i32⟩
  | .hbm, ⟨42, _⟩ => ⟨S512x1, .i1⟩
  | .hbm, ⟨43, _⟩ => ⟨S512x1, .i1⟩
  | .hbm, ⟨44, _⟩ => ⟨S_, .i32⟩
  | .hbm, ⟨45, _⟩ => ⟨S512x1, .i32⟩
  | .hbm, ⟨46, _⟩ => ⟨S512x1, .i32⟩
  | .hbm, ⟨47, _⟩ => ⟨S512x1, .i32⟩
  | .hbm, ⟨48, _⟩ => ⟨S1x512, .i32⟩
  | .hbm, ⟨49, _⟩ => ⟨S_, .i32⟩
  | .hbm, ⟨50, _⟩ => ⟨S_, .i32⟩
  | .hbm, ⟨51, _⟩ => ⟨S1x512, .i32⟩
  | .hbm, ⟨52, _⟩ => ⟨S1x512, .i32⟩
  | .hbm, ⟨53, _⟩ => ⟨S1x512, .i32⟩
  | .hbm, ⟨54, _⟩ => ⟨S_, .i32⟩
  | .hbm, ⟨55, _⟩ => ⟨S1x512, .i32⟩
  | .hbm, ⟨56, _⟩ => ⟨S1x512, .i1⟩
  | .hbm, ⟨57, _⟩ => ⟨S1x512, .i32⟩
  | .hbm, ⟨58, _⟩ => ⟨S1x512, .i32⟩
  | .hbm, ⟨59, _⟩ => ⟨S_, .i32⟩
  | .hbm, ⟨60, _⟩ => ⟨S1x512, .i32⟩
  | .hbm, ⟨61, _⟩ => ⟨S1x512, .i1⟩
  | .hbm, ⟨62, _⟩ => ⟨S1x512, .i1⟩
  | .hbm, ⟨63, _⟩ => ⟨S_, .i32⟩
  | .hbm, ⟨64, _⟩ => ⟨S1x512, .i32⟩
  | .hbm, ⟨65, _⟩ => ⟨S1x512, .i32⟩
  | .hbm, ⟨66, _⟩ => ⟨S1x512, .i32⟩
  | .hbm, ⟨67, _⟩ => ⟨S512x512, .i32⟩
  | .hbm, ⟨68, _⟩ => ⟨S512x512, .i32⟩
  | .hbm, ⟨69, _⟩ => ⟨S512x512, .i1⟩
  | .hbm, ⟨70, _⟩ => ⟨S512x512, .bf16⟩
  | .hbm, ⟨71, _⟩ => ⟨S8192x5632, .bf16⟩
  | .hbm, ⟨72, _⟩ => ⟨S8192x1024, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1x1024, .f32⟩
  | .local _ .vmem, ⟨8, _⟩ => ⟨S4x1024x1408, .bf16⟩
  | .local _ .vmem, ⟨9, _⟩ => ⟨S2816x1024, .bf16⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x2816, .bf16⟩
  | .local _ .vmem, ⟨24, _⟩ => ⟨S256x2816, .bf16⟩
  | .local _ .vmem, ⟨25, _⟩ => ⟨S256x1024, .f32⟩
  | .local _ .vmem, ⟨26, _⟩ => ⟨S256x1024, .f32⟩
  | .local _ .vmem, ⟨27, _⟩ => ⟨S8x1024, .f32⟩
  | .local _ .vmem, ⟨28, _⟩ => ⟨S256x1024, .f32⟩
  | .local _ .vmem, ⟨29, _⟩ => ⟨S256x1024, .f32⟩
  | .local _ .vmem, ⟨30, _⟩ => ⟨S2816x1024, .bf16⟩
  | .local _ .vmem, ⟨31, _⟩ => ⟨S256x2816, .bf16⟩
  | .local _ .vmem, ⟨32, _⟩ => ⟨S256x2816, .bf16⟩
  | .local _ .vmem, ⟨33, _⟩ => ⟨S256x2816, .bf16⟩
  | .local _ .vmem, ⟨34, _⟩ => ⟨S256x2816, .bf16⟩
  | .local _ .vmem, ⟨35, _⟩ => ⟨S4x1024x1408, .bf16⟩
  | .local _ .vmem, ⟨36, _⟩ => ⟨S256x1024, .f32⟩
  | .local _ .vmem, ⟨37, _⟩ => ⟨S256x1024, .f32⟩
  | .local _ .vmem, ⟨38, _⟩ => ⟨S1x1024, .f32⟩
  | .local _ .vmem, ⟨39, _⟩ => ⟨S1024x1024, .bf16⟩
  | .local _ .vmem, ⟨40, _⟩ => ⟨S256x512, .f32⟩
  | .local _ .vmem, ⟨41, _⟩ => ⟨S256x512, .f32⟩
  | .local _ .vmem, ⟨42, _⟩ => ⟨S512x512, .bf16⟩
  | .local _ .vmem, ⟨43, _⟩ => ⟨S256x5632, .bf16⟩
  | .local _ .vmem, ⟨44, _⟩ => ⟨S256x5632, .bf16⟩
  | .local _ .vmem, ⟨45, _⟩ => ⟨S256x1024, .f32⟩
  | .local _ .vmem, ⟨46, _⟩ => ⟨S256x1024, .f32⟩
  | .local _ .vmem, ⟨47, _⟩ => ⟨S256x512, .f32⟩
  | .local _ .vmem, ⟨48, _⟩ => ⟨S256x512, .f32⟩
  | .local _ .vmem, ⟨49, _⟩ => ⟨S256x512, .f32⟩
  | .local _ .vmem, ⟨50, _⟩ => ⟨S256x512, .f32⟩
  | .local _ .vmem, ⟨51, _⟩ => ⟨S256x512, .f32⟩
  | .local _ .vmem, ⟨52, _⟩ => ⟨S256x512, .f32⟩
  | .local _ .vmem, ⟨53, _⟩ => ⟨S8x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev main_v11_5 : Ref sig .tc := ⟨.hbm, 25, rfl⟩
abbrev main_v11_6 : Ref sig .tc := ⟨.hbm, 26, rfl⟩
abbrev main_v11_7 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v14 : Ref sig .tc := ⟨.hbm, 47, rfl⟩
abbrev main_v15 : Ref sig .tc := ⟨.hbm, 48, rfl⟩
abbrev main_c_0 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_c : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_0 : Ref sig .tc := ⟨.hbm, 63, rfl⟩
abbrev main_call1_v12 : Ref sig .tc := ⟨.hbm, 64, rfl⟩
abbrev main_call1_v13 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21_0 : Ref sig .tc := ⟨.hbm, 71, rfl⟩
abbrev main_v21_1 : Ref sig .tc := ⟨.hbm, 72, rfl⟩
abbrev main_v21_2 : Ref sig .tc := ⟨.hbm, 73, rfl⟩
abbrev main_v21_3 : Ref sig .tc := ⟨.hbm, 74, rfl⟩
abbrev main_v21_4 : Ref sig .tc := ⟨.hbm, 75, rfl⟩
abbrev main_v21_5 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc1_stg0_0 : Ref sig .tc := ⟨.vmem, 28, rfl⟩
abbrev cc1_stg0_1 : Ref sig .tc := ⟨.vmem, 29, rfl⟩
abbrev cc1_stg1_0 : Ref sig .tc := ⟨.vmem, 30, rfl⟩
abbrev cc1_stg2_0 : Ref sig .tc := ⟨.vmem, 31, rfl⟩
abbrev cc1_stg2_1 : Ref sig .tc := ⟨.vmem, 32, rfl⟩
abbrev cc1_stg3_0 : Ref sig .tc := ⟨.vmem, 33, rfl⟩
abbrev cc1_stg3_1 : Ref sig .tc := ⟨.vmem, 34, rfl⟩
abbrev cc1_stg4_0 : Ref sig .tc := ⟨.vmem, 35, rfl⟩
abbrev cc1_stg5_0 : Ref sig .tc := ⟨.vmem, 36, rfl⟩
abbrev cc1_stg5_1 : Ref sig .tc := ⟨.vmem, 37, rfl⟩
abbrev cc1_stg6_0 : Ref sig .tc := ⟨.vmem, 38, rfl⟩
abbrev cc1_stg7_0 : Ref sig .tc := ⟨.vmem, 39, rfl⟩
abbrev cc1_stg8_0 : Ref sig .tc := ⟨.vmem, 40, rfl⟩
abbrev cc1_stg8_1 : Ref sig .tc := ⟨.vmem, 41, rfl⟩
abbrev cc1_stg9_0 : Ref sig .tc := ⟨.vmem, 42, rfl⟩
abbrev cc1_stg10_0 : Ref sig .tc := ⟨.vmem, 43, rfl⟩
abbrev cc1_stg10_1 : Ref sig .tc := ⟨.vmem, 44, rfl⟩
abbrev cc1_stg11_0 : Ref sig .tc := ⟨.vmem, 45, rfl⟩
abbrev cc1_stg11_1 : Ref sig .tc := ⟨.vmem, 46, rfl⟩
abbrev cc1_stg12_0 : Ref sig .tc := ⟨.vmem, 47, rfl⟩
abbrev cc1_stg12_1 : Ref sig .tc := ⟨.vmem, 48, rfl⟩
abbrev cc1_stg13_0 : Ref sig .tc := ⟨.vmem, 49, rfl⟩
abbrev cc1_stg13_1 : Ref sig .tc := ⟨.vmem, 50, rfl⟩
abbrev cc1_stg14_0 : Ref sig .tc := ⟨.vmem, 51, rfl⟩
abbrev cc1_stg14_1 : Ref sig .tc := ⟨.vmem, 52, rfl⟩
abbrev cc1_stg15_0 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc1_sem0_0 : DmaSem sig := 28
abbrev cc1_sem0_1 : DmaSem sig := 29
abbrev cc1_sem1_0 : DmaSem sig := 30
abbrev cc1_sem2_0 : DmaSem sig := 31
abbrev cc1_sem2_1 : DmaSem sig := 32
abbrev cc1_sem3_0 : DmaSem sig := 33
abbrev cc1_sem3_1 : DmaSem sig := 34
abbrev cc1_sem4_0 : DmaSem sig := 35
abbrev cc1_sem5_0 : DmaSem sig := 36
abbrev cc1_sem5_1 : DmaSem sig := 37
abbrev cc1_sem6_0 : DmaSem sig := 38
abbrev cc1_sem7_0 : DmaSem sig := 39
abbrev cc1_sem8_0 : DmaSem sig := 40
abbrev cc1_sem8_1 : DmaSem sig := 41
abbrev cc1_sem9_0 : DmaSem sig := 42
abbrev cc1_sem10_0 : DmaSem sig := 43
abbrev cc1_sem10_1 : DmaSem sig := 44
abbrev cc1_sem11_0 : DmaSem sig := 45
abbrev cc1_sem11_1 : DmaSem sig := 46
abbrev cc1_sem12_0 : DmaSem sig := 47
abbrev cc1_sem12_1 : DmaSem sig := 48
abbrev cc1_sem13_0 : DmaSem sig := 49
abbrev cc1_sem13_1 : DmaSem sig := 50
abbrev cc1_sem14_0 : DmaSem sig := 51
abbrev cc1_sem14_1 : DmaSem sig := 52
abbrev cc1_sem15_0 : DmaSem sig := 53

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4x1024x1408 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S512x512 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S256x5632 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S256x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S256x512 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 1 → Memref sig .tc .vmem S8x1024 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]
-- ==== Reference2Ideal.lean ====
abbrev S8192x512 : Shape := ⟨2, ![8192, 512]⟩
abbrev S1x8192x1024 : Shape := ⟨3, ![1, 8192, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1x8192x512 : Shape := ⟨3, ![1, 8192, 512]⟩
abbrev S1024x1024 : Shape := ⟨2, ![1024, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x5632 : Shape := ⟨2, ![1024, 5632]⟩
abbrev S1x8192x5632 : Shape := ⟨3, ![1, 8192, 5632]⟩
abbrev S1x8192x2816 : Shape := ⟨3, ![1, 8192, 2816]⟩
abbrev S2816x1024 : Shape := ⟨2, ![2816, 1024]⟩
abbrev S8192 : Shape := ⟨1, ![8192]⟩
abbrev S8192x8x64 : Shape := ⟨3, ![8192, 8, 64]⟩
abbrev S8192x8 : Shape := ⟨2, ![8192, 8]⟩
abbrev S8192x8x1 : Shape := ⟨3, ![8192, 8, 1]⟩
abbrev S8192x1024 : Shape := ⟨2, ![8192, 1024]⟩
abbrev S8192x2816 : Shape := ⟨2, ![8192, 2816]⟩
abbrev S6x1024 : Shape := ⟨2, ![6, 1024]⟩
abbrev S8x1024 : Shape := ⟨2, ![8, 1024]⟩
abbrev S8192x5632 : Shape := ⟨2, ![8192, 5632]⟩
abbrev S7x1024 : Shape := ⟨2, ![7, 1024]⟩

abbrev nBuf : Space → Nat
  | .hbm => 206
  | .vmem => 0
  | .smem => 0
  | _ => 0

abbrev hbmTy0_0 (i : Nat) : BufTy := match i % 128 with
  | 0 => ⟨S8192x512, .f32⟩
  | 1 => ⟨S8192x512, .f32⟩
  | 2 => ⟨S1x8192x1024, .f32⟩
  | 3 => ⟨S1x1024x1024, .f32⟩
  | 4 => ⟨S1x1024, .f32⟩
  | 5 => ⟨S1x1024x5632, .f32⟩
  | 6 => ⟨S1x2816x1024, .f32⟩
  | 7 => ⟨S1024, .f32⟩
  | 8 => ⟨S1x8192x1024, .f32⟩
  | 9 => ⟨S1x8192x512, .f32⟩
  | 10 => ⟨S1x8192x512, .f32⟩
  | 11 => ⟨S1x8192x1024, .f32⟩
  | 12 => ⟨S1024x1024, .f32⟩
  | 13 => ⟨S1x8192x1024, .f32⟩
  | 14 => ⟨S1x8192x1024, .f32⟩
  | 15 => ⟨S1024, .f32⟩
  | 16 => ⟨S1x8192x1024, .f32⟩
  | 17 => ⟨S_, .f32⟩
  | 18 => ⟨S1x8192, .f32⟩
  | 19 => ⟨S1x8192x1, .f32⟩
  | 20 => ⟨S_, .f32⟩
  | 21 => ⟨S1x8192x1, .f32⟩
  | 22 => ⟨S1x8192x1, .f32⟩
  | 23 => ⟨S_, .f32⟩
  | 24 => ⟨S1x8192x1, .f32⟩
  | 25 => ⟨S1x8192x1, .f32⟩
  | 26 => ⟨S1x8192x1, .f32⟩
  | 27 => ⟨S1x8192x1, .f32⟩
  | 28 => ⟨S_, .f32⟩
  | 29 => ⟨S1x8192x1, .f32⟩
  | 30 => ⟨S1x8192x1, .f32⟩
  | 31 => ⟨S1x8192x1024, .f32⟩
  | 32 => ⟨S1x8192x1024, .f32⟩
  | 33 => ⟨S1x1x1024, .f32⟩
  | 34 => ⟨S1x8192x1024, .f32⟩
  | 35 => ⟨S1x8192x1024, .f32⟩
  | 36 => ⟨S1024x5632, .f32⟩
  | 37 => ⟨S1x8192x5632, .f32⟩
  | 38 => ⟨S1x8192x2816, .f32⟩
  | 39 => ⟨S1x8192x2816, .f32⟩
  | 40 => ⟨S1x8192x2816, .f32⟩
  | 41 => ⟨S1x8192x2816, .f32⟩
  | 42 => ⟨S_, .f32⟩
  | 43 => ⟨S1x8192x2816, .f32⟩
  | 44 => ⟨S1x8192x2816, .f32⟩
  | 45 => ⟨S_, .f32⟩
  | 46 => ⟨S1x8192x2816, .f32⟩
  | 47 => ⟨S1x8192x2816, .f32⟩
  | 48 => ⟨S_, .f32⟩
  | 49 => ⟨S1x8192x2816, .f32⟩
  | 50 => ⟨S1x8192x2816, .f32⟩
  | 51 => ⟨S1x8192x2816, .f32⟩
  | 52 => ⟨S1x8192x2816, .f32⟩
  | 53 => ⟨S1x8192x2816, .f32⟩
  | 54 => ⟨S2816x1024, .f32⟩
  | 55 => ⟨S1x8192x1024, .f32⟩
  | 56 => ⟨S1x8192x1024, .f32⟩
  | 57 => ⟨S1x8192x1024, .f32⟩
  | 58 => ⟨S_, .f32⟩
  | 59 => ⟨S1x8192, .f32⟩
  | 60 => ⟨S1x8192x1, .f32⟩
  | 61 => ⟨S_, .f32⟩
  | 62 => ⟨S1x8192x1, .f32⟩
  | 63 => ⟨S1x8192x1, .f32⟩
  | 64 => ⟨S_, .f32⟩
  | 65 => ⟨S1x8192x1, .f32⟩
  | 66 => ⟨S1x8192x1, .f32⟩
  | 67 => ⟨S1x8192x1, .f32⟩
  | 68 => ⟨S1x8192x1, .f32⟩
  | 69 => ⟨S_, .f32⟩
  | 70 => ⟨S1x8192x1, .f32⟩
  | 71 => ⟨S1x8192x1, .f32⟩
  | 72 => ⟨S1x8192x1024, .f32⟩
  | 73 => ⟨S1x8192x1024, .f32⟩
  | 74 => ⟨S1x1x1024, .f32⟩
  | 75 => ⟨S1x8192x1024, .f32⟩
  | 76 => ⟨S1x8192x1024, .f32⟩
  | 77 => ⟨S1x8192x1024, .f32⟩
  | 78 => ⟨S1x8192x1024, .f32⟩
  | 79 => ⟨S_, .f32⟩
  | 80 => ⟨S1x8192x1024, .f32⟩
  | 81 => ⟨S1x8192x1024, .f32⟩
  | 82 => ⟨S_, .f32⟩
  | 83 => ⟨S1x8192, .f32⟩
  | 84 => ⟨S_, .f32⟩
  | 85 => ⟨S1x8192, .f32⟩
  | 86 => ⟨S1x8192, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S1x8192, .f32⟩
  | 95 => ⟨S_, .f32⟩
  | 96 => ⟨S1x8192, .f32⟩
  | 97 => ⟨S1x8192, .f32⟩
  | 98 => ⟨S1x8192x1024, .f32⟩
  | 99 => ⟨S1x8192x1024, .f32⟩
  | 100 => ⟨S1x8192x1024, .f32⟩
  | 101 => ⟨S_, .f32⟩
  | 102 => ⟨S1x1024, .f32⟩
  | 103 => ⟨S1x1x1024, .f32⟩
  | 104 => ⟨S1x8192x1024, .f32⟩
  | 105 => ⟨S1x8192x1024, .f32⟩
  | 106 => ⟨S_, .f32⟩
  | 107 => ⟨S1024, .f32⟩
  | 108 => ⟨S1x8192x1024, .f32⟩
  | 109 => ⟨S_, .f32⟩
  | 110 => ⟨S1x8192, .f32⟩
  | 111 => ⟨S1x8192x1, .f32⟩
  | 112 => ⟨S1x8192x1024, .f32⟩
  | 113 => ⟨S1x8192x1024, .f32⟩
  | 114 => ⟨S1x8192x1, .f32⟩
  | 115 => ⟨S_, .f32⟩
  | 116 => ⟨S1x8192x1, .f32⟩
  | 117 => ⟨S1x8192x1, .f32⟩
  | 118 => ⟨S_, .f32⟩
  | 119 => ⟨S8192, .f32⟩
  | 120 => ⟨S1x8192, .f32⟩
  | 121 => ⟨S1x8192x1024, .f32⟩
  | 122 => ⟨S1x8192x1024, .f32⟩
  | 123 => ⟨S1x8192x1024, .f32⟩
  | 124 => ⟨S1x8192x1024, .f32⟩
  | 125 => ⟨S1x8192x1024, .f32⟩
  | 126 => ⟨S1x8192x2816, .f32⟩
  | 127 => ⟨S1x8192x2816, .f32⟩
  | _ => ⟨S8192x512, .f32⟩

abbrev hbmTy0_1 (i : Nat) : BufTy := match i % 128 with
  | 0 => ⟨S1x8192x2816, .f32⟩
  | 1 => ⟨S1x8192x2816, .f32⟩
  | 2 => ⟨S1x8192x2816, .f32⟩
  | 3 => ⟨S1x8192x2816, .f32⟩
  | 4 => ⟨S1x8192x2816, .f32⟩
  | 5 => ⟨S_, .f32⟩
  | 6 => ⟨S1x8192x5632, .f32⟩
  | 7 => ⟨S_, .f32⟩
  | 8 => ⟨S1x8192x5632, .f32⟩
  | 9 => ⟨S1x8192x5632, .f32⟩
  | 10 => ⟨S1x8192x1024, .f32⟩
  | 11 => ⟨S1x8192x1024, .f32⟩
  | 12 => ⟨S_, .f32⟩
  | 13 => ⟨S1x1024, .f32⟩
  | 14 => ⟨S1x1x1024, .f32⟩
  | 15 => ⟨S1x8192x1024, .f32⟩
  | 16 => ⟨S1x8192x1024, .f32⟩
  | 17 => ⟨S_, .f32⟩
  | 18 => ⟨S1024, .f32⟩
  | 19 => ⟨S1x8192x1024, .f32⟩
  | 20 => ⟨S_, .f32⟩
  | 21 => ⟨S1x8192, .f32⟩
  | 22 => ⟨S1x8192x1, .f32⟩
  | 23 => ⟨S1x8192x1024, .f32⟩
  | 24 => ⟨S1x8192x1024, .f32⟩
  | 25 => ⟨S1x8192x1024, .f32⟩
  | 26 => ⟨S1x8192x1, .f32⟩
  | 27 => ⟨S_, .f32⟩
  | 28 => ⟨S1x8192x1, .f32⟩
  | 29 => ⟨S1x8192x1, .f32⟩
  | 30 => ⟨S_, .f32⟩
  | 31 => ⟨S8192, .f32⟩
  | 32 => ⟨S1x8192, .f32⟩
  | 33 => ⟨S1x8192x1024, .f32⟩
  | 34 => ⟨S1x8192x1024, .f32⟩
  | 35 => ⟨S1x8192x1024, .f32⟩
  | 36 => ⟨S1x8192x1024, .f32⟩
  | 37 => ⟨S1x8192x1024, .f32⟩
  | 38 => ⟨S1x1024, .f32⟩
  | 39 => ⟨S1x8192x1024, .f32⟩
  | 40 => ⟨S1x8192x512, .f32⟩
  | 41 => ⟨S1x8192x512, .f32⟩
  | 42 => ⟨S1x8192x512, .f32⟩
  | 43 => ⟨S1x8192x512, .f32⟩
  | 44 => ⟨S8192x8x64, .f32⟩
  | 45 => ⟨S_, .f32⟩
  | 46 => ⟨S8192x8, .f32⟩
  | 47 => ⟨S8192x8x1, .f32⟩
  | 48 => ⟨S8192x8x64, .f32⟩
  | 49 => ⟨S8192x512, .f32⟩
  | 50 => ⟨S8192x1024, .f32⟩
  | 51 => ⟨S8192x1024, .bf16⟩
  | 52 => ⟨S8192x1024, .f32⟩
  | 53 => ⟨S8192x1024, .bf16⟩
  | 54 => ⟨S8192x2816, .f32⟩
  | 55 => ⟨S8192x2816, .bf16⟩
  | 56 => ⟨S8192x1024, .f32⟩
  | 57 => ⟨S_, .f32⟩
  | 58 => ⟨S1024, .f32⟩
  | 59 => ⟨S_, .f32⟩
  | 60 => ⟨S1024, .f32⟩
  | 61 => ⟨S1024, .f32⟩
  | 62 => ⟨S_, .f32⟩
  | 63 => ⟨S1024, .f32⟩
  | 64 => ⟨S1024, .f32⟩
  | 65 => ⟨S1x1024, .f32⟩
  | 66 => ⟨S1x1024, .f32⟩
  | 67 => ⟨S_, .f32⟩
  | 68 => ⟨S6x1024, .f32⟩
  | 69 => ⟨S8x1024, .f32⟩
  | 70 => ⟨S8192x5632, .f32⟩
  | 71 => ⟨S8192x5632, .bf16⟩
  | 72 => ⟨S8192x1024, .f32⟩
  | 73 => ⟨S8192x512, .f32⟩
  | 74 => ⟨S8192x512, .f32⟩
  | 75 => ⟨S_, .f32⟩
  | 76 => ⟨S7x1024, .f32⟩
  | 77 => ⟨S8x1024, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v27_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v27_1 : Ref sig .tc := ⟨.hbm, 51, rfl⟩
abbrev main_v27_0 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_cst_4 : Ref sig .tc := ⟨.hbm, 61, rfl⟩
abbrev main_v35 : Ref sig .tc := ⟨.hbm, 62, rfl⟩
abbrev main_v36 : Ref sig .tc := ⟨.hbm, 63, rfl⟩
abbrev main_cst_5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_7 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_cst_9 : Ref sig .tc := ⟨.hbm, 84, rfl⟩
abbrev main_v53 : Ref sig .tc := ⟨.hbm, 85, rfl⟩
abbrev main_v54 : Ref sig .tc := ⟨.hbm, 86, rfl⟩
abbrev main_cst_10 : Ref sig .tc := ⟨.hbm, 87, rfl⟩
abbrev main_v55 : Ref sig .tc := ⟨.hbm, 88, rfl⟩
abbrev main_cst_11 : Ref sig .tc := ⟨.hbm, 89, rfl⟩
abbrev main_v56 : Ref sig .tc := ⟨.hbm, 90, rfl⟩
abbrev main_cst_12 : Ref sig .tc := ⟨.hbm, 91, rfl⟩
abbrev main_cst_13 : Ref sig .tc := ⟨.hbm, 92, rfl⟩
abbrev main_v57 : Ref sig .tc := ⟨.hbm, 93, rfl⟩
abbrev main_v58 : Ref sig .tc := ⟨.hbm, 94, rfl⟩
abbrev main_cst_14 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_15 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_16 : Ref sig .tc := ⟨.hbm, 106, rfl⟩
abbrev main_v68 : Ref sig .tc := ⟨.hbm, 107, rfl⟩
abbrev main_v69 : Ref sig .tc := ⟨.hbm, 108, rfl⟩
abbrev main_cst_17 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_18 : Ref sig .tc := ⟨.hbm, 115, rfl⟩
abbrev main_v75 : Ref sig .tc := ⟨.hbm, 116, rfl⟩
abbrev main_v76 : Ref sig .tc := ⟨.hbm, 117, rfl⟩
abbrev main_cst_19 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_call1_v0 : Ref sig .tc := ⟨.hbm, 129, rfl⟩
abbrev main_call1_v1 : Ref sig .tc := ⟨.hbm, 130, rfl⟩
abbrev main_call1_v2 : Ref sig .tc := ⟨.hbm, 131, rfl⟩
abbrev main_v87 : Ref sig .tc := ⟨.hbm, 132, rfl⟩
abbrev main_cst_20 : Ref sig .tc := ⟨.hbm, 133, rfl⟩
abbrev main_v88 : Ref sig .tc := ⟨.hbm, 134, rfl⟩
abbrev main_cst_21 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_22 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_23 : Ref sig .tc := ⟨.hbm, 145, rfl⟩
abbrev main_v97 : Ref sig .tc := ⟨.hbm, 146, rfl⟩
abbrev main_v98 : Ref sig .tc := ⟨.hbm, 147, rfl⟩
abbrev main_cst_24 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_cst_25 : Ref sig .tc := ⟨.hbm, 155, rfl⟩
abbrev main_v105 : Ref sig .tc := ⟨.hbm, 156, rfl⟩
abbrev main_v106 : Ref sig .tc := ⟨.hbm, 157, rfl⟩
abbrev main_cst_26 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_cst_27 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_cst_28 : Ref sig .tc := ⟨.hbm, 185, rfl⟩
abbrev main_v132 : Ref sig .tc := ⟨.hbm, 186, rfl⟩
abbrev main_cst_29 : Ref sig .tc := ⟨.hbm, 187, rfl⟩
abbrev main_v133 : Ref sig .tc := ⟨.hbm, 188, rfl⟩
abbrev main_v134 : Ref sig .tc := ⟨.hbm, 189, rfl⟩
abbrev main_cst_30 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_cst_31 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_cst_32 : Ref sig .tc := ⟨.hbm, 203, rfl⟩
abbrev main_v146 : Ref sig .tc := ⟨.hbm, 204, rfl⟩
abbrev main_v147 : Ref sig .tc := ⟨.hbm, 205, rfl⟩

abbrev nD : Nat := 1
abbrev τ : Topo := Topo.v7x

variable {F : FTy → Type} [FloatOps F]
-- ==== Kernel3.lean ====
abbrev S8x1024 : Shape := ⟨2, ![8, 1024]⟩
abbrev S8x512 : Shape := ⟨2, ![8, 512]⟩
abbrev S1x1024 : Shape := ⟨2, ![1, 1024]⟩
abbrev S2x512 : Shape := ⟨2, ![2, 512]⟩
abbrev S1x512 : Shape := ⟨2, ![1, 512]⟩
abbrev S1024 : Shape := ⟨1, ![1024]⟩
abbrev S_ : Shape := ⟨0, ![]⟩
abbrev S8x1x512 : Shape := ⟨3, ![8, 1, 512]⟩
abbrev S8x1x1024 : Shape := ⟨3, ![8, 1, 1024]⟩
abbrev S8x2x1024 : Shape := ⟨3, ![8, 2, 1024]⟩
abbrev S8x8x1024 : Shape := ⟨3, ![8, 8, 1024]⟩
abbrev S3x1024 : Shape := ⟨2, ![3, 1024]⟩
abbrev S8x128 : Shape := ⟨2, ![8, 128]⟩
abbrev S1x8x1024 : Shape := ⟨3, ![1, 8, 1024]⟩
abbrev S1x1x1024 : Shape := ⟨3, ![1, 1, 1024]⟩
abbrev S1 : Shape := ⟨1, ![1]⟩
abbrev S1x1x1 : Shape := ⟨3, ![1, 1, 1]⟩
abbrev S1x1 : Shape := ⟨2, ![1, 1]⟩

abbrev nBuf : Space → Nat
  | .hbm => 97
  | .vmem => 9
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x512, .f32⟩
  | .hbm, ⟨3, _⟩ => ⟨S8x512, .f32⟩
  | .hbm, ⟨4, _⟩ => ⟨S8x1024, .f32⟩
  | .hbm, ⟨5, _⟩ => ⟨S8x1024, .f32⟩
  | .hbm, ⟨6, _⟩ => ⟨S1x1024, .f32⟩
  | .hbm, ⟨7, _⟩ => ⟨S2x512, .f32⟩
  | .hbm, ⟨8, _⟩ => ⟨S1x512, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S2x512, .f32⟩
  | .hbm, ⟨13, _⟩ => ⟨S1x512, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S2x512, .f32⟩
  | .hbm, ⟨18, _⟩ => ⟨S1x512, .f32⟩
  | .hbm, ⟨19, _⟩ => ⟨S1x1024, .f32⟩
  | .hbm, ⟨20, _⟩ => ⟨S1024, .f32⟩
  | .hbm, ⟨21, _⟩ => ⟨S_, .f32⟩
  | .hbm, ⟨22, _⟩ => ⟨S8x1x512, .f32⟩
  | .hbm, ⟨23, _⟩ => ⟨S8x1x1024, .f32⟩
  | .hbm, ⟨24, _⟩ => ⟨S8x1x1024, .f32⟩
  | .hbm, ⟨25, _⟩ => ⟨S8x1x1024, .f32⟩
  | .hbm, ⟨26, _⟩ => ⟨S8x1x512, .f32⟩
  | .hbm, ⟨27, _⟩ => ⟨S8x1x512, .f32⟩
  | .hbm, ⟨28, _⟩ => ⟨S8x1x1024, .f32⟩
  | .hbm, ⟨29, _⟩ => ⟨S8x1x1024, .f32⟩
  | .hbm, ⟨30, _⟩ => ⟨S8x1x1024, .f32⟩
  | .hbm, ⟨31, _⟩ => ⟨S_, .f32⟩
  | .hbm, ⟨32, _⟩ => ⟨S8x2x1024, .f32⟩
  | .hbm, ⟨33, _⟩ => ⟨S8x8x1024, .f32⟩
  | .hbm, ⟨34, _⟩ => ⟨S_, .f32⟩
  | .hbm, ⟨35, _⟩ => ⟨S1x512, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S_, .f32⟩
  | .hbm, ⟨40, _⟩ => ⟨S3x1024, .f32⟩
  | .hbm, ⟨41, _⟩ => ⟨S8x1024, .f32⟩
  | .hbm, ⟨42, _⟩ => ⟨S_, .f32⟩
  | .hbm, ⟨43, _⟩ => ⟨S1x512, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S_, .f32⟩
  | .hbm, ⟨48, _⟩ => ⟨S3x1024, .f32⟩
  | .hbm, ⟨49, _⟩ => ⟨S8x1024, .f32⟩
  | .hbm, ⟨50, _⟩ => ⟨S_, .f32⟩
  | .hbm, ⟨51, _⟩ => ⟨S1x512, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S_, .f32⟩
  | .hbm, ⟨56, _⟩ => ⟨S3x1024, .f32⟩
  | .hbm, ⟨57, _⟩ => ⟨S8x1024, .f32⟩
  | .hbm, ⟨58, _⟩ => ⟨S8x1024, .f32⟩
  | .hbm, ⟨59, _⟩ => ⟨S8x1024, .f32⟩
  | .hbm, ⟨60, _⟩ => ⟨S8x1024, .f32⟩
  | .hbm, ⟨61, _⟩ => ⟨S8x1024, .f32⟩
  | .hbm, ⟨62, _⟩ => ⟨S8x128, .f32⟩
  | .hbm, ⟨63, _⟩ => ⟨S1x1, .f32⟩
  | .hbm, ⟨64, _⟩ => ⟨S_, .f32⟩
  | .hbm, ⟨65, _⟩ => ⟨S1x1024, .f32⟩
  | .hbm, ⟨66, _⟩ => ⟨S1x1024, .f32⟩
  | .hbm, ⟨67, _⟩ => ⟨S1024, .f32⟩
  | .hbm, ⟨68, _⟩ => ⟨S2x512, .f32⟩
  | .hbm, ⟨69, _⟩ => ⟨S1x512, .f32⟩
  | .hbm, ⟨70, _⟩ => ⟨S1x1024, .f32⟩
  | .hbm, ⟨71, _⟩ => ⟨S1x1024, .f32⟩
  | .hbm, ⟨72, _⟩ => ⟨S1024, .f32⟩
  | .hbm, ⟨73, _⟩ => ⟨S1x1024, .f32⟩
  | .hbm, ⟨74, _⟩ => ⟨S1x1024, .f32⟩
  | .hbm, ⟨75, _⟩ => ⟨S1024, .f32⟩
  | .hbm, ⟨76, _⟩ => ⟨S2x512, .f32⟩
  | .hbm, ⟨77, _⟩ => ⟨S1x512, .f32⟩
  | .hbm, ⟨78, _⟩ => ⟨S1x1024, .f32⟩
  | .hbm, ⟨79, _⟩ => ⟨S1x1024, .f32⟩
  | .hbm, ⟨80, _⟩ => ⟨S1024, .f32⟩
  | .hbm, ⟨81, _⟩ => ⟨S1x1024, .f32⟩
  | .hbm, ⟨82, _⟩ => ⟨S1x1024, .f32⟩
  | .hbm, ⟨83, _⟩ => ⟨S1024, .f32⟩
  | .hbm, ⟨84, _⟩ => ⟨S2x512, .f32⟩
  | .hbm, ⟨85, _⟩ => ⟨S1x512, .f32⟩
  | .hbm, ⟨86, _⟩ => ⟨S1x1024, .f32⟩
  | .hbm, ⟨87, _⟩ => ⟨S1x1024, .f32⟩
  | .hbm, ⟨88, _⟩ => ⟨S1024, .f32⟩
  | .hbm, ⟨89, _⟩ => ⟨S1x1024, .f32⟩
  | .hbm, ⟨90, _⟩ => ⟨S1x1024, .f32⟩
  | .hbm, ⟨91, _⟩ => ⟨S1024, .f32⟩
  | .hbm, ⟨92, _⟩ => ⟨S2x512, .f32⟩
  | .hbm, ⟨93, _⟩ => ⟨S1x512, .f32⟩
  | .hbm, ⟨94, _⟩ => ⟨S1x1024, .f32⟩
  | .hbm, ⟨95, _⟩ => ⟨S1x1024, .f32⟩
  | .hbm, ⟨96, _⟩ => ⟨S1024, .f32⟩
  | .local _ .vmem, ⟨0, _⟩ => ⟨S8x8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x128, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_0 : Ref sig .tc := ⟨.hbm, 31, rfl⟩
abbrev main_v9 : Ref sig .tc := ⟨.hbm, 32, rfl⟩
abbrev main_v10 : Ref sig .tc := ⟨.hbm, 33, rfl⟩
abbrev main_cst_1 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_v16 : Ref sig .tc := ⟨.hbm, 41, rfl⟩
abbrev main_cst_3 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_4 : Ref sig .tc := ⟨.hbm, 47, rfl⟩
abbrev main_v21 : Ref sig .tc := ⟨.hbm, 48, rfl⟩
abbrev main_v22 : Ref sig .tc := ⟨.hbm, 49, rfl⟩
abbrev main_cst_5 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_6 : Ref sig .tc := ⟨.hbm, 55, rfl⟩
abbrev main_v27 : Ref sig .tc := ⟨.hbm, 56, rfl⟩
abbrev main_v28 : Ref sig .tc := ⟨.hbm, 57, rfl⟩
abbrev main_v29_0 : Ref sig .tc := ⟨.hbm, 58, rfl⟩
abbrev main_v29_1 : Ref sig .tc := ⟨.hbm, 59, rfl⟩
abbrev main_v29_2 : Ref sig .tc := ⟨.hbm, 60, rfl⟩
abbrev main_v29_3 : Ref sig .tc := ⟨.hbm, 61, rfl⟩
abbrev main_v29_4 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference3Ideal.lean ====
abbrev S8x1024 : Shape := ⟨2, ![8, 1024]⟩
abbrev S8x512 : Shape := ⟨2, ![8, 512]⟩
abbrev S1x1024 : Shape := ⟨2, ![1, 1024]⟩
abbrev S2x512 : Shape := ⟨2, ![2, 512]⟩
abbrev S1x512 : Shape := ⟨2, ![1, 512]⟩
abbrev S1024 : Shape := ⟨1, ![1024]⟩
abbrev S_ : Shape := ⟨0, ![]⟩
abbrev S512 : Shape := ⟨1, ![512]⟩

abbrev nBuf : Space → Nat
  | .hbm => 264
  | .vmem => 0
  | .smem => 0
  | _ => 0

abbrev hbmTy0_0 (i : Nat) : BufTy := match i % 128 with
  | 0 => ⟨S8x1024, .f32⟩
  | 1 => ⟨S8x1024, .f32⟩
  | 2 => ⟨S8x512, .f32⟩
  | 3 => ⟨S8x512, .f32⟩
  | 4 => ⟨S8x1024, .f32⟩
  | 5 => ⟨S8x1024, .f32⟩
  | 6 => ⟨S1x1024, .f32⟩
  | 7 => ⟨S2x512, .f32⟩
  | 8 => ⟨S1x512, .f32⟩
  | 9 => ⟨S1x1024, .f32⟩
  | 10 => ⟨S1024, .f32⟩
  | 11 => ⟨S1x1024, .f32⟩
  | 12 => ⟨S2x512, .f32⟩
  | 13 => ⟨S1x512, .f32⟩
  | 14 => ⟨S1x1024, .f32⟩
  | 15 => ⟨S1024, .f32⟩
  | 16 => ⟨S1x1024, .f32⟩
  | 17 => ⟨S2x512, .f32⟩
  | 18 => ⟨S1x512, .f32⟩
  | 19 => ⟨S1x1024, .f32⟩
  | 20 => ⟨S1024, .f32⟩
  | 21 => ⟨S_, .f32⟩
  | 22 => ⟨S512, .f32⟩
  | 23 => ⟨S1x512, .f32⟩
  | 24 => ⟨S2x512, .f32⟩
  | 25 => ⟨S2x512, .i1⟩
  | 26 => ⟨S2x512, .f32⟩
  | 27 => ⟨S_, .f32⟩
  | 28 => ⟨S512, .f32⟩
  | 29 => ⟨S_, .f32⟩
  | 30 => ⟨S512, .f32⟩
  | 31 => ⟨S512, .f32⟩
  | 32 => ⟨S_, .f32⟩
  | 33 => ⟨S512, .f32⟩
  | 34 => ⟨S512, .i1⟩
  | 35 => ⟨S_, .f32⟩
  | 36 => ⟨S512, .f32⟩
  | 37 => ⟨S512, .i1⟩
  | 38 => ⟨S_, .f32⟩
  | 39 => ⟨S512, .f32⟩
  | 40 => ⟨S_, .f32⟩
  | 41 => ⟨S512, .f32⟩
  | 42 => ⟨S_, .f32⟩
  | 43 => ⟨S512, .f32⟩
  | 44 => ⟨S512, .f32⟩
  | 45 => ⟨S512, .f32⟩
  | 46 => ⟨S1x512, .f32⟩
  | 47 => ⟨S2x512, .f32⟩
  | 48 => ⟨S2x512, .f32⟩
  | 49 => ⟨S2x512, .f32⟩
  | 50 => ⟨S_, .f32⟩
  | 51 => ⟨S512, .f32⟩
  | 52 => ⟨S1x512, .f32⟩
  | 53 => ⟨S2x512, .f32⟩
  | 54 => ⟨S2x512, .f32⟩
  | 55 => ⟨S1x512, .f32⟩
  | 56 => ⟨S_, .f32⟩
  | 57 => ⟨S1x512, .f32⟩
  | 58 => ⟨S1x512, .f32⟩
  | 59 => ⟨S_, .f32⟩
  | 60 => ⟨S_, .f32⟩
  | 61 => ⟨S2x512, .f32⟩
  | 62 => ⟨S1x512, .f32⟩
  | 63 => ⟨S512, .f32⟩
  | 64 => ⟨S_, .f32⟩
  | 65 => ⟨S512, .f32⟩
  | 66 => ⟨S1x512, .f32⟩
  | 67 => ⟨S_, .f32⟩
  | 68 => ⟨S2x512, .f32⟩
  | 69 => ⟨S_, .f32⟩
  | 70 => ⟨S_, .f32⟩
  | 71 => ⟨S2x512, .f32⟩
  | 72 => ⟨S2x512, .f32⟩
  | 73 => ⟨S2x512, .f32⟩
  | 74 => ⟨S2x512, .f32⟩
  | 75 => ⟨S_, .f32⟩
  | 76 => ⟨S512, .f32⟩
  | 77 => ⟨S1x512, .f32⟩
  | 78 => ⟨S1x512, .f32⟩
  | 79 => ⟨S2x512, .f32⟩
  | 80 => ⟨S2x512, .f32⟩
  | 81 => ⟨S_, .f32⟩
  | 82 => ⟨S512, .f32⟩
  | 83 => ⟨S2x512, .f32⟩
  | 84 => ⟨S2x512, .f32⟩
  | 85 => ⟨S2x512, .f32⟩
  | 86 => ⟨S_, .f32⟩
  | 87 => ⟨S1024, .f32⟩
  | 88 => ⟨S1x1024, .f32⟩
  | 89 => ⟨S_, .f32⟩
  | 90 => ⟨S512, .f32⟩
  | 91 => ⟨S1x512, .f32⟩
  | 92 => ⟨S_, .f32⟩
  | 93 => ⟨S1024, .f32⟩
  | 94 => ⟨S1x1024, .f32⟩
  | 95 => ⟨S_, .f32⟩
  | 96 => ⟨S1024, .f32⟩
  | 97 => ⟨S_, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S1x1024, .f32⟩
  | 119 => ⟨S_, .f32⟩
  | 120 => ⟨S1x1024, .f32⟩
  | 121 => ⟨S1x1024, .f32⟩
  | 122 => ⟨S1x1024, .f32⟩
  | 123 => ⟨S_, .f32⟩
  | 124 => ⟨S1x1024, .f32⟩
  | 125 => ⟨S1x1024, .f32⟩
  | 126 => ⟨S1x1024, .f32⟩
  | 127 => ⟨S_, .f32⟩
  | _ => ⟨S8x1024, .f32⟩

abbrev hbmTy0_1 (i : Nat) : BufTy := match i % 128 with
  | 0 => ⟨S1x1024, .f32⟩
  | 1 => ⟨S1x1024, .f32⟩
  | 2 => ⟨S_, .f32⟩
  | 3 => ⟨S2x512, .f32⟩
  | 4 => ⟨S2x512, .f32⟩
  | 5 => ⟨S_, .f32⟩
  | 6 => ⟨S2x512, .f32⟩
  | 7 => ⟨S2x512, .f32⟩
  | 8 => ⟨S2x512, .f32⟩
  | 9 => ⟨S_, .f32⟩
  | 10 => ⟨S2x512, .f32⟩
  | 11 => ⟨S2x512, .f32⟩
  | 12 => ⟨S2x512, .f32⟩
  | 13 => ⟨S_, .f32⟩
  | 14 => ⟨S2x512, .f32⟩
  | 15 => ⟨S2x512, .f32⟩
  | 16 => ⟨S2x512, .f32⟩
  | 17 => ⟨S_, .f32⟩
  | 18 => ⟨S2x512, .f32⟩
  | 19 => ⟨S2x512, .f32⟩
  | 20 => ⟨S_, .f32⟩
  | 21 => ⟨S2x512, .f32⟩
  | 22 => ⟨S2x512, .f32⟩
  | 23 => ⟨S2x512, .f32⟩
  | 24 => ⟨S_, .f32⟩
  | 25 => ⟨S2x512, .f32⟩
  | 26 => ⟨S2x512, .f32⟩
  | 27 => ⟨S2x512, .f32⟩
  | 28 => ⟨S_, .f32⟩
  | 29 => ⟨S2x512, .f32⟩
  | 30 => ⟨S2x512, .f32⟩
  | 31 => ⟨S2x512, .f32⟩
  | 32 => ⟨S_, .f32⟩
  | 33 => ⟨S2x512, .f32⟩
  | 34 => ⟨S2x512, .f32⟩
  | 35 => ⟨S_, .f32⟩
  | 36 => ⟨S1x512, .f32⟩
  | 37 => ⟨S1x512, .f32⟩
  | 38 => ⟨S_, .f32⟩
  | 39 => ⟨S1x512, .f32⟩
  | 40 => ⟨S1x512, .f32⟩
  | 41 => ⟨S1x512, .f32⟩
  | 42 => ⟨S_, .f32⟩
  | 43 => ⟨S1x512, .f32⟩
  | 44 => ⟨S1x512, .f32⟩
  | 45 => ⟨S1x512, .f32⟩
  | 46 => ⟨S_, .f32⟩
  | 47 => ⟨S1x512, .f32⟩
  | 48 => ⟨S1x512, .f32⟩
  | 49 => ⟨S1x512, .f32⟩
  | 50 => ⟨S_, .f32⟩
  | 51 => ⟨S1x512, .f32⟩
  | 52 => ⟨S1x512, .f32⟩
  | 53 => ⟨S_, .f32⟩
  | 54 => ⟨S1x512, .f32⟩
  | 55 => ⟨S1x512, .f32⟩
  | 56 => ⟨S1x512, .f32⟩
  | 57 => ⟨S_, .f32⟩
  | 58 => ⟨S1x512, .f32⟩
  | 59 => ⟨S1x512, .f32⟩
  | 60 => ⟨S1x512, .f32⟩
  | 61 => ⟨S_, .f32⟩
  | 62 => ⟨S1x512, .f32⟩
  | 63 => ⟨S1x512, .f32⟩
  | 64 => ⟨S1x512, .f32⟩
  | 65 => ⟨S_, .f32⟩
  | 66 => ⟨S1x512, .f32⟩
  | 67 => ⟨S1x512, .f32⟩
  | 68 => ⟨S_, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S_, .f32⟩
  | 87 => ⟨S1x1024, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S1x1024, .f32⟩
  | 98 => ⟨S_, .f32⟩
  | 99 => ⟨S1x1024, .f32⟩
  | 100 => ⟨S1x1024, .f32⟩
  | 101 => ⟨S_, .f32⟩
  | 102 => ⟨S1024, .f32⟩
  | 103 => ⟨S1024, .f32⟩
  | 104 => ⟨S_, .f32⟩
  | 105 => ⟨S1024, .f32⟩
  | 106 => ⟨S1024, .f32⟩
  | 107 => ⟨S1024, .f32⟩
  | 108 => ⟨S_, .f32⟩
  | 109 => ⟨S1024, .f32⟩
  | 110 => ⟨S1024, .f32⟩
  | 111 => ⟨S1024, .f32⟩
  | 112 => ⟨S_, .f32⟩
  | 113 => ⟨S1024, .f32⟩
  | 114 => ⟨S1024, .f32⟩
  | 115 => ⟨S1024, .f32⟩
  | 116 => ⟨S_, .f32⟩
  | 117 => ⟨S1024, .f32⟩
  | 118 => ⟨S1024, .f32⟩
  | 119 => ⟨S_, .f32⟩
  | 120 => ⟨S1024, .f32⟩
  | 121 => ⟨S1024, .f32⟩
  | 122 => ⟨S1024, .f32⟩
  | 123 => ⟨S_, .f32⟩
  | 124 => ⟨S1024, .f32⟩
  | 125 => ⟨S1024, .f32⟩
  | 126 => ⟨S1024, .f32⟩
  | 127 => ⟨S_, .f32⟩
  | _ => ⟨S8x1024, .f32⟩

abbrev hbmTy0_2 (i : Nat) : BufTy := match i % 128 with
  | 0 => ⟨S1024, .f32⟩
  | 1 => ⟨S1024, .f32⟩
  | 2 => ⟨S1024, .f32⟩
  | 3 => ⟨S_, .f32⟩
  | 4 => ⟨S1024, .f32⟩
  | 5 => ⟨S1024, .f32⟩
  | 6 => ⟨S_, .f32⟩
  | 7 => ⟨S_, .f32⟩
  | _ => ⟨S8x1024, .f32⟩

abbrev hbmTy (i : Nat) : BufTy := match i / 128 with
  | 0 => hbmTy0_0 i
  | 1 => hbmTy0_1 i
  | 2 => hbmTy0_2 i
  | _ => ⟨S8x1024, .f32⟩

abbrev bufTy : (tb : Table) → Fin (tcTables nBuf tb) → BufTy
  | .hbm, ⟨i, _⟩ => hbmTy i
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_cst_1 : Ref sig .tc := ⟨.hbm, 29, rfl⟩
abbrev main_v6 : Ref sig .tc := ⟨.hbm, 30, rfl⟩
abbrev main_v7 : Ref sig .tc := ⟨.hbm, 31, rfl⟩
abbrev main_cst_2 : Ref sig .tc := ⟨.hbm, 32, rfl⟩
abbrev main_v8 : Ref sig .tc := ⟨.hbm, 33, rfl⟩
abbrev main_v9 : Ref sig .tc := ⟨.hbm, 34, rfl⟩
abbrev main_cst_3 : Ref sig .tc := ⟨.hbm, 35, rfl⟩
abbrev main_v10 : Ref sig .tc := ⟨.hbm, 36, rfl⟩
abbrev main_v11 : Ref sig .tc := ⟨.hbm, 37, rfl⟩
abbrev main_cst_4 : Ref sig .tc := ⟨.hbm, 38, rfl⟩
abbrev main_v12 : Ref sig .tc := ⟨.hbm, 39, rfl⟩
abbrev main_cst_5 : Ref sig .tc := ⟨.hbm, 40, rfl⟩
abbrev main_v13 : Ref sig .tc := ⟨.hbm, 41, rfl⟩
abbrev main_cst_6 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_7 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_8 : Ref sig .tc := ⟨.hbm, 56, rfl⟩
abbrev main_v26 : Ref sig .tc := ⟨.hbm, 57, rfl⟩
abbrev main_v27 : Ref sig .tc := ⟨.hbm, 58, rfl⟩
abbrev main_call0_call0_cst : Ref sig .tc := ⟨.hbm, 59, rfl⟩
abbrev main_call0_call0_v0 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_9 : Ref sig .tc := ⟨.hbm, 64, rfl⟩
abbrev main_v31 : Ref sig .tc := ⟨.hbm, 65, rfl⟩
abbrev main_v32 : Ref sig .tc := ⟨.hbm, 66, rfl⟩
abbrev main_cst_10 : Ref sig .tc := ⟨.hbm, 67, rfl⟩
abbrev main_v33 : Ref sig .tc := ⟨.hbm, 68, rfl⟩
abbrev main_call1_call0_cst : Ref sig .tc := ⟨.hbm, 69, rfl⟩
abbrev main_call1_call0_v0 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_11 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_12 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_cst_13 : Ref sig .tc := ⟨.hbm, 86, rfl⟩
abbrev main_v47 : Ref sig .tc := ⟨.hbm, 87, rfl⟩
abbrev main_v48 : Ref sig .tc := ⟨.hbm, 88, rfl⟩
abbrev main_cst_14 : Ref sig .tc := ⟨.hbm, 89, rfl⟩
abbrev main_v49 : Ref sig .tc := ⟨.hbm, 90, rfl⟩
abbrev main_v50 : Ref sig .tc := ⟨.hbm, 91, rfl⟩
abbrev main_cst_15 : Ref sig .tc := ⟨.hbm, 92, rfl⟩
abbrev main_v51 : Ref sig .tc := ⟨.hbm, 93, rfl⟩
abbrev main_v52 : Ref sig .tc := ⟨.hbm, 94, rfl⟩
abbrev main_cst_16 : Ref sig .tc := ⟨.hbm, 95, rfl⟩
abbrev main_v53 : Ref sig .tc := ⟨.hbm, 96, rfl⟩
abbrev main_cst_17 : Ref sig .tc := ⟨.hbm, 97, rfl⟩
abbrev main_v54 : Ref sig .tc := ⟨.hbm, 98, rfl⟩
abbrev main_v55 : Ref sig .tc := ⟨.hbm, 99, rfl⟩
abbrev main_cst_18 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_19 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_20 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_21 : Ref sig .tc := ⟨.hbm, 112, rfl⟩
abbrev main_v65 : Ref sig .tc := ⟨.hbm, 113, rfl⟩
abbrev main_v66 : Ref sig .tc := ⟨.hbm, 114, rfl⟩
abbrev main_cst_22 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_cst_23 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_cst_24 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_cst_25 : Ref sig .tc := ⟨.hbm, 127, rfl⟩
abbrev main_v76 : Ref sig .tc := ⟨.hbm, 128, rfl⟩
abbrev main_v77 : Ref sig .tc := ⟨.hbm, 129, rfl⟩
abbrev main_cst_26 : Ref sig .tc := ⟨.hbm, 130, rfl⟩
abbrev main_v78 : Ref sig .tc := ⟨.hbm, 131, rfl⟩
abbrev main_v79 : Ref sig .tc := ⟨.hbm, 132, rfl⟩
abbrev main_cst_27 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_28 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_cst_29 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_cst_30 : Ref sig .tc := ⟨.hbm, 145, rfl⟩
abbrev main_v89 : Ref sig .tc := ⟨.hbm, 146, rfl⟩
abbrev main_v90 : Ref sig .tc := ⟨.hbm, 147, rfl⟩
abbrev main_cst_31 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_cst_32 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_cst_33 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_cst_34 : Ref sig .tc := ⟨.hbm, 160, rfl⟩
abbrev main_v100 : Ref sig .tc := ⟨.hbm, 161, rfl⟩
abbrev main_v101 : Ref sig .tc := ⟨.hbm, 162, rfl⟩
abbrev main_cst_35 : Ref sig .tc := ⟨.hbm, 163, rfl⟩
abbrev main_v102 : Ref sig .tc := ⟨.hbm, 164, rfl⟩
abbrev main_v103 : Ref sig .tc := ⟨.hbm, 165, rfl⟩
abbrev main_cst_36 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_cst_37 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_cst_38 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_cst_39 : Ref sig .tc := ⟨.hbm, 178, rfl⟩
abbrev main_v113 : Ref sig .tc := ⟨.hbm, 179, rfl⟩
abbrev main_v114 : Ref sig .tc := ⟨.hbm, 180, rfl⟩
abbrev main_cst_40 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_cst_41 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_cst_42 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_cst_43 : Ref sig .tc := ⟨.hbm, 193, rfl⟩
abbrev main_v124 : Ref sig .tc := ⟨.hbm, 194, rfl⟩
abbrev main_v125 : Ref sig .tc := ⟨.hbm, 195, rfl⟩
abbrev main_cst_44 : Ref sig .tc := ⟨.hbm, 196, rfl⟩
abbrev main_v126 : Ref sig .tc := ⟨.hbm, 197, rfl⟩
abbrev main_v127 : Ref sig .tc := ⟨.hbm, 198, rfl⟩
abbrev main_cst_45 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_cst_46 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_cst_47 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_cst_48 : Ref sig .tc := ⟨.hbm, 211, rfl⟩
abbrev main_v137 : Ref sig .tc := ⟨.hbm, 212, rfl⟩
abbrev main_v138 : Ref sig .tc := ⟨.hbm, 213, rfl⟩
abbrev main_cst_49 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_cst_50 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_cst_51 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_cst_52 : Ref sig .tc := ⟨.hbm, 226, rfl⟩
abbrev main_v148 : Ref sig .tc := ⟨.hbm, 227, rfl⟩
abbrev main_v149 : Ref sig .tc := ⟨.hbm, 228, rfl⟩
abbrev main_cst_53 : Ref sig .tc := ⟨.hbm, 229, rfl⟩
abbrev main_v150 : Ref sig .tc := ⟨.hbm, 230, rfl⟩
abbrev main_v151 : Ref sig .tc := ⟨.hbm, 231, rfl⟩
abbrev main_cst_54 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_cst_55 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_cst_56 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_cst_57 : Ref sig .tc := ⟨.hbm, 244, rfl⟩
abbrev main_v161 : Ref sig .tc := ⟨.hbm, 245, rfl⟩
abbrev main_v162 : Ref sig .tc := ⟨.hbm, 246, rfl⟩
abbrev main_cst_58 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_cst_59 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_cst_60 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_cst_61 : Ref sig .tc := ⟨.hbm, 259, rfl⟩
abbrev main_v172 : Ref sig .tc := ⟨.hbm, 260, rfl⟩
abbrev main_v173 : Ref sig .tc := ⟨.hbm, 261, rfl⟩
abbrev main_cst_62 : Ref sig .tc := ⟨.hbm, 262, rfl⟩
abbrev main_v174 : Ref sig .tc := ⟨.hbm, 263, rfl⟩

abbrev nD : Nat := 1
abbrev τ : Topo := Topo.v7x

variable {F : FTy → Type} [FloatOps F]
-- ==== Kernel4.lean ====
abbrev S8192x2048 : Shape := ⟨2, ![8192, 2048]⟩
abbrev S2x512 : Shape := ⟨2, ![2, 512]⟩
abbrev S1x512 : Shape := ⟨2, ![1, 512]⟩
abbrev S8192x512 : Shape := ⟨2, ![8192, 512]⟩
abbrev S64x4x128x128 : Shape := ⟨4, ![64, 4, 128, 128]⟩
abbrev S256x2048 : Shape := ⟨2, ![256, 2048]⟩
abbrev S256x512 : Shape := ⟨2, ![256, 512]⟩
abbrev S2x4x128x128 : Shape := ⟨4, ![2, 4, 128, 128]⟩
abbrev S4x128x128 : Shape := ⟨3, ![4, 128, 128]⟩
abbrev S128x128 : Shape := ⟨2, ![128, 128]⟩
abbrev S128x1024 : Shape := ⟨2, ![128, 1024]⟩
abbrev S128x2048 : Shape := ⟨2, ![128, 2048]⟩
abbrev S128x512 : Shape := ⟨2, ![128, 512]⟩
abbrev S16x512 : Shape := ⟨2, ![16, 512]⟩
abbrev S1x128x128 : Shape := ⟨3, ![1, 128, 128]⟩
abbrev S1x1x128x128 : Shape := ⟨4, ![1, 1, 128, 128]⟩
abbrev S1x128 : Shape := ⟨2, ![1, 128]⟩
abbrev S128 : Shape := ⟨1, ![128]⟩
abbrev S128x1 : Shape := ⟨2, ![128, 1]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2x512, .f32⟩
  | .hbm, ⟨2, _⟩ => ⟨S1x512, .f32⟩
  | .hbm, ⟨3, _⟩ => ⟨S8192x512, .f32⟩
  | .hbm, ⟨4, _⟩ => ⟨S8192x512, .f32⟩
  | .hbm, ⟨5, _⟩ => ⟨S64x4x128x128, .f32⟩
  | .local _ .vmem, ⟨0, _⟩ => ⟨S256x2048, .f32⟩
  | .local _ .vmem, ⟨1, _⟩ => ⟨S256x2048, .f32⟩
  | .local _ .vmem, ⟨2, _⟩ => ⟨S2x512, .f32⟩
  | .local _ .vmem, ⟨3, _⟩ => ⟨S1x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S2x4x128x128, .f32⟩
  | .local _ .vmem, ⟨9, _⟩ => ⟨S2x4x128x128, .f32⟩
  | .local _ .vmem, ⟨10, _⟩ => ⟨S4x128x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8192x2048 : Shape := ⟨2, ![8192, 2048]⟩
abbrev S2x512 : Shape := ⟨2, ![2, 512]⟩
abbrev S1x512 : Shape := ⟨2, ![1, 512]⟩
abbrev S_ : Shape := ⟨0, ![]⟩
abbrev S512 : Shape := ⟨1, ![512]⟩
abbrev S8192x512 : Shape := ⟨2, ![8192, 512]⟩
abbrev S4x128x128 : Shape := ⟨3, ![4, 128, 128]⟩
abbrev S8192x4x128 : Shape := ⟨3, ![8192, 4, 128]⟩
abbrev S8192x4x128x128 : Shape := ⟨4, ![8192, 4, 128, 128]⟩
abbrev S1x4x128 : Shape := ⟨3, ![1, 4, 128]⟩
abbrev S4x128 : Shape := ⟨2, ![4, 128]⟩
abbrev S4x128x1 : Shape := ⟨3, ![4, 128, 1]⟩
abbrev S4x1x128 : Shape := ⟨3, ![4, 1, 128]⟩
abbrev S1x4x128x128 : Shape := ⟨4, ![1, 4, 128, 128]⟩
abbrev S8192x4 : Shape := ⟨2, ![8192, 4]⟩
abbrev S8192x4x1 : Shape := ⟨3, ![8192, 4, 1]⟩
abbrev S64x4x128x128 : Shape := ⟨4, ![64, 4, 128, 128]⟩

abbrev nBuf : Space → Nat
  | .hbm => 142
  | .vmem => 0
  | .smem => 0
  | _ => 0

abbrev hbmTy0_0 (i : Nat) : BufTy := match i % 128 with
  | 0 => ⟨S8192x2048, .f32⟩
  | 1 => ⟨S2x512, .f32⟩
  | 2 => ⟨S1x512, .f32⟩
  | 3 => ⟨S_, .f32⟩
  | 4 => ⟨S512, .f32⟩
  | 5 => ⟨S_, .f32⟩
  | 6 => ⟨S512, .f32⟩
  | 7 => ⟨S512, .f32⟩
  | 8 => ⟨S1x512, .f32⟩
  | 9 => ⟨S2x512, .f32⟩
  | 10 => ⟨S2x512, .f32⟩
  | 11 => ⟨S2x512, .f32⟩
  | 12 => ⟨S_, .f32⟩
  | 13 => ⟨S512, .f32⟩
  | 14 => ⟨S1x512, .f32⟩
  | 15 => ⟨S2x512, .f32⟩
  | 16 => ⟨S2x512, .f32⟩
  | 17 => ⟨S_, .f32⟩
  | 18 => ⟨S_, .f32⟩
  | 19 => ⟨S2x512, .f32⟩
  | 20 => ⟨S1x512, .f32⟩
  | 21 => ⟨S512, .f32⟩
  | 22 => ⟨S8192x512, .f32⟩
  | 23 => ⟨S8192x512, .f32⟩
  | 24 => ⟨S8192x512, .f32⟩
  | 25 => ⟨S_, .f32⟩
  | 26 => ⟨S8192x512, .f32⟩
  | 27 => ⟨S8192x512, .f32⟩
  | 28 => ⟨S_, .f32⟩
  | 29 => ⟨S8192x512, .f32⟩
  | 30 => ⟨S8192x512, .f32⟩
  | 31 => ⟨S8192x512, .f32⟩
  | 32 => ⟨S_, .f32⟩
  | 33 => ⟨S512, .f32⟩
  | 34 => ⟨S512, .f32⟩
  | 35 => ⟨S8192x512, .f32⟩
  | 36 => ⟨S8192x512, .f32⟩
  | 37 => ⟨S8192x512, .f32⟩
  | 38 => ⟨S_, .f32⟩
  | 39 => ⟨S8192x512, .f32⟩
  | 40 => ⟨S8192x512, .f32⟩
  | 41 => ⟨S_, .f32⟩
  | 42 => ⟨S8192x512, .f32⟩
  | 43 => ⟨S8192x512, .f32⟩
  | 44 => ⟨S1x512, .f32⟩
  | 45 => ⟨S8192x512, .f32⟩
  | 46 => ⟨S8192x512, .f32⟩
  | 47 => ⟨S1x512, .f32⟩
  | 48 => ⟨S8192x512, .f32⟩
  | 49 => ⟨S8192x512, .f32⟩
  | 50 => ⟨S_, .f32⟩
  | 51 => ⟨S4x128x128, .f32⟩
  | 52 => ⟨S8192x4x128, .f32⟩
  | 53 => ⟨S8192x4x128, .f32⟩
  | 54 => ⟨S8192x512, .f32⟩
  | 55 => ⟨S8192x4x128, .f32⟩
  | 56 => ⟨S_, .f32⟩
  | 57 => ⟨S8192x4x128x128, .f32⟩
  | 58 => ⟨S_, .f32⟩
  | 59 => ⟨S8192x4x128, .f32⟩
  | 60 => ⟨S_, .i32⟩
  | 61 => ⟨S8192x4x128, .f32⟩
  | 62 => ⟨S8192x4x128, .f32⟩
  | 63 => ⟨S8192x4x128, .f32⟩
  | 64 => ⟨S_, .i32⟩
  | 65 => ⟨S4x128x128, .f32⟩
  | 66 => ⟨S8192x4x128x128, .f32⟩
  | 67 => ⟨S8192x4x128, .f32⟩
  | 68 => ⟨S_, .i32⟩
  | 69 => ⟨S_, .i1⟩
  | 70 => ⟨S_, .i32⟩
  | 71 => ⟨S_, .i32⟩
  | 72 => ⟨S1x4x128, .f32⟩
  | 73 => ⟨S4x128, .f32⟩
  | 74 => ⟨S_, .i32⟩
  | 75 => ⟨S_, .i32⟩
  | 76 => ⟨S1x4x128, .f32⟩
  | 77 => ⟨S4x128, .f32⟩
  | 78 => ⟨S_, .i32⟩
  | 79 => ⟨S_, .i32⟩
  | 80 => ⟨S1x4x128, .f32⟩
  | 81 => ⟨S4x128, .f32⟩
  | 82 => ⟨S4x128x1, .f32⟩
  | 83 => ⟨S4x128x128, .f32⟩
  | 84 => ⟨S4x128x128, .f32⟩
  | 85 => ⟨S_, .f32⟩
  | 86 => ⟨S4x128, .f32⟩
  | 87 => ⟨S4x128, .f32⟩
  | 88 => ⟨S4x128x1, .f32⟩
  | 89 => ⟨S4x1x128, .f32⟩
  | 90 => ⟨S4x128x128, .f32⟩
  | 91 => ⟨S4x128x128, .f32⟩
  | 92 => ⟨S4x128x128, .f32⟩
  | 93 => ⟨S4x128x128, .f32⟩
  | 94 => ⟨S4x128x1, .f32⟩
  | 95 => ⟨S4x128x128, .f32⟩
  | 96 => ⟨S4x128x128, .f32⟩
  | 97 => ⟨S_, .f32⟩
  | 98 => ⟨S4x128, .f32⟩
  | 99 => ⟨S1x4x128x128, .f32⟩
  | 100 => ⟨S_, .i32⟩
  | 101 => ⟨S_, .i32⟩
  | 102 => ⟨S_, .i32⟩
  | 103 => ⟨S8192x4x128x128, .f32⟩
  | 104 => ⟨S1x4x128, .f32⟩
  | 105 => ⟨S_, .i32⟩
  | 106 => ⟨S_, .i32⟩
  | 107 => ⟨S8192x4x128, .f32⟩
  | 108 => ⟨S_, .i32⟩
  | 109 => ⟨S_, .i32⟩
  | 110 => ⟨S8192x4x128, .f32⟩
  | 111 => ⟨S_, .f32⟩
  | 112 => ⟨S8192x4, .f32⟩
  | 113 => ⟨S8192x4x1, .f32⟩
  | 114 => ⟨S_, .f32⟩
  | 115 => ⟨S8192x4x1, .f32⟩
  | 116 => ⟨S8192x4x1, .f32⟩
  | 117 => ⟨S_, .f32⟩
  | 118 => ⟨S8192x4x1, .f32⟩
  | 119 => ⟨S8192x4x1, .f32⟩
  | 120 => ⟨S8192x4x1, .f32⟩
  | 121 => ⟨S8192x4x128, .f32⟩
  | 122 => ⟨S8192x4x128, .f32⟩
  | 123 => ⟨S8192x512, .f32⟩
  | 124 => ⟨S512, .f32⟩
  | 125 => ⟨S1x512, .f32⟩
  | 126 => ⟨S8192x512, .f32⟩
  | 127 => ⟨S8192x512, .f32⟩
  | _ => ⟨S8192x2048, .f32⟩

abbrev hbmTy0_1 (i : Nat) : BufTy := match i % 128 with
  | 0 => ⟨S8192x512, .f32⟩
  | 1 => ⟨S8192x512, .f32⟩
  | 2 => ⟨S8192x512, .f32⟩
  | 3 => ⟨S_, .f32⟩
  | 4 => ⟨S8192x512, .f32⟩
  | 5 => ⟨S8192x512, .f32⟩
  | 6 => ⟨S_, .f32⟩
  | 7 => ⟨S8192x512, .f32⟩
  | 8 => ⟨S8192x512, .f32⟩
  | 9 => ⟨S8192x512, .f32⟩
  | 10 => ⟨S8192x512, .f32⟩
  | 11 => ⟨S8192x512, .f32⟩
  | 12 => ⟨S64x4x128x128, .f32⟩
  | 13 => ⟨S64x4x128x128, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_c : Ref sig .tc := ⟨.hbm, 60, rfl⟩
abbrev main_v38_0 : Ref sig .tc := ⟨.hbm, 61, rfl⟩
abbrev main_v38_1 : Ref sig .tc := ⟨.hbm, 62, rfl⟩
abbrev main_v38_2 : Ref sig .tc := ⟨.hbm, 63, rfl⟩
abbrev main_v38_3 : Ref sig .tc := ⟨.hbm, 64, rfl⟩
abbrev main_v38_4 : Ref sig .tc := ⟨.hbm, 65, rfl⟩
abbrev main_v38_5 : Ref sig .tc := ⟨.hbm, 66, rfl⟩
abbrev main_v38_6 : Ref sig .tc := ⟨.hbm, 67, rfl⟩
abbrev main_while0c_c_17 : Ref sig .tc := ⟨.hbm, 68, rfl⟩
abbrev main_while0c_v60 : Ref sig .tc := ⟨.hbm, 69, rfl⟩
abbrev main_while0b_call2_c : Ref sig .tc := ⟨.hbm, 70, rfl⟩
abbrev main_while0b_call2_c_0 : Ref sig .tc := ⟨.hbm, 71, rfl⟩
abbrev main_while0b_call2_v0 : Ref sig .tc := ⟨.hbm, 72, rfl⟩
abbrev main_while0b_v60 : Ref sig .tc := ⟨.hbm, 73, rfl⟩
abbrev main_while0b_call3_c : Ref sig .tc := ⟨.hbm, 74, rfl⟩
abbrev main_while0b_call3_c_0 : Ref sig .tc := ⟨.hbm, 75, rfl⟩
abbrev main_while0b_call3_v0 : Ref sig .tc := ⟨.hbm, 76, rfl⟩
abbrev main_while0b_v61 : Ref sig .tc := ⟨.hbm, 77, rfl⟩
abbrev main_while0b_call4_c : Ref sig .tc := ⟨.hbm, 78, rfl⟩
abbrev main_while0b_call4_c_0 : Ref sig .tc := ⟨.hbm, 79, rfl⟩
abbrev main_while0b_call4_v0 : Ref sig .tc := ⟨.hbm, 80, rfl⟩
abbrev main_while0b_v62 : Ref sig .tc := ⟨.hbm, 81, rfl⟩
abbrev main_while0b_v63 : Ref sig .tc := ⟨.hbm, 82, rfl⟩
abbrev main_while0b_v64 : Ref sig .tc := ⟨.hbm, 83, rfl⟩
abbrev main_while0b_v65 : Ref sig .tc := ⟨.hbm, 84, rfl⟩
abbrev main_while0b_cst_17 : Ref sig .tc := ⟨.hbm, 85, rfl⟩
abbrev main_while0b_v66 : Ref sig .tc := ⟨.hbm, 86, rfl⟩
abbrev main_while0b_v67 : Ref sig .tc := ⟨.hbm, 87, rfl⟩
abbrev main_while0b_v68 : Ref sig .tc := ⟨.hbm, 88, rfl⟩
abbrev main_while0b_v69 : Ref sig .tc := ⟨.hbm, 89, rfl⟩
abbrev main_while0b_v70 : Ref sig .tc := ⟨.hbm, 90, rfl⟩
abbrev main_while0b_v71 : Ref sig .tc := ⟨.hbm, 91, rfl⟩
abbrev main_while0b_v72 : Ref sig .tc := ⟨.hbm, 92, rfl⟩
abbrev main_while0b_v73 : Ref sig .tc := ⟨.hbm, 93, rfl⟩
abbrev main_while0b_v74 : Ref sig .tc := ⟨.hbm, 94, rfl⟩
abbrev main_while0b_v75 : Ref sig .tc := ⟨.hbm, 95, rfl⟩
abbrev main_while0b_v76 : Ref sig .tc := ⟨.hbm, 96, rfl⟩
abbrev main_while0b_cst_18 : Ref sig .tc := ⟨.hbm, 97, rfl⟩
abbrev main_while0b_v77 : Ref sig .tc := ⟨.hbm, 98, rfl⟩
abbrev main_while0b_call5_v0 : Ref sig .tc := ⟨.hbm, 99, rfl⟩
abbrev main_while0b_call5_c : Ref sig .tc := ⟨.hbm, 100, rfl⟩
abbrev main_while0b_call5_c_0 : Ref sig .tc := ⟨.hbm, 101, rfl⟩
abbrev main_while0b_call5_c_1 : Ref sig .tc := ⟨.hbm, 102, rfl⟩
abbrev main_while0b_v78 : Ref sig .tc := ⟨.hbm, 103, rfl⟩
abbrev main_while0b_call6_v0 : Ref sig .tc := ⟨.hbm, 104, rfl⟩
abbrev main_while0b_call6_c : Ref sig .tc := ⟨.hbm, 105, rfl⟩
abbrev main_while0b_call6_c_0 : Ref sig .tc := ⟨.hbm, 106, rfl⟩
abbrev main_while0b_v79 : Ref sig .tc := ⟨.hbm, 107, rfl⟩
abbrev main_while0b_c_19 : Ref sig .tc := ⟨.hbm, 108, rfl⟩
abbrev main_while0b_v80 : Ref sig .tc := ⟨.hbm, 109, rfl⟩
abbrev main_v39 : Ref sig .tc := ⟨.hbm, 110, rfl⟩
abbrev main_cst_8 : Ref sig .tc := ⟨.hbm, 111, rfl⟩
abbrev main_v40 : Ref sig .tc := ⟨.hbm, 112, rfl⟩
abbrev main_v41 : Ref sig .tc := ⟨.hbm, 113, rfl⟩
abbrev main_cst_9 : Ref sig .tc := ⟨.hbm, 114, rfl⟩
abbrev main_v42 : Ref sig .tc := ⟨.hbm, 115, rfl⟩
abbrev main_v43 : Ref sig .tc := ⟨.hbm, 116, rfl⟩
abbrev main_cst_10 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_call7_v0 : Ref sig .tc := ⟨.hbm, 129, rfl⟩
abbrev main_call7_v1 : Ref sig .tc := ⟨.hbm, 130, rfl⟩
abbrev main_call7_cst : Ref sig .tc := ⟨.hbm, 131, rfl⟩
abbrev main_call7_v2 : Ref sig .tc := ⟨.hbm, 132, rfl⟩
abbrev main_call7_v3 : Ref sig .tc := ⟨.hbm, 133, rfl⟩
abbrev main_call7_cst_0 : Ref sig .tc := ⟨.hbm, 134, rfl⟩
abbrev main_call7_v4 : Ref sig .tc := ⟨.hbm, 135, rfl⟩
abbrev main_call7_v5 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩

abbrev nD : Nat := 1
abbrev τ : Topo := Topo.v7x

variable {F : FTy → Type} [FloatOps F]

abbrev main_while0_count : Scf.Loop 32 := ⟨0#32, 8192#32, 1#32⟩
-- ==== Kernel5.lean ====
abbrev S8192x2048 : Shape := ⟨2, ![8192, 2048]⟩
abbrev S2x512 : Shape := ⟨2, ![2, 512]⟩
abbrev S1x512 : Shape := ⟨2, ![1, 512]⟩
abbrev S8192x512 : Shape := ⟨2, ![8192, 512]⟩
abbrev S64x4x128x128 : Shape := ⟨4, ![64, 4, 128, 128]⟩
abbrev S8x512 : Shape := ⟨2, ![8, 512]⟩
abbrev S256x2048 : Shape := ⟨2, ![256, 2048]⟩
abbrev S256x512 : Shape := ⟨2, ![256, 512]⟩
abbrev S2x4x128x128 : Shape := ⟨4, ![2, 4, 128, 128]⟩
abbrev S4x128x128 : Shape := ⟨3, ![4, 128, 128]⟩
abbrev S128x128 : Shape := ⟨2, ![128, 128]⟩
abbrev S128x1024 : Shape := ⟨2, ![128, 1024]⟩
abbrev S128x2048 : Shape := ⟨2, ![128, 2048]⟩
abbrev S128x512 : Shape := ⟨2, ![128, 512]⟩
abbrev S16x512 : Shape := ⟨2, ![16, 512]⟩
abbrev S128 : Shape := ⟨1, ![128]⟩
abbrev S128x1 : Shape := ⟨2, ![128, 1]⟩
abbrev S512 : Shape := ⟨1, ![512]⟩
abbrev S1x1x128x128 : Shape := ⟨4, ![1, 1, 128, 128]⟩
abbrev S1x128 : Shape := ⟨2, ![1, 128]⟩
abbrev S1x128x128 : Shape := ⟨3, ![1, 128, 128]⟩
abbrev S16x128 : Shape := ⟨2, ![16, 128]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2x512, .f32⟩
  | .hbm, ⟨2, _⟩ => ⟨S1x512, .f32⟩
  | .hbm, ⟨3, _⟩ => ⟨S8192x512, .f32⟩
  | .hbm, ⟨4, _⟩ => ⟨S64x4x128x128, .f32⟩
  | .hbm, ⟨5, _⟩ => ⟨S8192x512, .f32⟩
  | .hbm, ⟨6, _⟩ => ⟨S8192x2048, .bf16⟩
  | .hbm, ⟨7, _⟩ => ⟨S8x512, .f32⟩
  | .local _ .vmem, ⟨0, _⟩ => ⟨S256x2048, .f32⟩
  | .local _ .vmem, ⟨1, _⟩ => ⟨S256x2048, .f32⟩
  | .local _ .vmem, ⟨2, _⟩ => ⟨S2x512, .f32⟩
  | .local _ .vmem, ⟨3, _⟩ => ⟨S1x512, .f32⟩
  | .local _ .vmem, ⟨4, _⟩ => ⟨S256x512, .f32⟩
  | .local _ .vmem, ⟨5, _⟩ => ⟨S256x512, .f32⟩
  | .local _ .vmem, ⟨6, _⟩ => ⟨S2x4x128x128, .f32⟩
  | .local _ .vmem, ⟨7, _⟩ => ⟨S2x4x128x128, .f32⟩
  | .local _ .vmem, ⟨8, _⟩ => ⟨S256x512, .f32⟩
  | .local _ .vmem, ⟨9, _⟩ => ⟨S256x512, .f32⟩
  | .local _ .vmem, ⟨10, _⟩ => ⟨S256x2048, .bf16⟩
  | .local _ .vmem, ⟨11, _⟩ => ⟨S256x2048, .bf16⟩
  | .local _ .vmem, ⟨12, _⟩ => ⟨S8x512, .f32⟩
  | .local _ .vmem, ⟨13, _⟩ => ⟨S4x128x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Kernel6.lean ====
abbrev S1x8192x1024 : Shape := ⟨3, ![1, 8192, 1024]⟩
abbrev S1x1024 : Shape := ⟨2, ![1, 1024]⟩
abbrev S1x1024x3584 : Shape := ⟨3, ![1, 1024, 3584]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S1024x3584 : Shape := ⟨2, ![1024, 3584]⟩
abbrev S1024x4x896 : Shape := ⟨3, ![1024, 4, 896]⟩
abbrev S4x1024x896 : Shape := ⟨3, ![4, 1024, 896]⟩
abbrev S8192x1024 : Shape := ⟨2, ![8192, 1024]⟩
abbrev S8192x512 : Shape := ⟨2, ![8192, 512]⟩
abbrev S8192x2048 : Shape := ⟨2, ![8192, 2048]⟩
abbrev S16x512x512 : Shape := ⟨3, ![16, 512, 512]⟩
abbrev S512x1024 : Shape := ⟨2, ![512, 1024]⟩
abbrev S512x128 : Shape := ⟨2, ![512, 128]⟩
abbrev S512x512 : Shape := ⟨2, ![512, 512]⟩
abbrev S512x2048 : Shape := ⟨2, ![512, 2048]⟩
abbrev S16x32x512 : Shape := ⟨3, ![16, 32, 512]⟩
abbrev S3x4x512x128 : Shape := ⟨4, ![3, 4, 512, 128]⟩
abbrev S512 : Shape := ⟨1, ![512]⟩
abbrev S512x1 : Shape := ⟨2, ![512, 1]⟩
abbrev S1x1024x896 : Shape := ⟨3, ![1, 1024, 896]⟩
abbrev S1024x896 : Shape := ⟨2, ![1024, 896]⟩
abbrev S512x896 : Shape := ⟨2, ![512, 896]⟩
abbrev S512x3584 : Shape := ⟨2, ![512, 3584]⟩
abbrev S1x1x512x128 : Shape := ⟨4, ![1, 1, 512, 128]⟩
abbrev S32x128 : Shape := ⟨2, ![32, 128]⟩
abbrev S1x32x128 : Shape := ⟨3, ![1, 32, 128]⟩

abbrev nBuf : Space → Nat
  | .hbm => 40
  | .vmem => 25
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x3584, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S8192, .f32⟩
  | .hbm, ⟨12, _⟩ => ⟨S8192x1, .f32⟩
  | .hbm, ⟨13, _⟩ => ⟨S1x32, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S1x8192x1x32, .f32⟩
  | .hbm, ⟨20, _⟩ => ⟨S1x8192x4x32, .f32⟩
  | .hbm, ⟨21, _⟩ => ⟨S8192x128, .f32⟩
  | .hbm, ⟨22, _⟩ => ⟨S8192x32, .f32⟩
  | .hbm, ⟨23, _⟩ => ⟨S8192x64, .f32⟩
  | .hbm, ⟨24, _⟩ => ⟨S1x8192x1x64, .f32⟩
  | .hbm, ⟨25, _⟩ => ⟨S1x8192x2x64, .f32⟩
  | .hbm, ⟨26, _⟩ => ⟨S8192x128, .f32⟩
  | .hbm, ⟨27, _⟩ => ⟨S1024x3584, .f32⟩
  | .hbm, ⟨28, _⟩ => ⟨S1024x3584, .bf16⟩
  | .hbm, ⟨29, _⟩ => ⟨S1024x4x896, .bf16⟩
  | .hbm, ⟨30, _⟩ => ⟨S4x1024x896, .bf16⟩
  | .hbm, ⟨31, _⟩ => ⟨S8192x1024, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x2048, .f32⟩
  | .hbm, ⟨36, _⟩ => ⟨S8192x1024, .bf16⟩
  | .hbm, ⟨37, _⟩ => ⟨S16x512x512, .bf16⟩
  | .hbm, ⟨38, _⟩ => ⟨S16x512x512, .bf16⟩
  | .hbm, ⟨39, _⟩ => ⟨S16x512x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x896, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x2048, .f32⟩
  | .local _ .vmem, ⟨15, _⟩ => ⟨S512x2048, .f32⟩
  | .local _ .vmem, ⟨16, _⟩ => ⟨S512x1024, .bf16⟩
  | .local _ .vmem, ⟨17, _⟩ => ⟨S512x1024, .bf16⟩
  | .local _ .vmem, ⟨18, _⟩ => ⟨S16x32x512, .bf16⟩
  | .local _ .vmem, ⟨19, _⟩ => ⟨S16x32x512, .bf16⟩
  | .local _ .vmem, ⟨20, _⟩ => ⟨S16x32x512, .bf16⟩
  | .local _ .vmem, ⟨21, _⟩ => ⟨S16x32x512, .bf16⟩
  | .local _ .vmem, ⟨22, _⟩ => ⟨S16x32x512, .bf16⟩
  | .local _ .vmem, ⟨23, _⟩ => ⟨S16x32x512, .bf16⟩
  | .local _ .vmem, ⟨24, _⟩ => ⟨S3x4x512x128, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27_0 : Ref sig .tc := ⟨.hbm, 32, rfl⟩
abbrev main_v27_1 : Ref sig .tc := ⟨.hbm, 33, rfl⟩
abbrev main_v27_2 : Ref sig .tc := ⟨.hbm, 34, rfl⟩
abbrev main_v27_3 : Ref sig .tc := ⟨.hbm, 35, rfl⟩
abbrev main_v27_4 : Ref sig .tc := ⟨.hbm, 36, rfl⟩
abbrev main_v27_5 : Ref sig .tc := ⟨.hbm, 37, rfl⟩
abbrev main_v27_6 : Ref sig .tc := ⟨.hbm, 38, rfl⟩
abbrev main_v27_7 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x32x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x32x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x32x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S1x8192x1024 : Shape := ⟨3, ![1, 8192, 1024]⟩
abbrev S1x1024 : Shape := ⟨2, ![1, 1024]⟩
abbrev S1x1024x3584 : Shape := ⟨3, ![1, 1024, 3584]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x3584 : Shape := ⟨2, ![1024, 3584]⟩
abbrev S1x8192x3584 : Shape := ⟨3, ![1, 8192, 3584]⟩
abbrev S1x8192x512 : Shape := ⟨3, ![1, 8192, 512]⟩
abbrev S1x8192x8x64 : Shape := ⟨4, ![1, 8192, 8, 64]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x8x32 : Shape := ⟨4, ![1, 8192, 8, 32]⟩
abbrev S8192x512 : Shape := ⟨2, ![8192, 512]⟩
abbrev S1x8192x2048 : Shape := ⟨3, ![1, 8192, 2048]⟩
abbrev S8192x2048 : Shape := ⟨2, ![8192, 2048]⟩
abbrev S8192x1024 : Shape := ⟨2, ![8192, 1024]⟩
abbrev S512x16x512 : Shape := ⟨3, ![512, 16, 512]⟩
abbrev S16x512x512 : Shape := ⟨3, ![16, 512, 512]⟩

abbrev nBuf : Space → Nat
  | .hbm => 105
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x3584, .f32⟩
  | .hbm, ⟨3, _⟩ => ⟨S1024, .f32⟩
  | .hbm, ⟨4, _⟩ => ⟨S1x8192x1024, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x1024, .f32⟩
  | .hbm, ⟨16, _⟩ => ⟨S1x8192x1024, .f32⟩
  | .hbm, ⟨17, _⟩ => ⟨S1x1x1024, .f32⟩
  | .hbm, ⟨18, _⟩ => ⟨S1x8192x1024, .f32⟩
  | .hbm, ⟨19, _⟩ => ⟨S1x8192x1024, .f32⟩
  | .hbm, ⟨20, _⟩ => ⟨S1024x3584, .f32⟩
  | .hbm, ⟨21, _⟩ => ⟨S1x8192x3584, .f32⟩
  | .hbm, ⟨22, _⟩ => ⟨S1x8192x512, .f32⟩
  | .hbm, ⟨23, _⟩ => ⟨S1x8192x512, .f32⟩
  | .hbm, ⟨24, _⟩ => ⟨S1x8192x512, .f32⟩
  | .hbm, ⟨25, _⟩ => ⟨S1x8192x8x64, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S8192, .f32⟩
  | .hbm, ⟨35, _⟩ => ⟨S8192x1, .f32⟩
  | .hbm, ⟨36, _⟩ => ⟨S1x32, .f32⟩
  | .hbm, ⟨37, _⟩ => ⟨S8192x32, .f32⟩
  | .hbm, ⟨38, _⟩ => ⟨S8192x32, .f32⟩
  | .hbm, ⟨39, _⟩ => ⟨S8192x32, .f32⟩
  | .hbm, ⟨40, _⟩ => ⟨S8192x32, .f32⟩
  | .hbm, ⟨41, _⟩ => ⟨S1x8192x1x32, .f32⟩
  | .hbm, ⟨42, _⟩ => ⟨S8192x32, .f32⟩
  | .hbm, ⟨43, _⟩ => ⟨S1x8192x1x32, .f32⟩
  | .hbm, ⟨44, _⟩ => ⟨S1x8192x8x32, .f32⟩
  | .hbm, ⟨45, _⟩ => ⟨S1x8192x8x32, .f32⟩
  | .hbm, ⟨46, _⟩ => ⟨S1x8192x8x32, .f32⟩
  | .hbm, ⟨47, _⟩ => ⟨S1x8192x8x32, .f32⟩
  | .hbm, ⟨48, _⟩ => ⟨S1x8192x8x32, .f32⟩
  | .hbm, ⟨49, _⟩ => ⟨S1x8192x8x32, .f32⟩
  | .hbm, ⟨50, _⟩ => ⟨S1x8192x8x32, .f32⟩
  | .hbm, ⟨51, _⟩ => ⟨S1x8192x8x32, .f32⟩
  | .hbm, ⟨52, _⟩ => ⟨S1x8192x8x32, .f32⟩
  | .hbm, ⟨53, _⟩ => ⟨S1x8192x8x32, .f32⟩
  | .hbm, ⟨54, _⟩ => ⟨S1x8192x8x32, .f32⟩
  | .hbm, ⟨55, _⟩ => ⟨S1x8192x8x32, .f32⟩
  | .hbm, ⟨56, _⟩ => ⟨S1x8192x8x64, .f32⟩
  | .hbm, ⟨57, _⟩ => ⟨S1x8192x8x64, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S8192, .f32⟩
  | .hbm, ⟨67, _⟩ => ⟨S8192x1, .f32⟩
  | .hbm, ⟨68, _⟩ => ⟨S1x32, .f32⟩
  | .hbm, ⟨69, _⟩ => ⟨S8192x32, .f32⟩
  | .hbm, ⟨70, _⟩ => ⟨S8192x32, .f32⟩
  | .hbm, ⟨71, _⟩ => ⟨S8192x32, .f32⟩
  | .hbm, ⟨72, _⟩ => ⟨S8192x32, .f32⟩
  | .hbm, ⟨73, _⟩ => ⟨S1x8192x1x32, .f32⟩
  | .hbm, ⟨74, _⟩ => ⟨S8192x32, .f32⟩
  | .hbm, ⟨75, _⟩ => ⟨S1x8192x1x32, .f32⟩
  | .hbm, ⟨76, _⟩ => ⟨S1x8192x8x32, .f32⟩
  | .hbm, ⟨77, _⟩ => ⟨S1x8192x8x32, .f32⟩
  | .hbm, ⟨78, _⟩ => ⟨S1x8192x8x32, .f32⟩
  | .hbm, ⟨79, _⟩ => ⟨S1x8192x8x32, .f32⟩
  | .hbm, ⟨80, _⟩ => ⟨S1x8192x8x32, .f32⟩
  | .hbm, ⟨81, _⟩ => ⟨S1x8192x8x32, .f32⟩
  | .hbm, ⟨82, _⟩ => ⟨S1x8192x8x32, .f32⟩
  | .hbm, ⟨83, _⟩ => ⟨S1x8192x8x32, .f32⟩
  | .hbm, ⟨84, _⟩ => ⟨S1x8192x8x32, .f32⟩
  | .hbm, ⟨85, _⟩ => ⟨S1x8192x8x32, .f32⟩
  | .hbm, ⟨86, _⟩ => ⟨S1x8192x8x32, .f32⟩
  | .hbm, ⟨87, _⟩ => ⟨S1x8192x8x32, .f32⟩
  | .hbm, ⟨88, _⟩ => ⟨S1x8192x8x64, .f32⟩
  | .hbm, ⟨89, _⟩ => ⟨S8192x512, .f32⟩
  | .hbm, ⟨90, _⟩ => ⟨S8192x512, .f32⟩
  | .hbm, ⟨91, _⟩ => ⟨S8192x512, .f32⟩
  | .hbm, ⟨92, _⟩ => ⟨S1x8192x2048, .f32⟩
  | .hbm, ⟨93, _⟩ => ⟨S8192x2048, .f32⟩
  | .hbm, ⟨94, _⟩ => ⟨S8192x1024, .f32⟩
  | .hbm, ⟨95, _⟩ => ⟨S8192x1024, .bf16⟩
  | .hbm, ⟨96, _⟩ => ⟨S512x16x512, .f32⟩
  | .hbm, ⟨97, _⟩ => ⟨S16x512x512, .f32⟩
  | .hbm, ⟨98, _⟩ => ⟨S16x512x512, .bf16⟩
  | .hbm, ⟨99, _⟩ => ⟨S512x16x512, .f32⟩
  | .hbm, ⟨100, _⟩ => ⟨S16x512x512, .f32⟩
  | .hbm, ⟨101, _⟩ => ⟨S16x512x512, .bf16⟩
  | .hbm, ⟨102, _⟩ => ⟨S512x16x512, .f32⟩
  | .hbm, ⟨103, _⟩ => ⟨S16x512x512, .f32⟩
  | .hbm, ⟨104, _⟩ => ⟨S16x512x512, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_4 : Ref sig .tc := ⟨.hbm, 60, rfl⟩
abbrev main_v52 : Ref sig .tc := ⟨.hbm, 61, rfl⟩
abbrev main_v53 : Ref sig .tc := ⟨.hbm, 62, rfl⟩
abbrev main_cst_5 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩

abbrev nD : Nat := 1
abbrev τ : Topo := Topo.v7x

variable {F : FTy → Type} [FloatOps F]
-- ==== Kernel7.lean ====
abbrev S1024x896 : Shape := ⟨2, ![1024, 896]⟩
abbrev S512x896 : Shape := ⟨2, ![512, 896]⟩
abbrev S_ : Shape := ⟨0, ![]⟩
abbrev S1 : Shape := ⟨1, ![1]⟩
abbrev S128x896 : Shape := ⟨2, ![128, 896]⟩

abbrev nBuf : Space → Nat
  | .hbm => 11
  | .vmem => 18
  | .smem => 1
  | _ => 0

abbrev bufTy : (tb : Table) → Fin (tcTables nBuf tb) → BufTy
  | .hbm, ⟨0, _⟩ => ⟨S1024x896, .f32⟩
  | .hbm, ⟨1, _⟩ => ⟨S512x896, .f32⟩
  | .hbm, ⟨2, _⟩ => ⟨S512x896, .f32⟩
  | .hbm, ⟨3, _⟩ => ⟨S1024x896, .f32⟩
  | .hbm, ⟨4, _⟩ => ⟨S1024x896, .f32⟩
  | .hbm, ⟨5, _⟩ => ⟨S_, .i32⟩
  | .hbm, ⟨6, _⟩ => ⟨S1, .i32⟩
  | .hbm, ⟨7, _⟩ => ⟨S1024x896, .f32⟩
  | .hbm, ⟨8, _⟩ => ⟨S1024x896, .f32⟩
  | .hbm, ⟨9, _⟩ => ⟨S1024x896, .f32⟩
  | .hbm, ⟨10, _⟩ => ⟨S1024x896, .f32⟩
  | .local _ .vmem, ⟨0, _⟩ => ⟨S128x896, .f32⟩
  | .local _ .vmem, ⟨1, _⟩ => ⟨S128x896, .f32⟩
  | .local _ .vmem, ⟨2, _⟩ => ⟨S128x896, .f32⟩
  | .local _ .vmem, ⟨3, _⟩ => ⟨S128x896, .f32⟩
  | .local _ .vmem, ⟨4, _⟩ => ⟨S128x896, .f32⟩
  | .local _ .vmem, ⟨5, _⟩ => ⟨S128x896, .f32⟩
  | .local _ .vmem, ⟨6, _⟩ => ⟨S128x896, .f32⟩
  | .local _ .vmem, ⟨7, _⟩ => ⟨S128x896, .f32⟩
  | .local _ .vmem, ⟨8, _⟩ => ⟨S128x896, .f32⟩
  | .local _ .vmem, ⟨9, _⟩ => ⟨S128x896, .f32⟩
  | .local _ .vmem, ⟨10, _⟩ => ⟨S128x896, .f32⟩
  | .local _ .vmem, ⟨11, _⟩ => ⟨S128x896, .f32⟩
  | .local _ .vmem, ⟨12, _⟩ => ⟨S128x896, .f32⟩
  | .local _ .vmem, ⟨13, _⟩ => ⟨S128x896, .f32⟩
  | .local _ .vmem, ⟨14, _⟩ => ⟨S128x896, .f32⟩
  | .local _ .vmem, ⟨15, _⟩ => ⟨S128x896, .f32⟩
  | .local _ .vmem, ⟨16, _⟩ => ⟨S128x896, .f32⟩
  | .local _ .vmem, ⟨17, _⟩ => ⟨S128x896, .f32⟩
  | .local _ .smem, ⟨0, _⟩ => ⟨S1, .i32⟩
  | _, _ => ⟨S1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x896 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S1024x896 : Shape := ⟨2, ![1024, 896]⟩
abbrev S512x896 : Shape := ⟨2, ![512, 896]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x896, .f32⟩
  | .hbm, ⟨1, _⟩ => ⟨S512x896, .f32⟩
  | .hbm, ⟨2, _⟩ => ⟨S512x896, .f32⟩
  | .hbm, ⟨3, _⟩ => ⟨S1024x896, .f32⟩
  | .hbm, ⟨4, _⟩ => ⟨S1024x896, .f32⟩
  | .hbm, ⟨5, _⟩ => ⟨S1024x896, .f32⟩
  | .hbm, ⟨6, _⟩ => ⟨S_, .f32⟩
  | .hbm, ⟨7, _⟩ => ⟨S1024x896, .f32⟩
  | .hbm, ⟨8, _⟩ => ⟨S1024x896, .f32⟩
  | .hbm, ⟨9, _⟩ => ⟨S_, .f32⟩
  | .hbm, ⟨10, _⟩ => ⟨S1024x896, .f32⟩
  | .hbm, ⟨11, _⟩ => ⟨S1024x896, .f32⟩
  | .hbm, ⟨12, _⟩ => ⟨S1024x896, .f32⟩
  | .hbm, ⟨13, _⟩ => ⟨S_, .f32⟩
  | .hbm, ⟨14, _⟩ => ⟨S1024x896, .f32⟩
  | .hbm, ⟨15, _⟩ => ⟨S1024x896, .f32⟩
  | .hbm, ⟨16, _⟩ => ⟨S1024x896, .f32⟩
  | .hbm, ⟨17, _⟩ => ⟨S_, .f32⟩
  | .hbm, ⟨18, _⟩ => ⟨S1024x896, .f32⟩
  | .hbm, ⟨19, _⟩ => ⟨S1024x896, .f32⟩
  | .hbm, ⟨20, _⟩ => ⟨S1024x896, .f32⟩
  | .hbm, ⟨21, _⟩ => ⟨S_, .f32⟩
  | .hbm, ⟨22, _⟩ => ⟨S1024x896, .f32⟩
  | .hbm, ⟨23, _⟩ => ⟨S1024x896, .f32⟩
  | .hbm, ⟨24, _⟩ => ⟨S_, .f32⟩
  | .hbm, ⟨25, _⟩ => ⟨S1024x896, .f32⟩
  | .hbm, ⟨26, _⟩ => ⟨S1024x896, .f32⟩
  | .hbm, ⟨27, _⟩ => ⟨S1024x896, .f32⟩
  | .hbm, ⟨28, _⟩ => ⟨S_, .f32⟩
  | .hbm, ⟨29, _⟩ => ⟨S1024x896, .f32⟩
  | .hbm, ⟨30, _⟩ => ⟨S1024x896, .f32⟩
  | .hbm, ⟨31, _⟩ => ⟨S1024x896, .f32⟩
  | .hbm, ⟨32, _⟩ => ⟨S_, .f32⟩
  | .hbm, ⟨33, _⟩ => ⟨S1024x896, .f32⟩
  | .hbm, ⟨34, _⟩ => ⟨S1024x896, .f32⟩
  | .hbm, ⟨35, _⟩ => ⟨S1024x896, .f32⟩
  | .hbm, ⟨36, _⟩ => ⟨S_, .f32⟩
  | .hbm, ⟨37, _⟩ => ⟨S1024x896, .f32⟩
  | .hbm, ⟨38, _⟩ => ⟨S1024x896, .f32⟩
  | _, _ => ⟨S1024x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel8.lean ====
abbrev S8192x1024 : Shape := ⟨2, ![8192, 1024]⟩
abbrev S8192x5632 : Shape := ⟨2, ![8192, 5632]⟩
abbrev S4x1024x1408 : Shape := ⟨3, ![4, 1024, 1408]⟩
abbrev S1024x1024 : Shape := ⟨2, ![1024, 1024]⟩
abbrev S1024x2816 : Shape := ⟨2, ![1024, 2816]⟩
abbrev S2x1024x1408 : Shape := ⟨3, ![2, 1024, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S2x1024x1408, .f32⟩
  | .local _ .vmem, ⟨5, _⟩ => ⟨S2x1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S8192x1024 : Shape := ⟨2, ![8192, 1024]⟩
abbrev S8192x5632 : Shape := ⟨2, ![8192, 5632]⟩
abbrev S1024x5632 : Shape := ⟨2, ![1024, 5632]⟩
abbrev S1024x4x1408 : Shape := ⟨3, ![1024, 4, 1408]⟩
abbrev S4x1024x1408 : Shape := ⟨3, ![4, 1024, 1408]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S8192x5632, .f32⟩
  | .hbm, ⟨4, _⟩ => ⟨S1024x5632, .f32⟩
  | .hbm, ⟨5, _⟩ => ⟨S1024x4x1408, .f32⟩
  | .hbm, ⟨6, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S512x896 : Shape := ⟨2, ![512, 896]⟩
abbrev S1 : Shape := ⟨1, ![1]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S512x896, .f32⟩
  | .hbm, ⟨1, _⟩ => ⟨S512x896, .f32⟩
  | _, _ => ⟨S512x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 2
abbrev τ : Topo := Topo.v7x

variable {F : FTy → Type} [FloatOps F]

abbrev grid0 : Pipeline.Grid := .none

def k0_dev1 (d0 : Dev nD) : Nat :=
  let c0_i32_3 : BitVec 32 := 0#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_2 : BitVec 32 := 1#32
  let v4 : BitVec 32 := Scalar.muli v3 c1_i32_2
  let v5 : BitVec 32 := Scalar.addi c0_i32_3 v4
  v5.toNat
-- ==== Reference9.lean ====
abbrev S1024x896 : Shape := ⟨2, ![1024, 896]⟩
abbrev S512x896 : Shape := ⟨2, ![512, 896]⟩

abbrev nBuf : Space → Nat
  | .hbm => 4
  | .vmem => 0
  | .smem => 0
  | _ => 0

abbrev bufTy : (tb : Table) → Fin (tcTables nBuf tb) → BufTy
  | .hbm, ⟨0, _⟩ => ⟨S1024x896, .f32⟩
  | .hbm, ⟨1, _⟩ => ⟨S512x896, .f32⟩
  | .hbm, ⟨2, _⟩ => ⟨S512x896, .f32⟩
  | .hbm, ⟨3, _⟩ => ⟨S1024x896, .f32⟩
  | _, _ => ⟨S1024x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel10.lean ====
abbrev S4x2x512x896 : Shape := ⟨4, ![4, 2, 512, 896]⟩
abbrev S4x512x896 : Shape := ⟨3, ![4, 512, 896]⟩
abbrev S4 : Shape := ⟨1, ![4]⟩
abbrev S1 : Shape := ⟨1, ![1]⟩
abbrev S_ : Shape := ⟨0, ![]⟩
abbrev S1x512x896 : Shape := ⟨3, ![1, 512, 896]⟩
abbrev S512x896 : Shape := ⟨2, ![512, 896]⟩
abbrev S1x1x512x896 : Shape := ⟨4, ![1, 1, 512, 896]⟩

abbrev nBuf : Space → Nat
  | .hbm => 2
  | .vmem => 0
  | .smem => 0
  | _ => 0

abbrev bufTy : (tb : Table) → Fin (tcTables nBuf tb) → BufTy
  | .hbm, ⟨0, _⟩ => ⟨S4x2x512x896, .f32⟩
  | .hbm, ⟨1, _⟩ => ⟨S4x512x896, .f32⟩
  | _, _ => ⟨S4x2x512x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 2
abbrev τ : Topo := Topo.v7x

variable {F : FTy → Type} [FloatOps F]

abbrev grid0 : Pipeline.Grid := .none

def k0_off1 (d0 : Dev nD) : Fin 4 → Nat :=
  let c0_i32 : BitVec 32 := 0#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c0_i32_15 : BitVec 32 := 0#32
  let c0_i32_16 : BitVec 32 := 0#32
  ![0, v3.toNat, 0, 0]
def k0_dev1 (d0 : Dev nD) : Nat :=
  let c0_i32_12 : BitVec 32 := 0#32
  let c1_i32_1 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v4 : BitVec 32 := Scalar.subi c1_i32_1 v2
  let c1_i32_11 : BitVec 32 := 1#32
  let v11 : BitVec 32 := Scalar.muli v4 c1_i32_11
  let v12 : BitVec 32 := Scalar.addi c0_i32_12 v11
  v12.toNat
def k0_off2 (d0 : Dev nD) : Fin 4 → Nat :=
  let c1_i32_17 : BitVec 32 := 1#32
  let c1_i32_2 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v5 : BitVec 32 := Scalar.subi c1_i32_2 v2
  let c0_i32_25 : BitVec 32 := 0#32
  let c0_i32_26 : BitVec 32 := 0#32
  ![1, v5.toNat, 0, 0]
def k0_dev2 (d0 : Dev nD) : Nat :=
  let c0_i32_22 : BitVec 32 := 0#32
  let c1_i32_3 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v6 : BitVec 32 := Scalar.subi c1_i32_3 v2
  let c1_i32_21 : BitVec 32 := 1#32
  let v21 : BitVec 32 := Scalar.muli v6 c1_i32_21
  let v22 : BitVec 32 := Scalar.addi c0_i32_22 v21
  v22.toNat
def k0_off3 (d0 : Dev nD) : Fin 4 → Nat :=
  let c2_i32_27 : BitVec 32 := 2#32
  let c1_i32_4 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v7 : BitVec 32 := Scalar.subi c1_i32_4 v2
  let c0_i32_35 : BitVec 32 := 0#32
  let c0_i32_36 : BitVec 32 := 0#32
  ![2, v7.toNat, 0, 0]
def k0_dev3 (d0 : Dev nD) : Nat :=
  let c0_i32_32 : BitVec 32 := 0#32
  let c1_i32_5 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v8 : BitVec 32 := Scalar.subi c1_i32_5 v2
  let c1_i32_31 : BitVec 32 := 1#32
  let v31 : BitVec 32 := Scalar.muli v8 c1_i32_31
  let v32 : BitVec 32 := Scalar.addi c0_i32_32 v31
  v32.toNat
def k0_off4 (d0 : Dev nD) : Fin 4 → Nat :=
  let c3_i32 : BitVec 32 := 3#32
  let c1_i32_6 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v9 : BitVec 32 := Scalar.subi c1_i32_6 v2
  let c0_i32_44 : BitVec 32 := 0#32
  let c0_i32_45 : BitVec 32 := 0#32
  ![3, v9.toNat, 0, 0]
def k0_dev4 (d0 : Dev nD) : Nat :=
  let c0_i32_41 : BitVec 32 := 0#32
  let c1_i32_7 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v10 : BitVec 32 := Scalar.subi c1_i32_7 v2
  let c1_i32_40 : BitVec 32 := 1#32
  let v41 : BitVec 32 := Scalar.muli v10 c1_i32_40
  let v42 : BitVec 32 := Scalar.addi c0_i32_41 v41
  v42.toNat
-- ==== Reference10.lean ====
abbrev S8x2x512x896 : Shape := ⟨4, ![8, 2, 512, 896]⟩
abbrev S4x1x512x896 : Shape := ⟨4, ![4, 1, 512, 896]⟩
abbrev S4x512x896 : Shape := ⟨3, ![4, 512, 896]⟩
abbrev S8x512x896 : Shape := ⟨3, ![8, 512, 896]⟩

abbrev nBuf : Space → Nat
  | .hbm => 6
  | .vmem => 0
  | .smem => 0
  | _ => 0

abbrev bufTy : (tb : Table) → Fin (tcTables nBuf tb) → BufTy
  | .hbm, ⟨0, _⟩ => ⟨S8x2x512x896, .f32⟩
  | .hbm, ⟨1, _⟩ => ⟨S4x1x512x896, .f32⟩
  | .hbm, ⟨2, _⟩ => ⟨S4x512x896, .f32⟩
  | .hbm, ⟨3, _⟩ => ⟨S4x1x512x896, .f32⟩
  | .hbm, ⟨4, _⟩ => ⟨S4x512x896, .f32⟩
  | .hbm, ⟨5, _⟩ => ⟨S8x512x896, .f32⟩
  | _, _ => ⟨S8x2x512x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== Kernel11.lean ====
abbrev S128x1024 : Shape := ⟨2, ![128, 1024]⟩
abbrev S512x1408 : Shape := ⟨2, ![512, 1408]⟩
abbrev S352x1024 : Shape := ⟨2, ![352, 1024]⟩
abbrev S3 : Shape := ⟨1, ![3]⟩
abbrev S1 : Shape := ⟨1, ![1]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S512x1408, .f32⟩
  | .hbm, ⟨2, _⟩ => ⟨S352x1024, .f32⟩
  | .hbm, ⟨3, _⟩ => ⟨S128x1024, .f32⟩
  | .hbm, ⟨4, _⟩ => ⟨S512x1408, .f32⟩
  | .hbm, ⟨5, _⟩ => ⟨S352x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩

abbrev nD : Nat := 2
abbrev τ : Topo := Topo.v7x

variable {F : FTy → Type} [FloatOps F]

abbrev grid0 : Pipeline.Grid := .none

def k0_dev1 (d0 : Dev nD) : Nat :=
  let c0_i32_5 : BitVec 32 := 0#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_4 : BitVec 32 := 1#32
  let v6 : BitVec 32 := Scalar.muli v3 c1_i32_4
  let v7 : BitVec 32 := Scalar.addi c0_i32_5 v6
  v7.toNat
def k0_dev2 (d0 : Dev nD) : Nat :=
  let c0_i32_9 : BitVec 32 := 0#32
  let c1_i32_1 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v4 : BitVec 32 := Scalar.subi c1_i32_1 v2
  let c1_i32_8 : BitVec 32 := 1#32
  let v12 : BitVec 32 := Scalar.muli v4 c1_i32_8
  let v13 : BitVec 32 := Scalar.addi c0_i32_9 v12
  v13.toNat
def k0_dev3 (d0 : Dev nD) : Nat :=
  let c0_i32_13 : BitVec 32 := 0#32
  let c1_i32_2 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v5 : BitVec 32 := Scalar.subi c1_i32_2 v2
  let c1_i32_12 : BitVec 32 := 1#32
  let v18 : BitVec 32 := Scalar.muli v5 c1_i32_12
  let v19 : BitVec 32 := Scalar.addi c0_i32_13 v18
  v19.toNat
-- ==== Reference11.lean ====
abbrev S256x1024 : Shape := ⟨2, ![256, 1024]⟩
abbrev S1024x1408 : Shape := ⟨2, ![1024, 1408]⟩
abbrev S704x1024 : Shape := ⟨2, ![704, 1024]⟩
abbrev S128x1024 : Shape := ⟨2, ![128, 1024]⟩
abbrev S512x1408 : Shape := ⟨2, ![512, 1408]⟩
abbrev S352x1024 : Shape := ⟨2, ![352, 1024]⟩

abbrev nBuf : Space → Nat
  | .hbm => 12
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1408, .f32⟩
  | .hbm, ⟨2, _⟩ => ⟨S704x1024, .f32⟩
  | .hbm, ⟨3, _⟩ => ⟨S128x1024, .f32⟩
  | .hbm, ⟨4, _⟩ => ⟨S128x1024, .f32⟩
  | .hbm, ⟨5, _⟩ => ⟨S256x1024, .f32⟩
  | .hbm, ⟨6, _⟩ => ⟨S512x1408, .f32⟩
  | .hbm, ⟨7, _⟩ => ⟨S512x1408, .f32⟩
  | .hbm, ⟨8, _⟩ => ⟨S1024x1408, .f32⟩
  | .hbm, ⟨9, _⟩ => ⟨S352x1024, .f32⟩
  | .hbm, ⟨10, _⟩ => ⟨S352x1024, .f32⟩
  | .hbm, ⟨11, _⟩ => ⟨S704x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.InB.Blocks.lean ====
/- What one grid point of `in_bwd` leaves in its three output blocks, as terms over the input blocks: the
   rotary gradient of the two rotated parts set beside the other columns (`dprojB`), the product with the
   transposed weight (`duB`), the gradient of the block's rows of `x` (`dxB`) and the row added to the
   accumulator (`accRow`). -/
module

public import proofs.«01_k».proof.Proof.Gen.KernelIdeal.Value
public import Idealize.ShloMosaic.Lib.Pointwise
public import Idealize.ShloMosaic.Lib.ValueIdx
public import Idealize.ShloMosaic.Lib.VecWindow

@[expose] public section

set_option maxRecDepth 16384

noncomputable section

namespace Cert.InB

open Cert.KernelIdeal Cert.KernelIdeal.Gen Idealize.ShloMosaic Idealize.ShloMosaic.TcCoe

variable {F : FTy → Type} [FloatOps F]

/-- Lane `l` of a tile takes the value 32 lanes to the right where this mask is set, else 32 lanes to the left. -/
def swapHalves (v : FVec F S512x128 .f32) : FVec F S512x128 .f32 :=
  select k0_pay16 (dynamicRotate 1 96#32 none v rotates_S512x128_d1) (dynamicRotate 1 32#32 none v rotates_S512x128_d1)

/-- The rotary gradient of one tile of 128 columns, against the cosine and the signed sine block. -/
def rotTile (d cs sn : FVec F S512x128 .f32) : FVec F S512x128 .f32 := addf (mulf d cs) (swapHalves (mulf d sn))

/-- The rotary gradient of 512 columns, tile by tile. -/
def rotB (d : FVec F S512x512 .f32) (cs sn : FVec F S512x128 .f32) : FVec F S512x512 .f32 :=
  concatenate S512x512 1
    [⟨S512x128, rotTile (extractStridedSlice S512x128 ![0, 0] d slices_S512x512_o0_0_S512x128) cs sn⟩,
     ⟨S512x128, rotTile (extractStridedSlice S512x128 ![0, 128] d slices_S512x512_o0_128_S512x128) cs sn⟩,
     ⟨S512x128, rotTile (extractStridedSlice S512x128 ![0, 256] d slices_S512x512_o0_256_S512x128) cs sn⟩,
     ⟨S512x128, rotTile (extractStridedSlice S512x128 ![0, 384] d slices_S512x512_o0_384_S512x128) cs sn⟩]
    concatenates_S512x128_S512x128_S512x128_S512x128_S512x512_d1

/-- The block of the projection's gradient. -/
def dprojB (x0 x1 x2 : Vec F S512x512 .f32) (x3 : Vec F S512x2048 .bf16) (x4 x5 : Vec F S512x128 .f32) : Vec F S512x3584 .bf16 :=
  concatenate S512x3584 1
    [⟨S512x1536, truncf .bf16 (concatenate S512x1536 1
        [⟨S512x512, rotB x0 (k0_pay6 x4) (k0_pay7 x5)⟩, ⟨S512x512, rotB x1 (k0_pay6 x4) (k0_pay7 x5)⟩, ⟨S512x512, x2⟩]
        concatenates_S512x512_S512x512_S512x512_S512x1536_d1) bitsLt_bf16_f32⟩,
     ⟨S512x2048, x3⟩] concatenates_S512x1536_S512x2048_S512x3584_d1

/-- The product of columns `o … o+895` of the projection's gradient with slab `k` of the weight. -/
def slabProd (p : Vec F S512x3584 .bf16) (o : Nat) (h : S512x3584.Slices ![0, o] S512x896) (w : Vec F S4x1024x896 .bf16) (k : Nat)
    (hk : ∀ a, (![k, 0, 0] : Fin 3 → Nat) a + S1x1024x896.size a ≤ S4x1024x896.size a) : FVec F S512x1024 .f32 :=
  matmul dot_S512x896_S1024x896_S512x1024_1_1_0_0_n_n none (extractStridedSlice S512x896 ![0, o] p h)
    (shapeCast S1024x896 (View.ld (S := S4x1024x896) w (Rect.unit ![k, 0, 0] ![1, 1024, 896] hk)) shapeCasts_S1x1024x896_S1024x896)
    (constant S512x1024 .f32 0x00000000#32)

/-- The gradient of the normalised rows: the sum of the four slabs' products. -/
def duB (p : Vec F S512x3584 .bf16) (w : Vec F S4x1024x896 .bf16) : FVec F S512x1024 .f32 :=
  addf (addf (addf (slabProd p 0 slices_S512x3584_o0_0_S512x896 w 0 inb_S4x1024x896_S1x1024x896_0_0_0)
    (slabProd p 896 slices_S512x3584_o0_896_S512x896 w 1 inb_S4x1024x896_S1x1024x896_1_0_0))
    (slabProd p 1792 slices_S512x3584_o0_1792_S512x896 w 2 inb_S4x1024x896_S1x1024x896_2_0_0))
    (slabProd p 2688 slices_S512x3584_o0_2688_S512x896 w 3 inb_S4x1024x896_S1x1024x896_3_0_0)

/-- The block of the gradient of `x`, from `duB`'s value. -/
def dxB (du x : FVec F S512x1024 .f32) (g : Vec F S1x1024 .f32) (dh : FVec F S512x1024 .f32) : FVec F S512x1024 .f32 :=
  k0_pay4 du (k0_pay39 x) (k0_pay40 x) (FloatOps.ofBits .f32 0x44800000#32) g dh

/-- The accumulator's first row with this point's column sums added. -/
def accRow (du x : FVec F S512x1024 .f32) (a : Vec F S1x1024 .f32) : FVec F S1x1024 .f32 :=
  k0_pay3 du (k0_pay39 x) (k0_pay40 x) (FloatOps.ofBits .f32 0x44800000#32) a

/-- The accumulator after one point. -/
def accStep (du x : FVec F S512x1024 .f32) (a : Vec F S8x1024 .f32) : Vec F S8x1024 .f32 :=
  VecWindow.put a ![0, 0] ![1, 1024] (accRow du x (View.ld a (Rect.unit ![0, 0] ![1, 1024] inb_S8x1024_S1x1024_0_0)))

theorem hz2 : (![0, 0] : Fin 2 → Nat) = fun _ => 0 := funext fun a => by fin_cases a <;> rfl

variable (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x2048 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x1024x896 .bf16) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x3584 .bf16) (harg11 : arg11.IsWhole) (arg12 : Memref sig .tc .vmem S512x1024 .f32) (harg12 : arg12.IsWhole) (arg13 : Memref sig .tc .vmem S8x1024 .f32) (harg13 : arg13.IsWhole)
variable (x0 : Vec F S512x512 .f32) (x1 : Vec F S512x512 .f32) (x2 : Vec F S512x512 .f32) (x3 : Vec F S512x2048 .bf16) (x4 : Vec F S512x128 .f32) (x5 : Vec F S512x128 .f32) (x6 : Vec F S4x1024x896 .bf16) (x7 : Vec F S512x1024 .f32) (x8 : Vec F S1x1024 .f32) (x9 : Vec F S512x1024 .f32)

theorem outA_10 (hc0 : cond0_0 i) :
    out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = dprojB x0 x1 x2 x3 x4 x5 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  unfold kernelRun0_A
  dsimp only
  sl_unfold_words
  rw [View.canon_unit_zero (S := S512x3584) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x512) hz2, View.ld_unit_zero (S := S512x128) hz2, View.ld_unit_zero (S := S512x2048) hz2, View.ld_unit_zero (S := S512x1024) hz2, View.ld_unit_zero (S := S1x1024) hz2]
  rfl

theorem outA_11 (hc0 : cond0_0 i) :
    out0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = dxB (duB (dprojB x0 x1 x2 x3 x4 x5) x6) x7 x8 x9 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  unfold kernelRun0_A
  dsimp only
  sl_unfold_words
  rw [View.canon_unit_zero (S := S512x1024) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x512) hz2, View.ld_unit_zero (S := S512x128) hz2, View.ld_unit_zero (S := S512x2048) hz2, View.ld_unit_zero (S := S512x1024) hz2, View.ld_unit_zero (S := S1x1024) hz2]
  rfl

theorem outB_10 (hc0 : ¬ cond0_0 i) (xo12 : Vec F S8x1024 .f32) :
    out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo12 = dprojB x0 x1 x2 x3 x4 x5 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo12)]
  unfold kernelRun0_B
  dsimp only
  sl_unfold_words
  rw [View.canon_unit_zero (S := S512x3584) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x512) hz2, View.ld_unit_zero (S := S512x128) hz2, View.ld_unit_zero (S := S512x2048) hz2, View.ld_unit_zero (S := S512x1024) hz2, View.ld_unit_zero (S := S1x1024) hz2]
  rfl

theorem outB_11 (hc0 : ¬ cond0_0 i) (xo12 : Vec F S8x1024 .f32) :
    out0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo12 = dxB (duB (dprojB x0 x1 x2 x3 x4 x5) x6) x7 x8 x9 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo12)]
  unfold kernelRun0_B
  dsimp only
  sl_unfold_words
  rw [View.canon_unit_zero (S := S512x1024) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x512) hz2, View.ld_unit_zero (S := S512x128) hz2, View.ld_unit_zero (S := S512x2048) hz2, View.ld_unit_zero (S := S512x1024) hz2, View.ld_unit_zero (S := S1x1024) hz2]
  rfl

/-- The accumulator after a point that does not start it. -/
theorem outB_12 (hc0 : ¬ cond0_0 i) (xo12 : Vec F S8x1024 .f32) :
    out0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo12 = accStep (duB (dprojB x0 x1 x2 x3 x4 x5) x6) x7 xo12 := by
  unfold out0_B_12
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x512) hz2, View.ld_unit_zero (S := S512x128) hz2, View.ld_unit_zero (S := S512x2048) hz2, View.ld_unit_zero (S := S512x1024) hz2, View.ld_unit_zero (S := S1x1024) hz2]
  rw [View.read_writes_cons_put _ _ _ _ _ rfl, View.writes_nil, harg13.read_unread]
  rfl

/-- The accumulator after the point that starts it: it grows from zero. -/
theorem outA_12 (hc0 : cond0_0 i) :
    out0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = accStep (duB (dprojB x0 x1 x2 x3 x4 x5) x6) x7 k0_pay5 := by
  unfold out0_A_12
  unfold kernelRun0_A
  dsimp only
  sl_unfold_words
  simp only [View.readAt_eq_ld, View.readCov, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x512) hz2, View.ld_unit_zero (S := S512x128) hz2, View.ld_unit_zero (S := S512x2048) hz2, View.ld_unit_zero (S := S512x1024) hz2, View.ld_unit_zero (S := S1x1024) hz2]
  rw [View.read_writes_cons_put _ _ _ _ _ rfl, View.read_writes_full (s := S8x1024), View.read_writes_full (s := S8x1024)]
  rfl

end Cert.InB
-- ==== Proof.InB.Spec.lean ====
/- The three results of the layer input's backward pass at an index, over the extended reals: what both programs are
   shown to compute. `S` names a sequence position, `c` a column of a head group, `e` a column of the projection and
   `d` a model column. -/
module

public import proofs.«01_k».proof.Proof.Gen.KernelIdeal.Value
public import Idealize.ShloMosaic.Lib.Pointwise

@[expose] public section

noncomputable section

namespace Cert.InB

open Idealize.ShloMosaic

/-- An array of two axes at `Ideal`. -/
abbrev Arr2 (a b : Nat) : Type := (⟨2, ![a, b]⟩ : Shape).Idx → EReal
/-- An array of three axes at `Ideal`. -/
abbrev Arr3 (a b c : Nat) : Type := (⟨3, ![a, b, c]⟩ : Shape).Idx → EReal

/-- The rotary angle of position `s` and frequency `j`. -/
def ang (s j : Nat) : EReal :=
  FloatOps.sitofp (F := Ideal) .f32 (BitVec.ofNat 32 s) *
    Ideal.pow (Ideal.ofBits .f32 1176256512#32)
      (Ideal.div (-FloatOps.sitofp (F := Ideal) .f32 (BitVec.ofNat 32 j)) (Ideal.ofBits .f32 1107296256#32))

/-- The lane that column `c` of a head exchanges with: 32 to the right in a head's first half, else 32 to the left. -/
def swc (c : Nat) : Nat := if c % 64 < 32 then c + 32 else c - 32

theorem swc_lt {c : Nat} (h : c < 512) : swc c < 512 := by unfold swc; split <;> omega

/-- The sine of column `c`'s frequency at position `s`, with the sign it enters column `swc c` with. -/
def sgnSin (s c : Nat) : EReal := if c % 64 < 32 then -Ideal.sin (ang s (c % 32)) else Ideal.sin (ang s (c % 32))

/-- The rotary gradient of `D` at position `s`, column `c`. -/
def rot (D : Arr2 8192 512) (s : Fin 8192) (c : Fin 512) : EReal :=
  D (ix2 s c) * Ideal.cos (ang s.val (c.val % 32)) + D (ix2 s ⟨swc c.val, swc_lt c.isLt⟩) * sgnSin s.val (swc c.val)

/-- The projection's gradient. -/
def dproj (dq dk dv : Arr2 8192 512) (dhg : Arr2 8192 2048) (s : Fin 8192) (e : Fin 3584) : EReal :=
  if h : e.val < 512 then rot dq s ⟨e.val, h⟩
  else if h1 : e.val < 1024 then rot dk s ⟨e.val - 512, by omega⟩
  else if h2 : e.val < 1536 then dv (ix2 s ⟨e.val - 1024, by omega⟩)
  else dhg (ix2 s ⟨e.val - 1536, by omega⟩)

/-- The gradient of the normalised rows. -/
def du (dq dk dv : Arr2 8192 512) (dhg : Arr2 8192 2048) (w : Arr3 1 1024 3584) (s : Fin 8192) (d : Fin 1024) : EReal :=
  ∑ e : Fin 3584, dproj dq dk dv dhg s e * w (ix3 0 d e)

/-- The mean square of row `s` plus the norm's constant. -/
def ms (x : Fin 1024 → EReal) : EReal :=
  Ideal.div (∑ d, x d * x d) (Ideal.ofBits .f32 1149239296#32) + Ideal.ofBits .f32 897988541#32

/-- A row of the gradient of `x`, from the row `x`, the row `u` of `du`, the norm's weight and the residual's gradient. -/
def dxRow (u x g : Fin 1024 → EReal) (dh : EReal) (d : Fin 1024) : EReal :=
  dh + Ideal.rsqrt (ms x) * (u d * g d - x d * Ideal.rsqrt (ms x) *
    Ideal.div (∑ k, u k * g k * (x k * Ideal.rsqrt (ms x))) (Ideal.ofBits .f32 1149239296#32))

end Cert.InB
-- ==== Proof.InB.Values.lean ====
/- One grid point's terms of `in_bwd` read at an index, over the extended reals. -/
module

public import proofs.«01_k».proof.Proof.InB.Blocks
public import proofs.«01_k».proof.Proof.InB.Spec

@[expose] public section

set_option maxRecDepth 16384

noncomputable section

namespace Cert.InB

open Cert.KernelIdeal Cert.KernelIdeal.Gen Idealize.ShloMosaic Idealize.ShloMosaic.TcCoe

theorem mask_apply (r : Fin 512) (l : Fin 128) : k0_pay16 (ix2 r l) = if l.val % 64 < 32 then 1#1 else 0#1 := by
  pointwise [k0_pay16]
  revert l; decide

theorem swap_apply (v : FVec Ideal S512x128 .f32) (r : Fin 512) (l : Fin 128) :
    swapHalves v (ix2 r l) = v (ix2 r ⟨swc l.val, by unfold swc; split <;> omega⟩) := by
  pointwise [swapHalves, mask_apply]
  by_cases h : l.val % 64 < 32
  · rw [if_pos h]
    show v _ = _
    congr 2; apply Fin.ext; show (l.val + 128 - 96) % 128 = swc l.val; unfold swc; rw [if_pos h]; omega
  · rw [if_neg h]
    show v _ = _
    congr 2; apply Fin.ext; show (l.val + 128 - 32) % 128 = swc l.val; unfold swc; rw [if_neg h]; omega

theorem rotTile_apply (d cs sn : FVec Ideal S512x128 .f32) (r : Fin 512) (l : Fin 128) :
    rotTile d cs sn (ix2 r l) = d (ix2 r l) * cs (ix2 r l) +
      d (ix2 r ⟨swc l.val, by unfold swc; split <;> omega⟩) * sn (ix2 r ⟨swc l.val, by unfold swc; split <;> omega⟩) := by
  unfold rotTile
  pointwise [swap_apply]

/-- Two columns of one number read the same element. -/
theorem at2 {n m : Nat} {α : Type} (f : (⟨2, ![n, m]⟩ : Shape).Idx → α) (r : Fin n) {a b : Fin m} (h : a.val = b.val) :
    f (ix2 r a) = f (ix2 r b) := by rw [Fin.ext h]

theorem rotB_apply (d : FVec Ideal S512x512 .f32) (cs sn : FVec Ideal S512x128 .f32) (r : Fin 512) (c : Fin 512) :
    rotB d cs sn (ix2 r c) = d (ix2 r c) * cs (ix2 r ⟨c.val % 128, by omega⟩) +
      d (ix2 r ⟨swc c.val, swc_lt c.isLt⟩) * sn (ix2 r ⟨swc c.val % 128, by omega⟩) := by
  have key : ∀ (o y : Nat) (h1 : o + y = c.val) (h2 : o % 128 = 0) (h3 : y < 128) (b1 : o + y < 512) (b2 : o + swc y < 512) (b3 : swc y < 128),
      d (ix2 r ⟨o + y, b1⟩) * cs (ix2 r ⟨y, h3⟩) + d (ix2 r ⟨o + swc y, b2⟩) * sn (ix2 r ⟨swc y, b3⟩)
        = d (ix2 r c) * cs (ix2 r ⟨c.val % 128, by omega⟩) +
          d (ix2 r ⟨swc c.val, swc_lt c.isLt⟩) * sn (ix2 r ⟨swc c.val % 128, by omega⟩) := by
    intro o y h1 h2 h3 b1 b2 b3
    have e1 : o + swc y = swc c.val := by
      unfold swc
      rw [show c.val % 64 = y % 64 by omega]
      split <;> omega
    have e2 : swc y = swc c.val % 128 := by omega
    rw [at2 d r (a := ⟨o + y, b1⟩) (b := c) h1, at2 cs r (a := ⟨y, h3⟩) (b := ⟨c.val % 128, by omega⟩) (by dsimp only; omega),
      at2 d r (a := ⟨o + swc y, b2⟩) (b := ⟨swc c.val, swc_lt c.isLt⟩) e1,
      at2 sn r (a := ⟨swc y, b3⟩) (b := ⟨swc c.val % 128, by omega⟩) e2]
  pointwise [rotB, rotTile_apply]
  by_cases h0 : c.val < 128
  · rw [dif_pos h0]
    have k0 := key 0 c.val (by omega) (by omega) h0 (by omega) (by unfold swc; split <;> omega) (by unfold swc; split <;> omega)
    rw [← k0]
    exact congrArg₂ _ (congrArg₂ _ (at2 _ _ (Nat.zero_add _).symm) rfl) (congrArg₂ _ (at2 _ _ (Nat.zero_add _).symm) rfl)
  rw [dif_neg h0]
  by_cases h1 : c.val - 128 < 128
  · rw [dif_pos h1]
    exact key 128 (c.val - 128) (by omega) (by omega) h1 _ _ _
  rw [dif_neg h1]
  by_cases h2 : c.val - 128 - 128 < 128
  · rw [dif_pos h2]
    exact key 256 (c.val - 128 - 128) (by omega) (by omega) h2 _ _ _
  rw [dif_neg h2]
  exact key 384 (c.val - 128 - 128 - 128) (by omega) (by omega) (by omega) _ _ _

theorem dprojB_apply (x0 x1 x2 : Vec Ideal S512x512 .f32) (x3 : Vec Ideal S512x2048 .bf16) (x4 x5 : Vec Ideal S512x128 .f32) (r : Fin 512) (e : Fin 3584) :
    dprojB x0 x1 x2 x3 x4 x5 (ix2 r e) =
      if h : e.val < 512 then (rotB (F := Ideal) x0 x4 x5 (ix2 r ⟨e.val, h⟩) : EReal)
      else if h1 : e.val < 1024 then (rotB (F := Ideal) x1 x4 x5 (ix2 r ⟨e.val - 512, by omega⟩) : EReal)
      else if h2 : e.val < 1536 then (x2 (ix2 r ⟨e.val - 1024, by omega⟩) : EReal)
      else (x3 (ix2 r ⟨e.val - 1536, by omega⟩) : EReal) := by
  pointwise [dprojB]
  have e6 : k0_pay6 x4 = x4 := shapeCast_self _ _
  have e7 : k0_pay7 x5 = x5 := shapeCast_self _ _
  rw [e6, e7]
  by_cases h0 : e.val < 512
  · rw [dif_pos (by omega : e.val < 1536), dif_pos h0, dif_pos h0]
  rw [dif_neg h0]
  by_cases h1 : e.val < 1024
  · rw [dif_pos (by omega : e.val < 1536), dif_neg h0, dif_pos (by omega : e.val - 512 < 512), dif_pos h1]
  rw [dif_neg h1]
  by_cases h2 : e.val < 1536
  · rw [dif_pos h2, dif_neg h0, dif_neg (by omega : ¬ e.val - 512 < 512), dif_pos h2]
    exact at2 _ _ (by dsimp only; omega)
  rw [dif_neg h2, dif_neg h2]

theorem duB_apply (p : Vec Ideal S512x3584 .bf16) (w : Vec Ideal S4x1024x896 .bf16) (r : Fin 512) (d : Fin 1024) :
    duB p w (ix2 r d) = ∑ e : Fin 3584, p (ix2 r e) * w (ix3 ⟨e.val / 896, by omega⟩ d ⟨e.val % 896, by omega⟩) := by
  pointwise [duB, slabProd, View.ld]
  rw [Fin.sum_univ_tiles 4 896 rfl, Fin.sum_univ_four]
  have slab : ∀ (j : Fin 4) (t : Fin 896) (o : Nat) (ho : o = j.val * 896) (ht : o + t.val < 3584) (ht' : j.val * 896 + t.val < 3584),
      p (ix2 r ⟨o + t.val, ht⟩) * w (ix3 j d t)
        = p (ix2 r ⟨j.val * 896 + t.val, ht'⟩) * w (ix3 ⟨(j.val * 896 + t.val) / 896, by omega⟩ d ⟨(j.val * 896 + t.val) % 896, by omega⟩) := by
    intro j t o ho ht ht'
    subst ho
    congr 2
    congr 1 <;> apply Fin.ext <;> dsimp only <;> omega
  refine congrArg₂ _ (congrArg₂ _ (congrArg₂ _ ?_ ?_) ?_) ?_ <;> refine Finset.sum_congr rfl fun t _ => ?_
  · rw [← slab 0 t 0 rfl (by omega)]
    congr 1; exact at2 _ _ (by simp)
  · exact slab 1 t 896 rfl _ _
  · exact slab 2 t 1792 rfl _ _
  · exact slab 3 t 2688 rfl _ _

theorem dxB_apply (u x : FVec Ideal S512x1024 .f32) (g : Vec Ideal S1x1024 .f32) (dh : FVec Ideal S512x1024 .f32) (r : Fin 512) (d : Fin 1024) :
    dxB u x g dh (ix2 r d) = dxRow (fun k => u (ix2 r k)) (fun k => x (ix2 r k)) (fun k => g (ix2 0 k)) (dh (ix2 r d)) d := by
  pointwise [dxB, k0_pay4, k0_pay39, k0_pay40, k0_pay1, k0_pay2]
  rfl

theorem accStep_apply (u x : FVec Ideal S512x1024 .f32) (a : Vec Ideal S8x1024 .f32) (r : Fin 8) (d : Fin 1024) :
    accStep u x a (ix2 r d) = a (ix2 r d) +
      if r.val = 0 then ∑ s : Fin 512, u (ix2 s d) * (x (ix2 s d) * Ideal.rsqrt (ms fun k => x (ix2 s k))) else 0 := by
  by_cases h : r.val = 0
  · rw [if_pos h]
    obtain rfl : r = 0 := Fin.ext h
    unfold accStep VecWindow.put
    rw [dif_pos (by
      intro b
      match b with
      | ⟨0, _⟩ => exact ⟨Nat.zero_le _, Nat.one_pos⟩
      | ⟨1, _⟩ => exact ⟨Nat.zero_le _, d.isLt⟩)]
    pointwise [accRow, k0_pay3, k0_pay39, k0_pay40, k0_pay1, k0_pay2, View.ld]
    rfl
  · rw [if_neg h, add_zero]
    unfold accStep VecWindow.put
    rw [dif_neg (by intro hh; have := (hh 0).2; exact h (Nat.lt_one_iff.mp this))]

end Cert.InB
-- ==== Proof.InB.Host.lean ====
/- The arrays the host prepares for the kernel, at an index: the two rotary tables, the weight in four slabs and the input
   without its leading axis. -/
module

public import proofs.«01_k».proof.Proof.InB.Spec

@[expose] public section

set_option maxRecDepth 16384

noncomputable section

namespace Cert.InB

open Cert.KernelIdeal Cert.KernelIdeal.Gen Idealize.ShloMosaic Idealize.ShloMosaic.TcCoe

variable (m : (ℓ : Loc nD τ sig) → Buf (Elt Ideal) ℓ) (c : Dev nD)

theorem cos_at (s : Fin 8192) (l : Fin 128) : V m c main_v16 (ix2 s l) = Ideal.cos (ang s.val (l.val % 32)) := by
  unfold V
  after_results
  pointwise []
  rfl

theorem sin_at (s : Fin 8192) (l : Fin 128) : V m c main_v21 (ix2 s l) = sgnSin s.val l.val := by
  unfold V
  after_results
  pointwise []
  unfold sgnSin ang
  by_cases h : l.val % 64 < 32
  · rw [dif_pos h, if_pos h, show l.val % 64 = l.val % 32 by omega]
  · rw [dif_neg h, if_neg h, show l.val % 64 - 32 = l.val % 32 by omega]

theorem slabs_at (j : Fin 4) (k : Fin 1024) (e : Fin 896) :
    V m c main_v25 (ix3 j k e) = m ((c : Thread nD τ).loc main_arg2) (ix3 0 k ⟨j.val * 896 + e.val, by omega⟩) := by
  unfold V
  after_results
  pointwise []

theorem rows_at (s : Fin 8192) (d : Fin 1024) :
    V m c main_v26 (ix2 s d) = m ((c : Thread nD τ).loc main_arg0) (ix3 0 s d) := by
  unfold V
  after_results
  pointwise []

end Cert.InB
-- ==== Proof.InB.Arrays.lean ====
/- The kernel's three result arrays after the launch, at an index, as functions of its arguments. -/
module

public import proofs.«01_k».proof.Proof.InB.Values
public import proofs.«01_k».proof.Proof.InB.Host

@[expose] public section

set_option maxRecDepth 16384

noncomputable section

namespace Cert.InB

open Cert.KernelIdeal Cert.KernelIdeal.Gen Cert.KernelIdeal.Value Idealize.ShloMosaic Idealize.ShloMosaic.TcCoe

variable (m : (ℓ : Loc nD τ sig) → Buf (Elt Ideal) ℓ) (c : Dev nD)

/-- Row `r` of tile `t`. -/
def row (t : Fin cfg0.N) (r : Fin 512) : Fin 8192 := ⟨t.val * 512 + r.val, by have : t.val < 16 := t.isLt; omega⟩

/-! ## Where each window's block lies -/

theorem idx_tile : ∀ t : Fin grid0.N, win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0 ∧ win0_5.index t 0 = t.val ∧ win0_5.index t 1 = 0
    ∧ win0_7.index t 0 = t.val ∧ win0_7.index t 1 = 0 ∧ win0_9.index t 0 = t.val ∧ win0_9.index t 1 = 0
    ∧ win0_10.index t 0 = t.val ∧ win0_10.index t 1 = 0 ∧ win0_11.index t 0 = t.val ∧ win0_11.index t 1 = 0 := by
  decide +kernel

theorem idx_whole : ∀ t : Fin grid0.N, win0_6.index t 0 = 0 ∧ win0_6.index t 1 = 0 ∧ win0_6.index t 2 = 0
    ∧ win0_8.index t 0 = 0 ∧ win0_8.index t 1 = 0 ∧ win0_12.index t 0 = 0 ∧ win0_12.index t 1 = 0 := by
  decide +kernel

theorem blk0 (t : Fin cfg0.N) (r : Fin 512) (e : Fin 512) : iblk m c 0 t (ix2 r e) = m ((c : Thread nD τ).loc main_arg3) (ix2 (row t r) e) := by
  rw [← V_main_arg3 m c]; unfold iblk; rw [View.read_apply]; show V m c main_arg3 _ = _; congr 1; funext a; apply Fin.ext
  match a with
  | ⟨0, _⟩ => show win0_0.index t 0 * 512 + 1 * r.val = t.val * 512 + r.val; rw [(idx_tile t).1, one_mul]
  | ⟨1, _⟩ => show win0_0.index t 1 * 512 + 1 * e.val = e.val; rw [(idx_tile t).2.1]; omega

theorem blk1 (t : Fin cfg0.N) (r : Fin 512) (e : Fin 512) : iblk m c 1 t (ix2 r e) = m ((c : Thread nD τ).loc main_arg4) (ix2 (row t r) e) := by
  rw [← V_main_arg4 m c]; unfold iblk; rw [View.read_apply]; show V m c main_arg4 _ = _; congr 1; funext a; apply Fin.ext
  match a with
  | ⟨0, _⟩ => show win0_1.index t 0 * 512 + 1 * r.val = t.val * 512 + r.val; rw [(idx_tile t).2.2.1, one_mul]
  | ⟨1, _⟩ => show win0_1.index t 1 * 512 + 1 * e.val = e.val; rw [(idx_tile t).2.2.2.1]; omega

theorem blk2 (t : Fin cfg0.N) (r : Fin 512) (e : Fin 512) : iblk m c 2 t (ix2 r e) = m ((c : Thread nD τ).loc main_arg5) (ix2 (row t r) e) := by
  rw [← V_main_arg5 m c]; unfold iblk; rw [View.read_apply]; show V m c main_arg5 _ = _; congr 1; funext a; apply Fin.ext
  match a with
  | ⟨0, _⟩ => show win0_2.index t 0 * 512 + 1 * r.val = t.val * 512 + r.val; rw [(idx_tile t).2.2.2.2.1, one_mul]
  | ⟨1, _⟩ => show win0_2.index t 1 * 512 + 1 * e.val = e.val; rw [(idx_tile t).2.2.2.2.2.1]; omega

theorem blk3 (t : Fin cfg0.N) (r : Fin 512) (e : Fin 2048) : iblk m c 3 t (ix2 r e) = m ((c : Thread nD τ).loc main_arg6) (ix2 (row t r) e) := by
  rw [← V_main_arg6 m c]; unfold iblk; rw [View.read_apply]; show V m c main_arg6 _ = _; congr 1; funext a; apply Fin.ext
  match a with
  | ⟨0, _⟩ => show win0_3.index t 0 * 512 + 1 * r.val = t.val * 512 + r.val; rw [(idx_tile t).2.2.2.2.2.2.1, one_mul]
  | ⟨1, _⟩ => show win0_3.index t 1 * 2048 + 1 * e.val = e.val; rw [(idx_tile t).2.2.2.2.2.2.2.1]; omega

theorem blk4 (t : Fin cfg0.N) (r : Fin 512) (e : Fin 128) : iblk m c 4 t (ix2 r e) = V m c main_v16 (ix2 (row t r) e) := by
  unfold iblk; rw [View.read_apply]; show V m c main_v16 _ = _; congr 1; funext a; apply Fin.ext
  match a with
  | ⟨0, _⟩ => show win0_4.index t 0 * 512 + 1 * r.val = t.val * 512 + r.val; rw [(idx_tile t).2.2.2.2.2.2.2.2.1, one_mul]
  | ⟨1, _⟩ => show win0_4.index t 1 * 128 + 1 * e.val = e.val; rw [(idx_tile t).2.2.2.2.2.2.2.2.2.1]; omega

theorem blk5 (t : Fin cfg0.N) (r : Fin 512) (e : Fin 128) : iblk m c 5 t (ix2 r e) = V m c main_v21 (ix2 (row t r) e) := by
  unfold iblk; rw [View.read_apply]; show V m c main_v21 _ = _; congr 1; funext a; apply Fin.ext
  match a with
  | ⟨0, _⟩ => show win0_5.index t 0 * 512 + 1 * r.val = t.val * 512 + r.val; rw [(idx_tile t).2.2.2.2.2.2.2.2.2.2.1, one_mul]
  | ⟨1, _⟩ => show win0_5.index t 1 * 128 + 1 * e.val = e.val; rw [(idx_tile t).2.2.2.2.2.2.2.2.2.2.2.1]; omega

theorem blk7 (t : Fin cfg0.N) (r : Fin 512) (e : Fin 1024) : iblk m c 7 t (ix2 r e) = V m c main_v26 (ix2 (row t r) e) := by
  unfold iblk; rw [View.read_apply]; show V m c main_v26 _ = _; congr 1; funext a; apply Fin.ext
  match a with
  | ⟨0, _⟩ => show win0_7.index t 0 * 512 + 1 * r.val = t.val * 512 + r.val; rw [(idx_tile t).2.2.2.2.2.2.2.2.2.2.2.2.1, one_mul]
  | ⟨1, _⟩ => show win0_7.index t 1 * 1024 + 1 * e.val = e.val; rw [(idx_tile t).2.2.2.2.2.2.2.2.2.2.2.2.2.1]; omega

theorem blk9 (t : Fin cfg0.N) (r : Fin 512) (e : Fin 1024) : iblk m c 9 t (ix2 r e) = m ((c : Thread nD τ).loc main_arg7) (ix2 (row t r) e) := by
  rw [← V_main_arg7 m c]; unfold iblk; rw [View.read_apply]; show V m c main_arg7 _ = _; congr 1; funext a; apply Fin.ext
  match a with
  | ⟨0, _⟩ => show win0_9.index t 0 * 512 + 1 * r.val = t.val * 512 + r.val; rw [(idx_tile t).2.2.2.2.2.2.2.2.2.2.2.2.2.2.1, one_mul]
  | ⟨1, _⟩ => show win0_9.index t 1 * 1024 + 1 * e.val = e.val; rw [(idx_tile t).2.2.2.2.2.2.2.2.2.2.2.2.2.2.2.1]; omega

theorem blk6 (t : Fin cfg0.N) (j : Fin 4) (d : Fin 1024) (e : Fin 896) : iblk m c 6 t (ix3 j d e) = V m c main_v25 (ix3 j d e) := by
  unfold iblk; rw [View.read_apply]; show V m c main_v25 _ = _; congr 1; funext a; apply Fin.ext
  match a with
  | ⟨0, _⟩ => show win0_6.index t 0 * 4 + 1 * j.val = j.val; rw [(idx_whole t).1]; omega
  | ⟨1, _⟩ => show win0_6.index t 1 * 1024 + 1 * d.val = d.val; rw [(idx_whole t).2.1]; omega
  | ⟨2, _⟩ => show win0_6.index t 2 * 896 + 1 * e.val = e.val; rw [(idx_whole t).2.2.1]; omega

theorem blk8 (t : Fin cfg0.N) (d : Fin 1024) : iblk m c 8 t (ix2 0 d) = m ((c : Thread nD τ).loc main_arg1) (ix2 0 d) := by
  rw [← V_main_arg1 m c]; unfold iblk; rw [View.read_apply]; show V m c main_arg1 _ = _; congr 1; funext a; apply Fin.ext
  match a with
  | ⟨0, _⟩ => show win0_8.index t 0 * 1 + 1 * 0 = 0; rw [(idx_whole t).2.2.2.1]
  | ⟨1, _⟩ => show win0_8.index t 1 * 1024 + 1 * d.val = d.val; rw [(idx_whole t).2.2.2.2.1]; omega

/-! ## What a point leaves, as its blocks' terms -/

/-- Point `t`'s projection gradient. -/
def dprojT (t : Fin cfg0.N) : Vec Ideal S512x3584 .bf16 := dprojB (iblk m c 0 t) (iblk m c 1 t) (iblk m c 2 t) (iblk m c 3 t) (iblk m c 4 t) (iblk m c 5 t)
/-- Point `t`'s gradient of the normalised rows. -/
def duT (t : Fin cfg0.N) : FVec Ideal S512x1024 .f32 := duB (dprojT m c t) (iblk m c 6 t)

theorem whole10 (t : Fin cfg0.N) : (outsAt0 m c t.val t.isLt).1 = dprojT m c t := by
  by_cases h0 : t.val % 16 = 0
  · rw [outsAt0_A m c t h0]; dsimp only; rw [outA_10]; rfl
  · rw [outsAt0_B m c t h0]; dsimp only; rw [outB_10]; rfl

theorem whole11 (t : Fin cfg0.N) : (outsAt0 m c t.val t.isLt).2.1 = dxB (duT m c t) (iblk m c 7 t) (iblk m c 8 t) (iblk m c 9 t) := by
  by_cases h0 : t.val % 16 = 0
  · rw [outsAt0_A m c t h0]; dsimp only; rw [outA_11]; rfl
  · rw [outsAt0_B m c t h0]; dsimp only; rw [outB_11]; rfl

theorem first12 (t : Fin cfg0.N) (h0 : t.val % 16 = 0) :
    (outsAt0 m c t.val t.isLt).2.2 = accStep (duT m c t) (iblk m c 7 t) (k0_pay5 (F := Ideal)) := by
  rw [outsAt0_A m c t h0]; dsimp only; rw [outA_12]; rfl

theorem next12 (t : Fin cfg0.N) (h0 : ¬t.val % 16 = 0) :
    (outsAt0 m c t.val t.isLt).2.2 = accStep (duT m c t) (iblk m c 7 t)
      (outsAt0 m c (t.val - 1) (Nat.lt_of_le_of_lt (Nat.sub_le _ _) t.isLt)).2.2 := by
  rw [outsAt0_B m c t h0]; dsimp only; rw [outB_12]; rfl

/-! ## The blocks' terms, in the arguments -/

abbrev aX : Arr3 1 8192 1024 := m ((c : Thread nD τ).loc main_arg0)
abbrev aG : Arr2 1 1024 := m ((c : Thread nD τ).loc main_arg1)
abbrev aW : Arr3 1 1024 3584 := m ((c : Thread nD τ).loc main_arg2)
abbrev aQ : Arr2 8192 512 := m ((c : Thread nD τ).loc main_arg3)
abbrev aK : Arr2 8192 512 := m ((c : Thread nD τ).loc main_arg4)
abbrev aV : Arr2 8192 512 := m ((c : Thread nD τ).loc main_arg5)
abbrev aH : Arr2 8192 2048 := m ((c : Thread nD τ).loc main_arg6)
abbrev aR : Arr2 8192 1024 := m ((c : Thread nD τ).loc main_arg7)

theorem rot_eq (D : Arr2 8192 512) (X : Vec Ideal S512x512 .f32) (t : Fin cfg0.N) (hX : ∀ r e, X (ix2 r e) = D (ix2 (row t r) e)) (r : Fin 512) (e : Fin 512) :
    rotB (F := Ideal) X (iblk m c 4 t) (iblk m c 5 t) (ix2 r e) = rot D (row t r) e := by
  rw [rotB_apply, blk4, blk5, cos_at, sin_at, hX, hX]
  unfold rot sgnSin
  dsimp only
  rw [show e.val % 128 % 32 = e.val % 32 by omega, show swc e.val % 128 % 64 = swc e.val % 64 by omega,
    show swc e.val % 128 % 32 = swc e.val % 32 by omega]

theorem dprojT_apply (t : Fin cfg0.N) (r : Fin 512) (e : Fin 3584) :
    dprojT m c t (ix2 r e) = dproj (aQ m c) (aK m c) (aV m c) (aH m c) (row t r) e := by
  unfold dprojT
  rw [dprojB_apply]
  unfold dproj
  by_cases h0 : e.val < 512
  · rw [dif_pos h0, dif_pos h0]; exact rot_eq m c _ _ t (blk0 m c t) _ _
  rw [dif_neg h0, dif_neg h0]
  by_cases h1 : e.val < 1024
  · rw [dif_pos h1, dif_pos h1]; exact rot_eq m c _ _ t (blk1 m c t) _ _
  rw [dif_neg h1, dif_neg h1]
  by_cases h2 : e.val < 1536
  · rw [dif_pos h2, dif_pos h2]; exact blk2 m c t _ _
  rw [dif_neg h2, dif_neg h2]; exact blk3 m c t _ _

theorem duT_apply (t : Fin cfg0.N) (r : Fin 512) (d : Fin 1024) :
    duT m c t (ix2 r d) = du (aQ m c) (aK m c) (aV m c) (aH m c) (aW m c) (row t r) d := by
  unfold duT
  rw [duB_apply]
  unfold du
  refine Finset.sum_congr rfl fun e _ => ?_
  rw [dprojT_apply, blk6, slabs_at]
  refine congrArg (_ * ·) (congrArg _ ?_)
  refine congrArg (ix3 0 d) (Fin.ext ?_)
  dsimp only; omega

theorem xT_apply (t : Fin cfg0.N) (r : Fin 512) (d : Fin 1024) : iblk m c 7 t (ix2 r d) = aX m c (ix3 0 (row t r) d) := by
  rw [blk7, rows_at]

/-! ## The three arrays -/

theorem arr10 (t : Fin cfg0.N) (r : Fin 512) (e : Fin 3584) :
    (dats m 0 c).arrAt 10 cfg0.N (ix2 (row t r) e) = dproj (aQ m c) (aK m c) (aV m c) (aH m c) (row t r) e := by
  rw [← dprojT_apply, ← whole10]
  refine Eq.trans ?_ (congrFun ((blocks10 m c t (flush0_10 t)).trans (flushed10 m c t)) (ix2 r e))
  rw [View.read_apply]; show (dats m 0 c).arrAt 10 cfg0.N _ = (dats m 0 c).arrAt 10 cfg0.N _; congr 1; funext a; apply Fin.ext
  match a with
  | ⟨0, _⟩ => show t.val * 512 + r.val = win0_10.index t 0 * 512 + 1 * r.val; rw [(idx_tile t).2.2.2.2.2.2.2.2.2.2.2.2.2.2.2.2.1, one_mul]
  | ⟨1, _⟩ => show e.val = win0_10.index t 1 * 3584 + 1 * e.val; rw [(idx_tile t).2.2.2.2.2.2.2.2.2.2.2.2.2.2.2.2.2.1]; omega

theorem arr11 (t : Fin cfg0.N) (r : Fin 512) (d : Fin 1024) :
    (dats m 0 c).arrAt 11 cfg0.N (ix2 (row t r) d) =
      dxRow (du (aQ m c) (aK m c) (aV m c) (aH m c) (aW m c) (row t r)) (fun k => aX m c (ix3 0 (row t r) k)) (fun k => aG m c (ix2 0 k))
        (aR m c (ix2 (row t r) d)) d := by
  have h : (outsAt0 m c t.val t.isLt).2.1 (ix2 r d) = dxRow (du (aQ m c) (aK m c) (aV m c) (aH m c) (aW m c) (row t r)) (fun k => aX m c (ix3 0 (row t r) k)) (fun k => aG m c (ix2 0 k))
        (aR m c (ix2 (row t r) d)) d := by
    rw [whole11, dxB_apply]
    simp only [duT_apply, xT_apply, blk8, blk9]
  rw [← h]
  refine Eq.trans ?_ (congrFun ((blocks11 m c t (flush0_11 t)).trans (flushed11 m c t)) (ix2 r d))
  rw [View.read_apply]; show (dats m 0 c).arrAt 11 cfg0.N _ = (dats m 0 c).arrAt 11 cfg0.N _; congr 1; funext a; apply Fin.ext
  match a with
  | ⟨0, _⟩ => show t.val * 512 + r.val = win0_11.index t 0 * 512 + 1 * r.val; rw [(idx_tile t).2.2.2.2.2.2.2.2.2.2.2.2.2.2.2.2.2.2.1, one_mul]
  | ⟨1, _⟩ => show d.val = win0_11.index t 1 * 1024 + 1 * d.val; rw [(idx_tile t).2.2.2.2.2.2.2.2.2.2.2.2.2.2.2.2.2.2.2]; omega

/-- A row's contribution to the gradient of the norm's weight. -/
def gTerm (s : Fin 8192) (d : Fin 1024) : EReal :=
  du (aQ m c) (aK m c) (aV m c) (aH m c) (aW m c) s d * (aX m c (ix3 0 s d) * Ideal.rsqrt (ms fun k => aX m c (ix3 0 s k)))

/-- The tile's contribution. -/
theorem step12 (t : Fin cfg0.N) (a : Vec Ideal S8x1024 .f32) (r : Fin 8) (d : Fin 1024) :
    accStep (duT m c t) (iblk m c 7 t) a (ix2 r d) = a (ix2 r d) + if r.val = 0 then ∑ s : Fin 512, gTerm m c (row t s) d else 0 := by
  rw [accStep_apply]
  simp only [duT_apply, xT_apply]
  rfl

theorem outs12 (r : Fin 8) (d : Fin 1024) : ∀ (n : ℕ) (hn : n < cfg0.N), (outsAt0 m c n hn).2.2 (ix2 r d) =
    if r.val = 0 then ∑ j : Fin (n + 1), ∑ s : Fin 512, gTerm m c (row ⟨j.val, by omega⟩ s) d else 0
  | 0, hn => by
    refine (congrFun (first12 m c ⟨0, hn⟩ rfl) _).trans ?_
    rw [step12]
    have z : k0_pay5 (F := Ideal) (ix2 r d) = 0 := by pointwise [k0_pay5]
    rw [z, zero_add]
    by_cases h : r.val = 0
    · rw [if_pos h, if_pos h, Fin.sum_univ_one]; rfl
    · rw [if_neg h, if_neg h]
  | n + 1, hn => by
    have hN : cfg0.N = 16 := rfl
    refine (congrFun (next12 m c ⟨n + 1, hn⟩ (by dsimp only; omega)) _).trans ?_
    rw [step12]
    have ih := outs12 r d n (Nat.lt_of_succ_lt hn)
    refine (congrArg (· + _) ih).trans ?_
    by_cases h : r.val = 0
    · rw [if_pos h, if_pos h, if_pos h, Fin.sum_univ_castSucc (n := n + 1)]; rfl
    · rw [if_neg h, if_neg h, if_neg h, add_zero]

/-- The last point. -/
def tLast : Fin cfg0.N := ⟨15, by decide⟩

/-- The accumulated array. -/
def acc : Arr2 8 1024 := fun i => (outsAt0 m c tLast.val tLast.isLt).2.2 i

theorem flushed12_eq (t : Fin cfg0.N) (hf : (cfg0.win 12).flush t = true) :
    (dats m 0 c).flushed 12 t = ((cfg0.win 12).blk t).view.read (Elt Ideal) (acc m c) := by
  have hN : cfg0.N = 16 := rfl
  obtain rfl : t = tLast := Fin.ext (by have := (flush0_12 t).mp hf; have := t.isLt; show t.val = 15; omega)
  rw [flushed12]
  have hz' : (fun a => win0_12.index tLast a * main_v27_2.ty.shape.size a) = fun _ => 0 := funext fun a => by
    match a with
    | ⟨0, _⟩ => rfl
    | ⟨1, _⟩ => rfl
  exact (Memref.read_access_unit_zero (Elt Ideal) main_v27_2 hz' (fun a => by rw [congrFun hz' a]; simp) (acc m c)).symm

theorem arr12_acc : (dats m 0 c).arrAt 12 cfg0.N = acc m c :=
  (dats m 0 c).arrAt_eq_of_cover 12 (acc m c) (flushed12_eq m c) fun i =>
    ⟨tLast, (flush0_12 tLast).mpr rfl, by
      show i ∈ ((View.whole main_v27_2).slice (win0_12.rect tLast)).set
      rw [View.set_slice_whole, Rect.mem_set_unit]
      intro a
      have h0 : (i 0 : Nat) < 8 := (i 0).isLt
      have h1 : (i 1 : Nat) < 1024 := (i 1).isLt
      match a with
      | ⟨0, _⟩ => show 0 * 8 ≤ (i 0 : Nat) ∧ (i 0 : Nat) < 0 * 8 + 8
                  omega
      | ⟨1, _⟩ => show 0 * 1024 ≤ (i 1 : Nat) ∧ (i 1 : Nat) < 0 * 1024 + 1024
                  omega⟩

theorem arr12 (r : Fin 8) (d : Fin 1024) :
    (dats m 0 c).arrAt 12 cfg0.N (ix2 r d) = if r.val = 0 then ∑ s : Fin 8192, gTerm m c s d else 0 := by
  rw [arr12_acc]
  refine (outs12 m c r d 15 (by decide)).trans ?_
  rw [Fin.sum_univ_tiles 16 512 rfl]
  rfl

end Cert.InB
-- ==== Proof.InB.Row.lean ====
/- The gradient of one row of `x` through the RMS norm, in the reference's form and in the kernel's: equal where the row, the
   incoming gradient and the weight are finite. -/
module

public import proofs.«01_k».proof.Proof.InB.Spec

@[expose] public section

noncomputable section

namespace Cert.InB

open Idealize.ShloMosaic

theorem lit_1024 : Ideal.ofBits .f32 1149239296#32 = ((1024 : ℝ) : EReal) := by
  simp [Ideal.ofBits, Ideal.ieee, -EReal.coe_mul]; norm_num

theorem lit_neg_half : Ideal.ofBits .f32 3204448256#32 = ((-1 / 2 : ℝ) : EReal) := by
  simp [Ideal.ofBits, Ideal.ieee, -EReal.coe_mul]; norm_num

theorem lit_eps : ∃ r : ℝ, 0 < r ∧ Ideal.ofBits .f32 897988541#32 = (r : EReal) := by
  refine ⟨(Ideal.ofBits .f32 897988541#32).toReal, ?_, ?_⟩ <;>
  · simp [Ideal.ofBits, Ideal.ieee, -EReal.coe_mul]
    try norm_num

/-- A sum of reals is a real. -/
theorem sum_coe {ι : Type} [Fintype ι] (f : ι → ℝ) : ∑ i, (f i : EReal) = ((∑ i, f i : ℝ) : EReal) :=
  (map_sum (⟨⟨Real.toEReal, EReal.coe_zero⟩, EReal.coe_add⟩ : ℝ →+ EReal) f Finset.univ).symm

/-- The mean square of a finite row plus the constant is a positive real. -/
theorem ms_coe (x : Fin 1024 → ℝ) : ∃ r : ℝ, 0 < r ∧ ms (fun d => (x d : EReal)) = (r : EReal) := by
  obtain ⟨e, he, h⟩ := lit_eps
  refine ⟨(∑ d, x d * x d) * (1 / 1024) + e, ?_, ?_⟩
  · have : 0 ≤ ∑ d, x d * x d := Finset.sum_nonneg fun d _ => mul_self_nonneg _
    positivity
  · unfold ms
    simp only [← EReal.coe_mul]
    rw [lit_1024, Ideal.div_coe (by norm_num), h, sum_coe, ← EReal.coe_mul, ← EReal.coe_add]

/-- The reference's form of the row's gradient. -/
def dxRowRef (x u g : Fin 1024 → EReal) (dh : EReal) (d : Fin 1024) : EReal :=
  dh + u d * g d * Ideal.rsqrt (ms x)
    + x d * Ideal.div ((∑ k, x k * (u k * g k)) * (Ideal.ofBits .f32 3204448256#32 * Ideal.div (Ideal.rsqrt (ms x)) (ms x))) (Ideal.ofBits .f32 1149239296#32)
    + Ideal.div ((∑ k, x k * (u k * g k)) * (Ideal.ofBits .f32 3204448256#32 * Ideal.div (Ideal.rsqrt (ms x)) (ms x))) (Ideal.ofBits .f32 1149239296#32) * x d

theorem dxRow_eq (x u g : Fin 1024 → ℝ) (dh : EReal) (d : Fin 1024) :
    dxRowRef (fun k => (x k : EReal)) (fun k => (u k : EReal)) (fun k => (g k : EReal)) dh d
      = dxRow (fun k => (u k : EReal)) (fun k => (x k : EReal)) (fun k => (g k : EReal)) dh d := by
  obtain ⟨r, hr, h⟩ := ms_coe x
  unfold dxRowRef dxRow
  simp only [h]
  rw [lit_1024, lit_neg_half, Ideal.rsqrt_coe, if_neg (not_lt.mpr hr.le), if_neg hr.ne', Ideal.div_coe hr.ne']
  rw [Ideal.div_coe (by norm_num : (1024 : ℝ) ≠ 0), Ideal.div_coe (by norm_num : (1024 : ℝ) ≠ 0), add_assoc, add_assoc]
  refine congrArg (dh + ·) ?_
  simp only [← EReal.coe_mul]
  rw [sum_coe, sum_coe]
  simp only [← EReal.coe_mul, ← EReal.coe_sub, ← EReal.coe_add]
  refine congrArg Real.toEReal ?_
  have hs : Real.sqrt r ≠ 0 := (Real.sqrt_pos.mpr hr).ne'
  have h1 : 1 / r = (Real.sqrt r)⁻¹ * (Real.sqrt r)⁻¹ := by
    rw [← mul_inv, Real.mul_self_sqrt hr.le, one_div]
  have h2 : ∑ k, u k * g k * (x k * (Real.sqrt r)⁻¹) = (∑ k, x k * (u k * g k)) * (Real.sqrt r)⁻¹ := by
    rw [Finset.sum_mul]; exact Finset.sum_congr rfl fun k _ => by ring
  rw [h2, h1]
  ring

end Cert.InB
-- ==== Proof.InB.RefVal.lean ====
/- The reference's three results read at an index, over the extended reals. -/
module

public import proofs.«01_k».proof.Proof.Gen.ReferenceIdeal.Read
public import proofs.«01_k».proof.Proof.InB.Values
public import proofs.«01_k».proof.Proof.InB.Row
public import Idealize.ShloMosaic.Lib.Pointwise

@[expose] public section

set_option maxRecDepth 16384

noncomputable section

namespace Cert.InB.Ref

open Cert.ReferenceIdeal Cert.ReferenceIdeal.Gen Cert.ReferenceIdeal.Read Idealize.ShloMosaic Idealize.ShloMosaic.TcCoe

/-- A sum over axes of size one that keeps one axis reads the one element. -/
theorem sum_unit_01 {n : Nat} (h : (⟨3, ![1, 1, n]⟩ : Shape).ReducesTo [0, 1] ⟨1, ![n]⟩) (v : (⟨3, ![1, 1, n]⟩ : Shape).Idx → EReal) (d : Fin n) :
    Ideal.hostReduceAdd h v 0 (ix1 d) = v (ix3 0 0 d) := by
  unfold Ideal.hostReduceAdd
  rw [zero_add, Finset.sum_eq_single_of_mem (ix3 0 0 d)]
  · refine Finset.mem_filter.mpr ⟨Finset.mem_univ _, funext fun b => ?_⟩
    match b with
    | ⟨0, _⟩ => rfl
  · intro i hi hne
    refine absurd (funext fun b => ?_) hne
    have e := congrFun (Finset.mem_filter.mp hi).2 0
    match b with
    | ⟨0, _⟩ => exact Subsingleton.elim (α := Fin 1) _ _
    | ⟨1, _⟩ => exact Subsingleton.elim (α := Fin 1) _ _
    | ⟨2, _⟩ => exact e

/-- The same of a middle axis. -/
theorem sum_unit_02 {n : Nat} (h : (⟨3, ![1, n, 1]⟩ : Shape).ReducesTo [0, 2] ⟨1, ![n]⟩) (v : (⟨3, ![1, n, 1]⟩ : Shape).Idx → EReal) (d : Fin n) :
    Ideal.hostReduceAdd h v 0 (ix1 d) = v (ix3 0 d 0) := by
  unfold Ideal.hostReduceAdd
  rw [zero_add, Finset.sum_eq_single_of_mem (ix3 0 d 0)]
  · refine Finset.mem_filter.mpr ⟨Finset.mem_univ _, funext fun b => ?_⟩
    match b with
    | ⟨0, _⟩ => rfl
  · intro i hi hne
    refine absurd (funext fun b => ?_) hne
    have e := congrFun (Finset.mem_filter.mp hi).2 0
    match b with
    | ⟨0, _⟩ => exact Subsingleton.elim (α := Fin 1) _ _
    | ⟨1, _⟩ => exact e
    | ⟨2, _⟩ => exact Subsingleton.elim (α := Fin 1) _ _

theorem v122_at (D : Arr2 8192 512) (s : Fin 8192) (h : Fin 8) (j : Fin 32) :
    val_main_v122 (F := Ideal) D (ix4 0 s h j) = D (ix2 s ⟨h.val * 64 + (32 + j.val), by omega⟩) * Ideal.sin (ang s.val j.val)
      + D (ix2 s ⟨h.val * 64 + j.val, by omega⟩) * Ideal.cos (ang s.val j.val) := by
  pointwise [val_main_v122, val_main_v121, val_main_v120, val_main_v36, val_main_v35, val_main_v34, val_main_v33, val_main_v31, val_main_v28, val_main_v27, val_main_cst_4, val_main_v26, val_main_v25, val_main_cst_3, val_main_v24, val_main_v23, val_main_v32, val_main_v30, val_main_v29, val_main_v110, val_main_v92, val_main_v113, val_main_v112, val_main_v38, val_main_v37, val_main_v111]
  rfl

theorem v119_at (D : Arr2 8192 512) (s : Fin 8192) (h : Fin 8) (j : Fin 32) :
    val_main_v119 (F := Ideal) D (ix4 0 s h j) = D (ix2 s ⟨h.val * 64 + (32 + j.val), by omega⟩) * Ideal.cos (ang s.val j.val)
      + -D (ix2 s ⟨h.val * 64 + j.val, by omega⟩) * Ideal.sin (ang s.val j.val) := by
  pointwise [val_main_v119, val_main_v118, val_main_v117, val_main_v38, val_main_v37, val_main_v34, val_main_v33, val_main_v31, val_main_v28, val_main_v27, val_main_cst_4, val_main_v26, val_main_v25, val_main_cst_3, val_main_v24, val_main_v23, val_main_v32, val_main_v30, val_main_v29, val_main_v116, val_main_v110, val_main_v92, val_main_v115, val_main_v114, val_main_v36, val_main_v35, val_main_v111]
  rfl

theorem v105_at (D : Arr2 8192 512) (s : Fin 8192) (h : Fin 8) (j : Fin 32) :
    val_main_v105 (F := Ideal) D (ix4 0 s h j) = D (ix2 s ⟨h.val * 64 + (32 + j.val), by omega⟩) * Ideal.sin (ang s.val j.val)
      + D (ix2 s ⟨h.val * 64 + j.val, by omega⟩) * Ideal.cos (ang s.val j.val) := by
  pointwise [val_main_v105, val_main_v96, val_main_v95, val_main_v68, val_main_v67, val_main_v64, val_main_v63, val_main_v61, val_main_v58, val_main_v57, val_main_cst_6, val_main_v56, val_main_v55, val_main_cst_5, val_main_v54, val_main_v53, val_main_v62, val_main_v60, val_main_v59, val_main_v94, val_main_v91, val_main_v104, val_main_v93, val_main_v103, val_main_v66, val_main_v65]
  rfl

theorem v102_at (D : Arr2 8192 512) (s : Fin 8192) (h : Fin 8) (j : Fin 32) :
    val_main_v102 (F := Ideal) D (ix4 0 s h j) = D (ix2 s ⟨h.val * 64 + (32 + j.val), by omega⟩) * Ideal.cos (ang s.val j.val)
      + -D (ix2 s ⟨h.val * 64 + j.val, by omega⟩) * Ideal.sin (ang s.val j.val) := by
  pointwise [val_main_v102, val_main_v98, val_main_v97, val_main_v66, val_main_v65, val_main_v64, val_main_v63, val_main_v61, val_main_v58, val_main_v57, val_main_cst_6, val_main_v56, val_main_v55, val_main_cst_5, val_main_v54, val_main_v53, val_main_v62, val_main_v60, val_main_v59, val_main_v94, val_main_v91, val_main_v101, val_main_v99, val_main_v93, val_main_v100, val_main_v68, val_main_v67]
  rfl

/-- The two padded halves of a head, added, are the rotary gradient. -/
theorem halves (D : Arr2 8192 512) (s : Fin 8192) (c : Nat) (hc : c < 512) (lo hi : (⟨4, ![1, 8192, 8, 32]⟩ : Shape).Idx → EReal)
    (hhi : ∀ h j, hi (ix4 0 s h j) = D (ix2 s ⟨h.val * 64 + (32 + j.val), by omega⟩) * Ideal.sin (ang s.val j.val)
      + D (ix2 s ⟨h.val * 64 + j.val, by omega⟩) * Ideal.cos (ang s.val j.val))
    (hlo : ∀ h j, lo (ix4 0 s h j) = D (ix2 s ⟨h.val * 64 + (32 + j.val), by omega⟩) * Ideal.cos (ang s.val j.val)
      + -D (ix2 s ⟨h.val * 64 + j.val, by omega⟩) * Ideal.sin (ang s.val j.val)) :
    ((if h : c / 64 < 8 ∧ 32 ≤ c % 64 ∧ c % 64 - 32 < 32 then lo (ix4 0 s ⟨c / 64, h.1⟩ ⟨c % 64 - 32, h.2.2⟩) else 0) +
      if h : c / 64 < 8 ∧ c % 64 < 32 then hi (ix4 0 s ⟨c / 64, h.1⟩ ⟨c % 64, h.2⟩) else 0) = rot D s ⟨c, hc⟩ := by
  unfold rot sgnSin
  by_cases h : c % 64 < 32
  · have es : swc c = c + 32 := if_pos h
    rw [dif_neg (by omega), dif_pos ⟨by omega, h⟩, zero_add, hhi, add_comm]
    dsimp only
    rw [if_neg (by rw [es]; omega), at2 D s (a := ⟨c / 64 * 64 + c % 64, by omega⟩) (b := ⟨c, hc⟩) (by dsimp only; omega),
      at2 D s (a := ⟨c / 64 * 64 + (32 + c % 64), by omega⟩) (b := ⟨swc c, swc_lt hc⟩) (by dsimp only; omega),
      show swc c % 32 = c % 64 by omega, show c % 32 = c % 64 by omega]
  · have es : swc c = c - 32 := if_neg h
    rw [dif_pos ⟨by omega, by omega, by omega⟩, dif_neg (by omega), add_zero, hlo]
    dsimp only
    rw [if_pos (by rw [es]; omega), at2 D s (a := ⟨c / 64 * 64 + (c % 64 - 32), by omega⟩) (b := ⟨swc c, swc_lt hc⟩) (by dsimp only; omega),
      at2 D s (a := ⟨c / 64 * 64 + (32 + (c % 64 - 32)), by omega⟩) (b := ⟨c, hc⟩) (by dsimp only; omega),
      show swc c % 32 = c % 64 - 32 by omega, show c % 32 = c % 64 - 32 by omega, neg_mul, mul_neg]

theorem v132_at (dq dk dv : Arr2 8192 512) (dhg : Arr2 8192 2048) (s : Fin 8192) (e : Fin 3584) :
    val_main_v132 (F := Ideal) dq dk dv dhg (ix3 0 s e) = dproj dq dk dv dhg s e := by
  pointwise [val_main_v132, val_main_v131, val_main_v126, val_main_v125, val_main_v124, val_main_cst_11, val_main_v123, val_main_cst_10, val_main_cst_14, val_main_v130, val_main_v129, val_main_v109, val_main_v108, val_main_v107, val_main_cst_9, val_main_v106, val_main_cst_8, val_main_cst_13, val_main_v128, val_main_v89, val_main_v88, val_main_v87, val_main_cst_7, val_main_v127, val_main_v90, val_main_cst_12]
  unfold dproj
  by_cases h0 : e.val < 512
  · have nA : ¬ (1536 ≤ e.val ∧ e.val - 1536 < 2048) := by omega
    have nB : ¬ (1024 ≤ e.val ∧ e.val - 1024 < 512) := by omega
    have nC : ¬ (512 ≤ e.val ∧ e.val - 512 < 512) := by omega
    simp only [dif_neg nA, dif_neg nB, dif_neg nC, dif_pos h0, dif_pos h0, zero_add, zero_add, zero_add]
    exact halves dq s e.val h0 (val_main_v119 (F := Ideal) dq) (val_main_v122 (F := Ideal) dq) (v122_at dq s) (v119_at dq s)
  simp only [dif_neg h0, dif_neg h0, add_zero]
  by_cases h1 : e.val < 1024
  · have nA : ¬ (1536 ≤ e.val ∧ e.val - 1536 < 2048) := by omega
    have nB : ¬ (1024 ≤ e.val ∧ e.val - 1024 < 512) := by omega
    have yC : (512 ≤ e.val ∧ e.val - 512 < 512) := by omega
    simp only [dif_neg nA, dif_neg nB, dif_pos yC, dif_pos h1, zero_add, zero_add]
    exact halves dk s (e.val - 512) (by omega) (val_main_v102 (F := Ideal) dk) (val_main_v105 (F := Ideal) dk) (v105_at dk s) (v102_at dk s)
  have nC : ¬ (512 ≤ e.val ∧ e.val - 512 < 512) := by omega
  simp only [dif_neg nC, dif_neg h1, add_zero]
  by_cases h2 : e.val < 1536
  · have nA : ¬ (1536 ≤ e.val ∧ e.val - 1536 < 2048) := by omega
    have yB : (1024 ≤ e.val ∧ e.val - 1024 < 512) := by omega
    simp only [dif_neg nA, dif_pos yB, dif_pos h2, zero_add]
  have yA : (1536 ≤ e.val ∧ e.val - 1536 < 2048) := by omega
  have nB : ¬ (1024 ≤ e.val ∧ e.val - 1024 < 512) := by omega
  simp only [dif_pos yA, dif_neg nB, dif_neg h2, add_zero]

/-- The reference's first result. -/
theorem v164_at (dq dk dv : Arr2 8192 512) (dhg : Arr2 8192 2048) (s : Fin 8192) (e : Fin 3584) :
    val_main_v164 (F := Ideal) dq dk dv dhg (ix2 s e) = dproj dq dk dv dhg s e := by
  rw [← v132_at]
  pointwise [val_main_v164, val_main_v163]

theorem v136_at (w : Arr3 1 1024 3584) (dq dk dv : Arr2 8192 512) (dhg : Arr2 8192 2048) (s : Fin 8192) (d : Fin 1024) :
    val_main_v136 (F := Ideal) w dq dk dv dhg (ix3 0 s d) = du dq dk dv dhg w s d := by
  pointwise [val_main_v136, val_main_v17]
  exact Finset.sum_congr rfl fun e _ => congrArg (· * _) (v132_at dq dk dv dhg s e)

/-- The reference's third result: the gradient of the norm's weight above seven rows of zeros. -/
theorem v162_at (x : Arr3 1 8192 1024) (w : Arr3 1 1024 3584) (dq dk dv : Arr2 8192 512) (dhg : Arr2 8192 2048) (r : Fin 8) (d : Fin 1024) :
    val_main_v162 (F := Ideal) x w dq dk dv dhg (ix2 r d) =
      if r.val = 0 then ∑ s : Fin 8192, du dq dk dv dhg w s d * (x (ix3 0 s d) * Ideal.rsqrt (ms fun k => x (ix3 0 s k))) else 0 := by
  pointwise [val_main_v162, val_main_v161, val_main_cst_20, val_main_v160, val_main_v143, val_main_v140, val_main_v139, val_main_v138, val_main_v13, val_main_v12, val_main_v8, val_main_v7, val_main_v6, val_main_cst_1, val_main_v5, val_main_v4, val_main_cst_0, val_main_v3, val_main_v2, val_main_v1, val_main_cst, val_main_cst_15, val_main_cst_16]
  by_cases h : r.val = 0
  · rw [dif_pos (by omega), if_pos h, sum_unit_01]
    pointwise
    refine Finset.sum_congr rfl fun s _ => ?_
    rw [v136_at, mul_comm]
    rfl
  · rw [dif_neg (by omega), if_neg h]

/-- The reference's second result. -/
theorem v165_at (x : Arr3 1 8192 1024) (g : Arr2 1 1024) (w : Arr3 1 1024 3584) (dq dk dv : Arr2 8192 512) (dhg : Arr2 8192 2048)
    (dh : Arr2 8192 1024) (s : Fin 8192) (d : Fin 1024) :
    val_main_v165 (F := Ideal) x g w dq dk dv dhg dh (ix2 s d)
      = dxRowRef (fun k => x (ix3 0 s k)) (du dq dk dv dhg w s) (fun k => g (ix2 0 k)) (dh (ix2 s d)) d := by
  pointwise [val_main_v165, val_main_v159, val_main_v158, val_main_v155, val_main_v154, val_main_v153, val_main_v152, val_main_v151, val_main_cst_18, val_main_v150, val_main_v146, val_main_v145, val_main_v144, val_main_v142, val_main_v141, val_main_v14, val_main_v0, val_main_cst_17, val_main_v11, val_main_v9, val_main_v8, val_main_v7, val_main_v6, val_main_cst_1, val_main_v5, val_main_v4, val_main_cst_0, val_main_v3, val_main_v2, val_main_v1, val_main_cst, val_main_v10, val_main_cst_2, val_main_cst_19, val_main_v157, val_main_v156, val_main_v149, val_main_v148, val_main_v147, val_main_v133]
  rw [sum_unit_02]
  pointwise [v136_at]
  rfl

end Cert.InB.Ref
-- ==== Proof.Finite.lean ====
/- Finite extended reals: what sums, products and the elementary functions keep, and how a precondition's "every element's
   absolute value is below infinity" is read at an element. -/
module

public import Idealize.ShloMosaic.Lib.Pointwise
public import Idealize.ShloMosaic.Lib.ReduceAll

@[expose] public section

noncomputable section

namespace Cert.Fin

open Idealize.ShloMosaic

/-- `x` is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, rfl⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, rfl⟩
theorem IsReal.sum {ι : Type} (s : Finset ι) (f : ι → EReal) (h : ∀ i ∈ s, IsReal (f i)) : IsReal (∑ i ∈ s, f i) :=
  Finset.sum_induction f IsReal (fun _ _ => IsReal.add) IsReal.zero h
theorem IsReal.cos {x : EReal} (hx : IsReal x) : IsReal (Ideal.cos x) := by
  obtain ⟨a, rfl⟩ := hx; exact ⟨Real.cos a, Ideal.cos_coe a⟩
theorem IsReal.sin {x : EReal} (hx : IsReal x) : IsReal (Ideal.sin x) := by
  obtain ⟨a, rfl⟩ := hx; exact ⟨Real.sin a, Ideal.sin_coe a⟩
theorem IsReal.pow {x y : EReal} (hx : IsReal x) (hy : IsReal y) : IsReal (Ideal.pow x y) := by
  obtain ⟨a, rfl⟩ := hx; obtain ⟨b, rfl⟩ := hy; exact ⟨Real.rpow a b, rfl⟩

theorem lit_inf : Ideal.ofBits .f32 0x7F800000#32 = ⊤ := by
  simp [Ideal.ofBits, Ideal.ieee]

/-- An element whose absolute value compares below infinity is a real. -/
theorem real_of_cmp (x : EReal) (h : Ideal.cmp .olt (max x (-x)) (Ideal.ofBits .f32 0x7F800000#32) = 1#1) : IsReal x := by
  rw [lit_inf] at h
  induction x with
  | bot => simp [Ideal.cmp] at h
  | coe r => exact ⟨r, rfl⟩
  | top => simp [Ideal.cmp] at h

/-- Two words' conjunction is one only where both are. -/
theorem andi_one {a b : BitVec 1} (h : IntOp.andi a b = 1#1) : a = 1#1 ∧ b = 1#1 := by
  revert a b; decide

end Cert.Fin
-- ==== Proof.InB.Pre.lean ====
/- The precondition, element by element, and the finiteness of the gradient of the normalised rows. -/
module

public import proofs.«01_k».proof.Defs
public import proofs.«01_k».proof.Proof.Gen.Pre_finite
public import proofs.«01_k».proof.Proof.InB.Spec
public import proofs.«01_k».proof.Proof.Finite

@[expose] public section

noncomputable section

namespace Cert.InB

open Idealize.ShloMosaic Cert.Fin

local instance : Cert.Pre_finite.Facts := Cert.Pre_finite.Gen.facts

instance one_index : Subsingleton (⟨0, ![]⟩ : Shape).Idx := ⟨fun _ _ => funext fun a => a.elim0⟩

theorem finite_args (x : Arr3 1 8192 1024) (g : Arr2 1 1024) (w : Arr3 1 1024 3584) (dq dk dv : Arr2 8192 512) (dhg : Arr2 8192 2048) (dh : Arr2 8192 1024)
    (h : Cert.Pre_finite.fn (F := Ideal) x g w dq dk dv dhg dh (fun a => a.elim0) = 1#1) :
    (∀ i, IsReal (x i)) ∧ (∀ i, IsReal (g i)) ∧ (∀ i, IsReal (w i)) ∧ (∀ i, IsReal (dq i)) ∧ (∀ i, IsReal (dk i)) ∧ (∀ i, IsReal (dv i)) ∧ (∀ i, IsReal (dhg i)) := by
  dsimp only [Cert.Pre_finite.fn, Cert.Pre_finite.fn_part1, Cert.Pre_finite.fn_part2] at h
  obtain ⟨h, h6⟩ := andi_one h
  obtain ⟨h, h5⟩ := andi_one h
  obtain ⟨h, h4⟩ := andi_one h
  obtain ⟨h, h3⟩ := andi_one h
  obtain ⟨h, h2⟩ := andi_one h
  obtain ⟨h0, h1⟩ := andi_one h
  exact ⟨fun i => real_of_cmp _ (Host.reduce_andi_all _ _ _ _ _ h0 i), fun i => real_of_cmp _ (Host.reduce_andi_all _ _ _ _ _ h1 i),
    fun i => real_of_cmp _ (Host.reduce_andi_all _ _ _ _ _ h2 i), fun i => real_of_cmp _ (Host.reduce_andi_all _ _ _ _ _ h3 i),
    fun i => real_of_cmp _ (Host.reduce_andi_all _ _ _ _ _ h4 i), fun i => real_of_cmp _ (Host.reduce_andi_all _ _ _ _ _ h5 i),
    fun i => real_of_cmp _ (Host.reduce_andi_all _ _ _ _ _ h6 i)⟩

theorem ang_real (s j : Nat) : IsReal (ang s j) := by
  have hd : Ideal.ofBits .f32 1107296256#32 = ((32 : ℝ) : EReal) := by
    simp [Ideal.ofBits, Ideal.ieee, -EReal.coe_mul]; norm_num
  have hb : IsReal (Ideal.ofBits .f32 1176256512#32) := ⟨10000, by
    simp [Ideal.ofBits, Ideal.ieee, -EReal.coe_mul]; norm_num⟩
  unfold ang
  refine IsReal.mul ⟨_, rfl⟩ (IsReal.pow hb ?_)
  rw [hd]
  have e : -FloatOps.sitofp (F := Ideal) .f32 (BitVec.ofNat 32 j) = ((-(((BitVec.ofNat 32 j).toInt : ℤ) : ℝ) : ℝ) : EReal) := rfl
  rw [e, Ideal.div_coe (by norm_num)]
  exact IsReal.coe _

theorem sgnSin_real (s c : Nat) : IsReal (sgnSin s c) := by
  unfold sgnSin; split
  · exact (ang_real s _).sin.neg
  · exact (ang_real s _).sin

theorem rot_real (D : Arr2 8192 512) (hD : ∀ i, IsReal (D i)) (s : Fin 8192) (c : Fin 512) : IsReal (rot D s c) :=
  ((hD _).mul (ang_real _ _).cos).add ((hD _).mul (sgnSin_real _ _))

theorem du_real (dq dk dv : Arr2 8192 512) (dhg : Arr2 8192 2048) (w : Arr3 1 1024 3584) (hq : ∀ i, IsReal (dq i)) (hk : ∀ i, IsReal (dk i))
    (hv : ∀ i, IsReal (dv i)) (hh : ∀ i, IsReal (dhg i)) (hw : ∀ i, IsReal (w i)) (s : Fin 8192) (d : Fin 1024) : IsReal (du dq dk dv dhg w s d) := by
  refine IsReal.sum _ _ fun e _ => IsReal.mul ?_ (hw _)
  unfold dproj
  split
  · exact rot_real dq hq _ _
  · split
    · exact rot_real dk hk _ _
    · split
      · exact hv _
      · exact hh _

end Cert.InB
-- ==== Proof.InB.Claim.lean ====
/- The equation of the two programs' results, array by array, and the claims of the pair. -/
module

public import proofs.«01_k».proof.Proof.Gen.Kernel.Frame
public import proofs.«01_k».proof.Proof.InB.Arrays
public import proofs.«01_k».proof.Proof.InB.Row
public import proofs.«01_k».proof.Proof.InB.RefVal
public import proofs.«01_k».proof.Proof.InB.Pre
public import Idealize.ShloMosaic.Lib.Claim

@[expose] public section

set_option maxRecDepth 16384

noncomputable section

namespace Cert.InB

open Cert.KernelIdeal Cert.KernelIdeal.Gen Cert.KernelIdeal.Value Idealize.ShloMosaic Idealize.ShloMosaic.TcCoe Idealize.SL.Sem Cert.Fin
open Cert.ReferenceIdeal.Read (val_main_v164 val_main_v165 val_main_v162)

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_finite.Facts := Cert.Pre_finite.Gen.facts

variable (m : (ℓ : Loc nD τ sig) → Buf (Elt Ideal) ℓ) (c : Dev nD)

/-- Every sequence position is a row of a tile. -/
theorem row_surj (s : Fin 8192) : ∃ (t : Fin cfg0.N) (r : Fin 512), row t r = s :=
  ⟨⟨s.val / 512, by have : cfg0.N = 16 := rfl; omega⟩, ⟨s.val % 512, by omega⟩, Fin.ext (by show s.val / 512 * 512 + s.val % 512 = s.val; omega)⟩

theorem ext2 {a b : Nat} (f g : Arr2 a b) (h : ∀ i j, f (ix2 i j) = g (ix2 i j)) : f = g := funext fun i => by
  have e : i = ix2 (i 0) (i 1) := funext fun k => by
    match k with
    | ⟨0, _⟩ => rfl
    | ⟨1, _⟩ => rfl
  rw [e]; exact h _ _

theorem eq10 : (val_main_v164 (F := Ideal) (aQ m c) (aK m c) (aV m c) (aH m c) : Arr2 8192 3584) = (dats m 0 c).arrAt 10 cfg0.N :=
  ext2 _ _ fun s e => by
    obtain ⟨t, r, rfl⟩ := row_surj s
    rw [Ref.v164_at]; exact (arr10 m c t r e).symm

theorem eq12 : (val_main_v162 (F := Ideal) (aX m c) (aW m c) (aQ m c) (aK m c) (aV m c) (aH m c) : Arr2 8 1024) = (dats m 0 c).arrAt 12 cfg0.N :=
  ext2 _ _ fun r d => by rw [Ref.v162_at]; exact (arr12 m c r d).symm

theorem eq11 (h : Cert.Pre_KernelIdeal_finite m) :
    (val_main_v165 (F := Ideal) (aX m c) (aG m c) (aW m c) (aQ m c) (aK m c) (aV m c) (aH m c) (aR m c) : Arr2 8192 1024) = (dats m 0 c).arrAt 11 cfg0.N :=
  ext2 _ _ fun s d => by
    obtain ⟨hx, hg, hw, hq, hk, hv, hh⟩ := finite_args _ _ _ _ _ _ _ _ (congrFun (h c) _)
    obtain ⟨t, r, rfl⟩ := row_surj s
    rw [Ref.v165_at]
    refine Eq.trans ?_ (arr11 m c t r d).symm
    choose x ex using fun k : Fin 1024 => hx (ix3 0 (row t r) k)
    choose g eg using fun k : Fin 1024 => hg (ix2 0 k)
    choose u eu using du_real (aQ m c) (aK m c) (aV m c) (aH m c) (aW m c) hq hk hv hh hw (row t r)
    rw [funext ex, funext eg, funext eu]
    exact dxRow_eq x u g _ d

theorem algebraic : Cert.algebraic_KernelIdeal_ReferenceIdeal_pre_finite := by
  intro m g m' g' hpre hargs
  refine ⟨fun c => (dats m 0 c).arrAt 10 cfg0.N, fun c => (dats m 0 c).arrAt 11 cfg0.N, fun c => (dats m 0 c).arrAt 12 cfg0.N, run_blocks m g, ?_⟩
  refine (θ_run _ _ _).mono (fun r h c => ?_) (Cert.ReferenceIdeal.Value.run m' g')
  obtain ⟨h0, h1, h2, hk⟩ := h c
  obtain ⟨a0, a1, a2, a3, a4, a5, a6, a7⟩ := hargs c
  refine ⟨h0.trans ?_, h1.trans ?_, h2.trans ?_, hk⟩
  · rw [Cert.ReferenceIdeal.Read.val_main_v164_eq, StableHlo.launchContents_devRef, StableHlo.launchContents_devRef, StableHlo.launchContents_devRef, StableHlo.launchContents_devRef]
    refine Eq.trans ?_ (eq10 m c)
    rw [a3, a4, a5, a6]
  · rw [Cert.ReferenceIdeal.Read.val_main_v165_eq]
    refine Eq.trans ?_ (eq11 m c hpre)
    repeat rw [StableHlo.launchContents_devRef]
    rw [a0, a1, a2, a3, a4, a5, a6, a7]
  · rw [Cert.ReferenceIdeal.Read.val_main_v162_eq]
    refine Eq.trans ?_ (eq12 m c)
    repeat rw [StableHlo.launchContents_devRef]
    rw [a0, a2, a3, a4, a5, a6]

theorem reference_frame : Cert.quiescent_ReferenceIdeal := fun m g _ =>
  (θ_run _ _ _).mono (fun r h => ⟨fun c => (h c).2.2.2, sem_eq_zero_of_no_sems (by decide) r.2⟩)
    (Cert.ReferenceIdeal.Value.run m g)

theorem claim : Cert.quiescent_Kernel ∧ Cert.quiescent_KernelIdeal ∧ Cert.quiescent_KernelIdeal_pre_finite ∧ Cert.quiescent_ReferenceIdeal
    ∧ Cert.quiescent_ReferenceIdeal_pre_finite ∧ Cert.preserves_Kernel_KernelIdeal ∧ Cert.algebraic_KernelIdeal_ReferenceIdeal_pre_finite :=
  ⟨fun m ρ _ => Cert.Kernel.Gen.frame m ρ, fun m ρ _ => Cert.KernelIdeal.Gen.frame m ρ, fun m ρ _ => Cert.KernelIdeal.Gen.frame m ρ,
    reference_frame, fun m g _ => reference_frame m g trivial, trivial, algebraic⟩

end Cert.InB
-- ==== Proof.Ffn.Blocks0.lean ====
/- What one grid point of `ffn_fwd` leaves in its output blocks, as terms over the input blocks: the mixed rows
   (`mixedB`), the first residual (`h1B`), its norm (`u2B`), the gate and the up half (`gateB`, `upB`), their gated
   product (`actB`), the gradient through the loss and the final norm (`dh2B`) and the two accumulated rows. -/
module

public import proofs.«01_k».proof.Proof.Gen.Kernel2Ideal.Frame.Region0
public import Idealize.ShloMosaic.Lib.Pointwise
public import Idealize.ShloMosaic.Lib.ValueIdx
public import Idealize.ShloMosaic.Lib.VecWindow

@[expose] public section

set_option maxRecDepth 16384

noncomputable section

namespace Cert.Ffn

open Cert.Kernel2Ideal Cert.Kernel2Ideal.Gen Idealize.ShloMosaic Idealize.ShloMosaic.TcCoe

variable {F : FTy → Type} [FloatOps F]

/-- Slab `j` of the weight of the gate and the up half. -/
def slab (w : Vec F S4x1024x1408 .bf16) (j : Nat) (h : ∀ a, (![j, 0, 0] : Fin 3 → Nat) a + S1x1024x1408.size a ≤ S4x1024x1408.size a) :
    Vec F S1x1024x1408 .bf16 :=
  View.ld (S := S4x1024x1408) w (Rect.unit ![j, 0, 0] S1x1024x1408.size h)

def slab0 (w : Vec F S4x1024x1408 .bf16) : Vec F S1x1024x1408 .bf16 := slab w 0 inb_S4x1024x1408_S1x1024x1408_0_0_0
def slab1 (w : Vec F S4x1024x1408 .bf16) : Vec F S1x1024x1408 .bf16 := slab w 1 inb_S4x1024x1408_S1x1024x1408_1_0_0
def slab2 (w : Vec F S4x1024x1408 .bf16) : Vec F S1x1024x1408 .bf16 := slab w 2 inb_S4x1024x1408_S1x1024x1408_2_0_0
def slab3 (w : Vec F S4x1024x1408 .bf16) : Vec F S1x1024x1408 .bf16 := slab w 3 inb_S4x1024x1408_S1x1024x1408_3_0_0

/-- The product of the gated rows with the down projection. -/
def downB (u : FVec F S256x1024 .bf16) (w : Vec F S4x1024x1408 .bf16) (wd : Vec F S2816x1024 .bf16) : FVec F S256x1024 .f32 :=
  k0_pay11 u (slab0 w) (slab1 w) (slab2 w) (slab3 w) wd

/-- The gradient of the second residual, from the first residual and the down projection's product. -/
def dh2B (h d : FVec F S256x1024 .f32) (fw : Vec F S1x1024 .f32) (t : Vec F S256x1024 .f32) : FVec F S256x1024 .f32 :=
  k0_pay1 (k0_pay13 h d) (k0_pay14 h d) (k0_pay20 h d fw t) (k0_pay21 h d fw t)

/-- The accumulator after one point: both rows' sums added. -/
def accStep (h d : FVec F S256x1024 .f32) (fw : Vec F S1x1024 .f32) (t : Vec F S256x1024 .f32) (a : Vec F S8x1024 .f32) : Vec F S8x1024 .f32 :=
  VecWindow.put
    (VecWindow.put a ![0, 0] ![1, 1024] (k0_pay18 h d fw t (View.ld a (Rect.unit ![0, 0] ![1, 1024] inb_S8x1024_S1x1024_0_0))))
    ![1, 0] ![1, 1024] (k0_pay19 h d fw t (View.ld a (Rect.unit ![1, 0] ![1, 1024] inb_S8x1024_S1x1024_1_0)))

/-- The second row is read past what was put at the first. -/
theorem ld_below (a : Vec F S8x1024 .f32) (v : Vec F S1x1024 .f32) :
    View.ld (VecWindow.put a ![0, 0] ![1, 1024] v) (Rect.unit ![1, 0] ![1, 1024] inb_S8x1024_S1x1024_1_0)
      = View.ld a (Rect.unit ![1, 0] ![1, 1024] inb_S8x1024_S1x1024_1_0) := by
  funext i
  show VecWindow.put a ![0, 0] ![1, 1024] v ((Rect.unit ![1, 0] ![1, 1024] inb_S8x1024_S1x1024_1_0).idx i)
    = a ((Rect.unit ![1, 0] ![1, 1024] inb_S8x1024_S1x1024_1_0).idx i)
  unfold VecWindow.put
  rw [dif_neg fun hh => ?_]
  have h2 := (hh 0).2
  have h3 : 1 + 1 * (i 0).val < 0 + 1 := h2
  omega

theorem hz2 : (![0, 0] : Fin 2 → Nat) = fun _ => 0 := funext fun a => by fin_cases a <;> rfl

variable (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S4x1024x1408 .bf16) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x2816 .bf16) (harg15 : arg15.IsWhole) (arg16 : Memref sig .tc .vmem S256x1024 .f32) (harg16 : arg16.IsWhole) (arg17 : Memref sig .tc .vmem S8x1024 .f32) (harg17 : arg17.IsWhole)
variable (x0 : Vec F S256x512 .f32) (x1 : Vec F S256x512 .f32) (x2 : Vec F S256x1024 .f32) (x3 : Vec F S1024x1024 .bf16) (x4 : Vec F S1x1024 .f32) (x5 : Vec F S4x1024x1408 .bf16) (x6 : Vec F S2816x1024 .bf16) (x7 : Vec F S1x1024 .f32) (x8 : Vec F S256x1024 .f32)

theorem outA_9 (hc0 : cond0_0 i) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 = k0_pay3 x0 x1 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  rw [View.canon_unit_zero (S := S256x1024) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S256x512) hz2, View.ld_unit_zero (S := S256x1024) hz2, View.ld_unit_zero (S := S1024x1024) hz2, View.ld_unit_zero (S := S1x1024) hz2, View.ld_unit_zero (S := S2816x1024) hz2, View.ld_unit_zero (S := S256x2816) hz2]

theorem outA_10 (hc0 : cond0_0 i) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 = k0_pay4 x0 x1 x2 x3 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  rw [View.canon_unit_zero (S := S256x1024) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S256x512) hz2, View.ld_unit_zero (S := S256x1024) hz2, View.ld_unit_zero (S := S1024x1024) hz2, View.ld_unit_zero (S := S1x1024) hz2, View.ld_unit_zero (S := S2816x1024) hz2, View.ld_unit_zero (S := S256x2816) hz2]

theorem outA_11 (hc0 : cond0_0 i) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 = k0_pay5 x0 x1 x2 x3 x4 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  rw [View.canon_unit_zero (S := S256x1024) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S256x512) hz2, View.ld_unit_zero (S := S256x1024) hz2, View.ld_unit_zero (S := S1024x1024) hz2, View.ld_unit_zero (S := S1x1024) hz2, View.ld_unit_zero (S := S2816x1024) hz2, View.ld_unit_zero (S := S256x2816) hz2]

theorem outA_12 (hc0 : cond0_0 i) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 = k0_pay8 (k0_pay5 x0 x1 x2 x3 x4) (slab0 x5) (slab1 x5) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  rw [View.canon_unit_zero (S := S256x2816) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S256x512) hz2, View.ld_unit_zero (S := S256x1024) hz2, View.ld_unit_zero (S := S1024x1024) hz2, View.ld_unit_zero (S := S1x1024) hz2, View.ld_unit_zero (S := S2816x1024) hz2, View.ld_unit_zero (S := S256x2816) hz2]
  rfl

theorem outA_13 (hc0 : cond0_0 i) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 = k0_pay9 (k0_pay5 x0 x1 x2 x3 x4) (slab2 x5) (slab3 x5) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  rw [View.canon_unit_zero (S := S256x2816) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S256x512) hz2, View.ld_unit_zero (S := S256x1024) hz2, View.ld_unit_zero (S := S1024x1024) hz2, View.ld_unit_zero (S := S1x1024) hz2, View.ld_unit_zero (S := S2816x1024) hz2, View.ld_unit_zero (S := S256x2816) hz2]
  rfl

theorem outA_14 (hc0 : cond0_0 i) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 = k0_pay10 (k0_pay5 x0 x1 x2 x3 x4) (slab0 x5) (slab1 x5) (slab2 x5) (slab3 x5) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  rw [View.canon_unit_zero (S := S256x2816) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S256x512) hz2, View.ld_unit_zero (S := S256x1024) hz2, View.ld_unit_zero (S := S1024x1024) hz2, View.ld_unit_zero (S := S1x1024) hz2, View.ld_unit_zero (S := S2816x1024) hz2, View.ld_unit_zero (S := S256x2816) hz2]
  rfl

theorem outA_15 (hc0 : cond0_0 i) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 = dh2B (k0_pay4 x0 x1 x2 x3) (downB (k0_pay5 x0 x1 x2 x3 x4) x5 x6) x7 x8 := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  rw [View.canon_unit_zero (S := S256x1024) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S256x512) hz2, View.ld_unit_zero (S := S256x1024) hz2, View.ld_unit_zero (S := S1024x1024) hz2, View.ld_unit_zero (S := S1x1024) hz2, View.ld_unit_zero (S := S2816x1024) hz2, View.ld_unit_zero (S := S256x2816) hz2]
  rfl

theorem outB_9 (hc0 : ¬ cond0_0 i) (xo : Vec F S8x1024 .f32) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo = k0_pay3 x0 x1 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo)]
  unfold kernelRun0_B
  dsimp only
  sl_unfold_words
  rw [View.canon_unit_zero (S := S256x1024) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S256x512) hz2, View.ld_unit_zero (S := S256x1024) hz2, View.ld_unit_zero (S := S1024x1024) hz2, View.ld_unit_zero (S := S1x1024) hz2, View.ld_unit_zero (S := S2816x1024) hz2, View.ld_unit_zero (S := S256x2816) hz2]

theorem outB_10 (hc0 : ¬ cond0_0 i) (xo : Vec F S8x1024 .f32) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo = k0_pay4 x0 x1 x2 x3 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo)]
  unfold kernelRun0_B
  dsimp only
  sl_unfold_words
  rw [View.canon_unit_zero (S := S256x1024) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S256x512) hz2, View.ld_unit_zero (S := S256x1024) hz2, View.ld_unit_zero (S := S1024x1024) hz2, View.ld_unit_zero (S := S1x1024) hz2, View.ld_unit_zero (S := S2816x1024) hz2, View.ld_unit_zero (S := S256x2816) hz2]

theorem outB_11 (hc0 : ¬ cond0_0 i) (xo : Vec F S8x1024 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo = k0_pay5 x0 x1 x2 x3 x4 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo)]
  unfold kernelRun0_B
  dsimp only
  sl_unfold_words
  rw [View.canon_unit_zero (S := S256x1024) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S256x512) hz2, View.ld_unit_zero (S := S256x1024) hz2, View.ld_unit_zero (S := S1024x1024) hz2, View.ld_unit_zero (S := S1x1024) hz2, View.ld_unit_zero (S := S2816x1024) hz2, View.ld_unit_zero (S := S256x2816) hz2]

theorem outB_12 (hc0 : ¬ cond0_0 i) (xo : Vec F S8x1024 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo = k0_pay8 (k0_pay5 x0 x1 x2 x3 x4) (slab0 x5) (slab1 x5) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo)]
  unfold kernelRun0_B
  dsimp only
  sl_unfold_words
  rw [View.canon_unit_zero (S := S256x2816) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S256x512) hz2, View.ld_unit_zero (S := S256x1024) hz2, View.ld_unit_zero (S := S1024x1024) hz2, View.ld_unit_zero (S := S1x1024) hz2, View.ld_unit_zero (S := S2816x1024) hz2, View.ld_unit_zero (S := S256x2816) hz2]
  rfl

theorem outB_13 (hc0 : ¬ cond0_0 i) (xo : Vec F S8x1024 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo = k0_pay9 (k0_pay5 x0 x1 x2 x3 x4) (slab2 x5) (slab3 x5) := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo)]
  unfold kernelRun0_B
  dsimp only
  sl_unfold_words
  rw [View.canon_unit_zero (S := S256x2816) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S256x512) hz2, View.ld_unit_zero (S := S256x1024) hz2, View.ld_unit_zero (S := S1024x1024) hz2, View.ld_unit_zero (S := S1x1024) hz2, View.ld_unit_zero (S := S2816x1024) hz2, View.ld_unit_zero (S := S256x2816) hz2]
  rfl

theorem outB_14 (hc0 : ¬ cond0_0 i) (xo : Vec F S8x1024 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo = k0_pay10 (k0_pay5 x0 x1 x2 x3 x4) (slab0 x5) (slab1 x5) (slab2 x5) (slab3 x5) := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo)]
  unfold kernelRun0_B
  dsimp only
  sl_unfold_words
  rw [View.canon_unit_zero (S := S256x2816) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S256x512) hz2, View.ld_unit_zero (S := S256x1024) hz2, View.ld_unit_zero (S := S1024x1024) hz2, View.ld_unit_zero (S := S1x1024) hz2, View.ld_unit_zero (S := S2816x1024) hz2, View.ld_unit_zero (S := S256x2816) hz2]
  rfl

theorem outB_15 (hc0 : ¬ cond0_0 i) (xo : Vec F S8x1024 .f32) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo = dh2B (k0_pay4 x0 x1 x2 x3) (downB (k0_pay5 x0 x1 x2 x3 x4) x5 x6) x7 x8 := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo)]
  unfold kernelRun0_B
  dsimp only
  sl_unfold_words
  rw [View.canon_unit_zero (S := S256x1024) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S256x512) hz2, View.ld_unit_zero (S := S256x1024) hz2, View.ld_unit_zero (S := S1024x1024) hz2, View.ld_unit_zero (S := S1x1024) hz2, View.ld_unit_zero (S := S2816x1024) hz2, View.ld_unit_zero (S := S256x2816) hz2]
  rfl

/-- The accumulator after a point that does not start it. -/
theorem outB_16 (hc0 : ¬ cond0_0 i) (xo : Vec F S8x1024 .f32) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo = accStep (k0_pay4 x0 x1 x2 x3) (downB (k0_pay5 x0 x1 x2 x3 x4) x5 x6) x7 x8 xo := by
  unfold out0_B_16
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S256x512) hz2, View.ld_unit_zero (S := S256x1024) hz2, View.ld_unit_zero (S := S1024x1024) hz2, View.ld_unit_zero (S := S1x1024) hz2, View.ld_unit_zero (S := S2816x1024) hz2, View.ld_unit_zero (S := S256x2816) hz2]
  rw [View.read_writes_cons_put _ _ _ _ _ rfl, View.read_writes_cons_put _ _ _ _ _ rfl, View.writes_nil, harg17.read_unread]
  rfl

/-- The accumulator after the point that starts it: it grows from zero. -/
theorem outA_16 (hc0 : cond0_0 i) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 = accStep (k0_pay4 x0 x1 x2 x3) (downB (k0_pay5 x0 x1 x2 x3 x4) x5 x6) x7 x8 k0_pay2 := by
  unfold out0_A_16
  unfold kernelRun0_A
  dsimp only
  sl_unfold_words
  simp only [View.readAt_eq_ld, View.readCov, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S256x512) hz2, View.ld_unit_zero (S := S256x1024) hz2, View.ld_unit_zero (S := S1024x1024) hz2, View.ld_unit_zero (S := S1x1024) hz2, View.ld_unit_zero (S := S2816x1024) hz2, View.ld_unit_zero (S := S256x2816) hz2]
  rw [View.read_writes_cons_put _ _ _ _ _ rfl, View.read_writes_cons_put _ _ _ _ _ rfl, View.read_writes_full (s := S8x1024), View.read_writes_full (s := S8x1024),
    View.read_writes_cons_put _ _ _ _ _ rfl, View.read_writes_full (s := S8x1024), ld_below]
  rfl

end Cert.Ffn
-- ==== Proof.Ffn.Spec.lean ====
/- The rows of the gated feed-forward block, forward and backward, over the extended reals: what both programs are shown
   to compute. A row names one sequence position; `d` is a model column, `j` a hidden column, `e` a mixer column. -/
module

public import proofs.«01_k».proof.Proof.InB.Row

@[expose] public section

noncomputable section

namespace Cert.Ffn

open Idealize.ShloMosaic Cert.InB

/-- A row of `n` numbers. -/
abbrev Row (n : Nat) : Type := Fin n → EReal

/-- The two mixers' rows side by side. -/
def mixRow (p q : Row 512) (e : Fin 1024) : EReal :=
  if h : e.val < 512 then p ⟨e.val, h⟩ else q ⟨e.val - 512, by omega⟩

/-- The row after the mixers' output projection. -/
def h1Row (a x : Row 1024) (wo : Fin 1024 → Row 1024) (d : Fin 1024) : EReal := x d + ∑ e, a e * wo e d

/-- The normalised row. -/
def nRow (h : Row 1024) (d : Fin 1024) : EReal := h d * Ideal.rsqrt (ms h)

/-- The normalised row times the norm's weight. -/
def uRow (h g : Row 1024) (d : Fin 1024) : EReal := nRow h d * g d

/-- The gate (columns below 2816) and the up half of the hidden row. -/
def guRow (u : Row 1024) (w : Fin 1024 → Row 5632) (j : Fin 5632) : EReal := ∑ k, u k * w k j

def gateCol (j : Fin 2816) : Fin 5632 := ⟨j.val, by omega⟩
def upCol (j : Fin 2816) : Fin 5632 := ⟨2816 + j.val, by omega⟩

/-- One half, as the kernel's literal. -/
def half : EReal := Ideal.ofBits .f32 1056964608#32
/-- One, as the kernel's literal. -/
def one : EReal := Ideal.ofBits .f32 1065353216#32
/-- The reciprocal of 1024, as the kernel's literal. -/
def inv : EReal := Ideal.ofBits .f32 981467136#32
/-- The reciprocal of 2048, as the kernel's literal. -/
def inv2 : EReal := Ideal.ofBits .f32 973078528#32

/-- The gated product of a gate and an up value, in the kernel's form. -/
def act (g p : EReal) : EReal := g * (half * Ideal.tanh (half * g) + half) * p

/-- The gated hidden row. -/
def actRow (gu : Row 5632) (j : Fin 2816) : EReal := act (gu (gateCol j)) (gu (upCol j))

/-- The row after the down projection. -/
def h2Row (h : Row 1024) (a : Row 2816) (wd : Fin 2816 → Row 1024) (d : Fin 1024) : EReal := h d + ∑ j, a j * wd j d

/-- The row's error against its target. -/
def errRow (h f t : Row 1024) (d : Fin 1024) : EReal := nRow h d * f d - t d

/-- The gradient of the row after the down projection. -/
def dh2Row (h f t : Row 1024) (d : Fin 1024) : EReal := dxRow (fun k => errRow h f t k * inv) h f 0 d

/-- The logistic function in the kernel's form. -/
def logi (g : EReal) : EReal := Ideal.div one (one + Ideal.exp (Ideal.ofBits .f32 0#32 - g))

/-- The gradient of the gated product at one hidden column. -/
def daRow (dh : Row 1024) (wd : Fin 2816 → Row 1024) (j : Fin 2816) : EReal := ∑ d, dh d * wd j d

/-- The gradient of a gate value. -/
def dgate (da g p : EReal) : EReal := da * p * (logi g * (one + g * (one - logi g)))
/-- The gradient of an up value. -/
def dup (da g : EReal) : EReal := da * (g * logi g)

/-- The gradient of the hidden row before the gate, from its gate and its up half. -/
def hidRow (da g p : Row 2816) (j : Fin 5632) : EReal :=
  if h : j.val < 2816 then dgate (da ⟨j.val, h⟩) (g ⟨j.val, h⟩) (p ⟨j.val, h⟩)
  else dup (da ⟨j.val - 2816, by omega⟩) (g ⟨j.val - 2816, by omega⟩)

def dguRow (da : Row 2816) (gu : Row 5632) : Row 5632 := hidRow da (fun j => gu (gateCol j)) (fun j => gu (upCol j))

/-- The gradient of the normalised row. -/
def du2Row (dgu : Row 5632) (w : Fin 1024 → Row 5632) (d : Fin 1024) : EReal := ∑ j, dgu j * w d j

/-- The gradient of the mixers' rows. -/
def dmixRow (dh : Row 1024) (wo : Fin 1024 → Row 1024) (e : Fin 1024) : EReal := ∑ d, dh d * wo e d

def loCol (e : Fin 512) : Fin 1024 := ⟨e.val, by omega⟩
def hiCol (e : Fin 512) : Fin 1024 := ⟨512 + e.val, by omega⟩

/-- The sum over a column's head of the product of two rows. -/
def headSum (p q : Row 512) (e : Fin 512) : EReal :=
  ∑ k : Fin 64, p ⟨e.val / 64 * 64 + k.val, by omega⟩ * q ⟨e.val / 64 * 64 + k.val, by omega⟩

/-! ## The rows, from the argument arrays: the mixers' halves `p q`, the residual stream `x`, the output projection `wo`,
   the norm's weight `g`, the gate and up projection `wg`, the down projection `wd`, the final norm's weight `f` and the
   target `y` -/

section Rows
variable (p q : Arr2 8192 512) (x : Arr3 1 8192 1024) (wo : Arr3 1 1024 1024) (g : Arr2 1 1024) (wg : Arr3 1 1024 5632)
  (wd : Arr3 1 2816 1024) (f : (⟨1, ![1024]⟩ : Shape).Idx → EReal) (y : Arr3 1 8192 1024) (s : Fin 8192)

def Wo (e d : Fin 1024) : EReal := wo (ix3 0 e d)
def Gn (d : Fin 1024) : EReal := g (ix2 0 d)
def Wg (k : Fin 1024) (j : Fin 5632) : EReal := wg (ix3 0 k j)
def Wd (j : Fin 2816) (d : Fin 1024) : EReal := wd (ix3 0 j d)
def Fn (d : Fin 1024) : EReal := f (ix1 d)
def A : Row 1024 := mixRow (fun k => p (ix2 s k)) (fun k => q (ix2 s k))
def H1 : Row 1024 := h1Row (A p q s) (fun d => x (ix3 0 s d)) (Wo wo)
def U : Row 1024 := uRow (H1 p q x wo s) (Gn g)
def GU : Row 5632 := guRow (U p q x wo g s) (Wg wg)
def AC : Row 2816 := actRow (GU p q x wo g wg s)
def H2 : Row 1024 := h2Row (H1 p q x wo s) (AC p q x wo g wg s) (Wd wd)
def ER : Row 1024 := errRow (H2 p q x wo g wg wd s) (Fn f) (fun d => y (ix3 0 s d))
def DH2 : Row 1024 := dh2Row (H2 p q x wo g wg wd s) (Fn f) (fun d => y (ix3 0 s d))
def DA : Row 2816 := daRow (DH2 p q x wo g wg wd f y s) (Wd wd)
def DGU : Row 5632 := dguRow (DA p q x wo g wg wd f y s) (GU p q x wo g wg s)
def DU2 : Row 1024 := du2Row (DGU p q x wo g wg wd f y s) (Wg wg)
def DH1 (d : Fin 1024) : EReal := dxRow (DU2 p q x wo g wg wd f y s) (H1 p q x wo s) (Gn g) (DH2 p q x wo g wg wd f y s d) d
def DM : Row 1024 := dmixRow (DH1 p q x wo g wg wd f y s) (Wo wo)
def DYA (e : Fin 512) : EReal := DM p q x wo g wg wd f y s (loCol e)
def DYB (e : Fin 512) : EReal := DM p q x wo g wg wd f y s (hiCol e)
def DEL : Row 512 := headSum (DYA p q x wo g wg wd f y s) (fun k => p (ix2 s k))
/-- A row's part of the gradient of the final norm's weight. -/
def FT (d : Fin 1024) : EReal := ER p q x wo g wg wd f y s d * inv * nRow (H2 p q x wo g wg wd s) d
/-- A row's squared error. -/
def SQ (d : Fin 1024) : EReal := ER p q x wo g wg wd f y s d * ER p q x wo g wg wd f y s d
/-- A row's part of the gradient of the norm's weight. -/
def NT (d : Fin 1024) : EReal := DU2 p q x wo g wg wd f y s d * nRow (H1 p q x wo s) d
end Rows

end Cert.Ffn
-- ==== Proof.Ffn.Real.lean ====
/- Finite arguments make every row of the feed-forward block finite, and on finite rows the kernel's gate and its gradient
   are the reference's. -/
module

public import proofs.«01_k».proof.Proof.Ffn.Spec
public import proofs.«01_k».proof.Proof.Finite

@[expose] public section

noncomputable section

namespace Cert.Ffn

open Idealize.ShloMosaic Cert.InB Cert.Fin

theorem lit_half : half = ((1 / 2 : ℝ) : EReal) := by
  simp [half, Ideal.ofBits, Ideal.ieee, -EReal.coe_mul]; norm_num
theorem lit_one : one = ((1 : ℝ) : EReal) := by
  simp [one, Ideal.ofBits, Ideal.ieee, -EReal.coe_mul]; norm_num
theorem one_eq : one = 1 := lit_one.trans EReal.coe_one
theorem lit_inv : inv = ((1 / 1024 : ℝ) : EReal) := by
  simp [inv, Ideal.ofBits, Ideal.ieee, -EReal.coe_mul]; norm_num
theorem lit_inv2 : inv2 = ((1 / 2048 : ℝ) : EReal) := by
  simp [inv2, Ideal.ofBits, Ideal.ieee, -EReal.coe_mul]; norm_num
theorem lit_two : Ideal.ofBits .f32 1073741824#32 = ((2 : ℝ) : EReal) := by
  simp [Ideal.ofBits, Ideal.ieee, -EReal.coe_mul]; norm_num
theorem lit_zero : Ideal.ofBits .f32 0#32 = 0 := by
  simp [Ideal.ofBits, Ideal.ieee]

theorem real_sub {x y : EReal} (hx : IsReal x) (hy : IsReal y) : IsReal (x - y) := by
  obtain ⟨a, rfl⟩ := hx; obtain ⟨b, rfl⟩ := hy; exact ⟨a - b, (EReal.coe_sub a b).symm⟩

/-- The logistic function of a real. -/
theorem sig_coe (r : ℝ) : logi (r : EReal) = ((1 / (1 + Real.exp (-r)) : ℝ) : EReal) := by
  have hp : (1 + Real.exp (-r) : ℝ) ≠ 0 := (by positivity : (0 : ℝ) < 1 + Real.exp (-r)).ne'
  have he : Ideal.exp (Ideal.ofBits .f32 0#32 - (r : EReal)) = ((Real.exp (-r) : ℝ) : EReal) := by
    rw [lit_zero, zero_sub, ← EReal.coe_neg]; rfl
  unfold logi
  rw [he, lit_one, ← EReal.coe_add, Ideal.div_coe hp, ← EReal.coe_mul, one_mul]

/-- The logistic function as the reference writes it. -/
theorem sig_ref (g : EReal) : Ideal.div one (one + Ideal.exp (-g)) = logi g := by
  unfold logi; rw [lit_zero, zero_sub]

theorem tanh_half (r : ℝ) : 1 / 2 * Real.tanh (1 / 2 * r) + 1 / 2 = 1 / (1 + Real.exp (-r)) := by
  have e1 : Real.exp (-r) = Real.exp (-(1 / 2 * r)) * Real.exp (-(1 / 2 * r)) := by
    rw [← Real.exp_add]; congr 1; ring
  have e2 : Real.exp (1 / 2 * r) * Real.exp (-(1 / 2 * r)) = 1 := by
    rw [← Real.exp_add]; simp
  rw [Real.tanh_eq_sinh_div_cosh, Real.sinh_eq, Real.cosh_eq, e1]
  have ha := Real.exp_pos (1 / 2 * r)
  have hb := Real.exp_pos (-(1 / 2 * r))
  generalize Real.exp (1 / 2 * r) = a at *
  generalize Real.exp (-(1 / 2 * r)) = b at *
  have h1 : a + b ≠ 0 := by positivity
  have h2 : 1 + b * b ≠ 0 := by positivity
  field_simp
  nlinarith [e2]

/-- The gated product is the reference's on a finite gate. -/
theorem act_ref {g : EReal} (hg : IsReal g) (p : EReal) : g * logi g * p = act g p := by
  obtain ⟨r, rfl⟩ := hg
  have ht : Ideal.tanh (half * (r : EReal)) = ((Real.tanh (1 / 2 * r) : ℝ) : EReal) := by
    rw [lit_half, ← EReal.coe_mul]; rfl
  unfold act
  rw [ht, sig_coe, lit_half, ← EReal.coe_mul (1 / 2), ← EReal.coe_add, tanh_half]

/-- The gate's gradient is the reference's on finite numbers. -/
theorem dgate_ref {da g p : EReal} (hd : IsReal da) (hg : IsReal g) (hp : IsReal p) :
    da * p * logi g + g * (da * p) * (logi g * (one - logi g)) = dgate da g p := by
  obtain ⟨a, rfl⟩ := hd; obtain ⟨r, rfl⟩ := hg; obtain ⟨b, rfl⟩ := hp
  unfold dgate
  rw [sig_coe, lit_one]
  simp only [← EReal.coe_mul, ← EReal.coe_sub, ← EReal.coe_add]
  exact congrArg Real.toEReal (by ring)

theorem ms_real {x : Row 1024} (h : ∀ d, IsReal (x d)) : IsReal (Ideal.rsqrt (ms x)) := by
  choose r er using h
  obtain rfl : x = fun d => (r d : EReal) := funext er
  obtain ⟨m, hm, e⟩ := ms_coe r
  rw [e, Ideal.rsqrt_coe, if_neg (not_lt.mpr hm.le), if_neg hm.ne']
  exact IsReal.coe _

theorem nRow_real {x : Row 1024} (h : ∀ d, IsReal (x d)) (d : Fin 1024) : IsReal (nRow x d) := (h d).mul (ms_real h)

theorem sig_real {g : EReal} (h : IsReal g) : IsReal (logi g) := by
  obtain ⟨r, rfl⟩ := h; rw [sig_coe]; exact IsReal.coe _

theorem act_real {g p : EReal} (hg : IsReal g) (hp : IsReal p) : IsReal (act g p) := by
  rw [← act_ref hg]; exact (hg.mul (sig_real hg)).mul hp

theorem dx_real {u x g : Row 1024} {dh : EReal} (hu : ∀ d, IsReal (u d)) (hx : ∀ d, IsReal (x d)) (hg : ∀ d, IsReal (g d))
    (hd : IsReal dh) (d : Fin 1024) : IsReal (dxRow u x g dh d) := by
  have hr := ms_real hx
  unfold dxRow
  refine hd.add (hr.mul (real_sub ((hu d).mul (hg d)) (((hx d).mul hr).mul ?_)))
  rw [lit_1024, Ideal.div_coe (by norm_num)]
  exact (IsReal.sum _ _ fun k _ => ((hu k).mul (hg k)).mul ((hx k).mul hr)).mul (IsReal.coe _)

/-- The row's gradient in the reference's form is the kernel's on finite rows. -/
theorem dx_ref {u x g : Row 1024} (dh : EReal) (hu : ∀ d, IsReal (u d)) (hx : ∀ d, IsReal (x d)) (hg : ∀ d, IsReal (g d))
    (d : Fin 1024) : dxRowRef x u g dh d = dxRow u x g dh d := by
  choose a ea using hu; choose b eb using hx; choose c ec using hg
  obtain rfl : u = fun d => (a d : EReal) := funext ea
  obtain rfl : x = fun d => (b d : EReal) := funext eb
  obtain rfl : g = fun d => (c d : EReal) := funext ec
  exact dxRow_eq b a c dh d

section Rows
variable (p q : Arr2 8192 512) (x : Arr3 1 8192 1024) (wo : Arr3 1 1024 1024) (g : Arr2 1 1024) (wg : Arr3 1 1024 5632)
  (wd : Arr3 1 2816 1024) (f : (⟨1, ![1024]⟩ : Shape).Idx → EReal) (y : Arr3 1 8192 1024)

/-- Every argument is finite. -/
structure FinArgs : Prop where
  p : ∀ i, IsReal (p i)
  q : ∀ i, IsReal (q i)
  x : ∀ i, IsReal (x i)
  wo : ∀ i, IsReal (wo i)
  g : ∀ i, IsReal (g i)
  wg : ∀ i, IsReal (wg i)
  wd : ∀ i, IsReal (wd i)
  f : ∀ i, IsReal (f i)
  y : ∀ i, IsReal (y i)

variable {p q x wo g wg wd f y} (h : FinArgs p q x wo g wg wd f y) (s : Fin 8192)
include h

theorem A_real (e : Fin 1024) : IsReal (A p q s e) := by
  unfold A mixRow; split
  · exact h.p _
  · exact h.q _

theorem H1_real (d : Fin 1024) : IsReal (H1 p q x wo s d) :=
  (h.x _).add (IsReal.sum _ _ fun e _ => (A_real h s e).mul (h.wo _))

theorem U_real (d : Fin 1024) : IsReal (U p q x wo g s d) := (nRow_real (H1_real h s) d).mul (h.g _)

theorem GU_real (j : Fin 5632) : IsReal (GU p q x wo g wg s j) := by
  unfold GU guRow; exact IsReal.sum _ _ fun k _ => (U_real h s k).mul (h.wg (ix3 0 k j))

theorem AC_real (j : Fin 2816) : IsReal (AC p q x wo g wg s j) := act_real (GU_real h s _) (GU_real h s _)

theorem H2_real (d : Fin 1024) : IsReal (H2 p q x wo g wg wd s d) :=
  (H1_real h s d).add (IsReal.sum _ _ fun j _ => (AC_real h s j).mul (h.wd _))

theorem ER_real (d : Fin 1024) : IsReal (ER p q x wo g wg wd f y s d) :=
  real_sub ((nRow_real (H2_real h s) d).mul (h.f _)) (h.y _)

theorem EI_real (d : Fin 1024) : IsReal (ER p q x wo g wg wd f y s d * inv) := by
  rw [lit_inv]; exact (ER_real h s d).mul (IsReal.coe _)

theorem DH2_real (d : Fin 1024) : IsReal (DH2 p q x wo g wg wd f y s d) :=
  dx_real (EI_real h s) (H2_real h s) (fun d => h.f _) IsReal.zero d

theorem DA_real (j : Fin 2816) : IsReal (DA p q x wo g wg wd f y s j) := by
  unfold DA daRow; exact IsReal.sum _ _ fun d _ => (DH2_real h s d).mul (h.wd (ix3 0 j d))

omit h in
theorem dgate_real {a b c : EReal} (ha : IsReal a) (hb : IsReal b) (hc : IsReal c) : IsReal (dgate a b c) := by
  have h1 : IsReal one := by rw [lit_one]; exact IsReal.coe _
  exact (ha.mul hc).mul ((sig_real hb).mul (h1.add (hb.mul (real_sub h1 (sig_real hb)))))

theorem DGU_real (j : Fin 5632) : IsReal (DGU p q x wo g wg wd f y s j) := by
  unfold DGU dguRow hidRow; split
  · exact dgate_real (DA_real h s _) (GU_real h s _) (GU_real h s _)
  · exact (DA_real h s _).mul ((GU_real h s _).mul (sig_real (GU_real h s _)))

theorem DU2_real (d : Fin 1024) : IsReal (DU2 p q x wo g wg wd f y s d) := by
  unfold DU2 du2Row; exact IsReal.sum _ _ fun j _ => (DGU_real h s j).mul (h.wg (ix3 0 d j))

theorem DH1_real (d : Fin 1024) : IsReal (DH1 p q x wo g wg wd f y s d) :=
  dx_real (DU2_real h s) (H1_real h s) (fun d => h.g _) (DH2_real h s d) d

theorem DM_real (e : Fin 1024) : IsReal (DM p q x wo g wg wd f y s e) := by
  unfold DM dmixRow; exact IsReal.sum _ _ fun d _ => (DH1_real h s d).mul (h.wo (ix3 0 e d))

end Rows

end Cert.Ffn
-- ==== Proof.Ffn.Values0.lean ====
/- One grid point's terms of `ffn_fwd` read at an index, over the extended reals. -/
module

public import proofs.«01_k».proof.Proof.Ffn.Blocks0
public import proofs.«01_k».proof.Proof.Ffn.Real
public import proofs.«01_k».proof.Proof.InB.Values

@[expose] public section

set_option maxRecDepth 16384

noncomputable section

namespace Cert.Ffn

open Cert.Kernel2Ideal Cert.Kernel2Ideal.Gen Idealize.ShloMosaic Idealize.ShloMosaic.TcCoe
open Cert.InB (at2 ms dxRow)

/-- The weight of the gate and the up half, from its four slabs. -/
def slabW (w : Vec Ideal S4x1024x1408 .bf16) (k : Fin 1024) (j : Fin 5632) : EReal :=
  w (ix3 ⟨j.val / 1408, by omega⟩ k ⟨j.val % 1408, by omega⟩)

theorem slabW_of (w : Vec Ideal S4x1024x1408 .bf16) (k : Fin 1024) (a : Fin 4) (t : Fin 1408) (j : Fin 5632) (h : j.val = a.val * 1408 + t.val) :
    w (ix3 a k t) = slabW w k j := by
  unfold slabW
  congr 2 <;> apply Fin.ext <;> dsimp only <;> omega

theorem slab0_at (w : Vec Ideal S4x1024x1408 .bf16) (k : Fin 1024) (t : Fin 1408) : slab0 w (ix3 0 k t) = slabW w k ⟨t.val, by omega⟩ := by
  rw [← slabW_of w k 0 t _ (by simp)]; pointwise [slab0, slab, View.ld]
theorem slab1_at (w : Vec Ideal S4x1024x1408 .bf16) (k : Fin 1024) (t : Fin 1408) : slab1 w (ix3 0 k t) = slabW w k ⟨1408 + t.val, by omega⟩ := by
  rw [← slabW_of w k 1 t _ (by simp)]; pointwise [slab1, slab, View.ld]
theorem slab2_at (w : Vec Ideal S4x1024x1408 .bf16) (k : Fin 1024) (t : Fin 1408) : slab2 w (ix3 0 k t) = slabW w k ⟨2816 + t.val, by omega⟩ := by
  rw [← slabW_of w k 2 t _ (by simp)]; pointwise [slab2, slab, View.ld]
theorem slab3_at (w : Vec Ideal S4x1024x1408 .bf16) (k : Fin 1024) (t : Fin 1408) : slab3 w (ix3 0 k t) = slabW w k ⟨4224 + t.val, by omega⟩ := by
  rw [← slabW_of w k 3 t _ (by simp)]; pointwise [slab3, slab, View.ld]

section Fwd
variable (x0 x1 : Vec Ideal S256x512 .f32) (x2 : Vec Ideal S256x1024 .f32) (x3 : Vec Ideal S1024x1024 .bf16) (x4 : Vec Ideal S1x1024 .f32)
  (u : FVec Ideal S256x1024 .bf16) (w : Vec Ideal S4x1024x1408 .bf16) (wd : Vec Ideal S2816x1024 .bf16) (r : Fin 256)

theorem mixB_at (e : Fin 1024) : k0_pay3 x0 x1 (ix2 r e) = mixRow (fun k => x0 (ix2 r k)) (fun k => x1 (ix2 r k)) e := by
  pointwise [k0_pay3]
  rfl

theorem h1B_at (d : Fin 1024) : k0_pay4 x0 x1 x2 x3 (ix2 r d) =
    h1Row (mixRow (fun k => x0 (ix2 r k)) (fun k => x1 (ix2 r k))) (fun d => x2 (ix2 r d)) (fun e d => x3 (ix2 e d)) d := by
  pointwise [k0_pay4, mixB_at]
  rfl

theorem u2B_at (d : Fin 1024) : k0_pay5 x0 x1 x2 x3 x4 (ix2 r d) =
    uRow (h1Row (mixRow (fun k => x0 (ix2 r k)) (fun k => x1 (ix2 r k))) (fun d => x2 (ix2 r d)) (fun e d => x3 (ix2 e d))) (fun d => x4 (ix2 0 d)) d := by
  pointwise [k0_pay5, h1B_at]
  rfl

theorem gateB_at (j : Fin 2816) : k0_pay8 u (slab0 w) (slab1 w) (ix2 r j) = guRow (fun k => u (ix2 r k)) (slabW w) (gateCol j) := by
  pointwise [k0_pay8, k0_pay6, slab0_at, slab1_at]
  by_cases h : j.val < 1408
  · rw [dif_pos h]; rfl
  · rw [dif_neg h]
    refine Finset.sum_congr rfl fun k _ => congrArg (u (ix2 r k) * ·) (congrArg (slabW w k) (Fin.ext ?_))
    show 1408 + (j.val - 1408) = j.val
    omega

theorem upB_at (j : Fin 2816) : k0_pay9 u (slab2 w) (slab3 w) (ix2 r j) = guRow (fun k => u (ix2 r k)) (slabW w) (upCol j) := by
  pointwise [k0_pay9, k0_pay7, slab2_at, slab3_at]
  by_cases h : j.val < 1408
  · rw [dif_pos h]; rfl
  · rw [dif_neg h]
    refine Finset.sum_congr rfl fun k _ => congrArg (u (ix2 r k) * ·) (congrArg (slabW w k) (Fin.ext ?_))
    show 4224 + (j.val - 1408) = 2816 + j.val
    omega

theorem gate_at (j : Fin 2816) : k0_pay6 u (slab0 w) (slab1 w) (ix2 r j) = guRow (fun k => u (ix2 r k)) (slabW w) (gateCol j) := by
  rw [← gateB_at]; pointwise [k0_pay8]
theorem up_at (j : Fin 2816) : k0_pay7 u (slab2 w) (slab3 w) (ix2 r j) = guRow (fun k => u (ix2 r k)) (slabW w) (upCol j) := by
  rw [← upB_at]; pointwise [k0_pay9]

theorem actB_at (j : Fin 2816) : k0_pay10 u (slab0 w) (slab1 w) (slab2 w) (slab3 w) (ix2 r j) = actRow (guRow (fun k => u (ix2 r k)) (slabW w)) j := by
  pointwise [k0_pay10, gate_at, up_at]
  rfl

theorem downB_at (d : Fin 1024) : downB u w wd (ix2 r d) = ∑ j, actRow (guRow (fun k => u (ix2 r k)) (slabW w)) j * wd (ix2 j d) := by
  pointwise [downB, k0_pay11, actB_at]
end Fwd

section Loss
variable (h d : FVec Ideal S256x1024 .f32) (fw : Vec Ideal S1x1024 .f32) (t : Vec Ideal S256x1024 .f32) (r : Fin 256)

theorem norm_at (c : Fin 1024) : k0_pay14 h d (ix2 r c) = nRow (fun k => h (ix2 r k) + d (ix2 r k)) c := by
  pointwise [k0_pay14, k0_pay13, k0_pay12]
  rfl

theorem err_at (c : Fin 1024) : k0_pay16 h d fw t (ix2 r c) = errRow (fun k => h (ix2 r k) + d (ix2 r k)) (fun k => fw (ix2 0 k)) (fun k => t (ix2 r k)) c := by
  pointwise [k0_pay16, k0_pay15, norm_at]
  rfl

theorem dh2B_at (c : Fin 1024) : dh2B h d fw t (ix2 r c) =
    dh2Row (fun k => h (ix2 r k) + d (ix2 r k)) (fun k => fw (ix2 0 k)) (fun k => t (ix2 r k)) c := by
  unfold dh2Row dxRow
  rw [zero_add]
  pointwise [dh2B, k0_pay1, k0_pay13, k0_pay12, k0_pay20, k0_pay21, k0_pay17, k0_pay15, norm_at, err_at]
  rfl

theorem accStep_at (a : Vec Ideal S8x1024 .f32) (i : Fin 8) (c : Fin 1024) : accStep h d fw t a (ix2 i c) = a (ix2 i c) +
    (if i.val = 0 then ∑ r : Fin 256, errRow (fun k => h (ix2 r k) + d (ix2 r k)) (fun k => fw (ix2 0 k)) (fun k => t (ix2 r k)) c * inv
        * nRow (fun k => h (ix2 r k) + d (ix2 r k)) c
      else if i.val = 1 then inv2 * ∑ r : Fin 256, errRow (fun k => h (ix2 r k) + d (ix2 r k)) (fun k => fw (ix2 0 k)) (fun k => t (ix2 r k)) c
        * errRow (fun k => h (ix2 r k) + d (ix2 r k)) (fun k => fw (ix2 0 k)) (fun k => t (ix2 r k)) c
      else 0) := by
  unfold accStep VecWindow.put
  by_cases h0 : i.val = 0
  · obtain rfl : i = 0 := Fin.ext h0
    rw [if_pos h0, dif_neg (by intro hh; exact Nat.not_succ_le_zero 0 (hh 0).1), dif_pos (by
      intro b
      match b with
      | ⟨0, _⟩ => exact ⟨Nat.zero_le _, Nat.one_pos⟩
      | ⟨1, _⟩ => exact ⟨Nat.zero_le _, c.isLt⟩)]
    pointwise [k0_pay18, k0_pay17, norm_at, err_at, View.ld]
    rfl
  · rw [if_neg h0]
    by_cases h1 : i.val = 1
    · obtain rfl : i = 1 := Fin.ext h1
      rw [if_pos h1, dif_pos (by
        intro b
        match b with
        | ⟨0, _⟩ => exact ⟨le_refl 1, Nat.lt_succ_self 1⟩
        | ⟨1, _⟩ => exact ⟨Nat.zero_le _, c.isLt⟩)]
      pointwise [k0_pay19, err_at, View.ld]
      rfl
    · rw [if_neg h1, add_zero, dif_neg (by
        intro hh
        have h2 : 1 ≤ i.val := (hh 0).1
        have h3 : i.val < 1 + 1 := (hh 0).2
        omega), dif_neg (by
        intro hh
        have h3 : i.val < 0 + 1 := (hh 0).2
        omega)]
end Loss

end Cert.Ffn
-- ==== Proof.Ffn.Host.lean ====
/- The arrays the host prepares for the two launches, at an index: the weights without their leading axis, the gate and up
   weight in four slabs, the rows of the input and of the target, and the 0/1 matrix of the heads. -/
module

public import proofs.«01_k».proof.Proof.Gen.Kernel2Ideal.Frame
public import proofs.«01_k».proof.Proof.Ffn.Values0

@[expose] public section

set_option maxRecDepth 16384

noncomputable section

namespace Cert.Ffn

open Cert.Kernel2Ideal Cert.Kernel2Ideal.Gen Idealize.ShloMosaic Idealize.ShloMosaic.TcCoe
open Cert.InB (Arr2 Arr3)

variable (m : (ℓ : Loc nD τ sig) → Buf (Elt Ideal) ℓ) (ρ : Dev nD → PrngReg) (c : Dev nD)

abbrev aP : Arr2 8192 512 := m ((c : Thread nD τ).loc main_arg0)
abbrev aQ : Arr2 8192 512 := m ((c : Thread nD τ).loc main_arg1)
abbrev aX : Arr3 1 8192 1024 := m ((c : Thread nD τ).loc main_arg2)
abbrev aO : Arr3 1 1024 1024 := m ((c : Thread nD τ).loc main_arg3)
abbrev aG : Arr2 1 1024 := m ((c : Thread nD τ).loc main_arg4)
abbrev aW : Arr3 1 1024 5632 := m ((c : Thread nD τ).loc main_arg5)
abbrev aD : Arr3 1 2816 1024 := m ((c : Thread nD τ).loc main_arg6)
abbrev aF : (⟨1, ![1024]⟩ : Shape).Idx → EReal := m ((c : Thread nD τ).loc main_arg7)
abbrev aY : Arr3 1 8192 1024 := m ((c : Thread nD τ).loc main_arg8)

theorem V1_arg0 (s : Fin 8192) (e : Fin 512) : V1 m ρ c main_arg0 (ix2 s e) = aP m c (ix2 s e) := congrFun (W1_args m ρ c main_arg0 (by simp)) _
theorem V1_arg1 (s : Fin 8192) (e : Fin 512) : V1 m ρ c main_arg1 (ix2 s e) = aQ m c (ix2 s e) := congrFun (W1_args m ρ c main_arg1 (by simp)) _
theorem V1_arg4 (d : Fin 1024) : V1 m ρ c main_arg4 (ix2 0 d) = Gn (aG m c) d := congrFun (W1_args m ρ c main_arg4 (by simp)) _

theorem V1_v8 (s : Fin 8192) (d : Fin 1024) : V1 m ρ c main_v8 (ix2 s d) = aX m c (ix3 0 s d) := by
  show StableHlo.after hostOps0 (W0 m ρ c) main_v8 _ = _
  after_results
  pointwise []

theorem V1_v10 (s : Fin 8192) (d : Fin 1024) : V1 m ρ c main_v10 (ix2 s d) = aY m c (ix3 0 s d) := by
  show StableHlo.after hostOps0 (W0 m ρ c) main_v10 _ = _
  after_results
  pointwise []

theorem V1_v5 (e d : Fin 1024) : V1 m ρ c main_v5 (ix2 e d) = Wo (aO m c) e d := by
  show StableHlo.after hostOps0 (W0 m ρ c) main_v5 _ = _
  after_results
  pointwise [Wo]

theorem V1_v7 (j : Fin 2816) (d : Fin 1024) : V1 m ρ c main_v7 (ix2 j d) = Wd (aD m c) j d := by
  show StableHlo.after hostOps0 (W0 m ρ c) main_v7 _ = _
  after_results
  pointwise [Wd]

theorem V1_v9 (d : Fin 1024) : V1 m ρ c main_v9 (ix2 0 d) = Fn (aF m c) d := by
  show StableHlo.after hostOps0 (W0 m ρ c) main_v9 _ = _
  after_results
  pointwise [Fn]

theorem V1_v3 (j : Fin 4) (k : Fin 1024) (e : Fin 1408) :
    V1 m ρ c main_v3 (ix3 j k e) = aW m c (ix3 0 k ⟨j.val * 1408 + e.val, by omega⟩) := by
  show StableHlo.after hostOps0 (W0 m ρ c) main_v3 _ = _
  after_results
  pointwise []

/-! ## The matrix of the heads -/

theorem W4_v14 (i : Fin 512) : W4 m ρ c main_v14 (ix2 i 0) = BitVec.ofNat 32 (i.val / 64) := by
  show StableHlo.after hostOps1_1 (StableHlo.after hostOps1 (W2 m ρ c)) main_v14 _ = _
  after_results
  pointwise []
  revert i
  decide +kernel

theorem W6_v16 (i : Fin 512) : W6 m ρ c main_v16 (ix2 0 i) = BitVec.ofNat 32 (i.val / 64) := by
  show StableHlo.after hostOps1_3 (StableHlo.after hostOps1_2 (StableHlo.after hostOps1_1 (StableHlo.after hostOps1 (W2 m ρ c)))) main_v16 _ = _
  after_results
  pointwise []
  revert i
  decide +kernel

theorem hsum_of (W : Valuation τ sig (Elt Ideal)) (k e : Fin 512) (h14 : W main_v14 (ix2 k 0) = BitVec.ofNat 32 (k.val / 64))
    (h16 : W main_v16 (ix2 0 e) = BitVec.ofNat 32 (e.val / 64)) :
    StableHlo.after hostOps1_4 W main_v20 (ix2 k e) = if k.val / 64 = e.val / 64 then (1 : EReal) else 0 := by
  after_results
  pointwise [h14, h16]
  have h : ∀ a b : Fin 8, IntOp.cmpi .eq (BitVec.ofNat 32 a.val) (BitVec.ofNat 32 b.val) = if a.val = b.val then 1#1 else 0#1 := by decide
  rw [h ⟨k.val / 64, by omega⟩ ⟨e.val / 64, by omega⟩]
  dsimp only
  by_cases hh : k.val / 64 = e.val / 64
  · rw [if_pos hh, if_pos hh]; show ((((1#1).toNat : ℕ) : ℝ) : EReal) = 1; simp
  · rw [if_neg hh, if_neg hh]; show ((((0#1).toNat : ℕ) : ℝ) : EReal) = 0; simp

theorem V7_v20 (k e : Fin 512) : V7 m ρ c main_v20 (ix2 k e) = if k.val / 64 = e.val / 64 then (1 : EReal) else 0 :=
  hsum_of _ k e (by rw [W6_of m ρ c main_v14 (by decide), W5_of m ρ c main_v14 (by decide)]; exact W4_v14 m ρ c k) (W6_v16 m ρ c e)

end Cert.Ffn
-- ==== Proof.Ffn.Tiles0.lean ====
/- The blocks of `ffn_fwd`'s launch: what each window reads of its array, what a tile's output blocks are, and which
   rows of the output arrays they become. -/
module

public import proofs.«01_k».proof.Proof.Ffn.Spec
public import proofs.«01_k».proof.Proof.Ffn.Blocks0

@[expose] public section

set_option maxRecDepth 16384

noncomputable section

namespace Cert.Ffn.R0

open Cert.Kernel2Ideal Cert.Kernel2Ideal.Gen Idealize.ShloMosaic Idealize.ShloMosaic.TcCoe Idealize.ShloMosaic.Pipeline

variable (V : (c : Dev nD) → (b : Ref sig .tc) → Buf (Elt Ideal) ((c : Thread nD τ).loc b)) (c : Dev nD)

/-- Row `r` of tile `t`. -/
def row (t : Fin cfg0.N) (r : Fin 256) : Fin 8192 := ⟨t.val * 256 + r.val, by have : t.val < 32 := t.isLt; omega⟩

/-! ## The input blocks -/

theorem idx0 : ∀ t : Fin grid0.N, win0_0.index t 0 = t.val ∧ win0_0.index t 1 = 0 := by decide +kernel

theorem blk0 (t : Fin cfg0.N) (r : Fin 256) (e : Fin 512) : iblk0 V c 0 t (ix2 r e) = V c main_arg0 (ix2 (row t r) e) := by
  unfold iblk0; rw [View.read_apply]; show V c main_arg0 _ = _; congr 1; funext a; apply Fin.ext
  match a with
  | ⟨0, _⟩ => show win0_0.index t 0 * 256 + 1 * r.val = t.val * 256 + r.val; rw [(idx0 t).1, one_mul]
  | ⟨1, _⟩ => show win0_0.index t 1 * 512 + 1 * e.val = e.val; rw [(idx0 t).2]; omega

theorem idx1 : ∀ t : Fin grid0.N, win0_1.index t 0 = t.val ∧ win0_1.index t 1 = 0 := by decide +kernel

theorem blk1 (t : Fin cfg0.N) (r : Fin 256) (e : Fin 512) : iblk0 V c 1 t (ix2 r e) = V c main_arg1 (ix2 (row t r) e) := by
  unfold iblk0; rw [View.read_apply]; show V c main_arg1 _ = _; congr 1; funext a; apply Fin.ext
  match a with
  | ⟨0, _⟩ => show win0_1.index t 0 * 256 + 1 * r.val = t.val * 256 + r.val; rw [(idx1 t).1, one_mul]
  | ⟨1, _⟩ => show win0_1.index t 1 * 512 + 1 * e.val = e.val; rw [(idx1 t).2]; omega

theorem idx2 : ∀ t : Fin grid0.N, win0_2.index t 0 = t.val ∧ win0_2.index t 1 = 0 := by decide +kernel

theorem blk2 (t : Fin cfg0.N) (r : Fin 256) (e : Fin 1024) : iblk0 V c 2 t (ix2 r e) = V c main_v8 (ix2 (row t r) e) := by
  unfold iblk0; rw [View.read_apply]; show V c main_v8 _ = _; congr 1; funext a; apply Fin.ext
  match a with
  | ⟨0, _⟩ => show win0_2.index t 0 * 256 + 1 * r.val = t.val * 256 + r.val; rw [(idx2 t).1, one_mul]
  | ⟨1, _⟩ => show win0_2.index t 1 * 1024 + 1 * e.val = e.val; rw [(idx2 t).2]; omega

theorem idx3 : ∀ t : Fin grid0.N, win0_3.index t 0 = 0 ∧ win0_3.index t 1 = 0 := by decide +kernel

theorem blk3 (t : Fin cfg0.N) (k : Fin 1024) (e : Fin 1024) : iblk0 V c 3 t (ix2 k e) = V c main_v5 (ix2 k e) := by
  unfold iblk0; rw [View.read_apply]; show V c main_v5 _ = _; congr 1; funext a; apply Fin.ext
  match a with
  | ⟨0, _⟩ => show win0_3.index t 0 * 1024 + 1 * k.val = k.val; rw [(idx3 t).1]; omega
  | ⟨1, _⟩ => show win0_3.index t 1 * 1024 + 1 * e.val = e.val; rw [(idx3 t).2]; omega

theorem idx4 : ∀ t : Fin grid0.N, win0_4.index t 0 = 0 ∧ win0_4.index t 1 = 0 := by decide +kernel

theorem blk4 (t : Fin cfg0.N) (k : Fin 1) (e : Fin 1024) : iblk0 V c 4 t (ix2 k e) = V c main_arg4 (ix2 k e) := by
  unfold iblk0; rw [View.read_apply]; show V c main_arg4 _ = _; congr 1; funext a; apply Fin.ext
  match a with
  | ⟨0, _⟩ => show win0_4.index t 0 * 1 + 1 * k.val = k.val; rw [(idx4 t).1]; omega
  | ⟨1, _⟩ => show win0_4.index t 1 * 1024 + 1 * e.val = e.val; rw [(idx4 t).2]; omega

theorem idx5 : ∀ t : Fin grid0.N, win0_5.index t 0 = 0 ∧ win0_5.index t 1 = 0 ∧ win0_5.index t 2 = 0 := by decide +kernel

theorem blk5 (t : Fin cfg0.N) (j : Fin 4) (k : Fin 1024) (e : Fin 1408) : iblk0 V c 5 t (ix3 j k e) = V c main_v3 (ix3 j k e) := by
  unfold iblk0; rw [View.read_apply]; show V c main_v3 _ = _; congr 1; funext a; apply Fin.ext
  match a with
  | ⟨0, _⟩ => show win0_5.index t 0 * 4 + 1 * j.val = j.val; rw [(idx5 t).1]; omega
  | ⟨1, _⟩ => show win0_5.index t 1 * 1024 + 1 * k.val = k.val; rw [(idx5 t).2.1]; omega
  | ⟨2, _⟩ => show win0_5.index t 2 * 1408 + 1 * e.val = e.val; rw [(idx5 t).2.2]; omega

theorem idx6 : ∀ t : Fin grid0.N, win0_6.index t 0 = 0 ∧ win0_6.index t 1 = 0 := by decide +kernel

theorem blk6 (t : Fin cfg0.N) (k : Fin 2816) (e : Fin 1024) : iblk0 V c 6 t (ix2 k e) = V c main_v7 (ix2 k e) := by
  unfold iblk0; rw [View.read_apply]; show V c main_v7 _ = _; congr 1; funext a; apply Fin.ext
  match a with
  | ⟨0, _⟩ => show win0_6.index t 0 * 2816 + 1 * k.val = k.val; rw [(idx6 t).1]; omega
  | ⟨1, _⟩ => show win0_6.index t 1 * 1024 + 1 * e.val = e.val; rw [(idx6 t).2]; omega

theorem idx7 : ∀ t : Fin grid0.N, win0_7.index t 0 = 0 ∧ win0_7.index t 1 = 0 := by decide +kernel

theorem blk7 (t : Fin cfg0.N) (k : Fin 1) (e : Fin 1024) : iblk0 V c 7 t (ix2 k e) = V c main_v9 (ix2 k e) := by
  unfold iblk0; rw [View.read_apply]; show V c main_v9 _ = _; congr 1; funext a; apply Fin.ext
  match a with
  | ⟨0, _⟩ => show win0_7.index t 0 * 1 + 1 * k.val = k.val; rw [(idx7 t).1]; omega
  | ⟨1, _⟩ => show win0_7.index t 1 * 1024 + 1 * e.val = e.val; rw [(idx7 t).2]; omega

theorem idx8 : ∀ t : Fin grid0.N, win0_8.index t 0 = t.val ∧ win0_8.index t 1 = 0 := by decide +kernel

theorem blk8 (t : Fin cfg0.N) (r : Fin 256) (e : Fin 1024) : iblk0 V c 8 t (ix2 r e) = V c main_v10 (ix2 (row t r) e) := by
  unfold iblk0; rw [View.read_apply]; show V c main_v10 _ = _; congr 1; funext a; apply Fin.ext
  match a with
  | ⟨0, _⟩ => show win0_8.index t 0 * 256 + 1 * r.val = t.val * 256 + r.val; rw [(idx8 t).1, one_mul]
  | ⟨1, _⟩ => show win0_8.index t 1 * 1024 + 1 * e.val = e.val; rw [(idx8 t).2]; omega

/-! ## A tile's output blocks -/

theorem whole9 (t : Fin cfg0.N) : (outsAt0 V c t.val t.isLt).1 = k0_pay3 (iblk0 V c 0 t) (iblk0 V c 1 t) := by
  by_cases h0 : t.val % 32 = 0
  · rw [outsAt0_A V c t h0]; dsimp only; rw [outA_9]
  · rw [outsAt0_B V c t h0]; dsimp only; rw [outB_9]

theorem whole10 (t : Fin cfg0.N) : (outsAt0 V c t.val t.isLt).2.1 = k0_pay4 (iblk0 V c 0 t) (iblk0 V c 1 t) (iblk0 V c 2 t) (iblk0 V c 3 t) := by
  by_cases h0 : t.val % 32 = 0
  · rw [outsAt0_A V c t h0]; dsimp only; rw [outA_10]
  · rw [outsAt0_B V c t h0]; dsimp only; rw [outB_10]

theorem whole11 (t : Fin cfg0.N) : (outsAt0 V c t.val t.isLt).2.2.1 = k0_pay5 (iblk0 V c 0 t) (iblk0 V c 1 t) (iblk0 V c 2 t) (iblk0 V c 3 t) (iblk0 V c 4 t) := by
  by_cases h0 : t.val % 32 = 0
  · rw [outsAt0_A V c t h0]; dsimp only; rw [outA_11]
  · rw [outsAt0_B V c t h0]; dsimp only; rw [outB_11]

theorem whole12 (t : Fin cfg0.N) : (outsAt0 V c t.val t.isLt).2.2.2.1 = k0_pay8 (k0_pay5 (iblk0 V c 0 t) (iblk0 V c 1 t) (iblk0 V c 2 t) (iblk0 V c 3 t) (iblk0 V c 4 t)) (slab0 (iblk0 V c 5 t)) (slab1 (iblk0 V c 5 t)) := by
  by_cases h0 : t.val % 32 = 0
  · rw [outsAt0_A V c t h0]; dsimp only; rw [outA_12]
  · rw [outsAt0_B V c t h0]; dsimp only; rw [outB_12]

theorem whole13 (t : Fin cfg0.N) : (outsAt0 V c t.val t.isLt).2.2.2.2.1 = k0_pay9 (k0_pay5 (iblk0 V c 0 t) (iblk0 V c 1 t) (iblk0 V c 2 t) (iblk0 V c 3 t) (iblk0 V c 4 t)) (slab2 (iblk0 V c 5 t)) (slab3 (iblk0 V c 5 t)) := by
  by_cases h0 : t.val % 32 = 0
  · rw [outsAt0_A V c t h0]; dsimp only; rw [outA_13]
  · rw [outsAt0_B V c t h0]; dsimp only; rw [outB_13]

theorem whole14 (t : Fin cfg0.N) : (outsAt0 V c t.val t.isLt).2.2.2.2.2.1 = k0_pay10 (k0_pay5 (iblk0 V c 0 t) (iblk0 V c 1 t) (iblk0 V c 2 t) (iblk0 V c 3 t) (iblk0 V c 4 t)) (slab0 (iblk0 V c 5 t)) (slab1 (iblk0 V c 5 t)) (slab2 (iblk0 V c 5 t)) (slab3 (iblk0 V c 5 t)) := by
  by_cases h0 : t.val % 32 = 0
  · rw [outsAt0_A V c t h0]; dsimp only; rw [outA_14]
  · rw [outsAt0_B V c t h0]; dsimp only; rw [outB_14]

theorem whole15 (t : Fin cfg0.N) : (outsAt0 V c t.val t.isLt).2.2.2.2.2.2.1 = dh2B (k0_pay4 (iblk0 V c 0 t) (iblk0 V c 1 t) (iblk0 V c 2 t) (iblk0 V c 3 t)) (downB (k0_pay5 (iblk0 V c 0 t) (iblk0 V c 1 t) (iblk0 V c 2 t) (iblk0 V c 3 t) (iblk0 V c 4 t)) (iblk0 V c 5 t) (iblk0 V c 6 t)) (iblk0 V c 7 t) (iblk0 V c 8 t) := by
  by_cases h0 : t.val % 32 = 0
  · rw [outsAt0_A V c t h0]; dsimp only; rw [outA_15]
  · rw [outsAt0_B V c t h0]; dsimp only; rw [outB_15]

theorem first16 (t : Fin cfg0.N) (h0 : t.val % 32 = 0) : (outsAt0 V c t.val t.isLt).2.2.2.2.2.2.2 = accStep (k0_pay4 (iblk0 V c 0 t) (iblk0 V c 1 t) (iblk0 V c 2 t) (iblk0 V c 3 t)) (downB (k0_pay5 (iblk0 V c 0 t) (iblk0 V c 1 t) (iblk0 V c 2 t) (iblk0 V c 3 t) (iblk0 V c 4 t)) (iblk0 V c 5 t) (iblk0 V c 6 t)) (iblk0 V c 7 t) (iblk0 V c 8 t) (k0_pay2 (F := Ideal)) := by
  rw [outsAt0_A V c t h0]; dsimp only; rw [outA_16]

theorem next16 (t : Fin cfg0.N) (h0 : ¬t.val % 32 = 0) : (outsAt0 V c t.val t.isLt).2.2.2.2.2.2.2 =
    accStep (k0_pay4 (iblk0 V c 0 t) (iblk0 V c 1 t) (iblk0 V c 2 t) (iblk0 V c 3 t)) (downB (k0_pay5 (iblk0 V c 0 t) (iblk0 V c 1 t) (iblk0 V c 2 t) (iblk0 V c 3 t) (iblk0 V c 4 t)) (iblk0 V c 5 t) (iblk0 V c 6 t)) (iblk0 V c 7 t) (iblk0 V c 8 t) (outsAt0 V c (t.val - 1) (Nat.lt_of_le_of_lt (Nat.sub_le _ _) t.isLt)).2.2.2.2.2.2.2 := by
  rw [outsAt0_B V c t h0]; dsimp only; rw [outB_16]

/-! ## The rows of the output arrays -/

theorem idx9 : ∀ t : Fin grid0.N, win0_9.index t 0 = t.val ∧ win0_9.index t 1 = 0 := by decide +kernel

theorem inj9 : ∀ t t' : Fin cfg0.N, win0_9.index t = win0_9.index t' → t = t' :=
  (by decide +kernel : ∀ t t' : Fin grid0.N, win0_9.index t = win0_9.index t' → t = t')

theorem flushed9 (t : Fin cfg0.N) :
    (dat0 V c).flushed 9 t = (cfg0.win 9).cut (grid0.coords t) ((outsAt0 V c t.val t.isLt).1) := by
  show (cfg0.win 9).cut (grid0.coords t) ((dat0 V c).after 9 t) = _
  rw [after0_9]

theorem arr9 (t : Fin cfg0.N) (r : Fin 256) (e : Fin 1024) :
    (dat0 V c).arrAt 9 cfg0.N (ix2 (row t r) e) = (outsAt0 V c t.val t.isLt).1 (ix2 r e) := by
  refine Eq.trans ?_ (congrFun (((dat0 V c).read_blk_arrAt_eq_flushed 9 (fun t t' _ _ hne => (cfg0.win 9).disjoint_blk fun h => hne (inj9 t t' h))
    cfg0.N t t.isLt (flush0_9 t)).trans (flushed9 V c t)) (ix2 r e))
  rw [View.read_apply]; show (dat0 V c).arrAt 9 cfg0.N _ = (dat0 V c).arrAt 9 cfg0.N _; congr 1; funext a; apply Fin.ext
  match a with
  | ⟨0, _⟩ => show t.val * 256 + r.val = win0_9.index t 0 * 256 + 1 * r.val; rw [(idx9 t).1, one_mul]
  | ⟨1, _⟩ => show e.val = win0_9.index t 1 * 1024 + 1 * e.val; rw [(idx9 t).2]; omega

theorem idx10 : ∀ t : Fin grid0.N, win0_10.index t 0 = t.val ∧ win0_10.index t 1 = 0 := by decide +kernel

theorem inj10 : ∀ t t' : Fin cfg0.N, win0_10.index t = win0_10.index t' → t = t' :=
  (by decide +kernel : ∀ t t' : Fin grid0.N, win0_10.index t = win0_10.index t' → t = t')

theorem flushed10 (t : Fin cfg0.N) :
    (dat0 V c).flushed 10 t = (cfg0.win 10).cut (grid0.coords t) ((outsAt0 V c t.val t.isLt).2.1) := by
  show (cfg0.win 10).cut (grid0.coords t) ((dat0 V c).after 10 t) = _
  rw [after0_10]

theorem arr10 (t : Fin cfg0.N) (r : Fin 256) (e : Fin 1024) :
    (dat0 V c).arrAt 10 cfg0.N (ix2 (row t r) e) = (outsAt0 V c t.val t.isLt).2.1 (ix2 r e) := by
  refine Eq.trans ?_ (congrFun (((dat0 V c).read_blk_arrAt_eq_flushed 10 (fun t t' _ _ hne => (cfg0.win 10).disjoint_blk fun h => hne (inj10 t t' h))
    cfg0.N t t.isLt (flush0_10 t)).trans (flushed10 V c t)) (ix2 r e))
  rw [View.read_apply]; show (dat0 V c).arrAt 10 cfg0.N _ = (dat0 V c).arrAt 10 cfg0.N _; congr 1; funext a; apply Fin.ext
  match a with
  | ⟨0, _⟩ => show t.val * 256 + r.val = win0_10.index t 0 * 256 + 1 * r.val; rw [(idx10 t).1, one_mul]
  | ⟨1, _⟩ => show e.val = win0_10.index t 1 * 1024 + 1 * e.val; rw [(idx10 t).2]; omega

theorem idx11 : ∀ t : Fin grid0.N, win0_11.index t 0 = t.val ∧ win0_11.index t 1 = 0 := by decide +kernel

theorem inj11 : ∀ t t' : Fin cfg0.N, win0_11.index t = win0_11.index t' → t = t' :=
  (by decide +kernel : ∀ t t' : Fin grid0.N, win0_11.index t = win0_11.index t' → t = t')

theorem flushed11 (t : Fin cfg0.N) :
    (dat0 V c).flushed 11 t = (cfg0.win 11).cut (grid0.coords t) ((outsAt0 V c t.val t.isLt).2.2.1) := by
  show (cfg0.win 11).cut (grid0.coords t) ((dat0 V c).after 11 t) = _
  rw [after0_11]

theorem arr11 (t : Fin cfg0.N) (r : Fin 256) (e : Fin 1024) :
    (dat0 V c).arrAt 11 cfg0.N (ix2 (row t r) e) = (outsAt0 V c t.val t.isLt).2.2.1 (ix2 r e) := by
  refine Eq.trans ?_ (congrFun (((dat0 V c).read_blk_arrAt_eq_flushed 11 (fun t t' _ _ hne => (cfg0.win 11).disjoint_blk fun h => hne (inj11 t t' h))
    cfg0.N t t.isLt (flush0_11 t)).trans (flushed11 V c t)) (ix2 r e))
  rw [View.read_apply]; show (dat0 V c).arrAt 11 cfg0.N _ = (dat0 V c).arrAt 11 cfg0.N _; congr 1; funext a; apply Fin.ext
  match a with
  | ⟨0, _⟩ => show t.val * 256 + r.val = win0_11.index t 0 * 256 + 1 * r.val; rw [(idx11 t).1, one_mul]
  | ⟨1, _⟩ => show e.val = win0_11.index t 1 * 1024 + 1 * e.val; rw [(idx11 t).2]; omega

theorem idx12 : ∀ t : Fin grid0.N, win0_12.index t 0 = t.val ∧ win0_12.index t 1 = 0 := by decide +kernel

theorem inj12 : ∀ t t' : Fin cfg0.N, win0_12.index t = win0_12.index t' → t = t' :=
  (by decide +kernel : ∀ t t' : Fin grid0.N, win0_12.index t = win0_12.index t' → t = t')

theorem flushed12 (t : Fin cfg0.N) :
    (dat0 V c).flushed 12 t = (cfg0.win 12).cut (grid0.coords t) ((outsAt0 V c t.val t.isLt).2.2.2.1) := by
  show (cfg0.win 12).cut (grid0.coords t) ((dat0 V c).after 12 t) = _
  rw [after0_12]

theorem arr12 (t : Fin cfg0.N) (r : Fin 256) (e : Fin 2816) :
    (dat0 V c).arrAt 12 cfg0.N (ix2 (row t r) e) = (outsAt0 V c t.val t.isLt).2.2.2.1 (ix2 r e) := by
  refine Eq.trans ?_ (congrFun (((dat0 V c).read_blk_arrAt_eq_flushed 12 (fun t t' _ _ hne => (cfg0.win 12).disjoint_blk fun h => hne (inj12 t t' h))
    cfg0.N t t.isLt (flush0_12 t)).trans (flushed12 V c t)) (ix2 r e))
  rw [View.read_apply]; show (dat0 V c).arrAt 12 cfg0.N _ = (dat0 V c).arrAt 12 cfg0.N _; congr 1; funext a; apply Fin.ext
  match a with
  | ⟨0, _⟩ => show t.val * 256 + r.val = win0_12.index t 0 * 256 + 1 * r.val; rw [(idx12 t).1, one_mul]
  | ⟨1, _⟩ => show e.val = win0_12.index t 1 * 2816 + 1 * e.val; rw [(idx12 t).2]; omega

theorem idx13 : ∀ t : Fin grid0.N, win0_13.index t 0 = t.val ∧ win0_13.index t 1 = 0 := by decide +kernel

theorem inj13 : ∀ t t' : Fin cfg0.N, win0_13.index t = win0_13.index t' → t = t' :=
  (by decide +kernel : ∀ t t' : Fin grid0.N, win0_13.index t = win0_13.index t' → t = t')

theorem flushed13 (t : Fin cfg0.N) :
    (dat0 V c).flushed 13 t = (cfg0.win 13).cut (grid0.coords t) ((outsAt0 V c t.val t.isLt).2.2.2.2.1) := by
  show (cfg0.win 13).cut (grid0.coords t) ((dat0 V c).after 13 t) = _
  rw [after0_13]

theorem arr13 (t : Fin cfg0.N) (r : Fin 256) (e : Fin 2816) :
    (dat0 V c).arrAt 13 cfg0.N (ix2 (row t r) e) = (outsAt0 V c t.val t.isLt).2.2.2.2.1 (ix2 r e) := by
  refine Eq.trans ?_ (congrFun (((dat0 V c).read_blk_arrAt_eq_flushed 13 (fun t t' _ _ hne => (cfg0.win 13).disjoint_blk fun h => hne (inj13 t t' h))
    cfg0.N t t.isLt (flush0_13 t)).trans (flushed13 V c t)) (ix2 r e))
  rw [View.read_apply]; show (dat0 V c).arrAt 13 cfg0.N _ = (dat0 V c).arrAt 13 cfg0.N _; congr 1; funext a; apply Fin.ext
  match a with
  | ⟨0, _⟩ => show t.val * 256 + r.val = win0_13.index t 0 * 256 + 1 * r.val; rw [(idx13 t).1, one_mul]
  | ⟨1, _⟩ => show e.val = win0_13.index t 1 * 2816 + 1 * e.val; rw [(idx13 t).2]; omega

theorem idx14 : ∀ t : Fin grid0.N, win0_14.index t 0 = t.val ∧ win0_14.index t 1 = 0 := by decide +kernel

theorem inj14 : ∀ t t' : Fin cfg0.N, win0_14.index t = win0_14.index t' → t = t' :=
  (by decide +kernel : ∀ t t' : Fin grid0.N, win0_14.index t = win0_14.index t' → t = t')

theorem flushed14 (t : Fin cfg0.N) :
    (dat0 V c).flushed 14 t = (cfg0.win 14).cut (grid0.coords t) ((outsAt0 V c t.val t.isLt).2.2.2.2.2.1) := by
  show (cfg0.win 14).cut (grid0.coords t) ((dat0 V c).after 14 t) = _
  rw [after0_14]

theorem arr14 (t : Fin cfg0.N) (r : Fin 256) (e : Fin 2816) :
    (dat0 V c).arrAt 14 cfg0.N (ix2 (row t r) e) = (outsAt0 V c t.val t.isLt).2.2.2.2.2.1 (ix2 r e) := by
  refine Eq.trans ?_ (congrFun (((dat0 V c).read_blk_arrAt_eq_flushed 14 (fun t t' _ _ hne => (cfg0.win 14).disjoint_blk fun h => hne (inj14 t t' h))
    cfg0.N t t.isLt (flush0_14 t)).trans (flushed14 V c t)) (ix2 r e))
  rw [View.read_apply]; show (dat0 V c).arrAt 14 cfg0.N _ = (dat0 V c).arrAt 14 cfg0.N _; congr 1; funext a; apply Fin.ext
  match a with
  | ⟨0, _⟩ => show t.val * 256 + r.val = win0_14.index t 0 * 256 + 1 * r.val; rw [(idx14 t).1, one_mul]
  | ⟨1, _⟩ => show e.val = win0_14.index t 1 * 2816 + 1 * e.val; rw [(idx14 t).2]; omega

theorem idx15 : ∀ t : Fin grid0.N, win0_15.index t 0 = t.val ∧ win0_15.index t 1 = 0 := by decide +kernel

theorem inj15 : ∀ t t' : Fin cfg0.N, win0_15.index t = win0_15.index t' → t = t' :=
  (by decide +kernel : ∀ t t' : Fin grid0.N, win0_15.index t = win0_15.index t' → t = t')

theorem flushed15 (t : Fin cfg0.N) :
    (dat0 V c).flushed 15 t = (cfg0.win 15).cut (grid0.coords t) ((outsAt0 V c t.val t.isLt).2.2.2.2.2.2.1) := by
  show (cfg0.win 15).cut (grid0.coords t) ((dat0 V c).after 15 t) = _
  rw [after0_15]

theorem arr15 (t : Fin cfg0.N) (r : Fin 256) (e : Fin 1024) :
    (dat0 V c).arrAt 15 cfg0.N (ix2 (row t r) e) = (outsAt0 V c t.val t.isLt).2.2.2.2.2.2.1 (ix2 r e) := by
  refine Eq.trans ?_ (congrFun (((dat0 V c).read_blk_arrAt_eq_flushed 15 (fun t t' _ _ hne => (cfg0.win 15).disjoint_blk fun h => hne (inj15 t t' h))
    cfg0.N t t.isLt (flush0_15 t)).trans (flushed15 V c t)) (ix2 r e))
  rw [View.read_apply]; show (dat0 V c).arrAt 15 cfg0.N _ = (dat0 V c).arrAt 15 cfg0.N _; congr 1; funext a; apply Fin.ext
  match a with
  | ⟨0, _⟩ => show t.val * 256 + r.val = win0_15.index t 0 * 256 + 1 * r.val; rw [(idx15 t).1, one_mul]
  | ⟨1, _⟩ => show e.val = win0_15.index t 1 * 1024 + 1 * e.val; rw [(idx15 t).2]; omega

/-- The last tile. -/
def tLast : Fin cfg0.N := ⟨31, by decide⟩

/-- The accumulated array. -/
def acc : Vec Ideal S8x1024 .f32 := (outsAt0 V c tLast.val tLast.isLt).2.2.2.2.2.2.2

theorem flushed16 (t : Fin cfg0.N) :
    (dat0 V c).flushed 16 t = (cfg0.win 16).cut (grid0.coords t) ((outsAt0 V c t.val t.isLt).2.2.2.2.2.2.2) := by
  show (cfg0.win 16).cut (grid0.coords t) ((dat0 V c).after 16 t) = _
  rw [after0_16]

theorem flushed16_eq (t : Fin cfg0.N) (hf : (cfg0.win 16).flush t = true) :
    (dat0 V c).flushed 16 t = ((cfg0.win 16).blk t).view.read (Elt Ideal) (acc V c) := by
  obtain rfl : t = tLast := Fin.ext (by have := (flush0_16 t).mp hf; have : t.val < 32 := t.isLt; show t.val = 31; omega)
  rw [flushed16]
  have e : (outsAt0 V c tLast.val tLast.isLt).2.2.2.2.2.2.2 = acc V c := by rw [acc]
  rw [e]
  generalize acc V c = a
  have hz' : (fun a => win0_16.index tLast a * main_v11_7.ty.shape.size a) = fun _ => 0 := funext fun a => by
    match a with
    | ⟨0, _⟩ => rfl
    | ⟨1, _⟩ => rfl
  exact (Memref.read_access_unit_zero (Elt Ideal) main_v11_7 hz' (fun a => by rw [congrFun hz' a]; simp) a).symm

theorem arr16_acc : (dat0 V c).arrAt 16 cfg0.N = acc V c :=
  (dat0 V c).arrAt_eq_of_cover 16 (acc V c) (flushed16_eq V c) fun i =>
    ⟨tLast, (flush0_16 tLast).mpr rfl, by
      show i ∈ ((View.whole main_v11_7).slice (win0_16.rect tLast)).set
      rw [View.set_slice_whole, Rect.mem_set_unit]
      intro a
      have h0 : (i 0 : Nat) < 8 := (i 0).isLt
      have h1 : (i 1 : Nat) < 1024 := (i 1).isLt
      match a with
      | ⟨0, _⟩ => show 0 * 8 ≤ (i 0 : Nat) ∧ (i 0 : Nat) < 0 * 8 + 8
                  omega
      | ⟨1, _⟩ => show 0 * 1024 ≤ (i 1 : Nat) ∧ (i 1 : Nat) < 0 * 1024 + 1024
                  omega⟩

end Cert.Ffn.R0
-- ==== Proof.Ffn.Arrays0.lean ====
/- `ffn_fwd`'s eight output arrays, at an index, in the arguments. -/
module

public import proofs.«01_k».proof.Proof.Ffn.Host
public import proofs.«01_k».proof.Proof.Ffn.Tiles0

@[expose] public section

set_option maxRecDepth 16384

noncomputable section

namespace Cert.Ffn

open Cert.Kernel2Ideal Cert.Kernel2Ideal.Gen Idealize.ShloMosaic Idealize.ShloMosaic.TcCoe Idealize.ShloMosaic.Pipeline
open Cert.InB (Arr2 Arr3 ms dxRow)

variable (m : (ℓ : Loc nD τ sig) → Buf (Elt Ideal) ℓ) (ρ : Dev nD → PrngReg) (c : Dev nD)

open R0 (row)

/-! ## A tile's terms, in the arguments -/

section
variable (t : Fin cfg0.N) (r : Fin 256)

theorem b0 (e : Fin 512) : iblk0 (V1 m ρ) c 0 t (ix2 r e) = aP m c (ix2 (row t r) e) := (R0.blk0 _ c t r e).trans (V1_arg0 m ρ c _ e)
theorem b1 (e : Fin 512) : iblk0 (V1 m ρ) c 1 t (ix2 r e) = aQ m c (ix2 (row t r) e) := (R0.blk1 _ c t r e).trans (V1_arg1 m ρ c _ e)
theorem b2 (d : Fin 1024) : iblk0 (V1 m ρ) c 2 t (ix2 r d) = aX m c (ix3 0 (row t r) d) := (R0.blk2 _ c t r d).trans (V1_v8 m ρ c _ d)
theorem b3 (e d : Fin 1024) : iblk0 (V1 m ρ) c 3 t (ix2 e d) = Wo (aO m c) e d := (R0.blk3 _ c t e d).trans (V1_v5 m ρ c e d)
theorem b4 (d : Fin 1024) : iblk0 (V1 m ρ) c 4 t (ix2 0 d) = Gn (aG m c) d := (R0.blk4 _ c t 0 d).trans (V1_arg4 m ρ c d)
theorem b6 (j : Fin 2816) (d : Fin 1024) : iblk0 (V1 m ρ) c 6 t (ix2 j d) = Wd (aD m c) j d := (R0.blk6 _ c t j d).trans (V1_v7 m ρ c j d)
theorem b7 (d : Fin 1024) : iblk0 (V1 m ρ) c 7 t (ix2 0 d) = Fn (aF m c) d := (R0.blk7 _ c t 0 d).trans (V1_v9 m ρ c d)
theorem b8 (d : Fin 1024) : iblk0 (V1 m ρ) c 8 t (ix2 r d) = aY m c (ix3 0 (row t r) d) := (R0.blk8 _ c t r d).trans (V1_v10 m ρ c _ d)

theorem slab_t : slabW (iblk0 (V1 m ρ) c 5 t) = Wg (aW m c) := by
  funext k j
  unfold slabW
  rw [R0.blk5, V1_v3]
  unfold Wg
  refine congrArg (aW m c) (congrArg (ix3 0 k) (Fin.ext ?_))
  dsimp only
  omega

theorem mix_t (e : Fin 1024) : k0_pay3 (iblk0 (V1 m ρ) c 0 t) (iblk0 (V1 m ρ) c 1 t) (ix2 r e) = A (aP m c) (aQ m c) (row t r) e := by
  rw [mixB_at]
  simp only [b0, b1]
  rfl

theorem h1_t (d : Fin 1024) : k0_pay4 (iblk0 (V1 m ρ) c 0 t) (iblk0 (V1 m ρ) c 1 t) (iblk0 (V1 m ρ) c 2 t) (iblk0 (V1 m ρ) c 3 t) (ix2 r d) = H1 (aP m c) (aQ m c) (aX m c) (aO m c) (row t r) d := by
  rw [h1B_at]
  simp only [b0, b1, b2, b3]
  rfl

theorem u_t (d : Fin 1024) : k0_pay5 (iblk0 (V1 m ρ) c 0 t) (iblk0 (V1 m ρ) c 1 t) (iblk0 (V1 m ρ) c 2 t) (iblk0 (V1 m ρ) c 3 t) (iblk0 (V1 m ρ) c 4 t) (ix2 r d) = U (aP m c) (aQ m c) (aX m c) (aO m c) (aG m c) (row t r) d := by
  rw [u2B_at]
  simp only [b0, b1, b2, b3, b4]
  rfl

theorem gate_t (j : Fin 2816) : k0_pay8 (k0_pay5 (iblk0 (V1 m ρ) c 0 t) (iblk0 (V1 m ρ) c 1 t) (iblk0 (V1 m ρ) c 2 t) (iblk0 (V1 m ρ) c 3 t) (iblk0 (V1 m ρ) c 4 t)) (slab0 (iblk0 (V1 m ρ) c 5 t)) (slab1 (iblk0 (V1 m ρ) c 5 t)) (ix2 r j) = GU (aP m c) (aQ m c) (aX m c) (aO m c) (aG m c) (aW m c) (row t r) (gateCol j) := by
  rw [gateB_at]
  simp only [u_t, slab_t]
  rfl

theorem up_t (j : Fin 2816) : k0_pay9 (k0_pay5 (iblk0 (V1 m ρ) c 0 t) (iblk0 (V1 m ρ) c 1 t) (iblk0 (V1 m ρ) c 2 t) (iblk0 (V1 m ρ) c 3 t) (iblk0 (V1 m ρ) c 4 t)) (slab2 (iblk0 (V1 m ρ) c 5 t)) (slab3 (iblk0 (V1 m ρ) c 5 t)) (ix2 r j) = GU (aP m c) (aQ m c) (aX m c) (aO m c) (aG m c) (aW m c) (row t r) (upCol j) := by
  rw [upB_at]
  simp only [u_t, slab_t]
  rfl

theorem act_t (j : Fin 2816) : k0_pay10 (k0_pay5 (iblk0 (V1 m ρ) c 0 t) (iblk0 (V1 m ρ) c 1 t) (iblk0 (V1 m ρ) c 2 t) (iblk0 (V1 m ρ) c 3 t) (iblk0 (V1 m ρ) c 4 t)) (slab0 (iblk0 (V1 m ρ) c 5 t)) (slab1 (iblk0 (V1 m ρ) c 5 t)) (slab2 (iblk0 (V1 m ρ) c 5 t)) (slab3 (iblk0 (V1 m ρ) c 5 t)) (ix2 r j) = AC (aP m c) (aQ m c) (aX m c) (aO m c) (aG m c) (aW m c) (row t r) j := by
  rw [actB_at]
  simp only [u_t, slab_t]
  rfl

theorem h2_t (d : Fin 1024) : k0_pay4 (iblk0 (V1 m ρ) c 0 t) (iblk0 (V1 m ρ) c 1 t) (iblk0 (V1 m ρ) c 2 t) (iblk0 (V1 m ρ) c 3 t) (ix2 r d) + downB (k0_pay5 (iblk0 (V1 m ρ) c 0 t) (iblk0 (V1 m ρ) c 1 t) (iblk0 (V1 m ρ) c 2 t) (iblk0 (V1 m ρ) c 3 t) (iblk0 (V1 m ρ) c 4 t)) (iblk0 (V1 m ρ) c 5 t) (iblk0 (V1 m ρ) c 6 t) (ix2 r d) = H2 (aP m c) (aQ m c) (aX m c) (aO m c) (aG m c) (aW m c) (aD m c) (row t r) d := by
  rw [downB_at, h1_t]
  simp only [u_t, slab_t, b6]
  rfl

theorem dh2_t (d : Fin 1024) : dh2B (k0_pay4 (iblk0 (V1 m ρ) c 0 t) (iblk0 (V1 m ρ) c 1 t) (iblk0 (V1 m ρ) c 2 t) (iblk0 (V1 m ρ) c 3 t)) (downB (k0_pay5 (iblk0 (V1 m ρ) c 0 t) (iblk0 (V1 m ρ) c 1 t) (iblk0 (V1 m ρ) c 2 t) (iblk0 (V1 m ρ) c 3 t) (iblk0 (V1 m ρ) c 4 t)) (iblk0 (V1 m ρ) c 5 t) (iblk0 (V1 m ρ) c 6 t)) (iblk0 (V1 m ρ) c 7 t) (iblk0 (V1 m ρ) c 8 t) (ix2 r d) = DH2 (aP m c) (aQ m c) (aX m c) (aO m c) (aG m c) (aW m c) (aD m c) (aF m c) (aY m c) (row t r) d := by
  rw [dh2B_at]
  simp only [h2_t, b7, b8]
  rfl

theorem acc_t (a : Vec Ideal S8x1024 .f32) (i : Fin 8) (d : Fin 1024) : accStep (k0_pay4 (iblk0 (V1 m ρ) c 0 t) (iblk0 (V1 m ρ) c 1 t) (iblk0 (V1 m ρ) c 2 t) (iblk0 (V1 m ρ) c 3 t)) (downB (k0_pay5 (iblk0 (V1 m ρ) c 0 t) (iblk0 (V1 m ρ) c 1 t) (iblk0 (V1 m ρ) c 2 t) (iblk0 (V1 m ρ) c 3 t) (iblk0 (V1 m ρ) c 4 t)) (iblk0 (V1 m ρ) c 5 t) (iblk0 (V1 m ρ) c 6 t)) (iblk0 (V1 m ρ) c 7 t) (iblk0 (V1 m ρ) c 8 t) a (ix2 i d) = a (ix2 i d) +
    (if i.val = 0 then ∑ r : Fin 256, FT (aP m c) (aQ m c) (aX m c) (aO m c) (aG m c) (aW m c) (aD m c) (aF m c) (aY m c) (row t r) d
      else if i.val = 1 then inv2 * ∑ r : Fin 256, SQ (aP m c) (aQ m c) (aX m c) (aO m c) (aG m c) (aW m c) (aD m c) (aF m c) (aY m c) (row t r) d else 0) := by
  rw [accStep_at]
  simp only [h2_t, b7, b8]
  rfl
end

/-! ## The arrays -/

section
variable (t : Fin cfg0.N) (r : Fin 256)

theorem mixed_at (e : Fin 1024) : (dat0 (V1 m ρ) c).arrAt 9 cfg0.N (ix2 (row t r) e) = A (aP m c) (aQ m c) (row t r) e := by
  rw [R0.arr9, R0.whole9, mix_t]
theorem h1_at (d : Fin 1024) : (dat0 (V1 m ρ) c).arrAt 10 cfg0.N (ix2 (row t r) d) = H1 (aP m c) (aQ m c) (aX m c) (aO m c) (row t r) d := by
  rw [R0.arr10, R0.whole10, h1_t]
theorem u2_at (d : Fin 1024) : (dat0 (V1 m ρ) c).arrAt 11 cfg0.N (ix2 (row t r) d) = U (aP m c) (aQ m c) (aX m c) (aO m c) (aG m c) (row t r) d := by
  rw [R0.arr11, R0.whole11, u_t]
theorem gateArr_at (j : Fin 2816) : (dat0 (V1 m ρ) c).arrAt 12 cfg0.N (ix2 (row t r) j) = GU (aP m c) (aQ m c) (aX m c) (aO m c) (aG m c) (aW m c) (row t r) (gateCol j) := by
  rw [R0.arr12, R0.whole12, gate_t]
theorem upArr_at (j : Fin 2816) : (dat0 (V1 m ρ) c).arrAt 13 cfg0.N (ix2 (row t r) j) = GU (aP m c) (aQ m c) (aX m c) (aO m c) (aG m c) (aW m c) (row t r) (upCol j) := by
  rw [R0.arr13, R0.whole13, up_t]
theorem act_at (j : Fin 2816) : (dat0 (V1 m ρ) c).arrAt 14 cfg0.N (ix2 (row t r) j) = AC (aP m c) (aQ m c) (aX m c) (aO m c) (aG m c) (aW m c) (row t r) j := by
  rw [R0.arr14, R0.whole14, act_t]
theorem dh2_at (d : Fin 1024) : (dat0 (V1 m ρ) c).arrAt 15 cfg0.N (ix2 (row t r) d) = DH2 (aP m c) (aQ m c) (aX m c) (aO m c) (aG m c) (aW m c) (aD m c) (aF m c) (aY m c) (row t r) d := by
  rw [R0.arr15, R0.whole15, dh2_t]
end

/-- What tile `t` adds to entry `(i, d)` of the accumulator. -/
def finPart (t : Fin cfg0.N) (i : Fin 8) (d : Fin 1024) : EReal :=
  if i.val = 0 then ∑ r : Fin 256, FT (aP m c) (aQ m c) (aX m c) (aO m c) (aG m c) (aW m c) (aD m c) (aF m c) (aY m c) (row t r) d
  else if i.val = 1 then inv2 * ∑ r : Fin 256, SQ (aP m c) (aQ m c) (aX m c) (aO m c) (aG m c) (aW m c) (aD m c) (aF m c) (aY m c) (row t r) d else 0

theorem outs16 (i : Fin 8) (d : Fin 1024) : ∀ (n : ℕ) (hn : n < cfg0.N), (outsAt0 (V1 m ρ) c n hn).2.2.2.2.2.2.2 (ix2 i d) =
    ∑ j : Fin (n + 1), finPart m c ⟨j.val, by omega⟩ i d
  | 0, hn => by
    refine (congrFun (R0.first16 (V1 m ρ) c ⟨0, hn⟩ rfl) _).trans ?_
    rw [acc_t]
    have z : k0_pay2 (F := Ideal) (ix2 i d) = 0 := by pointwise [k0_pay2]
    rw [z, zero_add, Fin.sum_univ_one]
    rfl
  | n + 1, hn => by
    have hN : cfg0.N = 32 := rfl
    refine (congrFun (R0.next16 (V1 m ρ) c ⟨n + 1, hn⟩ (by dsimp only; omega)) _).trans ?_
    rw [acc_t]
    have ih := outs16 i d n (Nat.lt_of_succ_lt hn)
    refine (congrArg (· + _) ih).trans ?_
    rw [Fin.sum_univ_castSucc (n := n + 1)]
    rfl

theorem accFin_at (i : Fin 8) (d : Fin 1024) : (dat0 (V1 m ρ) c).arrAt 16 cfg0.N (ix2 i d) =
    if i.val = 0 then ∑ s : Fin 8192, FT (aP m c) (aQ m c) (aX m c) (aO m c) (aG m c) (aW m c) (aD m c) (aF m c) (aY m c) s d
    else if i.val = 1 then ∑ t : Fin 32, inv2 * ∑ r : Fin 256, SQ (aP m c) (aQ m c) (aX m c) (aO m c) (aG m c) (aW m c) (aD m c) (aF m c) (aY m c) (row t r) d else 0 := by
  rw [R0.arr16_acc]
  unfold R0.acc
  rw [outs16 m ρ c i d]
  show (∑ j : Fin 32, finPart m c ⟨j.val, _⟩ i d) = _
  by_cases h0 : i.val = 0
  · rw [if_pos h0, Fin.sum_univ_tiles 32 256 rfl]
    refine Finset.sum_congr rfl fun j _ => ?_
    unfold finPart
    rw [if_pos h0]
    rfl
  rw [if_neg h0]
  by_cases h1 : i.val = 1
  · rw [if_pos h1]
    refine Finset.sum_congr rfl fun j _ => ?_
    unfold finPart
    rw [if_neg h0, if_pos h1]
    rfl
  rw [if_neg h1]
  refine Finset.sum_eq_zero fun j _ => ?_
  unfold finPart
  rw [if_neg h0, if_neg h1]

theorem row_surj (s : Fin 8192) : ∃ (t : Fin cfg0.N) (r : Fin 256), s = row t r :=
  ⟨⟨s.val / 256, by show s.val / 256 < 32; omega⟩, ⟨s.val % 256, by omega⟩, Fin.ext (by show s.val = s.val / 256 * 256 + s.val % 256; omega)⟩

end Cert.Ffn
-- ==== Proof.Ffn.Blocks1.lean ====
/- What one grid point of `ffn_bwd` leaves in its output blocks, as terms over the input blocks: the gradient of the
   hidden rows in its four pieces (`gLo`, `uLo`, `gHi`, `uHi`), of the first residual (`dh1B`), of the mixers' rows
   (`dyaB`, `dybB`), the head sums (`delB`) and the accumulated row (`nStep`). -/
module

public import proofs.«01_k».proof.Proof.Gen.Kernel2Ideal.Frame.Region1
public import proofs.«01_k».proof.Proof.Ffn.Blocks0
public import Idealize.ShloMosaic.Lib.Pointwise
public import Idealize.ShloMosaic.Lib.ValueIdx
public import Idealize.ShloMosaic.Lib.VecWindow

@[expose] public section

set_option maxRecDepth 16384

noncomputable section

namespace Cert.Ffn

open Cert.Kernel2Ideal Cert.Kernel2Ideal.Gen Idealize.ShloMosaic Idealize.ShloMosaic.TcCoe

variable {F : FTy → Type} [FloatOps F]

/-- The gate's gradient below and from hidden column 1408, and the up half's. -/
def gLo (x0 : Vec F S256x1024 .f32) (x1 : Vec F S2816x1024 .bf16) (x2 x3 : Vec F S256x2816 .bf16) : FVec F S256x1408 .bf16 :=
  k1_pay7 x0 (View.ld (S := S2816x1024) x1 (Rect.unit ![0, 0] ![1408, 1024] inb_S2816x1024_S1408x1024_0_0))
    (View.ld (S := S256x2816) x2 (Rect.unit ![0, 0] ![256, 1408] inb_S256x2816_S256x1408_0_0))
    (View.ld (S := S256x2816) x3 (Rect.unit ![0, 0] ![256, 1408] inb_S256x2816_S256x1408_0_0))
def uLo (x0 : Vec F S256x1024 .f32) (x1 : Vec F S2816x1024 .bf16) (x2 : Vec F S256x2816 .bf16) : FVec F S256x1408 .bf16 :=
  k1_pay8 x0 (View.ld (S := S2816x1024) x1 (Rect.unit ![0, 0] ![1408, 1024] inb_S2816x1024_S1408x1024_0_0))
    (View.ld (S := S256x2816) x2 (Rect.unit ![0, 0] ![256, 1408] inb_S256x2816_S256x1408_0_0))
def gHi (x0 : Vec F S256x1024 .f32) (x1 : Vec F S2816x1024 .bf16) (x2 x3 : Vec F S256x2816 .bf16) : FVec F S256x1408 .bf16 :=
  k1_pay13 (k1_pay2 x0) (View.ld (S := S2816x1024) x1 (Rect.unit ![1408, 0] ![1408, 1024] inb_S2816x1024_S1408x1024_1408_0))
    (View.ld (S := S256x2816) x2 (Rect.unit ![0, 1408] ![256, 1408] inb_S256x2816_S256x1408_0_1408))
    (View.ld (S := S256x2816) x3 (Rect.unit ![0, 1408] ![256, 1408] inb_S256x2816_S256x1408_0_1408))
def uHi (x0 : Vec F S256x1024 .f32) (x1 : Vec F S2816x1024 .bf16) (x2 : Vec F S256x2816 .bf16) : FVec F S256x1408 .bf16 :=
  k1_pay14 (k1_pay2 x0) (View.ld (S := S2816x1024) x1 (Rect.unit ![1408, 0] ![1408, 1024] inb_S2816x1024_S1408x1024_1408_0))
    (View.ld (S := S256x2816) x2 (Rect.unit ![0, 1408] ![256, 1408] inb_S256x2816_S256x1408_0_1408))

/-- The hidden rows' gradient, put together over `j`. -/
def dguB (x0 : Vec F S256x1024 .f32) (x1 : Vec F S2816x1024 .bf16) (x2 x3 : Vec F S256x2816 .bf16) (j : Vec F S256x5632 .bf16) : Vec F S256x5632 .bf16 :=
  VecWindow.put (VecWindow.put (VecWindow.put (VecWindow.put j ![0, 0] ![256, 1408] (gLo x0 x1 x2 x3)) ![0, 2816] ![256, 1408] (uLo x0 x1 x2))
    ![0, 1408] ![256, 1408] (gHi x0 x1 x2 x3)) ![0, 4224] ![256, 1408] (uHi x0 x1 x2)

/-- The first half of the norm's rows' gradient. -/
def duLo (x0 : Vec F S256x1024 .f32) (x1 : Vec F S2816x1024 .bf16) (x2 x3 : Vec F S256x2816 .bf16) (x4 : Vec F S4x1024x1408 .bf16) : FVec F S256x1024 .f32 :=
  k1_pay9 k1_pay3 (gLo x0 x1 x2 x3) (uLo x0 x1 x2) (slab0 x4) (slab2 x4)

/-- The norm's rows' gradient times the norm's weight. -/
def duwB (x0 : Vec F S256x1024 .f32) (x1 : Vec F S2816x1024 .bf16) (x2 x3 : Vec F S256x2816 .bf16) (x4 : Vec F S4x1024x1408 .bf16) (x6 : Vec F S1x1024 .f32) : FVec F S256x1024 .f32 :=
  k1_pay20 (duLo x0 x1 x2 x3 x4) (gHi x0 x1 x2 x3) (uHi x0 x1 x2) (slab1 x4) (slab3 x4) x6

/-- The accumulator after one point: the first row's sums added. -/
def nStep (x0 : Vec F S256x1024 .f32) (x1 : Vec F S2816x1024 .bf16) (x2 x3 : Vec F S256x2816 .bf16) (x4 : Vec F S4x1024x1408 .bf16) (x5 : Vec F S256x1024 .f32) (a : Vec F S8x1024 .f32) : Vec F S8x1024 .f32 :=
  VecWindow.put a ![0, 0] ![1, 1024] (k1_pay19 (duLo x0 x1 x2 x3 x4) (gHi x0 x1 x2 x3) (uHi x0 x1 x2) (slab1 x4) (slab3 x4) x5
    (View.ld (S := S8x1024) a (Rect.unit ![0, 0] ![1, 1024] inb_S8x1024_S1x1024_0_0)))

variable (c : Dev nD) (i : grid1.Coords) (arg1 : Memref sig .tc .vmem S256x1024 .f32) (harg1 : arg1.IsWhole) (arg2 : Memref sig .tc .vmem S2816x1024 .bf16) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S256x512 .f32) (harg9 : arg9.IsWhole) (arg10 : Memref sig .tc .vmem S512x512 .bf16) (harg10 : arg10.IsWhole) (arg11 : Memref sig .tc .vmem S256x5632 .bf16) (harg11 : arg11.IsWhole) (arg12 : Memref sig .tc .vmem S256x1024 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S8x1024 .f32) (harg16 : arg16.IsWhole)
variable (x0 : Vec F S256x1024 .f32) (x1 : Vec F S2816x1024 .bf16) (x2 : Vec F S256x2816 .bf16) (x3 : Vec F S256x2816 .bf16) (x4 : Vec F S4x1024x1408 .bf16) (x5 : Vec F S256x1024 .f32) (x6 : Vec F S1x1024 .f32) (x7 : Vec F S1024x1024 .bf16) (x8 : Vec F S256x512 .f32) (x9 : Vec F S512x512 .bf16)

theorem bwdA_10 (hc0 : cond1_0 i) :
    out1_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 = dguB x0 x1 x2 x3 (View.read (Elt F) VO1_10 VO1_10.junk) := by
  unfold out1_A_10
  unfold kernelRun1_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x512) hz2, View.ld_unit_zero (S := S256x1024) hz2, View.ld_unit_zero (S := S1024x1024) hz2, View.ld_unit_zero (S := S1x1024) hz2, View.ld_unit_zero (S := S512x512) hz2]
  rw [View.read_writes_cons_put _ _ _ _ _ rfl, View.read_writes_cons_put _ _ _ _ _ rfl, View.read_writes_cons_put _ _ _ _ _ rfl,
    View.read_writes_cons_put _ _ _ _ _ rfl, View.writes_nil]
  rfl

theorem bwdA_11 (hc0 : cond1_0 i) :
    out1_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 = k1_pay21 (k1_pay17 x5) (k1_pay18 x5) (duwB x0 x1 x2 x3 x4 x6) x0 := by
  unfold out1_A_11
  rw [View.read_writes_eq_canon _ _ _ (cover1_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun1_A
  dsimp only
  sl_unfold_words
  rw [View.canon_unit_zero (S := S256x1024) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x512) hz2, View.ld_unit_zero (S := S256x1024) hz2, View.ld_unit_zero (S := S1024x1024) hz2, View.ld_unit_zero (S := S1x1024) hz2, View.ld_unit_zero (S := S512x512) hz2]
  rfl

theorem bwdA_12 (hc0 : cond1_0 i) :
    out1_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 = k1_pay23 (k1_pay17 x5) (k1_pay18 x5) (duwB x0 x1 x2 x3 x4 x6) x0 x7 := by
  unfold out1_A_12
  rw [View.read_writes_eq_canon _ _ _ (cover1_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun1_A
  dsimp only
  sl_unfold_words
  rw [View.canon_unit_zero (S := S256x512) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x512) hz2, View.ld_unit_zero (S := S256x1024) hz2, View.ld_unit_zero (S := S1024x1024) hz2, View.ld_unit_zero (S := S1x1024) hz2, View.ld_unit_zero (S := S512x512) hz2]
  rfl

theorem bwdA_13 (hc0 : cond1_0 i) :
    out1_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 = k1_pay24 (k1_pay17 x5) (k1_pay18 x5) (duwB x0 x1 x2 x3 x4 x6) x0 x7 := by
  unfold out1_A_13
  rw [View.read_writes_eq_canon _ _ _ (cover1_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun1_A
  dsimp only
  sl_unfold_words
  rw [View.canon_unit_zero (S := S256x512) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x512) hz2, View.ld_unit_zero (S := S256x1024) hz2, View.ld_unit_zero (S := S1024x1024) hz2, View.ld_unit_zero (S := S1x1024) hz2, View.ld_unit_zero (S := S512x512) hz2]
  rfl

theorem bwdA_14 (hc0 : cond1_0 i) :
    out1_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 = k1_pay25 (k1_pay17 x5) (k1_pay18 x5) (duwB x0 x1 x2 x3 x4 x6) x0 x7 x8 x9 x9 := by
  unfold out1_A_14
  rw [View.read_writes_eq_canon _ _ _ (cover1_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun1_A
  dsimp only
  sl_unfold_words
  rw [View.canon_unit_zero (S := S256x512) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x512) hz2, View.ld_unit_zero (S := S256x1024) hz2, View.ld_unit_zero (S := S1024x1024) hz2, View.ld_unit_zero (S := S1x1024) hz2, View.ld_unit_zero (S := S512x512) hz2]
  rfl

theorem bwdB_10 (hc0 : ¬ cond1_0 i) (xo : Vec F S8x1024 .f32) :
    out1_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo = dguB x0 x1 x2 x3 (View.read (Elt F) VO1_10 VO1_10.junk) := by
  unfold out1_B_10
  unfold kernelRun1_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x512) hz2, View.ld_unit_zero (S := S256x1024) hz2, View.ld_unit_zero (S := S1024x1024) hz2, View.ld_unit_zero (S := S1x1024) hz2, View.ld_unit_zero (S := S512x512) hz2]
  rw [View.read_writes_cons_put _ _ _ _ _ rfl, View.read_writes_cons_put _ _ _ _ _ rfl, View.read_writes_cons_put _ _ _ _ _ rfl,
    View.read_writes_cons_put _ _ _ _ _ rfl, View.writes_nil]
  rfl

theorem bwdB_11 (hc0 : ¬ cond1_0 i) (xo : Vec F S8x1024 .f32) :
    out1_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo = k1_pay21 (k1_pay17 x5) (k1_pay18 x5) (duwB x0 x1 x2 x3 x4 x6) x0 := by
  unfold out1_B_11
  rw [View.read_writes_eq_canon _ _ _ (cover1_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo)]
  unfold kernelRun1_B
  dsimp only
  sl_unfold_words
  rw [View.canon_unit_zero (S := S256x1024) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x512) hz2, View.ld_unit_zero (S := S256x1024) hz2, View.ld_unit_zero (S := S1024x1024) hz2, View.ld_unit_zero (S := S1x1024) hz2, View.ld_unit_zero (S := S512x512) hz2]
  rfl

theorem bwdB_12 (hc0 : ¬ cond1_0 i) (xo : Vec F S8x1024 .f32) :
    out1_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo = k1_pay23 (k1_pay17 x5) (k1_pay18 x5) (duwB x0 x1 x2 x3 x4 x6) x0 x7 := by
  unfold out1_B_12
  rw [View.read_writes_eq_canon _ _ _ (cover1_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo)]
  unfold kernelRun1_B
  dsimp only
  sl_unfold_words
  rw [View.canon_unit_zero (S := S256x512) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x512) hz2, View.ld_unit_zero (S := S256x1024) hz2, View.ld_unit_zero (S := S1024x1024) hz2, View.ld_unit_zero (S := S1x1024) hz2, View.ld_unit_zero (S := S512x512) hz2]
  rfl

theorem bwdB_13 (hc0 : ¬ cond1_0 i) (xo : Vec F S8x1024 .f32) :
    out1_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo = k1_pay24 (k1_pay17 x5) (k1_pay18 x5) (duwB x0 x1 x2 x3 x4 x6) x0 x7 := by
  unfold out1_B_13
  rw [View.read_writes_eq_canon _ _ _ (cover1_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo)]
  unfold kernelRun1_B
  dsimp only
  sl_unfold_words
  rw [View.canon_unit_zero (S := S256x512) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x512) hz2, View.ld_unit_zero (S := S256x1024) hz2, View.ld_unit_zero (S := S1024x1024) hz2, View.ld_unit_zero (S := S1x1024) hz2, View.ld_unit_zero (S := S512x512) hz2]
  rfl

theorem bwdB_14 (hc0 : ¬ cond1_0 i) (xo : Vec F S8x1024 .f32) :
    out1_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo = k1_pay25 (k1_pay17 x5) (k1_pay18 x5) (duwB x0 x1 x2 x3 x4 x6) x0 x7 x8 x9 x9 := by
  unfold out1_B_14
  rw [View.read_writes_eq_canon _ _ _ (cover1_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo)]
  unfold kernelRun1_B
  dsimp only
  sl_unfold_words
  rw [View.canon_unit_zero (S := S256x512) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x512) hz2, View.ld_unit_zero (S := S256x1024) hz2, View.ld_unit_zero (S := S1024x1024) hz2, View.ld_unit_zero (S := S1x1024) hz2, View.ld_unit_zero (S := S512x512) hz2]
  rfl

theorem bwdB_15 (hc0 : ¬ cond1_0 i) (xo : Vec F S8x1024 .f32) :
    out1_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo = nStep x0 x1 x2 x3 x4 x5 xo := by
  unfold out1_B_15
  unfold kernelRun1_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x512) hz2, View.ld_unit_zero (S := S256x1024) hz2, View.ld_unit_zero (S := S1024x1024) hz2, View.ld_unit_zero (S := S1x1024) hz2, View.ld_unit_zero (S := S512x512) hz2]
  rw [View.read_writes_cons_put _ _ _ _ _ rfl, View.writes_nil, harg16.read_unread]
  rfl

/-- The accumulator after the point that starts it: it grows from zero. -/
theorem bwdA_15 (hc0 : cond1_0 i) :
    out1_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 = nStep x0 x1 x2 x3 x4 x5 k1_pay1 := by
  unfold out1_A_15
  unfold kernelRun1_A
  dsimp only
  sl_unfold_words
  simp only [View.readAt_eq_ld, View.readCov, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x512) hz2, View.ld_unit_zero (S := S256x1024) hz2, View.ld_unit_zero (S := S1024x1024) hz2, View.ld_unit_zero (S := S1x1024) hz2, View.ld_unit_zero (S := S512x512) hz2]
  rw [View.read_writes_cons_put _ _ _ _ _ rfl, View.read_writes_full (s := S8x1024), View.read_writes_full (s := S8x1024)]
  rfl

end Cert.Ffn
-- ==== Proof.Ffn.Tiles1.lean ====
/- The blocks of `ffn_bwd`'s launch: what each window reads of its array, what a tile's output blocks are, and which
   rows of the output arrays they become. -/
module

public import proofs.«01_k».proof.Proof.Ffn.Spec
public import proofs.«01_k».proof.Proof.Ffn.Blocks1

@[expose] public section

set_option maxRecDepth 16384

noncomputable section

namespace Cert.Ffn.R1

open Cert.Kernel2Ideal Cert.Kernel2Ideal.Gen Idealize.ShloMosaic Idealize.ShloMosaic.TcCoe Idealize.ShloMosaic.Pipeline

variable (V : (c : Dev nD) → (b : Ref sig .tc) → Buf (Elt Ideal) ((c : Thread nD τ).loc b)) (c : Dev nD)

/-- Row `r` of tile `t`. -/
def row (t : Fin cfg1.N) (r : Fin 256) : Fin 8192 := ⟨t.val * 256 + r.val, by have : t.val < 32 := t.isLt; omega⟩

/-! ## The input blocks -/

theorem idx0 : ∀ t : Fin grid1.N, win1_0.index t 0 = t.val ∧ win1_0.index t 1 = 0 := by decide +kernel

theorem blk0 (t : Fin cfg1.N) (r : Fin 256) (e : Fin 1024) : iblk1 V c 0 t (ix2 r e) = V c main_v11_6 (ix2 (row t r) e) := by
  unfold iblk1; rw [View.read_apply]; show V c main_v11_6 _ = _; congr 1; funext a; apply Fin.ext
  match a with
  | ⟨0, _⟩ => show win1_0.index t 0 * 256 + 1 * r.val = t.val * 256 + r.val; rw [(idx0 t).1, one_mul]
  | ⟨1, _⟩ => show win1_0.index t 1 * 1024 + 1 * e.val = e.val; rw [(idx0 t).2]; omega

theorem idx1 : ∀ t : Fin grid1.N, win1_1.index t 0 = 0 ∧ win1_1.index t 1 = 0 := by decide +kernel

theorem blk1 (t : Fin cfg1.N) (k : Fin 2816) (e : Fin 1024) : iblk1 V c 1 t (ix2 k e) = V c main_v7 (ix2 k e) := by
  unfold iblk1; rw [View.read_apply]; show V c main_v7 _ = _; congr 1; funext a; apply Fin.ext
  match a with
  | ⟨0, _⟩ => show win1_1.index t 0 * 2816 + 1 * k.val = k.val; rw [(idx1 t).1]; omega
  | ⟨1, _⟩ => show win1_1.index t 1 * 1024 + 1 * e.val = e.val; rw [(idx1 t).2]; omega

theorem idx2 : ∀ t : Fin grid1.N, win1_2.index t 0 = t.val ∧ win1_2.index t 1 = 0 := by decide +kernel

theorem blk2 (t : Fin cfg1.N) (r : Fin 256) (e : Fin 2816) : iblk1 V c 2 t (ix2 r e) = V c main_v11_3 (ix2 (row t r) e) := by
  unfold iblk1; rw [View.read_apply]; show V c main_v11_3 _ = _; congr 1; funext a; apply Fin.ext
  match a with
  | ⟨0, _⟩ => show win1_2.index t 0 * 256 + 1 * r.val = t.val * 256 + r.val; rw [(idx2 t).1, one_mul]
  | ⟨1, _⟩ => show win1_2.index t 1 * 2816 + 1 * e.val = e.val; rw [(idx2 t).2]; omega

theorem idx3 : ∀ t : Fin grid1.N, win1_3.index t 0 = t.val ∧ win1_3.index t 1 = 0 := by decide +kernel

theorem blk3 (t : Fin cfg1.N) (r : Fin 256) (e : Fin 2816) : iblk1 V c 3 t (ix2 r e) = V c main_v11_4 (ix2 (row t r) e) := by
  unfold iblk1; rw [View.read_apply]; show V c main_v11_4 _ = _; congr 1; funext a; apply Fin.ext
  match a with
  | ⟨0, _⟩ => show win1_3.index t 0 * 256 + 1 * r.val = t.val * 256 + r.val; rw [(idx3 t).1, one_mul]
  | ⟨1, _⟩ => show win1_3.index t 1 * 2816 + 1 * e.val = e.val; rw [(idx3 t).2]; omega

theorem idx4 : ∀ t : Fin grid1.N, win1_4.index t 0 = 0 ∧ win1_4.index t 1 = 0 ∧ win1_4.index t 2 = 0 := by decide +kernel

theorem blk4 (t : Fin cfg1.N) (j : Fin 4) (k : Fin 1024) (e : Fin 1408) : iblk1 V c 4 t (ix3 j k e) = V c main_v3 (ix3 j k e) := by
  unfold iblk1; rw [View.read_apply]; show V c main_v3 _ = _; congr 1; funext a; apply Fin.ext
  match a with
  | ⟨0, _⟩ => show win1_4.index t 0 * 4 + 1 * j.val = j.val; rw [(idx4 t).1]; omega
  | ⟨1, _⟩ => show win1_4.index t 1 * 1024 + 1 * k.val = k.val; rw [(idx4 t).2.1]; omega
  | ⟨2, _⟩ => show win1_4.index t 2 * 1408 + 1 * e.val = e.val; rw [(idx4 t).2.2]; omega

theorem idx5 : ∀ t : Fin grid1.N, win1_5.index t 0 = t.val ∧ win1_5.index t 1 = 0 := by decide +kernel

theorem blk5 (t : Fin cfg1.N) (r : Fin 256) (e : Fin 1024) : iblk1 V c 5 t (ix2 r e) = V c main_v11_1 (ix2 (row t r) e) := by
  unfold iblk1; rw [View.read_apply]; show V c main_v11_1 _ = _; congr 1; funext a; apply Fin.ext
  match a with
  | ⟨0, _⟩ => show win1_5.index t 0 * 256 + 1 * r.val = t.val * 256 + r.val; rw [(idx5 t).1, one_mul]
  | ⟨1, _⟩ => show win1_5.index t 1 * 1024 + 1 * e.val = e.val; rw [(idx5 t).2]; omega

theorem idx6 : ∀ t : Fin grid1.N, win1_6.index t 0 = 0 ∧ win1_6.index t 1 = 0 := by decide +kernel

theorem blk6 (t : Fin cfg1.N) (k : Fin 1) (e : Fin 1024) : iblk1 V c 6 t (ix2 k e) = V c main_arg4 (ix2 k e) := by
  unfold iblk1; rw [View.read_apply]; show V c main_arg4 _ = _; congr 1; funext a; apply Fin.ext
  match a with
  | ⟨0, _⟩ => show win1_6.index t 0 * 1 + 1 * k.val = k.val; rw [(idx6 t).1]; omega
  | ⟨1, _⟩ => show win1_6.index t 1 * 1024 + 1 * e.val = e.val; rw [(idx6 t).2]; omega

theorem idx7 : ∀ t : Fin grid1.N, win1_7.index t 0 = 0 ∧ win1_7.index t 1 = 0 := by decide +kernel

theorem blk7 (t : Fin cfg1.N) (k : Fin 1024) (e : Fin 1024) : iblk1 V c 7 t (ix2 k e) = V c main_v5 (ix2 k e) := by
  unfold iblk1; rw [View.read_apply]; show V c main_v5 _ = _; congr 1; funext a; apply Fin.ext
  match a with
  | ⟨0, _⟩ => show win1_7.index t 0 * 1024 + 1 * k.val = k.val; rw [(idx7 t).1]; omega
  | ⟨1, _⟩ => show win1_7.index t 1 * 1024 + 1 * e.val = e.val; rw [(idx7 t).2]; omega

theorem idx8 : ∀ t : Fin grid1.N, win1_8.index t 0 = t.val ∧ win1_8.index t 1 = 0 := by decide +kernel

theorem blk8 (t : Fin cfg1.N) (r : Fin 256) (e : Fin 512) : iblk1 V c 8 t (ix2 r e) = V c main_arg0 (ix2 (row t r) e) := by
  unfold iblk1; rw [View.read_apply]; show V c main_arg0 _ = _; congr 1; funext a; apply Fin.ext
  match a with
  | ⟨0, _⟩ => show win1_8.index t 0 * 256 + 1 * r.val = t.val * 256 + r.val; rw [(idx8 t).1, one_mul]
  | ⟨1, _⟩ => show win1_8.index t 1 * 512 + 1 * e.val = e.val; rw [(idx8 t).2]; omega

theorem idx9 : ∀ t : Fin grid1.N, win1_9.index t 0 = 0 ∧ win1_9.index t 1 = 0 := by decide +kernel

theorem blk9 (t : Fin cfg1.N) (k : Fin 512) (e : Fin 512) : iblk1 V c 9 t (ix2 k e) = V c main_v20 (ix2 k e) := by
  unfold iblk1; rw [View.read_apply]; show V c main_v20 _ = _; congr 1; funext a; apply Fin.ext
  match a with
  | ⟨0, _⟩ => show win1_9.index t 0 * 512 + 1 * k.val = k.val; rw [(idx9 t).1]; omega
  | ⟨1, _⟩ => show win1_9.index t 1 * 512 + 1 * e.val = e.val; rw [(idx9 t).2]; omega

/-! ## A tile's output blocks -/

theorem whole10 (t : Fin cfg1.N) : (outsAt1 V c t.val t.isLt).1 = dguB (iblk1 V c 0 t) (iblk1 V c 1 t) (iblk1 V c 2 t) (iblk1 V c 3 t) (View.read (Elt Ideal) VO1_10 VO1_10.junk) := by
  by_cases h0 : t.val % 32 = 0
  · rw [outsAt1_A V c t h0]; dsimp only; rw [bwdA_10]
  · rw [outsAt1_B V c t h0]; dsimp only; rw [bwdB_10]

theorem whole11 (t : Fin cfg1.N) : (outsAt1 V c t.val t.isLt).2.1 = k1_pay21 (k1_pay17 (iblk1 V c 5 t)) (k1_pay18 (iblk1 V c 5 t)) (duwB (iblk1 V c 0 t) (iblk1 V c 1 t) (iblk1 V c 2 t) (iblk1 V c 3 t) (iblk1 V c 4 t) (iblk1 V c 6 t)) (iblk1 V c 0 t) := by
  by_cases h0 : t.val % 32 = 0
  · rw [outsAt1_A V c t h0]; dsimp only; rw [bwdA_11]
  · rw [outsAt1_B V c t h0]; dsimp only; rw [bwdB_11]

theorem whole12 (t : Fin cfg1.N) : (outsAt1 V c t.val t.isLt).2.2.1 = k1_pay23 (k1_pay17 (iblk1 V c 5 t)) (k1_pay18 (iblk1 V c 5 t)) (duwB (iblk1 V c 0 t) (iblk1 V c 1 t) (iblk1 V c 2 t) (iblk1 V c 3 t) (iblk1 V c 4 t) (iblk1 V c 6 t)) (iblk1 V c 0 t) (iblk1 V c 7 t) := by
  by_cases h0 : t.val % 32 = 0
  · rw [outsAt1_A V c t h0]; dsimp only; rw [bwdA_12]
  · rw [outsAt1_B V c t h0]; dsimp only; rw [bwdB_12]

theorem whole13 (t : Fin cfg1.N) : (outsAt1 V c t.val t.isLt).2.2.2.1 = k1_pay24 (k1_pay17 (iblk1 V c 5 t)) (k1_pay18 (iblk1 V c 5 t)) (duwB (iblk1 V c 0 t) (iblk1 V c 1 t) (iblk1 V c 2 t) (iblk1 V c 3 t) (iblk1 V c 4 t) (iblk1 V c 6 t)) (iblk1 V c 0 t) (iblk1 V c 7 t) := by
  by_cases h0 : t.val % 32 = 0
  · rw [outsAt1_A V c t h0]; dsimp only; rw [bwdA_13]
  · rw [outsAt1_B V c t h0]; dsimp only; rw [bwdB_13]

theorem whole14 (t : Fin cfg1.N) : (outsAt1 V c t.val t.isLt).2.2.2.2.1 = k1_pay25 (k1_pay17 (iblk1 V c 5 t)) (k1_pay18 (iblk1 V c 5 t)) (duwB (iblk1 V c 0 t) (iblk1 V c 1 t) (iblk1 V c 2 t) (iblk1 V c 3 t) (iblk1 V c 4 t) (iblk1 V c 6 t)) (iblk1 V c 0 t) (iblk1 V c 7 t) (iblk1 V c 8 t) (iblk1 V c 9 t) (iblk1 V c 9 t) := by
  by_cases h0 : t.val % 32 = 0
  · rw [outsAt1_A V c t h0]; dsimp only; rw [bwdA_14]
  · rw [outsAt1_B V c t h0]; dsimp only; rw [bwdB_14]

theorem first15 (t : Fin cfg1.N) (h0 : t.val % 32 = 0) : (outsAt1 V c t.val t.isLt).2.2.2.2.2 = nStep (iblk1 V c 0 t) (iblk1 V c 1 t) (iblk1 V c 2 t) (iblk1 V c 3 t) (iblk1 V c 4 t) (iblk1 V c 5 t) (k1_pay1 (F := Ideal)) := by
  rw [outsAt1_A V c t h0]; dsimp only; rw [bwdA_15]

theorem next15 (t : Fin cfg1.N) (h0 : ¬t.val % 32 = 0) : (outsAt1 V c t.val t.isLt).2.2.2.2.2 =
    nStep (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.2.2 := by
  rw [outsAt1_B V c t h0]; dsimp only; rw [bwdB_15]

/-! ## The rows of the output arrays -/

theorem idx10 : ∀ t : Fin grid1.N, win1_10.index t 0 = t.val ∧ win1_10.index t 1 = 0 := by decide +kernel

theorem inj10 : ∀ t t' : Fin cfg1.N, win1_10.index t = win1_10.index t' → t = t' :=
  (by decide +kernel : ∀ t t' : Fin grid1.N, win1_10.index t = win1_10.index t' → t = t')

theorem flushed10 (t : Fin cfg1.N) :
    (dat1 V c).flushed 10 t = (cfg1.win 10).cut (grid1.coords t) ((outsAt1 V c t.val t.isLt).1) := by
  show (cfg1.win 10).cut (grid1.coords t) ((dat1 V c).after 10 t) = _
  rw [after1_10]

theorem arr10 (t : Fin cfg1.N) (r : Fin 256) (e : Fin 5632) :
    (dat1 V c).arrAt 10 cfg1.N (ix2 (row t r) e) = (outsAt1 V c t.val t.isLt).1 (ix2 r e) := by
  refine Eq.trans ?_ (congrFun (((dat1 V c).read_blk_arrAt_eq_flushed 10 (fun t t' _ _ hne => (cfg1.win 10).disjoint_blk fun h => hne (inj10 t t' h))
    cfg1.N t t.isLt (flush1_10 t)).trans (flushed10 V c t)) (ix2 r e))
  rw [View.read_apply]; show (dat1 V c).arrAt 10 cfg1.N _ = (dat1 V c).arrAt 10 cfg1.N _; congr 1; funext a; apply Fin.ext
  match a with
  | ⟨0, _⟩ => show t.val * 256 + r.val = win1_10.index t 0 * 256 + 1 * r.val; rw [(idx10 t).1, one_mul]
  | ⟨1, _⟩ => show e.val = win1_10.index t 1 * 5632 + 1 * e.val; rw [(idx10 t).2]; omega

theorem idx11 : ∀ t : Fin grid1.N, win1_11.index t 0 = t.val ∧ win1_11.index t 1 = 0 := by decide +kernel

theorem inj11 : ∀ t t' : Fin cfg1.N, win1_11.index t = win1_11.index t' → t = t' :=
  (by decide +kernel : ∀ t t' : Fin grid1.N, win1_11.index t = win1_11.index t' → t = t')

theorem flushed11 (t : Fin cfg1.N) :
    (dat1 V c).flushed 11 t = (cfg1.win 11).cut (grid1.coords t) ((outsAt1 V c t.val t.isLt).2.1) := by
  show (cfg1.win 11).cut (grid1.coords t) ((dat1 V c).after 11 t) = _
  rw [after1_11]

theorem arr11 (t : Fin cfg1.N) (r : Fin 256) (e : Fin 1024) :
    (dat1 V c).arrAt 11 cfg1.N (ix2 (row t r) e) = (outsAt1 V c t.val t.isLt).2.1 (ix2 r e) := by
  refine Eq.trans ?_ (congrFun (((dat1 V c).read_blk_arrAt_eq_flushed 11 (fun t t' _ _ hne => (cfg1.win 11).disjoint_blk fun h => hne (inj11 t t' h))
    cfg1.N t t.isLt (flush1_11 t)).trans (flushed11 V c t)) (ix2 r e))
  rw [View.read_apply]; show (dat1 V c).arrAt 11 cfg1.N _ = (dat1 V c).arrAt 11 cfg1.N _; congr 1; funext a; apply Fin.ext
  match a with
  | ⟨0, _⟩ => show t.val * 256 + r.val = win1_11.index t 0 * 256 + 1 * r.val; rw [(idx11 t).1, one_mul]
  | ⟨1, _⟩ => show e.val = win1_11.index t 1 * 1024 + 1 * e.val; rw [(idx11 t).2]; omega

theorem idx12 : ∀ t : Fin grid1.N, win1_12.index t 0 = t.val ∧ win1_12.index t 1 = 0 := by decide +kernel

theorem inj12 : ∀ t t' : Fin cfg1.N, win1_12.index t = win1_12.index t' → t = t' :=
  (by decide +kernel : ∀ t t' : Fin grid1.N, win1_12.index t = win1_12.index t' → t = t')

theorem flushed12 (t : Fin cfg1.N) :
    (dat1 V c).flushed 12 t = (cfg1.win 12).cut (grid1.coords t) ((outsAt1 V c t.val t.isLt).2.2.1) := by
  show (cfg1.win 12).cut (grid1.coords t) ((dat1 V c).after 12 t) = _
  rw [after1_12]

theorem arr12 (t : Fin cfg1.N) (r : Fin 256) (e : Fin 512) :
    (dat1 V c).arrAt 12 cfg1.N (ix2 (row t r) e) = (outsAt1 V c t.val t.isLt).2.2.1 (ix2 r e) := by
  refine Eq.trans ?_ (congrFun (((dat1 V c).read_blk_arrAt_eq_flushed 12 (fun t t' _ _ hne => (cfg1.win 12).disjoint_blk fun h => hne (inj12 t t' h))
    cfg1.N t t.isLt (flush1_12 t)).trans (flushed12 V c t)) (ix2 r e))
  rw [View.read_apply]; show (dat1 V c).arrAt 12 cfg1.N _ = (dat1 V c).arrAt 12 cfg1.N _; congr 1; funext a; apply Fin.ext
  match a with
  | ⟨0, _⟩ => show t.val * 256 + r.val = win1_12.index t 0 * 256 + 1 * r.val; rw [(idx12 t).1, one_mul]
  | ⟨1, _⟩ => show e.val = win1_12.index t 1 * 512 + 1 * e.val; rw [(idx12 t).2]; omega

theorem idx13 : ∀ t : Fin grid1.N, win1_13.index t 0 = t.val ∧ win1_13.index t 1 = 0 := by decide +kernel

theorem inj13 : ∀ t t' : Fin cfg1.N, win1_13.index t = win1_13.index t' → t = t' :=
  (by decide +kernel : ∀ t t' : Fin grid1.N, win1_13.index t = win1_13.index t' → t = t')

theorem flushed13 (t : Fin cfg1.N) :
    (dat1 V c).flushed 13 t = (cfg1.win 13).cut (grid1.coords t) ((outsAt1 V c t.val t.isLt).2.2.2.1) := by
  show (cfg1.win 13).cut (grid1.coords t) ((dat1 V c).after 13 t) = _
  rw [after1_13]

theorem arr13 (t : Fin cfg1.N) (r : Fin 256) (e : Fin 512) :
    (dat1 V c).arrAt 13 cfg1.N (ix2 (row t r) e) = (outsAt1 V c t.val t.isLt).2.2.2.1 (ix2 r e) := by
  refine Eq.trans ?_ (congrFun (((dat1 V c).read_blk_arrAt_eq_flushed 13 (fun t t' _ _ hne => (cfg1.win 13).disjoint_blk fun h => hne (inj13 t t' h))
    cfg1.N t t.isLt (flush1_13 t)).trans (flushed13 V c t)) (ix2 r e))
  rw [View.read_apply]; show (dat1 V c).arrAt 13 cfg1.N _ = (dat1 V c).arrAt 13 cfg1.N _; congr 1; funext a; apply Fin.ext
  match a with
  | ⟨0, _⟩ => show t.val * 256 + r.val = win1_13.index t 0 * 256 + 1 * r.val; rw [(idx13 t).1, one_mul]
  | ⟨1, _⟩ => show e.val = win1_13.index t 1 * 512 + 1 * e.val; rw [(idx13 t).2]; omega

theorem idx14 : ∀ t : Fin grid1.N, win1_14.index t 0 = t.val ∧ win1_14.index t 1 = 0 := by decide +kernel

theorem inj14 : ∀ t t' : Fin cfg1.N, win1_14.index t = win1_14.index t' → t = t' :=
  (by decide +kernel : ∀ t t' : Fin grid1.N, win1_14.index t = win1_14.index t' → t = t')

theorem flushed14 (t : Fin cfg1.N) :
    (dat1 V c).flushed 14 t = (cfg1.win 14).cut (grid1.coords t) ((outsAt1 V c t.val t.isLt).2.2.2.2.1) := by
  show (cfg1.win 14).cut (grid1.coords t) ((dat1 V c).after 14 t) = _
  rw [after1_14]

theorem arr14 (t : Fin cfg1.N) (r : Fin 256) (e : Fin 512) :
    (dat1 V c).arrAt 14 cfg1.N (ix2 (row t r) e) = (outsAt1 V c t.val t.isLt).2.2.2.2.1 (ix2 r e) := by
  refine Eq.trans ?_ (congrFun (((dat1 V c).read_blk_arrAt_eq_flushed 14 (fun t t' _ _ hne => (cfg1.win 14).disjoint_blk fun h => hne (inj14 t t' h))
    cfg1.N t t.isLt (flush1_14 t)).trans (flushed14 V c t)) (ix2 r e))
  rw [View.read_apply]; show (dat1 V c).arrAt 14 cfg1.N _ = (dat1 V c).arrAt 14 cfg1.N _; congr 1; funext a; apply Fin.ext
  match a with
  | ⟨0, _⟩ => show t.val * 256 + r.val = win1_14.index t 0 * 256 + 1 * r.val; rw [(idx14 t).1, one_mul]
  | ⟨1, _⟩ => show e.val = win1_14.index t 1 * 512 + 1 * e.val; rw [(idx14 t).2]; omega

/-- The last tile. -/
def tLast : Fin cfg1.N := ⟨31, by decide⟩

/-- The accumulated array. -/
def acc : Vec Ideal S8x1024 .f32 := (outsAt1 V c tLast.val tLast.isLt).2.2.2.2.2

theorem flushed15 (t : Fin cfg1.N) :
    (dat1 V c).flushed 15 t = (cfg1.win 15).cut (grid1.coords t) ((outsAt1 V c t.val t.isLt).2.2.2.2.2) := by
  show (cfg1.win 15).cut (grid1.coords t) ((dat1 V c).after 15 t) = _
  rw [after1_15]

theorem flushed15_eq (t : Fin cfg1.N) (hf : (cfg1.win 15).flush t = true) :
    (dat1 V c).flushed 15 t = ((cfg1.win 15).blk t).view.read (Elt Ideal) (acc V c) := by
  obtain rfl : t = tLast := Fin.ext (by have := (flush1_15 t).mp hf; have : t.val < 32 := t.isLt; show t.val = 31; omega)
  rw [flushed15]
  have e : (outsAt1 V c tLast.val tLast.isLt).2.2.2.2.2 = acc V c := by rw [acc]
  rw [e]
  generalize acc V c = a
  have hz' : (fun a => win1_15.index tLast a * main_v21_5.ty.shape.size a) = fun _ => 0 := funext fun a => by
    match a with
    | ⟨0, _⟩ => rfl
    | ⟨1, _⟩ => rfl
  exact (Memref.read_access_unit_zero (Elt Ideal) main_v21_5 hz' (fun a => by rw [congrFun hz' a]; simp) a).symm

theorem arr15_acc : (dat1 V c).arrAt 15 cfg1.N = acc V c :=
  (dat1 V c).arrAt_eq_of_cover 15 (acc V c) (flushed15_eq V c) fun i =>
    ⟨tLast, (flush1_15 tLast).mpr rfl, by
      show i ∈ ((View.whole main_v21_5).slice (win1_15.rect tLast)).set
      rw [View.set_slice_whole, Rect.mem_set_unit]
      intro a
      have h0 : (i 0 : Nat) < 8 := (i 0).isLt
      have h1 : (i 1 : Nat) < 1024 := (i 1).isLt
      match a with
      | ⟨0, _⟩ => show 0 * 8 ≤ (i 0 : Nat) ∧ (i 0 : Nat) < 0 * 8 + 8
                  omega
      | ⟨1, _⟩ => show 0 * 1024 ≤ (i 1 : Nat) ∧ (i 1 : Nat) < 0 * 1024 + 1024
                  omega⟩

end Cert.Ffn.R1
-- ==== Proof.Ffn.Values1.lean ====
/- One grid point's terms of `ffn_bwd` read at an index, over the extended reals. -/
module

public import proofs.«01_k».proof.Proof.Ffn.Blocks1
public import proofs.«01_k».proof.Proof.Ffn.Values0

@[expose] public section

set_option maxRecDepth 16384

noncomputable section

namespace Cert.Ffn

open Cert.Kernel2Ideal Cert.Kernel2Ideal.Gen Idealize.ShloMosaic Idealize.ShloMosaic.TcCoe
open Cert.InB (at2 ms dxRow)

variable (x0 : Vec Ideal S256x1024 .f32) (x1 : Vec Ideal S2816x1024 .bf16) (x2 x3 : Vec Ideal S256x2816 .bf16)
  (x4 : Vec Ideal S4x1024x1408 .bf16) (x5 : Vec Ideal S256x1024 .f32) (x6 : Vec Ideal S1x1024 .f32) (x7 : Vec Ideal S1024x1024 .bf16)
  (x8 : Vec Ideal S256x512 .f32) (x9 : Vec Ideal S512x512 .bf16) (r : Fin 256)

/-- The gradient of the gated row at row `r` of the blocks. -/
def daB : Row 2816 := daRow (fun d => x0 (ix2 r d)) (fun j d => x1 (ix2 j d))
/-- The gradient of the hidden row at row `r` of the blocks. -/
def hidB : Row 5632 := hidRow (daB x0 x1 r) (fun j => x2 (ix2 r j)) (fun j => x3 (ix2 r j))

theorem hid_gate (j : Fin 5632) (t : Fin 2816) (h : j.val = t.val) :
    hidB x0 x1 x2 x3 r j = dgate (daB x0 x1 r t) (x2 (ix2 r t)) (x3 (ix2 r t)) := by
  unfold hidB hidRow
  rw [dif_pos (by omega)]
  rw [show (⟨j.val, by omega⟩ : Fin 2816) = t from Fin.ext h]

theorem hid_up (j : Fin 5632) (t : Fin 2816) (h : j.val = 2816 + t.val) : hidB x0 x1 x2 x3 r j = dup (daB x0 x1 r t) (x2 (ix2 r t)) := by
  unfold hidB hidRow
  rw [dif_neg (by omega)]
  rw [show (⟨j.val - 2816, by omega⟩ : Fin 2816) = t from Fin.ext (by dsimp only; omega)]

theorem gLo_at (t : Fin 1408) : gLo x0 x1 x2 x3 (ix2 r t) = hidB x0 x1 x2 x3 r ⟨t.val, by omega⟩ := by
  rw [hid_gate x0 x1 x2 x3 r _ ⟨t.val, by omega⟩ rfl]
  pointwise [gLo, k1_pay7, k1_pay4, k1_pay2, k1_pay5, k1_pay6, View.ld]
  unfold dgate logi daB daRow
  rw [one_eq, lit_zero]

theorem uLo_at (t : Fin 1408) : uLo x0 x1 x2 (ix2 r t) = hidB x0 x1 x2 x3 r ⟨2816 + t.val, by omega⟩ := by
  rw [hid_up x0 x1 x2 x3 r _ ⟨t.val, by omega⟩ rfl]
  pointwise [uLo, k1_pay8, k1_pay4, k1_pay2, k1_pay5, k1_pay6, View.ld]
  unfold dup logi daB daRow
  rw [one_eq, lit_zero]

theorem gHi_at (t : Fin 1408) : gHi x0 x1 x2 x3 (ix2 r t) = hidB x0 x1 x2 x3 r ⟨1408 + t.val, by omega⟩ := by
  rw [hid_gate x0 x1 x2 x3 r _ ⟨1408 + t.val, by omega⟩ rfl]
  pointwise [gHi, k1_pay13, k1_pay10, k1_pay2, k1_pay11, k1_pay12, View.ld]
  unfold dgate logi daB daRow
  rw [one_eq, lit_zero]

theorem uHi_at (t : Fin 1408) : uHi x0 x1 x2 (ix2 r t) = hidB x0 x1 x2 x3 r ⟨4224 + t.val, by omega⟩ := by
  rw [hid_up x0 x1 x2 x3 r _ ⟨1408 + t.val, by omega⟩ (by dsimp only; omega)]
  pointwise [uHi, k1_pay14, k1_pay10, k1_pay2, k1_pay11, k1_pay12, View.ld]
  unfold dup logi daB daRow
  rw [one_eq, lit_zero]

/-- A put of a piece of 1408 columns, read at a column. -/
theorem put_at (b : Vec Ideal S256x5632 .bf16) (v : FVec Ideal S256x1408 .bf16) (o : Nat) (j : Fin 5632) :
    (VecWindow.put b ![0, o] ![256, 1408] v : Vec Ideal S256x5632 .bf16) (ix2 r j) =
      if h : o ≤ j.val ∧ j.val - o < 1408 then v (ix2 r ⟨j.val - o, h.2⟩) else b (ix2 r j) := by
  unfold VecWindow.put
  by_cases h : o ≤ j.val ∧ j.val - o < 1408
  · rw [dif_pos h, dif_pos (by
      intro a
      match a with
      | ⟨0, _⟩ => exact ⟨Nat.zero_le _, by show r.val < 0 + 256; omega⟩
      | ⟨1, _⟩ => exact ⟨h.1, by show j.val < o + 1408; omega⟩)]
    congr 1
    funext a
    match a with
    | ⟨0, _⟩ => rfl
    | ⟨1, _⟩ => rfl
  · rw [dif_neg h, dif_neg (by
      intro hh
      have h1 : o ≤ j.val := (hh 1).1
      have h2 : j.val < o + 1408 := (hh 1).2
      omega)]

theorem dguB_at (b : Vec Ideal S256x5632 .bf16) (j : Fin 5632) : dguB x0 x1 x2 x3 b (ix2 r j) = hidB x0 x1 x2 x3 r j := by
  unfold dguB
  rw [put_at, put_at, put_at, put_at]
  by_cases h3 : 4224 ≤ j.val ∧ j.val - 4224 < 1408
  · rw [dif_pos h3, uHi_at x0 x1 x2 x3]
    exact congrArg _ (Fin.ext (by dsimp only; omega))
  rw [dif_neg h3]
  by_cases h1 : 1408 ≤ j.val ∧ j.val - 1408 < 1408
  · rw [dif_pos h1, gHi_at x0 x1 x2 x3]
    exact congrArg _ (Fin.ext (by dsimp only; omega))
  rw [dif_neg h1]
  by_cases h2 : 2816 ≤ j.val ∧ j.val - 2816 < 1408
  · rw [dif_pos h2, uLo_at x0 x1 x2 x3]
    exact congrArg _ (Fin.ext (by dsimp only; omega))
  rw [dif_neg h2, dif_pos (by omega), gLo_at x0 x1 x2 x3]
  exact congrArg _ (Fin.ext (by dsimp only; omega))

theorem du2B_at (d : Fin 1024) : k1_pay15 (duLo x0 x1 x2 x3 x4) (gHi x0 x1 x2 x3) (uHi x0 x1 x2) (slab1 x4) (slab3 x4) (ix2 r d) =
    du2Row (hidB x0 x1 x2 x3 r) (slabW x4) d := by
  unfold du2Row
  pointwise [k1_pay15, duLo, k1_pay9, k1_pay3, gLo_at, uLo_at x0 x1 x2 x3, gHi_at, uHi_at x0 x1 x2 x3, slab0_at, slab1_at, slab2_at, slab3_at]
  rw [Fin.sum_univ_tiles 4 1408 rfl, Fin.sum_univ_four]
  rw [add_right_comm (∑ t : Fin 1408, _) _ _]
  refine congrArg₂ _ (congrArg₂ _ (congrArg₂ _ ?_ ?_) ?_) ?_ <;> refine Finset.sum_congr rfl fun t _ => ?_ <;>
  · congr 2 <;> apply Fin.ext <;> simp

theorem dh1B_at (d : Fin 1024) : k1_pay21 (k1_pay17 x5) (k1_pay18 x5) (duwB x0 x1 x2 x3 x4 x6) x0 (ix2 r d) =
    dxRow (du2Row (hidB x0 x1 x2 x3 r) (slabW x4)) (fun k => x5 (ix2 r k)) (fun k => x6 (ix2 0 k)) (x0 (ix2 r d)) d := by
  pointwise [k1_pay21, k1_pay17, k1_pay18, k1_pay16, duwB, k1_pay20, du2B_at]
  rfl

/-- The gradient of the mixers' rows at row `r` of the blocks. -/
def dmB : Row 1024 := dmixRow (fun d => dxRow (du2Row (hidB x0 x1 x2 x3 r) (slabW x4)) (fun k => x5 (ix2 r k)) (fun k => x6 (ix2 0 k)) (x0 (ix2 r d)) d)
  (fun e d => x7 (ix2 e d))

theorem dyaB_at (e : Fin 512) : k1_pay23 (k1_pay17 x5) (k1_pay18 x5) (duwB x0 x1 x2 x3 x4 x6) x0 x7 (ix2 r e) = dmB x0 x1 x2 x3 x4 x5 x6 x7 r (loCol e) := by
  pointwise [k1_pay23, k1_pay22, dh1B_at]
  rfl

theorem dybB_at (e : Fin 512) : k1_pay24 (k1_pay17 x5) (k1_pay18 x5) (duwB x0 x1 x2 x3 x4 x6) x0 x7 (ix2 r e) = dmB x0 x1 x2 x3 x4 x5 x6 x7 r (hiCol e) := by
  pointwise [k1_pay24, k1_pay22, dh1B_at]
  rfl

theorem delB_at (e : Fin 512) : k1_pay25 (k1_pay17 x5) (k1_pay18 x5) (duwB x0 x1 x2 x3 x4 x6) x0 x7 x8 x9 x9 (ix2 r e) =
    (∑ k, dmB x0 x1 x2 x3 x4 x5 x6 x7 r (loCol k) * x8 (ix2 r k) * x9 (ix2 k e)) +
    ∑ k, (dmB x0 x1 x2 x3 x4 x5 x6 x7 r (loCol k) * x8 (ix2 r k) - dmB x0 x1 x2 x3 x4 x5 x6 x7 r (loCol k) * x8 (ix2 r k)) * x9 (ix2 k e) := by
  pointwise [k1_pay25, dyaB_at]

theorem nStep_at (a : Vec Ideal S8x1024 .f32) (i : Fin 8) (c : Fin 1024) : nStep x0 x1 x2 x3 x4 x5 a (ix2 i c) = a (ix2 i c) +
    if i.val = 0 then ∑ r : Fin 256, du2Row (hidB x0 x1 x2 x3 r) (slabW x4) c * nRow (fun k => x5 (ix2 r k)) c else 0 := by
  unfold nStep VecWindow.put
  by_cases h0 : i.val = 0
  · obtain rfl : i = 0 := Fin.ext h0
    rw [if_pos h0, dif_pos (by
      intro b
      match b with
      | ⟨0, _⟩ => exact ⟨Nat.zero_le _, Nat.one_pos⟩
      | ⟨1, _⟩ => exact ⟨Nat.zero_le _, c.isLt⟩)]
    pointwise [k1_pay19, k1_pay18, k1_pay17, k1_pay16, du2B_at, View.ld]
    rfl
  · rw [if_neg h0, add_zero, dif_neg (by intro hh; exact h0 (Nat.lt_one_iff.mp (hh 0).2))]

end Cert.Ffn
-- ==== Proof.Ffn.Arrays1.lean ====
/- `ffn_bwd`'s six output arrays, at an index, in the arguments. -/
module

public import proofs.«01_k».proof.Proof.Ffn.Arrays0
public import proofs.«01_k».proof.Proof.Ffn.Tiles1
public import proofs.«01_k».proof.Proof.Ffn.Values1
public import proofs.«01_k».proof.Proof.Ffn.Real

@[expose] public section

set_option maxRecDepth 16384

noncomputable section

namespace Cert.Ffn

open Cert.Kernel2Ideal Cert.Kernel2Ideal.Gen Idealize.ShloMosaic Idealize.ShloMosaic.TcCoe Idealize.ShloMosaic.Pipeline
open Cert.InB (Arr2 Arr3 ms dxRow)

variable (m : (ℓ : Loc nD τ sig) → Buf (Elt Ideal) ℓ) (ρ : Dev nD → PrngReg) (c : Dev nD)

open R1 (row)

/-! ## What the second launch reads: the first launch's arrays and the host's -/

theorem V7_eq (b : Ref sig .tc) (h0 : b ∉ hostOps1_W) (h1 : b ∉ hostOps1_1_W) (h2 : b ∉ hostOps1_2_W) (h3 : b ∉ hostOps1_3_W)
    (h4 : b ∉ hostOps1_4_W) : V7 m ρ c b = W2 m ρ c b := by
  show W7 m ρ c _ = _
  rw [W7_of m ρ c b h4, W6_of m ρ c b h3, W5_of m ρ c b h2, W4_of m ρ c b h1, W3_of m ρ c b h0]

theorem V7_dh2 (s : Fin 8192) (d : Fin 1024) : V7 m ρ c main_v11_6 (ix2 s d) = DH2 (aP m c) (aQ m c) (aX m c) (aO m c) (aG m c) (aW m c) (aD m c) (aF m c) (aY m c) s d := by
  obtain ⟨t, r, rfl⟩ := row_surj s
  rw [V7_eq m ρ c main_v11_6 (by decide) (by decide) (by decide) (by decide) (by decide), ← dh2_at m ρ c]
  exact congrFun (W2_arr m ρ c 15) _
theorem V7_gate (s : Fin 8192) (j : Fin 2816) : V7 m ρ c main_v11_3 (ix2 s j) = GU (aP m c) (aQ m c) (aX m c) (aO m c) (aG m c) (aW m c) s (gateCol j) := by
  obtain ⟨t, r, rfl⟩ := row_surj s
  rw [V7_eq m ρ c main_v11_3 (by decide) (by decide) (by decide) (by decide) (by decide), ← gateArr_at m ρ c]
  exact congrFun (W2_arr m ρ c 12) _
theorem V7_up (s : Fin 8192) (j : Fin 2816) : V7 m ρ c main_v11_4 (ix2 s j) = GU (aP m c) (aQ m c) (aX m c) (aO m c) (aG m c) (aW m c) s (upCol j) := by
  obtain ⟨t, r, rfl⟩ := row_surj s
  rw [V7_eq m ρ c main_v11_4 (by decide) (by decide) (by decide) (by decide) (by decide), ← upArr_at m ρ c]
  exact congrFun (W2_arr m ρ c 13) _
theorem V7_h1 (s : Fin 8192) (d : Fin 1024) : V7 m ρ c main_v11_1 (ix2 s d) = H1 (aP m c) (aQ m c) (aX m c) (aO m c) s d := by
  obtain ⟨t, r, rfl⟩ := row_surj s
  rw [V7_eq m ρ c main_v11_1 (by decide) (by decide) (by decide) (by decide) (by decide), ← h1_at m ρ c]
  exact congrFun (W2_arr m ρ c 10) _
theorem V7_v7 (j : Fin 2816) (d : Fin 1024) : V7 m ρ c main_v7 (ix2 j d) = Wd (aD m c) j d := by
  rw [V7_eq m ρ c main_v7 (by decide) (by decide) (by decide) (by decide) (by decide), W2_of m ρ c main_v7 (by decide)]
  exact V1_v7 m ρ c j d
theorem V7_v3 (j : Fin 4) (k : Fin 1024) (e : Fin 1408) : V7 m ρ c main_v3 (ix3 j k e) = aW m c (ix3 0 k ⟨j.val * 1408 + e.val, by omega⟩) := by
  rw [V7_eq m ρ c main_v3 (by decide) (by decide) (by decide) (by decide) (by decide), W2_of m ρ c main_v3 (by decide)]
  exact V1_v3 m ρ c j k e
theorem V7_v5 (e d : Fin 1024) : V7 m ρ c main_v5 (ix2 e d) = Wo (aO m c) e d := by
  rw [V7_eq m ρ c main_v5 (by decide) (by decide) (by decide) (by decide) (by decide), W2_of m ρ c main_v5 (by decide)]
  exact V1_v5 m ρ c e d
theorem V7_arg0 (s : Fin 8192) (e : Fin 512) : V7 m ρ c main_arg0 (ix2 s e) = aP m c (ix2 s e) := congrFun (W7_args m ρ c main_arg0 (by simp)) _
theorem V7_arg4 (d : Fin 1024) : V7 m ρ c main_arg4 (ix2 0 d) = Gn (aG m c) d := congrFun (W7_args m ρ c main_arg4 (by simp)) _

/-! ## A tile's terms, in the arguments -/

section
variable (t : Fin cfg1.N) (r : Fin 256)

theorem q0 (d : Fin 1024) : iblk1 (V7 m ρ) c 0 t (ix2 r d) = DH2 (aP m c) (aQ m c) (aX m c) (aO m c) (aG m c) (aW m c) (aD m c) (aF m c) (aY m c) (row t r) d := (R1.blk0 _ c t r d).trans (V7_dh2 m ρ c _ d)
theorem q1 (j : Fin 2816) (d : Fin 1024) : iblk1 (V7 m ρ) c 1 t (ix2 j d) = Wd (aD m c) j d := (R1.blk1 _ c t j d).trans (V7_v7 m ρ c j d)
theorem q2 (j : Fin 2816) : iblk1 (V7 m ρ) c 2 t (ix2 r j) = GU (aP m c) (aQ m c) (aX m c) (aO m c) (aG m c) (aW m c) (row t r) (gateCol j) := (R1.blk2 _ c t r j).trans (V7_gate m ρ c _ j)
theorem q3 (j : Fin 2816) : iblk1 (V7 m ρ) c 3 t (ix2 r j) = GU (aP m c) (aQ m c) (aX m c) (aO m c) (aG m c) (aW m c) (row t r) (upCol j) := (R1.blk3 _ c t r j).trans (V7_up m ρ c _ j)
theorem q5 (d : Fin 1024) : iblk1 (V7 m ρ) c 5 t (ix2 r d) = H1 (aP m c) (aQ m c) (aX m c) (aO m c) (row t r) d := (R1.blk5 _ c t r d).trans (V7_h1 m ρ c _ d)
theorem q6 (d : Fin 1024) : iblk1 (V7 m ρ) c 6 t (ix2 0 d) = Gn (aG m c) d := (R1.blk6 _ c t 0 d).trans (V7_arg4 m ρ c d)
theorem q7 (e d : Fin 1024) : iblk1 (V7 m ρ) c 7 t (ix2 e d) = Wo (aO m c) e d := (R1.blk7 _ c t e d).trans (V7_v5 m ρ c e d)
theorem q8 (e : Fin 512) : iblk1 (V7 m ρ) c 8 t (ix2 r e) = aP m c (ix2 (row t r) e) := (R1.blk8 _ c t r e).trans (V7_arg0 m ρ c _ e)
theorem q9 (k e : Fin 512) : iblk1 (V7 m ρ) c 9 t (ix2 k e) = if k.val / 64 = e.val / 64 then (1 : EReal) else 0 := (R1.blk9 _ c t k e).trans (V7_v20 m ρ c k e)

theorem slab_s : slabW (iblk1 (V7 m ρ) c 4 t) = Wg (aW m c) := by
  funext k j
  unfold slabW
  rw [R1.blk4, V7_v3]
  unfold Wg
  refine congrArg (aW m c) (congrArg (ix3 0 k) (Fin.ext ?_))
  dsimp only
  omega

theorem hid_s : hidB (iblk1 (V7 m ρ) c 0 t) (iblk1 (V7 m ρ) c 1 t) (iblk1 (V7 m ρ) c 2 t) (iblk1 (V7 m ρ) c 3 t) r = DGU (aP m c) (aQ m c) (aX m c) (aO m c) (aG m c) (aW m c) (aD m c) (aF m c) (aY m c) (row t r) := by
  unfold hidB daB
  simp only [q0, q1, q2, q3]
  rfl

theorem du2_s (d : Fin 1024) : du2Row (hidB (iblk1 (V7 m ρ) c 0 t) (iblk1 (V7 m ρ) c 1 t) (iblk1 (V7 m ρ) c 2 t) (iblk1 (V7 m ρ) c 3 t) r) (slabW (iblk1 (V7 m ρ) c 4 t)) d = DU2 (aP m c) (aQ m c) (aX m c) (aO m c) (aG m c) (aW m c) (aD m c) (aF m c) (aY m c) (row t r) d := by
  rw [hid_s, slab_s]
  rfl

theorem dh1_s (d : Fin 1024) : k1_pay21 (k1_pay17 (iblk1 (V7 m ρ) c 5 t)) (k1_pay18 (iblk1 (V7 m ρ) c 5 t)) (duwB (iblk1 (V7 m ρ) c 0 t) (iblk1 (V7 m ρ) c 1 t) (iblk1 (V7 m ρ) c 2 t) (iblk1 (V7 m ρ) c 3 t) (iblk1 (V7 m ρ) c 4 t) (iblk1 (V7 m ρ) c 6 t)) (iblk1 (V7 m ρ) c 0 t) (ix2 r d) = DH1 (aP m c) (aQ m c) (aX m c) (aO m c) (aG m c) (aW m c) (aD m c) (aF m c) (aY m c) (row t r) d := by
  rw [dh1B_at, hid_s, slab_s]
  simp only [q0, q5, q6]
  rfl

theorem dm_s (e : Fin 1024) : dmB (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) r e = DM (aP m c) (aQ m c) (aX m c) (aO m c) (aG m c) (aW m c) (aD m c) (aF m c) (aY m c) (row t r) e := by
  unfold dmB
  rw [hid_s, slab_s]
  simp only [q0, q5, q6, q7]
  rfl

theorem n_s (a : Vec Ideal S8x1024 .f32) (i : Fin 8) (d : Fin 1024) : nStep (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) a (ix2 i d) = a (ix2 i d) +
    (if i.val = 0 then ∑ r : Fin 256, NT (aP m c) (aQ m c) (aX m c) (aO m c) (aG m c) (aW m c) (aD m c) (aF m c) (aY m c) (row t r) d else 0) := by
  rw [nStep_at]
  simp only [du2_s, q5]
  rfl
end

/-! ## The arrays -/

section
variable (t : Fin cfg1.N) (r : Fin 256)

theorem dgu_at (j : Fin 5632) : (dat1 (V7 m ρ) c).arrAt 10 cfg1.N (ix2 (row t r) j) = DGU (aP m c) (aQ m c) (aX m c) (aO m c) (aG m c) (aW m c) (aD m c) (aF m c) (aY m c) (row t r) j := by
  rw [R1.arr10, R1.whole10, dguB_at, hid_s]
theorem dh1_at (d : Fin 1024) : (dat1 (V7 m ρ) c).arrAt 11 cfg1.N (ix2 (row t r) d) = DH1 (aP m c) (aQ m c) (aX m c) (aO m c) (aG m c) (aW m c) (aD m c) (aF m c) (aY m c) (row t r) d := by
  rw [R1.arr11, R1.whole11, dh1_s]
theorem dya_at (e : Fin 512) : (dat1 (V7 m ρ) c).arrAt 12 cfg1.N (ix2 (row t r) e) = DYA (aP m c) (aQ m c) (aX m c) (aO m c) (aG m c) (aW m c) (aD m c) (aF m c) (aY m c) (row t r) e := by
  rw [R1.arr12, R1.whole12, dyaB_at, dm_s]; rfl
theorem dyb_at (e : Fin 512) : (dat1 (V7 m ρ) c).arrAt 13 cfg1.N (ix2 (row t r) e) = DYB (aP m c) (aQ m c) (aX m c) (aO m c) (aG m c) (aW m c) (aD m c) (aF m c) (aY m c) (row t r) e := by
  rw [R1.arr13, R1.whole13, dybB_at, dm_s]; rfl

/-- A sum over the columns of a product with the heads' matrix is the sum over the column's head. -/
theorem head_sum (v : Row 512) (e : Fin 512) (hv : ∀ k, Cert.Fin.IsReal (v k)) :
    (∑ k : Fin 512, v k * (if k.val / 64 = e.val / 64 then (1 : EReal) else 0)) = ∑ k : Fin 64, v ⟨e.val / 64 * 64 + k.val, by omega⟩ := by
  rw [Fin.sum_univ_tiles 8 64 rfl]
  rw [Finset.sum_eq_single (⟨e.val / 64, by omega⟩ : Fin 8)]
  · refine Finset.sum_congr rfl fun k _ => ?_
    rw [if_pos (by dsimp only; omega), mul_one]
  · intro b _ hb
    refine Finset.sum_eq_zero fun k _ => ?_
    rw [if_neg (by intro hh; apply hb; apply Fin.ext; dsimp only at hh ⊢; omega), mul_zero]
  · intro h; exact absurd (Finset.mem_univ _) h

theorem del_at (hf : FinArgs (aP m c) (aQ m c) (aX m c) (aO m c) (aG m c) (aW m c) (aD m c) (aF m c) (aY m c)) (e : Fin 512) :
    (dat1 (V7 m ρ) c).arrAt 14 cfg1.N (ix2 (row t r) e) = DEL (aP m c) (aQ m c) (aX m c) (aO m c) (aG m c) (aW m c) (aD m c) (aF m c) (aY m c) (row t r) e := by
  rw [R1.arr14, R1.whole14, delB_at]
  have hr : ∀ k : Fin 512, Cert.Fin.IsReal (DYA (aP m c) (aQ m c) (aX m c) (aO m c) (aG m c) (aW m c) (aD m c) (aF m c) (aY m c) (row t r) k * aP m c (ix2 (row t r) k)) := fun k =>
    (DM_real hf _ _).mul (hf.p _)
  simp only [dm_s, q8, q9]
  have hz : ∀ k : Fin 512, (DYA (aP m c) (aQ m c) (aX m c) (aO m c) (aG m c) (aW m c) (aD m c) (aF m c) (aY m c) (row t r) k * aP m c (ix2 (row t r) k) - DYA (aP m c) (aQ m c) (aX m c) (aO m c) (aG m c) (aW m c) (aD m c) (aF m c) (aY m c) (row t r) k * aP m c (ix2 (row t r) k)) = 0 := fun k => by
    obtain ⟨x, hx⟩ := hr k
    rw [hx, ← EReal.coe_sub, sub_self, EReal.coe_zero]
  have h2 : (∑ k : Fin 512, (DYA (aP m c) (aQ m c) (aX m c) (aO m c) (aG m c) (aW m c) (aD m c) (aF m c) (aY m c) (row t r) k * aP m c (ix2 (row t r) k) - DYA (aP m c) (aQ m c) (aX m c) (aO m c) (aG m c) (aW m c) (aD m c) (aF m c) (aY m c) (row t r) k * aP m c (ix2 (row t r) k)) *
      (if k.val / 64 = e.val / 64 then (1 : EReal) else 0)) = 0 := Finset.sum_eq_zero fun k _ => by rw [hz, zero_mul]
  refine (congrArg (_ + ·) h2).trans ?_
  rw [add_zero]
  exact head_sum (fun k => DYA (aP m c) (aQ m c) (aX m c) (aO m c) (aG m c) (aW m c) (aD m c) (aF m c) (aY m c) (row t r) k * aP m c (ix2 (row t r) k)) e hr
end

theorem outs15 (i : Fin 8) (d : Fin 1024) : ∀ (n : ℕ) (hn : n < cfg1.N), (outsAt1 (V7 m ρ) c n hn).2.2.2.2.2 (ix2 i d) =
    ∑ j : Fin (n + 1), if i.val = 0 then ∑ r : Fin 256, NT (aP m c) (aQ m c) (aX m c) (aO m c) (aG m c) (aW m c) (aD m c) (aF m c) (aY m c) (row ⟨j.val, by omega⟩ r) d else 0
  | 0, hn => by
    refine (congrFun (R1.first15 (V7 m ρ) c ⟨0, hn⟩ rfl) _).trans ?_
    rw [n_s]
    have z : k1_pay1 (F := Ideal) (ix2 i d) = 0 := by pointwise [k1_pay1]
    rw [z, zero_add, Fin.sum_univ_one]
    rfl
  | n + 1, hn => by
    have hN : cfg1.N = 32 := rfl
    refine (congrFun (R1.next15 (V7 m ρ) c ⟨n + 1, hn⟩ (by dsimp only; omega)) _).trans ?_
    rw [n_s]
    have ih := outs15 i d n (Nat.lt_of_succ_lt hn)
    refine (congrArg (· + _) ih).trans ?_
    rw [Fin.sum_univ_castSucc (n := n + 1)]
    rfl

theorem accN_at (i : Fin 8) (d : Fin 1024) : (dat1 (V7 m ρ) c).arrAt 15 cfg1.N (ix2 i d) =
    if i.val = 0 then ∑ s : Fin 8192, NT (aP m c) (aQ m c) (aX m c) (aO m c) (aG m c) (aW m c) (aD m c) (aF m c) (aY m c) s d else 0 := by
  rw [R1.arr15_acc]
  unfold R1.acc
  rw [outs15 m ρ c i d]
  show (∑ j : Fin 32, if i.val = 0 then ∑ r : Fin 256, NT (aP m c) (aQ m c) (aX m c) (aO m c) (aG m c) (aW m c) (aD m c) (aF m c) (aY m c) (row ⟨j.val, _⟩ r) d else 0) = _
  by_cases h0 : i.val = 0
  · rw [if_pos h0, Fin.sum_univ_tiles 32 256 rfl]
    refine Finset.sum_congr rfl fun j _ => ?_
    rw [if_pos h0]
    rfl
  rw [if_neg h0]
  exact Finset.sum_eq_zero fun j _ => if_neg h0

/-! ## The loss's row -/

/-- The tiles' partial losses add up to half the sum of squares over 1024. -/
theorem loss_sum (hf : FinArgs (aP m c) (aQ m c) (aX m c) (aO m c) (aG m c) (aW m c) (aD m c) (aF m c) (aY m c)) (d : Fin 1024) :
    (∑ t : Fin 32, inv2 * ∑ r : Fin 256, SQ (aP m c) (aQ m c) (aX m c) (aO m c) (aG m c) (aW m c) (aD m c) (aF m c) (aY m c) (R0.row t r) d) =
      Ideal.div (half * ∑ s : Fin 8192, SQ (aP m c) (aQ m c) (aX m c) (aO m c) (aG m c) (aW m c) (aD m c) (aF m c) (aY m c) s d) (Ideal.ofBits .f32 1149239296#32) := by
  have hs : ∀ s, Cert.Fin.IsReal (SQ (aP m c) (aQ m c) (aX m c) (aO m c) (aG m c) (aW m c) (aD m c) (aF m c) (aY m c) s d) := fun s => (ER_real hf s d).mul (ER_real hf s d)
  choose v hv using hs
  simp only [hv]
  rw [Fin.sum_univ_tiles 32 256 rfl]
  have e1 : ∀ t : Fin 32, ∀ r : Fin 256, v (R0.row t r) = v (⟨t.val * 256 + r.val, by omega⟩ : Fin 8192) := fun t r => rfl
  simp only [e1, lit_inv2, lit_half, Cert.InB.sum_coe, ← EReal.coe_mul]
  rw [Cert.InB.lit_1024, Ideal.div_coe (by norm_num), ← EReal.coe_mul]
  congr 1
  rw [← Finset.mul_sum]
  ring

end Cert.Ffn
-- ==== Proof.Ffn.RefVal.lean ====
/- The reference's stages read at an index, over the extended reals, up to the gradient of the hidden row. -/
module

public import proofs.«01_k».proof.Proof.Gen.Reference2Ideal.Read
public import proofs.«01_k».proof.Proof.Ffn.Real
public import proofs.«01_k».proof.Proof.InB.RefVal
public import Idealize.ShloMosaic.Lib.Pointwise

@[expose] public section

set_option maxRecDepth 16384

noncomputable section

namespace Cert.Ffn.Ref

open Cert.Reference2Ideal Cert.Reference2Ideal.Gen Cert.Reference2Ideal.Read Idealize.ShloMosaic Idealize.ShloMosaic.TcCoe Cert.InB Cert.Fin
open Cert.InB.Ref (sum_unit_01 sum_unit_02)

variable (p q : Arr2 8192 512) (x : Arr3 1 8192 1024) (wo : Arr3 1 1024 1024) (g : Arr2 1 1024) (wg : Arr3 1 1024 5632)
  (wd : Arr3 1 2816 1024) (f : (⟨1, ![1024]⟩ : Shape).Idx → EReal) (y : Arr3 1 8192 1024)

theorem v2_at (s : Fin 8192) (d : Fin 1024) :
    val_main_v2 (F := Ideal) p q (ix3 0 s d) = A p q s d := by
  pointwise [val_main_v2, val_main_v0, val_main_v1]
  rfl

theorem v5_at (s : Fin 8192) (d : Fin 1024) :
    val_main_v5 (F := Ideal) p q x wo (ix3 0 s d) = H1 p q x wo s d := by
  pointwise [val_main_v5, val_main_v4, val_main_v3]
  unfold H1 h1Row Wo
  simp only [v2_at]

theorem v13_at (s : Fin 8192) :
    val_main_v13 (F := Ideal) p q x wo (ix3 0 s 0) = ms (H1 p q x wo s) := by
  pointwise [val_main_v13, val_main_v11, val_main_v9, val_main_v8, val_main_v7, val_main_cst, val_main_v10, val_main_cst_0, val_main_v12, val_main_cst_1]
  simp only [v5_at]
  rfl

theorem v14_at (s : Fin 8192) :
    val_main_v14 (F := Ideal) p q x wo (ix3 0 s 0) = Ideal.rsqrt (ms (H1 p q x wo s)) := by
  pointwise [val_main_v14]
  rw [v13_at]

theorem v17_at (s : Fin 8192) :
    val_main_v17 (F := Ideal) p q x wo (ix3 0 s 0) = Ideal.ofBits .f32 3204448256#32 * Ideal.div (Ideal.rsqrt (ms (H1 p q x wo s))) (ms (H1 p q x wo s)) := by
  pointwise [val_main_v17, val_main_v16, val_main_cst_2, val_main_v15]
  rw [v13_at, v14_at]

theorem v19_at (s : Fin 8192) (d : Fin 1024) :
    val_main_v19 (F := Ideal) p q x wo (ix3 0 s d) = nRow (H1 p q x wo s) d := by
  pointwise [val_main_v19, val_main_v18]
  rw [v5_at, v14_at]
  rfl

theorem v22_at (s : Fin 8192) (d : Fin 1024) :
    val_main_v22 (F := Ideal) p q x wo g (ix3 0 s d) = U p q x wo g s d := by
  pointwise [val_main_v22, val_main_v21, val_main_v20, val_main_v6]
  rw [v19_at]
  rfl

theorem v24_at (s : Fin 8192) (j : Fin 5632) :
    val_main_v24 (F := Ideal) p q x wo g wg (ix3 0 s j) = GU p q x wo g wg s j := by
  pointwise [val_main_v24, val_main_v23]
  unfold GU guRow Wg
  simp only [v22_at]

theorem v25_at (s : Fin 8192) (j : Fin 2816) :
    val_main_v25 (F := Ideal) p q x wo g wg (ix3 0 s j) = GU p q x wo g wg s (gateCol j) := by
  pointwise [val_main_v25]
  rw [v24_at]
  rfl

theorem v26_at (s : Fin 8192) (j : Fin 2816) :
    val_main_v26 (F := Ideal) p q x wo g wg (ix3 0 s j) = GU p q x wo g wg s (upCol j) := by
  pointwise [val_main_v26]
  rw [v24_at]
  rfl

theorem v27_2_at (s : Fin 8192) (j : Fin 2816) :
    val_main_v27_2 (F := Ideal) p q x wo g wg (ix3 0 s j) = logi (GU p q x wo g wg s (gateCol j)) := by
  pointwise [val_main_v27_2, val_main_call0_v4, val_main_call0_cst_0, val_main_call0_v3, val_main_call0_v2, val_main_call0_cst, val_main_call0_v1, val_main_call0_v0]
  rw [v25_at, ← sig_ref, one_eq]

theorem v28_at (h : FinArgs p q x wo g wg wd f y) (s : Fin 8192) (j : Fin 2816) :
    val_main_v28 (F := Ideal) p q x wo g wg (ix3 0 s j) = AC p q x wo g wg s j := by
  pointwise [val_main_v28, val_main_v27_0]
  rw [v25_at, v26_at, v27_2_at, act_ref (GU_real h s _)]
  rfl

theorem v31_at (h : FinArgs p q x wo g wg wd f y) (s : Fin 8192) (d : Fin 1024) :
    val_main_v31 (F := Ideal) p q x wo g wg wd (ix3 0 s d) = H2 p q x wo g wg wd s d := by
  pointwise [val_main_v31, val_main_v30, val_main_v29]
  unfold H2 h2Row Wd
  simp only [v5_at, v28_at p q x wo g wg wd f y h]

theorem v38_at (h : FinArgs p q x wo g wg wd f y) (s : Fin 8192) :
    val_main_v38 (F := Ideal) p q x wo g wg wd (ix3 0 s 0) = ms (H2 p q x wo g wg wd s) := by
  pointwise [val_main_v38, val_main_v36, val_main_v34, val_main_v33, val_main_v32, val_main_cst_3, val_main_v35, val_main_cst_4, val_main_v37, val_main_cst_5]
  simp only [v31_at p q x wo g wg wd f y h]
  rfl

theorem v39_at (h : FinArgs p q x wo g wg wd f y) (s : Fin 8192) :
    val_main_v39 (F := Ideal) p q x wo g wg wd (ix3 0 s 0) = Ideal.rsqrt (ms (H2 p q x wo g wg wd s)) := by
  pointwise [val_main_v39]
  rw [v38_at p q x wo g wg wd f y h]

theorem v42_at (h : FinArgs p q x wo g wg wd f y) (s : Fin 8192) :
    val_main_v42 (F := Ideal) p q x wo g wg wd (ix3 0 s 0) = Ideal.ofBits .f32 3204448256#32 * Ideal.div (Ideal.rsqrt (ms (H2 p q x wo g wg wd s))) (ms (H2 p q x wo g wg wd s)) := by
  pointwise [val_main_v42, val_main_v41, val_main_cst_6, val_main_v40]
  rw [v38_at p q x wo g wg wd f y h, v39_at p q x wo g wg wd f y h]

theorem v44_at (h : FinArgs p q x wo g wg wd f y) (s : Fin 8192) (d : Fin 1024) :
    val_main_v44 (F := Ideal) p q x wo g wg wd (ix3 0 s d) = nRow (H2 p q x wo g wg wd s) d := by
  pointwise [val_main_v44, val_main_v43]
  rw [v31_at p q x wo g wg wd f y h, v39_at p q x wo g wg wd f y h]
  rfl

theorem v48_at (h : FinArgs p q x wo g wg wd f y) (s : Fin 8192) (d : Fin 1024) :
    val_main_v48 (F := Ideal) p q x wo g wg wd f y (ix3 0 s d) = ER p q x wo g wg wd f y s d := by
  pointwise [val_main_v48, val_main_v47, val_main_v46, val_main_v45]
  rw [v44_at p q x wo g wg wd f y h]
  rfl

/-- The loss's gradient at an element: half of twice the error over 1024. -/
theorem two_half (e : EReal) : Ideal.div (Ideal.ofBits .f32 1056964608#32) (Ideal.ofBits .f32 1149239296#32) * (Ideal.ofBits .f32 1073741824#32 * e) = e * inv := by
  rw [show Ideal.ofBits .f32 1056964608#32 = ((1 / 2 : ℝ) : EReal) from lit_half, lit_1024, lit_two, lit_inv, Ideal.div_coe (by norm_num), ← mul_assoc, ← EReal.coe_mul,
    ← EReal.coe_mul, mul_comm]
  congr 2
  norm_num

theorem v62_at (h : FinArgs p q x wo g wg wd f y) (s : Fin 8192) (d : Fin 1024) :
    val_main_v62 (F := Ideal) p q x wo g wg wd f y (ix3 0 s d) = ER p q x wo g wg wd f y s d * inv := by
  pointwise [val_main_v62, val_main_v61, val_main_v60, val_main_v58, val_main_v57, val_main_cst_12, val_main_cst_13, val_main_v59, val_main_cst_14, val_main_v51, val_main_v50, val_main_cst_7]
  rw [v48_at p q x wo g wg wd f y h]
  exact two_half _

theorem v83_at (h : FinArgs p q x wo g wg wd f y) (s : Fin 8192) (d : Fin 1024) :
    val_main_v83 (F := Ideal) p q x wo g wg wd f y (ix3 0 s d) = DH2 p q x wo g wg wd f y s d := by
  pointwise [val_main_v83, val_main_v81, val_main_v73, val_main_v67, val_main_v66, val_main_v45, val_main_v72, val_main_v80, val_main_v79, val_main_v78, val_main_v77, val_main_v76, val_main_v74, val_main_v71, val_main_v70, val_main_v69, val_main_cst_17, val_main_v75, val_main_cst_18, val_main_cst_19, val_main_v82]
  rw [sum_unit_02]
  pointwise []
  simp only [v31_at p q x wo g wg wd f y h, v39_at p q x wo g wg wd f y h, v42_at p q x wo g wg wd f y h, v62_at p q x wo g wg wd f y h]
  unfold DH2 dh2Row
  refine Eq.trans ?_ (dx_ref 0 (EI_real h s) (H2_real h s) (fun d => h.f (ix1 d)) d)
  unfold dxRowRef
  rw [zero_add]

theorem v84_at (h : FinArgs p q x wo g wg wd f y) (s : Fin 8192) (j : Fin 2816) :
    val_main_v84 (F := Ideal) p q x wo g wg wd f y (ix3 0 s j) = DA p q x wo g wg wd f y s j := by
  pointwise [val_main_v84, val_main_v29]
  unfold DA daRow Wd
  simp only [v83_at p q x wo g wg wd f y h]

theorem v90_at (h : FinArgs p q x wo g wg wd f y) (s : Fin 8192) (j : Fin 5632) :
    val_main_v90 (F := Ideal) p q x wo g wg wd f y (ix3 0 s j) = DGU p q x wo g wg wd f y s j := by
  pointwise [val_main_v90, val_main_v88, val_main_v85, val_main_v27_0, val_main_cst_20, val_main_v89, val_main_v87, val_main_call1_v1, val_main_v86, val_main_call1_v2, val_main_call1_v0, val_main_v27_1, val_main_call0_v7, val_main_call0_v6, val_main_call0_cst_1, val_main_cst_21]
  simp only [v25_at, v26_at, v27_2_at, v84_at p q x wo g wg wd f y h]
  unfold DGU dguRow hidRow
  by_cases h0 : j.val < 2816
  · have n : ¬ (2816 ≤ j.val ∧ j.val - 2816 < 2816) := by omega
    simp only [dif_neg n, dif_pos h0, zero_add]
    rw [← one_eq]
    exact dgate_ref (DA_real h s _) (GU_real h s _) (GU_real h s _)
  · have n : 2816 ≤ j.val ∧ j.val - 2816 < 2816 := by omega
    simp only [dif_pos n, dif_neg h0, add_zero]
    exact mul_comm _ _

theorem v91_at (h : FinArgs p q x wo g wg wd f y) (s : Fin 8192) (d : Fin 1024) :
    val_main_v91 (F := Ideal) p q x wo g wg wd f y (ix3 0 s d) = DU2 p q x wo g wg wd f y s d := by
  pointwise [val_main_v91, val_main_v23]
  unfold DU2 du2Row Wg
  simp only [v90_at p q x wo g wg wd f y h]

theorem v113_at (h : FinArgs p q x wo g wg wd f y) (s : Fin 8192) (d : Fin 1024) :
    val_main_v113 (F := Ideal) p q x wo g wg wd f y (ix3 0 s d) = DH1 p q x wo g wg wd f y s d := by
  pointwise [val_main_v113, val_main_v111, val_main_v103, val_main_v102, val_main_v96, val_main_v95, val_main_v20, val_main_v6, val_main_v101, val_main_v110, val_main_v109, val_main_v108, val_main_v107, val_main_v106, val_main_v104, val_main_v100, val_main_v99, val_main_v98, val_main_cst_24, val_main_v105, val_main_cst_25, val_main_cst_26, val_main_v112]
  rw [sum_unit_02]
  pointwise []
  simp only [v5_at, v14_at, v17_at, v83_at p q x wo g wg wd f y h, v91_at p q x wo g wg wd f y h]
  unfold DH1
  refine Eq.trans ?_ (dx_ref (DH2 p q x wo g wg wd f y s d) (DU2_real h s) (H1_real h s) (fun d => h.g (ix2 0 d)) d)
  rfl

theorem v115_at (h : FinArgs p q x wo g wg wd f y) (s : Fin 8192) (e : Fin 1024) :
    val_main_v115 (F := Ideal) p q x wo g wg wd f y (ix3 0 s e) = DM p q x wo g wg wd f y s e := by
  pointwise [val_main_v115, val_main_v3]
  unfold DM dmixRow Wo
  simp only [v113_at p q x wo g wg wd f y h]

end Cert.Ffn.Ref
-- ==== Proof.Ffn.RefRes.lean ====
/- The reference's eleven results read at an index, over the extended reals. -/
module

public import proofs.«01_k».proof.Proof.Ffn.RefVal
public import Idealize.ShloMosaic.Lib.Pointwise

@[expose] public section

set_option maxRecDepth 16384

noncomputable section

namespace Cert.Ffn.Ref

open Cert.Reference2Ideal Cert.Reference2Ideal.Gen Cert.Reference2Ideal.Read Idealize.ShloMosaic Idealize.ShloMosaic.TcCoe Cert.InB Cert.Fin
open Cert.InB.Ref (sum_unit_01 sum_unit_02)

variable (p q : Arr2 8192 512) (x : Arr3 1 8192 1024) (wo : Arr3 1 1024 1024) (g : Arr2 1 1024) (wg : Arr3 1 1024 5632)
  (wd : Arr3 1 2816 1024) (f : (⟨1, ![1024]⟩ : Shape).Idx → EReal) (y : Arr3 1 8192 1024)

/-- A sum over a leading axis of size one and the rows reads the rows' sum. -/
theorem sum_rows {m n : Nat} (h : (⟨3, ![1, m, n]⟩ : Shape).ReducesTo [0, 1] ⟨1, ![n]⟩) (v : (⟨3, ![1, m, n]⟩ : Shape).Idx → EReal) (d : Fin n) :
    Ideal.hostReduceAdd h v 0 (ix1 d) = ∑ s, v (ix3 0 s d) := by
  unfold Ideal.hostReduceAdd
  rw [zero_add]
  refine Finset.sum_nbij' (fun i => (i 1 : Fin m)) (fun s => ix3 0 s d) (fun _ _ => Finset.mem_univ _) ?_ ?_ (fun _ _ => rfl) ?_
  · intro s _
    refine Finset.mem_filter.mpr ⟨Finset.mem_univ _, funext fun b => ?_⟩
    match b with
    | ⟨0, _⟩ => rfl
  · intro i hi
    have e := congrFun (Finset.mem_filter.mp hi).2 0
    funext b
    match b with
    | ⟨0, _⟩ => exact Subsingleton.elim (α := Fin 1) _ _
    | ⟨1, _⟩ => rfl
    | ⟨2, _⟩ => exact e.symm
  · intro i hi
    have e := congrFun (Finset.mem_filter.mp hi).2 0
    refine congrArg v (funext fun b => ?_)
    match b with
    | ⟨0, _⟩ => exact Subsingleton.elim (α := Fin 1) _ _
    | ⟨1, _⟩ => rfl
    | ⟨2, _⟩ => exact e

theorem v126_at (s : Fin 8192) (d : Fin 1024) :
    val_main_v126 (F := Ideal) p q (ix2 s d) = A p q s d := by
  pointwise [val_main_v126, val_main_v125]
  rw [v2_at]

theorem v128_at (s : Fin 8192) (d : Fin 1024) :
    val_main_v128 (F := Ideal) p q x wo g (ix2 s d) = U p q x wo g s d := by
  pointwise [val_main_v128, val_main_v127]
  rw [v22_at]

theorem v130_at (h : FinArgs p q x wo g wg wd f y) (s : Fin 8192) (j : Fin 2816) :
    val_main_v130 (F := Ideal) p q x wo g wg (ix2 s j) = AC p q x wo g wg s j := by
  pointwise [val_main_v130, val_main_v129]
  rw [v28_at p q x wo g wg wd f y h]

theorem v131_at (h : FinArgs p q x wo g wg wd f y) (s : Fin 8192) (d : Fin 1024) :
    val_main_v131 (F := Ideal) p q x wo g wg wd f y (ix2 s d) = DH2 p q x wo g wg wd f y s d := by
  pointwise [val_main_v131]
  rw [v83_at p q x wo g wg wd f y h]

theorem v142_at (h : FinArgs p q x wo g wg wd f y) (s : Fin 8192) (j : Fin 5632) :
    val_main_v142 (F := Ideal) p q x wo g wg wd f y (ix2 s j) = DGU p q x wo g wg wd f y s j := by
  pointwise [val_main_v142, val_main_v141]
  rw [v90_at p q x wo g wg wd f y h]

theorem v143_at (h : FinArgs p q x wo g wg wd f y) (s : Fin 8192) (d : Fin 1024) :
    val_main_v143 (F := Ideal) p q x wo g wg wd f y (ix2 s d) = DH1 p q x wo g wg wd f y s d := by
  pointwise [val_main_v143]
  rw [v113_at p q x wo g wg wd f y h]

theorem v144_at (h : FinArgs p q x wo g wg wd f y) (s : Fin 8192) (e : Fin 512) :
    val_main_v144 (F := Ideal) p q x wo g wg wd f y (ix2 s e) = DYA p q x wo g wg wd f y s e := by
  pointwise [val_main_v144, val_main_v116]
  rw [v115_at p q x wo g wg wd f y h]
  rfl

theorem v145_at (h : FinArgs p q x wo g wg wd f y) (s : Fin 8192) (e : Fin 512) :
    val_main_v145 (F := Ideal) p q x wo g wg wd f y (ix2 s e) = DYB p q x wo g wg wd f y s e := by
  pointwise [val_main_v145, val_main_v117]
  rw [v115_at p q x wo g wg wd f y h]
  rfl

theorem v124_at (h : FinArgs p q x wo g wg wd f y) (s : Fin 8192) (e : Fin 512) :
    val_main_v124 (F := Ideal) p q x wo g wg wd f y (ix2 s e) = DEL p q x wo g wg wd f y s e := by
  pointwise [val_main_v124, val_main_v123, val_main_v122, val_main_v121, val_main_v120, val_main_v119, val_main_v116, val_main_v118, val_main_cst_27]
  simp only [v115_at p q x wo g wg wd f y h]
  rfl

theorem v147_at (h : FinArgs p q x wo g wg wd f y) (r : Fin 8) (d : Fin 1024) :
    val_main_v147 (F := Ideal) p q x wo g wg wd f y (ix2 r d) = if r.val = 0 then ∑ s, NT p q x wo g wg wd f y s d else 0 := by
  pointwise [val_main_v147, val_main_v114, val_main_v97, val_main_v94, val_main_v93, val_main_v92, val_main_cst_22, val_main_cst_23, val_main_v146, val_main_cst_32]
  by_cases h0 : r.val = 0
  · rw [dif_pos (by omega), if_pos h0, sum_unit_01]
    pointwise
    refine Finset.sum_congr rfl fun s _ => ?_
    rw [v19_at, v91_at p q x wo g wg wd f y h, mul_comm]
    rfl
  · rw [dif_neg (by omega), if_neg h0]

theorem v140_at (h : FinArgs p q x wo g wg wd f y) (r : Fin 8) (d : Fin 1024) :
    val_main_v140 (F := Ideal) p q x wo g wg wd f y (ix2 r d) =
      if r.val = 0 then ∑ s, FT p q x wo g wg wd f y s d
      else if r.val = 1 then Ideal.div (half * ∑ s, SQ p q x wo g wg wd f y s d) (Ideal.ofBits .f32 1149239296#32) else 0 := by
  pointwise [val_main_v140, val_main_v137, val_main_v68, val_main_v65, val_main_v64, val_main_v63, val_main_cst_15, val_main_cst_16, val_main_v138, val_main_v136, val_main_v134, val_main_v133, val_main_cst_29, val_main_v132, val_main_v49, val_main_cst_28, val_main_v135, val_main_cst_30, val_main_v139, val_main_cst_31]
  by_cases h0 : r.val = 0
  · rw [dif_pos (by omega), if_pos h0, sum_unit_01]
    pointwise
    refine Finset.sum_congr rfl fun s _ => ?_
    rw [v44_at p q x wo g wg wd f y h, v62_at p q x wo g wg wd f y h, mul_comm]
    rfl
  rw [dif_neg (by omega), if_neg h0]
  by_cases h1 : r.val = 1
  · rw [dif_pos (by omega), if_pos h1, sum_rows]
    refine congrArg (fun z => Ideal.div (half * z) _) (Finset.sum_congr rfl fun s _ => ?_)
    pointwise []
    rw [v48_at p q x wo g wg wd f y h]
    rfl
  · rw [dif_neg (by omega), if_neg h1]

end Cert.Ffn.Ref
-- ==== Proof.Ffn.Run.lean ====
/- The run of the two launches with every result named: the certificate of the frame, read at the result arrays too. -/
module

public import proofs.«01_k».proof.Proof.Gen.Kernel2Ideal.Frame

@[expose] public section

set_option maxRecDepth 16384

noncomputable section

namespace Cert.Ffn.Run

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## Each result array after the second launch -/

theorem W8_main_v11_0 (c : Dev nD) : W8 m ρ c main_v11_0 = (dat0 (V1 m ρ) c).arrAt 9 cfg0.N := by
  rw [W8_of m ρ c main_v11_0 (by decide), W7_of m ρ c main_v11_0 (by decide), W6_of m ρ c main_v11_0 (by decide), W5_of m ρ c main_v11_0 (by decide), W4_of m ρ c main_v11_0 (by decide), W3_of m ρ c main_v11_0 (by decide)]
  exact W2_arr m ρ c 9
theorem W8_main_v11_2 (c : Dev nD) : W8 m ρ c main_v11_2 = (dat0 (V1 m ρ) c).arrAt 11 cfg0.N := by
  rw [W8_of m ρ c main_v11_2 (by decide), W7_of m ρ c main_v11_2 (by decide), W6_of m ρ c main_v11_2 (by decide), W5_of m ρ c main_v11_2 (by decide), W4_of m ρ c main_v11_2 (by decide), W3_of m ρ c main_v11_2 (by decide)]
  exact W2_arr m ρ c 11
theorem W8_main_v11_5 (c : Dev nD) : W8 m ρ c main_v11_5 = (dat0 (V1 m ρ) c).arrAt 14 cfg0.N := by
  rw [W8_of m ρ c main_v11_5 (by decide), W7_of m ρ c main_v11_5 (by decide), W6_of m ρ c main_v11_5 (by decide), W5_of m ρ c main_v11_5 (by decide), W4_of m ρ c main_v11_5 (by decide), W3_of m ρ c main_v11_5 (by decide)]
  exact W2_arr m ρ c 14
theorem W8_main_v11_6 (c : Dev nD) : W8 m ρ c main_v11_6 = (dat0 (V1 m ρ) c).arrAt 15 cfg0.N := by
  rw [W8_of m ρ c main_v11_6 (by decide), W7_of m ρ c main_v11_6 (by decide), W6_of m ρ c main_v11_6 (by decide), W5_of m ρ c main_v11_6 (by decide), W4_of m ρ c main_v11_6 (by decide), W3_of m ρ c main_v11_6 (by decide)]
  exact W2_arr m ρ c 15
theorem W8_main_v11_7 (c : Dev nD) : W8 m ρ c main_v11_7 = (dat0 (V1 m ρ) c).arrAt 16 cfg0.N := by
  rw [W8_of m ρ c main_v11_7 (by decide), W7_of m ρ c main_v11_7 (by decide), W6_of m ρ c main_v11_7 (by decide), W5_of m ρ c main_v11_7 (by decide), W4_of m ρ c main_v11_7 (by decide), W3_of m ρ c main_v11_7 (by decide)]
  exact W2_arr m ρ c 16
theorem W8_main_v21_0 (c : Dev nD) : W8 m ρ c main_v21_0 = (dat1 (V7 m ρ) c).arrAt 10 cfg1.N := W8_arr m ρ c 10
theorem W8_main_v21_1 (c : Dev nD) : W8 m ρ c main_v21_1 = (dat1 (V7 m ρ) c).arrAt 11 cfg1.N := W8_arr m ρ c 11
theorem W8_main_v21_2 (c : Dev nD) : W8 m ρ c main_v21_2 = (dat1 (V7 m ρ) c).arrAt 12 cfg1.N := W8_arr m ρ c 12
theorem W8_main_v21_3 (c : Dev nD) : W8 m ρ c main_v21_3 = (dat1 (V7 m ρ) c).arrAt 13 cfg1.N := W8_arr m ρ c 13
theorem W8_main_v21_4 (c : Dev nD) : W8 m ρ c main_v21_4 = (dat1 (V7 m ρ) c).arrAt 14 cfg1.N := W8_arr m ρ c 14
theorem W8_main_v21_5 (c : Dev nD) : W8 m ρ c main_v21_5 = (dat1 (V7 m ρ) c).arrAt 15 cfg1.N := W8_arr m ρ c 15

set_option backward.isDefEq.respectTransparency.types false in
/-- Every weakly fair run ends with each named array of the launches at its final contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => h)

/-- Every weakly fair run ends with each result at its array's final contents and the arguments as launched. -/
theorem run : θ_run defs (onTc (τ := τ) (main (F := F))) ⟨m, fun _ => 0, ρ⟩ (fun r => ∀ c : Dev nD,
      r.2.mem ((c.tc : Thread nD τ).loc main_v11_0) = (dat0 (V1 m ρ) c).arrAt 9 cfg0.N
      ∧ r.2.mem ((c.tc : Thread nD τ).loc main_v11_2) = (dat0 (V1 m ρ) c).arrAt 11 cfg0.N
      ∧ r.2.mem ((c.tc : Thread nD τ).loc main_v11_5) = (dat0 (V1 m ρ) c).arrAt 14 cfg0.N
      ∧ r.2.mem ((c.tc : Thread nD τ).loc main_v11_6) = (dat0 (V1 m ρ) c).arrAt 15 cfg0.N
      ∧ r.2.mem ((c.tc : Thread nD τ).loc main_v11_7) = (dat0 (V1 m ρ) c).arrAt 16 cfg0.N
      ∧ r.2.mem ((c.tc : Thread nD τ).loc main_v21_0) = (dat1 (V7 m ρ) c).arrAt 10 cfg1.N
      ∧ r.2.mem ((c.tc : Thread nD τ).loc main_v21_1) = (dat1 (V7 m ρ) c).arrAt 11 cfg1.N
      ∧ r.2.mem ((c.tc : Thread nD τ).loc main_v21_2) = (dat1 (V7 m ρ) c).arrAt 12 cfg1.N
      ∧ r.2.mem ((c.tc : Thread nD τ).loc main_v21_3) = (dat1 (V7 m ρ) c).arrAt 13 cfg1.N
      ∧ r.2.mem ((c.tc : Thread nD τ).loc main_v21_4) = (dat1 (V7 m ρ) c).arrAt 14 cfg1.N
      ∧ r.2.mem ((c.tc : Thread nD τ).loc main_v21_5) = (dat1 (V7 m ρ) c).arrAt 15 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run _ _ _).mono (fun r h c =>
      ⟨(h c _ (mem_uc main_v11_0 (by decide))).trans (W8_main_v11_0 m ρ c),
       (h c _ (mem_uc main_v11_2 (by decide))).trans (W8_main_v11_2 m ρ c),
       (h c _ (mem_uc main_v11_5 (by decide))).trans (W8_main_v11_5 m ρ c),
       (h c _ (mem_uc main_v11_6 (by decide))).trans (W8_main_v11_6 m ρ c),
       (h c _ (mem_uc main_v11_7 (by decide))).trans (W8_main_v11_7 m ρ c),
       (h c _ (mem_uc main_v21_0 (by decide))).trans (W8_main_v21_0 m ρ c),
       (h c _ (mem_uc main_v21_1 (by decide))).trans (W8_main_v21_1 m ρ c),
       (h c _ (mem_uc main_v21_2 (by decide))).trans (W8_main_v21_2 m ρ c),
       (h c _ (mem_uc main_v21_3 (by decide))).trans (W8_main_v21_3 m ρ c),
       (h c _ (mem_uc main_v21_4 (by decide))).trans (W8_main_v21_4 m ρ c),
       (h c _ (mem_uc main_v21_5 (by decide))).trans (W8_main_v21_5 m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩) (run_all m ρ)

end Cert.Ffn.Run
-- ==== Proof.Ffn.Pre.lean ====
/- The precondition of the feed-forward pair, element by element. -/
module

public import proofs.«01_k».proof.Defs
public import proofs.«01_k».proof.Proof.Gen.Pre_finite_ffn
public import proofs.«01_k».proof.Proof.InB.Pre
public import proofs.«01_k».proof.Proof.Ffn.Real

@[expose] public section

noncomputable section

namespace Cert.Ffn

open Idealize.ShloMosaic Cert.Fin Cert.InB

local instance : Cert.Pre_finite_ffn.Facts := Cert.Pre_finite_ffn.Gen.facts

theorem finArgs (p q : Arr2 8192 512) (x : Arr3 1 8192 1024) (wo : Arr3 1 1024 1024) (g : Arr2 1 1024) (wg : Arr3 1 1024 5632)
    (wd : Arr3 1 2816 1024) (f : (⟨1, ![1024]⟩ : Shape).Idx → EReal) (y : Arr3 1 8192 1024)
    (h : Cert.Pre_finite_ffn.fn (F := Ideal) p q x wo g wg wd f y (fun a => a.elim0) = 1#1) : FinArgs p q x wo g wg wd f y := by
  dsimp only [Cert.Pre_finite_ffn.fn, Cert.Pre_finite_ffn.fn_part1, Cert.Pre_finite_ffn.fn_part2] at h
  obtain ⟨h, h8⟩ := andi_one h
  obtain ⟨h, h7⟩ := andi_one h
  obtain ⟨h, h6⟩ := andi_one h
  obtain ⟨h, h5⟩ := andi_one h
  obtain ⟨h, h4⟩ := andi_one h
  obtain ⟨h, h3⟩ := andi_one h
  obtain ⟨h, h2⟩ := andi_one h
  obtain ⟨h0, h1⟩ := andi_one h
  exact ⟨fun i => real_of_cmp _ (Host.reduce_andi_all _ _ _ _ _ h0 i),
    fun i => real_of_cmp _ (Host.reduce_andi_all _ _ _ _ _ h1 i),
    fun i => real_of_cmp _ (Host.reduce_andi_all _ _ _ _ _ h2 i),
    fun i => real_of_cmp _ (Host.reduce_andi_all _ _ _ _ _ h3 i),
    fun i => real_of_cmp _ (Host.reduce_andi_all _ _ _ _ _ h4 i),
    fun i => real_of_cmp _ (Host.reduce_andi_all _ _ _ _ _ h5 i),
    fun i => real_of_cmp _ (Host.reduce_andi_all _ _ _ _ _ h6 i),
    fun i => real_of_cmp _ (Host.reduce_andi_all _ _ _ _ _ h7 i),
    fun i => real_of_cmp _ (Host.reduce_andi_all _ _ _ _ _ h8 i)⟩

end Cert.Ffn
-- ==== Proof.Ffn.Claim.lean ====
/- The equation of the feed-forward pair's results, array by array, and the claims of the pair. -/
module

public import proofs.«01_k».proof.Proof.Gen.Kernel2.Frame
public import proofs.«01_k».proof.Proof.Ffn.Arrays1
public import proofs.«01_k».proof.Proof.Ffn.RefRes
public import proofs.«01_k».proof.Proof.Ffn.Run
public import proofs.«01_k».proof.Proof.Ffn.Pre
public import proofs.«01_k».proof.Proof.InB.Claim
public import Idealize.ShloMosaic.Lib.Claim

@[expose] public section

set_option maxRecDepth 16384

noncomputable section

namespace Cert.Ffn

open Cert.Kernel2Ideal Cert.Kernel2Ideal.Gen Idealize.ShloMosaic Idealize.ShloMosaic.TcCoe Idealize.SL.Sem Cert.Fin
open Cert.InB (Arr2 ext2)
open Cert.Reference2Ideal.Read

local instance : Cert.Kernel2.Facts := Cert.Kernel2.Gen.facts
local instance : Cert.Kernel2Ideal.Facts := Cert.Kernel2Ideal.Gen.facts
local instance : Cert.Reference2Ideal.Facts := Cert.Reference2Ideal.Gen.facts
local instance : Cert.Pre_finite_ffn.Facts := Cert.Pre_finite_ffn.Gen.facts

variable (m : (ℓ : Loc nD τ sig) → Buf (Elt Ideal) ℓ) (ρ : Dev nD → PrngReg) (c : Dev nD)

theorem fin_of (h : Cert.Pre_Kernel2Ideal_finite_ffn m) : FinArgs (aP m c) (aQ m c) (aX m c) (aO m c) (aG m c) (aW m c) (aD m c) (aF m c) (aY m c) := finArgs _ _ _ _ _ _ _ _ _ (congrFun (h c) _)

section
variable (h : FinArgs (aP m c) (aQ m c) (aX m c) (aO m c) (aG m c) (aW m c) (aD m c) (aF m c) (aY m c))
include h

theorem eq_v126 : (val_main_v126 (F := Ideal) (aP m c) (aQ m c) : Arr2 8192 1024) = (dat0 (V1 m ρ) c).arrAt 9 cfg0.N :=
  ext2 _ _ fun s e => by
    obtain ⟨t, r, rfl⟩ := row_surj s
    rw [Ref.v126_at _ _]; exact (mixed_at m ρ c t r e).symm

theorem eq_v128 : (val_main_v128 (F := Ideal) (aP m c) (aQ m c) (aX m c) (aO m c) (aG m c) : Arr2 8192 1024) = (dat0 (V1 m ρ) c).arrAt 11 cfg0.N :=
  ext2 _ _ fun s e => by
    obtain ⟨t, r, rfl⟩ := row_surj s
    rw [Ref.v128_at _ _ _ _ _]; exact (u2_at m ρ c t r e).symm

theorem eq_v130 : (val_main_v130 (F := Ideal) (aP m c) (aQ m c) (aX m c) (aO m c) (aG m c) (aW m c) : Arr2 8192 2816) = (dat0 (V1 m ρ) c).arrAt 14 cfg0.N :=
  ext2 _ _ fun s e => by
    obtain ⟨t, r, rfl⟩ := row_surj s
    rw [Ref.v130_at _ _ _ _ _ _ _ _ _ h]; exact (act_at m ρ c t r e).symm

theorem eq_v131 : (val_main_v131 (F := Ideal) (aP m c) (aQ m c) (aX m c) (aO m c) (aG m c) (aW m c) (aD m c) (aF m c) (aY m c) : Arr2 8192 1024) = (dat0 (V1 m ρ) c).arrAt 15 cfg0.N :=
  ext2 _ _ fun s e => by
    obtain ⟨t, r, rfl⟩ := row_surj s
    rw [Ref.v131_at _ _ _ _ _ _ _ _ _ h]; exact (dh2_at m ρ c t r e).symm

theorem eq_v142 : (val_main_v142 (F := Ideal) (aP m c) (aQ m c) (aX m c) (aO m c) (aG m c) (aW m c) (aD m c) (aF m c) (aY m c) : Arr2 8192 5632) = (dat1 (V7 m ρ) c).arrAt 10 cfg1.N :=
  ext2 _ _ fun s e => by
    obtain ⟨t, r, rfl⟩ := row_surj s
    rw [Ref.v142_at _ _ _ _ _ _ _ _ _ h]; exact (dgu_at m ρ c t r e).symm

theorem eq_v143 : (val_main_v143 (F := Ideal) (aP m c) (aQ m c) (aX m c) (aO m c) (aG m c) (aW m c) (aD m c) (aF m c) (aY m c) : Arr2 8192 1024) = (dat1 (V7 m ρ) c).arrAt 11 cfg1.N :=
  ext2 _ _ fun s e => by
    obtain ⟨t, r, rfl⟩ := row_surj s
    rw [Ref.v143_at _ _ _ _ _ _ _ _ _ h]; exact (dh1_at m ρ c t r e).symm

theorem eq_v144 : (val_main_v144 (F := Ideal) (aP m c) (aQ m c) (aX m c) (aO m c) (aG m c) (aW m c) (aD m c) (aF m c) (aY m c) : Arr2 8192 512) = (dat1 (V7 m ρ) c).arrAt 12 cfg1.N :=
  ext2 _ _ fun s e => by
    obtain ⟨t, r, rfl⟩ := row_surj s
    rw [Ref.v144_at _ _ _ _ _ _ _ _ _ h]; exact (dya_at m ρ c t r e).symm

theorem eq_v145 : (val_main_v145 (F := Ideal) (aP m c) (aQ m c) (aX m c) (aO m c) (aG m c) (aW m c) (aD m c) (aF m c) (aY m c) : Arr2 8192 512) = (dat1 (V7 m ρ) c).arrAt 13 cfg1.N :=
  ext2 _ _ fun s e => by
    obtain ⟨t, r, rfl⟩ := row_surj s
    rw [Ref.v145_at _ _ _ _ _ _ _ _ _ h]; exact (dyb_at m ρ c t r e).symm

theorem eq_v124 : (val_main_v124 (F := Ideal) (aP m c) (aQ m c) (aX m c) (aO m c) (aG m c) (aW m c) (aD m c) (aF m c) (aY m c) : Arr2 8192 512) = (dat1 (V7 m ρ) c).arrAt 14 cfg1.N :=
  ext2 _ _ fun s e => by
    obtain ⟨t, r, rfl⟩ := row_surj s
    rw [Ref.v124_at _ _ _ _ _ _ _ _ _ h]; exact (del_at m ρ c t r h e).symm

theorem eq_v147 : (val_main_v147 (F := Ideal) (aP m c) (aQ m c) (aX m c) (aO m c) (aG m c) (aW m c) (aD m c) (aF m c) (aY m c) : Arr2 8 1024) = (dat1 (V7 m ρ) c).arrAt 15 cfg1.N :=
  ext2 _ _ fun i d => by
    rw [Ref.v147_at _ _ _ _ _ _ _ _ _ h]; exact (accN_at m ρ c i d).symm

theorem eq_v140 : (val_main_v140 (F := Ideal) (aP m c) (aQ m c) (aX m c) (aO m c) (aG m c) (aW m c) (aD m c) (aF m c) (aY m c) : Arr2 8 1024) = (dat0 (V1 m ρ) c).arrAt 16 cfg0.N :=
  ext2 _ _ fun i d => by
    rw [Ref.v140_at _ _ _ _ _ _ _ _ _ h, ← loss_sum m c h d]; exact (accFin_at m ρ c i d).symm
end

set_option maxHeartbeats 4000000 in
theorem algebraic : Cert.algebraic_Kernel2Ideal_Reference2Ideal_pre_finite_ffn := by
  intro m g m' g' hpre hargs
  refine ⟨fun c => (dat0 (V1 m g) c).arrAt 9 cfg0.N, fun c => (dat0 (V1 m g) c).arrAt 11 cfg0.N, fun c => (dat0 (V1 m g) c).arrAt 14 cfg0.N, fun c => (dat0 (V1 m g) c).arrAt 15 cfg0.N, fun c => (dat0 (V1 m g) c).arrAt 16 cfg0.N, fun c => (dat1 (V7 m g) c).arrAt 10 cfg1.N, fun c => (dat1 (V7 m g) c).arrAt 11 cfg1.N, fun c => (dat1 (V7 m g) c).arrAt 12 cfg1.N, fun c => (dat1 (V7 m g) c).arrAt 13 cfg1.N, fun c => (dat1 (V7 m g) c).arrAt 14 cfg1.N, fun c => (dat1 (V7 m g) c).arrAt 15 cfg1.N, Run.run m g, ?_⟩
  refine (θ_run _ _ _).mono (fun r h c => ?_) (Cert.Reference2Ideal.Value.run m' g')
  have hf := fin_of m c hpre
  obtain ⟨h0, h1, h2, h3, h4, h5, h6, h7, h8, h9, h10, hk⟩ := h c
  obtain ⟨a0, a1, a2, a3, a4, a5, a6, a7, a8⟩ := hargs c
  refine ⟨h0.trans ?_, h1.trans ?_, h2.trans ?_, h3.trans ?_, h4.trans ?_, h5.trans ?_, h6.trans ?_, h7.trans ?_, h8.trans ?_, h9.trans ?_, h10.trans ?_, hk⟩
  · rw [val_main_v126_eq]
    refine Eq.trans ?_ (eq_v126 m g c hf)
    repeat rw [StableHlo.launchContents_devRef]
    rw [a0, a1]
  · rw [val_main_v128_eq]
    refine Eq.trans ?_ (eq_v128 m g c hf)
    repeat rw [StableHlo.launchContents_devRef]
    rw [a0, a1, a2, a3, a4]
  · rw [val_main_v130_eq]
    refine Eq.trans ?_ (eq_v130 m g c hf)
    repeat rw [StableHlo.launchContents_devRef]
    rw [a0, a1, a2, a3, a4, a5]
  · rw [val_main_v131_eq]
    refine Eq.trans ?_ (eq_v131 m g c hf)
    repeat rw [StableHlo.launchContents_devRef]
    rw [a0, a1, a2, a3, a4, a5, a6, a7, a8]
  · rw [val_main_v140_eq]
    refine Eq.trans ?_ (eq_v140 m g c hf)
    repeat rw [StableHlo.launchContents_devRef]
    rw [a0, a1, a2, a3, a4, a5, a6, a7, a8]
  · rw [val_main_v142_eq]
    refine Eq.trans ?_ (eq_v142 m g c hf)
    repeat rw [StableHlo.launchContents_devRef]
    rw [a0, a1, a2, a3, a4, a5, a6, a7, a8]
  · rw [val_main_v143_eq]
    refine Eq.trans ?_ (eq_v143 m g c hf)
    repeat rw [StableHlo.launchContents_devRef]
    rw [a0, a1, a2, a3, a4, a5, a6, a7, a8]
  · rw [val_main_v144_eq]
    refine Eq.trans ?_ (eq_v144 m g c hf)
    repeat rw [StableHlo.launchContents_devRef]
    rw [a0, a1, a2, a3, a4, a5, a6, a7, a8]
  · rw [val_main_v145_eq]
    refine Eq.trans ?_ (eq_v145 m g c hf)
    repeat rw [StableHlo.launchContents_devRef]
    rw [a0, a1, a2, a3, a4, a5, a6, a7, a8]
  · rw [val_main_v124_eq]
    refine Eq.trans ?_ (eq_v124 m g c hf)
    repeat rw [StableHlo.launchContents_devRef]
    rw [a0, a1, a2, a3, a4, a5, a6, a7, a8]
  · rw [val_main_v147_eq]
    refine Eq.trans ?_ (eq_v147 m g c hf)
    repeat rw [StableHlo.launchContents_devRef]
    rw [a0, a1, a2, a3, a4, a5, a6, a7, a8]

theorem reference_frame : Cert.quiescent_Reference2Ideal := fun m g _ =>
  (θ_run _ _ _).mono (fun r h => ⟨fun c => (h c).2.2.2.2.2.2.2.2.2.2.2, sem_eq_zero_of_no_sems (by decide) r.2⟩)
    (Cert.Reference2Ideal.Value.run m g)

theorem kernel_frame : Cert.quiescent_Kernel2 := fun m ρ _ => Cert.Kernel2.Gen.frame m ρ
theorem kernel_frame_ideal : Cert.quiescent_Kernel2Ideal := fun m ρ _ => Cert.Kernel2Ideal.Gen.frame m ρ
theorem kernel_frame_finite : Cert.quiescent_Kernel2Ideal_pre_finite_ffn := fun m ρ _ => Cert.Kernel2Ideal.Gen.frame m ρ
theorem reference_frame_finite : Cert.quiescent_Reference2Ideal_pre_finite_ffn := fun m g _ => reference_frame m g trivial
theorem preserves : Cert.preserves_Kernel2_Kernel2Ideal := trivial

end Cert.Ffn
-- ==== Proof.Small.Spec.lean ====
/- One step of the optimiser and the gradient of the forget gates' lower bound, over the extended reals. -/
module

public import proofs.«01_k».proof.Proof.Ffn.Real
public import Idealize.ShloMosaic.Lib.Pointwise

@[expose] public section

noncomputable section

namespace Cert.Small

open Idealize.ShloMosaic

/-- The first moment after a step. -/
def nm (m g : EReal) : EReal := Ideal.ofBits .f32 0x3F666666#32 * m + Ideal.ofBits .f32 0x3DCCCCCD#32 * g
/-- The second moment after a step. -/
def nv (v g : EReal) : EReal := Ideal.ofBits .f32 0x3F7FBE77#32 * v + Ideal.ofBits .f32 0x3A83126F#32 * (g * g)
/-- What the step adds to the weight. -/
def dl (w g m v : EReal) : EReal :=
  Ideal.ofBits .f32 0xBA83126F#32 * (Ideal.div (Ideal.div (nm m g) (Ideal.ofBits .f32 0x3F26BD02#32))
    (Ideal.sqrt (Ideal.div (nv v g) (Ideal.ofBits .f32 0x3C231ACC#32)) + Ideal.ofBits .f32 0x322BCC77#32)
    + Ideal.ofBits .f32 0x3C23D70A#32 * w)

/-- The lower bound: the first of the two softmax weights. -/
def lbw (a b : EReal) : EReal := Ideal.div (Ideal.exp (a - max a b)) (Ideal.exp (a - max a b) + Ideal.exp (b - max a b))
/-- Its gradient with respect to the first logit, from the gradient `s` of the bound. -/
def lbg (s a b : EReal) : EReal := s * lbw a b * (1 - lbw a b)

end Cert.Small
-- ==== Proof.Small.Values.lean ====
/- What the kernel leaves in each output block, at an index. -/
module

public import proofs.«01_k».proof.Proof.Gen.Kernel3Ideal.Frame
public import proofs.«01_k».proof.Proof.Small.Spec

@[expose] public section

set_option maxRecDepth 16384

noncomputable section

namespace Cert.Small

open Cert.Kernel3Ideal Cert.Kernel3Ideal.Gen Idealize.ShloMosaic Idealize.ShloMosaic.TcCoe Cert.InB

local instance valuesFacts : Cert.Kernel3Ideal.Facts := Cert.Kernel3Ideal.Gen.facts

section
variable (x : Arr3 8 8 1024) (w m v : Arr2 8 1024)

theorem zero2 : (![0, 0] : Fin 2 → Nat) = fun _ => 0 := funext fun a => by
  match a with
  | ⟨0, _⟩ => rfl
  | ⟨1, _⟩ => rfl

theorem whole_ld (a : Vec Ideal S8x1024 .f32) : View.ld a r0_8 = a := View.ld_unit_zero zero2 inb_S8x1024_S8x1024_0_0 a

/-- The sum over the devices. -/
abbrev S8 : FVec Ideal S8x1024 .f32 := k0_pay11 (F := Ideal) x w m v
/-- The lower bound. -/
abbrev LB : FVec Ideal S1x512 .f32 := k0_pay12 (F := Ideal) x w m v

theorem sum8_at (i : Fin 8) (j : Fin 1024) : (S8 x w m v : Arr2 8 1024) (ix2 i j) = ∑ d : Fin 8, x (ix3 d i j) := by
  pointwise [S8, k0_pay11, k0_pay3]
  simp only [Fin.sum_univ_eight]

theorem lb_at (j : Fin 512) : (LB x w m v : Arr2 1 512) (ix2 0 j) = lbw (w (ix2 4 ⟨j.val, by omega⟩)) (w (ix2 4 ⟨512 + j.val, by omega⟩)) := by
  pointwise [LB, k0_pay12, k0_pay5, k0_pay4]
  rfl

theorem nm_at (y : Arr2 8 1024) (l : Arr2 1 512) (i : Fin 8) (j : Fin 1024) :
    k0_pay7 (F := Ideal) y l m (ix2 i j) = nm (m (ix2 i j)) (k0_pay6 (F := Ideal) y l (ix2 i j)) := by
  pointwise [k0_pay7]
  rfl

theorem nv_at (y : Arr2 8 1024) (l : Arr2 1 512) (i : Fin 8) (j : Fin 1024) :
    k0_pay8 (F := Ideal) y l v (ix2 i j) = nv (v (ix2 i j)) (k0_pay6 (F := Ideal) y l (ix2 i j)) := by
  pointwise [k0_pay8]
  rfl

theorem dl_at (y : Arr2 8 1024) (l : Arr2 1 512) (i : Fin 8) (j : Fin 1024) :
    k0_pay1 (F := Ideal) (k0_pay4 w) (k0_pay9 (F := Ideal) y l m) (k0_pay10 (F := Ideal) y l v) (ix2 i j)
      = dl (w (ix2 i j)) (k0_pay6 (F := Ideal) y l (ix2 i j)) (m (ix2 i j)) (v (ix2 i j)) := by
  pointwise [k0_pay1, k0_pay4, k0_pay9, k0_pay10, k0_pay7, k0_pay8]
  rfl

theorem loss_at (y : Arr2 8 1024) : k0_pay2 (F := Ideal) y (ix2 0 0) = ∑ j : Fin 1024, y (ix2 5 j) := by
  pointwise [k0_pay2]
  simp

/-! ## The gradient, row by row -/

theorem grad_lt (y : Arr2 8 1024) (l : Arr2 1 512) (i : Fin 8) (hi : i.val < 4) (j : Fin 1024) :
    k0_pay6 (F := Ideal) y l (ix2 i j) = y (ix2 i j) := by
  pointwise [k0_pay6]
  have h4 : ∀ i : Fin 8, i.val < 4 → IntOp.cmpi CmpIPredicate.eq (BitVec.ofNat 32 i.val) 4#32 = 0#1
      ∧ IntOp.cmpi CmpIPredicate.slt (BitVec.ofNat 32 i.val) 4#32 = 1#1 := by decide +kernel
  rw [(h4 i hi).1, (h4 i hi).2]
  simp [Scalar.select]

theorem grad_first (y : Arr2 8 1024) (l : Arr2 1 512) (j : Fin 512) :
    k0_pay6 (F := Ideal) y l (ix2 4 ⟨j.val, by omega⟩) = y (ix2 4 ⟨j.val, by omega⟩) * l (ix2 0 j) * (1 - l (ix2 0 j)) := by
  pointwise [k0_pay6]

theorem grad_second (y : Arr2 8 1024) (l : Arr2 1 512) (j : Fin 512) :
    k0_pay6 (F := Ideal) y l (ix2 4 ⟨512 + j.val, by omega⟩) = 0 - y (ix2 4 ⟨j.val, by omega⟩) * l (ix2 0 j) * (1 - l (ix2 0 j)) := by
  pointwise [k0_pay6]

/-! ## The blocks -/

/-- The gradients' block. -/
abbrev GR : FVec Ideal S8x1024 .f32 := k0_pay6 (S8 x w m v) (LB x w m v)

theorem block4 : out0_4 (F := Ideal) x w m v = GR x w m v := by
  unfold out0_4; exact View.canon_unit_zero zero2 _ _

theorem block5 (i : Fin 8) (j : Fin 1024) : (out0_5 (F := Ideal) x w m v : Arr2 8 1024) (ix2 i j)
    = dl (w (ix2 i j)) ((GR x w m v : Arr2 8 1024) (ix2 i j)) (m (ix2 i j)) (v (ix2 i j)) := by
  unfold out0_5; rw [View.canon_unit_zero zero2]; rw [whole_ld, whole_ld, whole_ld]; exact dl_at w m v _ _ i j

theorem block6 (i : Fin 8) (j : Fin 1024) : (out0_6 (F := Ideal) x w m v : Arr2 8 1024) (ix2 i j)
    = nm (m (ix2 i j)) ((GR x w m v : Arr2 8 1024) (ix2 i j)) := by
  unfold out0_6; rw [View.canon_unit_zero zero2]; rw [whole_ld]; exact nm_at m _ _ i j

theorem block7 (i : Fin 8) (j : Fin 1024) : (out0_7 (F := Ideal) x w m v : Arr2 8 1024) (ix2 i j)
    = nv (v (ix2 i j)) ((GR x w m v : Arr2 8 1024) (ix2 i j)) := by
  unfold out0_7; rw [View.canon_unit_zero zero2]; rw [whole_ld]; exact nv_at v _ _ i j

theorem block8 : (out0_8 (F := Ideal) x w m v : Arr2 8 128) (ix2 0 0) = ∑ j : Fin 1024, ∑ d : Fin 8, x (ix3 d 5 j) := by
  unfold out0_8; rw [View.canon_unit_zero zero2, loss_at]; exact Finset.sum_congr rfl fun j _ => sum8_at x w m v 5 j
end

end Cert.Small
-- ==== Proof.Small.Arrays.lean ====
/- The arrays the kernel reads and leaves: its blocks are the whole arrays. -/
module

public import proofs.«01_k».proof.Proof.Small.Values

@[expose] public section

set_option maxRecDepth 16384

noncomputable section

namespace Cert.Small

open Cert.Kernel3Ideal Cert.Kernel3Ideal.Gen Idealize.ShloMosaic Idealize.ShloMosaic.TcCoe Cert.InB

local instance arraysFacts : Cert.Kernel3Ideal.Facts := Cert.Kernel3Ideal.Gen.facts

open Idealize.ShloMosaic.Pipeline (Dat)

variable (m : (ℓ : Loc nD τ sig) → Buf (Elt Ideal) ℓ) (c : Dev nD)

def tLast : Fin cfg0.N := ⟨0, by decide⟩

theorem in0 (t : Fin cfg0.N) : iblk m c 0 t = V m c main_v10 := by
  have hz : (fun a => win0_0.index t a * main_v10.ty.shape.size a) = fun _ => 0 := funext fun a => by
    match t, a with
    | ⟨0, _⟩, ⟨0, _⟩ => rfl
    | ⟨0, _⟩, ⟨1, _⟩ => rfl
    | ⟨0, _⟩, ⟨2, _⟩ => rfl
  unfold iblk
  exact Memref.read_access_unit_zero (Elt Ideal) main_v10 hz (fun a => by rw [congrFun hz a]; simp) _

theorem in1 (t : Fin cfg0.N) : iblk m c 1 t = V m c main_v16 := by
  have hz : (fun a => win0_1.index t a * main_v16.ty.shape.size a) = fun _ => 0 := funext fun a => by
    match t, a with
    | ⟨0, _⟩, ⟨0, _⟩ => rfl
    | ⟨0, _⟩, ⟨1, _⟩ => rfl
  unfold iblk
  exact Memref.read_access_unit_zero (Elt Ideal) main_v16 hz (fun a => by rw [congrFun hz a]; simp) _

theorem in2 (t : Fin cfg0.N) : iblk m c 2 t = V m c main_v22 := by
  have hz : (fun a => win0_2.index t a * main_v22.ty.shape.size a) = fun _ => 0 := funext fun a => by
    match t, a with
    | ⟨0, _⟩, ⟨0, _⟩ => rfl
    | ⟨0, _⟩, ⟨1, _⟩ => rfl
  unfold iblk
  exact Memref.read_access_unit_zero (Elt Ideal) main_v22 hz (fun a => by rw [congrFun hz a]; simp) _

theorem in3 (t : Fin cfg0.N) : iblk m c 3 t = V m c main_v28 := by
  have hz : (fun a => win0_3.index t a * main_v28.ty.shape.size a) = fun _ => 0 := funext fun a => by
    match t, a with
    | ⟨0, _⟩, ⟨0, _⟩ => rfl
    | ⟨0, _⟩, ⟨1, _⟩ => rfl
  unfold iblk
  exact Memref.read_access_unit_zero (Elt Ideal) main_v28 hz (fun a => by rw [congrFun hz a]; simp) _

theorem arr4 : (dats m 0 c).arrAt 4 cfg0.N = out0_4 (V m c main_v10) (V m c main_v16) (V m c main_v22) (V m c main_v28) :=
  (dats m 0 c).arrAt_eq_of_cover 4 (out0_4 (V m c main_v10) (V m c main_v16) (V m c main_v22) (V m c main_v28)) (fun t _ => by
    show (cfg0.win 4).cut (grid0.coords t) ((dats m 0 c).after 4 t) = _
    rw [after0_4, in0, in1, in2, in3]
    generalize out0_4 (V m c main_v10) (V m c main_v16) (V m c main_v22) (V m c main_v28) = a
    have hz : (fun a => win0_4.index t a * main_v29_0.ty.shape.size a) = fun _ => 0 := funext fun a => by
      match t, a with
      | ⟨0, _⟩, ⟨0, _⟩ => rfl
      | ⟨0, _⟩, ⟨1, _⟩ => rfl
    exact (Memref.read_access_unit_zero (Elt Ideal) main_v29_0 hz (fun a => by rw [congrFun hz a]; simp) a).symm) fun i =>
    ⟨tLast, flush0_4 _, by
      show i ∈ ((View.whole main_v29_0).slice (win0_4.rect tLast)).set
      rw [View.set_slice_whole, Rect.mem_set_unit]
      intro a
      have h0 : (i 0 : Nat) < 8 := (i 0).isLt
      have h1 : (i 1 : Nat) < 1024 := (i 1).isLt
      match a with
      | ⟨0, _⟩ => show 0 * 8 ≤ (i 0 : Nat) ∧ (i 0 : Nat) < 0 * 8 + 8
                  omega
      | ⟨1, _⟩ => show 0 * 1024 ≤ (i 1 : Nat) ∧ (i 1 : Nat) < 0 * 1024 + 1024
                  omega⟩

theorem arr5 : (dats m 0 c).arrAt 5 cfg0.N = out0_5 (V m c main_v10) (V m c main_v16) (V m c main_v22) (V m c main_v28) :=
  (dats m 0 c).arrAt_eq_of_cover 5 (out0_5 (V m c main_v10) (V m c main_v16) (V m c main_v22) (V m c main_v28)) (fun t _ => by
    show (cfg0.win 5).cut (grid0.coords t) ((dats m 0 c).after 5 t) = _
    rw [after0_5, in0, in1, in2, in3]
    generalize out0_5 (V m c main_v10) (V m c main_v16) (V m c main_v22) (V m c main_v28) = a
    have hz : (fun a => win0_5.index t a * main_v29_1.ty.shape.size a) = fun _ => 0 := funext fun a => by
      match t, a with
      | ⟨0, _⟩, ⟨0, _⟩ => rfl
      | ⟨0, _⟩, ⟨1, _⟩ => rfl
    exact (Memref.read_access_unit_zero (Elt Ideal) main_v29_1 hz (fun a => by rw [congrFun hz a]; simp) a).symm) fun i =>
    ⟨tLast, flush0_5 _, by
      show i ∈ ((View.whole main_v29_1).slice (win0_5.rect tLast)).set
      rw [View.set_slice_whole, Rect.mem_set_unit]
      intro a
      have h0 : (i 0 : Nat) < 8 := (i 0).isLt
      have h1 : (i 1 : Nat) < 1024 := (i 1).isLt
      match a with
      | ⟨0, _⟩ => show 0 * 8 ≤ (i 0 : Nat) ∧ (i 0 : Nat) < 0 * 8 + 8
                  omega
      | ⟨1, _⟩ => show 0 * 1024 ≤ (i 1 : Nat) ∧ (i 1 : Nat) < 0 * 1024 + 1024
                  omega⟩

theorem arr6 : (dats m 0 c).arrAt 6 cfg0.N = out0_6 (V m c main_v10) (V m c main_v16) (V m c main_v22) (V m c main_v28) :=
  (dats m 0 c).arrAt_eq_of_cover 6 (out0_6 (V m c main_v10) (V m c main_v16) (V m c main_v22) (V m c main_v28)) (fun t _ => by
    show (cfg0.win 6).cut (grid0.coords t) ((dats m 0 c).after 6 t) = _
    rw [after0_6, in0, in1, in2, in3]
    generalize out0_6 (V m c main_v10) (V m c main_v16) (V m c main_v22) (V m c main_v28) = a
    have hz : (fun a => win0_6.index t a * main_v29_2.ty.shape.size a) = fun _ => 0 := funext fun a => by
      match t, a with
      | ⟨0, _⟩, ⟨0, _⟩ => rfl
      | ⟨0, _⟩, ⟨1, _⟩ => rfl
    exact (Memref.read_access_unit_zero (Elt Ideal) main_v29_2 hz (fun a => by rw [congrFun hz a]; simp) a).symm) fun i =>
    ⟨tLast, flush0_6 _, by
      show i ∈ ((View.whole main_v29_2).slice (win0_6.rect tLast)).set
      rw [View.set_slice_whole, Rect.mem_set_unit]
      intro a
      have h0 : (i 0 : Nat) < 8 := (i 0).isLt
      have h1 : (i 1 : Nat) < 1024 := (i 1).isLt
      match a with
      | ⟨0, _⟩ => show 0 * 8 ≤ (i 0 : Nat) ∧ (i 0 : Nat) < 0 * 8 + 8
                  omega
      | ⟨1, _⟩ => show 0 * 1024 ≤ (i 1 : Nat) ∧ (i 1 : Nat) < 0 * 1024 + 1024
                  omega⟩

theorem arr7 : (dats m 0 c).arrAt 7 cfg0.N = out0_7 (V m c main_v10) (V m c main_v16) (V m c main_v22) (V m c main_v28) :=
  (dats m 0 c).arrAt_eq_of_cover 7 (out0_7 (V m c main_v10) (V m c main_v16) (V m c main_v22) (V m c main_v28)) (fun t _ => by
    show (cfg0.win 7).cut (grid0.coords t) ((dats m 0 c).after 7 t) = _
    rw [after0_7, in0, in1, in2, in3]
    generalize out0_7 (V m c main_v10) (V m c main_v16) (V m c main_v22) (V m c main_v28) = a
    have hz : (fun a => win0_7.index t a * main_v29_3.ty.shape.size a) = fun _ => 0 := funext fun a => by
      match t, a with
      | ⟨0, _⟩, ⟨0, _⟩ => rfl
      | ⟨0, _⟩, ⟨1, _⟩ => rfl
    exact (Memref.read_access_unit_zero (Elt Ideal) main_v29_3 hz (fun a => by rw [congrFun hz a]; simp) a).symm) fun i =>
    ⟨tLast, flush0_7 _, by
      show i ∈ ((View.whole main_v29_3).slice (win0_7.rect tLast)).set
      rw [View.set_slice_whole, Rect.mem_set_unit]
      intro a
      have h0 : (i 0 : Nat) < 8 := (i 0).isLt
      have h1 : (i 1 : Nat) < 1024 := (i 1).isLt
      match a with
      | ⟨0, _⟩ => show 0 * 8 ≤ (i 0 : Nat) ∧ (i 0 : Nat) < 0 * 8 + 8
                  omega
      | ⟨1, _⟩ => show 0 * 1024 ≤ (i 1 : Nat) ∧ (i 1 : Nat) < 0 * 1024 + 1024
                  omega⟩

theorem arr8 : (dats m 0 c).arrAt 8 cfg0.N = out0_8 (V m c main_v10) (V m c main_v16) (V m c main_v22) (V m c main_v28) :=
  (dats m 0 c).arrAt_eq_of_cover 8 (out0_8 (V m c main_v10) (V m c main_v16) (V m c main_v22) (V m c main_v28)) (fun t _ => by
    show (cfg0.win 8).cut (grid0.coords t) ((dats m 0 c).after 8 t) = _
    rw [after0_8, in0, in1, in2, in3]
    generalize out0_8 (V m c main_v10) (V m c main_v16) (V m c main_v22) (V m c main_v28) = a
    have hz : (fun a => win0_8.index t a * main_v29_4.ty.shape.size a) = fun _ => 0 := funext fun a => by
      match t, a with
      | ⟨0, _⟩, ⟨0, _⟩ => rfl
      | ⟨0, _⟩, ⟨1, _⟩ => rfl
    exact (Memref.read_access_unit_zero (Elt Ideal) main_v29_4 hz (fun a => by rw [congrFun hz a]; simp) a).symm) fun i =>
    ⟨tLast, flush0_8 _, by
      show i ∈ ((View.whole main_v29_4).slice (win0_8.rect tLast)).set
      rw [View.set_slice_whole, Rect.mem_set_unit]
      intro a
      have h0 : (i 0 : Nat) < 8 := (i 0).isLt
      have h1 : (i 1 : Nat) < 128 := (i 1).isLt
      match a with
      | ⟨0, _⟩ => show 0 * 8 ≤ (i 0 : Nat) ∧ (i 0 : Nat) < 0 * 8 + 8
                  omega
      | ⟨1, _⟩ => show 0 * 128 ≤ (i 1 : Nat) ∧ (i 1 : Nat) < 0 * 128 + 128
                  omega⟩

end Cert.Small
-- ==== Proof.Small.Host.lean ====
/- The packs the host prepares and the results it cuts out of the kernel's arrays, at an index. -/
module

public import proofs.«01_k».proof.Proof.Small.Values

@[expose] public section

set_option maxRecDepth 16384

noncomputable section

namespace Cert.Small

open Cert.Kernel3Ideal Cert.Kernel3Ideal.Gen Idealize.ShloMosaic Idealize.ShloMosaic.TcCoe Cert.InB

local instance hostFacts : Cert.Kernel3Ideal.Facts := Cert.Kernel3Ideal.Gen.facts

variable (m : (ℓ : Loc nD τ sig) → Buf (Elt Ideal) ℓ) (c : Dev nD)

theorem part0_at (d : Fin 8) (j : Fin 1024) : V m c main_v10 (ix3 d 0 j) = m ((c : Thread nD τ).loc main_arg1) (ix2 d j) := by
  show StableHlo.after hostOps0 (fun b => m (c, b)) (Proc.devRef .tc main_v10) _ = _; after_results; pointwise []; after_results_simp; try pointwise []

theorem part1_at (d : Fin 8) (j : Fin 1024) : V m c main_v10 (ix3 d 1 j) = m ((c : Thread nD τ).loc main_arg4) (ix2 d j) := by
  show StableHlo.after hostOps0 (fun b => m (c, b)) (Proc.devRef .tc main_v10) _ = _; after_results; pointwise []; after_results_simp; try pointwise []

theorem part2_at (d : Fin 8) (j : Fin 1024) : V m c main_v10 (ix3 d 2 j) = m ((c : Thread nD τ).loc main_arg5) (ix2 d j) := by
  show StableHlo.after hostOps0 (fun b => m (c, b)) (Proc.devRef .tc main_v10) _ = _; after_results; pointwise []; after_results_simp; try pointwise []

theorem part5_at (d : Fin 8) (j : Fin 1024) : V m c main_v10 (ix3 d 5 j) = m ((c : Thread nD τ).loc main_arg0) (ix2 d j) := by
  show StableHlo.after hostOps0 (fun b => m (c, b)) (Proc.devRef .tc main_v10) _ = _; after_results; pointwise []; after_results_simp; try pointwise []

theorem part3_at (d : Fin 8) (j : Fin 512) : V m c main_v10 (ix3 d 3 ⟨j.val, by omega⟩) = m ((c : Thread nD τ).loc main_arg3) (ix2 d j) := by
  show StableHlo.after hostOps0 (fun b => m (c, b)) (Proc.devRef .tc main_v10) _ = _; after_results; pointwise []; after_results_simp; try pointwise []

theorem part4_at (d : Fin 8) (j : Fin 512) : V m c main_v10 (ix3 d 4 ⟨j.val, by omega⟩) = m ((c : Thread nD τ).loc main_arg2) (ix2 d j) := by
  show StableHlo.after hostOps0 (fun b => m (c, b)) (Proc.devRef .tc main_v10) _ = _; after_results; pointwise []; after_results_simp; try pointwise []

theorem w0_at (j : Fin 1024) : V m c main_v16 (ix2 0 j) = m ((c : Thread nD τ).loc main_arg6) (ix2 0 j) := by
  show StableHlo.after hostOps0 (fun b => m (c, b)) (Proc.devRef .tc main_v16) _ = _; after_results; pointwise []; after_results_simp; try pointwise []

theorem w1_at (j : Fin 1024) : V m c main_v16 (ix2 1 j) = m ((c : Thread nD τ).loc main_arg9) (ix2 0 j) := by
  show StableHlo.after hostOps0 (fun b => m (c, b)) (Proc.devRef .tc main_v16) _ = _; after_results; pointwise []; after_results_simp; try pointwise []

theorem w2_at (j : Fin 1024) : V m c main_v16 (ix2 2 j) = m ((c : Thread nD τ).loc main_arg10) (ix1 j) := by
  show StableHlo.after hostOps0 (fun b => m (c, b)) (Proc.devRef .tc main_v16) _ = _; after_results; pointwise []; after_results_simp; try pointwise []

theorem w3_at (j : Fin 512) : V m c main_v16 (ix2 3 ⟨j.val, by omega⟩) = m ((c : Thread nD τ).loc main_arg8) (ix2 0 j) := by
  show StableHlo.after hostOps0 (fun b => m (c, b)) (Proc.devRef .tc main_v16) _ = _; after_results; pointwise []; after_results_simp; try pointwise []

theorem w4_at (j : Fin 512) : V m c main_v16 (ix2 4 ⟨j.val, by omega⟩) = m ((c : Thread nD τ).loc main_arg7) (ix2 0 j) := by
  show StableHlo.after hostOps0 (fun b => m (c, b)) (Proc.devRef .tc main_v16) _ = _; after_results; pointwise []; after_results_simp; try pointwise []
  have h : j.val < 512 := j.isLt
  exact congrArg _ (congrArg₂ ix2 (Fin.ext (by show j.val / 512 = 0; omega)) (Fin.ext (by show j.val % 512 = j.val; omega)))

theorem w4'_at (j : Fin 512) : V m c main_v16 (ix2 4 ⟨512 + j.val, by omega⟩) = m ((c : Thread nD τ).loc main_arg7) (ix2 1 j) := by
  show StableHlo.after hostOps0 (fun b => m (c, b)) (Proc.devRef .tc main_v16) _ = _; after_results; pointwise []; after_results_simp; try pointwise []
  have h : j.val < 512 := j.isLt
  exact congrArg _ (congrArg₂ ix2 (Fin.ext (by show (512 + j.val) / 512 = 1; omega)) (Fin.ext (by rfl)))

theorem m0_at (j : Fin 1024) : V m c main_v22 (ix2 0 j) = m ((c : Thread nD τ).loc main_arg11) (ix2 0 j) := by
  show StableHlo.after hostOps0 (fun b => m (c, b)) (Proc.devRef .tc main_v22) _ = _; after_results; pointwise []; after_results_simp; try pointwise []

theorem m1_at (j : Fin 1024) : V m c main_v22 (ix2 1 j) = m ((c : Thread nD τ).loc main_arg14) (ix2 0 j) := by
  show StableHlo.after hostOps0 (fun b => m (c, b)) (Proc.devRef .tc main_v22) _ = _; after_results; pointwise []; after_results_simp; try pointwise []

theorem m2_at (j : Fin 1024) : V m c main_v22 (ix2 2 j) = m ((c : Thread nD τ).loc main_arg15) (ix1 j) := by
  show StableHlo.after hostOps0 (fun b => m (c, b)) (Proc.devRef .tc main_v22) _ = _; after_results; pointwise []; after_results_simp; try pointwise []

theorem m3_at (j : Fin 512) : V m c main_v22 (ix2 3 ⟨j.val, by omega⟩) = m ((c : Thread nD τ).loc main_arg13) (ix2 0 j) := by
  show StableHlo.after hostOps0 (fun b => m (c, b)) (Proc.devRef .tc main_v22) _ = _; after_results; pointwise []; after_results_simp; try pointwise []

theorem m4_at (j : Fin 512) : V m c main_v22 (ix2 4 ⟨j.val, by omega⟩) = m ((c : Thread nD τ).loc main_arg12) (ix2 0 j) := by
  show StableHlo.after hostOps0 (fun b => m (c, b)) (Proc.devRef .tc main_v22) _ = _; after_results; pointwise []; after_results_simp; try pointwise []
  have h : j.val < 512 := j.isLt
  exact congrArg _ (congrArg₂ ix2 (Fin.ext (by show j.val / 512 = 0; omega)) (Fin.ext (by show j.val % 512 = j.val; omega)))

theorem m4'_at (j : Fin 512) : V m c main_v22 (ix2 4 ⟨512 + j.val, by omega⟩) = m ((c : Thread nD τ).loc main_arg12) (ix2 1 j) := by
  show StableHlo.after hostOps0 (fun b => m (c, b)) (Proc.devRef .tc main_v22) _ = _; after_results; pointwise []; after_results_simp; try pointwise []
  have h : j.val < 512 := j.isLt
  exact congrArg _ (congrArg₂ ix2 (Fin.ext (by show (512 + j.val) / 512 = 1; omega)) (Fin.ext (by rfl)))

theorem v0_at (j : Fin 1024) : V m c main_v28 (ix2 0 j) = m ((c : Thread nD τ).loc main_arg16) (ix2 0 j) := by
  show StableHlo.after hostOps0 (fun b => m (c, b)) (Proc.devRef .tc main_v28) _ = _; after_results; pointwise []; after_results_simp; try pointwise []

theorem v1_at (j : Fin 1024) : V m c main_v28 (ix2 1 j) = m ((c : Thread nD τ).loc main_arg19) (ix2 0 j) := by
  show StableHlo.after hostOps0 (fun b => m (c, b)) (Proc.devRef .tc main_v28) _ = _; after_results; pointwise []; after_results_simp; try pointwise []

theorem v2_at (j : Fin 1024) : V m c main_v28 (ix2 2 j) = m ((c : Thread nD τ).loc main_arg20) (ix1 j) := by
  show StableHlo.after hostOps0 (fun b => m (c, b)) (Proc.devRef .tc main_v28) _ = _; after_results; pointwise []; after_results_simp; try pointwise []

theorem v3_at (j : Fin 512) : V m c main_v28 (ix2 3 ⟨j.val, by omega⟩) = m ((c : Thread nD τ).loc main_arg18) (ix2 0 j) := by
  show StableHlo.after hostOps0 (fun b => m (c, b)) (Proc.devRef .tc main_v28) _ = _; after_results; pointwise []; after_results_simp; try pointwise []

theorem v4_at (j : Fin 512) : V m c main_v28 (ix2 4 ⟨j.val, by omega⟩) = m ((c : Thread nD τ).loc main_arg17) (ix2 0 j) := by
  show StableHlo.after hostOps0 (fun b => m (c, b)) (Proc.devRef .tc main_v28) _ = _; after_results; pointwise []; after_results_simp; try pointwise []
  have h : j.val < 512 := j.isLt
  exact congrArg _ (congrArg₂ ix2 (Fin.ext (by show j.val / 512 = 0; omega)) (Fin.ext (by show j.val % 512 = j.val; omega)))

theorem v4'_at (j : Fin 512) : V m c main_v28 (ix2 4 ⟨512 + j.val, by omega⟩) = m ((c : Thread nD τ).loc main_arg17) (ix2 1 j) := by
  show StableHlo.after hostOps0 (fun b => m (c, b)) (Proc.devRef .tc main_v28) _ = _; after_results; pointwise []; after_results_simp; try pointwise []
  have h : j.val < 512 := j.isLt
  exact congrArg _ (congrArg₂ ix2 (Fin.ext (by show (512 + j.val) / 512 = 1; omega)) (Fin.ext (by rfl)))

section
variable (W : Valuation τ sig (Elt Ideal))

theorem loss_cut (i : (⟨0, ![]⟩ : Shape).Idx) : StableHlo.after hostOps1 W (Proc.devRef .tc main_v31) i = W (Proc.devRef .tc main_v29_4) (ix2 0 0) := by
  after_results; pointwise []

theorem cut0_0 (j : Fin 1024) : StableHlo.after hostOps1 W (Proc.devRef .tc main_v32) (ix2 0 j) = W (Proc.devRef .tc main_v29_0) (ix2 0 j) := by
  after_results; pointwise []

theorem cut0_1 (j : Fin 512) : StableHlo.after hostOps1 W (Proc.devRef .tc main_v35) (ix2 0 j) = W (Proc.devRef .tc main_v29_0) (ix2 4 ⟨j.val, by omega⟩) := by
  after_results; pointwise []

theorem cut0_2 (j : Fin 512) : StableHlo.after hostOps1 W (Proc.devRef .tc main_v35) (ix2 1 j) = W (Proc.devRef .tc main_v29_0) (ix2 4 ⟨512 + j.val, by omega⟩) := by
  after_results; pointwise []

theorem cut0_3 (j : Fin 512) : StableHlo.after hostOps1 W (Proc.devRef .tc main_v36) (ix2 0 j) = W (Proc.devRef .tc main_v29_0) (ix2 3 ⟨j.val, by omega⟩) := by
  after_results; pointwise []

theorem cut0_4 (j : Fin 1024) : StableHlo.after hostOps1 W (Proc.devRef .tc main_v37) (ix2 0 j) = W (Proc.devRef .tc main_v29_0) (ix2 1 j) := by
  after_results; pointwise []

theorem cut0_5 (j : Fin 1024) : StableHlo.after hostOps1 W (Proc.devRef .tc main_v39) (ix1 j) = W (Proc.devRef .tc main_v29_0) (ix2 2 j) := by
  after_results; pointwise []

theorem cut1_0 (j : Fin 1024) : StableHlo.after hostOps1 W (Proc.devRef .tc main_v40) (ix2 0 j) = W (Proc.devRef .tc main_v29_1) (ix2 0 j) := by
  after_results; pointwise []

theorem cut1_1 (j : Fin 512) : StableHlo.after hostOps1 W (Proc.devRef .tc main_v43) (ix2 0 j) = W (Proc.devRef .tc main_v29_1) (ix2 4 ⟨j.val, by omega⟩) := by
  after_results; pointwise []

theorem cut1_2 (j : Fin 512) : StableHlo.after hostOps1 W (Proc.devRef .tc main_v43) (ix2 1 j) = W (Proc.devRef .tc main_v29_1) (ix2 4 ⟨512 + j.val, by omega⟩) := by
  after_results; pointwise []

theorem cut1_3 (j : Fin 512) : StableHlo.after hostOps1 W (Proc.devRef .tc main_v44) (ix2 0 j) = W (Proc.devRef .tc main_v29_1) (ix2 3 ⟨j.val, by omega⟩) := by
  after_results; pointwise []

theorem cut1_4 (j : Fin 1024) : StableHlo.after hostOps1 W (Proc.devRef .tc main_v45) (ix2 0 j) = W (Proc.devRef .tc main_v29_1) (ix2 1 j) := by
  after_results; pointwise []

theorem cut1_5 (j : Fin 1024) : StableHlo.after hostOps1 W (Proc.devRef .tc main_v47) (ix1 j) = W (Proc.devRef .tc main_v29_1) (ix2 2 j) := by
  after_results; pointwise []

theorem cut2_0 (j : Fin 1024) : StableHlo.after hostOps1 W (Proc.devRef .tc main_v48) (ix2 0 j) = W (Proc.devRef .tc main_v29_2) (ix2 0 j) := by
  after_results; pointwise []

theorem cut2_1 (j : Fin 512) : StableHlo.after hostOps1 W (Proc.devRef .tc main_v51) (ix2 0 j) = W (Proc.devRef .tc main_v29_2) (ix2 4 ⟨j.val, by omega⟩) := by
  after_results; pointwise []

theorem cut2_2 (j : Fin 512) : StableHlo.after hostOps1 W (Proc.devRef .tc main_v51) (ix2 1 j) = W (Proc.devRef .tc main_v29_2) (ix2 4 ⟨512 + j.val, by omega⟩) := by
  after_results; pointwise []

theorem cut2_3 (j : Fin 512) : StableHlo.after hostOps1 W (Proc.devRef .tc main_v52) (ix2 0 j) = W (Proc.devRef .tc main_v29_2) (ix2 3 ⟨j.val, by omega⟩) := by
  after_results; pointwise []

theorem cut2_4 (j : Fin 1024) : StableHlo.after hostOps1 W (Proc.devRef .tc main_v53) (ix2 0 j) = W (Proc.devRef .tc main_v29_2) (ix2 1 j) := by
  after_results; pointwise []

theorem cut2_5 (j : Fin 1024) : StableHlo.after hostOps1 W (Proc.devRef .tc main_v55) (ix1 j) = W (Proc.devRef .tc main_v29_2) (ix2 2 j) := by
  after_results; pointwise []

theorem cut3_0 (j : Fin 1024) : StableHlo.after hostOps1 W (Proc.devRef .tc main_v56) (ix2 0 j) = W (Proc.devRef .tc main_v29_3) (ix2 0 j) := by
  after_results; pointwise []

theorem cut3_1 (j : Fin 512) : StableHlo.after hostOps1 W (Proc.devRef .tc main_v59) (ix2 0 j) = W (Proc.devRef .tc main_v29_3) (ix2 4 ⟨j.val, by omega⟩) := by
  after_results; pointwise []

theorem cut3_2 (j : Fin 512) : StableHlo.after hostOps1 W (Proc.devRef .tc main_v59) (ix2 1 j) = W (Proc.devRef .tc main_v29_3) (ix2 4 ⟨512 + j.val, by omega⟩) := by
  after_results; pointwise []

theorem cut3_3 (j : Fin 512) : StableHlo.after hostOps1 W (Proc.devRef .tc main_v60) (ix2 0 j) = W (Proc.devRef .tc main_v29_3) (ix2 3 ⟨j.val, by omega⟩) := by
  after_results; pointwise []

theorem cut3_4 (j : Fin 1024) : StableHlo.after hostOps1 W (Proc.devRef .tc main_v61) (ix2 0 j) = W (Proc.devRef .tc main_v29_3) (ix2 1 j) := by
  after_results; pointwise []

theorem cut3_5 (j : Fin 1024) : StableHlo.after hostOps1 W (Proc.devRef .tc main_v63) (ix1 j) = W (Proc.devRef .tc main_v29_3) (ix2 2 j) := by
  after_results; pointwise []

end

end Cert.Small
-- ==== Proof.Small.Ref.lean ====
/- The reference's values at an index. -/
module

public import proofs.«01_k».proof.Proof.Gen.Reference3Ideal.Read
public import proofs.«01_k».proof.Proof.Small.Spec
public import proofs.«01_k».proof.Proof.InB.RefVal

@[expose] public section

set_option maxRecDepth 16384

noncomputable section

namespace Cert.Small.Ref

open Cert.Reference3Ideal Cert.Reference3Ideal.Gen Cert.Reference3Ideal.Read Idealize.ShloMosaic Idealize.ShloMosaic.TcCoe Cert.InB Cert.Fin

abbrev Arr1 (n : Nat) := (⟨1, ![n]⟩ : Shape).Idx → EReal

theorem loss_at (x : Arr2 8 1024) (i : (⟨0, ![]⟩ : Shape).Idx) : val_main_v174 (F := Ideal) x i = ∑ d : Fin 8, ∑ j : Fin 1024, x (ix2 d j) := by
  rw [show i = fun a => a.elim0 from funext fun a => a.elim0]
  pointwise [val_main_v174, val_main_cst_62]

theorem g_n1 (x : Arr2 8 1024) (j : Fin 1024) : (val_main_v48 (F := Ideal) x : Arr2 1 1024) (ix2 0 j) = ∑ d : Fin 8, x (ix2 d j) := by
  pointwise [val_main_v48, val_main_v47, val_main_cst_13]

theorem g_hn (x : Arr2 8 512) (j : Fin 512) : (val_main_v50 (F := Ideal) x : Arr2 1 512) (ix2 0 j) = ∑ d : Fin 8, x (ix2 d j) := by
  pointwise [val_main_v50, val_main_v49, val_main_cst_14]

theorem g_n2 (x : Arr2 8 1024) (j : Fin 1024) : (val_main_v52 (F := Ideal) x : Arr2 1 1024) (ix2 0 j) = ∑ d : Fin 8, x (ix2 d j) := by
  pointwise [val_main_v52, val_main_v51, val_main_cst_15]

theorem g_fn (x : Arr2 8 1024) (j : Fin 1024) : (val_main_v53 (F := Ideal) x : Arr1 1024) (ix1 j) = ∑ d : Fin 8, x (ix2 d j) := by
  pointwise [val_main_v53, val_main_cst_16]

/-- The gradient of the bound, summed over the devices. -/
abbrev SL (x : Arr2 8 512) (j : Fin 512) : EReal := ∑ d : Fin 8, x (ix2 d j)

theorem v33_0 (x : Arr2 8 512) (j : Fin 512) : val_main_v33 (F := Ideal) x (ix2 0 j) = SL x j := by
  pointwise [val_main_v33, val_main_v32, val_main_v31, val_main_cst_9, val_main_cst_10]
theorem v33_1 (x : Arr2 8 512) (j : Fin 512) : val_main_v33 (F := Ideal) x (ix2 1 j) = 0 := by
  pointwise [val_main_v33, val_main_v32, val_main_v31, val_main_cst_9, val_main_cst_10]

theorem lz : val_main_call1_call0_v0 (F := Ideal) = fun _ => 0 := by
  funext i
  rw [show i = fun a => a.elim0 from funext fun a => a.elim0]
  pointwise [val_main_call1_call0_v0, val_main_call1_call0_cst]

/-- The window of two rows. -/
abbrev W2 : Shape := ⟨2, ![2, 1]⟩

theorem w2_list : List.finRange W2.numel = [⟨0, by decide⟩, ⟨1, by decide⟩] := by decide
theorem w2_at (n : Fin W2.numel) (a : Fin 2) : (W2.rowMajor.symm n a).val = if a = 0 then n.val else 0 := by
  revert n a; decide

theorem window (y : Arr2 2 512) (i : Fin 2) (j : Fin 512) :
    Ideal.hostReduceWindowAdd ![2, 1] ![1, 1] ![0, 0] ![1, 0] reduceWindows_S2x512_S2x512_w2s1p0_1_w1s1p0_0 y 0 (ix2 i j)
      = y (ix2 i j) + (if h : i.val + 1 < 2 then y (ix2 ⟨i.val + 1, h⟩ j) else 0) := by
  unfold Ideal.hostReduceWindowAdd Host.reduceWindow
  dsimp only
  rw [w2_list]
  simp only [List.foldl, zero_add]
  have n00 : (W2.rowMajor.symm ⟨0, by decide⟩ 0).val = 0 := w2_at _ _
  have n01 : (W2.rowMajor.symm ⟨0, by decide⟩ 1).val = 0 := w2_at _ _
  have n10 : (W2.rowMajor.symm ⟨1, by decide⟩ 0).val = 1 := w2_at _ _
  have n11 : (W2.rowMajor.symm ⟨1, by decide⟩ 1).val = 0 := w2_at _ _
  have hi : i.val < 2 := i.isLt
  have hj : j.val < 512 := j.isLt
  congr 1
  · rw [dif_pos]
    · refine congrArg y (funext fun a => Fin.ext ?_)
      match a with
      | ⟨0, _⟩ => show i.val * 1 + (W2.rowMajor.symm ⟨0, by decide⟩ 0).val - 0 = i.val
                  omega
      | ⟨1, _⟩ => show j.val * 1 + (W2.rowMajor.symm ⟨0, by decide⟩ 1).val - 0 = j.val
                  omega
    · intro a
      match a with
      | ⟨0, _⟩ => show 0 ≤ i.val * 1 + (W2.rowMajor.symm ⟨0, by decide⟩ 0).val ∧ i.val * 1 + (W2.rowMajor.symm ⟨0, by decide⟩ 0).val - 0 < 2
                  omega
      | ⟨1, _⟩ => show 0 ≤ j.val * 1 + (W2.rowMajor.symm ⟨0, by decide⟩ 1).val ∧ j.val * 1 + (W2.rowMajor.symm ⟨0, by decide⟩ 1).val - 0 < 512
                  omega
  · by_cases h : i.val + 1 < 2
    · rw [dif_pos h, dif_pos]
      · refine congrArg y (funext fun a => Fin.ext ?_)
        match a with
        | ⟨0, _⟩ => show i.val * 1 + (W2.rowMajor.symm ⟨1, by decide⟩ 0).val - 0 = i.val + 1
                    omega
        | ⟨1, _⟩ => show j.val * 1 + (W2.rowMajor.symm ⟨1, by decide⟩ 1).val - 0 = j.val
                    omega
      · intro a
        match a with
        | ⟨0, _⟩ => show 0 ≤ i.val * 1 + (W2.rowMajor.symm ⟨1, by decide⟩ 0).val ∧ i.val * 1 + (W2.rowMajor.symm ⟨1, by decide⟩ 0).val - 0 < 2
                    omega
        | ⟨1, _⟩ => show 0 ≤ j.val * 1 + (W2.rowMajor.symm ⟨1, by decide⟩ 1).val ∧ j.val * 1 + (W2.rowMajor.symm ⟨1, by decide⟩ 1).val - 0 < 512
                    omega
    · rw [dif_neg h, dif_neg]
      intro hc
      have := (hc 0).2
      change i.val * 1 + (W2.rowMajor.symm ⟨1, by decide⟩ 0).val - 0 < 2 at this
      omega

theorem v34_0 (x : Arr2 8 512) (j : Fin 512) : val_main_v34 (F := Ideal) x (ix2 0 j) = SL x j := by
  rw [val_main_v34, lz, Host.reduceWindowAdd, Ideal.hostReduceWindowAdd_def, window]
  rw [dif_pos (by decide), v33_0]
  refine (congrArg _ (v33_1 x j)).trans (add_zero _)
theorem v34_1 (x : Arr2 8 512) (j : Fin 512) : val_main_v34 (F := Ideal) x (ix2 1 j) = 0 := by
  rw [val_main_v34, lz, Host.reduceWindowAdd, Ideal.hostReduceWindowAdd_def, window]
  rw [dif_neg (by decide), v33_1, add_zero]
/-- The two exponentials' common form and their sum. -/
abbrev mx (l : Arr2 2 512) (j : Fin 512) : EReal := max (l (ix2 0 j)) (l (ix2 1 j))
abbrev ex (l : Arr2 2 512) (i : Fin 2) (j : Fin 512) : EReal := Ideal.exp (l (ix2 i j) - mx l j)
abbrev tot (l : Arr2 2 512) (j : Fin 512) : EReal := ex l 0 j + ex l 1 j

theorem v7_at (l : Arr2 2 512) (j : Fin 512) : val_main_v7 (F := Ideal) l (ix1 j) = mx l j := by
  pointwise [val_main_v7, val_main_v6, val_main_cst_1, val_main_v0, val_main_cst]
  have hb : Ideal.ofBits .f32 4286578688#32 = ⊥ := by simp [Ideal.ofBits, Ideal.ieee]
  rw [hb]
  simp [Fin.univ_succ]

theorem v20_at (l : Arr2 2 512) (i : Fin 2) (j : Fin 512) : val_main_v20 (F := Ideal) l (ix2 i j) = ex l i j := by
  pointwise [val_main_v20, val_main_v19, val_main_v18, val_main_v17]
  rw [v7_at]

theorem v22_at (l : Arr2 2 512) (j : Fin 512) : val_main_v22 (F := Ideal) l (ix2 0 j) = tot l j := by
  pointwise [val_main_v22, val_main_v21, val_main_cst_7]
  simp only [v20_at, Fin.sum_univ_two]

theorem v46_at (x : Arr2 8 512) (l : Arr2 2 512) (i : Fin 2) (j : Fin 512) : val_main_v46 (F := Ideal) x l (ix2 i j)
    = (Ideal.div (val_main_v34 (F := Ideal) x (ix2 i j)) (tot l j) + -(SL x j * Ideal.div 1 (tot l j * tot l j) * ex l 0 j)) * ex l i j := by
  pointwise [val_main_v46, val_main_v45, val_main_v42, val_main_v41, val_main_v44, val_main_v43, val_main_v40, val_main_v39, val_main_v38, val_main_v37, val_main_v36, val_main_v35, val_main_v27, val_main_v26, val_main_cst_8, val_main_v25, val_main_cst_11, val_main_cst_12]
  simp only [v20_at, v22_at, v34_0, v34_1, Fin.sum_univ_two, Fin.sum_univ_one, zero_mul, add_zero, Finset.univ_unique, Finset.sum_singleton]

/-- For real arguments the reference's gradient of the two logits is the one the kernel writes. -/
theorem bound (s a b : ℝ) :
    (Ideal.div (s : EReal) (Ideal.exp (a - max (a : EReal) b) + Ideal.exp (b - max (a : EReal) b))
        + -(s * Ideal.div 1 ((Ideal.exp (a - max (a : EReal) b) + Ideal.exp (b - max (a : EReal) b)) * (Ideal.exp (a - max (a : EReal) b) + Ideal.exp (b - max (a : EReal) b))) * Ideal.exp (a - max (a : EReal) b)))
          * Ideal.exp (a - max (a : EReal) b) = lbg s a b
    ∧ (Ideal.div 0 (Ideal.exp (a - max (a : EReal) b) + Ideal.exp (b - max (a : EReal) b))
        + -(s * Ideal.div 1 ((Ideal.exp (a - max (a : EReal) b) + Ideal.exp (b - max (a : EReal) b)) * (Ideal.exp (a - max (a : EReal) b) + Ideal.exp (b - max (a : EReal) b))) * Ideal.exp (a - max (a : EReal) b)))
          * Ideal.exp (b - max (a : EReal) b) = 0 - lbg s a b := by
  unfold lbg lbw
  rw [show (max (a : EReal) b) = ((max a b : ℝ) : EReal) from (Monotone.map_max EReal.coe_strictMono.monotone).symm]
  rw [← EReal.coe_sub, ← EReal.coe_sub, Ideal.exp_coe, Ideal.exp_coe]
  have h0 := Real.exp_pos (a - max a b)
  have h1 := Real.exp_pos (b - max a b)
  generalize Real.exp (a - max a b) = e at *
  generalize Real.exp (b - max a b) = f at *
  have hs : e + f ≠ 0 := by positivity
  have hq : (e + f) * (e + f) ≠ 0 := mul_ne_zero hs hs
  rw [← EReal.coe_zero, ← EReal.coe_one]
  rw [← EReal.coe_add, ← EReal.coe_mul, Ideal.div_coe hs, Ideal.div_coe hq, Ideal.div_coe hs, Ideal.div_coe hs]
  simp only [← EReal.coe_mul, ← EReal.coe_add, ← EReal.coe_sub, ← EReal.coe_neg]
  constructor
  · rw [EReal.coe_eq_coe_iff]; field_simp; ring
  · rw [EReal.coe_eq_coe_iff]; field_simp; ring

theorem g_lb0 {x : Arr2 8 512} {l : Arr2 2 512} (hx : ∀ i, IsReal (x i)) (hl : ∀ i, IsReal (l i)) (j : Fin 512) :
    val_main_v46 (F := Ideal) x l (ix2 0 j) = lbg (SL x j) (l (ix2 0 j)) (l (ix2 1 j)) := by
  rw [v46_at, v34_0]
  unfold tot ex mx
  obtain ⟨s, hs⟩ : IsReal (SL x j) := IsReal.sum _ _ fun d _ => hx _
  obtain ⟨a, ha⟩ := hl (ix2 0 j)
  obtain ⟨b, hb⟩ := hl (ix2 1 j)
  rw [hs, ha, hb]
  exact (bound s a b).1
theorem g_lb1 {x : Arr2 8 512} {l : Arr2 2 512} (hx : ∀ i, IsReal (x i)) (hl : ∀ i, IsReal (l i)) (j : Fin 512) :
    val_main_v46 (F := Ideal) x l (ix2 1 j) = 0 - lbg (SL x j) (l (ix2 0 j)) (l (ix2 1 j)) := by
  rw [v46_at, v34_1]
  unfold tot ex mx
  obtain ⟨s, hs⟩ : IsReal (SL x j) := IsReal.sum _ _ fun d _ => hx _
  obtain ⟨a, ha⟩ := hl (ix2 0 j)
  obtain ⟨b, hb⟩ := hl (ix2 1 j)
  rw [hs, ha, hb]
  exact (bound s a b).2

theorem m_n1 (x : Arr2 8 1024) (m : Arr2 1 1024) (j : Fin 1024) : (val_main_v58 (F := Ideal) x m : Arr2 1 1024) (ix2 0 j) = nm (m (ix2 0 j)) ((val_main_v48 (F := Ideal) x : Arr2 1 1024) (ix2 0 j)) := by
  pointwise [val_main_v58, val_main_v55, val_main_v54, val_main_cst_17, val_main_v57, val_main_v56, val_main_cst_18]
  rfl
theorem v_n1 (x : Arr2 8 1024) (v : Arr2 1 1024) (j : Fin 1024) : (val_main_v64 (F := Ideal) x v : Arr2 1 1024) (ix2 0 j) = nv (v (ix2 0 j)) ((val_main_v48 (F := Ideal) x : Arr2 1 1024) (ix2 0 j)) := by
  pointwise [val_main_v64, val_main_v60, val_main_v59, val_main_cst_19, val_main_v63, val_main_v62, val_main_cst_20, val_main_v61]
  rfl
theorem d_n1 (x : Arr2 8 1024) (w : Arr2 1 1024) (m v : Arr2 1 1024) (j : Fin 1024) : (val_main_v77 (F := Ideal) x w m v : Arr2 1 1024) (ix2 0 j) = dl (w (ix2 0 j)) ((val_main_v48 (F := Ideal) x : Arr2 1 1024) (ix2 0 j)) (m (ix2 0 j)) (v (ix2 0 j)) := by
  pointwise [val_main_v77, val_main_v76, val_main_cst_25, val_main_v75, val_main_v72, val_main_v66, val_main_v58, val_main_v55, val_main_v54, val_main_cst_17, val_main_v57, val_main_v56, val_main_cst_18, val_main_v65, val_main_cst_21, val_main_v71, val_main_v69, val_main_v68, val_main_v64, val_main_v60, val_main_v59, val_main_cst_19, val_main_v63, val_main_v62, val_main_cst_20, val_main_v61, val_main_v67, val_main_cst_22, val_main_v70, val_main_cst_23, val_main_v74, val_main_v73, val_main_cst_24]
  rfl

theorem m_lb (x : Arr2 8 512) (l : Arr2 2 512) (m : Arr2 2 512) (i : Fin 2) (j : Fin 512) : (val_main_v82 (F := Ideal) x l m : Arr2 2 512) (ix2 i j) = nm (m (ix2 i j)) ((val_main_v46 (F := Ideal) x l : Arr2 2 512) (ix2 i j)) := by
  pointwise [val_main_v82, val_main_v79, val_main_v78, val_main_cst_26, val_main_v81, val_main_v80, val_main_cst_27]
  rfl
theorem v_lb (x : Arr2 8 512) (l : Arr2 2 512) (v : Arr2 2 512) (i : Fin 2) (j : Fin 512) : (val_main_v88 (F := Ideal) x l v : Arr2 2 512) (ix2 i j) = nv (v (ix2 i j)) ((val_main_v46 (F := Ideal) x l : Arr2 2 512) (ix2 i j)) := by
  pointwise [val_main_v88, val_main_v84, val_main_v83, val_main_cst_28, val_main_v87, val_main_v86, val_main_cst_29, val_main_v85]
  rfl
theorem d_lb (x : Arr2 8 512) (l : Arr2 2 512) (m v : Arr2 2 512) (i : Fin 2) (j : Fin 512) : (val_main_v101 (F := Ideal) x l m v : Arr2 2 512) (ix2 i j) = dl (l (ix2 i j)) ((val_main_v46 (F := Ideal) x l : Arr2 2 512) (ix2 i j)) (m (ix2 i j)) (v (ix2 i j)) := by
  pointwise [val_main_v101, val_main_v100, val_main_cst_34, val_main_v99, val_main_v96, val_main_v90, val_main_v82, val_main_v79, val_main_v78, val_main_cst_26, val_main_v81, val_main_v80, val_main_cst_27, val_main_v89, val_main_cst_30, val_main_v95, val_main_v93, val_main_v92, val_main_v88, val_main_v84, val_main_v83, val_main_cst_28, val_main_v87, val_main_v86, val_main_cst_29, val_main_v85, val_main_v91, val_main_cst_31, val_main_v94, val_main_cst_32, val_main_v98, val_main_v97, val_main_cst_33]
  rfl

theorem m_hn (x : Arr2 8 512) (m : Arr2 1 512) (j : Fin 512) : (val_main_v106 (F := Ideal) x m : Arr2 1 512) (ix2 0 j) = nm (m (ix2 0 j)) ((val_main_v50 (F := Ideal) x : Arr2 1 512) (ix2 0 j)) := by
  pointwise [val_main_v106, val_main_v103, val_main_v102, val_main_cst_35, val_main_v105, val_main_v104, val_main_cst_36]
  rfl
theorem v_hn (x : Arr2 8 512) (v : Arr2 1 512) (j : Fin 512) : (val_main_v112 (F := Ideal) x v : Arr2 1 512) (ix2 0 j) = nv (v (ix2 0 j)) ((val_main_v50 (F := Ideal) x : Arr2 1 512) (ix2 0 j)) := by
  pointwise [val_main_v112, val_main_v108, val_main_v107, val_main_cst_37, val_main_v111, val_main_v110, val_main_cst_38, val_main_v109]
  rfl
theorem d_hn (x : Arr2 8 512) (w : Arr2 1 512) (m v : Arr2 1 512) (j : Fin 512) : (val_main_v125 (F := Ideal) x w m v : Arr2 1 512) (ix2 0 j) = dl (w (ix2 0 j)) ((val_main_v50 (F := Ideal) x : Arr2 1 512) (ix2 0 j)) (m (ix2 0 j)) (v (ix2 0 j)) := by
  pointwise [val_main_v125, val_main_v124, val_main_cst_43, val_main_v123, val_main_v120, val_main_v114, val_main_v106, val_main_v103, val_main_v102, val_main_cst_35, val_main_v105, val_main_v104, val_main_cst_36, val_main_v113, val_main_cst_39, val_main_v119, val_main_v117, val_main_v116, val_main_v112, val_main_v108, val_main_v107, val_main_cst_37, val_main_v111, val_main_v110, val_main_cst_38, val_main_v109, val_main_v115, val_main_cst_40, val_main_v118, val_main_cst_41, val_main_v122, val_main_v121, val_main_cst_42]
  rfl

theorem m_n2 (x : Arr2 8 1024) (m : Arr2 1 1024) (j : Fin 1024) : (val_main_v130 (F := Ideal) x m : Arr2 1 1024) (ix2 0 j) = nm (m (ix2 0 j)) ((val_main_v52 (F := Ideal) x : Arr2 1 1024) (ix2 0 j)) := by
  pointwise [val_main_v130, val_main_v127, val_main_v126, val_main_cst_44, val_main_v129, val_main_v128, val_main_cst_45]
  rfl
theorem v_n2 (x : Arr2 8 1024) (v : Arr2 1 1024) (j : Fin 1024) : (val_main_v136 (F := Ideal) x v : Arr2 1 1024) (ix2 0 j) = nv (v (ix2 0 j)) ((val_main_v52 (F := Ideal) x : Arr2 1 1024) (ix2 0 j)) := by
  pointwise [val_main_v136, val_main_v132, val_main_v131, val_main_cst_46, val_main_v135, val_main_v134, val_main_cst_47, val_main_v133]
  rfl
theorem d_n2 (x : Arr2 8 1024) (w : Arr2 1 1024) (m v : Arr2 1 1024) (j : Fin 1024) : (val_main_v149 (F := Ideal) x w m v : Arr2 1 1024) (ix2 0 j) = dl (w (ix2 0 j)) ((val_main_v52 (F := Ideal) x : Arr2 1 1024) (ix2 0 j)) (m (ix2 0 j)) (v (ix2 0 j)) := by
  pointwise [val_main_v149, val_main_v148, val_main_cst_52, val_main_v147, val_main_v144, val_main_v138, val_main_v130, val_main_v127, val_main_v126, val_main_cst_44, val_main_v129, val_main_v128, val_main_cst_45, val_main_v137, val_main_cst_48, val_main_v143, val_main_v141, val_main_v140, val_main_v136, val_main_v132, val_main_v131, val_main_cst_46, val_main_v135, val_main_v134, val_main_cst_47, val_main_v133, val_main_v139, val_main_cst_49, val_main_v142, val_main_cst_50, val_main_v146, val_main_v145, val_main_cst_51]
  rfl

theorem m_fn (x : Arr2 8 1024) (m : Arr1 1024) (j : Fin 1024) : (val_main_v154 (F := Ideal) x m : Arr1 1024) (ix1 j) = nm (m (ix1 j)) ((val_main_v53 (F := Ideal) x : Arr1 1024) (ix1 j)) := by
  pointwise [val_main_v154, val_main_v151, val_main_v150, val_main_cst_53, val_main_v153, val_main_v152, val_main_cst_54]
  rfl
theorem v_fn (x : Arr2 8 1024) (v : Arr1 1024) (j : Fin 1024) : (val_main_v160 (F := Ideal) x v : Arr1 1024) (ix1 j) = nv (v (ix1 j)) ((val_main_v53 (F := Ideal) x : Arr1 1024) (ix1 j)) := by
  pointwise [val_main_v160, val_main_v156, val_main_v155, val_main_cst_55, val_main_v159, val_main_v158, val_main_cst_56, val_main_v157]
  rfl
theorem d_fn (x : Arr2 8 1024) (w : Arr1 1024) (m v : Arr1 1024) (j : Fin 1024) : (val_main_v173 (F := Ideal) x w m v : Arr1 1024) (ix1 j) = dl (w (ix1 j)) ((val_main_v53 (F := Ideal) x : Arr1 1024) (ix1 j)) (m (ix1 j)) (v (ix1 j)) := by
  pointwise [val_main_v173, val_main_v172, val_main_cst_61, val_main_v171, val_main_v168, val_main_v162, val_main_v154, val_main_v151, val_main_v150, val_main_cst_53, val_main_v153, val_main_v152, val_main_cst_54, val_main_v161, val_main_cst_57, val_main_v167, val_main_v165, val_main_v164, val_main_v160, val_main_v156, val_main_v155, val_main_cst_55, val_main_v159, val_main_v158, val_main_cst_56, val_main_v157, val_main_v163, val_main_cst_58, val_main_v166, val_main_cst_59, val_main_v170, val_main_v169, val_main_cst_60]
  rfl

end Cert.Small.Ref
-- ==== Proof.Small.Pre.lean ====
/- The precondition of the small parameters' pair, element by element. -/
module

public import proofs.«01_k».proof.Defs
public import proofs.«01_k».proof.Proof.Gen.Pre_finite_lb
public import proofs.«01_k».proof.Proof.InB.Pre

@[expose] public section

noncomputable section

namespace Cert.Small

open Idealize.ShloMosaic Cert.Fin Cert.InB

local instance preFacts : Cert.Pre_finite_lb.Facts := Cert.Pre_finite_lb.Gen.facts

theorem finArgs (a0 a1 : Arr2 8 1024) (a2 a3 : Arr2 8 512) (a4 a5 : Arr2 8 1024) (a6 : Arr2 1 1024) (a7 : Arr2 2 512) (a8 : Arr2 1 512) (a9 : Arr2 1 1024) (a10 : (⟨1, ![1024]⟩ : Shape).Idx → EReal) (a11 : Arr2 1 1024) (a12 : Arr2 2 512) (a13 : Arr2 1 512) (a14 : Arr2 1 1024) (a15 : (⟨1, ![1024]⟩ : Shape).Idx → EReal) (a16 : Arr2 1 1024) (a17 : Arr2 2 512) (a18 : Arr2 1 512) (a19 : Arr2 1 1024) (a20 : (⟨1, ![1024]⟩ : Shape).Idx → EReal)
    (h : Cert.Pre_finite_lb.fn (F := Ideal) a0 a1 a2 a3 a4 a5 a6 a7 a8 a9 a10 a11 a12 a13 a14 a15 a16 a17 a18 a19 a20 (fun a => a.elim0) = 1#1) :
    (∀ i, IsReal (a2 i)) ∧ (∀ i, IsReal (a7 i)) := by
  dsimp only [Cert.Pre_finite_lb.fn] at h
  obtain ⟨h0, h1⟩ := andi_one h
  exact ⟨fun i => real_of_cmp _ (Host.reduce_andi_all _ _ _ _ _ h0 i), fun i => real_of_cmp _ (Host.reduce_andi_all _ _ _ _ _ h1 i)⟩

end Cert.Small
-- ==== Proof.Small.Claim.lean ====
/- The equation of the two programs' results, array by array, and the claims of the small parameters' pair. -/
module

public import proofs.«01_k».proof.Proof.Gen.Kernel3.Frame
public import proofs.«01_k».proof.Proof.Gen.Reference3Ideal.Run
public import proofs.«01_k».proof.Proof.InB.Claim
public import proofs.«01_k».proof.Proof.Small.Arrays
public import proofs.«01_k».proof.Proof.Small.Host
public import proofs.«01_k».proof.Proof.Small.Ref
public import proofs.«01_k».proof.Proof.Small.Pre
public import Idealize.ShloMosaic.Lib.Claim

@[expose] public section

set_option maxRecDepth 16384

noncomputable section

namespace Cert.Small

open Cert.Kernel3Ideal Cert.Kernel3Ideal.Gen Idealize.ShloMosaic Idealize.ShloMosaic.TcCoe Idealize.SL.Sem Cert.InB Cert.Fin
open Cert.Reference3Ideal.Read (val_main_v174 val_main_v48 val_main_v46 val_main_v50 val_main_v52 val_main_v53 val_main_v77 val_main_v101 val_main_v125 val_main_v149 val_main_v173 val_main_v58 val_main_v82 val_main_v106 val_main_v130 val_main_v154 val_main_v64 val_main_v88 val_main_v112 val_main_v136 val_main_v160)

local instance claimKernelFacts : Cert.Kernel3.Facts := Cert.Kernel3.Gen.facts
local instance claimIdealFacts : Cert.Kernel3Ideal.Facts := Cert.Kernel3Ideal.Gen.facts
local instance claimReferenceFacts : Cert.Reference3Ideal.Facts := Cert.Reference3Ideal.Gen.facts
local instance claimPreFacts : Cert.Pre_finite_lb.Facts := Cert.Pre_finite_lb.Gen.facts

variable (m : (ℓ : Loc nD τ sig) → Buf (Elt Ideal) ℓ) (c : Dev nD)

/-- What the lines after the kernel leave in a buffer. -/
abbrev res (b : Ref sig .tc) := Pipeline.afterTail₀ cfgs (dats m) 0 (V0 m) [hostOps1] c b
/-- The buffers as the kernel leaves them. -/
abbrev wt : Valuation τ sig (Elt Ideal) :=
  Pipeline.withArrays (cfgs 0).spec c (V0 m c) fun w => (dats m 0 c).arrAt w (cfgs 0).N

theorem arr_inj : Function.Injective (Pipeline.arrRef (cfgs 0).spec) := by decide

/-- The sum over the devices. -/
abbrev sumd {n : Nat} (x : Arr2 8 n) (j : Fin n) : EReal := ∑ d : Fin 8, x (ix2 d j)

theorem sum_eq (f g : Fin 8 → EReal) (h : ∀ d, f d = g d) : ∑ d : Fin 8, f d = ∑ d : Fin 8, g d := Finset.sum_congr rfl fun d _ => h d

theorem wt_0 : wt m c (Proc.devRef .tc main_v29_0) = out0_4 (F := Ideal) (V m c main_v10) (V m c main_v16) (V m c main_v22) (V m c main_v28) :=
  (Pipeline.withArrays_arr (cfgs 0).spec arr_inj c (V0 m c) _ 4).trans (arr4 m c)

theorem wt_1 : wt m c (Proc.devRef .tc main_v29_1) = out0_5 (F := Ideal) (V m c main_v10) (V m c main_v16) (V m c main_v22) (V m c main_v28) :=
  (Pipeline.withArrays_arr (cfgs 0).spec arr_inj c (V0 m c) _ 5).trans (arr5 m c)

theorem wt_2 : wt m c (Proc.devRef .tc main_v29_2) = out0_6 (F := Ideal) (V m c main_v10) (V m c main_v16) (V m c main_v22) (V m c main_v28) :=
  (Pipeline.withArrays_arr (cfgs 0).spec arr_inj c (V0 m c) _ 6).trans (arr6 m c)

theorem wt_3 : wt m c (Proc.devRef .tc main_v29_3) = out0_7 (F := Ideal) (V m c main_v10) (V m c main_v16) (V m c main_v22) (V m c main_v28) :=
  (Pipeline.withArrays_arr (cfgs 0).spec arr_inj c (V0 m c) _ 7).trans (arr7 m c)

theorem wt_4 : wt m c (Proc.devRef .tc main_v29_4) = out0_8 (F := Ideal) (V m c main_v10) (V m c main_v16) (V m c main_v22) (V m c main_v28) :=
  (Pipeline.withArrays_arr (cfgs 0).spec arr_inj c (V0 m c) _ 8).trans (arr8 m c)

/-! ## The gradients, row by row -/

theorem gm0 (j : Fin 1024) : (GR (V m c main_v10) (V m c main_v16) (V m c main_v22) (V m c main_v28) : Arr2 8 1024) (ix2 0 j) = sumd (m ((c : Thread nD τ).loc main_arg1)) j := by
  refine (grad_lt _ _ 0 (by decide) _).trans ((sum8_at _ _ _ _ _ _).trans (sum_eq _ _ fun d => part0_at m c d j))

theorem gm1 (j : Fin 1024) : (GR (V m c main_v10) (V m c main_v16) (V m c main_v22) (V m c main_v28) : Arr2 8 1024) (ix2 1 j) = sumd (m ((c : Thread nD τ).loc main_arg4)) j := by
  refine (grad_lt _ _ 1 (by decide) _).trans ((sum8_at _ _ _ _ _ _).trans (sum_eq _ _ fun d => part1_at m c d j))

theorem gm2 (j : Fin 1024) : (GR (V m c main_v10) (V m c main_v16) (V m c main_v22) (V m c main_v28) : Arr2 8 1024) (ix2 2 j) = sumd (m ((c : Thread nD τ).loc main_arg5)) j := by
  refine (grad_lt _ _ 2 (by decide) _).trans ((sum8_at _ _ _ _ _ _).trans (sum_eq _ _ fun d => part2_at m c d j))

theorem gm3 (j : Fin 512) : (GR (V m c main_v10) (V m c main_v16) (V m c main_v22) (V m c main_v28) : Arr2 8 1024) (ix2 3 ⟨j.val, by omega⟩) = sumd (m ((c : Thread nD τ).loc main_arg3)) j := by
  refine (grad_lt _ _ 3 (by decide) _).trans ((sum8_at _ _ _ _ _ _).trans (sum_eq _ _ fun d => part3_at m c d j))

theorem lb4 (j : Fin 512) : (LB (V m c main_v10) (V m c main_v16) (V m c main_v22) (V m c main_v28) : Arr2 1 512) (ix2 0 j)
    = lbw ((m ((c : Thread nD τ).loc main_arg7)) (ix2 0 j)) ((m ((c : Thread nD τ).loc main_arg7)) (ix2 1 j)) := by
  rw [lb_at, w4_at, w4'_at]

theorem s4 (j : Fin 512) : (S8 (V m c main_v10) (V m c main_v16) (V m c main_v22) (V m c main_v28) : Arr2 8 1024) (ix2 4 ⟨j.val, by omega⟩)
    = sumd (m ((c : Thread nD τ).loc main_arg2)) j :=
  (sum8_at _ _ _ _ _ _).trans (sum_eq _ _ fun d => part4_at m c d j)

theorem gm4 (j : Fin 512) : (GR (V m c main_v10) (V m c main_v16) (V m c main_v22) (V m c main_v28) : Arr2 8 1024) (ix2 4 ⟨j.val, by omega⟩)
    = lbg (sumd (m ((c : Thread nD τ).loc main_arg2)) j) ((m ((c : Thread nD τ).loc main_arg7)) (ix2 0 j)) ((m ((c : Thread nD τ).loc main_arg7)) (ix2 1 j)) := by
  refine (grad_first _ _ _).trans ?_
  rw [s4, lb4]; rfl

theorem gm4' (j : Fin 512) : (GR (V m c main_v10) (V m c main_v16) (V m c main_v22) (V m c main_v28) : Arr2 8 1024) (ix2 4 ⟨512 + j.val, by omega⟩)
    = 0 - lbg (sumd (m ((c : Thread nD τ).loc main_arg2)) j) ((m ((c : Thread nD τ).loc main_arg7)) (ix2 0 j)) ((m ((c : Thread nD τ).loc main_arg7)) (ix2 1 j)) := by
  refine (grad_second _ _ _).trans ?_
  rw [s4, lb4]; rfl

theorem ext1 {a : Nat} (f g : (⟨1, ![a]⟩ : Shape).Idx → EReal) (h : ∀ i, f (ix1 i) = g (ix1 i)) : f = g := funext fun i => by
  have e : i = ix1 (i 0) := funext fun k => by
    match k with
    | ⟨0, _⟩ => rfl
  rw [e]; exact h _

theorem two_rows (f g : Arr2 2 512) (h0 : ∀ j, f (ix2 0 j) = g (ix2 0 j)) (h1 : ∀ j, f (ix2 1 j) = g (ix2 1 j)) : f = g :=
  ext2 _ _ fun i j => match i with
    | ⟨0, _⟩ => h0 j
    | ⟨1, _⟩ => h1 j

theorem one_row {a : Nat} (f g : Arr2 1 a) (h0 : ∀ j, f (ix2 0 j) = g (ix2 0 j)) : f = g :=
  ext2 _ _ fun i j => match i with
    | ⟨0, _⟩ => h0 j

/-! ## The equations -/

theorem eq_loss : (val_main_v174 (F := Ideal) (m ((c : Thread nD τ).loc main_arg0)) : FVec Ideal ⟨0, ![]⟩ .f32) = res m c main_v31 := funext fun i => by
  refine Eq.trans ?_ (loss_cut (wt m c) i).symm
  rw [wt_4, Ref.loss_at]
  refine Eq.trans ?_ (block8 _ _ _ _).symm
  rw [Finset.sum_comm]
  exact Finset.sum_congr rfl fun j _ => Finset.sum_congr rfl fun d _ => (part5_at m c d j).symm

theorem eq_g_n1  : (val_main_v48 (F := Ideal) (m ((c : Thread nD τ).loc main_arg1)) : Arr2 1 1024) = res m c main_v32 := one_row _ _ fun j => by
    refine Eq.trans ?_ (cut0_0 (wt m c) j).symm
    rw [wt_0, block4]
    exact (Ref.g_n1 _ j).trans (gm0 m c j).symm

theorem eq_g_lb (hx : ∀ i, IsReal ((m ((c : Thread nD τ).loc main_arg2)) i)) (hl : ∀ i, IsReal ((m ((c : Thread nD τ).loc main_arg7)) i)) : (val_main_v46 (F := Ideal) (m ((c : Thread nD τ).loc main_arg2)) (m ((c : Thread nD τ).loc main_arg7)) : Arr2 2 512) = res m c main_v35 := by
  refine two_rows _ _ (fun j => ?_) (fun j => ?_)
  · refine Eq.trans ?_ (cut0_1 (wt m c) j).symm
    rw [wt_0, block4]
    exact (Ref.g_lb0 hx hl j).trans (gm4 m c j).symm
  · refine Eq.trans ?_ (cut0_2 (wt m c) j).symm
    rw [wt_0, block4]
    exact (Ref.g_lb1 hx hl j).trans (gm4' m c j).symm

theorem eq_g_hn  : (val_main_v50 (F := Ideal) (m ((c : Thread nD τ).loc main_arg3)) : Arr2 1 512) = res m c main_v36 := one_row _ _ fun j => by
    refine Eq.trans ?_ (cut0_3 (wt m c) j).symm
    rw [wt_0, block4]
    exact (Ref.g_hn _ j).trans (gm3 m c j).symm

theorem eq_g_n2  : (val_main_v52 (F := Ideal) (m ((c : Thread nD τ).loc main_arg4)) : Arr2 1 1024) = res m c main_v37 := one_row _ _ fun j => by
    refine Eq.trans ?_ (cut0_4 (wt m c) j).symm
    rw [wt_0, block4]
    exact (Ref.g_n2 _ j).trans (gm1 m c j).symm

theorem eq_g_fn  : (val_main_v53 (F := Ideal) (m ((c : Thread nD τ).loc main_arg5)) : (⟨1, ![1024]⟩ : Shape).Idx → EReal) = res m c main_v39 := ext1 _ _ fun j => by
    refine Eq.trans ?_ (cut0_5 (wt m c) j).symm
    rw [wt_0, block4]
    exact (Ref.g_fn _ j).trans (gm2 m c j).symm

theorem eq_d_n1  : (val_main_v77 (F := Ideal) (m ((c : Thread nD τ).loc main_arg1)) (m ((c : Thread nD τ).loc main_arg6)) (m ((c : Thread nD τ).loc main_arg11)) (m ((c : Thread nD τ).loc main_arg16)) : Arr2 1 1024) = res m c main_v40 := one_row _ _ fun j => by
    refine Eq.trans ?_ (cut1_0 (wt m c) j).symm
    rw [wt_1]
    refine Eq.trans ?_ (block5 _ _ _ _ 0 j).symm
    rw [gm0 m c j, w0_at, m0_at, v0_at]
    refine (Ref.d_n1 _ _ _ _ j).trans ?_
    rw [Ref.g_n1 _ j]

theorem eq_d_lb (hx : ∀ i, IsReal ((m ((c : Thread nD τ).loc main_arg2)) i)) (hl : ∀ i, IsReal ((m ((c : Thread nD τ).loc main_arg7)) i)) : (val_main_v101 (F := Ideal) (m ((c : Thread nD τ).loc main_arg2)) (m ((c : Thread nD τ).loc main_arg7)) (m ((c : Thread nD τ).loc main_arg12)) (m ((c : Thread nD τ).loc main_arg17)) : Arr2 2 512) = res m c main_v43 := by
  refine two_rows _ _ (fun j => ?_) (fun j => ?_)
  · refine Eq.trans ?_ (cut1_1 (wt m c) j).symm
    rw [wt_1]
    refine Eq.trans ?_ (block5 _ _ _ _ 4 ⟨j.val, by omega⟩).symm
    rw [gm4 m c j, w4_at, m4_at, v4_at]
    refine (Ref.d_lb _ _ _ _ 0 j).trans ?_
    rw [Ref.g_lb0 hx hl j]
  · refine Eq.trans ?_ (cut1_2 (wt m c) j).symm
    rw [wt_1]
    refine Eq.trans ?_ (block5 _ _ _ _ 4 ⟨512 + j.val, by omega⟩).symm
    rw [gm4' m c j, w4'_at, m4'_at, v4'_at]
    refine (Ref.d_lb _ _ _ _ 1 j).trans ?_
    rw [Ref.g_lb1 hx hl j]

theorem eq_d_hn  : (val_main_v125 (F := Ideal) (m ((c : Thread nD τ).loc main_arg3)) (m ((c : Thread nD τ).loc main_arg8)) (m ((c : Thread nD τ).loc main_arg13)) (m ((c : Thread nD τ).loc main_arg18)) : Arr2 1 512) = res m c main_v44 := one_row _ _ fun j => by
    refine Eq.trans ?_ (cut1_3 (wt m c) j).symm
    rw [wt_1]
    refine Eq.trans ?_ (block5 _ _ _ _ 3 ⟨j.val, by omega⟩).symm
    rw [gm3 m c j, w3_at, m3_at, v3_at]
    refine (Ref.d_hn _ _ _ _ j).trans ?_
    rw [Ref.g_hn _ j]

theorem eq_d_n2  : (val_main_v149 (F := Ideal) (m ((c : Thread nD τ).loc main_arg4)) (m ((c : Thread nD τ).loc main_arg9)) (m ((c : Thread nD τ).loc main_arg14)) (m ((c : Thread nD τ).loc main_arg19)) : Arr2 1 1024) = res m c main_v45 := one_row _ _ fun j => by
    refine Eq.trans ?_ (cut1_4 (wt m c) j).symm
    rw [wt_1]
    refine Eq.trans ?_ (block5 _ _ _ _ 1 j).symm
    rw [gm1 m c j, w1_at, m1_at, v1_at]
    refine (Ref.d_n2 _ _ _ _ j).trans ?_
    rw [Ref.g_n2 _ j]

theorem eq_d_fn  : (val_main_v173 (F := Ideal) (m ((c : Thread nD τ).loc main_arg5)) (m ((c : Thread nD τ).loc main_arg10)) (m ((c : Thread nD τ).loc main_arg15)) (m ((c : Thread nD τ).loc main_arg20)) : (⟨1, ![1024]⟩ : Shape).Idx → EReal) = res m c main_v47 := ext1 _ _ fun j => by
    refine Eq.trans ?_ (cut1_5 (wt m c) j).symm
    rw [wt_1]
    refine Eq.trans ?_ (block5 _ _ _ _ 2 j).symm
    rw [gm2 m c j, w2_at, m2_at, v2_at]
    refine (Ref.d_fn _ _ _ _ j).trans ?_
    rw [Ref.g_fn _ j]

theorem eq_m_n1  : (val_main_v58 (F := Ideal) (m ((c : Thread nD τ).loc main_arg1)) (m ((c : Thread nD τ).loc main_arg11)) : Arr2 1 1024) = res m c main_v48 := one_row _ _ fun j => by
    refine Eq.trans ?_ (cut2_0 (wt m c) j).symm
    rw [wt_2]
    refine Eq.trans ?_ (block6 _ _ _ _ 0 j).symm
    rw [gm0 m c j, m0_at]
    refine (Ref.m_n1 _ _ j).trans ?_
    rw [Ref.g_n1 _ j]

theorem eq_m_lb (hx : ∀ i, IsReal ((m ((c : Thread nD τ).loc main_arg2)) i)) (hl : ∀ i, IsReal ((m ((c : Thread nD τ).loc main_arg7)) i)) : (val_main_v82 (F := Ideal) (m ((c : Thread nD τ).loc main_arg2)) (m ((c : Thread nD τ).loc main_arg7)) (m ((c : Thread nD τ).loc main_arg12)) : Arr2 2 512) = res m c main_v51 := by
  refine two_rows _ _ (fun j => ?_) (fun j => ?_)
  · refine Eq.trans ?_ (cut2_1 (wt m c) j).symm
    rw [wt_2]
    refine Eq.trans ?_ (block6 _ _ _ _ 4 ⟨j.val, by omega⟩).symm
    rw [gm4 m c j, m4_at]
    refine (Ref.m_lb _ _ _ 0 j).trans ?_
    rw [Ref.g_lb0 hx hl j]
  · refine Eq.trans ?_ (cut2_2 (wt m c) j).symm
    rw [wt_2]
    refine Eq.trans ?_ (block6 _ _ _ _ 4 ⟨512 + j.val, by omega⟩).symm
    rw [gm4' m c j, m4'_at]
    refine (Ref.m_lb _ _ _ 1 j).trans ?_
    rw [Ref.g_lb1 hx hl j]

theorem eq_m_hn  : (val_main_v106 (F := Ideal) (m ((c : Thread nD τ).loc main_arg3)) (m ((c : Thread nD τ).loc main_arg13)) : Arr2 1 512) = res m c main_v52 := one_row _ _ fun j => by
    refine Eq.trans ?_ (cut2_3 (wt m c) j).symm
    rw [wt_2]
    refine Eq.trans ?_ (block6 _ _ _ _ 3 ⟨j.val, by omega⟩).symm
    rw [gm3 m c j, m3_at]
    refine (Ref.m_hn _ _ j).trans ?_
    rw [Ref.g_hn _ j]

theorem eq_m_n2  : (val_main_v130 (F := Ideal) (m ((c : Thread nD τ).loc main_arg4)) (m ((c : Thread nD τ).loc main_arg14)) : Arr2 1 1024) = res m c main_v53 := one_row _ _ fun j => by
    refine Eq.trans ?_ (cut2_4 (wt m c) j).symm
    rw [wt_2]
    refine Eq.trans ?_ (block6 _ _ _ _ 1 j).symm
    rw [gm1 m c j, m1_at]
    refine (Ref.m_n2 _ _ j).trans ?_
    rw [Ref.g_n2 _ j]

theorem eq_m_fn  : (val_main_v154 (F := Ideal) (m ((c : Thread nD τ).loc main_arg5)) (m ((c : Thread nD τ).loc main_arg15)) : (⟨1, ![1024]⟩ : Shape).Idx → EReal) = res m c main_v55 := ext1 _ _ fun j => by
    refine Eq.trans ?_ (cut2_5 (wt m c) j).symm
    rw [wt_2]
    refine Eq.trans ?_ (block6 _ _ _ _ 2 j).symm
    rw [gm2 m c j, m2_at]
    refine (Ref.m_fn _ _ j).trans ?_
    rw [Ref.g_fn _ j]

theorem eq_v_n1  : (val_main_v64 (F := Ideal) (m ((c : Thread nD τ).loc main_arg1)) (m ((c : Thread nD τ).loc main_arg16)) : Arr2 1 1024) = res m c main_v56 := one_row _ _ fun j => by
    refine Eq.trans ?_ (cut3_0 (wt m c) j).symm
    rw [wt_3]
    refine Eq.trans ?_ (block7 _ _ _ _ 0 j).symm
    rw [gm0 m c j, v0_at]
    refine (Ref.v_n1 _ _ j).trans ?_
    rw [Ref.g_n1 _ j]

theorem eq_v_lb (hx : ∀ i, IsReal ((m ((c : Thread nD τ).loc main_arg2)) i)) (hl : ∀ i, IsReal ((m ((c : Thread nD τ).loc main_arg7)) i)) : (val_main_v88 (F := Ideal) (m ((c : Thread nD τ).loc main_arg2)) (m ((c : Thread nD τ).loc main_arg7)) (m ((c : Thread nD τ).loc main_arg17)) : Arr2 2 512) = res m c main_v59 := by
  refine two_rows _ _ (fun j => ?_) (fun j => ?_)
  · refine Eq.trans ?_ (cut3_1 (wt m c) j).symm
    rw [wt_3]
    refine Eq.trans ?_ (block7 _ _ _ _ 4 ⟨j.val, by omega⟩).symm
    rw [gm4 m c j, v4_at]
    refine (Ref.v_lb _ _ _ 0 j).trans ?_
    rw [Ref.g_lb0 hx hl j]
  · refine Eq.trans ?_ (cut3_2 (wt m c) j).symm
    rw [wt_3]
    refine Eq.trans ?_ (block7 _ _ _ _ 4 ⟨512 + j.val, by omega⟩).symm
    rw [gm4' m c j, v4'_at]
    refine (Ref.v_lb _ _ _ 1 j).trans ?_
    rw [Ref.g_lb1 hx hl j]

theorem eq_v_hn  : (val_main_v112 (F := Ideal) (m ((c : Thread nD τ).loc main_arg3)) (m ((c : Thread nD τ).loc main_arg18)) : Arr2 1 512) = res m c main_v60 := one_row _ _ fun j => by
    refine Eq.trans ?_ (cut3_3 (wt m c) j).symm
    rw [wt_3]
    refine Eq.trans ?_ (block7 _ _ _ _ 3 ⟨j.val, by omega⟩).symm
    rw [gm3 m c j, v3_at]
    refine (Ref.v_hn _ _ j).trans ?_
    rw [Ref.g_hn _ j]

theorem eq_v_n2  : (val_main_v136 (F := Ideal) (m ((c : Thread nD τ).loc main_arg4)) (m ((c : Thread nD τ).loc main_arg19)) : Arr2 1 1024) = res m c main_v61 := one_row _ _ fun j => by
    refine Eq.trans ?_ (cut3_4 (wt m c) j).symm
    rw [wt_3]
    refine Eq.trans ?_ (block7 _ _ _ _ 1 j).symm
    rw [gm1 m c j, v1_at]
    refine (Ref.v_n2 _ _ j).trans ?_
    rw [Ref.g_n2 _ j]

theorem eq_v_fn  : (val_main_v160 (F := Ideal) (m ((c : Thread nD τ).loc main_arg5)) (m ((c : Thread nD τ).loc main_arg20)) : (⟨1, ![1024]⟩ : Shape).Idx → EReal) = res m c main_v63 := ext1 _ _ fun j => by
    refine Eq.trans ?_ (cut3_5 (wt m c) j).symm
    rw [wt_3]
    refine Eq.trans ?_ (block7 _ _ _ _ 2 j).symm
    rw [gm2 m c j, v2_at]
    refine (Ref.v_fn _ _ j).trans ?_
    rw [Ref.g_fn _ j]

theorem fin_of (h : Cert.Pre_Kernel3Ideal_finite_lb m) (c : Dev nD) : (∀ i, IsReal (m ((c : Thread nD τ).loc main_arg2) i)) ∧ (∀ i, IsReal (m ((c : Thread nD τ).loc main_arg7) i)) :=
  finArgs _ _ _ _ _ _ _ _ _ _ _ _ _ _ _ _ _ _ _ _ _ (congrFun (h c) _)

set_option maxHeartbeats 4000000 in
theorem run (ρ : Dev nD → PrngReg) : θ_run defs (onTc (τ := τ) (main (F := Ideal))) ⟨m, fun _ => 0, ρ⟩ (fun r => ∀ c : Dev nD,
    r.2.mem ((c : Thread nD τ).loc main_v31) = res m c main_v31
    ∧ r.2.mem ((c : Thread nD τ).loc main_v32) = res m c main_v32
    ∧ r.2.mem ((c : Thread nD τ).loc main_v35) = res m c main_v35
    ∧ r.2.mem ((c : Thread nD τ).loc main_v36) = res m c main_v36
    ∧ r.2.mem ((c : Thread nD τ).loc main_v37) = res m c main_v37
    ∧ r.2.mem ((c : Thread nD τ).loc main_v39) = res m c main_v39
    ∧ r.2.mem ((c : Thread nD τ).loc main_v40) = res m c main_v40
    ∧ r.2.mem ((c : Thread nD τ).loc main_v43) = res m c main_v43
    ∧ r.2.mem ((c : Thread nD τ).loc main_v44) = res m c main_v44
    ∧ r.2.mem ((c : Thread nD τ).loc main_v45) = res m c main_v45
    ∧ r.2.mem ((c : Thread nD τ).loc main_v47) = res m c main_v47
    ∧ r.2.mem ((c : Thread nD τ).loc main_v48) = res m c main_v48
    ∧ r.2.mem ((c : Thread nD τ).loc main_v51) = res m c main_v51
    ∧ r.2.mem ((c : Thread nD τ).loc main_v52) = res m c main_v52
    ∧ r.2.mem ((c : Thread nD τ).loc main_v53) = res m c main_v53
    ∧ r.2.mem ((c : Thread nD τ).loc main_v55) = res m c main_v55
    ∧ r.2.mem ((c : Thread nD τ).loc main_v56) = res m c main_v56
    ∧ r.2.mem ((c : Thread nD τ).loc main_v59) = res m c main_v59
    ∧ r.2.mem ((c : Thread nD τ).loc main_v60) = res m c main_v60
    ∧ r.2.mem ((c : Thread nD τ).loc main_v61) = res m c main_v61
    ∧ r.2.mem ((c : Thread nD τ).loc main_v63) = res m c main_v63
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13)
    ∧ r.2.mem ((c : Thread nD τ).loc main_arg14) = m ((c : Thread nD τ).loc main_arg14)
    ∧ r.2.mem ((c : Thread nD τ).loc main_arg15) = m ((c : Thread nD τ).loc main_arg15)
    ∧ r.2.mem ((c : Thread nD τ).loc main_arg16) = m ((c : Thread nD τ).loc main_arg16)
    ∧ r.2.mem ((c : Thread nD τ).loc main_arg17) = m ((c : Thread nD τ).loc main_arg17)
    ∧ r.2.mem ((c : Thread nD τ).loc main_arg18) = m ((c : Thread nD τ).loc main_arg18)
    ∧ r.2.mem ((c : Thread nD τ).loc main_arg19) = m ((c : Thread nD τ).loc main_arg19)
    ∧ r.2.mem ((c : Thread nD τ).loc main_arg20) = m ((c : Thread nD τ).loc main_arg20)) :=
  (θ_run _ _ _).mono (fun r h c => ⟨(h c).2 main_v31 (Pipeline.mem_restRefs_of main_v31 (by decide) (by decide)),
    (h c).2 main_v32 (Pipeline.mem_restRefs_of main_v32 (by decide) (by decide)),
    (h c).2 main_v35 (Pipeline.mem_restRefs_of main_v35 (by decide) (by decide)),
    (h c).2 main_v36 (Pipeline.mem_restRefs_of main_v36 (by decide) (by decide)),
    (h c).2 main_v37 (Pipeline.mem_restRefs_of main_v37 (by decide) (by decide)),
    (h c).2 main_v39 (Pipeline.mem_restRefs_of main_v39 (by decide) (by decide)),
    (h c).2 main_v40 (Pipeline.mem_restRefs_of main_v40 (by decide) (by decide)),
    (h c).2 main_v43 (Pipeline.mem_restRefs_of main_v43 (by decide) (by decide)),
    (h c).2 main_v44 (Pipeline.mem_restRefs_of main_v44 (by decide) (by decide)),
    (h c).2 main_v45 (Pipeline.mem_restRefs_of main_v45 (by decide) (by decide)),
    (h c).2 main_v47 (Pipeline.mem_restRefs_of main_v47 (by decide) (by decide)),
    (h c).2 main_v48 (Pipeline.mem_restRefs_of main_v48 (by decide) (by decide)),
    (h c).2 main_v51 (Pipeline.mem_restRefs_of main_v51 (by decide) (by decide)),
    (h c).2 main_v52 (Pipeline.mem_restRefs_of main_v52 (by decide) (by decide)),
    (h c).2 main_v53 (Pipeline.mem_restRefs_of main_v53 (by decide) (by decide)),
    (h c).2 main_v55 (Pipeline.mem_restRefs_of main_v55 (by decide) (by decide)),
    (h c).2 main_v56 (Pipeline.mem_restRefs_of main_v56 (by decide) (by decide)),
    (h c).2 main_v59 (Pipeline.mem_restRefs_of main_v59 (by decide) (by decide)),
    (h c).2 main_v60 (Pipeline.mem_restRefs_of main_v60 (by decide) (by decide)),
    (h c).2 main_v61 (Pipeline.mem_restRefs_of main_v61 (by decide) (by decide)),
    (h c).2 main_v63 (Pipeline.mem_restRefs_of main_v63 (by decide) (by decide)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c),
    ((h c).2 main_arg16 (Pipeline.mem_restRefs_of main_arg16 (by decide) (by decide))).trans (W_main_arg16 m (dats m) c),
    ((h c).2 main_arg17 (Pipeline.mem_restRefs_of main_arg17 (by decide) (by decide))).trans (W_main_arg17 m (dats m) c),
    ((h c).2 main_arg18 (Pipeline.mem_restRefs_of main_arg18 (by decide) (by decide))).trans (W_main_arg18 m (dats m) c),
    ((h c).2 main_arg19 (Pipeline.mem_restRefs_of main_arg19 (by decide) (by decide))).trans (W_main_arg19 m (dats m) c),
    ((h c).2 main_arg20 (Pipeline.mem_restRefs_of main_arg20 (by decide) (by decide))).trans (W_main_arg20 m (dats m) c)⟩)
    (run_main m ρ)

set_option maxHeartbeats 8000000 in
theorem algebraic : Cert.algebraic_Kernel3Ideal_Reference3Ideal_pre_finite_lb := by
  intro m g m' g' hpre hargs
  refine ⟨fun c => res m c main_v31, fun c => res m c main_v32, fun c => res m c main_v35, fun c => res m c main_v36, fun c => res m c main_v37, fun c => res m c main_v39, fun c => res m c main_v40, fun c => res m c main_v43, fun c => res m c main_v44, fun c => res m c main_v45, fun c => res m c main_v47, fun c => res m c main_v48, fun c => res m c main_v51, fun c => res m c main_v52, fun c => res m c main_v53, fun c => res m c main_v55, fun c => res m c main_v56, fun c => res m c main_v59, fun c => res m c main_v60, fun c => res m c main_v61, fun c => res m c main_v63, run m g, ?_⟩
  refine (θ_run _ _ _).mono (fun r h c => ?_) (Cert.Reference3Ideal.Value.run m' g')
  obtain ⟨hx, hl⟩ := fin_of m hpre c
  obtain ⟨h0, h1, h2, h3, h4, h5, h6, h7, h8, h9, h10, h11, h12, h13, h14, h15, h16, h17, h18, h19, h20, hk⟩ := h c
  obtain ⟨a0, a1, a2, a3, a4, a5, a6, a7, a8, a9, a10, a11, a12, a13, a14, a15, a16, a17, a18, a19, a20⟩ := hargs c
  refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, h16.trans ?_, h17.trans ?_, h18.trans ?_, h19.trans ?_, h20.trans ?_, hk⟩
  · rw [Cert.Reference3Ideal.Read.val_main_v174_eq]
    refine Eq.trans ?_ (eq_loss m c)
    repeat rw [StableHlo.launchContents_devRef]
    rw [a0]
  · rw [Cert.Reference3Ideal.Read.val_main_v48_eq]
    refine Eq.trans ?_ (eq_g_n1 m c)
    repeat rw [StableHlo.launchContents_devRef]
    rw [a1]
  · rw [Cert.Reference3Ideal.Read.val_main_v46_eq]
    refine Eq.trans ?_ (eq_g_lb m c hx hl)
    repeat rw [StableHlo.launchContents_devRef]
    rw [a2, a7]
  · rw [Cert.Reference3Ideal.Read.val_main_v50_eq]
    refine Eq.trans ?_ (eq_g_hn m c)
    repeat rw [StableHlo.launchContents_devRef]
    rw [a3]
  · rw [Cert.Reference3Ideal.Read.val_main_v52_eq]
    refine Eq.trans ?_ (eq_g_n2 m c)
    repeat rw [StableHlo.launchContents_devRef]
    rw [a4]
  · rw [Cert.Reference3Ideal.Read.val_main_v53_eq]
    refine Eq.trans ?_ (eq_g_fn m c)
    repeat rw [StableHlo.launchContents_devRef]
    rw [a5]
  · rw [Cert.Reference3Ideal.Read.val_main_v77_eq]
    refine Eq.trans ?_ (eq_d_n1 m c)
    repeat rw [StableHlo.launchContents_devRef]
    rw [a1, a6, a11, a16]
  · rw [Cert.Reference3Ideal.Read.val_main_v101_eq]
    refine Eq.trans ?_ (eq_d_lb m c hx hl)
    repeat rw [StableHlo.launchContents_devRef]
    rw [a2, a7, a12, a17]
  · rw [Cert.Reference3Ideal.Read.val_main_v125_eq]
    refine Eq.trans ?_ (eq_d_hn m c)
    repeat rw [StableHlo.launchContents_devRef]
    rw [a3, a8, a13, a18]
  · rw [Cert.Reference3Ideal.Read.val_main_v149_eq]
    refine Eq.trans ?_ (eq_d_n2 m c)
    repeat rw [StableHlo.launchContents_devRef]
    rw [a4, a9, a14, a19]
  · rw [Cert.Reference3Ideal.Read.val_main_v173_eq]
    refine Eq.trans ?_ (eq_d_fn m c)
    repeat rw [StableHlo.launchContents_devRef]
    rw [a5, a10, a15, a20]
  · rw [Cert.Reference3Ideal.Read.val_main_v58_eq]
    refine Eq.trans ?_ (eq_m_n1 m c)
    repeat rw [StableHlo.launchContents_devRef]
    rw [a1, a11]
  · rw [Cert.Reference3Ideal.Read.val_main_v82_eq]
    refine Eq.trans ?_ (eq_m_lb m c hx hl)
    repeat rw [StableHlo.launchContents_devRef]
    rw [a2, a7, a12]
  · rw [Cert.Reference3Ideal.Read.val_main_v106_eq]
    refine Eq.trans ?_ (eq_m_hn m c)
    repeat rw [StableHlo.launchContents_devRef]
    rw [a3, a13]
  · rw [Cert.Reference3Ideal.Read.val_main_v130_eq]
    refine Eq.trans ?_ (eq_m_n2 m c)
    repeat rw [StableHlo.launchContents_devRef]
    rw [a4, a14]
  · rw [Cert.Reference3Ideal.Read.val_main_v154_eq]
    refine Eq.trans ?_ (eq_m_fn m c)
    repeat rw [StableHlo.launchContents_devRef]
    rw [a5, a15]
  · rw [Cert.Reference3Ideal.Read.val_main_v64_eq]
    refine Eq.trans ?_ (eq_v_n1 m c)
    repeat rw [StableHlo.launchContents_devRef]
    rw [a1, a16]
  · rw [Cert.Reference3Ideal.Read.val_main_v88_eq]
    refine Eq.trans ?_ (eq_v_lb m c hx hl)
    repeat rw [StableHlo.launchContents_devRef]
    rw [a2, a7, a17]
  · rw [Cert.Reference3Ideal.Read.val_main_v112_eq]
    refine Eq.trans ?_ (eq_v_hn m c)
    repeat rw [StableHlo.launchContents_devRef]
    rw [a3, a18]
  · rw [Cert.Reference3Ideal.Read.val_main_v136_eq]
    refine Eq.trans ?_ (eq_v_n2 m c)
    repeat rw [StableHlo.launchContents_devRef]
    rw [a4, a19]
  · rw [Cert.Reference3Ideal.Read.val_main_v160_eq]
    refine Eq.trans ?_ (eq_v_fn m c)
    repeat rw [StableHlo.launchContents_devRef]
    rw [a5, a20]

theorem reference_frame : Cert.quiescent_Reference3Ideal := fun m g _ =>
  (θ_run _ _ _).mono (fun r h => ⟨fun c => (h c).2.2.2.2.2.2.2.2.2.2.2.2.2.2.2.2.2.2.2.2.2, sem_eq_zero_of_no_sems (by decide) r.2⟩)
    (Cert.Reference3Ideal.Value.run m g)

theorem kernel_frame : Cert.quiescent_Kernel3 := fun m ρ _ => Cert.Kernel3.Gen.frame m ρ
theorem kernelIdeal_frame : Cert.quiescent_Kernel3Ideal := fun m ρ _ => Cert.Kernel3Ideal.Gen.frame m ρ
theorem kernelIdeal_frame_pre : Cert.quiescent_Kernel3Ideal_pre_finite_lb := fun m ρ _ => Cert.Kernel3Ideal.Gen.frame m ρ
theorem reference_frame_pre : Cert.quiescent_Reference3Ideal_pre_finite_lb := fun m g _ => reference_frame m g trivial
theorem preserves : Cert.preserves_Kernel3_Kernel3Ideal := trivial

end Cert.Small
-- ==== Proof.Hgrn.Frames.lean ====
/- The frames of the gated linear recurrence's programs: the forward kernel and its reference, and the backward kernel. -/
module

public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Reference4Ideal.Run
public import proofs.«01_k».proof.Proof.Gen.Pre_finite_hgrn
public import proofs.«01_k».proof.Defs
public import Idealize.ShloMosaic.Lib.Claim

@[expose] public section

set_option maxRecDepth 16384

noncomputable section

namespace Cert.Hgrn

open Idealize.ShloMosaic Idealize.SL.Sem

local instance frameKernelFacts : Cert.Kernel4.Facts := Cert.Kernel4.Gen.facts
local instance frameIdealFacts : Cert.Kernel4Ideal.Facts := Cert.Kernel4Ideal.Gen.facts
local instance frameBackFacts : Cert.Kernel5.Facts := Cert.Kernel5.Gen.facts
local instance frameBackIdealFacts : Cert.Kernel5Ideal.Facts := Cert.Kernel5Ideal.Gen.facts
local instance frameReferenceFacts : Cert.Reference4Ideal.Facts := Cert.Reference4Ideal.Gen.facts
local instance framePreFacts : Cert.Pre_finite_hgrn.Facts := Cert.Pre_finite_hgrn.Gen.facts

theorem kernel_frame : Cert.quiescent_Kernel4 := fun m ρ _ => Cert.Kernel4.Gen.frame m ρ
theorem kernelIdeal_frame : Cert.quiescent_Kernel4Ideal := fun m ρ _ => Cert.Kernel4Ideal.Gen.frame m ρ
theorem kernelIdeal_frame_pre : Cert.quiescent_Kernel4Ideal_pre_finite_hgrn := fun m ρ _ => Cert.Kernel4Ideal.Gen.frame m ρ
theorem back_frame : Cert.quiescent_Kernel5 := fun m ρ _ => Cert.Kernel5.Gen.frame m ρ
theorem backIdeal_frame : Cert.quiescent_Kernel5Ideal := fun m ρ _ => Cert.Kernel5Ideal.Gen.frame m ρ
theorem reference_frame : Cert.quiescent_Reference4Ideal := fun m g _ =>
  (θ_run _ _ _).mono (fun r h => ⟨fun c => (h c).2.2.2, sem_eq_zero_of_no_sems (by decide) r.2⟩) (Cert.Reference4Ideal.Value.run m g)
theorem reference_frame_pre : Cert.quiescent_Reference4Ideal_pre_finite_hgrn := fun m g _ => reference_frame m g trivial
theorem preserves : Cert.preserves_Kernel4_Kernel4Ideal := trivial
theorem back_preserves : Cert.preserves_Kernel5_Kernel5Ideal := trivial

end Cert.Hgrn
-- ==== Proof.Hgrn.Ops.lean ====
/- The kernel's body as functions: what it prepares of 128 rows, and what it does with one of the four heads. The body states these
   lines once for every head and every 128 rows; here they are stated once. -/
module

public import proofs.«01_k».proof.Proof.Gen.Kernel4Ideal.Skeleton
public import Idealize.ShloMosaic.Lib.Pointwise

@[expose] public section

set_option maxRecDepth 16384

noncomputable section

namespace Cert.Hgrn

open Cert.Kernel4Ideal Cert.Kernel4Ideal.Gen Idealize.ShloMosaic Idealize.ShloMosaic.TcCoe

/-! ## 128 rows -/

section Rows
variable (x : Vec Ideal S128x2048 .f32) (l : Vec Ideal S2x512 .f32)

/-- The decay, its logarithm and the running sum of it. -/
def fV : FVec Ideal S128x512 .f32 := k0_pay14 x l
def lV : FVec Ideal S128x512 .f32 := k0_pay15 x l
def bV : FVec Ideal S128x512 .f32 := k0_pay16 (lV x l) (iota .tc S128x512 32 [0] iota_S128x512_d0_w32) 16#32 (Scalar.cmpi .eq 16#32 0#32) 1#32
/-- Row `r` of the running sum. -/
def row (r : ℕ) (h : S128x512.Slices ![r, 0] S1x512) (b : FVec Ideal S128x512 .f32) : FVec Ideal S1x512 .f32 := extractStridedSlice S1x512 ![r, 0] b h
/-- Each chunk's running sum in its middle. -/
def midV (b : FVec Ideal S128x512 .f32) : FVec Ideal S128x512 .f32 :=
  k0_pay23 b (row 7 slices_S128x512_o7_0_S1x512 b) (row 23 slices_S128x512_o23_0_S1x512 b) (row 39 slices_S128x512_o39_0_S1x512 b)
    (row 55 slices_S128x512_o55_0_S1x512 b) (row 71 slices_S128x512_o71_0_S1x512 b) (row 87 slices_S128x512_o87_0_S1x512 b)
/-- Each chunk's running sum at its end. -/
def totV (b : FVec Ideal S128x512 .f32) : FVec Ideal S128x512 .f32 := k0_pay24 b
def kV : FVec Ideal S128x512 .f32 := k0_pay25 (fV x l)
def qV : FVec Ideal S128x512 .f32 := k0_pay26 (k0_pay12 x)
def qiV : FVec Ideal S128x512 .f32 := mulf (qV x) (exp (subf (bV x l) (midV (bV x l))))
def kiV : FVec Ideal S128x512 .f32 := mulf (kV x l) (exp (subf (midV (bV x l)) (bV x l)))
def qsV : FVec Ideal S128x512 .f32 := mulf (qV x) (exp (bV x l))
def kbV : FVec Ideal S128x512 .f32 := mulf (kV x l) (exp (subf (totV (bV x l)) (bV x l)))
def etV : FVec Ideal S128x512 .f32 := exp (totV (bV x l))
def vV : FVec Ideal S128x512 .bf16 := k0_pay33 x
end Rows

/-! ## The masks -/

/-- Which rows of the same chunk a row sees. -/
def mA : IVec S128x128 1 := k0_pay7 (iota .tc S128x128 32 [0] iota_S128x128_d0_w32) (iota .tc S128x128 32 [1] iota_S128x128_d1_w32) k0_pay3 16#32 k0_pay4 k0_pay5 k0_pay6
/-- Which of the eight runs of columns belongs to a row's chunk. -/
def mB : IVec S128x1024 1 := k0_pay11 (iota .tc S128x1024 32 [1] iota_S128x1024_d1_w32) k0_pay8 128#32 k0_pay9 k0_pay10 0#32

/-! ## One head -/

/-- A head's 128 columns. -/
def cut {e : FTy} (o : ℕ) (h : S128x512.Slices ![0, o] S128x128) (y : FVec Ideal S128x512 e) : FVec Ideal S128x128 e := extractStridedSlice S128x128 ![0, o] y h

/-- What a chunk's rows add among themselves. -/
def intra (qi ki : FVec Ideal S128x128 .f32) (v : FVec Ideal S128x128 .bf16) : FVec Ideal S128x128 .f32 :=
  matmul dot_S128x128_S128x128_S128x128_1_0_0_1_n_n none
    (truncf .bf16 (select mA (matmul dot_S128x128_S128x128_S128x128_1_1_0_0_n_n none (truncf .bf16 qi bitsLt_bf16_f32) (truncf .bf16 ki bitsLt_bf16_f32)
      (constant S128x128 .f32 0x00000000#32)) (broadcast S128x128 (Scalar.ofBits .f32 0x00000000#32))) bitsLt_bf16_f32)
    v (constant S128x128 .f32 0x00000000#32)

/-- Eight copies side by side, each keeping its own chunk's rows. -/
def spread (y : FVec Ideal S128x128 .f32) : FVec Ideal S128x1024 .bf16 :=
  select mB (concatenate S128x1024 1 [⟨S128x128, truncf .bf16 y bitsLt_bf16_f32⟩, ⟨S128x128, truncf .bf16 y bitsLt_bf16_f32⟩, ⟨S128x128, truncf .bf16 y bitsLt_bf16_f32⟩, ⟨S128x128, truncf .bf16 y bitsLt_bf16_f32⟩,
      ⟨S128x128, truncf .bf16 y bitsLt_bf16_f32⟩, ⟨S128x128, truncf .bf16 y bitsLt_bf16_f32⟩, ⟨S128x128, truncf .bf16 y bitsLt_bf16_f32⟩, ⟨S128x128, truncf .bf16 y bitsLt_bf16_f32⟩]
      concatenates_S128x128_S128x128_S128x128_S128x128_S128x128_S128x128_S128x128_S128x128_S128x1024_d1)
    (broadcast S128x1024 (Scalar.ofBits .bf16 0x0000#16))

/-- What the eight chunks add to the state. -/
def upd (kb : FVec Ideal S128x128 .f32) (v : FVec Ideal S128x128 .bf16) : FVec Ideal S128x1024 .f32 :=
  matmul dot_S128x128_S128x1024_S128x1024_0_0_1_1_n_n none v (spread kb) (constant S128x1024 .f32 0x00000000#32)

/-- One chunk's step of the state. -/
def stC (e : FVec Ideal S1x128 .f32) (u : FVec Ideal S128x128 .f32) (s : FVec Ideal S128x128 .f32) : FVec Ideal S128x128 .f32 :=
  addf (mulf s (broadcastTo S128x128 e broadcasts_S1x128_S128x128)) u

/-- The first row of chunk `c` of a head, and the chunk's part of `upd`. -/
def er (r o : ℕ) (h : S128x512.Slices ![r, o] S1x128) (et : FVec Ideal S128x512 .f32) : FVec Ideal S1x128 .f32 := extractStridedSlice S1x128 ![r, o] et h
def ub (o : ℕ) (h : S128x1024.Slices ![0, o] S128x128) (u : FVec Ideal S128x1024 .f32) : FVec Ideal S128x128 .f32 := extractStridedSlice S128x128 ![0, o] u h

theorem sl_row (r o : ℕ) (hr : r < 128) (ho : o + 128 ≤ 512) : S128x512.Slices ![r, o] S1x128 :=
  ⟨rfl, fun a => match a with
    | ⟨0, _⟩ => hr
    | ⟨1, _⟩ => ho⟩
theorem sl_cut (o : ℕ) (ho : o + 128 ≤ 512) : S128x512.Slices ![0, o] S128x128 :=
  ⟨rfl, fun a => match a with
    | ⟨0, _⟩ => (by decide : 0 + 128 ≤ 128)
    | ⟨1, _⟩ => ho⟩

section Head
variable (o : ℕ) (ho : o + 128 ≤ 512) (et : FVec Ideal S128x512 .f32) (u : FVec Ideal S128x1024 .f32) (s : FVec Ideal S128x128 .f32)
/-- The state after one, two, … eight chunks. -/
def s1 : FVec Ideal S128x128 .f32 := stC (er 0 o (sl_row 0 o (by decide) ho) et) (ub 0 slices_S128x1024_o0_0_S128x128 u) s
def s2 : FVec Ideal S128x128 .f32 := stC (er 16 o (sl_row 16 o (by decide) ho) et) (ub 128 slices_S128x1024_o0_128_S128x128 u) (s1 o ho et u s)
def s3 : FVec Ideal S128x128 .f32 := stC (er 32 o (sl_row 32 o (by decide) ho) et) (ub 256 slices_S128x1024_o0_256_S128x128 u) (s2 o ho et u s)
def s4 : FVec Ideal S128x128 .f32 := stC (er 48 o (sl_row 48 o (by decide) ho) et) (ub 384 slices_S128x1024_o0_384_S128x128 u) (s3 o ho et u s)
def s5 : FVec Ideal S128x128 .f32 := stC (er 64 o (sl_row 64 o (by decide) ho) et) (ub 512 slices_S128x1024_o0_512_S128x128 u) (s4 o ho et u s)
def s6 : FVec Ideal S128x128 .f32 := stC (er 80 o (sl_row 80 o (by decide) ho) et) (ub 640 slices_S128x1024_o0_640_S128x128 u) (s5 o ho et u s)
def s7 : FVec Ideal S128x128 .f32 := stC (er 96 o (sl_row 96 o (by decide) ho) et) (ub 768 slices_S128x1024_o0_768_S128x128 u) (s6 o ho et u s)
def s8 : FVec Ideal S128x128 .f32 := stC (er 112 o (sl_row 112 o (by decide) ho) et) (ub 896 slices_S128x1024_o0_896_S128x128 u) (s7 o ho et u s)

/-- What the chunks' first states add to the output. -/
def inter (qs : FVec Ideal S128x128 .f32) : FVec Ideal S128x128 .f32 :=
  matmul dot_S128x1024_S128x1024_S128x128_1_1_0_0_n_n none (spread qs)
    (concatenate S128x1024 1 [⟨S128x128, truncf .bf16 s bitsLt_bf16_f32⟩, ⟨S128x128, truncf .bf16 (s1 o ho et u s) bitsLt_bf16_f32⟩,
      ⟨S128x128, truncf .bf16 (s2 o ho et u s) bitsLt_bf16_f32⟩, ⟨S128x128, truncf .bf16 (s3 o ho et u s) bitsLt_bf16_f32⟩,
      ⟨S128x128, truncf .bf16 (s4 o ho et u s) bitsLt_bf16_f32⟩, ⟨S128x128, truncf .bf16 (s5 o ho et u s) bitsLt_bf16_f32⟩,
      ⟨S128x128, truncf .bf16 (s6 o ho et u s) bitsLt_bf16_f32⟩, ⟨S128x128, truncf .bf16 (s7 o ho et u s) bitsLt_bf16_f32⟩]
      concatenates_S128x128_S128x128_S128x128_S128x128_S128x128_S128x128_S128x128_S128x128_S128x1024_d1)
    (constant S128x128 .f32 0x00000000#32)
end Head

section Sub
variable (o : ℕ) (ho : o + 128 ≤ 512) (x : Vec Ideal S128x2048 .f32) (l : Vec Ideal S2x512 .f32) (s : FVec Ideal S128x128 .f32)
/-- The head at columns `o` on: what its chunks add to the state, the state after the 128 rows, and the output. -/
def hU : FVec Ideal S128x1024 .f32 := upd (cut o (sl_cut o ho) (kbV x l)) (cut o (sl_cut o ho) (vV x))
def hS : FVec Ideal S128x128 .f32 := s8 o ho (etV x l) (hU o ho x l) s
def hO : FVec Ideal S128x128 .f32 :=
  addf (intra (cut o (sl_cut o ho) (qiV x l)) (cut o (sl_cut o ho) (kiV x l)) (cut o (sl_cut o ho) (vV x)))
    (inter o ho (etV x l) (hU o ho x l) s (cut o (sl_cut o ho) (qsV x l)))
end Sub

/-- The heads' outputs side by side. -/
def join (a b c d : FVec Ideal S128x128 .f32) : FVec Ideal S128x512 .f32 :=
  concatenate S128x512 1 [⟨S128x128, a⟩, ⟨S128x128, b⟩, ⟨S128x128, c⟩, ⟨S128x128, d⟩] concatenates_S128x128_S128x128_S128x128_S128x128_S128x512_d1

/-- The gated and normalised output of 128 rows. -/
def yV (x : Vec Ideal S128x2048 .f32) (w : Vec Ideal S1x512 .f32) (a b c d : FVec Ideal S128x128 .f32) : FVec Ideal S128x512 .f32 :=
  k0_pay123 (k0_pay13 x) (k0_pay120 a b c d (k0_pay119 a) w) (k0_pay121 (k0_pay13 x)) k0_pay122

end Cert.Hgrn
-- ==== Proof.Hgrn.Blocks.lean ====
module

public import proofs.«01_k».proof.Proof.Gen.Kernel4Ideal.Frame
public import proofs.«01_k».proof.Proof.Hgrn.Ops
public import Idealize.ShloMosaic.Lib.Pipeline.ReadBack

/-! # What one grid point of the forward recurrence stores

One point takes 256 rows, as two runs of 128 rows one after the other, and for each of the four heads a state of 128 by 128.  The states are
read at its start from the scratch buffer (at the first point from zeros just stored there), and each is stored again after each run. -/

@[expose] public section
set_option maxRecDepth 65536
noncomputable section
namespace Cert.Hgrn
open Cert.Kernel4Ideal Cert.Kernel4Ideal.Gen Idealize.ShloMosaic Idealize.ShloMosaic.TcCoe

/-- The first and the last 128 rows of a block. -/
def lo (x : Vec Ideal S256x2048 .f32) : Vec Ideal S128x2048 .f32 := View.ld x (Rect.unit ![0, 0] ![128, 2048] inb_S256x2048_S128x2048_0_0)
def hi (x : Vec Ideal S256x2048 .f32) : Vec Ideal S128x2048 .f32 := View.ld x (Rect.unit ![128, 0] ![128, 2048] inb_S256x2048_S128x2048_128_0)

/-- A head's state as a matrix, and as it lies in the scratch buffer. -/
def sq (s : FVec Ideal S1x128x128 .f32) : FVec Ideal S128x128 .f32 := shapeCast S128x128 s shapeCasts_S1x128x128_S128x128
def un (s : FVec Ideal S128x128 .f32) : FVec Ideal S1x128x128 .f32 := shapeCast S1x128x128 s shapeCasts_S128x128_S1x128x128

/-- The part of the scratch buffer that head `h` holds. -/
def hd (h : ℕ) (inb : ∀ a, ![h, 0, 0] a + ![1, 128, 128] a ≤ S4x128x128.size a) (s : Vec Ideal S4x128x128 .f32) : FVec Ideal S1x128x128 .f32 :=
  View.ld s (Rect.unit ![h, 0, 0] ![1, 128, 128] inb)

section Point
variable (x : Vec Ideal S256x2048 .f32) (l : Vec Ideal S2x512 .f32) (s : Vec Ideal S4x128x128 .f32)

/-- Head 0's state at the start of the point, after its first run and after its second. -/
def t00 : FVec Ideal S1x128x128 .f32 := hd 0 inb_S4x128x128_S1x128x128_0_0_0 s
def t01 : FVec Ideal S1x128x128 .f32 := un (hS 0 (by decide) (lo x) l (sq (t00 s)))
def t02 : FVec Ideal S1x128x128 .f32 := un (hS 0 (by decide) (hi x) l (sq (t01 x l s)))
/-- Head 0's output for the two runs. -/
def o00 : FVec Ideal S128x128 .f32 := hO 0 (by decide) (lo x) l (sq (t00 s))
def o01 : FVec Ideal S128x128 .f32 := hO 0 (by decide) (hi x) l (sq (t01 x l s))

/-- Head 1's state at the start of the point, after its first run and after its second. -/
def t10 : FVec Ideal S1x128x128 .f32 := hd 1 inb_S4x128x128_S1x128x128_1_0_0 s
def t11 : FVec Ideal S1x128x128 .f32 := un (hS 128 (by decide) (lo x) l (sq (t10 s)))
def t12 : FVec Ideal S1x128x128 .f32 := un (hS 128 (by decide) (hi x) l (sq (t11 x l s)))
/-- Head 1's output for the two runs. -/
def o10 : FVec Ideal S128x128 .f32 := hO 128 (by decide) (lo x) l (sq (t10 s))
def o11 : FVec Ideal S128x128 .f32 := hO 128 (by decide) (hi x) l (sq (t11 x l s))

/-- Head 2's state at the start of the point, after its first run and after its second. -/
def t20 : FVec Ideal S1x128x128 .f32 := hd 2 inb_S4x128x128_S1x128x128_2_0_0 s
def t21 : FVec Ideal S1x128x128 .f32 := un (hS 256 (by decide) (lo x) l (sq (t20 s)))
def t22 : FVec Ideal S1x128x128 .f32 := un (hS 256 (by decide) (hi x) l (sq (t21 x l s)))
/-- Head 2's output for the two runs. -/
def o20 : FVec Ideal S128x128 .f32 := hO 256 (by decide) (lo x) l (sq (t20 s))
def o21 : FVec Ideal S128x128 .f32 := hO 256 (by decide) (hi x) l (sq (t21 x l s))

/-- Head 3's state at the start of the point, after its first run and after its second. -/
def t30 : FVec Ideal S1x128x128 .f32 := hd 3 inb_S4x128x128_S1x128x128_3_0_0 s
def t31 : FVec Ideal S1x128x128 .f32 := un (hS 384 (by decide) (lo x) l (sq (t30 s)))
def t32 : FVec Ideal S1x128x128 .f32 := un (hS 384 (by decide) (hi x) l (sq (t31 x l s)))
/-- Head 3's output for the two runs. -/
def o30 : FVec Ideal S128x128 .f32 := hO 384 (by decide) (lo x) l (sq (t30 s))
def o31 : FVec Ideal S128x128 .f32 := hO 384 (by decide) (hi x) l (sq (t31 x l s))

/-- The stores of a point, the last first. -/
def oPieces : List (View.Piece (Elt Ideal) S256x512 .f32) :=
  [⟨Rect.unit ![128, 0] ![128, 512] inb_S256x512_S128x512_128_0, join (o01 x l s) (o11 x l s) (o21 x l s) (o31 x l s)⟩,
   ⟨Rect.unit ![0, 0] ![128, 512] inb_S256x512_S128x512_0_0, join (o00 x l s) (o10 x l s) (o20 x l s) (o30 x l s)⟩]
def yPieces (w : Vec Ideal S1x512 .f32) : List (View.Piece (Elt Ideal) S256x512 .f32) :=
  [⟨Rect.unit ![128, 0] ![128, 512] inb_S256x512_S128x512_128_0, yV (hi x) w (o01 x l s) (o11 x l s) (o21 x l s) (o31 x l s)⟩,
   ⟨Rect.unit ![0, 0] ![128, 512] inb_S256x512_S128x512_0_0, yV (lo x) w (o00 x l s) (o10 x l s) (o20 x l s) (o30 x l s)⟩]
def stPieces : List (View.Piece (Elt Ideal) S2x4x128x128 .f32) :=
  [⟨Rect.unit ![1, 3, 0, 0] ![1, 1, 128, 128] inb_S2x4x128x128_S1x1x128x128_1_3_0_0, shapeCast S1x1x128x128 (sq (t31 x l s)) shapeCasts_S128x128_S1x1x128x128⟩,
   ⟨Rect.unit ![1, 2, 0, 0] ![1, 1, 128, 128] inb_S2x4x128x128_S1x1x128x128_1_2_0_0, shapeCast S1x1x128x128 (sq (t21 x l s)) shapeCasts_S128x128_S1x1x128x128⟩,
   ⟨Rect.unit ![1, 1, 0, 0] ![1, 1, 128, 128] inb_S2x4x128x128_S1x1x128x128_1_1_0_0, shapeCast S1x1x128x128 (sq (t11 x l s)) shapeCasts_S128x128_S1x1x128x128⟩,
   ⟨Rect.unit ![1, 0, 0, 0] ![1, 1, 128, 128] inb_S2x4x128x128_S1x1x128x128_1_0_0_0, shapeCast S1x1x128x128 (sq (t01 x l s)) shapeCasts_S128x128_S1x1x128x128⟩,
   ⟨Rect.unit ![0, 3, 0, 0] ![1, 1, 128, 128] inb_S2x4x128x128_S1x1x128x128_0_3_0_0, shapeCast S1x1x128x128 (sq (t30 s)) shapeCasts_S128x128_S1x1x128x128⟩,
   ⟨Rect.unit ![0, 2, 0, 0] ![1, 1, 128, 128] inb_S2x4x128x128_S1x1x128x128_0_2_0_0, shapeCast S1x1x128x128 (sq (t20 s)) shapeCasts_S128x128_S1x1x128x128⟩,
   ⟨Rect.unit ![0, 1, 0, 0] ![1, 1, 128, 128] inb_S2x4x128x128_S1x1x128x128_0_1_0_0, shapeCast S1x1x128x128 (sq (t10 s)) shapeCasts_S128x128_S1x1x128x128⟩,
   ⟨Rect.unit ![0, 0, 0, 0] ![1, 1, 128, 128] inb_S2x4x128x128_S1x1x128x128_0_0_0_0, shapeCast S1x1x128x128 (sq (t00 s)) shapeCasts_S128x128_S1x1x128x128⟩]
def scPieces : List (View.Piece (Elt Ideal) S4x128x128 .f32) :=
  [⟨Rect.unit ![3, 0, 0] ![1, 128, 128] inb_S4x128x128_S1x128x128_3_0_0, t32 x l s⟩,
   ⟨Rect.unit ![2, 0, 0] ![1, 128, 128] inb_S4x128x128_S1x128x128_2_0_0, t22 x l s⟩,
   ⟨Rect.unit ![1, 0, 0] ![1, 128, 128] inb_S4x128x128_S1x128x128_1_0_0, t12 x l s⟩,
   ⟨Rect.unit ![0, 0, 0] ![1, 128, 128] inb_S4x128x128_S1x128x128_0_0_0, t02 x l s⟩,
   ⟨Rect.unit ![3, 0, 0] ![1, 128, 128] inb_S4x128x128_S1x128x128_3_0_0, t31 x l s⟩,
   ⟨Rect.unit ![2, 0, 0] ![1, 128, 128] inb_S4x128x128_S1x128x128_2_0_0, t21 x l s⟩,
   ⟨Rect.unit ![1, 0, 0] ![1, 128, 128] inb_S4x128x128_S1x128x128_1_0_0, t11 x l s⟩,
   ⟨Rect.unit ![0, 0, 0] ![1, 128, 128] inb_S4x128x128_S1x128x128_0_0_0, t01 x l s⟩]
end Point

section Runs
variable (c : Dev nD) (i : grid0.Coords) (arg1 : Memref sig .tc .vmem S256x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x4x128x128 .f32) (harg6 : arg6.IsWhole) (arg7 : Memref sig .tc .vmem S4x128x128 .f32) (harg7 : arg7.IsWhole)
  (x0 : Vec Ideal S256x2048 .f32) (x1 : Vec Ideal S2x512 .f32) (x2 : Vec Ideal S1x512 .f32)

theorem hz2 : (![0, 0] : Fin 2 → Nat) = fun _ => 0 := by funext a; fin_cases a <;> rfl

theorem runA_3 (hc0 : cond0_0 i) : out0_A_3 c i arg1 harg1 arg2 harg2 arg3 harg3 arg4 harg4 arg5 harg5 arg6 harg6 arg7 harg7 hc0 x0 x1 x2 = View.canon (yPieces x0 x1 (k0_pay2 (F := Ideal)) x2) := by
  unfold out0_A_3
  rw [View.read_writes_eq_canon _ _ _ (cover0_A_3 c i arg1 harg1 arg2 harg2 arg3 harg3 arg4 harg4 arg5 harg5 arg6 harg6 arg7 harg7 hc0 x0 x1 x2)]
  unfold kernelRun0_A
  dsimp only
  sl_unfold_words
  simp (disch := decide) only [↓View.readCov_skip, ↓View.readCov_cons_toLoadRect, ↓View.readCov_fill]
  simp only [View.readAt_eq_ld, harg1.read_unread, harg2.read_unread, harg3.read_unread, harg7.read_unread, View.ld_unit_zero (S := S2x512) hz2, View.ld_unit_zero (S := S1x512) hz2]
  rfl

theorem runA_4 (hc0 : cond0_0 i) : out0_A_4 c i arg1 harg1 arg2 harg2 arg3 harg3 arg4 harg4 arg5 harg5 arg6 harg6 arg7 harg7 hc0 x0 x1 x2 = View.canon (oPieces x0 x1 (k0_pay2 (F := Ideal))) := by
  unfold out0_A_4
  rw [View.read_writes_eq_canon _ _ _ (cover0_A_4 c i arg1 harg1 arg2 harg2 arg3 harg3 arg4 harg4 arg5 harg5 arg6 harg6 arg7 harg7 hc0 x0 x1 x2)]
  unfold kernelRun0_A
  dsimp only
  sl_unfold_words
  simp (disch := decide) only [↓View.readCov_skip, ↓View.readCov_cons_toLoadRect, ↓View.readCov_fill]
  simp only [View.readAt_eq_ld, harg1.read_unread, harg2.read_unread, harg3.read_unread, harg7.read_unread, View.ld_unit_zero (S := S2x512) hz2, View.ld_unit_zero (S := S1x512) hz2]
  rfl

theorem runA_5 (hc0 : cond0_0 i) : out0_A_5 c i arg1 harg1 arg2 harg2 arg3 harg3 arg4 harg4 arg5 harg5 arg6 harg6 arg7 harg7 hc0 x0 x1 x2 = View.canon (stPieces x0 x1 (k0_pay2 (F := Ideal))) := by
  unfold out0_A_5
  rw [View.read_writes_eq_canon _ _ _ (cover0_A_5 c i arg1 harg1 arg2 harg2 arg3 harg3 arg4 harg4 arg5 harg5 arg6 harg6 arg7 harg7 hc0 x0 x1 x2)]
  unfold kernelRun0_A
  dsimp only
  sl_unfold_words
  simp (disch := decide) only [↓View.readCov_skip, ↓View.readCov_cons_toLoadRect, ↓View.readCov_fill]
  simp only [View.readAt_eq_ld, harg1.read_unread, harg2.read_unread, harg3.read_unread, harg7.read_unread, View.ld_unit_zero (S := S2x512) hz2, View.ld_unit_zero (S := S1x512) hz2]
  rfl

theorem srunA_0 (hc0 : cond0_0 i) : sout0_A_0 c i arg1 harg1 arg2 harg2 arg3 harg3 arg4 harg4 arg5 harg5 arg6 harg6 arg7 harg7 hc0 x0 x1 x2 = View.canon (scPieces x0 x1 (k0_pay2 (F := Ideal)) ++ [⟨Rect.unit ![0, 0, 0] ![4, 128, 128] inb_S4x128x128_S4x128x128_0_0_0, k0_pay2 (F := Ideal)⟩]) := by
  unfold sout0_A_0
  rw [View.read_writes_eq_canon _ _ _ (scover0_A_0 c i arg1 harg1 arg2 harg2 arg3 harg3 arg4 harg4 arg5 harg5 arg6 harg6 arg7 harg7 hc0 x0 x1 x2)]
  unfold kernelRun0_A
  dsimp only
  sl_unfold_words
  simp (disch := decide) only [↓View.readCov_skip, ↓View.readCov_cons_toLoadRect, ↓View.readCov_fill]
  simp only [View.readAt_eq_ld, harg1.read_unread, harg2.read_unread, harg3.read_unread, harg7.read_unread, View.ld_unit_zero (S := S2x512) hz2, View.ld_unit_zero (S := S1x512) hz2]
  rfl

theorem runB_3 (hc0 : ¬cond0_0 i) (xs0 : Vec Ideal S4x128x128 .f32) : out0_B_3 c i arg1 harg1 arg2 harg2 arg3 harg3 arg4 harg4 arg5 harg5 arg6 harg6 arg7 harg7 hc0 x0 x1 x2 xs0 = View.canon (yPieces x0 x1 xs0 x2) := by
  unfold out0_B_3
  rw [View.read_writes_eq_canon _ _ _ (cover0_B_3 c i arg1 harg1 arg2 harg2 arg3 harg3 arg4 harg4 arg5 harg5 arg6 harg6 arg7 harg7 hc0 x0 x1 x2 xs0)]
  unfold kernelRun0_B
  dsimp only
  sl_unfold_words
  simp (disch := decide) only [↓View.readCov_skip, ↓View.readCov_cons_toLoadRect, ↓View.readCov_fill]
  simp only [View.readAt_eq_ld, harg1.read_unread, harg2.read_unread, harg3.read_unread, harg7.read_unread, View.ld_unit_zero (S := S2x512) hz2, View.ld_unit_zero (S := S1x512) hz2]
  rfl

theorem runB_4 (hc0 : ¬cond0_0 i) (xs0 : Vec Ideal S4x128x128 .f32) : out0_B_4 c i arg1 harg1 arg2 harg2 arg3 harg3 arg4 harg4 arg5 harg5 arg6 harg6 arg7 harg7 hc0 x0 x1 x2 xs0 = View.canon (oPieces x0 x1 xs0) := by
  unfold out0_B_4
  rw [View.read_writes_eq_canon _ _ _ (cover0_B_4 c i arg1 harg1 arg2 harg2 arg3 harg3 arg4 harg4 arg5 harg5 arg6 harg6 arg7 harg7 hc0 x0 x1 x2 xs0)]
  unfold kernelRun0_B
  dsimp only
  sl_unfold_words
  simp (disch := decide) only [↓View.readCov_skip, ↓View.readCov_cons_toLoadRect, ↓View.readCov_fill]
  simp only [View.readAt_eq_ld, harg1.read_unread, harg2.read_unread, harg3.read_unread, harg7.read_unread, View.ld_unit_zero (S := S2x512) hz2, View.ld_unit_zero (S := S1x512) hz2]
  rfl

theorem runB_5 (hc0 : ¬cond0_0 i) (xs0 : Vec Ideal S4x128x128 .f32) : out0_B_5 c i arg1 harg1 arg2 harg2 arg3 harg3 arg4 harg4 arg5 harg5 arg6 harg6 arg7 harg7 hc0 x0 x1 x2 xs0 = View.canon (stPieces x0 x1 xs0) := by
  unfold out0_B_5
  rw [View.read_writes_eq_canon _ _ _ (cover0_B_5 c i arg1 harg1 arg2 harg2 arg3 harg3 arg4 harg4 arg5 harg5 arg6 harg6 arg7 harg7 hc0 x0 x1 x2 xs0)]
  unfold kernelRun0_B
  dsimp only
  sl_unfold_words
  simp (disch := decide) only [↓View.readCov_skip, ↓View.readCov_cons_toLoadRect, ↓View.readCov_fill]
  simp only [View.readAt_eq_ld, harg1.read_unread, harg2.read_unread, harg3.read_unread, harg7.read_unread, View.ld_unit_zero (S := S2x512) hz2, View.ld_unit_zero (S := S1x512) hz2]
  rfl

theorem srunB_0 (hc0 : ¬cond0_0 i) (xs0 : Vec Ideal S4x128x128 .f32) : sout0_B_0 c i arg1 harg1 arg2 harg2 arg3 harg3 arg4 harg4 arg5 harg5 arg6 harg6 arg7 harg7 hc0 x0 x1 x2 xs0 = View.canon (scPieces x0 x1 xs0) := by
  unfold sout0_B_0
  rw [View.read_writes_eq_canon _ _ _ (scover0_B_0 c i arg1 harg1 arg2 harg2 arg3 harg3 arg4 harg4 arg5 harg5 arg6 harg6 arg7 harg7 hc0 x0 x1 x2 xs0)]
  unfold kernelRun0_B
  dsimp only
  sl_unfold_words
  simp (disch := decide) only [↓View.readCov_skip, ↓View.readCov_cons_toLoadRect, ↓View.readCov_fill]
  simp only [View.readAt_eq_ld, harg1.read_unread, harg2.read_unread, harg3.read_unread, harg7.read_unread, View.ld_unit_zero (S := S2x512) hz2, View.ld_unit_zero (S := S1x512) hz2]
  rfl

end Runs
end Cert.Hgrn
-- ==== Proof.Hgrn.Math.lean ====
/- The recurrence over the real numbers, and its chunkwise form: sixteen positions at a time, through exponentials of sums of
   logarithms of the decay. `f` is the decay, `k` the input gate `1 - f`, `v` the input and `q` the query of one head. -/
module

public import proofs.«01_k».proof.Proof.Finite

@[expose] public section

noncomputable section

namespace Cert.Hgrn

open Finset

/-- One head's rows: a real for every position and lane. -/
abbrev Rows := ℕ → Fin 128 → ℝ

/-- The state before position `n`. -/
def St (f k v : Rows) : ℕ → Fin 128 → Fin 128 → ℝ
  | 0 => fun _ _ => 0
  | n + 1 => fun d e => f n d * St f k v n d e + k n d * v n e

/-- The output of position `t`. -/
def out (f k v q : Rows) (t : ℕ) (e : Fin 128) : ℝ := ∑ d, q t d * St f k v (t + 1) d e

/-- The sum of the decay's logarithms over the positions `n` to `n + r`. -/
def ls (f : Rows) (n r : ℕ) (d : Fin 128) : ℝ := ∑ i ∈ range (r + 1), Real.log (f (n + i) d)

theorem ls_succ (f : Rows) (n r : ℕ) (d : Fin 128) : ls f n (r + 1) d = ls f n r d + Real.log (f (n + (r + 1)) d) :=
  sum_range_succ _ _

/-- The state `r + 1` positions after position `n`, from the state at `n`. -/
theorem St_chunk (f k v : Rows) (hf : ∀ t d, 0 < f t d) (n r : ℕ) (d e : Fin 128) :
    St f k v (n + (r + 1)) d e = Real.exp (ls f n r d) * St f k v n d e
      + ∑ i ∈ range (r + 1), Real.exp (ls f n r d - ls f n i d) * k (n + i) d * v (n + i) e := by
  induction r with
  | zero =>
    simp only [zero_add, range_one, sum_singleton, add_zero, sub_self, Real.exp_zero, one_mul]
    show f n d * St f k v n d e + k n d * v n e = _
    rw [ls, zero_add, range_one, sum_singleton, add_zero, Real.exp_log (hf n d)]
  | succ r ih =>
    show f (n + (r + 1)) d * St f k v (n + (r + 1)) d e + k (n + (r + 1)) d * v (n + (r + 1)) e = _
    rw [ih, sum_range_succ _ (r + 1), sub_self, Real.exp_zero, one_mul, mul_add, mul_sum, ls_succ, Real.exp_add, Real.exp_log (hf _ d)]
    have hs : ∀ i ∈ range (r + 1), f (n + (r + 1)) d * (Real.exp (ls f n r d - ls f n i d) * k (n + i) d * v (n + i) e)
        = Real.exp (ls f n r d + Real.log (f (n + (r + 1)) d) - ls f n i d) * k (n + i) d * v (n + i) e := fun i _ => by
      rw [add_sub_right_comm, Real.exp_add, Real.exp_log (hf _ d)]; ring_nf
    rw [sum_congr rfl hs, add_assoc]
    congr 1
    ring

/-- A sum in which only the `c`-th run of `w` terms counts. -/
theorem sum_run (w T c : ℕ) (hw : 0 < w) (h : w * c + w ≤ T) (g : ℕ → ℝ) :
    ∑ x : Fin T, (if x.val / w = c then g x.val else 0) = ∑ i ∈ range w, g (w * c + i) := by
  rw [← Finset.sum_range fun x => if x / w = c then g x else 0, ← sum_filter]
  have e : (range T).filter (fun x => x / w = c) = (range w).map (addLeftEmbedding (w * c)) := by
    ext x
    simp only [mem_filter, mem_range, mem_map, addLeftEmbedding_apply]
    constructor
    · rintro ⟨_, rfl⟩
      exact ⟨x % w, Nat.mod_lt _ hw, Nat.div_add_mod x w⟩
    · rintro ⟨i, hi, rfl⟩
      exact ⟨by omega, by rw [Nat.mul_add_div hw, Nat.div_eq_of_lt hi, add_zero]⟩
  rw [e, sum_map]; rfl

/-- Row `x`'s running sum within its chunk of sixteen, its middle and its total. `N` is the first position of the 128 rows. -/
def bS (f : Rows) (N x : ℕ) (d : Fin 128) : ℝ := ls f (N + 16 * (x / 16)) (x % 16) d
def midS (f : Rows) (N x : ℕ) (d : Fin 128) : ℝ := ls f (N + 16 * (x / 16)) 7 d
def totS (f : Rows) (N x : ℕ) (d : Fin 128) : ℝ := ls f (N + 16 * (x / 16)) 15 d

/-- One chunk's step of the state. -/
theorem St_step (f k v : Rows) (hf : ∀ t d, 0 < f t d) (N c : ℕ) (hc : c < 8) (d e : Fin 128) :
    St f k v (N + 16 * c) d e * Real.exp (totS f N (16 * c) d)
        + ∑ x : Fin 128, v (N + x.val) e * (if x.val / 16 = c then k (N + x.val) d * Real.exp (totS f N x.val d - bS f N x.val d) else 0)
      = St f k v (N + 16 * (c + 1)) d e := by
  have hs : ∀ x : Fin 128, v (N + x.val) e * (if x.val / 16 = c then k (N + x.val) d * Real.exp (totS f N x.val d - bS f N x.val d) else 0)
      = if x.val / 16 = c then v (N + x.val) e * (k (N + x.val) d * Real.exp (totS f N x.val d - bS f N x.val d)) else 0 := fun x => by
    split <;> simp
  rw [sum_congr rfl fun x _ => hs x,
    sum_run 16 128 c (by decide) (by omega) fun x => v (N + x) e * (k (N + x) d * Real.exp (totS f N x d - bS f N x d)),
    show N + 16 * (c + 1) = N + 16 * c + (15 + 1) by ring, St_chunk f k v hf, mul_comm]
  congr 1
  · rw [totS, Nat.mul_div_cancel_left c (by decide)]
  · refine sum_congr rfl fun i hi => ?_
    have h16 : i < 16 := mem_range.mp hi
    rw [totS, bS, show (16 * c + i) / 16 = c by omega, show (16 * c + i) % 16 = i by omega, ← add_assoc]; ring

/-- The kernel's output: what a chunk's rows add among themselves, and what the chunk's first state adds. -/
theorem out_step (f k v q : Rows) (hf : ∀ t d, 0 < f t d) (N t : ℕ) (ht : t < 128) (e : Fin 128) :
    (∑ x : Fin 128, (if x.val ≤ t ∧ x.val / 16 = t / 16 then
          ∑ d, (q (N + t) d * Real.exp (bS f N t d - midS f N t d)) * (k (N + x.val) d * Real.exp (midS f N x.val d - bS f N x.val d)) else 0) * v (N + x.val) e)
        + ∑ j : Fin 1024, (if j.val / 128 = t / 16 then q (N + t) ⟨j.val % 128, Nat.mod_lt _ (by decide)⟩ * Real.exp (bS f N t ⟨j.val % 128, Nat.mod_lt _ (by decide)⟩) else 0)
            * St f k v (N + 16 * (j.val / 128)) ⟨j.val % 128, Nat.mod_lt _ (by decide)⟩ e
      = out f k v q (N + t) e := by
  obtain ⟨c, r, hc, hr, rfl⟩ : ∃ c r, c < 8 ∧ r < 16 ∧ t = 16 * c + r := ⟨t / 16, t % 16, by omega, by omega, by omega⟩
  have hd : (16 * c + r) / 16 = c := by omega
  have hm : (16 * c + r) % 16 = r := by omega
  rw [hd]
  -- the chunk's own rows
  have h1 : ∀ x : Fin 128, (if x.val ≤ 16 * c + r ∧ x.val / 16 = c then
        ∑ d, (q (N + (16 * c + r)) d * Real.exp (bS f N (16 * c + r) d - midS f N (16 * c + r) d)) * (k (N + x.val) d * Real.exp (midS f N x.val d - bS f N x.val d)) else 0) * v (N + x.val) e
      = if x.val / 16 = c then (if x.val ≤ 16 * c + r then
        (∑ d, (q (N + (16 * c + r)) d * Real.exp (bS f N (16 * c + r) d - midS f N (16 * c + r) d)) * (k (N + x.val) d * Real.exp (midS f N x.val d - bS f N x.val d))) * v (N + x.val) e else 0) else 0 := fun x => by
    by_cases a : x.val ≤ 16 * c + r <;> by_cases b : x.val / 16 = c <;> simp [a, b]
  rw [sum_congr rfl fun x _ => h1 x,
    sum_run 16 128 c (by decide) (by omega) fun x => if x ≤ 16 * c + r then
        (∑ d, (q (N + (16 * c + r)) d * Real.exp (bS f N (16 * c + r) d - midS f N (16 * c + r) d)) * (k (N + x) d * Real.exp (midS f N x d - bS f N x d))) * v (N + x) e else 0,
    ← sum_filter]
  have e1 : (range 16).filter (fun i => 16 * c + i ≤ 16 * c + r) = range (r + 1) := by
    ext i; simp only [mem_filter, mem_range]; omega
  rw [e1]
  -- the first state
  have h2 : ∀ j : Fin 1024, (if j.val / 128 = c then q (N + (16 * c + r)) ⟨j.val % 128, Nat.mod_lt _ (by decide)⟩ * Real.exp (bS f N (16 * c + r) ⟨j.val % 128, Nat.mod_lt _ (by decide)⟩) else 0)
            * St f k v (N + 16 * (j.val / 128)) ⟨j.val % 128, Nat.mod_lt _ (by decide)⟩ e
      = if j.val / 128 = c then q (N + (16 * c + r)) ⟨j.val % 128, Nat.mod_lt _ (by decide)⟩ * Real.exp (bS f N (16 * c + r) ⟨j.val % 128, Nat.mod_lt _ (by decide)⟩)
            * St f k v (N + 16 * (j.val / 128)) ⟨j.val % 128, Nat.mod_lt _ (by decide)⟩ e else 0 := fun j => by
    split <;> simp
  rw [sum_congr rfl fun j _ => h2 j,
    sum_run 128 1024 c (by decide) (by omega) fun j => q (N + (16 * c + r)) ⟨j % 128, Nat.mod_lt _ (by decide)⟩ * Real.exp (bS f N (16 * c + r) ⟨j % 128, Nat.mod_lt _ (by decide)⟩)
            * St f k v (N + 16 * (j / 128)) ⟨j % 128, Nat.mod_lt _ (by decide)⟩ e,
    Finset.sum_range (n := 128)]
  have h3 : ∀ d : Fin 128, q (N + (16 * c + r)) ⟨(128 * c + d.val) % 128, Nat.mod_lt _ (by decide)⟩ * Real.exp (bS f N (16 * c + r) ⟨(128 * c + d.val) % 128, Nat.mod_lt _ (by decide)⟩)
            * St f k v (N + 16 * ((128 * c + d.val) / 128)) ⟨(128 * c + d.val) % 128, Nat.mod_lt _ (by decide)⟩ e
      = q (N + (16 * c + r)) d * Real.exp (bS f N (16 * c + r) d) * St f k v (N + 16 * c) d e := fun d => by
    have hd' : (⟨(128 * c + d.val) % 128, Nat.mod_lt _ (by decide)⟩ : Fin 128) = d := Fin.ext (by show _ % 128 = _; omega)
    rw [hd', show (128 * c + d.val) / 128 = c by omega]
  rw [sum_congr rfl fun d _ => h3 d, out, show N + (16 * c + r) + 1 = N + 16 * c + (r + 1) by ring]
  have h4 : ∀ d : Fin 128, q (N + (16 * c + r)) d * St f k v (N + 16 * c + (r + 1)) d e
      = q (N + (16 * c + r)) d * Real.exp (bS f N (16 * c + r) d) * St f k v (N + 16 * c) d e
        + ∑ i ∈ range (r + 1), (q (N + (16 * c + r)) d * Real.exp (bS f N (16 * c + r) d - midS f N (16 * c + r) d)) * (k (N + (16 * c + i)) d * Real.exp (midS f N (16 * c + i) d - bS f N (16 * c + i) d)) * v (N + (16 * c + i)) e := fun d => by
    rw [St_chunk f k v hf, mul_add, mul_sum, bS, hd, hm, mul_assoc]
    congr 1
    refine sum_congr rfl fun i hi => ?_
    have h16 : i < 16 := by have := mem_range.mp hi; omega
    rw [midS, midS, bS, hd, show (16 * c + i) / 16 = c by omega, show (16 * c + i) % 16 = i by omega, ← add_assoc,
      show ls f (N + 16 * c) r d - ls f (N + 16 * c) i d = (ls f (N + 16 * c) r d - ls f (N + 16 * c) 7 d) + (ls f (N + 16 * c) 7 d - ls f (N + 16 * c) i d) by ring,
      Real.exp_add]
    ring
  rw [sum_congr rfl fun d _ => h4 d, sum_add_distrib, add_comm, sum_comm]
  congr 1
  exact sum_congr rfl fun i _ => sum_mul _ _ _

/-! ## The running sum by doublings -/

/-- One doubling of the running sum within sixteen rows. -/
def dbl (m : ℕ) (g : ℕ → ℝ) (x : ℕ) : ℝ := g x + if m ≤ x % 16 then g (x - m) else 0

theorem dbl_sum (m : ℕ) (L g : ℕ → ℝ) (hm : 0 < m) (h16 : m ≤ 8) (hg : ∀ x, g x = ∑ i ∈ range (min m (x % 16 + 1)), L (x - i)) (x : ℕ) :
    dbl m g x = ∑ i ∈ range (min (2 * m) (x % 16 + 1)), L (x - i) := by
  unfold dbl
  split
  · next h =>
    have hx : (x - m) % 16 = x % 16 - m := by omega
    rw [hg, hg (x - m), hx, show min m (x % 16 + 1) = m by omega,
      show min (2 * m) (x % 16 + 1) = m + min m (x % 16 - m + 1) by omega, sum_range_add]
    simp only [Nat.sub_sub]
  · next h => rw [hg, add_zero, show min (2 * m) (x % 16 + 1) = min m (x % 16 + 1) by omega]

theorem running (L : ℕ → ℝ) (x : ℕ) :
    dbl 8 (dbl 4 (dbl 2 (dbl 1 L))) x = ∑ i ∈ range (x % 16 + 1), L (16 * (x / 16) + i) := by
  have h1 : ∀ x, L x = ∑ i ∈ range (min 1 (x % 16 + 1)), L (x - i) := fun x => by
    rw [show min 1 (x % 16 + 1) = 1 by omega, range_one, sum_singleton, Nat.sub_zero]
  rw [dbl_sum 8 L _ (by decide) (by decide) (dbl_sum 4 L _ (by decide) (by decide) (dbl_sum 2 L _ (by decide) (by decide) (dbl_sum 1 L _ (by decide) (by decide) h1))),
    show min (2 * 8) (x % 16 + 1) = x % 16 + 1 by omega, ← sum_range_reflect]
  refine sum_congr rfl fun i hi => congrArg L ?_
  have := mem_range.mp hi
  omega

end Cert.Hgrn
-- ==== Proof.Hgrn.Values.lean ====
/- The kernel's functions read at an index, over the extended reals. -/
module

public import proofs.«01_k».proof.Proof.Hgrn.Ops
public import proofs.«01_k».proof.Proof.Hgrn.Math
public import Idealize.ShloMosaic.Lib.WordCmp
public import proofs.«01_k».proof.Proof.Hgrn.Math
public import Idealize.ShloMosaic.Lib.WordCmp

@[expose] public section

set_option maxRecDepth 16384

noncomputable section

namespace Cert.Hgrn

open Cert.Kernel4Ideal Cert.Kernel4Ideal.Gen Idealize.ShloMosaic Idealize.ShloMosaic.TcCoe Cert.Fin

/-! ## The masks -/

/-- The quotient of a position by `m`, as the body computes it. -/
abbrev quot (m : BitVec 32) (a : ℕ) : BitVec 32 :=
  Scalar.select
    (IntOp.andi
      (IntOp.cmpi CmpIPredicate.ne
        (IntOp.subi (BitVec.setWidth 32 (IntOp.cmpi CmpIPredicate.sgt (BitVec.ofNat 32 a) 0#32)) (BitVec.setWidth 32 (IntOp.cmpi CmpIPredicate.slt (BitVec.ofNat 32 a) 0#32)))
        (Scalar.subi (Scalar.extui (Scalar.cmpi CmpIPredicate.sgt m 0#32)) (Scalar.extui (Scalar.cmpi CmpIPredicate.slt m 0#32))))
      (IntOp.cmpi CmpIPredicate.ne (IntOp.remsi ArithUnit.vector (BitVec.ofNat 32 a) m) 0#32))
    (IntOp.subi (IntOp.divsi ArithUnit.vector (BitVec.ofNat 32 a) m) 1#32)
    (IntOp.divsi ArithUnit.vector (BitVec.ofNat 32 a) m)

theorem quot16 : ∀ i : Fin 128, quot 16#32 i.val = BitVec.ofNat 32 (i.val / 16) := by decide +kernel
theorem quot128 : ∀ j : Fin 1024, quot 128#32 j.val = BitVec.ofNat 32 (j.val / 128) := by decide +kernel

theorem cmp_eq (a b : ℕ) (ha : a < 1024) (hb : b < 1024) : IntOp.cmpi CmpIPredicate.eq (BitVec.ofNat 32 a) (BitVec.ofNat 32 b) = if a = b then 1#1 else 0#1 := by
  word_cmp
  by_cases h : a = b <;> simp [h]
theorem cmp_sle (a b : ℕ) (ha : a < 1024) (hb : b < 1024) : IntOp.cmpi CmpIPredicate.sle (BitVec.ofNat 32 a) (BitVec.ofNat 32 b) = if a ≤ b then 1#1 else 0#1 := by
  word_cmp
  by_cases h : a ≤ b <;> simp [h]

theorem p3 (i j : Fin 128) : k0_pay3 (ix2 i j) = BitVec.ofNat 32 (i.val / 16) := by
  pointwise [k0_pay3]
  exact quot16 i

theorem mA_at (i j : Fin 128) : mA (ix2 i j) = if j.val ≤ i.val ∧ j.val / 16 = i.val / 16 then 1#1 else 0#1 := by
  pointwise [mA, k0_pay7, k0_pay4, k0_pay5, k0_pay6]
  rw [p3]
  refine (congrArg (fun w => IntOp.andi (IntOp.cmpi CmpIPredicate.eq _ w) _) (quot16 j)).trans ?_
  rw [cmp_eq _ _ (by omega) (by omega), cmp_sle _ _ (by omega) (by omega)]
  by_cases a : j.val ≤ i.val <;> by_cases b : i.val / 16 = j.val / 16 <;> simp [a, b, eq_comm, IntOp.andi]

theorem p8 (i : Fin 128) (j : Fin 1024) : k0_pay8 (ix2 i j) = BitVec.ofNat 32 (i.val / 16) := by
  pointwise [k0_pay8]
  exact quot16 i
theorem mB_at (i : Fin 128) (j : Fin 1024) : mB (ix2 i j) = if j.val / 128 = i.val / 16 then 1#1 else 0#1 := by
  pointwise [mB, k0_pay11, k0_pay9, k0_pay10]
  rw [p8]
  refine (congrArg (fun w => IntOp.cmpi CmpIPredicate.eq _ w) (quot128 j)).trans ?_
  rw [cmp_eq _ _ (by omega) (by omega)]
  simp only [eq_comm]

theorem sel_at {s : EReal} {z : EReal} (p : Prop) [Decidable p] : Scalar.select (if p then 1#1 else 0#1) s z = if p then s else z := by
  by_cases h : p <;> simp [h, Scalar.select]

section Rows
variable (x : Vec Ideal S128x2048 .f32) (l : Vec Ideal S2x512 .f32)

/-- The weight of the lower bound: the first of the two logits' softmax. -/
abbrev lbE (a b : EReal) : EReal := Ideal.div (Ideal.exp (a - max a b)) (Ideal.exp (a - max a b) + Ideal.exp (b - max a b))
abbrev sgE (z : EReal) : EReal := Ideal.div 1 (1 + Ideal.exp (0 - z))
abbrev fE (a b z : EReal) : EReal := lbE a b + (1 - lbE a b) * sgE z

theorem fV_at (i : Fin 128) (j : Fin 512) : fV x l (ix2 i j) = fE (l (ix2 0 j)) (l (ix2 1 j)) (x (ix2 i ⟨512 + j.val, by omega⟩)) := by
  pointwise [fV, k0_pay14]
theorem lV_at (i : Fin 128) (j : Fin 512) : lV x l (ix2 i j) = Ideal.log (fV x l (ix2 i j)) := by
  pointwise [lV, k0_pay15]
  rfl
theorem qV_at (i : Fin 128) (j : Fin 512) : qV x (ix2 i j) = x (ix2 i ⟨j.val, by omega⟩) * sgE (x (ix2 i ⟨j.val, by omega⟩)) := by
  pointwise [qV, k0_pay26, k0_pay12]
theorem kV_at (i : Fin 128) (j : Fin 512) : kV x l (ix2 i j) = 1 - fV x l (ix2 i j) := by
  pointwise [kV, k0_pay25]
theorem vV_at (i : Fin 128) (j : Fin 512) : vV x (ix2 i j) = x (ix2 i ⟨1024 + j.val, by omega⟩) := by
  pointwise [vV, k0_pay33]
theorem midV_at (b : FVec Ideal S128x512 .f32) (i : Fin 128) (j : Fin 512) : midV b (ix2 i j) = b (ix2 ⟨16 * (i.val / 16) + 7, by omega⟩ j) := by
  pointwise [midV, k0_pay23, row]
  split_ifs <;> exact congrArg (fun w => b (ix2 w j)) (Fin.ext (by simp; omega))
theorem totV_at (b : FVec Ideal S128x512 .f32) (i : Fin 128) (j : Fin 512) : totV b (ix2 i j) = b (ix2 ⟨16 * (i.val / 16) + 15, by omega⟩ j) := by
  pointwise [totV, k0_pay24]
  split_ifs <;> exact congrArg (fun w => b (ix2 w j)) (Fin.ext (by simp; omega))

/-- A row's place in its chunk, as the body computes it. -/
abbrev rem16 (a : ℕ) : BitVec 32 :=
  Scalar.select
    (IntOp.andi
      (IntOp.xori
        (IntOp.cmpi CmpIPredicate.slt
          (IntOp.remsi ArithUnit.vector (BitVec.ofNat 32 a) (Scalar.select (Scalar.cmpi CmpIPredicate.eq 16#32 0#32) 1#32 16#32)) 0#32)
        (Scalar.cmpi CmpIPredicate.slt (Scalar.select (Scalar.cmpi CmpIPredicate.eq 16#32 0#32) 1#32 16#32) 0#32))
      (IntOp.cmpi CmpIPredicate.ne
        (IntOp.remsi ArithUnit.vector (BitVec.ofNat 32 a) (Scalar.select (Scalar.cmpi CmpIPredicate.eq 16#32 0#32) 1#32 16#32)) 0#32))
    (IntOp.addi
      (IntOp.remsi ArithUnit.vector (BitVec.ofNat 32 a) (Scalar.select (Scalar.cmpi CmpIPredicate.eq 16#32 0#32) 1#32 16#32))
      (Scalar.select (Scalar.cmpi CmpIPredicate.eq 16#32 0#32) 1#32 16#32))
    (IntOp.remsi ArithUnit.vector (BitVec.ofNat 32 a) (Scalar.select (Scalar.cmpi CmpIPredicate.eq 16#32 0#32) 1#32 16#32))

theorem rem16_eq : ∀ i : Fin 128, rem16 i.val = BitVec.ofNat 32 (i.val % 16) := by decide +kernel
theorem cmp_sge (a b : ℕ) (ha : a < 1024) (hb : b < 1024) : IntOp.cmpi CmpIPredicate.sge (BitVec.ofNat 32 a) (BitVec.ofNat 32 b) = if b ≤ a then 1#1 else 0#1 := by
  word_cmp
  by_cases h : b ≤ a <;> simp [h]

/-- One doubling of the running sum: a row and the row `m` before it in the chunk. -/
def dblE (m : ℕ) (g : Fin 128 → EReal) (i : Fin 128) : EReal :=
  g i + Scalar.select (IntOp.cmpi CmpIPredicate.sge (rem16 i.val) (BitVec.ofNat 32 m)) (g ⟨(i.val + 128 - m) % 128, by omega⟩) 0

theorem bV_at (i : Fin 128) (j : Fin 512) : bV x l (ix2 i j) = dblE 8 (dblE 4 (dblE 2 (dblE 1 fun i => lV x l (ix2 i j)))) i := by
  pointwise [bV, k0_pay16]
  rfl

theorem dblE_coe (m : ℕ) (hm : m < 16) (g : Fin 128 → EReal) (r : ℕ → ℝ) (h : ∀ i, g i = ((r i.val : ℝ) : EReal)) (i : Fin 128) :
    dblE m g i = ((dbl m r i.val : ℝ) : EReal) := by
  rw [dblE, rem16_eq, cmp_sge _ _ (by omega) (by omega), sel_at, h, h, dbl]
  by_cases hc : m ≤ i.val % 16
  · rw [if_pos hc, if_pos hc, EReal.coe_add]
    exact congrArg (fun w : ℕ => ((r i.val : ℝ) : EReal) + ((r w : ℝ) : EReal)) (show (i.val + 128 - m) % 128 = i.val - m by omega)
  · rw [if_neg hc, if_neg hc, add_zero, add_zero]

theorem qiV_at (i : Fin 128) (j : Fin 512) : qiV x l (ix2 i j) = qV x (ix2 i j) * Ideal.exp (bV x l (ix2 i j) - midV (bV x l) (ix2 i j)) := by
  pointwise [qiV]
theorem kiV_at (i : Fin 128) (j : Fin 512) : kiV x l (ix2 i j) = kV x l (ix2 i j) * Ideal.exp (midV (bV x l) (ix2 i j) - bV x l (ix2 i j)) := by
  pointwise [kiV]
theorem qsV_at (i : Fin 128) (j : Fin 512) : qsV x l (ix2 i j) = qV x (ix2 i j) * Ideal.exp (bV x l (ix2 i j)) := by
  pointwise [qsV]
theorem kbV_at (i : Fin 128) (j : Fin 512) : kbV x l (ix2 i j) = kV x l (ix2 i j) * Ideal.exp (totV (bV x l) (ix2 i j) - bV x l (ix2 i j)) := by
  pointwise [kbV]
theorem etV_at (i : Fin 128) (j : Fin 512) : etV x l (ix2 i j) = Ideal.exp (totV (bV x l) (ix2 i j)) := by
  pointwise [etV]
end Rows

theorem intra_at (qi ki v) (i j : Fin 128) : intra qi ki v (ix2 i j)
    = ∑ x : Fin 128, (if x.val ≤ i.val ∧ x.val / 16 = i.val / 16 then ∑ d : Fin 128, qi (ix2 i d) * ki (ix2 x d) else 0) * v (ix2 x j) := by
  pointwise [intra, mA_at]
  refine Finset.sum_congr rfl fun x _ => ?_
  rw [sel_at]
  split <;> simp
theorem spread_at (y) (i : Fin 128) (j : Fin 1024) : spread y (ix2 i j) = if j.val / 128 = i.val / 16 then y (ix2 i ⟨j.val % 128, by omega⟩) else 0 := by
  pointwise [spread, mB_at]
  rw [sel_at]
  congr 1
  split_ifs <;> exact congrArg (fun w => y (ix2 i w)) (Fin.ext (by simp; omega))
theorem upd_at (y v) (i : Fin 128) (j : Fin 1024) : upd y v (ix2 i j) = ∑ x : Fin 128, v (ix2 x i) * spread y (ix2 x j) := by
  pointwise [upd]
theorem stC_at (e u s) (i : Fin 128) (j : Fin 128) : stC e u s (ix2 i j) = s (ix2 i j) * e (ix2 0 j) + u (ix2 i j) := by
  pointwise [stC]

theorem ub_at (p : ℕ) (h : S128x1024.Slices ![0, p] S128x128) (hp : p + 128 ≤ 1024) (y : FVec Ideal S128x1024 .f32) (i j : Fin 128) : ub p h y (ix2 i j) = y (ix2 i ⟨p + j.val, by omega⟩) := by
  pointwise [ub]
section
variable (o : ℕ) (ho : o + 128 ≤ 512)
theorem cut_at {e : FTy} (y : FVec Ideal S128x512 e) (i j : Fin 128) : cut o (sl_cut o ho) y (ix2 i j) = y (ix2 i ⟨o + j.val, by omega⟩) := by
  pointwise [cut]
theorem er_at (r : ℕ) (hr : r < 128) (y : FVec Ideal S128x512 .f32) (j : Fin 128) : er r o (sl_row r o hr ho) y (ix2 0 j) = y (ix2 ⟨r, hr⟩ ⟨o + j.val, by omega⟩) := by
  pointwise [er]
/-- The state after `c` chunks. -/
def sAt (et : FVec Ideal S128x512 .f32) (u : FVec Ideal S128x1024 .f32) (s : FVec Ideal S128x128 .f32) : ℕ → FVec Ideal S128x128 .f32
  | 0 => s
  | 1 => s1 o ho et u s
  | 2 => s2 o ho et u s
  | 3 => s3 o ho et u s
  | 4 => s4 o ho et u s
  | 5 => s5 o ho et u s
  | 6 => s6 o ho et u s
  | 7 => s7 o ho et u s
  | _ => s8 o ho et u s

theorem st_at (r p : ℕ) (hr : r < 128) (hp : p + 128 ≤ 1024) (h : S128x1024.Slices ![0, p] S128x128) (hr' : r < 128) (et u s) (i j : Fin 128) :
    stC (er r o (sl_row r o hr' ho) et) (ub p h u) s (ix2 i j) = s (ix2 i j) * et (ix2 ⟨r, hr⟩ ⟨o + j.val, by omega⟩) + u (ix2 i ⟨p + j.val, by omega⟩) := by
  rw [stC_at, er_at (hr := hr) (ho := ho), ub_at (hp := hp)]

theorem sAt_succ (et u s) (c : ℕ) (hc : c < 8) (i j : Fin 128) :
    sAt o ho et u s (c + 1) (ix2 i j) = sAt o ho et u s c (ix2 i j) * et (ix2 ⟨16 * c, by omega⟩ ⟨o + j.val, by omega⟩) + u (ix2 i ⟨128 * c + j.val, by omega⟩) := by
  obtain _ | _ | _ | _ | _ | _ | _ | _ | c := c
  · exact st_at o ho 0 0 (by decide) (by decide) _ (by decide) et u _ i j
  · exact st_at o ho 16 128 (by decide) (by decide) _ (by decide) et u _ i j
  · exact st_at o ho 32 256 (by decide) (by decide) _ (by decide) et u _ i j
  · exact st_at o ho 48 384 (by decide) (by decide) _ (by decide) et u _ i j
  · exact st_at o ho 64 512 (by decide) (by decide) _ (by decide) et u _ i j
  · exact st_at o ho 80 640 (by decide) (by decide) _ (by decide) et u _ i j
  · exact st_at o ho 96 768 (by decide) (by decide) _ (by decide) et u _ i j
  · exact st_at o ho 112 896 (by decide) (by decide) _ (by decide) et u _ i j
  · omega

theorem inter_at (et u s qs) (i j : Fin 128) : inter o ho et u s qs (ix2 i j)
    = ∑ x : Fin 1024, spread qs (ix2 i x) * sAt o ho et u s (x.val / 128) (ix2 j ⟨x.val % 128, by omega⟩) := by
  pointwise [inter]
  refine Finset.sum_congr rfl fun x _ => congrArg (spread qs (ix2 i x) * ·) ?_
  have hx : x.val < 1024 := x.isLt
  have key : ∀ (c w : ℕ) (hw : w < 128), x.val = 128 * c + w → sAt o ho et u s c (ix2 j ⟨w, hw⟩) = sAt o ho et u s (x.val / 128) (ix2 j ⟨x.val % 128, by omega⟩) := fun c w hw h => by
    have h1 : x.val / 128 = c := by omega
    have h2 : x.val % 128 = w := by omega
    rw [h1]; exact congrArg (fun w => sAt o ho et u s c (ix2 j w)) (Fin.ext h2.symm)
  split
  · next h => exact Eq.trans rfl (key 0 (x.val) h (by omega))
  split
  · next h => exact Eq.trans rfl (key 1 (x.val - 128) h (by omega))
  split
  · next h => exact Eq.trans rfl (key 2 (x.val - 128 - 128) h (by omega))
  split
  · next h => exact Eq.trans rfl (key 3 (x.val - 128 - 128 - 128) h (by omega))
  split
  · next h => exact Eq.trans rfl (key 4 (x.val - 128 - 128 - 128 - 128) h (by omega))
  split
  · next h => exact Eq.trans rfl (key 5 (x.val - 128 - 128 - 128 - 128 - 128) h (by omega))
  split
  · next h => exact Eq.trans rfl (key 6 (x.val - 128 - 128 - 128 - 128 - 128 - 128) h (by omega))
  exact Eq.trans rfl (key 7 (x.val - 128 - 128 - 128 - 128 - 128 - 128 - 128) (by omega) (by omega))
end

end Cert.Hgrn
-- ==== Proof.Hgrn.Reals.lean ====
/- The kernel's functions on finite rows: what a head makes of 128 rows is the recurrence over the real numbers. -/
module

public import proofs.«01_k».proof.Proof.Hgrn.Values

@[expose] public section

set_option maxRecDepth 16384

noncomputable section

namespace Cert.Hgrn

open Cert.Kernel4Ideal Cert.Kernel4Ideal.Gen Idealize.ShloMosaic Idealize.ShloMosaic.TcCoe Cert.Fin

theorem coe_sum {ι : Type} (s : Finset ι) (g : ι → ℝ) : ∑ i ∈ s, ((g i : ℝ) : EReal) = ((∑ i ∈ s, g i : ℝ) : EReal) := by
  classical
  induction s using Finset.induction_on with
  | empty => simp
  | insert a s h ih => rw [Finset.sum_insert h, Finset.sum_insert h, ih, EReal.coe_add]

theorem coe_ite (p : Prop) [Decidable p] (r : ℝ) : (if p then ((r : ℝ) : EReal) else 0) = ((if p then r else 0 : ℝ) : EReal) := by
  split <;> simp

/-- The logistic function, the lower bound and the decay. -/
def sg (z : ℝ) : ℝ := 1 / (1 + Real.exp (-z))
def lbd (a b : ℝ) : ℝ := Real.exp (a - max a b) / (Real.exp (a - max a b) + Real.exp (b - max a b))
def dec (a b z : ℝ) : ℝ := lbd a b + (1 - lbd a b) * sg z

theorem sg_pos (z : ℝ) : 0 < sg z := by unfold sg; positivity
theorem lbd_pos (a b : ℝ) : 0 < lbd a b := by unfold lbd; positivity
theorem lbd_lt (a b : ℝ) : lbd a b < 1 := by
  unfold lbd
  have := Real.exp_pos (a - max a b); have := Real.exp_pos (b - max a b)
  rw [div_lt_one (by positivity)]; linarith
theorem dec_pos (a b z : ℝ) : 0 < dec a b z := by
  have h1 := lbd_pos a b; have h2 := lbd_lt a b; have h3 := sg_pos z
  have h4 : 0 < 1 - lbd a b := by linarith
  unfold dec; positivity

theorem exp_coe (r : ℝ) : Ideal.exp (r : EReal) = ((Real.exp r : ℝ) : EReal) := rfl

theorem sgE_coe (z : ℝ) : sgE (z : EReal) = ((sg z : ℝ) : EReal) := by
  have hp : (1 + Real.exp (-z) : ℝ) ≠ 0 := (by positivity : (0 : ℝ) < 1 + Real.exp (-z)).ne'
  rw [sgE, zero_sub, ← EReal.coe_neg, exp_coe, ← EReal.coe_one, ← EReal.coe_add, Ideal.div_coe hp, ← EReal.coe_mul, sg, one_div, one_mul]
theorem lbE_coe (a b : ℝ) : lbE (a : EReal) (b : EReal) = ((lbd a b : ℝ) : EReal) := by
  have hp : Real.exp (a - max a b) + Real.exp (b - max a b) ≠ 0 := (by positivity : (0 : ℝ) < Real.exp (a - max a b) + Real.exp (b - max a b)).ne'
  have hm : max (a : EReal) (b : EReal) = ((max a b : ℝ) : EReal) := (Monotone.map_max EReal.coe_strictMono.monotone).symm
  rw [lbE, hm, ← EReal.coe_sub, ← EReal.coe_sub, exp_coe, exp_coe, ← EReal.coe_add, Ideal.div_coe hp, ← EReal.coe_mul, lbd, mul_one_div]
theorem fE_coe (a b z : ℝ) : fE (a : EReal) (b : EReal) (z : EReal) = ((dec a b z : ℝ) : EReal) := by
  rw [fE, lbE_coe, sgE_coe, ← EReal.coe_one, ← EReal.coe_sub, ← EReal.coe_mul, ← EReal.coe_add]; rfl

/-! ## The rows of one head -/

section Heads
variable (X : ℕ → Fin 2048 → ℝ) (L : Fin 2 → Fin 512 → ℝ) (o : ℕ) (ho : o + 128 ≤ 512)
/-- The decay, the input gate, the input and the query of the head at columns `o` on. -/
def fr : Rows := fun t d => dec (L 0 ⟨o + d.val, by omega⟩) (L 1 ⟨o + d.val, by omega⟩) (X t ⟨512 + (o + d.val), by omega⟩)
def kr : Rows := fun t d => 1 - fr X L o ho t d
def vr : Rows := fun t d => X t ⟨1024 + (o + d.val), by omega⟩
def qr : Rows := fun t d => X t ⟨o + d.val, by omega⟩ * sg (X t ⟨o + d.val, by omega⟩)
theorem fr_pos (t : ℕ) (d : Fin 128) : 0 < fr X L o ho t d := dec_pos _ _ _
end Heads

section Rows
variable (X : ℕ → Fin 2048 → ℝ) (L : Fin 2 → Fin 512 → ℝ) (o : ℕ) (ho : o + 128 ≤ 512) (N : ℕ)
variable (x : Vec Ideal S128x2048 .f32) (l : Vec Ideal S2x512 .f32)
variable (hx : ∀ (i : Fin 128) (j : Fin 2048), x (ix2 i j) = ((X (N + i.val) j : ℝ) : EReal)) (hl : ∀ (i : Fin 2) (j : Fin 512), l (ix2 i j) = ((L i j : ℝ) : EReal))

include hx hl

theorem fV_coe (i d : Fin 128) : fV x l (ix2 i ⟨o + d.val, by omega⟩) = ((fr X L o ho (N + i.val) d : ℝ) : EReal) := by
  rw [fV_at, hl, hl, hx, fE_coe]; rfl
theorem kV_coe (i d : Fin 128) : kV x l (ix2 i ⟨o + d.val, by omega⟩) = ((kr X L o ho (N + i.val) d : ℝ) : EReal) := by
  rw [kV_at, fV_coe X L o ho N x l hx hl, ← EReal.coe_one, ← EReal.coe_sub]; rfl
theorem bV_coe (i d : Fin 128) : bV x l (ix2 i ⟨o + d.val, by omega⟩) = ((bS (fr X L o ho) N i.val d : ℝ) : EReal) := by
  have hL : ∀ i : Fin 128, lV x l (ix2 i ⟨o + d.val, by omega⟩) = ((Real.log (fr X L o ho (N + i.val) d) : ℝ) : EReal) := fun i => by
    rw [lV_at, fV_coe X L o ho N x l hx hl, Ideal.log_coe, if_neg (not_le.mpr (fr_pos X L o ho _ _))]
  rw [bV_at, dblE_coe 8 (by decide) _ _ (dblE_coe 4 (by decide) _ _ (dblE_coe 2 (by decide) _ _ (dblE_coe 1 (by decide) _ (fun w => Real.log (fr X L o ho (N + w) d)) hL))),
    running, bS, ls]
  exact congrArg Real.toEReal (Finset.sum_congr rfl fun w _ => by rw [Nat.add_assoc])
theorem midV_coe (i d : Fin 128) : midV (bV x l) (ix2 i ⟨o + d.val, by omega⟩) = ((midS (fr X L o ho) N i.val d : ℝ) : EReal) := by
  rw [midV_at, bV_coe X L o ho N x l hx hl, bS, midS]
  exact congrArg Real.toEReal (by rw [show (16 * (i.val / 16) + 7) / 16 = i.val / 16 by omega, show (16 * (i.val / 16) + 7) % 16 = 7 by omega])
theorem totV_coe (i d : Fin 128) : totV (bV x l) (ix2 i ⟨o + d.val, by omega⟩) = ((totS (fr X L o ho) N i.val d : ℝ) : EReal) := by
  rw [totV_at, bV_coe X L o ho N x l hx hl, bS, totS]
  exact congrArg Real.toEReal (by rw [show (16 * (i.val / 16) + 15) / 16 = i.val / 16 by omega, show (16 * (i.val / 16) + 15) % 16 = 15 by omega])
theorem qV_coe (i d : Fin 128) : qV x (ix2 i ⟨o + d.val, by omega⟩) = ((qr X o ho (N + i.val) d : ℝ) : EReal) := by
  rw [qV_at, hx, sgE_coe, ← EReal.coe_mul]; rfl
theorem vV_coe (i d : Fin 128) : vV x (ix2 i ⟨o + d.val, by omega⟩) = ((vr X o ho (N + i.val) d : ℝ) : EReal) := by
  rw [vV_at, hx]; rfl
theorem qiV_coe (i d : Fin 128) : qiV x l (ix2 i ⟨o + d.val, by omega⟩)
    = ((qr X o ho (N + i.val) d * Real.exp (bS (fr X L o ho) N i.val d - midS (fr X L o ho) N i.val d) : ℝ) : EReal) := by
  rw [qiV_at, qV_coe X L o ho N x l hx hl, bV_coe X L o ho N x l hx hl, midV_coe X L o ho N x l hx hl, ← EReal.coe_sub, exp_coe, ← EReal.coe_mul]
theorem kiV_coe (i d : Fin 128) : kiV x l (ix2 i ⟨o + d.val, by omega⟩)
    = ((kr X L o ho (N + i.val) d * Real.exp (midS (fr X L o ho) N i.val d - bS (fr X L o ho) N i.val d) : ℝ) : EReal) := by
  rw [kiV_at, kV_coe X L o ho N x l hx hl, bV_coe X L o ho N x l hx hl, midV_coe X L o ho N x l hx hl, ← EReal.coe_sub, exp_coe, ← EReal.coe_mul]
theorem qsV_coe (i d : Fin 128) : qsV x l (ix2 i ⟨o + d.val, by omega⟩)
    = ((qr X o ho (N + i.val) d * Real.exp (bS (fr X L o ho) N i.val d) : ℝ) : EReal) := by
  rw [qsV_at, qV_coe X L o ho N x l hx hl, bV_coe X L o ho N x l hx hl, exp_coe, ← EReal.coe_mul]
theorem kbV_coe (i d : Fin 128) : kbV x l (ix2 i ⟨o + d.val, by omega⟩)
    = ((kr X L o ho (N + i.val) d * Real.exp (totS (fr X L o ho) N i.val d - bS (fr X L o ho) N i.val d) : ℝ) : EReal) := by
  rw [kbV_at, kV_coe X L o ho N x l hx hl, bV_coe X L o ho N x l hx hl, totV_coe X L o ho N x l hx hl, ← EReal.coe_sub, exp_coe, ← EReal.coe_mul]
theorem etV_coe (i d : Fin 128) : etV x l (ix2 i ⟨o + d.val, by omega⟩) = ((Real.exp (totS (fr X L o ho) N i.val d) : ℝ) : EReal) := by
  rw [etV_at, totV_coe X L o ho N x l hx hl, exp_coe]

/-! ## The head's state and output -/

variable (s : FVec Ideal S128x128 .f32)
  (hs : ∀ e d : Fin 128, s (ix2 e d) = ((St (fr X L o ho) (kr X L o ho) (vr X o ho) N d e : ℝ) : EReal))

/-- What chunk `c` adds to the state. -/
theorem hU_coe (c : ℕ) (hc : c < 8) (e d : Fin 128) : hU o ho x l (ix2 e ⟨128 * c + d.val, by omega⟩)
    = ((∑ y : Fin 128, vr X o ho (N + y.val) e * (if y.val / 16 = c then kr X L o ho (N + y.val) d * Real.exp (totS (fr X L o ho) N y.val d - bS (fr X L o ho) N y.val d) else 0) : ℝ) : EReal) := by
  rw [hU, upd_at, ← coe_sum]
  refine Finset.sum_congr rfl fun y _ => ?_
  have hd : (⟨(128 * c + d.val) % 128, Nat.mod_lt _ (by decide)⟩ : Fin 128) = d := Fin.ext (by show _ % 128 = _; omega)
  have hq : (128 * c + d.val) / 128 = y.val / 16 ↔ y.val / 16 = c := by omega
  rw [cut_at o ho, vV_coe X L o ho N x l hx hl, spread_at, EReal.coe_mul, ← coe_ite]
  simp only [hq]
  rw [hd, cut_at o ho, kbV_coe X L o ho N x l hx hl]

include hs

theorem sAt_coe (c : ℕ) (hc : c ≤ 8) (e d : Fin 128) : sAt o ho (etV x l) (hU o ho x l) s c (ix2 e d)
    = ((St (fr X L o ho) (kr X L o ho) (vr X o ho) (N + 16 * c) d e : ℝ) : EReal) := by
  induction c with
  | zero => exact hs e d
  | succ c ih =>
    rw [sAt_succ o ho _ _ _ c (by omega), ih (by omega), etV_coe X L o ho N x l hx hl, hU_coe X L o ho N x l hx hl c (by omega), ← EReal.coe_mul, ← EReal.coe_add,
      St_step _ _ _ (fr_pos X L o ho) N c (by omega)]

theorem hS_coe (e d : Fin 128) : hS o ho x l s (ix2 e d) = ((St (fr X L o ho) (kr X L o ho) (vr X o ho) (N + 128) d e : ℝ) : EReal) :=
  sAt_coe X L o ho N x l hx hl s hs 8 (by decide) e d

theorem hO_coe (i e : Fin 128) : hO o ho x l s (ix2 i e) = ((out (fr X L o ho) (kr X L o ho) (vr X o ho) (qr X o ho) (N + i.val) e : ℝ) : EReal) := by
  rw [hO, ← out_step _ _ _ _ (fr_pos X L o ho) N i.val i.isLt e, EReal.coe_add, ← coe_sum, ← coe_sum]
  refine (show addf _ _ (ix2 i e) = _ + _ from rfl).trans (congrArg₂ (· + ·) ?_ ?_)
  · rw [intra_at]
    refine Finset.sum_congr rfl fun y _ => ?_
    rw [cut_at o ho, vV_coe X L o ho N x l hx hl, EReal.coe_mul, ← coe_ite, ← coe_sum]
    congr 1
    refine congrArg (fun w : EReal => if y.val ≤ i.val ∧ y.val / 16 = i.val / 16 then w else 0) (Finset.sum_congr rfl fun d _ => ?_)
    rw [cut_at o ho, cut_at o ho, qiV_coe X L o ho N x l hx hl, kiV_coe X L o ho N x l hx hl, ← EReal.coe_mul]
  · rw [inter_at]
    refine Finset.sum_congr rfl fun j _ => ?_
    rw [sAt_coe X L o ho N x l hx hl s hs _ (by omega), spread_at, cut_at o ho, qsV_coe X L o ho N x l hx hl, coe_ite, ← EReal.coe_mul]
end Rows

end Cert.Hgrn
-- ==== Proof.Hgrn.Stores.lean ====
module

public import proofs.«01_k».proof.Proof.Hgrn.Blocks
public import proofs.«01_k».proof.Proof.Hgrn.Reals

/-! # The stores of one grid point, read at an index -/

@[expose] public section
set_option maxRecDepth 65536
noncomputable section
namespace Cert.Hgrn
open Cert.Kernel4Ideal Cert.Kernel4Ideal.Gen Idealize.ShloMosaic Idealize.ShloMosaic.TcCoe Idealize.ShloMosaic.Pointwise

/-- A store that does not meet a rectangle leaves it as the earlier stores do. -/
theorem canon_skip {S : Shape} {e : EltTy} (r r' : Rect S) (w : r.shape.Idx → Elt Ideal e) (L : List (View.Piece (Elt Ideal) S e)) (x : r'.shape.Idx)
    (h : LoadRect.disj r r'.toLoadRect = true) : View.canon (⟨r, w⟩ :: L) (r'.emb x) = View.canon L (r'.emb x) :=
  View.canon_cons_of_not_mem _ _ (LoadRect.idx_not_mem_of_disj h x)

theorem lo_at (x : Vec Ideal S256x2048 .f32) (i : Fin 128) (j : Fin 2048) : lo x (ix2 i j) = x (ix2 ⟨i.val, by omega⟩ j) := by
  show x _ = x _
  congr 1; funext a; apply Fin.ext
  match a with
  | ⟨0, _⟩ => show 0 + 1 * i.val = i.val; omega
  | ⟨1, _⟩ => show 0 + 1 * j.val = j.val; omega
theorem hi_at (x : Vec Ideal S256x2048 .f32) (i : Fin 128) (j : Fin 2048) : hi x (ix2 i j) = x (ix2 ⟨128 + i.val, by omega⟩ j) := by
  show x _ = x _
  congr 1; funext a; apply Fin.ext
  match a with
  | ⟨0, _⟩ => show 128 + 1 * i.val = 128 + i.val; omega
  | ⟨1, _⟩ => show 0 + 1 * j.val = j.val; omega
theorem hd_at (h : ℕ) (hh : h < 4) (inb) (s : Vec Ideal S4x128x128 .f32) (i j : Fin 128) : hd h inb s (ix3 0 i j) = s (ix3 ⟨h, hh⟩ i j) := by
  show s _ = s _
  congr 1; funext a; apply Fin.ext
  match a with
  | ⟨0, _⟩ => show h + 1 * 0 = h; omega
  | ⟨1, _⟩ => show 0 + 1 * i.val = i.val; omega
  | ⟨2, _⟩ => show 0 + 1 * j.val = j.val; omega
theorem sq_at (s : FVec Ideal S1x128x128 .f32) (i j : Fin 128) : sq s (ix2 i j) = s (ix3 0 i j) := by
  pointwise [sq]
theorem un_at (s : FVec Ideal S128x128 .f32) (i j : Fin 128) : un s (ix3 0 i j) = s (ix2 i j) := by
  pointwise [un]

section
variable (x : Vec Ideal S256x2048 .f32) (l : Vec Ideal S2x512 .f32) (s : Vec Ideal S4x128x128 .f32)

theorem o_0 (i : Fin 128) (j : Fin 512) : View.canon (oPieces x l s) (ix2 ⟨i.val, by omega⟩ j) = join (o00 x l s) (o10 x l s) (o20 x l s) (o30 x l s) (ix2 i j) := by
  have e : (ix2 ⟨i.val, by omega⟩ j : S256x512.Idx) = (Rect.unit ![0, 0] ![128, 512] inb_S256x512_S128x512_0_0).emb (ix2 i j) := by
    funext a; apply Fin.ext
    match a with
    | ⟨0, _⟩ => show i.val = 0 + 1 * i.val; omega
    | ⟨1, _⟩ => show j.val = 0 + 1 * j.val; omega
  rw [e]; unfold oPieces
  refine (canon_skip _ _ _ _ _ (by decide)).trans ?_
  exact View.canon_cons_emb _ _ _ _

theorem y_0 (w : Vec Ideal S1x512 .f32) (i : Fin 128) (j : Fin 512) : View.canon (yPieces x l s w) (ix2 ⟨i.val, by omega⟩ j) = yV (lo x) w (o00 x l s) (o10 x l s) (o20 x l s) (o30 x l s) (ix2 i j) := by
  have e : (ix2 ⟨i.val, by omega⟩ j : S256x512.Idx) = (Rect.unit ![0, 0] ![128, 512] inb_S256x512_S128x512_0_0).emb (ix2 i j) := by
    funext a; apply Fin.ext
    match a with
    | ⟨0, _⟩ => show i.val = 0 + 1 * i.val; omega
    | ⟨1, _⟩ => show j.val = 0 + 1 * j.val; omega
  rw [e]; unfold yPieces
  refine (canon_skip _ _ _ _ _ (by decide)).trans ?_
  exact View.canon_cons_emb _ _ _ _

theorem o_1 (i : Fin 128) (j : Fin 512) : View.canon (oPieces x l s) (ix2 ⟨128 + i.val, by omega⟩ j) = join (o01 x l s) (o11 x l s) (o21 x l s) (o31 x l s) (ix2 i j) := by
  have e : (ix2 ⟨128 + i.val, by omega⟩ j : S256x512.Idx) = (Rect.unit ![128, 0] ![128, 512] inb_S256x512_S128x512_128_0).emb (ix2 i j) := by
    funext a; apply Fin.ext
    match a with
    | ⟨0, _⟩ => show 128 + i.val = 128 + 1 * i.val; omega
    | ⟨1, _⟩ => show j.val = 0 + 1 * j.val; omega
  rw [e]; unfold oPieces
  exact View.canon_cons_emb _ _ _ _

theorem y_1 (w : Vec Ideal S1x512 .f32) (i : Fin 128) (j : Fin 512) : View.canon (yPieces x l s w) (ix2 ⟨128 + i.val, by omega⟩ j) = yV (hi x) w (o01 x l s) (o11 x l s) (o21 x l s) (o31 x l s) (ix2 i j) := by
  have e : (ix2 ⟨128 + i.val, by omega⟩ j : S256x512.Idx) = (Rect.unit ![128, 0] ![128, 512] inb_S256x512_S128x512_128_0).emb (ix2 i j) := by
    funext a; apply Fin.ext
    match a with
    | ⟨0, _⟩ => show 128 + i.val = 128 + 1 * i.val; omega
    | ⟨1, _⟩ => show j.val = 0 + 1 * j.val; omega
  rw [e]; unfold yPieces
  exact View.canon_cons_emb _ _ _ _

theorem st_1_3 (i j : Fin 128) : View.canon (stPieces x l s) (ix4 (1 : Fin 2) (3 : Fin 4) i j) = t31 x l s (ix3 0 i j) := by
  have e : (ix4 (1 : Fin 2) (3 : Fin 4) i j : S2x4x128x128.Idx) = (Rect.unit ![1, 3, 0, 0] ![1, 1, 128, 128] inb_S2x4x128x128_S1x1x128x128_1_3_0_0).emb (ix4 0 0 i j) := by
    funext a; apply Fin.ext
    match a with
    | ⟨0, _⟩ => show 1 = 1 + 1 * 0; omega
    | ⟨1, _⟩ => show 3 = 3 + 1 * 0; omega
    | ⟨2, _⟩ => show i.val = 0 + 1 * i.val; omega
    | ⟨3, _⟩ => show j.val = 0 + 1 * j.val; omega
  rw [e]; unfold stPieces
  refine (View.canon_cons_emb _ _ _ _).trans ?_
  refine Eq.trans ?_ (sq_at _ i j)
  pointwise []

theorem st_1_2 (i j : Fin 128) : View.canon (stPieces x l s) (ix4 (1 : Fin 2) (2 : Fin 4) i j) = t21 x l s (ix3 0 i j) := by
  have e : (ix4 (1 : Fin 2) (2 : Fin 4) i j : S2x4x128x128.Idx) = (Rect.unit ![1, 2, 0, 0] ![1, 1, 128, 128] inb_S2x4x128x128_S1x1x128x128_1_2_0_0).emb (ix4 0 0 i j) := by
    funext a; apply Fin.ext
    match a with
    | ⟨0, _⟩ => show 1 = 1 + 1 * 0; omega
    | ⟨1, _⟩ => show 2 = 2 + 1 * 0; omega
    | ⟨2, _⟩ => show i.val = 0 + 1 * i.val; omega
    | ⟨3, _⟩ => show j.val = 0 + 1 * j.val; omega
  rw [e]; unfold stPieces
  refine (canon_skip _ _ _ _ _ (by decide)).trans ?_
  refine (View.canon_cons_emb _ _ _ _).trans ?_
  refine Eq.trans ?_ (sq_at _ i j)
  pointwise []

theorem st_1_1 (i j : Fin 128) : View.canon (stPieces x l s) (ix4 (1 : Fin 2) (1 : Fin 4) i j) = t11 x l s (ix3 0 i j) := by
  have e : (ix4 (1 : Fin 2) (1 : Fin 4) i j : S2x4x128x128.Idx) = (Rect.unit ![1, 1, 0, 0] ![1, 1, 128, 128] inb_S2x4x128x128_S1x1x128x128_1_1_0_0).emb (ix4 0 0 i j) := by
    funext a; apply Fin.ext
    match a with
    | ⟨0, _⟩ => show 1 = 1 + 1 * 0; omega
    | ⟨1, _⟩ => show 1 = 1 + 1 * 0; omega
    | ⟨2, _⟩ => show i.val = 0 + 1 * i.val; omega
    | ⟨3, _⟩ => show j.val = 0 + 1 * j.val; omega
  rw [e]; unfold stPieces
  refine (canon_skip _ _ _ _ _ (by decide)).trans ?_
  refine (canon_skip _ _ _ _ _ (by decide)).trans ?_
  refine (View.canon_cons_emb _ _ _ _).trans ?_
  refine Eq.trans ?_ (sq_at _ i j)
  pointwise []

theorem st_1_0 (i j : Fin 128) : View.canon (stPieces x l s) (ix4 (1 : Fin 2) (0 : Fin 4) i j) = t01 x l s (ix3 0 i j) := by
  have e : (ix4 (1 : Fin 2) (0 : Fin 4) i j : S2x4x128x128.Idx) = (Rect.unit ![1, 0, 0, 0] ![1, 1, 128, 128] inb_S2x4x128x128_S1x1x128x128_1_0_0_0).emb (ix4 0 0 i j) := by
    funext a; apply Fin.ext
    match a with
    | ⟨0, _⟩ => show 1 = 1 + 1 * 0; omega
    | ⟨1, _⟩ => show 0 = 0 + 1 * 0; omega
    | ⟨2, _⟩ => show i.val = 0 + 1 * i.val; omega
    | ⟨3, _⟩ => show j.val = 0 + 1 * j.val; omega
  rw [e]; unfold stPieces
  refine (canon_skip _ _ _ _ _ (by decide)).trans ?_
  refine (canon_skip _ _ _ _ _ (by decide)).trans ?_
  refine (canon_skip _ _ _ _ _ (by decide)).trans ?_
  refine (View.canon_cons_emb _ _ _ _).trans ?_
  refine Eq.trans ?_ (sq_at _ i j)
  pointwise []

theorem st_0_3 (i j : Fin 128) : View.canon (stPieces x l s) (ix4 (0 : Fin 2) (3 : Fin 4) i j) = t30 s (ix3 0 i j) := by
  have e : (ix4 (0 : Fin 2) (3 : Fin 4) i j : S2x4x128x128.Idx) = (Rect.unit ![0, 3, 0, 0] ![1, 1, 128, 128] inb_S2x4x128x128_S1x1x128x128_0_3_0_0).emb (ix4 0 0 i j) := by
    funext a; apply Fin.ext
    match a with
    | ⟨0, _⟩ => show 0 = 0 + 1 * 0; omega
    | ⟨1, _⟩ => show 3 = 3 + 1 * 0; omega
    | ⟨2, _⟩ => show i.val = 0 + 1 * i.val; omega
    | ⟨3, _⟩ => show j.val = 0 + 1 * j.val; omega
  rw [e]; unfold stPieces
  refine (canon_skip _ _ _ _ _ (by decide)).trans ?_
  refine (canon_skip _ _ _ _ _ (by decide)).trans ?_
  refine (canon_skip _ _ _ _ _ (by decide)).trans ?_
  refine (canon_skip _ _ _ _ _ (by decide)).trans ?_
  refine (View.canon_cons_emb _ _ _ _).trans ?_
  refine Eq.trans ?_ (sq_at _ i j)
  pointwise []

theorem st_0_2 (i j : Fin 128) : View.canon (stPieces x l s) (ix4 (0 : Fin 2) (2 : Fin 4) i j) = t20 s (ix3 0 i j) := by
  have e : (ix4 (0 : Fin 2) (2 : Fin 4) i j : S2x4x128x128.Idx) = (Rect.unit ![0, 2, 0, 0] ![1, 1, 128, 128] inb_S2x4x128x128_S1x1x128x128_0_2_0_0).emb (ix4 0 0 i j) := by
    funext a; apply Fin.ext
    match a with
    | ⟨0, _⟩ => show 0 = 0 + 1 * 0; omega
    | ⟨1, _⟩ => show 2 = 2 + 1 * 0; omega
    | ⟨2, _⟩ => show i.val = 0 + 1 * i.val; omega
    | ⟨3, _⟩ => show j.val = 0 + 1 * j.val; omega
  rw [e]; unfold stPieces
  refine (canon_skip _ _ _ _ _ (by decide)).trans ?_
  refine (canon_skip _ _ _ _ _ (by decide)).trans ?_
  refine (canon_skip _ _ _ _ _ (by decide)).trans ?_
  refine (canon_skip _ _ _ _ _ (by decide)).trans ?_
  refine (canon_skip _ _ _ _ _ (by decide)).trans ?_
  refine (View.canon_cons_emb _ _ _ _).trans ?_
  refine Eq.trans ?_ (sq_at _ i j)
  pointwise []

theorem st_0_1 (i j : Fin 128) : View.canon (stPieces x l s) (ix4 (0 : Fin 2) (1 : Fin 4) i j) = t10 s (ix3 0 i j) := by
  have e : (ix4 (0 : Fin 2) (1 : Fin 4) i j : S2x4x128x128.Idx) = (Rect.unit ![0, 1, 0, 0] ![1, 1, 128, 128] inb_S2x4x128x128_S1x1x128x128_0_1_0_0).emb (ix4 0 0 i j) := by
    funext a; apply Fin.ext
    match a with
    | ⟨0, _⟩ => show 0 = 0 + 1 * 0; omega
    | ⟨1, _⟩ => show 1 = 1 + 1 * 0; omega
    | ⟨2, _⟩ => show i.val = 0 + 1 * i.val; omega
    | ⟨3, _⟩ => show j.val = 0 + 1 * j.val; omega
  rw [e]; unfold stPieces
  refine (canon_skip _ _ _ _ _ (by decide)).trans ?_
  refine (canon_skip _ _ _ _ _ (by decide)).trans ?_
  refine (canon_skip _ _ _ _ _ (by decide)).trans ?_
  refine (canon_skip _ _ _ _ _ (by decide)).trans ?_
  refine (canon_skip _ _ _ _ _ (by decide)).trans ?_
  refine (canon_skip _ _ _ _ _ (by decide)).trans ?_
  refine (View.canon_cons_emb _ _ _ _).trans ?_
  refine Eq.trans ?_ (sq_at _ i j)
  pointwise []

theorem st_0_0 (i j : Fin 128) : View.canon (stPieces x l s) (ix4 (0 : Fin 2) (0 : Fin 4) i j) = t00 s (ix3 0 i j) := by
  have e : (ix4 (0 : Fin 2) (0 : Fin 4) i j : S2x4x128x128.Idx) = (Rect.unit ![0, 0, 0, 0] ![1, 1, 128, 128] inb_S2x4x128x128_S1x1x128x128_0_0_0_0).emb (ix4 0 0 i j) := by
    funext a; apply Fin.ext
    match a with
    | ⟨0, _⟩ => show 0 = 0 + 1 * 0; omega
    | ⟨1, _⟩ => show 0 = 0 + 1 * 0; omega
    | ⟨2, _⟩ => show i.val = 0 + 1 * i.val; omega
    | ⟨3, _⟩ => show j.val = 0 + 1 * j.val; omega
  rw [e]; unfold stPieces
  refine (canon_skip _ _ _ _ _ (by decide)).trans ?_
  refine (canon_skip _ _ _ _ _ (by decide)).trans ?_
  refine (canon_skip _ _ _ _ _ (by decide)).trans ?_
  refine (canon_skip _ _ _ _ _ (by decide)).trans ?_
  refine (canon_skip _ _ _ _ _ (by decide)).trans ?_
  refine (canon_skip _ _ _ _ _ (by decide)).trans ?_
  refine (canon_skip _ _ _ _ _ (by decide)).trans ?_
  refine (View.canon_cons_emb _ _ _ _).trans ?_
  refine Eq.trans ?_ (sq_at _ i j)
  pointwise []

theorem sc_3 (L : List (View.Piece (Elt Ideal) S4x128x128 .f32)) (i j : Fin 128) : View.canon (scPieces x l s ++ L) (ix3 (3 : Fin 4) i j) = t32 x l s (ix3 0 i j) := by
  have e : (ix3 (3 : Fin 4) i j : S4x128x128.Idx) = (Rect.unit ![3, 0, 0] ![1, 128, 128] inb_S4x128x128_S1x128x128_3_0_0).emb (ix3 0 i j) := by
    funext a; apply Fin.ext
    match a with
    | ⟨0, _⟩ => show 3 = 3 + 1 * 0; omega
    | ⟨1, _⟩ => show i.val = 0 + 1 * i.val; omega
    | ⟨2, _⟩ => show j.val = 0 + 1 * j.val; omega
  rw [e]; unfold scPieces; simp only [List.cons_append]
  exact View.canon_cons_emb _ _ _ _

theorem sc_2 (L : List (View.Piece (Elt Ideal) S4x128x128 .f32)) (i j : Fin 128) : View.canon (scPieces x l s ++ L) (ix3 (2 : Fin 4) i j) = t22 x l s (ix3 0 i j) := by
  have e : (ix3 (2 : Fin 4) i j : S4x128x128.Idx) = (Rect.unit ![2, 0, 0] ![1, 128, 128] inb_S4x128x128_S1x128x128_2_0_0).emb (ix3 0 i j) := by
    funext a; apply Fin.ext
    match a with
    | ⟨0, _⟩ => show 2 = 2 + 1 * 0; omega
    | ⟨1, _⟩ => show i.val = 0 + 1 * i.val; omega
    | ⟨2, _⟩ => show j.val = 0 + 1 * j.val; omega
  rw [e]; unfold scPieces; simp only [List.cons_append]
  refine (canon_skip _ _ _ _ _ (by decide)).trans ?_
  exact View.canon_cons_emb _ _ _ _

theorem sc_1 (L : List (View.Piece (Elt Ideal) S4x128x128 .f32)) (i j : Fin 128) : View.canon (scPieces x l s ++ L) (ix3 (1 : Fin 4) i j) = t12 x l s (ix3 0 i j) := by
  have e : (ix3 (1 : Fin 4) i j : S4x128x128.Idx) = (Rect.unit ![1, 0, 0] ![1, 128, 128] inb_S4x128x128_S1x128x128_1_0_0).emb (ix3 0 i j) := by
    funext a; apply Fin.ext
    match a with
    | ⟨0, _⟩ => show 1 = 1 + 1 * 0; omega
    | ⟨1, _⟩ => show i.val = 0 + 1 * i.val; omega
    | ⟨2, _⟩ => show j.val = 0 + 1 * j.val; omega
  rw [e]; unfold scPieces; simp only [List.cons_append]
  refine (canon_skip _ _ _ _ _ (by decide)).trans ?_
  refine (canon_skip _ _ _ _ _ (by decide)).trans ?_
  exact View.canon_cons_emb _ _ _ _

theorem sc_0 (L : List (View.Piece (Elt Ideal) S4x128x128 .f32)) (i j : Fin 128) : View.canon (scPieces x l s ++ L) (ix3 (0 : Fin 4) i j) = t02 x l s (ix3 0 i j) := by
  have e : (ix3 (0 : Fin 4) i j : S4x128x128.Idx) = (Rect.unit ![0, 0, 0] ![1, 128, 128] inb_S4x128x128_S1x128x128_0_0_0).emb (ix3 0 i j) := by
    funext a; apply Fin.ext
    match a with
    | ⟨0, _⟩ => show 0 = 0 + 1 * 0; omega
    | ⟨1, _⟩ => show i.val = 0 + 1 * i.val; omega
    | ⟨2, _⟩ => show j.val = 0 + 1 * j.val; omega
  rw [e]; unfold scPieces; simp only [List.cons_append]
  refine (canon_skip _ _ _ _ _ (by decide)).trans ?_
  refine (canon_skip _ _ _ _ _ (by decide)).trans ?_
  refine (canon_skip _ _ _ _ _ (by decide)).trans ?_
  exact View.canon_cons_emb _ _ _ _

end
end Cert.Hgrn
-- ==== Proof.Hgrn.Point.lean ====
module

public import proofs.«01_k».proof.Proof.Hgrn.Stores

/-! # One grid point of the forward recurrence, over the reals

If a block of 256 rows holds real numbers and the scratch buffer holds the states reached before them, the point's stores are the states and outputs
of the plain recurrence over those rows. -/

@[expose] public section
set_option maxRecDepth 65536
noncomputable section
namespace Cert.Hgrn
open Cert.Kernel4Ideal Cert.Kernel4Ideal.Gen Idealize.ShloMosaic Idealize.ShloMosaic.TcCoe Idealize.ShloMosaic.Pointwise

/-- The state and the output of head `h` by the plain recurrence. -/
def hSt (X : ℕ → Fin 2048 → ℝ) (L : Fin 2 → Fin 512 → ℝ) (h : Fin 4) (n : ℕ) (d e : Fin 128) : ℝ :=
  St (fr X L (128 * h.val) (by omega)) (kr X L (128 * h.val) (by omega)) (vr X (128 * h.val) (by omega)) n d e
def hOut (X : ℕ → Fin 2048 → ℝ) (L : Fin 2 → Fin 512 → ℝ) (h : Fin 4) (n : ℕ) (e : Fin 128) : ℝ :=
  out (fr X L (128 * h.val) (by omega)) (kr X L (128 * h.val) (by omega)) (vr X (128 * h.val) (by omega)) (qr X (128 * h.val) (by omega)) n e

/-- A row over the root of its mean square, and the gate. -/
def nrm (o : Fin 128 → EReal) (e : Fin 128) : EReal :=
  o e * Ideal.rsqrt (Ideal.div (∑ x, o x * o x) (Ideal.ofBits .f32 1124073472#32) + Ideal.ofBits .f32 897988541#32)
def gate (z : EReal) : EReal := z * Ideal.div 1 (1 + Ideal.exp (0 - z))

section Join
variable (a b c d : FVec Ideal S128x128 .f32) (i e : Fin 128)
theorem join_0 : join a b c d (ix2 i ⟨0 + e.val, by omega⟩) = a (ix2 i e) := by
  pointwise [join]
theorem yV_0 (x : Vec Ideal S128x2048 .f32) (w : Vec Ideal S1x512 .f32) : yV x w a b c d (ix2 i ⟨0 + e.val, by omega⟩)
    = nrm (fun e => a (ix2 i e)) e * w (ix2 0 ⟨0 + e.val, by omega⟩) * gate (x (ix2 i ⟨1536 + (0 + e.val), by omega⟩)) := by
  pointwise [yV, k0_pay123, k0_pay13, k0_pay120, k0_pay119, k0_pay121, k0_pay122]
  rfl

theorem join_1 : join a b c d (ix2 i ⟨128 + e.val, by omega⟩) = b (ix2 i e) := by
  pointwise [join]
theorem yV_1 (x : Vec Ideal S128x2048 .f32) (w : Vec Ideal S1x512 .f32) : yV x w a b c d (ix2 i ⟨128 + e.val, by omega⟩)
    = nrm (fun e => b (ix2 i e)) e * w (ix2 0 ⟨128 + e.val, by omega⟩) * gate (x (ix2 i ⟨1536 + (128 + e.val), by omega⟩)) := by
  pointwise [yV, k0_pay123, k0_pay13, k0_pay120, k0_pay119, k0_pay121, k0_pay122]
  rfl

theorem join_2 : join a b c d (ix2 i ⟨256 + e.val, by omega⟩) = c (ix2 i e) := by
  pointwise [join]
  simp only [show ¬256 + e.val < 128 by omega, show ¬256 + e.val - 128 < 128 by omega, show 256 + e.val - 128 - 128 < 128 by omega, ↓reduceDIte, show 256 + e.val - 128 - 128 = e.val by omega, show e.val < 128 from e.isLt]
theorem yV_2 (x : Vec Ideal S128x2048 .f32) (w : Vec Ideal S1x512 .f32) : yV x w a b c d (ix2 i ⟨256 + e.val, by omega⟩)
    = nrm (fun e => c (ix2 i e)) e * w (ix2 0 ⟨256 + e.val, by omega⟩) * gate (x (ix2 i ⟨1536 + (256 + e.val), by omega⟩)) := by
  pointwise [yV, k0_pay123, k0_pay13, k0_pay120, k0_pay119, k0_pay121, k0_pay122]
  simp only [show ¬256 + e.val < 128 by omega, show ¬256 + e.val - 128 < 128 by omega, show 256 + e.val - 128 - 128 < 128 by omega, ↓reduceDIte, show 256 + e.val - 128 - 128 = e.val by omega, show e.val < 128 from e.isLt]
  rfl

theorem join_3 : join a b c d (ix2 i ⟨384 + e.val, by omega⟩) = d (ix2 i e) := by
  pointwise [join]
  simp only [show ¬384 + e.val < 128 by omega, show ¬384 + e.val - 128 < 128 by omega, show ¬384 + e.val - 128 - 128 < 128 by omega, ↓reduceDIte, show 384 + e.val - 128 - 128 - 128 = e.val by omega]
theorem yV_3 (x : Vec Ideal S128x2048 .f32) (w : Vec Ideal S1x512 .f32) : yV x w a b c d (ix2 i ⟨384 + e.val, by omega⟩)
    = nrm (fun e => d (ix2 i e)) e * w (ix2 0 ⟨384 + e.val, by omega⟩) * gate (x (ix2 i ⟨1536 + (384 + e.val), by omega⟩)) := by
  pointwise [yV, k0_pay123, k0_pay13, k0_pay120, k0_pay119, k0_pay121, k0_pay122]
  simp only [show ¬384 + e.val < 128 by omega, show ¬384 + e.val - 128 < 128 by omega, show ¬384 + e.val - 128 - 128 < 128 by omega, ↓reduceDIte, show 384 + e.val - 128 - 128 - 128 = e.val by omega]
  rfl

end Join

section Step
variable (X : ℕ → Fin 2048 → ℝ) (L : Fin 2 → Fin 512 → ℝ) (l : Vec Ideal S2x512 .f32) (hl : ∀ i j, l (ix2 i j) = ((L i j : ℝ) : EReal))
include hl

/-- One head over one run of 128 rows. -/
theorem run128 (h : Fin 4) (N : ℕ) (w : Vec Ideal S128x2048 .f32) (hw : ∀ i j, w (ix2 i j) = ((X (N + i.val) j : ℝ) : EReal))
    (q : FVec Ideal S1x128x128 .f32) (hq : ∀ e d, q (ix3 0 e d) = ((hSt X L h N d e : ℝ) : EReal)) (o : ℕ) (ho : o + 128 ≤ 512) (eo : o = 128 * h.val) :
    (∀ e d, un (hS o ho w l (sq q)) (ix3 0 e d) = ((hSt X L h (N + 128) d e : ℝ) : EReal))
      ∧ ∀ i e, hO o ho w l (sq q) (ix2 i e) = ((hOut X L h (N + i.val) e : ℝ) : EReal) := by
  subst eo
  have hs : ∀ e d, sq q (ix2 e d) = ((St (fr X L (128 * h.val) ho) (kr X L (128 * h.val) ho) (vr X (128 * h.val) ho) N d e : ℝ) : EReal) := fun e d =>
    (sq_at q e d).trans (hq e d)
  exact ⟨fun e d => (un_at _ e d).trans (hS_coe X L _ ho N w l hw hl _ hs e d), fun i e => hO_coe X L _ ho N w l hw hl _ hs i e⟩

variable (N : ℕ) (x : Vec Ideal S256x2048 .f32) (hx : ∀ i j, x (ix2 i j) = ((X (N + i.val) j : ℝ) : EReal))
  (s : Vec Ideal S4x128x128 .f32) (hs : ∀ h e d, s (ix3 h e d) = ((hSt X L h N d e : ℝ) : EReal))
include hx

omit hl in
theorem lo_coe (i : Fin 128) (j : Fin 2048) : lo x (ix2 i j) = ((X (N + i.val) j : ℝ) : EReal) := (lo_at x i j).trans (hx _ _)
omit hl in
theorem hi_coe (i : Fin 128) (j : Fin 2048) : hi x (ix2 i j) = ((X (N + 128 + i.val) j : ℝ) : EReal) := by
  rw [hi_at, hx]; show ((X (N + (128 + i.val)) j : ℝ) : EReal) = _; rw [add_assoc]

include hs
theorem t00_coe (e d : Fin 128) : t00 s (ix3 0 e d) = ((hSt X L 0 N d e : ℝ) : EReal) := (hd_at 0 (by decide) _ s e d).trans (hs _ e d)
theorem t01_coe (e d : Fin 128) : t01 x l s (ix3 0 e d) = ((hSt X L 0 (N + 128) d e : ℝ) : EReal) :=
  (run128 X L l hl 0 N _ (lo_coe X N x hx) _ (t00_coe X L l hl N x hx s hs) 0 _ rfl).1 e d
theorem t02_coe (e d : Fin 128) : t02 x l s (ix3 0 e d) = ((hSt X L 0 (N + 128 + 128) d e : ℝ) : EReal) :=
  (run128 X L l hl 0 (N + 128) _ (hi_coe X N x hx) _ (t01_coe X L l hl N x hx s hs) 0 _ rfl).1 e d
theorem o00_coe (i e : Fin 128) : o00 x l s (ix2 i e) = ((hOut X L 0 (N + i.val) e : ℝ) : EReal) :=
  (run128 X L l hl 0 N _ (lo_coe X N x hx) _ (t00_coe X L l hl N x hx s hs) 0 _ rfl).2 i e
theorem o01_coe (i e : Fin 128) : o01 x l s (ix2 i e) = ((hOut X L 0 (N + 128 + i.val) e : ℝ) : EReal) :=
  (run128 X L l hl 0 (N + 128) _ (hi_coe X N x hx) _ (t01_coe X L l hl N x hx s hs) 0 _ rfl).2 i e

theorem t10_coe (e d : Fin 128) : t10 s (ix3 0 e d) = ((hSt X L 1 N d e : ℝ) : EReal) := (hd_at 1 (by decide) _ s e d).trans (hs _ e d)
theorem t11_coe (e d : Fin 128) : t11 x l s (ix3 0 e d) = ((hSt X L 1 (N + 128) d e : ℝ) : EReal) :=
  (run128 X L l hl 1 N _ (lo_coe X N x hx) _ (t10_coe X L l hl N x hx s hs) 128 _ rfl).1 e d
theorem t12_coe (e d : Fin 128) : t12 x l s (ix3 0 e d) = ((hSt X L 1 (N + 128 + 128) d e : ℝ) : EReal) :=
  (run128 X L l hl 1 (N + 128) _ (hi_coe X N x hx) _ (t11_coe X L l hl N x hx s hs) 128 _ rfl).1 e d
theorem o10_coe (i e : Fin 128) : o10 x l s (ix2 i e) = ((hOut X L 1 (N + i.val) e : ℝ) : EReal) :=
  (run128 X L l hl 1 N _ (lo_coe X N x hx) _ (t10_coe X L l hl N x hx s hs) 128 _ rfl).2 i e
theorem o11_coe (i e : Fin 128) : o11 x l s (ix2 i e) = ((hOut X L 1 (N + 128 + i.val) e : ℝ) : EReal) :=
  (run128 X L l hl 1 (N + 128) _ (hi_coe X N x hx) _ (t11_coe X L l hl N x hx s hs) 128 _ rfl).2 i e

theorem t20_coe (e d : Fin 128) : t20 s (ix3 0 e d) = ((hSt X L 2 N d e : ℝ) : EReal) := (hd_at 2 (by decide) _ s e d).trans (hs _ e d)
theorem t21_coe (e d : Fin 128) : t21 x l s (ix3 0 e d) = ((hSt X L 2 (N + 128) d e : ℝ) : EReal) :=
  (run128 X L l hl 2 N _ (lo_coe X N x hx) _ (t20_coe X L l hl N x hx s hs) 256 _ rfl).1 e d
theorem t22_coe (e d : Fin 128) : t22 x l s (ix3 0 e d) = ((hSt X L 2 (N + 128 + 128) d e : ℝ) : EReal) :=
  (run128 X L l hl 2 (N + 128) _ (hi_coe X N x hx) _ (t21_coe X L l hl N x hx s hs) 256 _ rfl).1 e d
theorem o20_coe (i e : Fin 128) : o20 x l s (ix2 i e) = ((hOut X L 2 (N + i.val) e : ℝ) : EReal) :=
  (run128 X L l hl 2 N _ (lo_coe X N x hx) _ (t20_coe X L l hl N x hx s hs) 256 _ rfl).2 i e
theorem o21_coe (i e : Fin 128) : o21 x l s (ix2 i e) = ((hOut X L 2 (N + 128 + i.val) e : ℝ) : EReal) :=
  (run128 X L l hl 2 (N + 128) _ (hi_coe X N x hx) _ (t21_coe X L l hl N x hx s hs) 256 _ rfl).2 i e

theorem t30_coe (e d : Fin 128) : t30 s (ix3 0 e d) = ((hSt X L 3 N d e : ℝ) : EReal) := (hd_at 3 (by decide) _ s e d).trans (hs _ e d)
theorem t31_coe (e d : Fin 128) : t31 x l s (ix3 0 e d) = ((hSt X L 3 (N + 128) d e : ℝ) : EReal) :=
  (run128 X L l hl 3 N _ (lo_coe X N x hx) _ (t30_coe X L l hl N x hx s hs) 384 _ rfl).1 e d
theorem t32_coe (e d : Fin 128) : t32 x l s (ix3 0 e d) = ((hSt X L 3 (N + 128 + 128) d e : ℝ) : EReal) :=
  (run128 X L l hl 3 (N + 128) _ (hi_coe X N x hx) _ (t31_coe X L l hl N x hx s hs) 384 _ rfl).1 e d
theorem o30_coe (i e : Fin 128) : o30 x l s (ix2 i e) = ((hOut X L 3 (N + i.val) e : ℝ) : EReal) :=
  (run128 X L l hl 3 N _ (lo_coe X N x hx) _ (t30_coe X L l hl N x hx s hs) 384 _ rfl).2 i e
theorem o31_coe (i e : Fin 128) : o31 x l s (ix2 i e) = ((hOut X L 3 (N + 128 + i.val) e : ℝ) : EReal) :=
  (run128 X L l hl 3 (N + 128) _ (hi_coe X N x hx) _ (t31_coe X L l hl N x hx s hs) 384 _ rfl).2 i e

/-- The scratch buffer after the point. -/
theorem sc_coe (P : List (View.Piece (Elt Ideal) S4x128x128 .f32)) (h : Fin 4) (e d : Fin 128) :
    View.canon (scPieces x l s ++ P) (ix3 h e d) = ((hSt X L h (N + 256) d e : ℝ) : EReal) := by
  rw [show N + 256 = N + 128 + 128 by omega]
  match h with
  | ⟨0, _⟩ => exact (sc_0 x l s P e d).trans (t02_coe X L l hl N x hx s hs e d)
  | ⟨1, _⟩ => exact (sc_1 x l s P e d).trans (t12_coe X L l hl N x hx s hs e d)
  | ⟨2, _⟩ => exact (sc_2 x l s P e d).trans (t22_coe X L l hl N x hx s hs e d)
  | ⟨3, _⟩ => exact (sc_3 x l s P e d).trans (t32_coe X L l hl N x hx s hs e d)

/-- The states stored before each run. -/
theorem st_coe (k : Fin 2) (h : Fin 4) (e d : Fin 128) :
    View.canon (stPieces x l s) (ix4 k h e d) = ((hSt X L h (N + 128 * k.val) d e : ℝ) : EReal) := by
  match k, h with
  | ⟨0, _⟩, ⟨0, _⟩ => exact (st_0_0 x l s e d).trans (t00_coe X L l hl N x hx s hs e d)
  | ⟨0, _⟩, ⟨1, _⟩ => exact (st_0_1 x l s e d).trans (t10_coe X L l hl N x hx s hs e d)
  | ⟨0, _⟩, ⟨2, _⟩ => exact (st_0_2 x l s e d).trans (t20_coe X L l hl N x hx s hs e d)
  | ⟨0, _⟩, ⟨3, _⟩ => exact (st_0_3 x l s e d).trans (t30_coe X L l hl N x hx s hs e d)
  | ⟨1, _⟩, ⟨0, _⟩ => exact (st_1_0 x l s e d).trans (t01_coe X L l hl N x hx s hs e d)
  | ⟨1, _⟩, ⟨1, _⟩ => exact (st_1_1 x l s e d).trans (t11_coe X L l hl N x hx s hs e d)
  | ⟨1, _⟩, ⟨2, _⟩ => exact (st_1_2 x l s e d).trans (t21_coe X L l hl N x hx s hs e d)
  | ⟨1, _⟩, ⟨3, _⟩ => exact (st_1_3 x l s e d).trans (t31_coe X L l hl N x hx s hs e d)

/-- The outputs before the norm. -/
theorem o_coe (r : Fin 256) (h : Fin 4) (e : Fin 128) :
    View.canon (oPieces x l s) (ix2 r ⟨128 * h.val + e.val, by omega⟩) = ((hOut X L h (N + r.val) e : ℝ) : EReal) := by
  by_cases hr : r.val < 128
  · have er : r = ⟨(⟨r.val, hr⟩ : Fin 128).val, by omega⟩ := rfl
    rw [er, o_0]
    match h with
    | ⟨0, _⟩ => exact (join_0 _ _ _ _ _ e).trans ((o00_coe X L l hl N x hx s hs _ e).trans rfl)
    | ⟨1, _⟩ => exact (join_1 _ _ _ _ _ e).trans ((o10_coe X L l hl N x hx s hs _ e).trans rfl)
    | ⟨2, _⟩ => exact (join_2 _ _ _ _ _ e).trans ((o20_coe X L l hl N x hx s hs _ e).trans rfl)
    | ⟨3, _⟩ => exact (join_3 _ _ _ _ _ e).trans ((o30_coe X L l hl N x hx s hs _ e).trans rfl)
  · have er : r = ⟨128 + (⟨r.val - 128, by omega⟩ : Fin 128).val, by omega⟩ := Fin.ext (by simp; omega)
    rw [er, o_1]
    match h with
    | ⟨0, _⟩ => exact (join_0 _ _ _ _ _ e).trans ((o01_coe X L l hl N x hx s hs _ e).trans (by simp [add_assoc]))
    | ⟨1, _⟩ => exact (join_1 _ _ _ _ _ e).trans ((o11_coe X L l hl N x hx s hs _ e).trans (by simp [add_assoc]))
    | ⟨2, _⟩ => exact (join_2 _ _ _ _ _ e).trans ((o21_coe X L l hl N x hx s hs _ e).trans (by simp [add_assoc]))
    | ⟨3, _⟩ => exact (join_3 _ _ _ _ _ e).trans ((o31_coe X L l hl N x hx s hs _ e).trans (by simp [add_assoc]))

/-- The results: normed, scaled and gated. -/
theorem y_coe (w : Vec Ideal S1x512 .f32) (r : Fin 256) (h : Fin 4) (e : Fin 128) :
    View.canon (yPieces x l s w) (ix2 r ⟨128 * h.val + e.val, by omega⟩)
      = nrm (fun e => ((hOut X L h (N + r.val) e : ℝ) : EReal)) e * w (ix2 0 ⟨128 * h.val + e.val, by omega⟩)
        * gate ((X (N + r.val) ⟨1536 + (128 * h.val + e.val), by omega⟩ : ℝ) : EReal) := by
  by_cases hr : r.val < 128
  · have er : r = ⟨(⟨r.val, hr⟩ : Fin 128).val, by omega⟩ := rfl
    rw [er, y_0]
    match h with
    | ⟨0, _⟩ => refine (yV_0 _ _ _ _ _ e _ w).trans ?_; simp only [o00_coe X L l hl N x hx s hs, lo_coe X N x hx]; rfl
    | ⟨1, _⟩ => refine (yV_1 _ _ _ _ _ e _ w).trans ?_; simp only [o10_coe X L l hl N x hx s hs, lo_coe X N x hx]; rfl
    | ⟨2, _⟩ => refine (yV_2 _ _ _ _ _ e _ w).trans ?_; simp only [o20_coe X L l hl N x hx s hs, lo_coe X N x hx]; rfl
    | ⟨3, _⟩ => refine (yV_3 _ _ _ _ _ e _ w).trans ?_; simp only [o30_coe X L l hl N x hx s hs, lo_coe X N x hx]; rfl
  · have er : r = ⟨128 + (⟨r.val - 128, by omega⟩ : Fin 128).val, by omega⟩ := Fin.ext (by simp; omega)
    rw [er, y_1]
    match h with
    | ⟨0, _⟩ => refine (yV_0 _ _ _ _ _ e _ w).trans ?_; simp only [o01_coe X L l hl N x hx s hs, hi_coe X N x hx, add_assoc]; rfl
    | ⟨1, _⟩ => refine (yV_1 _ _ _ _ _ e _ w).trans ?_; simp only [o11_coe X L l hl N x hx s hs, hi_coe X N x hx, add_assoc]; rfl
    | ⟨2, _⟩ => refine (yV_2 _ _ _ _ _ e _ w).trans ?_; simp only [o21_coe X L l hl N x hx s hs, hi_coe X N x hx, add_assoc]; rfl
    | ⟨3, _⟩ => refine (yV_3 _ _ _ _ _ e _ w).trans ?_; simp only [o31_coe X L l hl N x hx s hs, hi_coe X N x hx, add_assoc]; rfl
end Step
end Cert.Hgrn
-- ==== Proof.Hgrn.Arrays.lean ====
module

public import proofs.«01_k».proof.Proof.Gen.Kernel4Ideal.Value
public import proofs.«01_k».proof.Proof.Hgrn.Point

/-! # The kernel's three arrays after the launch

When the first two arguments hold real numbers, the states carried from point to point are those of the plain recurrence, so the three result arrays
are its outputs (gated, and as they are) and its states before every 128th row. -/

@[expose] public section
set_option maxRecDepth 65536
noncomputable section
namespace Cert.Hgrn
open Cert.Kernel4Ideal Cert.Kernel4Ideal.Gen Cert.Kernel4Ideal.Value Idealize.ShloMosaic Idealize.ShloMosaic.TcCoe Idealize.ShloMosaic.Pointwise

variable (m : (ℓ : Loc nD τ sig) → Buf (Elt Ideal) ℓ) (c : Dev nD)

/-- Row `r` of point `t`. -/
def pos (t : Fin cfg0.N) (r : Fin 256) : Fin 8192 := ⟨256 * t.val + r.val, by have : t.val < 32 := t.isLt; omega⟩

theorem idx_blocks : ∀ t : Fin grid0.N, win0_0.index t 0 = t.val ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 0 ∧ win0_4.index t 0 = t.val ∧ win0_4.index t 1 = 0
    ∧ win0_5.index t 0 = t.val ∧ win0_5.index t 1 = 0 ∧ win0_5.index t 2 = 0 ∧ win0_5.index t 3 = 0 := by
  decide +kernel

theorem blk_0 (t : Fin cfg0.N) (r : Fin 256) (e : Fin 2048) : iblk m c 0 t (ix2 r e) = m ((c : Thread nD τ).loc main_arg0) (ix2 (pos t r) e) := by
  rw [← V_main_arg0 m c]; unfold iblk; rw [View.read_apply]; show V m c main_arg0 _ = _; congr 1; funext a; apply Fin.ext
  match a with
  | ⟨0, _⟩ => show win0_0.index t 0 * 256 + 1 * r.val = 256 * t.val + r.val; rw [(idx_blocks t).1]; omega
  | ⟨1, _⟩ => show win0_0.index t 1 * 2048 + 1 * e.val = e.val; rw [(idx_blocks t).2.1]; omega
theorem blk_1 (t : Fin cfg0.N) (r : Fin 2) (e : Fin 512) : iblk m c 1 t (ix2 r e) = m ((c : Thread nD τ).loc main_arg1) (ix2 r e) := by
  rw [← V_main_arg1 m c]; unfold iblk; rw [View.read_apply]; show V m c main_arg1 _ = _; congr 1; funext a; apply Fin.ext
  match a with
  | ⟨0, _⟩ => show win0_1.index t 0 * 2 + 1 * r.val = r.val; rw [(idx_blocks t).2.2.1]; omega
  | ⟨1, _⟩ => show win0_1.index t 1 * 512 + 1 * e.val = e.val; rw [(idx_blocks t).2.2.2.1]; omega
theorem blk_2 (t : Fin cfg0.N) (e : Fin 512) : iblk m c 2 t (ix2 0 e) = m ((c : Thread nD τ).loc main_arg2) (ix2 0 e) := by
  rw [← V_main_arg2 m c]; unfold iblk; rw [View.read_apply]; show V m c main_arg2 _ = _; congr 1; funext a; apply Fin.ext
  match a with
  | ⟨0, _⟩ => show win0_2.index t 0 * 1 + 1 * 0 = 0; rw [(idx_blocks t).2.2.2.2.1]
  | ⟨1, _⟩ => show win0_2.index t 1 * 512 + 1 * e.val = e.val; rw [(idx_blocks t).2.2.2.2.2.1]; omega

variable (X : ℕ → Fin 2048 → ℝ) (L : Fin 2 → Fin 512 → ℝ)
  (hX : ∀ (i : Fin 8192) j, m ((c : Thread nD τ).loc main_arg0) (ix2 i j) = ((X i.val j : ℝ) : EReal))
  (hL : ∀ i j, m ((c : Thread nD τ).loc main_arg1) (ix2 i j) = ((L i j : ℝ) : EReal))

include hX in
theorem bX (t : Fin cfg0.N) (i : Fin 256) (j : Fin 2048) : iblk m c 0 t (ix2 i j) = ((X (256 * t.val + i.val) j : ℝ) : EReal) :=
  (blk_0 m c t i j).trans (hX _ _)
include hL in
theorem bL (t : Fin cfg0.N) (i : Fin 2) (j : Fin 512) : iblk m c 1 t (ix2 i j) = ((L i j : ℝ) : EReal) := (blk_1 m c t i j).trans (hL _ _)

/-- The scratch buffer is cleared to the state before the first row. -/
theorem zero_coe (h : Fin 4) (e d : Fin 128) : k0_pay2 (F := Ideal) (ix3 h e d) = ((hSt X L h 0 d e : ℝ) : EReal) := by
  have z : k0_pay2 (F := Ideal) (ix3 h e d) = 0 := by pointwise [k0_pay2]
  rw [z]; rfl

/-- What a point finds in the scratch buffer (the first point: what it stores there). -/
def before (t : Fin cfg0.N) : Vec Ideal S4x128x128 .f32 :=
  if t.val % 32 = 0 then k0_pay2 (F := Ideal) else (outsAt0 m c (t.val - 1) (Nat.lt_of_le_of_lt (Nat.sub_le _ _) t.isLt)).2.2.2

theorem whole_y (t : Fin cfg0.N) : (outsAt0 m c t.val t.isLt).1 = View.canon (yPieces (iblk m c 0 t) (iblk m c 1 t) (before m c t) (iblk m c 2 t)) := by
  by_cases h0 : t.val % 32 = 0
  · rw [outsAt0_A m c t h0, before, if_pos h0]; dsimp only; rw [runA_3]
  · rw [outsAt0_B m c t h0, before, if_neg h0]; dsimp only; rw [runB_3]
theorem whole_o (t : Fin cfg0.N) : (outsAt0 m c t.val t.isLt).2.1 = View.canon (oPieces (iblk m c 0 t) (iblk m c 1 t) (before m c t)) := by
  by_cases h0 : t.val % 32 = 0
  · rw [outsAt0_A m c t h0, before, if_pos h0]; dsimp only; rw [runA_4]
  · rw [outsAt0_B m c t h0, before, if_neg h0]; dsimp only; rw [runB_4]
theorem whole_st (t : Fin cfg0.N) : (outsAt0 m c t.val t.isLt).2.2.1 = View.canon (stPieces (iblk m c 0 t) (iblk m c 1 t) (before m c t)) := by
  by_cases h0 : t.val % 32 = 0
  · rw [outsAt0_A m c t h0, before, if_pos h0]; dsimp only; rw [runA_5]
  · rw [outsAt0_B m c t h0, before, if_neg h0]; dsimp only; rw [runB_5]
theorem whole_sc (t : Fin cfg0.N) : ∃ P, (outsAt0 m c t.val t.isLt).2.2.2 = View.canon (scPieces (iblk m c 0 t) (iblk m c 1 t) (before m c t) ++ P) := by
  by_cases h0 : t.val % 32 = 0
  · refine ⟨[⟨Rect.unit ![0, 0, 0] ![4, 128, 128] inb_S4x128x128_S4x128x128_0_0_0, k0_pay2 (F := Ideal)⟩], ?_⟩; rw [outsAt0_A m c t h0, before, if_pos h0]; dsimp only; rw [srunA_0]
  · refine ⟨[], ?_⟩; rw [outsAt0_B m c t h0, before, if_neg h0]; dsimp only; rw [srunB_0, List.append_nil]

include hX hL

/-- The states before point `n` are those before row `256 n`. -/
theorem before_coe : ∀ (n : ℕ) (hn : n < cfg0.N) (h : Fin 4) (e d : Fin 128), before m c ⟨n, hn⟩ (ix3 h e d) = ((hSt X L h (256 * n) d e : ℝ) : EReal)
  | 0, hn, h, e, d => by rw [before, if_pos (Nat.zero_mod _)]; exact zero_coe X L h e d
  | n + 1, hn, h, e, d => by
    have hN : cfg0.N = 32 := rfl
    rw [before, if_neg (by dsimp only; omega)]
    obtain ⟨P, hP⟩ := whole_sc m c ⟨n, Nat.lt_of_succ_lt hn⟩
    refine (congrFun hP (ix3 h e d)).trans ?_
    rw [sc_coe X L _ (bL m c L hL _) (256 * n) _ (bX m c X hX ⟨n, _⟩) _ (before_coe n (Nat.lt_of_succ_lt hn)) P h e d]
    rw [show 256 * n + 256 = 256 * (n + 1) by omega]

/-! ## The three arrays -/

theorem arr_o (t : Fin cfg0.N) (r : Fin 256) (h : Fin 4) (e : Fin 128) :
    (dats m 0 c).arrAt 4 cfg0.N (ix2 (pos t r) ⟨128 * h.val + e.val, by omega⟩) = ((hOut X L h (256 * t.val + r.val) e : ℝ) : EReal) := by
  rw [← o_coe X L _ (bL m c L hL t) (256 * t.val) _ (bX m c X hX t) _ (before_coe m c X L hX hL t.val t.isLt) r h e, ← whole_o]
  refine Eq.trans ?_ (congrFun ((blocks4 m c t (flush0_4 t)).trans (flushed4 m c t)) (ix2 r ⟨128 * h.val + e.val, by omega⟩))
  rw [View.read_apply]; show (dats m 0 c).arrAt 4 cfg0.N _ = (dats m 0 c).arrAt 4 cfg0.N _; congr 1; funext a; apply Fin.ext
  match a with
  | ⟨0, _⟩ => show 256 * t.val + r.val = win0_4.index t 0 * 256 + 1 * r.val; rw [(idx_blocks t).2.2.2.2.2.2.2.2.1]; omega
  | ⟨1, _⟩ => show 128 * h.val + e.val = win0_4.index t 1 * 512 + 1 * (128 * h.val + e.val); rw [(idx_blocks t).2.2.2.2.2.2.2.2.2.1]; omega

theorem arr_y (t : Fin cfg0.N) (r : Fin 256) (h : Fin 4) (e : Fin 128) :
    (dats m 0 c).arrAt 3 cfg0.N (ix2 (pos t r) ⟨128 * h.val + e.val, by omega⟩)
      = nrm (fun e => ((hOut X L h (256 * t.val + r.val) e : ℝ) : EReal)) e * m ((c : Thread nD τ).loc main_arg2) (ix2 0 ⟨128 * h.val + e.val, by omega⟩)
        * gate ((X (256 * t.val + r.val) ⟨1536 + (128 * h.val + e.val), by omega⟩ : ℝ) : EReal) := by
  rw [← blk_2 m c t, ← y_coe X L _ (bL m c L hL t) (256 * t.val) _ (bX m c X hX t) _ (before_coe m c X L hX hL t.val t.isLt) _ r h e, ← whole_y]
  refine Eq.trans ?_ (congrFun ((blocks3 m c t (flush0_3 t)).trans (flushed3 m c t)) (ix2 r ⟨128 * h.val + e.val, by omega⟩))
  rw [View.read_apply]; show (dats m 0 c).arrAt 3 cfg0.N _ = (dats m 0 c).arrAt 3 cfg0.N _; congr 1; funext a; apply Fin.ext
  match a with
  | ⟨0, _⟩ => show 256 * t.val + r.val = win0_3.index t 0 * 256 + 1 * r.val; rw [(idx_blocks t).2.2.2.2.2.2.1]; omega
  | ⟨1, _⟩ => show 128 * h.val + e.val = win0_3.index t 1 * 512 + 1 * (128 * h.val + e.val); rw [(idx_blocks t).2.2.2.2.2.2.2.1]; omega

theorem arr_st (t : Fin cfg0.N) (k : Fin 2) (h : Fin 4) (e d : Fin 128) :
    (dats m 0 c).arrAt 5 cfg0.N (ix4 ⟨2 * t.val + k.val, by have : t.val < 32 := t.isLt; omega⟩ h e d) = ((hSt X L h (256 * t.val + 128 * k.val) d e : ℝ) : EReal) := by
  rw [← st_coe X L _ (bL m c L hL t) (256 * t.val) _ (bX m c X hX t) _ (before_coe m c X L hX hL t.val t.isLt) k h e d, ← whole_st]
  refine Eq.trans ?_ (congrFun ((blocks5 m c t (flush0_5 t)).trans (flushed5 m c t)) (ix4 k h e d))
  rw [View.read_apply]; show (dats m 0 c).arrAt 5 cfg0.N _ = (dats m 0 c).arrAt 5 cfg0.N _; congr 1; funext a; apply Fin.ext
  match a with
  | ⟨0, _⟩ => show 2 * t.val + k.val = win0_5.index t 0 * 2 + 1 * k.val; rw [(idx_blocks t).2.2.2.2.2.2.2.2.2.2.1]; omega
  | ⟨1, _⟩ => show h.val = win0_5.index t 1 * 4 + 1 * h.val; rw [(idx_blocks t).2.2.2.2.2.2.2.2.2.2.2.1]; omega
  | ⟨2, _⟩ => show e.val = win0_5.index t 2 * 128 + 1 * e.val; rw [(idx_blocks t).2.2.2.2.2.2.2.2.2.2.2.2.1]; omega
  | ⟨3, _⟩ => show d.val = win0_5.index t 3 * 128 + 1 * d.val; rw [(idx_blocks t).2.2.2.2.2.2.2.2.2.2.2.2.2]; omega

end Cert.Hgrn
-- ==== Proof.Hgrn.RefSet.lean ====
/- What the reference computes before its loop, at an index: the query, the decay and the input of every position. -/
module

public import proofs.«01_k».proof.Proof.Gen.Reference4Ideal.Step
public import proofs.«01_k».proof.Proof.Small.Ref
public import proofs.«01_k».proof.Proof.Hgrn.Point

@[expose] public section

set_option maxRecDepth 16384

noncomputable section

namespace Cert.Hgrn.Ref

open Cert.Reference4Ideal Cert.Reference4Ideal.Gen Cert.Reference4Ideal.Step Idealize.ShloMosaic Idealize.ShloMosaic.TcCoe Cert.InB
open Cert.Small.Ref (W2 w2_list w2_at)

theorem lz : K_main_call0_call0_v0 (F := Ideal) = fun _ => 0 := by
  funext i
  rw [show i = fun a => a.elim0 from funext fun a => a.elim0]
  pointwise [K_main_call0_call0_v0, K_main_call0_call0_cst]

/-- The first row of the running sums is the first row. -/
theorem window (y : Arr2 2 512) (j : Fin 512) :
    Ideal.hostReduceWindowAdd ![2, 1] ![1, 1] ![1, 0] ![0, 0] reduceWindows_S2x512_S2x512_w2s1p1_0_w1s1p0_0 y 0 (ix2 0 j) = y (ix2 0 j) := by
  unfold Ideal.hostReduceWindowAdd Host.reduceWindow
  dsimp only
  rw [w2_list]
  simp only [List.foldl]
  have n00 : (W2.rowMajor.symm ⟨0, by decide⟩ 0).val = 0 := w2_at _ _
  have n10 : (W2.rowMajor.symm ⟨1, by decide⟩ 0).val = 1 := w2_at _ _
  have n11 : (W2.rowMajor.symm ⟨1, by decide⟩ 1).val = 0 := w2_at _ _
  have hj : j.val < 512 := j.isLt
  rw [dif_neg, dif_pos]
  · rw [add_zero, zero_add]
    refine congrArg y (funext fun a => Fin.ext ?_)
    match a with
    | ⟨0, _⟩ => show 0 * 1 + (W2.rowMajor.symm ⟨1, by decide⟩ 0).val - 1 = 0
                omega
    | ⟨1, _⟩ => show j.val * 1 + (W2.rowMajor.symm ⟨1, by decide⟩ 1).val - 0 = j.val
                omega
  · intro a
    match a with
    | ⟨0, _⟩ => show 1 ≤ 0 * 1 + (W2.rowMajor.symm ⟨1, by decide⟩ 0).val ∧ 0 * 1 + (W2.rowMajor.symm ⟨1, by decide⟩ 0).val - 1 < 2
                omega
    | ⟨1, _⟩ => show 0 ≤ j.val * 1 + (W2.rowMajor.symm ⟨1, by decide⟩ 1).val ∧ j.val * 1 + (W2.rowMajor.symm ⟨1, by decide⟩ 1).val - 0 < 512
                omega
  · intro hc
    have := (hc 0).1
    change 1 ≤ 0 * 1 + (W2.rowMajor.symm ⟨0, by decide⟩ 0).val at this
    omega

theorem v2_at (x : Arr2 8192 2048) (l : Arr2 2 512) (j : Fin 512) : A_main_v2 (F := Ideal) x l (ix1 j) = max (l (ix2 0 j)) (l (ix2 1 j)) := by
  pointwise [A_main_v2, A_main_v0, K_main_v1, K_main_cst, K_main_cst_0]
  have hb : Ideal.ofBits .f32 4286578688#32 = ⊥ := by simp [Ideal.ofBits, Ideal.ieee]
  rw [hb]
  simp [Fin.univ_succ]

theorem v10_at (x : Arr2 8192 2048) (l : Arr2 2 512) (j : Fin 512) : A_main_v10 (F := Ideal) x l (ix2 0 j) = lbE (l (ix2 0 j)) (l (ix2 1 j)) := by
  pointwise [A_main_v10, A_main_v9, A_main_v8, A_main_v7, A_main_v6, A_main_v5, A_main_v4, A_main_v3, K_main_cst_1]
  simp only [v2_at, Fin.sum_univ_two]

theorem v11_at (x : Arr2 8192 2048) (l : Arr2 2 512) (j : Fin 512) : A_main_v11 (F := Ideal) x l (ix2 0 j) = lbE (l (ix2 0 j)) (l (ix2 1 j)) := by
  rw [A_main_v11, lz, Host.reduceWindowAdd, Ideal.hostReduceWindowAdd_def, window, v10_at]

theorem v13_at (x : Arr2 8192 2048) (l : Arr2 2 512) (j : Fin 512) : A_main_v13 (F := Ideal) x l (ix1 j) = lbE (l (ix2 0 j)) (l (ix2 1 j)) := by
  pointwise [A_main_v13, A_main_v12]
  rw [v11_at]

theorem v30_at (x : Arr2 8192 2048) (l : Arr2 2 512) (i : Fin 8192) (j : Fin 512) :
    A_main_v30 (F := Ideal) x l (ix2 i j) = fE (l (ix2 0 j)) (l (ix2 1 j)) (x (ix2 i ⟨512 + j.val, by omega⟩)) := by
  pointwise [A_main_v30, A_main_v29, A_main_v28, A_main_v27, A_main_v26, A_main_v25, A_main_v24, A_main_v22, A_main_v20, A_main_v19, A_main_v18, A_main_v17,
    K_main_v16, K_main_cst_2, K_main_v21, K_main_cst_3, K_main_v23, K_main_cst_4]
  simp only [v13_at]
  rw [← zero_sub]

theorem v15_at (x : Arr2 8192 2048) (l : Arr2 2 512) (i : Fin 8192) (j : Fin 512) :
    A_main_v15 (F := Ideal) x l (ix2 i j) = x (ix2 i ⟨j.val, by omega⟩) * sgE (x (ix2 i ⟨j.val, by omega⟩)) := by
  pointwise [A_main_v15, A_main_v14, A_main_call1_v5, A_main_call1_v3, A_main_call1_v1, A_main_call1_v0, K_main_call1_v2, K_main_call1_cst, K_main_call1_v4, K_main_call1_cst_0]
  rw [← zero_sub]

section Rows
variable (x : Arr2 8192 2048) (l : Arr2 2 512) (X : ℕ → Fin 2048 → ℝ) (L : Fin 2 → Fin 512 → ℝ)
  (hx : ∀ (i : Fin 8192) j, x (ix2 i j) = ((X i.val j : ℝ) : EReal)) (hl : ∀ i j, l (ix2 i j) = ((L i j : ℝ) : EReal))
  (t : Fin 8192) (h : Fin 4) (d : Fin 128)
include hx hl

theorem q_at : A_main_v32 (F := Ideal) x l (ix3 t h d) = ((qr X (128 * h.val) (by omega) t.val d : ℝ) : EReal) := by
  pointwise [A_main_v32]
  rw [v15_at, hx, sgE_coe, ← EReal.coe_mul]
  simp only [Nat.mul_comm h.val 128]
  rfl
theorem f_at : A_main_v33 (F := Ideal) x l (ix3 t h d) = ((fr X L (128 * h.val) (by omega) t.val d : ℝ) : EReal) := by
  pointwise [A_main_v33]
  rw [v30_at, hx, hl, hl, fE_coe]
  simp only [Nat.mul_comm h.val 128]
  rfl
theorem i_at : A_main_v35 (F := Ideal) x l (ix3 t h d) = ((vr X (128 * h.val) (by omega) t.val d : ℝ) : EReal) := by
  pointwise [A_main_v35, A_main_v34]
  rw [hx]
  simp only [Nat.mul_comm h.val 128]
  rfl
end Rows

end Cert.Hgrn.Ref
-- ==== Proof.Hgrn.RefRun.lean ====
/- The reference's loop: after `n` trips it carries the recurrence's state before position `n` and the rows of states and outputs
   written so far. -/
module

public import proofs.«01_k».proof.Proof.Gen.Reference4Ideal.Run
public import proofs.«01_k».proof.Proof.Hgrn.RefSet
public import Idealize.ShloMosaic.Lib.WordCmp

@[expose] public section

set_option maxRecDepth 16384

noncomputable section

namespace Cert.Hgrn.Ref

open Cert.Reference4Ideal Cert.Reference4Ideal.Gen Cert.Reference4Ideal.Value Idealize.ShloMosaic Idealize.ShloMosaic.TcCoe Idealize.ShloMosaic.StableHlo Idealize.SL.Sem Idealize.ShloMosaic.WordCmp Cert.InB

/-! ## Reading and writing one row -/

section Row
variable (n : ℕ) (hn : n < 8192)

/-- The start of row `n`, as the loop's counter gives it. -/
theorem start_row (n : ℕ) (w : BitVec 32) (hw : w = BitVec.ofNat 32 n) (hn : n < 8192) : w.toInt = (n : Int) := by
  rw [hw]; exact toInt_ofNat_of_lt (by omega)

theorem row_read (x : S8192x4x128.Idx → EReal) (start : Fin 3 → Int) (h0 : start 0 = (n : Int)) (h1 : start 1 = 0) (h2 : start 2 = 0) (a : Fin 4) (b : Fin 128) :
    shapeCast S4x128 (Host.dynamicSlice S1x4x128 x start sliceFits_S8192x4x128_S1x4x128) shapeCasts_S1x4x128_S4x128 (ix2 a b) = x (ix3 ⟨n, hn⟩ a b) := by
  have hk : S8192x4x128.Slices ![n, 0, 0] S1x4x128 := ⟨rfl, fun a => match a with
    | ⟨0, _⟩ => (by show n + 1 ≤ 8192; omega)
    | ⟨1, _⟩ => (by show 0 + 4 ≤ 4; omega)
    | ⟨2, _⟩ => (by show 0 + 128 ≤ 128; omega)⟩
  rw [dynamicSlice_eq_extract S1x4x128 x start sliceFits_S8192x4x128_S1x4x128 ![n, 0, 0] hk (fun a => match a with
    | ⟨0, _⟩ => h0
    | ⟨1, _⟩ => h1
    | ⟨2, _⟩ => h2)]
  pointwise []

include hn in
theorem row_write3 (x : S8192x4x128.Idx → EReal) (u : S1x4x128.Idx → EReal) (start : Fin 3 → Int) (h0 : start 0 = (n : Int)) (h1 : start 1 = 0) (h2 : start 2 = 0)
    (t : Fin 8192) (a : Fin 4) (b : Fin 128) :
    Host.dynamicUpdateSlice x u start updateFits_S8192x4x128_S1x4x128 (ix3 t a b) = if t.val = n then u (ix3 0 a b) else x (ix3 t a b) := by
  have hk : S8192x4x128.Slices ![n, 0, 0] S1x4x128 := ⟨rfl, fun a => match a with
    | ⟨0, _⟩ => (by show n + 1 ≤ 8192; omega)
    | ⟨1, _⟩ => (by show 0 + 4 ≤ 4; omega)
    | ⟨2, _⟩ => (by show 0 + 128 ≤ 128; omega)⟩
  rw [dynamicUpdateSlice_eq_update x u start updateFits_S8192x4x128_S1x4x128 ![n, 0, 0] hk (fun a => match a with
    | ⟨0, _⟩ => h0
    | ⟨1, _⟩ => h1
    | ⟨2, _⟩ => h2)]
  unfold updateSlice
  have ha := a.isLt; have hb := b.isLt
  by_cases h : t.val = n
  · rw [dif_pos, if_pos h]
    · refine congrArg u (funext fun k => Fin.ext ?_)
      match k with
      | ⟨0, _⟩ => show t.val - n = 0
                  omega
      | ⟨1, _⟩ => rfl
      | ⟨2, _⟩ => rfl
    · intro k
      match k with
      | ⟨0, _⟩ => show n ≤ t.val ∧ t.val < n + 1
                  omega
      | ⟨1, _⟩ => show 0 ≤ a.val ∧ a.val < 0 + 4
                  omega
      | ⟨2, _⟩ => show 0 ≤ b.val ∧ b.val < 0 + 128
                  omega
  · rw [dif_neg, if_neg h]
    intro hc
    have := hc 0
    change n ≤ t.val ∧ t.val < n + 1 at this
    omega

include hn in
theorem row_write4 (x : S8192x4x128x128.Idx → EReal) (u : S1x4x128x128.Idx → EReal) (start : Fin 4 → Int) (h0 : start 0 = (n : Int)) (h1 : start 1 = 0) (h2 : start 2 = 0)
    (h3 : start 3 = 0) (t : Fin 8192) (a : Fin 4) (b c : Fin 128) :
    Host.dynamicUpdateSlice x u start updateFits_S8192x4x128x128_S1x4x128x128 (ix4 t a b c) = if t.val = n then u (ix4 0 a b c) else x (ix4 t a b c) := by
  have hk : S8192x4x128x128.Slices ![n, 0, 0, 0] S1x4x128x128 := ⟨rfl, fun a => match a with
    | ⟨0, _⟩ => (by show n + 1 ≤ 8192; omega)
    | ⟨1, _⟩ => (by show 0 + 4 ≤ 4; omega)
    | ⟨2, _⟩ => (by show 0 + 128 ≤ 128; omega)
    | ⟨3, _⟩ => (by show 0 + 128 ≤ 128; omega)⟩
  rw [dynamicUpdateSlice_eq_update x u start updateFits_S8192x4x128x128_S1x4x128x128 ![n, 0, 0, 0] hk (fun a => match a with
    | ⟨0, _⟩ => h0
    | ⟨1, _⟩ => h1
    | ⟨2, _⟩ => h2
    | ⟨3, _⟩ => h3)]
  unfold updateSlice
  have ha := a.isLt; have hb := b.isLt; have hc := c.isLt
  by_cases h : t.val = n
  · rw [dif_pos, if_pos h]
    · refine congrArg u (funext fun k => Fin.ext ?_)
      match k with
      | ⟨0, _⟩ => show t.val - n = 0
                  omega
      | ⟨1, _⟩ => rfl
      | ⟨2, _⟩ => rfl
      | ⟨3, _⟩ => rfl
    · intro k
      match k with
      | ⟨0, _⟩ => show n ≤ t.val ∧ t.val < n + 1
                  omega
      | ⟨1, _⟩ => show 0 ≤ a.val ∧ a.val < 0 + 4
                  omega
      | ⟨2, _⟩ => show 0 ≤ b.val ∧ b.val < 0 + 128
                  omega
      | ⟨3, _⟩ => show 0 ≤ c.val ∧ c.val < 0 + 128
                  omega
  · rw [dif_neg, if_neg h]
    intro hc
    have := hc 0
    change n ≤ t.val ∧ t.val < n + 1 at this
    omega
end Row

/-! ## The loop -/

/-- One trip's new state, and its output, at an index. -/
theorem cell (f u : S4x128.Idx → EReal) (s : S4x128x128.Idx → EReal) (h : Fin 4) (d e : Fin 128) :
    (addf (F := Ideal) (φ := .f32) (mulf (broadcastInDim S4x128x128 ![0, 1, 2] bcast_S4x128x1_S4x128x128_0_1_2 (broadcastInDim S4x128x1 ![0, 1] bcast_S4x128_S4x128x1_0_1 f)) s)
      (mulf (broadcastInDim S4x128x128 ![0, 1, 2] bcast_S4x128x1_S4x128x128_0_1_2 (broadcastInDim S4x128x1 ![0, 1] bcast_S4x128_S4x128x1_0_1
          (subf (broadcastInDim S4x128 ![] bcast_S_S4x128 (constant S_ .f32 0x3F800000#32)) f)))
        (broadcastInDim S4x128x128 ![0, 1, 2] bcast_S4x1x128_S4x128x128_0_1_2 (broadcastInDim S4x1x128 ![0, 2] bcast_S4x128_S4x1x128_0_2 u)))) (ix3 h d e)
      = f (ix2 h d) * s (ix3 h d e) + (1 - f (ix2 h d)) * u (ix2 h e) := by
  pointwise []
theorem cell_out (q : S4x128.Idx → EReal) (s : S4x128x128.Idx → EReal) (h : Fin 4) (e : Fin 128) :
    (broadcastInDim S1x4x128 ![1, 2] bcast_S4x128_S1x4x128_1_2 (Host.reduceAdd (F := Ideal) (φ := .f32)
      (mulf (broadcastInDim S4x128x128 ![0, 1, 2] bcast_S4x128x1_S4x128x128_0_1_2 (broadcastInDim S4x128x1 ![0, 1] bcast_S4x128_S4x128x1_0_1 q)) s)
      (constant S_ .f32 0x00000000#32) reducesTo_S4x128x128_S4x128_d1 h_S_)) (ix3 0 h e) = ∑ d : Fin 128, q (ix2 h d) * s (ix3 h d e) := by
  pointwise []

section Loop
variable (X : ℕ → Fin 2048 → ℝ) (L : Fin 2 → Fin 512 → ℝ)

/-- What the loop's buffers hold after `n` trips. -/
structure Inv (n : ℕ) (V : Valuation τ sig (Elt Ideal)) : Prop where
  n_3 : ∀ i, (V (Proc.devRef .tc main_v38_3) : S_.Idx → BitVec 32) i = BitVec.ofNat 32 n
  q_0 : ∀ (t : Fin 8192) (h : Fin 4) (d : Fin 128), (V (Proc.devRef .tc main_v38_0) : S8192x4x128.Idx → EReal) (ix3 t h d) = ((qr X (128 * h.val) (by omega) t.val d : ℝ) : EReal)
  f_1 : ∀ (t : Fin 8192) (h : Fin 4) (d : Fin 128), (V (Proc.devRef .tc main_v38_1) : S8192x4x128.Idx → EReal) (ix3 t h d) = ((fr X L (128 * h.val) (by omega) t.val d : ℝ) : EReal)
  i_2 : ∀ (t : Fin 8192) (h : Fin 4) (d : Fin 128), (V (Proc.devRef .tc main_v38_2) : S8192x4x128.Idx → EReal) (ix3 t h d) = ((vr X (128 * h.val) (by omega) t.val d : ℝ) : EReal)
  s_4 : ∀ (h : Fin 4) (d e : Fin 128), (V (Proc.devRef .tc main_v38_4) : S4x128x128.Idx → EReal) (ix3 h d e) = ((hSt X L h n d e : ℝ) : EReal)
  s_5 : ∀ (t : Fin 8192) (h : Fin 4) (d e : Fin 128), t.val < n → (V (Proc.devRef .tc main_v38_5) : S8192x4x128x128.Idx → EReal) (ix4 t h d e) = ((hSt X L h t.val d e : ℝ) : EReal)
  o_6 : ∀ (t : Fin 8192) (h : Fin 4) (e : Fin 128), t.val < n → (V (Proc.devRef .tc main_v38_6) : S8192x4x128.Idx → EReal) (ix3 t h e) = ((hOut X L h t.val e : ℝ) : EReal)

variable {X L} {n : ℕ} {V : Valuation τ sig (Elt Ideal)} (hn : n < 8192) (I : Inv X L n V)
include hn I

theorem row_0 (h : Fin 4) (d : Fin 128) : (shapeCast S4x128 (Host.dynamicSlice S1x4x128 (V (Proc.devRef .tc main_v38_0)) (fun k => (((![V (Proc.devRef .tc main_v38_3), constantI S_ 32 0#32, constantI S_ 32 0#32] : Fin 3 → (⟨S_, .i32⟩ : BufTy).Contents (Elt Ideal))) k (Shape.Idx.first h_S_)).toInt) sliceFits_S8192x4x128_S1x4x128) shapeCasts_S1x4x128_S4x128 : S4x128.Idx → EReal) (ix2 h d)
    = ((qr X (128 * h.val) (by omega) n d : ℝ) : EReal) :=
  (row_read n hn _ _ (start_row n _ (I.n_3 _) hn) rfl rfl h d).trans (I.q_0 ⟨n, hn⟩ h d)
theorem row_2 (h : Fin 4) (d : Fin 128) : (shapeCast S4x128 (Host.dynamicSlice S1x4x128 (V (Proc.devRef .tc main_v38_2)) (fun k => (((![V (Proc.devRef .tc main_v38_3), constantI S_ 32 0#32, constantI S_ 32 0#32] : Fin 3 → (⟨S_, .i32⟩ : BufTy).Contents (Elt Ideal))) k (Shape.Idx.first h_S_)).toInt) sliceFits_S8192x4x128_S1x4x128) shapeCasts_S1x4x128_S4x128 : S4x128.Idx → EReal) (ix2 h d)
    = ((vr X (128 * h.val) (by omega) n d : ℝ) : EReal) :=
  (row_read n hn _ _ (start_row n _ (I.n_3 _) hn) rfl rfl h d).trans (I.i_2 ⟨n, hn⟩ h d)
theorem row_1 (h : Fin 4) (d : Fin 128) : (res_main_while0b_v61 V : S4x128.Idx → EReal) (ix2 h d) = ((fr X L (128 * h.val) (by omega) n d : ℝ) : EReal) :=
  (row_read n hn _ _ (start_row n _ (I.n_3 _) hn) rfl rfl h d).trans (I.f_1 ⟨n, hn⟩ h d)

/-- The state after the trip. -/
theorem new_at (h : Fin 4) (d e : Fin 128) : (res_main_while0b_v73 V : S4x128x128.Idx → EReal) (ix3 h d e) = ((hSt X L h (n + 1) d e : ℝ) : EReal) := by
  refine (cell (res_main_while0b_v61 V) _ (V (Proc.devRef .tc main_v38_4)) h d e).trans ?_
  rw [row_1 hn I, row_2 hn I, I.s_4, ← EReal.coe_one, ← EReal.coe_sub, ← EReal.coe_mul, ← EReal.coe_mul, ← EReal.coe_add]
  rfl

/-- One trip of the loop. -/
theorem inv_step : Inv X L (n + 1) (STEP V) where
  n_3 i := by
    rw [STEP_main_v38_3]
    refine (congrArg (· + 1#32) (I.n_3 i)).trans ?_
    rw [BitVec.ofNat_add]
  q_0 := by rw [STEP_main_v38_0]; exact I.q_0
  f_1 := by rw [STEP_main_v38_1]; exact I.f_1
  i_2 := by rw [STEP_main_v38_2]; exact I.i_2
  s_4 := by rw [STEP_main_v38_4]; exact new_at hn I
  s_5 t h d e ht := by
    rw [STEP_main_v38_5]
    refine (row_write4 n hn _ _ _ (start_row n _ (I.n_3 _) hn) rfl rfl rfl t h d e).trans ?_
    by_cases hc : t.val = n
    · rw [if_pos hc, hc, ← I.s_4 h d e]
      pointwise []
    · rw [if_neg hc]; exact I.s_5 t h d e (by omega)
  o_6 t h e ht := by
    rw [STEP_main_v38_6]
    refine (row_write3 n hn _ _ _ (start_row n _ (I.n_3 _) hn) rfl rfl t h e).trans ?_
    by_cases hc : t.val = n
    · rw [if_pos hc, hc, hOut, out, ← coe_sum]
      refine (cell_out _ (res_main_while0b_v73 V) h e).trans (Finset.sum_congr rfl fun d _ => ?_)
      rw [row_0 hn I, new_at hn I, ← EReal.coe_mul]
      rfl
    · rw [if_neg hc]; exact I.o_6 t h e (by omega)
end Loop

end Cert.Hgrn.Ref
-- ==== Proof.Hgrn.RefOut.lean ====
/- The reference's loop from its entry, and its three results at an index. -/
module

public import proofs.«01_k».proof.Proof.Hgrn.RefRun

@[expose] public section

set_option maxRecDepth 65536

noncomputable section

namespace Cert.Hgrn.Ref

open Cert.Reference4Ideal Cert.Reference4Ideal.Gen Cert.Reference4Ideal.Value Idealize.ShloMosaic Idealize.ShloMosaic.TcCoe Idealize.ShloMosaic.StableHlo Idealize.SL.Sem Cert.InB

/-! ## The buffers at the loop's entry -/

section Entry
variable (m : (ℓ : Loc nD τ sig) → Buf (Elt Ideal) ℓ) (c : Dev nD)

set_option maxHeartbeats 400000 in
theorem entry_0 : entryContents preI m c (Proc.devRef .tc main_v38_0)
    = Step.A_main_v32 (m ((c.tc : Thread nD τ).loc main_arg0)) (m ((c.tc : Thread nD τ).loc main_arg1)) := by
  simp only [entryContents, afterL_cons, afterL_nil]; after_reads_simp <;> rfl
set_option maxHeartbeats 400000 in
theorem entry_1 : entryContents preI m c (Proc.devRef .tc main_v38_1)
    = Step.A_main_v33 (m ((c.tc : Thread nD τ).loc main_arg0)) (m ((c.tc : Thread nD τ).loc main_arg1)) := by
  simp only [entryContents, afterL_cons, afterL_nil]; after_reads_simp <;> rfl
set_option maxHeartbeats 400000 in
theorem entry_2 : entryContents preI m c (Proc.devRef .tc main_v38_2)
    = Step.A_main_v35 (m ((c.tc : Thread nD τ).loc main_arg0)) (m ((c.tc : Thread nD τ).loc main_arg1)) := by
  simp only [entryContents, afterL_cons, afterL_nil]; after_reads_simp <;> rfl
set_option maxHeartbeats 400000 in
theorem entry_4 : entryContents preI m c (Proc.devRef .tc main_v38_4) = Step.K_main_v31 (F := Ideal) := by
  simp only [entryContents, afterL_cons, afterL_nil]; after_reads_simp <;> rfl

theorem zero_state (h : Fin 4) (d e : Fin 128) : (Step.K_main_v31 (F := Ideal) : S4x128x128.Idx → EReal) (ix3 h d e) = 0 := by
  pointwise [Step.K_main_v31, Step.K_main_cst_5]
end Entry

section Runs
variable (m : (ℓ : Loc nD τ sig) → Buf (Elt Ideal) ℓ) (c : Dev nD) (X : ℕ → Fin 2048 → ℝ) (L : Fin 2 → Fin 512 → ℝ)
  (hX : ∀ (i : Fin 8192) j, m ((c.tc : Thread nD τ).loc main_arg0) (ix2 i j) = ((X i.val j : ℝ) : EReal))
  (hL : ∀ i j, m ((c.tc : Thread nD τ).loc main_arg1) (ix2 i j) = ((L i j : ℝ) : EReal))
include hX hL

theorem inv_zero : Inv X L 0 (entryContents preI m c) where
  n_3 i := congrFun (ctr_entry m c) i
  q_0 t h d := (congrFun (entry_0 m c) _).trans (q_at _ _ X L hX hL t h d)
  f_1 t h d := (congrFun (entry_1 m c) _).trans (f_at _ _ X L hX hL t h d)
  i_2 t h d := (congrFun (entry_2 m c) _).trans (i_at _ _ X L hX hL t h d)
  s_4 h d e := (congrFun (entry_4 m c) _).trans (zero_state h d e)
  s_5 t h d e ht := absurd ht (by omega)
  o_6 t h e ht := absurd ht (by omega)

theorem inv_iter (n : ℕ) (hn : n ≤ 8192) : Inv X L n (STEP^[n] (entryContents preI m c)) := by
  induction n with
  | zero => exact inv_zero m c X L hX hL
  | succ n ih =>
    rw [Function.iterate_succ_apply']
    exact inv_step (by omega) (ih (by omega))
end Runs

/-! ## The results -/

section Out
variable {X : ℕ → Fin 2048 → ℝ} {L : Fin 2 → Fin 512 → ℝ} {V : Valuation τ sig (Elt Ideal)} (I : Inv X L 8192 V) (t : Fin 8192) (h : Fin 4) (e : Fin 128)
include I

theorem out_o : (out_main_v57 V : S8192x512.Idx → EReal) (ix2 t ⟨128 * h.val + e.val, by omega⟩) = ((hOut X L h t.val e : ℝ) : EReal) := by
  rw [← I.o_6 t h e t.isLt]
  unfold out_main_v57
  generalize (V (Proc.devRef .tc main_v38_6) : S8192x4x128.Idx → EReal) = o
  pointwise []

theorem out_st (s : Fin 64) (d : Fin 128) : (out_main_v59 V : S64x4x128x128.Idx → EReal) (ix4 s h e d) = ((hSt X L h (128 * s.val) d e : ℝ) : EReal) := by
  rw [← I.s_5 ⟨128 * s.val, by omega⟩ h d e (by show 128 * s.val < 8192; omega)]
  unfold out_main_v59
  generalize (V (Proc.devRef .tc main_v38_5) : S8192x4x128x128.Idx → EReal) = o
  pointwise []

theorem out_y (w : Arr2 1 512) (x : Arr2 8192 2048) (hw : V (Proc.devRef .tc main_arg2) = w) (hx : V (Proc.devRef .tc main_arg0) = x) :
    (out_main_v56 V : S8192x512.Idx → EReal) (ix2 t ⟨128 * h.val + e.val, by omega⟩)
      = nrm (fun e => ((hOut X L h t.val e : ℝ) : EReal)) e * w (ix2 0 ⟨128 * h.val + e.val, by omega⟩) * gate (x (ix2 t ⟨1536 + (128 * h.val + e.val), by omega⟩)) := by
  have ho := fun e => I.o_6 t h e t.isLt
  unfold out_main_v56
  rw [hw, hx]
  generalize (V (Proc.devRef .tc main_v38_6) : S8192x4x128.Idx → EReal) = o at ho ⊢
  simp only [← ho]
  pointwise []
  rw [← zero_sub]
  rfl
end Out

end Cert.Hgrn.Ref
-- ==== Proof.Hgrn.Pre.lean ====
/- The precondition of the recurrence's pair, element by element. -/
module

public import proofs.«01_k».proof.Defs
public import proofs.«01_k».proof.Proof.Gen.Pre_finite_hgrn
public import proofs.«01_k».proof.Proof.InB.Pre

@[expose] public section

noncomputable section

namespace Cert.Hgrn

open Idealize.ShloMosaic Cert.Fin Cert.InB

local instance preFacts : Cert.Pre_finite_hgrn.Facts := Cert.Pre_finite_hgrn.Gen.facts

theorem finArgs (a0 : Arr2 8192 2048) (a1 : Arr2 2 512) (a2 : Arr2 1 512)
    (h : Cert.Pre_finite_hgrn.fn (F := Ideal) a0 a1 a2 (fun a => a.elim0) = 1#1) :
    (∀ i, IsReal (a0 i)) ∧ (∀ i, IsReal (a1 i)) := by
  dsimp only [Cert.Pre_finite_hgrn.fn] at h
  obtain ⟨h0, h1⟩ := andi_one h
  exact ⟨fun i => real_of_cmp _ (Host.reduce_andi_all _ _ _ _ _ h0 i), fun i => real_of_cmp _ (Host.reduce_andi_all _ _ _ _ _ h1 i)⟩

/-- The two arguments as real numbers. -/
theorem real_args {a0 : Arr2 8192 2048} {a1 : Arr2 2 512} (h : (∀ i, IsReal (a0 i)) ∧ (∀ i, IsReal (a1 i))) :
    ∃ (X : ℕ → Fin 2048 → ℝ) (L : Fin 2 → Fin 512 → ℝ), (∀ (i : Fin 8192) j, a0 (ix2 i j) = ((X i.val j : ℝ) : EReal)) ∧ ∀ i j, a1 (ix2 i j) = ((L i j : ℝ) : EReal) := by
  choose x hx using h.1
  choose l hl using h.2
  exact ⟨fun n j => if hn : n < 8192 then x (ix2 ⟨n, hn⟩ j) else 0, fun i j => l (ix2 i j), fun i j => by simp only [hx, i.isLt, ↓reduceDIte], fun i j => hl _⟩

end Cert.Hgrn
-- ==== Proof.Hgrn.Claim.lean ====
/- The equation of the two programs' results, array by array, and the claim of the recurrence's pair. -/
module

public import proofs.«01_k».proof.Proof.Hgrn.Arrays
public import proofs.«01_k».proof.Proof.Hgrn.RefOut
public import proofs.«01_k».proof.Proof.Hgrn.Pre
public import proofs.«01_k».proof.Proof.InB.Claim
public import Idealize.ShloMosaic.Lib.Claim

@[expose] public section

set_option maxRecDepth 16384

noncomputable section

namespace Cert.Hgrn

open Cert.Kernel4Ideal Cert.Kernel4Ideal.Gen Idealize.ShloMosaic Idealize.ShloMosaic.TcCoe Idealize.SL.Sem Cert.InB Cert.Fin

local instance claimIdealFacts : Cert.Kernel4Ideal.Facts := Cert.Kernel4Ideal.Gen.facts
local instance claimReferenceFacts : Cert.Reference4Ideal.Facts := Cert.Reference4Ideal.Gen.facts
local instance claimPreFacts : Cert.Pre_finite_hgrn.Facts := Cert.Pre_finite_hgrn.Gen.facts

/-! ## Positions by block, lanes by head -/

theorem by_block (i : Fin 8192) : ∃ (t : Fin cfg0.N) (r : Fin 256), i = pos t r :=
  ⟨⟨i.val / 256, by show _ < 32; omega⟩, ⟨i.val % 256, by omega⟩, Fin.ext (by show i.val = 256 * (i.val / 256) + i.val % 256; omega)⟩
theorem by_head (j : Fin 512) : ∃ (h : Fin 4) (e : Fin 128), j = ⟨128 * h.val + e.val, by omega⟩ :=
  ⟨⟨j.val / 128, by omega⟩, ⟨j.val % 128, by omega⟩, Fin.ext (by show j.val = 128 * (j.val / 128) + j.val % 128; omega)⟩
theorem by_chunk (s : Fin 64) : ∃ (t : Fin cfg0.N) (k : Fin 2), s = ⟨2 * t.val + k.val, by have : t.val < 32 := t.isLt; omega⟩ :=
  ⟨⟨s.val / 2, by show _ < 32; omega⟩, ⟨s.val % 2, by omega⟩, Fin.ext (by show s.val = 2 * (s.val / 2) + s.val % 2; omega)⟩

theorem ext4 {a b c d : Nat} (f g : (⟨4, ![a, b, c, d]⟩ : Shape).Idx → EReal) (h : ∀ i j k l, f (ix4 i j k l) = g (ix4 i j k l)) : f = g := funext fun i => by
  have e : i = ix4 (i 0) (i 1) (i 2) (i 3) := funext fun k => by
    match k with
    | ⟨0, _⟩ => rfl
    | ⟨1, _⟩ => rfl
    | ⟨2, _⟩ => rfl
    | ⟨3, _⟩ => rfl
  rw [e]; exact h _ _ _ _

/-! ## The equations -/

section Eqs
variable (m : (ℓ : Loc nD τ sig) → Buf (Elt Ideal) ℓ) (c : Dev nD) {X : ℕ → Fin 2048 → ℝ} {L : Fin 2 → Fin 512 → ℝ}
  (hX : ∀ (i : Fin 8192) j, m ((c : Thread nD τ).loc main_arg0) (ix2 i j) = ((X i.val j : ℝ) : EReal))
  (hL : ∀ i j, m ((c : Thread nD τ).loc main_arg1) (ix2 i j) = ((L i j : ℝ) : EReal))
  {V : Valuation Cert.Reference4Ideal.τ Cert.Reference4Ideal.sig (Elt Ideal)} (I : Ref.Inv X L 8192 V)
include hX hL I

theorem eq_y (hw : V (Proc.devRef .tc Cert.Reference4Ideal.main_arg2) = m ((c : Thread nD τ).loc main_arg2))
    (hx : V (Proc.devRef .tc Cert.Reference4Ideal.main_arg0) = m ((c : Thread nD τ).loc main_arg0)) :
    (Cert.Reference4Ideal.Value.out_main_v56 V : Arr2 8192 512) = (dats m 0 c).arrAt 3 cfg0.N := ext2 _ _ fun i j => by
  obtain ⟨t, r, rfl⟩ := by_block i
  obtain ⟨h, e, rfl⟩ := by_head j
  refine (Ref.out_y I (pos t r) h e _ _ hw hx).trans ((arr_y m c X L hX hL t r h e).trans ?_).symm
  rw [hX]; rfl

theorem eq_o : (Cert.Reference4Ideal.Value.out_main_v57 V : Arr2 8192 512) = (dats m 0 c).arrAt 4 cfg0.N := ext2 _ _ fun i j => by
  obtain ⟨t, r, rfl⟩ := by_block i
  obtain ⟨h, e, rfl⟩ := by_head j
  exact (Ref.out_o I (pos t r) h e).trans (arr_o m c X L hX hL t r h e).symm

theorem eq_st : (Cert.Reference4Ideal.Value.out_main_v59 V : (⟨4, ![64, 4, 128, 128]⟩ : Shape).Idx → EReal) = (dats m 0 c).arrAt 5 cfg0.N := ext4 _ _ fun s h e d => by
  obtain ⟨t, k, rfl⟩ := by_chunk s
  refine (Ref.out_st I h e _ d).trans ?_
  rw [arr_st m c X L hX hL t k h e d]
  exact congrArg (fun n => ((hSt X L h n d e : ℝ) : EReal)) (by show 128 * (2 * t.val + k.val) = _; omega)
end Eqs

theorem fin_of {m : (ℓ : Loc nD τ sig) → Buf (Elt Ideal) ℓ} (h : Cert.Pre_Kernel4Ideal_finite_hgrn m) (c : Dev nD) :
    (∀ i, IsReal (m ((c : Thread nD τ).loc main_arg0) i)) ∧ (∀ i, IsReal (m ((c : Thread nD τ).loc main_arg1) i)) :=
  finArgs _ _ _ (congrFun (h c) _)

set_option maxHeartbeats 4000000 in
theorem algebraic : Cert.algebraic_Kernel4Ideal_Reference4Ideal_pre_finite_hgrn := by
  intro m g m' g' hpre hargs
  refine ⟨fun c => (dats m 0 c).arrAt 3 cfg0.N, fun c => (dats m 0 c).arrAt 4 cfg0.N, fun c => (dats m 0 c).arrAt 5 cfg0.N, Cert.Kernel4Ideal.Value.run_blocks m g, ?_⟩
  refine (θ_run _ _ _).mono (fun r h c => ?_) (Cert.Reference4Ideal.Value.run m' g')
  obtain ⟨h0, h1, h2, hk⟩ := h c
  obtain ⟨a0, a1, a2⟩ := hargs c
  obtain ⟨X, L, hX, hL⟩ := real_args (fin_of hpre c)
  have I := Ref.inv_iter m' c X L (fun i j => by rw [a0]; exact hX i j) (fun i j => by rw [a1]; exact hL i j) 8192 le_rfl
  exact ⟨h0.trans (eq_y m c hX hL I ((Cert.Reference4Ideal.Value.iter_main_arg2 m' c 8192).trans a2) ((Cert.Reference4Ideal.Value.iter_main_arg0 m' c 8192).trans a0)),
    h1.trans (eq_o m c hX hL I), h2.trans (eq_st m c hX hL I), hk⟩

end Cert.Hgrn
-- ==== Proof.InF.Blocks.lean ====
/- What one grid point of `in_proj` leaves in its output blocks, as terms over the input blocks: the normalised rows
   (`uB`), the four column groups of the projection (`qB`, `kB`, `vB`, `hB`), and the first three dealt to 16 phases. -/
module

public import proofs.«01_k».proof.Proof.Gen.Kernel6Ideal.Value
public import proofs.«01_k».proof.Proof.InB.Blocks

@[expose] public section

set_option maxRecDepth 65536

noncomputable section

namespace Cert.InF

open Cert.Kernel6Ideal Cert.Kernel6Ideal.Gen Idealize.ShloMosaic Idealize.ShloMosaic.TcCoe
open Cert.InB (swapHalves hz2)

variable {F : FTy → Type} [FloatOps F]

/-- One tile of 128 columns rotated, against the cosine and the signed sine block. -/
def rotTile (d cs sn : FVec F S512x128 .f32) : FVec F S512x128 .f32 := addf (mulf d cs) (mulf (swapHalves d) sn)

/-- 512 columns rotated, tile by tile. -/
def rotB (d : FVec F S512x512 .f32) (cs sn : FVec F S512x128 .f32) : FVec F S512x512 .f32 :=
  concatenate S512x512 1
    [⟨S512x128, rotTile (extractStridedSlice S512x128 ![0, 0] d slices_S512x512_o0_0_S512x128) cs sn⟩,
     ⟨S512x128, rotTile (extractStridedSlice S512x128 ![0, 128] d slices_S512x512_o0_128_S512x128) cs sn⟩,
     ⟨S512x128, rotTile (extractStridedSlice S512x128 ![0, 256] d slices_S512x512_o0_256_S512x128) cs sn⟩,
     ⟨S512x128, rotTile (extractStridedSlice S512x128 ![0, 384] d slices_S512x512_o0_384_S512x128) cs sn⟩]
    concatenates_S512x128_S512x128_S512x128_S512x128_S512x512_d1

/-- The normalised rows. -/
def uB (x : Vec F S512x1024 .f32) (g : Vec F S1x1024 .f32) : FVec F S512x1024 .bf16 := k0_pay3 x g

/-- The projection of a block of rows, from the weight's four slabs. -/
def projB (x : Vec F S512x1024 .f32) (g : Vec F S1x1024 .f32) (w : Vec F S4x1024x896 .bf16) : FVec F S512x3584 .f32 :=
  k0_pay4 x g (View.ld (S := S4x1024x896) w (Rect.unit ![0, 0, 0] ![1, 1024, 896] inb_S4x1024x896_S1x1024x896_0_0_0))
    (View.ld (S := S4x1024x896) w (Rect.unit ![1, 0, 0] ![1, 1024, 896] inb_S4x1024x896_S1x1024x896_1_0_0))
    (View.ld (S := S4x1024x896) w (Rect.unit ![2, 0, 0] ![1, 1024, 896] inb_S4x1024x896_S1x1024x896_2_0_0))
    (View.ld (S := S4x1024x896) w (Rect.unit ![3, 0, 0] ![1, 1024, 896] inb_S4x1024x896_S1x1024x896_3_0_0))

/-- The queries, the keys, the values and the recurrence's columns of a projection. -/
def qB (p : FVec F S512x3584 .f32) (cs sn : Vec F S512x128 .f32) : FVec F S512x512 .f32 := rotB (k0_pay7 p) (k0_pay5 cs) (k0_pay6 sn)
@[inherit_doc qB] def kB (p : FVec F S512x3584 .f32) (cs sn : Vec F S512x128 .f32) : FVec F S512x512 .f32 := rotB (k0_pay21 p) (k0_pay5 cs) (k0_pay6 sn)
@[inherit_doc qB] def vB (p : FVec F S512x3584 .f32) : FVec F S512x512 .f32 := k0_pay34 p
@[inherit_doc qB] def hB (p : FVec F S512x3584 .f32) : FVec F S512x2048 .f32 := k0_pay35 p

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S4x1024x896 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x2048 .f32) (harg9 : arg9.IsWhole) (arg10 : Memref sig .tc .vmem S512x1024 .bf16) (harg10 : arg10.IsWhole) (arg11 : Memref sig .tc .vmem S16x32x512 .bf16) (harg11 : arg11.IsWhole) (arg12 : Memref sig .tc .vmem S16x32x512 .bf16) (harg12 : arg12.IsWhole) (arg13 : Memref sig .tc .vmem S16x32x512 .bf16) (harg13 : arg13.IsWhole) (arg14 : Memref sig .tc .vmem S3x4x512x128 .f32) (harg14 : arg14.IsWhole)
variable (x0 : Vec F S512x1024 .f32) (x1 : Vec F S1x1024 .f32) (x2 : Vec F S4x1024x896 .bf16) (x3 : Vec F S512x128 .f32) (x4 : Vec F S512x128 .f32)

theorem outA_5 : out0_A_5 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 = qB (projB x0 x1 x2) x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)]
  unfold kernelRun0_A
  dsimp only
  sl_unfold_words
  rw [View.canon_unit_zero (S := S512x512) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz2, View.ld_unit_zero (S := S512x128) hz2, View.ld_unit_zero (S := S1x1024) hz2]
  rfl

theorem outA_6 : out0_A_6 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 = kB (projB x0 x1 x2) x3 x4 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)]
  unfold kernelRun0_A
  dsimp only
  sl_unfold_words
  rw [View.canon_unit_zero (S := S512x512) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz2, View.ld_unit_zero (S := S512x128) hz2, View.ld_unit_zero (S := S1x1024) hz2]
  rfl

theorem outA_7 : out0_A_7 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 = vB (projB x0 x1 x2) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)]
  unfold kernelRun0_A
  dsimp only
  sl_unfold_words
  rw [View.canon_unit_zero (S := S512x512) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz2, View.ld_unit_zero (S := S512x128) hz2, View.ld_unit_zero (S := S1x1024) hz2]
  rfl

theorem outA_8 : out0_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 = hB (projB x0 x1 x2) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)]
  unfold kernelRun0_A
  dsimp only
  sl_unfold_words
  rw [View.canon_unit_zero (S := S512x2048) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz2, View.ld_unit_zero (S := S512x128) hz2, View.ld_unit_zero (S := S1x1024) hz2]
  rfl

theorem outA_9 : out0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 = uB x0 x1 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)]
  unfold kernelRun0_A
  dsimp only
  sl_unfold_words
  rw [View.canon_unit_zero (S := S512x1024) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz2, View.ld_unit_zero (S := S512x128) hz2, View.ld_unit_zero (S := S1x1024) hz2]
  rfl

end Cert.InF
-- ==== Proof.InF.Spec.lean ====
/- The results of the layer's input projection at an index, over the extended reals: what both programs are shown to
   compute. `s` names a sequence position, `d` a model column, `e` a column of the projection and `c` a column of a
   head group. -/
module

public import proofs.«01_k».proof.Proof.InB.Spec

@[expose] public section

noncomputable section

namespace Cert.InF

open Idealize.ShloMosaic Cert.InB

/-- The normalised row `s`, at column `d`. -/
def un (x : Arr3 1 8192 1024) (g : Arr2 1 1024) (s : Fin 8192) (d : Fin 1024) : EReal :=
  x (ix3 0 s d) * Ideal.rsqrt (ms fun k => x (ix3 0 s k)) * g (ix2 0 d)

/-- The projection. -/
def proj (x : Arr3 1 8192 1024) (g : Arr2 1 1024) (w : Arr3 1 1024 3584) (s : Fin 8192) (e : Fin 3584) : EReal :=
  ∑ d : Fin 1024, un x g s d * w (ix3 0 d e)

/-- A row `D` rotated at position `s`, at column `c`. -/
def rotf (D : Fin 512 → EReal) (s : Nat) (c : Fin 512) : EReal :=
  D c * Ideal.cos (ang s (c.val % 32)) + D ⟨swc c.val, swc_lt c.isLt⟩ * sgnSin s c.val

/-- The queries. -/
def qE (x : Arr3 1 8192 1024) (g : Arr2 1 1024) (w : Arr3 1 1024 3584) (s : Fin 8192) (c : Fin 512) : EReal :=
  rotf (fun c => proj x g w s ⟨c.val, by omega⟩) s.val c

/-- The keys. -/
def kE (x : Arr3 1 8192 1024) (g : Arr2 1 1024) (w : Arr3 1 1024 3584) (s : Fin 8192) (c : Fin 512) : EReal :=
  rotf (fun c => proj x g w s ⟨512 + c.val, by omega⟩) s.val c

/-- The values. -/
def vE (x : Arr3 1 8192 1024) (g : Arr2 1 1024) (w : Arr3 1 1024 3584) (s : Fin 8192) (c : Fin 512) : EReal :=
  proj x g w s ⟨1024 + c.val, by omega⟩

/-- The columns the recurrence's branch reads. -/
def hE (x : Arr3 1 8192 1024) (g : Arr2 1 1024) (w : Arr3 1 1024 3584) (s : Fin 8192) (e : Fin 2048) : EReal :=
  proj x g w s ⟨1536 + e.val, by omega⟩

/-- The position of index `i` of phase `p`, when positions are dealt to 16 phases in turn. -/
def pos (p : Fin 16) (i : Fin 512) : Fin 8192 := ⟨16 * i.val + p.val, by omega⟩

end Cert.InF
-- ==== Proof.InF.Values.lean ====
/- One grid point's terms of `in_proj` read at an index, over the extended reals. -/
module

public import proofs.«01_k».proof.Proof.InF.Blocks
public import proofs.«01_k».proof.Proof.InF.Spec
public import proofs.«01_k».proof.Proof.InB.Values

@[expose] public section

set_option maxRecDepth 65536

noncomputable section

namespace Cert.InF

open Cert.Kernel6Ideal Cert.Kernel6Ideal.Gen Idealize.ShloMosaic Idealize.ShloMosaic.TcCoe
open Cert.InB (swapHalves swap_apply swc swc_lt at2 ms)

theorem rotTile_apply (d cs sn : FVec Ideal S512x128 .f32) (r : Fin 512) (l : Fin 128) :
    rotTile d cs sn (ix2 r l) = d (ix2 r l) * cs (ix2 r l) +
      d (ix2 r ⟨swc l.val, by unfold swc; split <;> omega⟩) * sn (ix2 r l) := by
  have e := swap_apply d r l
  pointwise [rotTile]
  rw [e]

theorem rotB_apply (d : FVec Ideal S512x512 .f32) (cs sn : FVec Ideal S512x128 .f32) (r : Fin 512) (c : Fin 512) :
    rotB d cs sn (ix2 r c) = d (ix2 r c) * cs (ix2 r ⟨c.val % 128, by omega⟩) +
      d (ix2 r ⟨swc c.val, swc_lt c.isLt⟩) * sn (ix2 r ⟨c.val % 128, by omega⟩) := by
  have key : ∀ (o y : Nat) (h1 : o + y = c.val) (h2 : o % 128 = 0) (h3 : y < 128) (b1 : o + y < 512) (b2 : o + swc y < 512),
      d (ix2 r ⟨o + y, b1⟩) * cs (ix2 r ⟨y, h3⟩) + d (ix2 r ⟨o + swc y, b2⟩) * sn (ix2 r ⟨y, h3⟩)
        = d (ix2 r c) * cs (ix2 r ⟨c.val % 128, by omega⟩) +
          d (ix2 r ⟨swc c.val, swc_lt c.isLt⟩) * sn (ix2 r ⟨c.val % 128, by omega⟩) := by
    intro o y h1 h2 h3 b1 b2
    have e1 : o + swc y = swc c.val := by
      unfold swc
      rw [show c.val % 64 = y % 64 by omega]
      split <;> omega
    rw [at2 d r (a := ⟨o + y, b1⟩) (b := c) h1, at2 cs r (a := ⟨y, h3⟩) (b := ⟨c.val % 128, by omega⟩) (by dsimp only; omega),
      at2 d r (a := ⟨o + swc y, b2⟩) (b := ⟨swc c.val, swc_lt c.isLt⟩) e1,
      at2 sn r (a := ⟨y, h3⟩) (b := ⟨c.val % 128, by omega⟩) (by dsimp only; omega)]
  pointwise [rotB, rotTile_apply]
  by_cases h0 : c.val < 128
  · rw [dif_pos h0]
    have k0 := key 0 c.val (by omega) (by omega) h0 (by omega) (by unfold swc; split <;> omega)
    rw [← k0]
    exact congrArg₂ _ (congrArg₂ _ (at2 _ _ (Nat.zero_add _).symm) rfl) (congrArg₂ _ (at2 _ _ (Nat.zero_add _).symm) rfl)
  rw [dif_neg h0]
  by_cases h1 : c.val - 128 < 128
  · rw [dif_pos h1]
    exact key 128 (c.val - 128) (by omega) (by omega) h1 _ _
  rw [dif_neg h1]
  by_cases h2 : c.val - 128 - 128 < 128
  · rw [dif_pos h2]
    exact key 256 (c.val - 128 - 128) (by omega) (by omega) h2 _ _
  rw [dif_neg h2]
  exact key 384 (c.val - 128 - 128 - 128) (by omega) (by omega) (by omega) _ _

theorem uB_apply (x : Vec Ideal S512x1024 .f32) (g : Vec Ideal S1x1024 .f32) (r : Fin 512) (d : Fin 1024) :
    uB x g (ix2 r d) = x (ix2 r d) * Ideal.rsqrt (ms fun k => x (ix2 r k)) * g (ix2 0 d) := by
  pointwise [uB, k0_pay3]
  rfl

theorem projB_apply (x : Vec Ideal S512x1024 .f32) (g : Vec Ideal S1x1024 .f32) (w : Vec Ideal S4x1024x896 .bf16) (r : Fin 512) (e : Fin 3584) :
    projB x g w (ix2 r e) = ∑ d : Fin 1024, uB x g (ix2 r d) * w (ix3 ⟨e.val / 896, by omega⟩ d ⟨e.val % 896, by omega⟩) := by
  have key : ∀ (k y : Nat) (hk : k < 4) (hy : y < 896) (h1 : k * 896 + y = e.val),
      (∑ d : Fin 1024, uB x g (ix2 r d) * w (ix3 ⟨k, hk⟩ d ⟨y, hy⟩)) = ∑ d : Fin 1024, uB x g (ix2 r d) * w (ix3 ⟨e.val / 896, by omega⟩ d ⟨e.val % 896, by omega⟩) := by
    intro k y hk hy h1
    refine Finset.sum_congr rfl fun d _ => congrArg (_ * ·) (congrArg w ?_)
    congr 1 <;> apply Fin.ext <;> dsimp only <;> omega
  have eu : k0_pay3 x g = uB x g := rfl
  pointwise [projB, k0_pay4, eu, View.ld]
  by_cases h0 : e.val < 896
  · rw [dif_pos h0]; exact key 0 e.val (by omega) h0 (by omega)
  rw [dif_neg h0]
  by_cases h1 : e.val - 896 < 896
  · rw [dif_pos h1]; exact key 1 (e.val - 896) (by omega) h1 (by omega)
  rw [dif_neg h1]
  by_cases h2 : e.val - 896 - 896 < 896
  · rw [dif_pos h2]; exact key 2 (e.val - 896 - 896) (by omega) h2 (by omega)
  rw [dif_neg h2]
  exact key 3 (e.val - 896 - 896 - 896) (by omega) (by omega) (by omega)

theorem qB_apply (p : FVec Ideal S512x3584 .f32) (cs sn : Vec Ideal S512x128 .f32) (r c : Fin 512) :
    qB p cs sn (ix2 r c) = p (ix2 r ⟨c.val, by omega⟩) * cs (ix2 r ⟨c.val % 128, by omega⟩) +
      p (ix2 r ⟨swc c.val, by have := swc_lt c.isLt; omega⟩) * sn (ix2 r ⟨c.val % 128, by omega⟩) := by
  have e5 : k0_pay5 cs = cs := shapeCast_self _ _
  have e6 : k0_pay6 sn = sn := shapeCast_self _ _
  unfold qB
  rw [e5, e6, rotB_apply]
  pointwise [k0_pay7]

theorem kB_apply (p : FVec Ideal S512x3584 .f32) (cs sn : Vec Ideal S512x128 .f32) (r c : Fin 512) :
    kB p cs sn (ix2 r c) = p (ix2 r ⟨512 + c.val, by omega⟩) * cs (ix2 r ⟨c.val % 128, by omega⟩) +
      p (ix2 r ⟨512 + swc c.val, by have := swc_lt c.isLt; omega⟩) * sn (ix2 r ⟨c.val % 128, by omega⟩) := by
  have e5 : k0_pay5 cs = cs := shapeCast_self _ _
  have e6 : k0_pay6 sn = sn := shapeCast_self _ _
  unfold kB
  rw [e5, e6, rotB_apply]
  pointwise [k0_pay21]

theorem vB_apply (p : FVec Ideal S512x3584 .f32) (r c : Fin 512) : vB p (ix2 r c) = p (ix2 r ⟨1024 + c.val, by omega⟩) := by
  pointwise [vB, k0_pay34]

theorem hB_apply (p : FVec Ideal S512x3584 .f32) (r : Fin 512) (e : Fin 2048) : hB p (ix2 r e) = p (ix2 r ⟨1536 + e.val, by omega⟩) := by
  pointwise [hB, k0_pay35]

end Cert.InF
-- ==== Proof.InF.Host.lean ====
/- The arrays the host prepares for the kernel, at an index: the two rotary tables, the weight in four slabs and the input
   without its leading axis. -/
module

public import proofs.«01_k».proof.Proof.Gen.Kernel6Ideal.Value
public import proofs.«01_k».proof.Proof.InF.Spec

@[expose] public section

set_option maxRecDepth 16384

noncomputable section

namespace Cert.InF

open Cert.Kernel6Ideal Cert.Kernel6Ideal.Gen Idealize.ShloMosaic Idealize.ShloMosaic.TcCoe
open Cert.InB (ang sgnSin)

variable (m : (ℓ : Loc nD τ sig) → Buf (Elt Ideal) ℓ) (c : Dev nD)

theorem cos_at (s : Fin 8192) (l : Fin 128) : V m c main_v16 (ix2 s l) = Ideal.cos (ang s.val (l.val % 32)) := by
  unfold V
  after_results
  pointwise []
  rfl

theorem sin_at (s : Fin 8192) (l : Fin 128) : V m c main_v21 (ix2 s l) = sgnSin s.val l.val := by
  unfold V
  after_results
  pointwise []
  unfold sgnSin ang
  by_cases h : l.val % 64 < 32
  · rw [dif_pos h, if_pos h, show l.val % 64 = l.val % 32 by omega]
  · rw [dif_neg h, if_neg h, show l.val % 64 - 32 = l.val % 32 by omega]

theorem slabs_at (j : Fin 4) (k : Fin 1024) (e : Fin 896) :
    V m c main_v25 (ix3 j k e) = m ((c : Thread nD τ).loc main_arg2) (ix3 0 k ⟨j.val * 896 + e.val, by omega⟩) := by
  unfold V
  after_results
  pointwise []

theorem rows_at (s : Fin 8192) (d : Fin 1024) :
    V m c main_v26 (ix2 s d) = m ((c : Thread nD τ).loc main_arg0) (ix3 0 s d) := by
  unfold V
  after_results
  pointwise []

end Cert.InF
-- ==== Proof.InF.Phase.lean ====
/- The three blocks of `in_proj` that hold the queries, the keys and the values dealt to 16 phases: a point stores each
   group's four tiles into a scratch array and reads every sixteenth row of a tile back. -/
module

public import proofs.«01_k».proof.Proof.InF.Blocks
public import Idealize.ShloMosaic.Lib.Pointwise

@[expose] public section

set_option maxRecDepth 65536

noncomputable section

namespace Cert.InF

open Cert.Kernel6Ideal Cert.Kernel6Ideal.Gen Idealize.ShloMosaic Idealize.ShloMosaic.TcCoe
open Cert.InB (hz2)

/-- The scratch array's stores: tile `s` of the queries, the keys and the values at `0 s`, `1 s` and `2 s`. -/
def scrL (Q K V : FVec Ideal S512x512 .f32) : List (View.Piece (Elt Ideal) S3x4x512x128 .f32) :=
  [⟨Rect.unit ![2, 3, 0, 0] S1x1x512x128.size inb_S3x4x512x128_S1x1x512x128_2_3_0_0, k0_pay47 V⟩,
   ⟨Rect.unit ![2, 2, 0, 0] S1x1x512x128.size inb_S3x4x512x128_S1x1x512x128_2_2_0_0, k0_pay46 V⟩,
   ⟨Rect.unit ![2, 1, 0, 0] S1x1x512x128.size inb_S3x4x512x128_S1x1x512x128_2_1_0_0, k0_pay45 V⟩,
   ⟨Rect.unit ![2, 0, 0, 0] S1x1x512x128.size inb_S3x4x512x128_S1x1x512x128_2_0_0_0, k0_pay44 V⟩,
   ⟨Rect.unit ![1, 3, 0, 0] S1x1x512x128.size inb_S3x4x512x128_S1x1x512x128_1_3_0_0, k0_pay43 K⟩,
   ⟨Rect.unit ![1, 2, 0, 0] S1x1x512x128.size inb_S3x4x512x128_S1x1x512x128_1_2_0_0, k0_pay42 K⟩,
   ⟨Rect.unit ![1, 1, 0, 0] S1x1x512x128.size inb_S3x4x512x128_S1x1x512x128_1_1_0_0, k0_pay41 K⟩,
   ⟨Rect.unit ![1, 0, 0, 0] S1x1x512x128.size inb_S3x4x512x128_S1x1x512x128_1_0_0_0, k0_pay40 K⟩,
   ⟨Rect.unit ![0, 3, 0, 0] S1x1x512x128.size inb_S3x4x512x128_S1x1x512x128_0_3_0_0, k0_pay39 Q⟩,
   ⟨Rect.unit ![0, 2, 0, 0] S1x1x512x128.size inb_S3x4x512x128_S1x1x512x128_0_2_0_0, k0_pay38 Q⟩,
   ⟨Rect.unit ![0, 1, 0, 0] S1x1x512x128.size inb_S3x4x512x128_S1x1x512x128_0_1_0_0, k0_pay37 Q⟩,
   ⟨Rect.unit ![0, 0, 0, 0] S1x1x512x128.size inb_S3x4x512x128_S1x1x512x128_0_0_0_0, k0_pay36 Q⟩]

/-- The queries, the keys and the values, by number. -/
def grp (Q K V : FVec Ideal S512x512 .f32) (j : ℕ) : FVec Ideal S512x512 .f32 := match j with | 0 => Q | 1 => K | _ => V

/-- What they leave: element `(j, s, r, l)` is row `r`, column `128 s + l` of group `j`. -/
def scr (Q K V : FVec Ideal S512x512 .f32) (y : S3x4x512x128.Idx) : EReal :=
  grp Q K V (y 0).val (ix2 (y 2) ⟨128 * (y 1).val + (y 3).val, by
    have h1 : (y 1).val < 4 := (y 1).isLt
    have h3 : (y 3).val < 128 := (y 3).isLt
    omega⟩)

/-- 512 rows dealt to 16 phases: element `(p, i, c)` is row `16 i + p`, column `c`. -/
def phaseB (D : FVec Ideal S512x512 .f32) (y : S16x32x512.Idx) : EReal :=
  D (ix2 ⟨16 * (y 1).val + (y 0).val, by
    have h0 : (y 0).val < 16 := (y 0).isLt
    have h1 : (y 1).val < 32 := (y 1).isLt
    omega⟩ (y 2))

theorem ext4 {a b c d : Nat} {α : Type} (f g : (⟨4, ![a, b, c, d]⟩ : Shape).Idx → α) (h : ∀ i j k l, f (ix4 i j k l) = g (ix4 i j k l)) (y) : f y = g y := by
  have e : y = ix4 (y 0) (y 1) (y 2) (y 3) := funext fun k => by
    match k with
    | ⟨0, _⟩ => rfl
    | ⟨1, _⟩ => rfl
    | ⟨2, _⟩ => rfl
    | ⟨3, _⟩ => rfl
  rw [e]; exact h _ _ _ _

theorem ext3 {a b c : Nat} {α : Type} (f g : (⟨3, ![a, b, c]⟩ : Shape).Idx → α) (h : ∀ i j k, f (ix3 i j k) = g (ix3 i j k)) (y) : f y = g y := by
  have e : y = ix3 (y 0) (y 1) (y 2) := funext fun k => by
    match k with
    | ⟨0, _⟩ => rfl
    | ⟨1, _⟩ => rfl
    | ⟨2, _⟩ => rfl
  rw [e]; exact h _ _ _

/-- A stored tile is `scr` at its place. -/
theorem tile_at (Q K V D : FVec Ideal S512x512 .f32) (j s o : ℕ) (inb) (hs) (hc) (hD : D = grp Q K V j) (ho : o = 128 * s) (y : S1x1x512x128.Idx) :
    (shapeCast S1x1x512x128 (extractStridedSlice S512x128 ![0, o] D hs) hc : FVec Ideal S1x1x512x128 .f32) y
      = scr Q K V ((Rect.unit (s := S3x4x512x128) ![j, s, 0, 0] S1x1x512x128.size inb).emb y) := by
  subst hD ho
  refine ext4 _ (fun y => scr Q K V ((Rect.unit (s := S3x4x512x128) ![j, s, 0, 0] S1x1x512x128.size inb).emb y)) (fun a b r l => ?_) y
  obtain rfl : a = 0 := Subsingleton.elim _ _
  obtain rfl : b = 0 := Subsingleton.elim _ _
  pointwise
  unfold scr
  show _ = grp Q K V (j + 1 * 0) (ix2 ⟨0 + 1 * r.val, _⟩ ⟨128 * (s + 1 * 0) + (0 + 1 * l.val), _⟩)
  simp only [mul_zero, add_zero, zero_add, one_mul]

theorem scr_pieces (Q K V : FVec Ideal S512x512 .f32) : ∀ p ∈ scrL Q K V, ∀ y : p.1.shape.Idx, p.2 y = scr Q K V (p.1.emb y) := by
  unfold scrL
  simp only [List.forall_mem_cons, List.not_mem_nil, false_imp_iff, implies_true, and_true]
  refine ⟨?_, ?_, ?_, ?_, ?_, ?_, ?_, ?_, ?_, ?_, ?_, ?_⟩ <;> exact tile_at Q K V _ _ _ _ _ _ _ rfl rfl

theorem scr_cover (Q K V : FVec Ideal S512x512 .f32) (y : S3x4x512x128.Idx) : ∃ p ∈ scrL Q K V, y ∈ p.1.set :=
  View.cover_of_tiledL (scrL Q K V) S1x1x512x128.size (by sl_kernel_rfl) y

theorem scr_read {sg : RefSig} {κ : Kind} {sp : Space} (v : View sg κ sp S3x4x512x128 .f32) (Q K V : FVec Ideal S512x512 .f32) (B : LoadRect S3x4x512x128) (x : B.shape.Idx) :
    v.readCov (scrL Q K V) B x = scr Q K V (B.idx x) := by
  rw [View.readCov_eq_canon']
  exact View.canon_apply_of_pieces (scr Q K V) _ (scr_pieces Q K V) _ (scr_cover Q K V _)

/-- The two leading axes of size one. -/
abbrev T32 : Shape := ⟨4, ![1, 1, 32, 128]⟩

theorem val_at {β : Type} (w : T32.Idx → β) (hR : S32x128.numel = T32.numel) (i : Fin 32) (l : Fin 128) :
    w (Shape.reshapeEquiv hR (ix2 i l)) = w (ix4 0 0 i l) := by
  show shapeCast S32x128 w hR (ix2 i l) = _
  pointwise

/-- A stored block of a phase is `phaseB` at its place. -/
theorem piece_at {sg : RefSig} {κ : Kind} {sp : Space} (v : View sg κ sp S3x4x512x128 .f32) (Q K V : FVec Ideal S512x512 .f32)
    (L : List (View.Piece (Elt Ideal) S3x4x512x128 .f32)) (hL : L = scrL Q K V) (j s r o : ℕ) (i1) (i2) (e1) (e2) (e3) (e4) (e5) (hR) (hb) (hc) (inb)
    (ho : o = 128 * s) (y : S1x32x128.Idx) :
    (shapeCast S1x32x128 (truncf (F := Ideal) (s := S32x128) (φ := .f32) .bf16 (LoadRect.valAlong (V := Elt Ideal .f32) (lr := (⟨![r, 0], S32x128.size, ![16, 1], i2⟩ : LoadRect S512x128)) hR
        (v.readCov L ((Rect.unit (s := S3x4x512x128) ![j, s, 0, 0] S1x1x512x128.size i1).withinL
          (((⟨![r, 0], S32x128.size, ![16, 1], i2⟩ : LoadRect S512x128).consLift ![1, 512, 128] e1 e2).consLift ![1, 1, 512, 128] e3 e4) e5))) hb) hc : FVec Ideal S1x32x128 .bf16) y
      = phaseB (grp Q K V j) ((Rect.unit (s := S16x32x512) ![r, 0, o] S1x32x128.size inb).emb y) := by
  subst hL ho
  refine ext3 _ (fun y => phaseB (grp Q K V j) ((Rect.unit (s := S16x32x512) ![r, 0, 128 * s] S1x32x128.size inb).emb y)) (fun a i l => ?_) y
  obtain rfl : a = 0 := Subsingleton.elim _ _
  pointwise
  refine (val_at (β := EReal) _ hR i l).trans ?_
  refine (scr_read v Q K V _ _).trans ?_
  unfold scr phaseB
  show grp Q K V (j + 0 + 1 * 0) (ix2 ⟨0 + r + 16 * i.val, _⟩ ⟨128 * (s + 0 + 1 * 0) + (0 + 0 + 1 * l.val), _⟩)
    = grp Q K V j (ix2 ⟨16 * (0 + 1 * i.val) + (r + 1 * 0), _⟩ ⟨128 * s + 1 * l.val, _⟩)
  simp only [mul_zero, add_zero, zero_add, one_mul, Nat.add_comm]

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S4x1024x896 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x2048 .f32) (harg9 : arg9.IsWhole) (arg10 : Memref sig .tc .vmem S512x1024 .bf16) (harg10 : arg10.IsWhole) (arg11 : Memref sig .tc .vmem S16x32x512 .bf16) (harg11 : arg11.IsWhole) (arg12 : Memref sig .tc .vmem S16x32x512 .bf16) (harg12 : arg12.IsWhole) (arg13 : Memref sig .tc .vmem S16x32x512 .bf16) (harg13 : arg13.IsWhole) (arg14 : Memref sig .tc .vmem S3x4x512x128 .f32) (harg14 : arg14.IsWhole)
variable (x0 : Vec Ideal S512x1024 .f32) (x1 : Vec Ideal S1x1024 .f32) (x2 : Vec Ideal S4x1024x896 .bf16) (x3 : Vec Ideal S512x128 .f32) (x4 : Vec Ideal S512x128 .f32)

/-- The point's projection. -/
abbrev pT : FVec Ideal S512x3584 .f32 := projB x0 x1 x2

/-- The scratch stores of a point are the tiles of its three groups. -/
theorem scr_eq : kernelRun0_A.sl.HS0_12 c arg1 harg1 arg2 harg2 arg3 harg3 arg4 harg4 arg5 harg5 x0 x1 x2 x3 x4 = scrL (qB (pT x0 x1 x2) x3 x4) (kB (pT x0 x1 x2) x3 x4) (vB (pT x0 x1 x2)) := by
  sl_unfold_words
  simp only [View.readAt_eq_ld, harg1.read_unread, harg2.read_unread, harg3.read_unread, harg4.read_unread, harg5.read_unread, View.ld_unit_zero (S := S512x1024) hz2, View.ld_unit_zero (S := S512x128) hz2, View.ld_unit_zero (S := S1x1024) hz2]
  rfl

theorem outA_10 (y : S16x32x512.Idx) : out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 y = phaseB (qB (projB x0 x1 x2) x3 x4) y := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)]
  refine View.canon_apply_of_pieces (phaseB (qB (projB x0 x1 x2) x3 x4)) _ ?_ y (cover0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 y)
  have hL := scr_eq c arg1 harg1 arg2 harg2 arg3 harg3 arg4 harg4 arg5 harg5 x0 x1 x2 x3 x4
  unfold kernelRun0_A
  dsimp only
  simp only [List.forall_mem_cons, List.not_mem_nil, false_imp_iff, implies_true, and_true]
  repeat' apply And.intro
  all_goals exact piece_at arg14.view (qB (pT x0 x1 x2) x3 x4) (kB (pT x0 x1 x2) x3 x4) (vB (pT x0 x1 x2)) _ hL 0 _ _ _ _ _ _ _ _ _ _ _ _ _ _ rfl

theorem outA_11 (y : S16x32x512.Idx) : out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 y = phaseB (kB (projB x0 x1 x2) x3 x4) y := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)]
  refine View.canon_apply_of_pieces (phaseB (kB (projB x0 x1 x2) x3 x4)) _ ?_ y (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 y)
  have hL := scr_eq c arg1 harg1 arg2 harg2 arg3 harg3 arg4 harg4 arg5 harg5 x0 x1 x2 x3 x4
  unfold kernelRun0_A
  dsimp only
  simp only [List.forall_mem_cons, List.not_mem_nil, false_imp_iff, implies_true, and_true]
  repeat' apply And.intro
  all_goals exact piece_at arg14.view (qB (pT x0 x1 x2) x3 x4) (kB (pT x0 x1 x2) x3 x4) (vB (pT x0 x1 x2)) _ hL 1 _ _ _ _ _ _ _ _ _ _ _ _ _ _ rfl

theorem outA_12 (y : S16x32x512.Idx) : out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 y = phaseB (vB (projB x0 x1 x2)) y := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)]
  refine View.canon_apply_of_pieces (phaseB (vB (projB x0 x1 x2))) _ ?_ y (cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 y)
  have hL := scr_eq c arg1 harg1 arg2 harg2 arg3 harg3 arg4 harg4 arg5 harg5 x0 x1 x2 x3 x4
  unfold kernelRun0_A
  dsimp only
  simp only [List.forall_mem_cons, List.not_mem_nil, false_imp_iff, implies_true, and_true]
  repeat' apply And.intro
  all_goals exact piece_at arg14.view (qB (pT x0 x1 x2) x3 x4) (kB (pT x0 x1 x2) x3 x4) (vB (pT x0 x1 x2)) _ hL 2 _ _ _ _ _ _ _ _ _ _ _ _ _ _ rfl

end Cert.InF
-- ==== Proof.InF.Arrays.lean ====
/- The kernel's eight result arrays after the launch, at an index, as functions of its arguments. -/
module

public import proofs.«01_k».proof.Proof.InF.Values
public import proofs.«01_k».proof.Proof.InF.Host
public import proofs.«01_k».proof.Proof.InF.Phase

@[expose] public section

set_option maxRecDepth 65536

noncomputable section

namespace Cert.InF

open Cert.Kernel6Ideal Cert.Kernel6Ideal.Gen Cert.Kernel6Ideal.Value Idealize.ShloMosaic Idealize.ShloMosaic.TcCoe
open Cert.InB (Arr2 Arr3 ang swc swc_lt sgnSin ms)

variable (m : (ℓ : Loc nD τ sig) → Buf (Elt Ideal) ℓ) (c : Dev nD)

/-- Row `r` of tile `t`. -/
def row (t : Fin cfg0.N) (r : Fin 512) : Fin 8192 := ⟨t.val * 512 + r.val, by have : t.val < 16 := t.isLt; omega⟩

/-! ## Where each window's block lies -/

theorem idx_0 : ∀ t : Fin grid0.N, win0_0.index t 0 = t.val ∧ win0_0.index t 1 = 0 := by decide +kernel
theorem idx_3 : ∀ t : Fin grid0.N, win0_3.index t 0 = t.val ∧ win0_3.index t 1 = 0 := by decide +kernel
theorem idx_4 : ∀ t : Fin grid0.N, win0_4.index t 0 = t.val ∧ win0_4.index t 1 = 0 := by decide +kernel
theorem idx_5 : ∀ t : Fin grid0.N, win0_5.index t 0 = t.val ∧ win0_5.index t 1 = 0 := by decide +kernel
theorem idx_6 : ∀ t : Fin grid0.N, win0_6.index t 0 = t.val ∧ win0_6.index t 1 = 0 := by decide +kernel
theorem idx_7 : ∀ t : Fin grid0.N, win0_7.index t 0 = t.val ∧ win0_7.index t 1 = 0 := by decide +kernel
theorem idx_8 : ∀ t : Fin grid0.N, win0_8.index t 0 = t.val ∧ win0_8.index t 1 = 0 := by decide +kernel
theorem idx_9 : ∀ t : Fin grid0.N, win0_9.index t 0 = t.val ∧ win0_9.index t 1 = 0 := by decide +kernel
theorem idx_10 : ∀ t : Fin grid0.N, win0_10.index t 0 = 0 ∧ win0_10.index t 1 = t.val ∧ win0_10.index t 2 = 0 := by decide +kernel
theorem idx_11 : ∀ t : Fin grid0.N, win0_11.index t 0 = 0 ∧ win0_11.index t 1 = t.val ∧ win0_11.index t 2 = 0 := by decide +kernel
theorem idx_12 : ∀ t : Fin grid0.N, win0_12.index t 0 = 0 ∧ win0_12.index t 1 = t.val ∧ win0_12.index t 2 = 0 := by decide +kernel
theorem idx_1 : ∀ t : Fin grid0.N, win0_1.index t 0 = 0 ∧ win0_1.index t 1 = 0 := by decide +kernel
theorem idx_2 : ∀ t : Fin grid0.N, win0_2.index t 0 = 0 ∧ win0_2.index t 1 = 0 ∧ win0_2.index t 2 = 0 := by decide +kernel

theorem blk0 (t : Fin cfg0.N) (r : Fin 512) (e : Fin 1024) : iblk m c 0 t (ix2 r e) = V m c main_v26 (ix2 (row t r) e) := by
  unfold iblk; rw [View.read_apply]; show V m c main_v26 _ = _; congr 1; funext a; apply Fin.ext
  match a with
  | ⟨0, _⟩ => show win0_0.index t 0 * 512 + 1 * r.val = t.val * 512 + r.val; rw [(idx_0 t).1, one_mul]
  | ⟨1, _⟩ => show win0_0.index t 1 * 1024 + 1 * e.val = e.val; rw [(idx_0 t).2]; omega

theorem blk3 (t : Fin cfg0.N) (r : Fin 512) (e : Fin 128) : iblk m c 3 t (ix2 r e) = V m c main_v16 (ix2 (row t r) e) := by
  unfold iblk; rw [View.read_apply]; show V m c main_v16 _ = _; congr 1; funext a; apply Fin.ext
  match a with
  | ⟨0, _⟩ => show win0_3.index t 0 * 512 + 1 * r.val = t.val * 512 + r.val; rw [(idx_3 t).1, one_mul]
  | ⟨1, _⟩ => show win0_3.index t 1 * 128 + 1 * e.val = e.val; rw [(idx_3 t).2]; omega

theorem blk4 (t : Fin cfg0.N) (r : Fin 512) (e : Fin 128) : iblk m c 4 t (ix2 r e) = V m c main_v21 (ix2 (row t r) e) := by
  unfold iblk; rw [View.read_apply]; show V m c main_v21 _ = _; congr 1; funext a; apply Fin.ext
  match a with
  | ⟨0, _⟩ => show win0_4.index t 0 * 512 + 1 * r.val = t.val * 512 + r.val; rw [(idx_4 t).1, one_mul]
  | ⟨1, _⟩ => show win0_4.index t 1 * 128 + 1 * e.val = e.val; rw [(idx_4 t).2]; omega

theorem blk1 (t : Fin cfg0.N) (d : Fin 1024) : iblk m c 1 t (ix2 0 d) = m ((c : Thread nD τ).loc main_arg1) (ix2 0 d) := by
  rw [← V_main_arg1 m c]; unfold iblk; rw [View.read_apply]; show V m c main_arg1 _ = _; congr 1; funext a; apply Fin.ext
  match a with
  | ⟨0, _⟩ => show win0_1.index t 0 * 1 + 1 * 0 = 0; rw [(idx_1 t).1]
  | ⟨1, _⟩ => show win0_1.index t 1 * 1024 + 1 * d.val = d.val; rw [(idx_1 t).2]; omega

theorem blk2 (t : Fin cfg0.N) (j : Fin 4) (d : Fin 1024) (e : Fin 896) : iblk m c 2 t (ix3 j d e) = V m c main_v25 (ix3 j d e) := by
  unfold iblk; rw [View.read_apply]; show V m c main_v25 _ = _; congr 1; funext a; apply Fin.ext
  match a with
  | ⟨0, _⟩ => show win0_2.index t 0 * 4 + 1 * j.val = j.val; rw [(idx_2 t).1]; omega
  | ⟨1, _⟩ => show win0_2.index t 1 * 1024 + 1 * d.val = d.val; rw [(idx_2 t).2.1]; omega
  | ⟨2, _⟩ => show win0_2.index t 2 * 896 + 1 * e.val = e.val; rw [(idx_2 t).2.2]; omega

/-! ## The blocks' terms, in the arguments -/

abbrev aX : Arr3 1 8192 1024 := m ((c : Thread nD τ).loc main_arg0)
abbrev aG : Arr2 1 1024 := m ((c : Thread nD τ).loc main_arg1)
abbrev aW : Arr3 1 1024 3584 := m ((c : Thread nD τ).loc main_arg2)

/-- Point `t`'s normalised rows and its projection. -/
def uT (t : Fin cfg0.N) : FVec Ideal S512x1024 .bf16 := uB (iblk m c 0 t) (iblk m c 1 t)
@[inherit_doc uT] def prT (t : Fin cfg0.N) : FVec Ideal S512x3584 .f32 := projB (iblk m c 0 t) (iblk m c 1 t) (iblk m c 2 t)

theorem xT_apply (t : Fin cfg0.N) (r : Fin 512) (d : Fin 1024) : iblk m c 0 t (ix2 r d) = aX m c (ix3 0 (row t r) d) := by
  rw [blk0, rows_at]

theorem uT_at (t : Fin cfg0.N) (r : Fin 512) (d : Fin 1024) : uT m c t (ix2 r d) = un (aX m c) (aG m c) (row t r) d := by
  unfold uT
  rw [uB_apply, blk1]
  simp only [xT_apply]
  rfl

theorem prT_at (t : Fin cfg0.N) (r : Fin 512) (e : Fin 3584) : prT m c t (ix2 r e) = proj (aX m c) (aG m c) (aW m c) (row t r) e := by
  unfold prT
  rw [projB_apply]
  unfold proj
  refine Finset.sum_congr rfl fun d _ => ?_
  have hu := uT_at m c t r d
  unfold uT at hu
  rw [hu, blk2, slabs_at]
  refine congrArg (fun z : EReal => un (aX m c) (aG m c) (row t r) d * z) (congrArg (aW m c) ?_)
  refine congrArg (ix3 0 d) (Fin.ext ?_)
  dsimp only; omega

/-- Point `t`'s queries, keys, values and recurrence columns. -/
def qT (t : Fin cfg0.N) : FVec Ideal S512x512 .f32 := qB (prT m c t) (iblk m c 3 t) (iblk m c 4 t)
@[inherit_doc qT] def kT (t : Fin cfg0.N) : FVec Ideal S512x512 .f32 := kB (prT m c t) (iblk m c 3 t) (iblk m c 4 t)
@[inherit_doc qT] def vT (t : Fin cfg0.N) : FVec Ideal S512x512 .f32 := vB (prT m c t)
@[inherit_doc qT] def hT (t : Fin cfg0.N) : FVec Ideal S512x2048 .f32 := hB (prT m c t)

theorem sgn_mod (s e : Nat) : sgnSin s (e % 128) = sgnSin s e := by
  unfold sgnSin
  rw [show e % 128 % 32 = e % 32 by omega, show e % 128 % 64 = e % 64 by omega]

theorem qT_at (t : Fin cfg0.N) (r e : Fin 512) : qT m c t (ix2 r e) = qE (aX m c) (aG m c) (aW m c) (row t r) e := by
  unfold qT
  rw [qB_apply, blk3, blk4, cos_at, sin_at, prT_at, prT_at]
  unfold qE rotf
  dsimp only
  rw [sgn_mod, show e.val % 128 % 32 = e.val % 32 by omega]

theorem kT_at (t : Fin cfg0.N) (r e : Fin 512) : kT m c t (ix2 r e) = kE (aX m c) (aG m c) (aW m c) (row t r) e := by
  unfold kT
  rw [kB_apply, blk3, blk4, cos_at, sin_at, prT_at, prT_at]
  unfold kE rotf
  dsimp only
  rw [sgn_mod, show e.val % 128 % 32 = e.val % 32 by omega]

theorem vT_at (t : Fin cfg0.N) (r e : Fin 512) : vT m c t (ix2 r e) = vE (aX m c) (aG m c) (aW m c) (row t r) e := by
  unfold vT vE
  rw [vB_apply, prT_at]

theorem hT_at (t : Fin cfg0.N) (r : Fin 512) (e : Fin 2048) : hT m c t (ix2 r e) = hE (aX m c) (aG m c) (aW m c) (row t r) e := by
  unfold hT hE
  rw [hB_apply, prT_at]

/-! ## The arrays -/

theorem arr5 (t : Fin cfg0.N) (r : Fin 512) (e : Fin 512) :
    (dats m 0 c).arrAt 5 cfg0.N (ix2 (row t r) e) = qE (aX m c) (aG m c) (aW m c) (row t r) e := by
  rw [← qT_at]
  have h := (blocks5 m c t (flush0_5 t)).trans (flushed5_A m c t)
  rw [outA_5] at h
  refine Eq.trans ?_ (congrFun h (ix2 r e))
  rw [View.read_apply]; show (dats m 0 c).arrAt 5 cfg0.N _ = (dats m 0 c).arrAt 5 cfg0.N _; congr 1; funext a; apply Fin.ext
  match a with
  | ⟨0, _⟩ => show t.val * 512 + r.val = win0_5.index t 0 * 512 + 1 * r.val; rw [(idx_5 t).1, one_mul]
  | ⟨1, _⟩ => show e.val = win0_5.index t 1 * 512 + 1 * e.val; rw [(idx_5 t).2]; omega

theorem arr6 (t : Fin cfg0.N) (r : Fin 512) (e : Fin 512) :
    (dats m 0 c).arrAt 6 cfg0.N (ix2 (row t r) e) = kE (aX m c) (aG m c) (aW m c) (row t r) e := by
  rw [← kT_at]
  have h := (blocks6 m c t (flush0_6 t)).trans (flushed6_A m c t)
  rw [outA_6] at h
  refine Eq.trans ?_ (congrFun h (ix2 r e))
  rw [View.read_apply]; show (dats m 0 c).arrAt 6 cfg0.N _ = (dats m 0 c).arrAt 6 cfg0.N _; congr 1; funext a; apply Fin.ext
  match a with
  | ⟨0, _⟩ => show t.val * 512 + r.val = win0_6.index t 0 * 512 + 1 * r.val; rw [(idx_6 t).1, one_mul]
  | ⟨1, _⟩ => show e.val = win0_6.index t 1 * 512 + 1 * e.val; rw [(idx_6 t).2]; omega

theorem arr7 (t : Fin cfg0.N) (r : Fin 512) (e : Fin 512) :
    (dats m 0 c).arrAt 7 cfg0.N (ix2 (row t r) e) = vE (aX m c) (aG m c) (aW m c) (row t r) e := by
  rw [← vT_at]
  have h := (blocks7 m c t (flush0_7 t)).trans (flushed7_A m c t)
  rw [outA_7] at h
  refine Eq.trans ?_ (congrFun h (ix2 r e))
  rw [View.read_apply]; show (dats m 0 c).arrAt 7 cfg0.N _ = (dats m 0 c).arrAt 7 cfg0.N _; congr 1; funext a; apply Fin.ext
  match a with
  | ⟨0, _⟩ => show t.val * 512 + r.val = win0_7.index t 0 * 512 + 1 * r.val; rw [(idx_7 t).1, one_mul]
  | ⟨1, _⟩ => show e.val = win0_7.index t 1 * 512 + 1 * e.val; rw [(idx_7 t).2]; omega

theorem arr8 (t : Fin cfg0.N) (r : Fin 512) (e : Fin 2048) :
    (dats m 0 c).arrAt 8 cfg0.N (ix2 (row t r) e) = hE (aX m c) (aG m c) (aW m c) (row t r) e := by
  rw [← hT_at]
  have h := (blocks8 m c t (flush0_8 t)).trans (flushed8_A m c t)
  rw [outA_8] at h
  refine Eq.trans ?_ (congrFun h (ix2 r e))
  rw [View.read_apply]; show (dats m 0 c).arrAt 8 cfg0.N _ = (dats m 0 c).arrAt 8 cfg0.N _; congr 1; funext a; apply Fin.ext
  match a with
  | ⟨0, _⟩ => show t.val * 512 + r.val = win0_8.index t 0 * 512 + 1 * r.val; rw [(idx_8 t).1, one_mul]
  | ⟨1, _⟩ => show e.val = win0_8.index t 1 * 2048 + 1 * e.val; rw [(idx_8 t).2]; omega

theorem arr9 (t : Fin cfg0.N) (r : Fin 512) (e : Fin 1024) :
    (dats m 0 c).arrAt 9 cfg0.N (ix2 (row t r) e) = un (aX m c) (aG m c) (row t r) e := by
  rw [← uT_at]
  have h := (blocks9 m c t (flush0_9 t)).trans (flushed9_A m c t)
  rw [outA_9] at h
  refine Eq.trans ?_ (congrFun h (ix2 r e))
  rw [View.read_apply]; show (dats m 0 c).arrAt 9 cfg0.N _ = (dats m 0 c).arrAt 9 cfg0.N _; congr 1; funext a; apply Fin.ext
  match a with
  | ⟨0, _⟩ => show t.val * 512 + r.val = win0_9.index t 0 * 512 + 1 * r.val; rw [(idx_9 t).1, one_mul]
  | ⟨1, _⟩ => show e.val = win0_9.index t 1 * 1024 + 1 * e.val; rw [(idx_9 t).2]; omega

/-- Index `i` of tile `t` within a phase. -/
def pix (t : Fin cfg0.N) (i : Fin 32) : Fin 512 := ⟨t.val * 32 + i.val, by have : t.val < 16 := t.isLt; omega⟩

theorem pos_pix (t : Fin cfg0.N) (p : Fin 16) (i : Fin 32) : pos p (pix t i) = row t ⟨16 * i.val + p.val, by omega⟩ :=
  Fin.ext (by show 16 * (t.val * 32 + i.val) + p.val = t.val * 512 + (16 * i.val + p.val); omega)

theorem arr10 (t : Fin cfg0.N) (p : Fin 16) (i : Fin 32) (e : Fin 512) :
    (dats m 0 c).arrAt 10 cfg0.N (ix3 p (pix t i) e) = qE (aX m c) (aG m c) (aW m c) (pos p (pix t i)) e := by
  rw [pos_pix, ← qT_at]
  have h := (blocks10 m c t (flush0_10 t)).trans (flushed10_A m c t)
  rw [show out0_A_10 _ _ _ _ _ _ _ _ _ _ _ _ _ _ _ _ _ _ _ _ _ _ _ _ _ _ _ _ _ _ _ _ _ _ _ = _ from funext fun y => outA_10 _ _ _ _ _ _ _ _ _ _ _ _ _ _ _ _ _ _ _ _ _ _ _ _ _ _ _ _ _ _ _ _ _ _ _ y] at h
  refine Eq.trans ?_ (congrFun h (ix3 p i e))
  rw [View.read_apply]; show (dats m 0 c).arrAt 10 cfg0.N _ = (dats m 0 c).arrAt 10 cfg0.N _; congr 1; funext a; apply Fin.ext
  match a with
  | ⟨0, _⟩ => show p.val = win0_10.index t 0 * 16 + 1 * p.val; rw [(idx_10 t).1]; omega
  | ⟨1, _⟩ => show t.val * 32 + i.val = win0_10.index t 1 * 32 + 1 * i.val; rw [(idx_10 t).2.1, one_mul]
  | ⟨2, _⟩ => show e.val = win0_10.index t 2 * 512 + 1 * e.val; rw [(idx_10 t).2.2]; omega

theorem arr11 (t : Fin cfg0.N) (p : Fin 16) (i : Fin 32) (e : Fin 512) :
    (dats m 0 c).arrAt 11 cfg0.N (ix3 p (pix t i) e) = kE (aX m c) (aG m c) (aW m c) (pos p (pix t i)) e := by
  rw [pos_pix, ← kT_at]
  have h := (blocks11 m c t (flush0_11 t)).trans (flushed11_A m c t)
  rw [show out0_A_11 _ _ _ _ _ _ _ _ _ _ _ _ _ _ _ _ _ _ _ _ _ _ _ _ _ _ _ _ _ _ _ _ _ _ _ = _ from funext fun y => outA_11 _ _ _ _ _ _ _ _ _ _ _ _ _ _ _ _ _ _ _ _ _ _ _ _ _ _ _ _ _ _ _ _ _ _ _ y] at h
  refine Eq.trans ?_ (congrFun h (ix3 p i e))
  rw [View.read_apply]; show (dats m 0 c).arrAt 11 cfg0.N _ = (dats m 0 c).arrAt 11 cfg0.N _; congr 1; funext a; apply Fin.ext
  match a with
  | ⟨0, _⟩ => show p.val = win0_11.index t 0 * 16 + 1 * p.val; rw [(idx_11 t).1]; omega
  | ⟨1, _⟩ => show t.val * 32 + i.val = win0_11.index t 1 * 32 + 1 * i.val; rw [(idx_11 t).2.1, one_mul]
  | ⟨2, _⟩ => show e.val = win0_11.index t 2 * 512 + 1 * e.val; rw [(idx_11 t).2.2]; omega

theorem arr12 (t : Fin cfg0.N) (p : Fin 16) (i : Fin 32) (e : Fin 512) :
    (dats m 0 c).arrAt 12 cfg0.N (ix3 p (pix t i) e) = vE (aX m c) (aG m c) (aW m c) (pos p (pix t i)) e := by
  rw [pos_pix, ← vT_at]
  have h := (blocks12 m c t (flush0_12 t)).trans (flushed12_A m c t)
  rw [show out0_A_12 _ _ _ _ _ _ _ _ _ _ _ _ _ _ _ _ _ _ _ _ _ _ _ _ _ _ _ _ _ _ _ _ _ _ _ = _ from funext fun y => outA_12 _ _ _ _ _ _ _ _ _ _ _ _ _ _ _ _ _ _ _ _ _ _ _ _ _ _ _ _ _ _ _ _ _ _ _ y] at h
  refine Eq.trans ?_ (congrFun h (ix3 p i e))
  rw [View.read_apply]; show (dats m 0 c).arrAt 12 cfg0.N _ = (dats m 0 c).arrAt 12 cfg0.N _; congr 1; funext a; apply Fin.ext
  match a with
  | ⟨0, _⟩ => show p.val = win0_12.index t 0 * 16 + 1 * p.val; rw [(idx_12 t).1]; omega
  | ⟨1, _⟩ => show t.val * 32 + i.val = win0_12.index t 1 * 32 + 1 * i.val; rw [(idx_12 t).2.1, one_mul]
  | ⟨2, _⟩ => show e.val = win0_12.index t 2 * 512 + 1 * e.val; rw [(idx_12 t).2.2]; omega

end Cert.InF
-- ==== Proof.InF.RefVal.lean ====
/- The reference's results read at an index, over the extended reals. -/
module

public import proofs.«01_k».proof.Proof.Gen.Reference6Ideal.Read
public import proofs.«01_k».proof.Proof.InF.Spec
public import proofs.«01_k».proof.Proof.InB.Values
public import Idealize.ShloMosaic.Lib.Pointwise

@[expose] public section

set_option maxRecDepth 65536

noncomputable section

namespace Cert.InF.Ref

open Cert.Reference6Ideal Cert.Reference6Ideal.Gen Cert.Reference6Ideal.Read Idealize.ShloMosaic Idealize.ShloMosaic.TcCoe
open Cert.InB (Arr2 Arr3 ang swc swc_lt sgnSin ms at2)

variable (x : Arr3 1 8192 1024) (g : Arr2 1 1024) (w : Arr3 1 1024 3584)

theorem v13_at (s : Fin 8192) (d : Fin 1024) : val_main_v13 (F := Ideal) x g (ix3 0 s d) = un x g s d := by
  pointwise [val_main_v13, val_main_v12, val_main_v11, val_main_v0, val_main_v10, val_main_v9, val_main_v8, val_main_v7, val_main_v6, val_main_cst_1, val_main_v5, val_main_v4, val_main_cst_0, val_main_v3, val_main_v2, val_main_v1, val_main_cst]
  rfl

theorem v15_at (s : Fin 8192) (e : Fin 3584) : val_main_v15 (F := Ideal) x g w (ix3 0 s e) = proj x g w s e := by
  pointwise [val_main_v15, val_main_v14]
  exact Finset.sum_congr rfl fun d _ => congrArg (· * _) (v13_at x g s d)

theorem cosQ_at (s : Fin 8192) (j : Fin 32) : val_main_v32 (F := Ideal) (ix2 s j) = Ideal.cos (ang s.val j.val) := by
  pointwise [val_main_v32, val_main_v31, val_main_v30, val_main_v29, val_main_v28, val_main_v27, val_main_v26, val_main_v25, val_main_v24, val_main_cst_3, val_main_v23, val_main_v22, val_main_cst_2, val_main_v21, val_main_v20]
  rfl

theorem sinQ_at (s : Fin 8192) (j : Fin 32) : val_main_v34 (F := Ideal) (ix2 s j) = Ideal.sin (ang s.val j.val) := by
  pointwise [val_main_v34, val_main_v31, val_main_v30, val_main_v29, val_main_v28, val_main_v27, val_main_v26, val_main_v25, val_main_v24, val_main_cst_3, val_main_v23, val_main_v22, val_main_cst_2, val_main_v21, val_main_v20]
  rfl

theorem cosK_at (s : Fin 8192) (j : Fin 32) : val_main_v62 (F := Ideal) (ix2 s j) = Ideal.cos (ang s.val j.val) := by
  pointwise [val_main_v62, val_main_v61, val_main_v60, val_main_v59, val_main_v58, val_main_v57, val_main_v56, val_main_v55, val_main_v54, val_main_cst_5, val_main_v53, val_main_v52, val_main_cst_4, val_main_v51, val_main_v50]
  rfl

theorem sinK_at (s : Fin 8192) (j : Fin 32) : val_main_v64 (F := Ideal) (ix2 s j) = Ideal.sin (ang s.val j.val) := by
  pointwise [val_main_v64, val_main_v61, val_main_v60, val_main_v59, val_main_v58, val_main_v57, val_main_v56, val_main_v55, val_main_v54, val_main_cst_5, val_main_v53, val_main_v52, val_main_cst_4, val_main_v51, val_main_v50]
  rfl

/-- A head's two rotated halves, side by side, are the rotated row. -/
theorem halves (D : Fin 512 → EReal) (s c : Nat) (hc : c < 512) :
    (if h : c % 64 < 32 then D ⟨c, hc⟩ * Ideal.cos (ang s (c % 64)) - D ⟨c / 64 * 64 + (32 + c % 64), by omega⟩ * Ideal.sin (ang s (c % 64))
      else D ⟨c / 64 * 64 + (32 + (c % 64 - 32)), by omega⟩ * Ideal.cos (ang s (c % 64 - 32)) + D ⟨c / 64 * 64 + (c % 64 - 32), by omega⟩ * Ideal.sin (ang s (c % 64 - 32)))
      = rotf D s ⟨c, hc⟩ := by
  unfold rotf sgnSin
  by_cases h : c % 64 < 32
  · have es : swc c = c + 32 := if_pos h
    rw [dif_pos h, if_pos h]
    have e2 : (⟨c / 64 * 64 + (32 + c % 64), by omega⟩ : Fin 512) = ⟨swc c, swc_lt hc⟩ := Fin.ext (by dsimp only; omega)
    rw [e2, show c % 64 = c % 32 by omega, mul_neg, sub_eq_add_neg]
  · have es : swc c = c - 32 := if_neg h
    rw [dif_neg h, if_neg h]
    have e1 : (⟨c / 64 * 64 + (32 + (c % 64 - 32)), by omega⟩ : Fin 512) = ⟨c, hc⟩ := Fin.ext (by dsimp only; omega)
    have e2 : (⟨c / 64 * 64 + (c % 64 - 32), by omega⟩ : Fin 512) = ⟨swc c, swc_lt hc⟩ := Fin.ext (by dsimp only; omega)
    rw [e1, e2, show c % 64 - 32 = c % 32 by omega]

theorem v79_at (s : Fin 8192) (c : Fin 512) : val_main_v79 (F := Ideal) x g w (ix2 s c) = qE x g w s c := by
  unfold qE
  pointwise [val_main_v79, val_main_v48, val_main_v47, val_main_v46, val_main_v45, val_main_v44, val_main_v43, val_main_v42, val_main_v41, val_main_v40, val_main_v39, val_main_v38, val_main_v37, val_main_v36, val_main_v35, val_main_v33, val_main_v19, val_main_v16, v15_at, cosQ_at, sinQ_at]
  exact halves (fun c => proj x g w s ⟨c.val, by omega⟩) s.val c.val c.isLt

theorem v80_at (s : Fin 8192) (c : Fin 512) : val_main_v80 (F := Ideal) x g w (ix2 s c) = kE x g w s c := by
  unfold kE
  pointwise [val_main_v80, val_main_v78, val_main_v77, val_main_v76, val_main_v75, val_main_v74, val_main_v73, val_main_v72, val_main_v71, val_main_v70, val_main_v69, val_main_v68, val_main_v67, val_main_v66, val_main_v65, val_main_v63, val_main_v49, val_main_v17, v15_at, cosK_at, sinK_at]
  exact halves (fun c => proj x g w s ⟨512 + c.val, by omega⟩) s.val c.val c.isLt

theorem v81_at (s : Fin 8192) (c : Fin 512) : val_main_v81 (F := Ideal) x g w (ix2 s c) = vE x g w s c := by
  pointwise [val_main_v81, val_main_v18, v15_at]
  rfl

theorem v83_at (s : Fin 8192) (e : Fin 2048) : val_main_v83 (F := Ideal) x g w (ix2 s e) = hE x g w s e := by
  pointwise [val_main_v83, val_main_v82, v15_at]
  rfl

theorem v85_at (s : Fin 8192) (d : Fin 1024) : val_main_v85 (F := Ideal) x g (ix2 s d) = un x g s d := by
  pointwise [val_main_v85, val_main_v84, v13_at]

theorem v88_at (p : Fin 16) (i c : Fin 512) : val_main_v88 (F := Ideal) x g w (ix3 p i c) = qE x g w (pos p i) c := by
  rw [← v79_at]
  pointwise [val_main_v88, val_main_v87, val_main_v86]
  exact congrArg _ (congrArg (ix2 · c) (Fin.ext (by show _ = 16 * i.val + p.val; dsimp only; omega)))

theorem v91_at (p : Fin 16) (i c : Fin 512) : val_main_v91 (F := Ideal) x g w (ix3 p i c) = kE x g w (pos p i) c := by
  rw [← v80_at]
  pointwise [val_main_v91, val_main_v90, val_main_v89]
  exact congrArg _ (congrArg (ix2 · c) (Fin.ext (by show _ = 16 * i.val + p.val; dsimp only; omega)))

theorem v94_at (p : Fin 16) (i c : Fin 512) : val_main_v94 (F := Ideal) x g w (ix3 p i c) = vE x g w (pos p i) c := by
  rw [← v81_at]
  pointwise [val_main_v94, val_main_v93, val_main_v92]
  exact congrArg _ (congrArg (ix2 · c) (Fin.ext (by show _ = 16 * i.val + p.val; dsimp only; omega)))

end Cert.InF.Ref
-- ==== Proof.InF.Claim.lean ====
/- The equation of the two programs' results, array by array, and the claims of the pair. -/
module

public import proofs.«01_k».proof.Proof.Gen.Kernel6.Frame
public import proofs.«01_k».proof.Proof.InF.Arrays
public import proofs.«01_k».proof.Proof.InF.RefVal
public import proofs.«01_k».proof.Proof.Gen.Reference6Ideal.Run
public import proofs.«01_k».proof.Defs
public import Idealize.ShloMosaic.Lib.Claim

@[expose] public section

set_option maxRecDepth 16384

noncomputable section

namespace Cert.InF

open Cert.Kernel6Ideal Cert.Kernel6Ideal.Gen Cert.Kernel6Ideal.Value Idealize.ShloMosaic Idealize.ShloMosaic.TcCoe Idealize.SL.Sem
open Cert.InB (Arr2 Arr3)
open Cert.Reference6Ideal.Read (val_main_v79 val_main_v80 val_main_v81 val_main_v83 val_main_v85 val_main_v88 val_main_v91 val_main_v94)

local instance factsK : Cert.Kernel6.Facts := Cert.Kernel6.Gen.facts
local instance factsI : Cert.Kernel6Ideal.Facts := Cert.Kernel6Ideal.Gen.facts
local instance factsR : Cert.Reference6Ideal.Facts := Cert.Reference6Ideal.Gen.facts

variable (m : (ℓ : Loc nD τ sig) → Buf (Elt Ideal) ℓ) (c : Dev nD)

/-- Two arrays of `b` columns that agree on every row of every tile are equal. -/
theorem ext_rows {b : Nat} (f h : Arr2 8192 b) (e : ∀ t r j, f (ix2 (row t r) j) = h (ix2 (row t r) j)) : f = h := funext fun i => by
  have hi : i = ix2 (row ⟨(i 0).val / 512, by have : cfg0.N = 16 := rfl; have : (i 0).val < 8192 := (i 0).isLt; omega⟩ ⟨(i 0).val % 512, by omega⟩) (i 1) :=
    funext fun k => by
      match k with
      | ⟨0, _⟩ => exact Fin.ext (by show (i 0).val = (i 0).val / 512 * 512 + (i 0).val % 512; omega)
      | ⟨1, _⟩ => rfl
  rw [hi]; exact e _ _ _

/-- Two arrays by phases that agree on every tile's positions are equal. -/
theorem ext_phases (f h : Arr3 16 512 512) (e : ∀ t p i j, f (ix3 p (pix t i) j) = h (ix3 p (pix t i) j)) : f = h :=
  funext (ext3 f h fun p i j => by
    have hi : i = pix ⟨i.val / 32, by have : cfg0.N = 16 := rfl; omega⟩ ⟨i.val % 32, by omega⟩ :=
      Fin.ext (by show i.val = i.val / 32 * 32 + i.val % 32; omega)
    rw [hi]; exact e _ _ _ _)

theorem eq5 : (val_main_v79 (F := Ideal) (aX m c) (aG m c) (aW m c) : Arr2 8192 512) = (dats m 0 c).arrAt 5 cfg0.N :=
  ext_rows _ _ fun t r j => by rw [Ref.v79_at]; exact (arr5 m c t r j).symm
theorem eq6 : (val_main_v80 (F := Ideal) (aX m c) (aG m c) (aW m c) : Arr2 8192 512) = (dats m 0 c).arrAt 6 cfg0.N :=
  ext_rows _ _ fun t r j => by rw [Ref.v80_at]; exact (arr6 m c t r j).symm
theorem eq7 : (val_main_v81 (F := Ideal) (aX m c) (aG m c) (aW m c) : Arr2 8192 512) = (dats m 0 c).arrAt 7 cfg0.N :=
  ext_rows _ _ fun t r j => by rw [Ref.v81_at]; exact (arr7 m c t r j).symm
theorem eq8 : (val_main_v83 (F := Ideal) (aX m c) (aG m c) (aW m c) : Arr2 8192 2048) = (dats m 0 c).arrAt 8 cfg0.N :=
  ext_rows _ _ fun t r j => by rw [Ref.v83_at]; exact (arr8 m c t r j).symm
theorem eq9 : (val_main_v85 (F := Ideal) (aX m c) (aG m c) : Arr2 8192 1024) = (dats m 0 c).arrAt 9 cfg0.N :=
  ext_rows _ _ fun t r j => by rw [Ref.v85_at]; exact (arr9 m c t r j).symm
theorem eq10 : (val_main_v88 (F := Ideal) (aX m c) (aG m c) (aW m c) : Arr3 16 512 512) = (dats m 0 c).arrAt 10 cfg0.N :=
  ext_phases _ _ fun t p i j => by rw [Ref.v88_at]; exact (arr10 m c t p i j).symm
theorem eq11 : (val_main_v91 (F := Ideal) (aX m c) (aG m c) (aW m c) : Arr3 16 512 512) = (dats m 0 c).arrAt 11 cfg0.N :=
  ext_phases _ _ fun t p i j => by rw [Ref.v91_at]; exact (arr11 m c t p i j).symm
theorem eq12 : (val_main_v94 (F := Ideal) (aX m c) (aG m c) (aW m c) : Arr3 16 512 512) = (dats m 0 c).arrAt 12 cfg0.N :=
  ext_phases _ _ fun t p i j => by rw [Ref.v94_at]; exact (arr12 m c t p i j).symm

set_option maxHeartbeats 2000000 in
theorem algebraic : Cert.algebraic_Kernel6Ideal_Reference6Ideal := by
  intro m g m' g' _ hargs
  refine ⟨fun c => (dats m 0 c).arrAt 5 cfg0.N, fun c => (dats m 0 c).arrAt 6 cfg0.N, fun c => (dats m 0 c).arrAt 7 cfg0.N,
    fun c => (dats m 0 c).arrAt 8 cfg0.N, fun c => (dats m 0 c).arrAt 9 cfg0.N, fun c => (dats m 0 c).arrAt 10 cfg0.N,
    fun c => (dats m 0 c).arrAt 11 cfg0.N, fun c => (dats m 0 c).arrAt 12 cfg0.N, run_blocks m g, ?_⟩
  refine (θ_run _ _ _).mono (fun r h c => ?_) (Cert.Reference6Ideal.Value.run m' g')
  obtain ⟨h0, h1, h2, h3, h4, h5, h6, h7, hk⟩ := h c
  obtain ⟨a0, a1, a2⟩ := hargs c
  refine ⟨h0.trans ?_, h1.trans ?_, h2.trans ?_, h3.trans ?_, h4.trans ?_, h5.trans ?_, h6.trans ?_, h7.trans ?_, hk⟩
  · rw [Cert.Reference6Ideal.Read.val_main_v79_eq]
    refine Eq.trans ?_ (eq5 m c); rw [a0, a1, a2]
  · rw [Cert.Reference6Ideal.Read.val_main_v80_eq]
    refine Eq.trans ?_ (eq6 m c); rw [a0, a1, a2]
  · rw [Cert.Reference6Ideal.Read.val_main_v81_eq]
    refine Eq.trans ?_ (eq7 m c)
    repeat rw [StableHlo.launchContents_devRef]
    rw [a0, a1, a2]
  · rw [Cert.Reference6Ideal.Read.val_main_v83_eq]
    refine Eq.trans ?_ (eq8 m c)
    repeat rw [StableHlo.launchContents_devRef]
    rw [a0, a1, a2]
  · rw [Cert.Reference6Ideal.Read.val_main_v85_eq]
    refine Eq.trans ?_ (eq9 m c)
    repeat rw [StableHlo.launchContents_devRef]
    rw [a0, a1]
  · rw [Cert.Reference6Ideal.Read.val_main_v88_eq]
    refine Eq.trans ?_ (eq10 m c); rw [a0, a1, a2]
  · rw [Cert.Reference6Ideal.Read.val_main_v91_eq]
    refine Eq.trans ?_ (eq11 m c); rw [a0, a1, a2]
  · rw [Cert.Reference6Ideal.Read.val_main_v94_eq]
    refine Eq.trans ?_ (eq12 m c)
    repeat rw [StableHlo.launchContents_devRef]
    rw [a0, a1, a2]

theorem reference_frame : Cert.quiescent_Reference6Ideal := fun m g _ =>
  (θ_run _ _ _).mono (fun r h => ⟨fun c => (h c).2.2.2.2.2.2.2.2, sem_eq_zero_of_no_sems (by decide) r.2⟩)
    (Cert.Reference6Ideal.Value.run m g)

theorem claim : Cert.quiescent_Kernel6 ∧ Cert.quiescent_Kernel6Ideal ∧ Cert.quiescent_Reference6Ideal
    ∧ Cert.preserves_Kernel6_Kernel6Ideal ∧ Cert.algebraic_Kernel6Ideal_Reference6Ideal :=
  ⟨fun m ρ _ => Cert.Kernel6.Gen.frame m ρ, fun m ρ _ => Cert.Kernel6Ideal.Gen.frame m ρ, reference_frame, trivial, algebraic⟩

end Cert.InF
-- ==== Proof.Share.Swap.lean ====
/- The swap of the two cores' halves: the protocol of its two semaphores, and the kernel's body run under it.

   A core copies its half into the other core's result and waits twice: for the copy that comes to it, and for its own
   copy to have left. No message opens the exchange, so a core must hold the OTHER core's result array from the start:
   the launch (`Share.Run`) deals each core that array. One round of each semaphore is used:
   * a landing hands the core its own result, now holding the other's half;
   * a leaving hands the core its half back. -/
module

public import proofs.«01_k».proof.Proof.Gen.Kernel9Ideal
public import proofs.«01_k».proof.Proof.Gen.Kernel9Ideal.Skeleton
public import proofs.«01_k».proof.Proof.Gen.Kernel9Ideal.Launch
public import Idealize.ShloMosaic.Lib.Pipeline.Launch
public import Idealize.ShloMosaic.Lib.Pipeline.Regions
public import Idealize.ShloMosaic.Lib.Pipeline.Kit
public import Idealize.ShloMosaic.Lib.Tactic

@[expose] public section

set_option synthInstance.maxSize 4096

noncomputable section

namespace Cert.Share

open Cert.Kernel9Ideal Cert.Kernel9Ideal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- The ghost state: one copy of the rounds algebra for the pipeline (it has no window, and uses none of it), one for
    the two semaphores. -/
abbrev Ghost : Type := UR sig nD τ × UR sig nD τ

local notation "𝕄" => MT nD τ sig Unit (Elt F) ℕ Ghost ℕ

abbrev EX : Emb (UR sig nD τ) (MT nD τ sig Unit (Elt F) ℕ Ghost ℕ) := embR

variable (m : (ℓ : Loc nD τ sig) → Buf (Elt F) ℓ)

/-! ## The other core, the arrays, the cells -/

/-- The core a core swaps with. -/
def other (c : Dev nD) : Dev nD := Fin.rev c
theorem other_other (c : Dev nD) : other (other c) = c := Fin.rev_rev c
def across : Dev nD ≃ Dev nD := ⟨other, other, other_other, other_other⟩
/-- The device the kernel names in its copy. -/
theorem dest_eq (c : Dev nD) : (⟨k0_dev1 c, k0_dev1_lt c⟩ : Dev nD) = other c :=
  Fin.ext ((k0_dev1_eq c).trans (by revert c; decide))

abbrev half : Memref sig .tc .hbm S512x896 .f32 := Memref.whole main_arg0
abbrev got : Memref sig .tc .hbm S512x896 .f32 := Memref.whole main_v1

abbrev leave : DmaSem sig := ((cc0_scratch0.slice (Rect.unit (s := S1) ![0] S1.size inb_S1_S1_0)).squeeze S_ squeezes_S1_S_).sem
abbrev land : DmaSem sig := ((cc0_scratch1.slice (Rect.unit (s := S1) ![0] S1.size inb_S1_S1_0)).squeeze S_ squeezes_S1_S_).sem
abbrev mark : Fin 2 → SemLoc sig := fun | 0 => .dma leave | 1 => .dma land
abbrev leaveAt (c : Dev nD) : GSem nD τ sig := ((c : Thread nD τ), .dma leave)
abbrev landAt (c : Dev nD) : GSem nD τ sig := ((c : Thread nD τ), .dma land)
abbrev cellAt (x : Dev nD × Fin 2) : GSem nD τ sig := ((x.1 : Thread nD τ), mark x.2)

theorem leave_ne_land : (SemLoc.dma leave : SemLoc sig) ≠ .dma land := by decide

theorem cellAt_inj : Function.Injective cellAt := by
  rintro ⟨c, k⟩ ⟨d, l⟩ h
  have hc : c = d := congrArg (fun g : GSem nD τ sig => g.1.1) h
  have hk : mark k = mark l := congrArg Prod.snd h
  have mark_inj : ∀ k l : Fin 2, mark k = mark l → k = l := by decide
  rw [hc, mark_inj k l hk]

/-- The four cells of the two cores. -/
def allCells : Finset (GSem nD τ sig) := Finset.univ.map ⟨cellAt, cellAt_inj⟩
theorem mem_allCells (x : Dev nD × Fin 2) : cellAt x ∈ allCells :=
  Finset.mem_map.mpr ⟨x, Finset.mem_univ _, rfl⟩

/-- What a copy of the half counts on a semaphore. -/
abbrev weight : ℕ := (got : Memref sig .tc .hbm S512x896 .f32).view.dmaCredit
theorem weight_pos : 0 < weight := View.dmaCredit_pos _ (by decide)

/-! ## What the arrays hold -/

/-- A core's half at launch, -/
abbrev mine (c : Dev nD) : main_arg0.ty.Contents (Elt F) := m ((c : Thread nD τ).loc main_arg0)
/-- and the same half as the other core's result holds it. -/
def landed (c : Dev nD) : Buf (Elt F) ((got : Memref sig .tc .hbm S512x896 .f32).view.loc (c : Thread nD τ)) := mine m (other c)

def halfHeld (c : Dev nD) : sProp 𝕄 :=
  (half : Memref sig .tc .hbm S512x896 .f32).view.loc (c : Thread nD τ) ↦[(half : Memref sig .tc .hbm S512x896 .f32).view.set]{fullShare} mine m c
def gotHeld (c : Dev nD) (f : Buf (Elt F) ((got : Memref sig .tc .hbm S512x896 .f32).view.loc (c : Thread nD τ))) : sProp 𝕄 :=
  (got : Memref sig .tc .hbm S512x896 .f32).view.loc (c : Thread nD τ) ↦[(got : Memref sig .tc .hbm S512x896 .f32).view.set]{fullShare} f

instance halfHeld_storable (c : Dev nD) : BI.Storable (upEmb : UEmb _ 𝕄) (halfHeld (F := F) m c) := by unfold halfHeld; infer_instance
instance gotHeld_storable (c : Dev nD) (f) : BI.Storable (upEmb : UEmb _ 𝕄) (gotHeld (F := F) c f) := by unfold gotHeld; infer_instance

theorem halfHeld_eq (c : Dev nD) : halfHeld m c = (((c : Thread nD τ).loc main_arg0) ↦{fullShare} m ((c : Thread nD τ).loc main_arg0) : sProp 𝕄) := by
  unfold halfHeld; rw [View.set_whole]
theorem gotHeld_eq (c : Dev nD) (f : Buf (Elt F) ((c : Thread nD τ).loc main_v1)) :
    gotHeld c f = (((c : Thread nD τ).loc main_v1) ↦{fullShare} f : sProp 𝕄) := by
  unfold gotHeld; rw [View.set_whole]

/-- A copy of the whole half leaves the destination holding it, whatever it held. -/
theorem copied (c : Dev nD) (old : Buf (Elt F) ((got : Memref sig .tc .hbm S512x896 .f32).view.loc (c : Thread nD τ))) (f : main_arg0.ty.Contents (Elt F)) :
    (got : Memref sig .tc .hbm S512x896 .f32).view.write (Elt F) old ((half : Memref sig .tc .hbm S512x896 .f32).view.read (Elt F) f) Finset.univ = f := by
  show (View.whole main_v1).write (Elt F) old ((View.whole main_arg0).read (Elt F) f) Finset.univ = f
  rw [View.read_whole]; exact View.write_whole_univ _ _ _

/-! ## The schedule -/

/-- One round of every cell, one duty in it: a leaving returns the half, a landing delivers the other's. -/
def plan : Schedule (GSem nD τ sig) Unit 𝕄 where
  duties g r := if r = 0 ∧ g ∈ allCells then {()} else ∅
  unitless _ := False
  amount _ _ _ := weight
  payload g _ _ := if g.2 = .dma leave then halfHeld m g.1.1 else gotHeld g.1.1 (landed m g.1.1)
  amount_pos _ _ _ _ := weight_pos

instance plan_storable (g : GSem nD τ sig) (r : ℕ) (d : Unit) : BI.Storable (upEmb : UEmb _ 𝕄) ((plan (F := F) m).payload g r d) := by
  show BI.Storable upEmb (if g.2 = .dma leave then halfHeld m g.1.1 else gotHeld g.1.1 (landed m g.1.1))
  split <;> infer_instance

theorem plan_duties (x : Dev nD × Fin 2) : (plan (F := F) m).duties (cellAt x) 0 = {()} := if_pos ⟨rfl, mem_allCells x⟩
theorem plan_over (g : GSem nD τ sig) : ∀ r, 1 ≤ r → (plan (F := F) m).duties g r = ∅ :=
  fun r hr => if_neg fun h => absurd h.1 (Nat.one_le_iff_ne_zero.mp hr)
theorem plan_expect (x : Dev nD × Fin 2) : (plan (F := F) m).expect (cellAt x) 0 = weight := by
  unfold Schedule.expect Schedule.amountOf; rw [plan_duties, Finset.sum_singleton]; rfl
theorem plan_leave (c : Dev nD) (u : Unit) : (plan (F := F) m).payload (leaveAt c) 0 u = halfHeld m c := by dsimp only [plan]; exact if_pos rfl
theorem plan_land (c : Dev nD) (u : Unit) : (plan (F := F) m).payload (landAt c) 0 u = gotHeld c (landed m c) := by
  dsimp only [plan]; exact if_neg leave_ne_land.symm

theorem left (c : Dev nD) : bigSep ((plan (F := F) m).duties (leaveAt c) 0 \ ∅) (fun u => (plan (F := F) m).payload (leaveAt c) 0 u) = halfHeld m c := by
  rw [Finset.sdiff_empty, plan_duties m (c, 0), bigSep_singleton, plan_leave]
theorem arrived (c : Dev nD) : bigSep ((plan (F := F) m).duties (landAt c) 0 \ ∅) (fun u => (plan (F := F) m).payload (landAt c) 0 u) = gotHeld c (landed m c) := by
  rw [Finset.sdiff_empty, plan_duties m (c, 1), bigSep_singleton, plan_land]

/-- At launch a core owes the other's landing. -/
def dues (c : Dev nD) : CellTallies nD τ sig Unit := tallyAt (landAt (other c)) () weight

/-! ## The body -/

/-- A core's records and tokens, at the names `K` of the cells' invariants. -/
def kit (K : Dev nD × Fin 2 → ℕ) (c : Dev nD) : sProp 𝕄 :=
  iprop((cellInv EX (plan m) (K (c, 0)) (leaveAt c) ∗ cellInv EX (plan m) (K (c, 1)) (landAt c)
      ∗ cellInv EX (plan m) (K (other c, 1)) (landAt (other c)) ∗ reached EX (leaveAt c) 0 ∗ reached EX (landAt (other c)) 0)
    ∗ (atPos EX (leaveAt c) 0 ∅ 0 ∗ atPos EX (landAt c) 0 ∅ 0)
    ∗ dutyTok EX (leaveAt c) 0 () ∗ dutyTok EX (landAt (other c)) 0 ())

/-- What a core starts from: its kit, the credit of the copy it will be sent, its half, the other's result array. -/
def begun (c : Dev nD) : sProp 𝕄 :=
  iprop((∃ K, kit m K c) ∗ cred (tallyAt (landAt c) () weight) ∗ halfHeld m c ∗ gotHeld (other c) (m ((other c : Thread nD τ).loc main_v1)))
/-- What it ends with: its half, its result holding the other's half, its counters at zero. -/
def ended (c : Dev nD) : sProp 𝕄 :=
  iprop((halfHeld m c ∗ gotHeld c (landed m c)) ∗ semVal (leaveAt c) 0 ∗ semVal (landAt c) 0)

abbrev 𝒱₀ : Variants := Variants.none

/-- The copy to the other core: its array and the half go into the flight, the leaving's credit comes back, and
    nothing is owed any more. -/
theorem wp_share (K : Dev nD × Fin 2 → ℕ) (c d : Dev nD) (hd : d = other c)
    {hsc : (got : Memref sig (Dev.tc d : Thread nD τ).2.kind .hbm S512x896 .f32).view.ref.isScScratch = false}
    {hsrc : (half : Memref sig .tc .hbm S512x896 .f32).view.WordExact} {hdst : (got : Memref sig .tc .hbm S512x896 .f32).view.WordExact}
    {hsem : DmaTarget.Typed .hbm (.dma land) (.remote (Dev.tc d : Thread nD τ) (got : Memref sig .tc .hbm S512x896 .f32) (.dma leave) hsc)}
    {α : Type} {Q : α → sProp 𝕄} {k : PUnit → Prog (TpuEff nD τ sig (Elt F) Λ₀ .tc) α}
    (old : Buf (Elt F) ((got : Memref sig .tc .hbm S512x896 .f32).view.loc (other c : Thread nD τ))) (W : Waits sig Unit) :
    iprop(cellInv EX (plan m) (K (c, 0)) (leaveAt c) ∗ cellInv EX (plan m) (K (other c, 1)) (landAt (other c))
        ∗ halfHeld m c ∗ gotHeld (other c) old ∗ owes (c : Thread nD τ) (dues c) W
        ∗ dutyTok EX (leaveAt c) 0 () ∗ reached EX (leaveAt c) 0 ∗ dutyTok EX (landAt (other c)) 0 () ∗ reached EX (landAt (other c)) 0)
      ⊢ iprop(((cred (tallyAt (leaveAt c) () weight) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma half (.remote (Dev.tc d : Thread nD τ) got (.dma leave) hsc) (.dma land) hsrc hdst hsem) k) Q) := by
  subst hd
  unfold halfHeld gotHeld dues
  exact Rounds.wp_send_pointsTo 𝒱₀ EX (plan m) (c : Thread nD τ) none (κ₁ := K (c, 0)) (κ₂ := K (other c, 1))
    (r₁ := 0) (r₂ := 0) (d₁ := ()) (d₂ := ()) (fd := old)
    (by rw [plan_duties m (c, 0)]; exact Finset.mem_singleton_self _) (by rw [plan_duties m (other c, 1)]; exact Finset.mem_singleton_self _)
    () () weight rfl rfl rfl 0 (by rw [zero_add]) (W := W)
    (by rw [plan_leave]; exact BI.Entails.refl _)
    (by rw [plan_land]; unfold gotHeld; rw [copied, landed, other_other])

set_option maxHeartbeats 800000 in
/-- The body: the copy; the wait for the other's copy; the wait for its own; both counters back at zero. -/
theorem body_run (K : Dev nD × Fin 2 → ℕ) (c : Dev nD) (W : Waits sig Unit) (Kt : PUnit → sProp 𝕄) :
    iprop((kit m K c ∗ cred (tallyAt (landAt c) () weight) ∗ halfHeld m c ∗ gotHeld (other c) (m ((other c : Thread nD τ).loc main_v1))
          ∗ owes (c : Thread nD τ) (dues c) W)
        ∗ ((ended m c ∗ ∃ W', owes (c : Thread nD τ) 0 W') -∗ Kt ⟨⟩))
      ⊢ wp frame (wpE (defs₀ (F := F)) 𝒱₀ c none) Set.univ
          (cc0_grad_share_sibling_late (Memref.whole main_arg0) (Memref.isWhole_whole _) (Memref.whole main_v1) (Memref.isWhole_whole _) cc0_scratch0 cc0_scratch1) Kt := by
  simp only [cc0_grad_share_sibling_late_eq_skeleton]; unfold cc0_grad_share_sibling_late_skel
  simp only [Prog.lift, Prog.bind_op, Prog.bind_ret, Prog.pure_eq_ret, wp_deviceId]
  unfold kit
  iintro ⟨⟨⟨⟨#Hleave, #Hland, #Hover, #Rleave, #Rover⟩, ⟨Pleave, Pland⟩, Tleave, Tover⟩, Hc, Hhalf, Hgot, HO⟩, Hk⟩
  iapply (wp_share m K c _ (dest_eq c) _ W) $$ [Hhalf Hgot HO Tleave Tover]
  · isplitr; · iexact Hleave
    isplitr; · iexact Hover
    isplitl [Hhalf]; · iexact Hhalf
    isplitl [Hgot]; · iexact Hgot
    isplitl [HO]; · iexact HO
    isplitl [Tleave]; · iexact Tleave
    isplitr; · iexact Rleave
    isplitl [Tover]; · iexact Tover
    iexact Rover
  iintro ⟨Hc', HO⟩
  iapply (Rounds.wp_wait_rest_token 𝒱₀ EX (plan m) (c : Thread nD τ) none (κ := K (c, 1))
      (wpE_waitDma2_eq 𝒱₀ (c : Thread nD τ) none Set.univ) (Set.mem_univ _) () (O := 0) (W := W) (R := 0) (m := 0) (T := ∅)
      (by rw [Nat.zero_add, plan_expect m (c, 1)])) $$ [Hc HO Pland]
  · isplitr; · iexact Hland
    isplitl [Hc]; · iexact Hc
    isplitl [HO]; · iexact HO
    isplitr; · rw [MayWait_zero]; iempintro
    iexact Pland
  iintro ⟨HO, Pland, -, Hpay⟩
  ihave Hgot := (Entails.of_eq (arrived m c)) $$ Hpay
  iapply (Rounds.wp_wait_rest_token 𝒱₀ EX (plan m) (c : Thread nD τ) none (κ := K (c, 0))
      (wpE_waitDma2_eq 𝒱₀ (c : Thread nD τ) none Set.univ) (Set.mem_univ _) () (O := 0) (W := insert (SemLoc.dma land, ()) W) (R := 0) (m := 0) (T := ∅)
      (by rw [Nat.zero_add, plan_expect m (c, 0)])) $$ [Hc' HO Pleave]
  · isplitr; · iexact Hleave
    isplitl [Hc']; · iexact Hc'
    isplitl [HO]; · iexact HO
    isplitr; · rw [MayWait_zero]; iempintro
    iexact Pleave
  iintro ⟨HO, Pleave, -, Hpay⟩
  ihave Hhalf := (Entails.of_eq (left m c)) $$ Hpay
  rw [wp_ret]
  imod (Rounds.cell_close EX (plan m) (Set.mem_univ (K (c, 0))) (fun h => h) (R := 0 + 1) (plan_over m (leaveAt c))) $$ [Pleave] with Zleave
  · isplitr; · iexact Hleave
    iexact Pleave
  imod (Rounds.cell_close EX (plan m) (Set.mem_univ (K (c, 1))) (fun h => h) (R := 0 + 1) (plan_over m (landAt c))) $$ [Pland] with Zland
  · isplitr; · iexact Hland
    iexact Pland
  imodintro
  iapply Hk
  unfold ended
  isplitr [HO]
  · isplitl [Hhalf Hgot]
    · isplitl [Hhalf] <;> iassumption
    isplitl [Zleave] <;> iassumption
  iexists _; iexact HO

/-! ## The body at the pipeline's one point -/

/-- The pipeline has no window: before its point a core holds `begun` and owes the other's landing; after it, `ended`
    and nothing owed. -/
def dat (c : Dev nD) : Dat τ (Elt F) Unit ℕ Ghost ℕ cfg0 c where
  A w := w.elim0
  after w := w.elim0
  Φ t := if t.val = 0 then begun m c else ended m c
  q w := w.elim0
  owed t := if t.val = 0 then dues c else 0

abbrev adm : (p : Fin 1) → (pcfgs (F := F) p).Adm := fun p => (cfgs p).toPCfg_adm
def datOf : (p : Fin 1) → (c : Dev nD) → Dat τ (Elt F) Unit ℕ Ghost ℕ (Pipeline.pin (pcfgs (F := F)) adm p) c
  | 0 => dat m

/-- A separating product over no index holds nothing. -/
theorem none_held (Φ : Fin 0 → sProp 𝕄) : bigSep Finset.univ Φ = (BI.emp : sProp 𝕄) := bigSep_univ_eq_bigSepL [] (by decide) (by decide) Φ

theorem owed_first (c : Dev nD) : (dat (F := F) m c).owed t0_0.castSucc = dues c :=
  show (if (t0_0.castSucc : Fin (cfg0.N + 1)).val = 0 then dues c else 0) = dues c from if_pos rfl
theorem owed_zero (c : Dev nD) : (datOf (F := F) m 0 c).owed 0 = dues c :=
  show (if ((0 : Fin (cfg0.N + 1)).val = 0) then dues c else 0) = dues c from if_pos rfl
theorem owed_last (c : Dev nD) : (datOf (F := F) m 0 c).owed (Fin.last _) = 0 := by
  show (if (Fin.last cfg0.N).val = 0 then dues c else 0) = 0
  rw [Fin.val_last, if_neg (by rw [show cfg0.N = 1 from N_0]; decide)]

/-- The body's obligation at the one point. -/
theorem body (c : Dev nD) : BodyObligation (dat (F := F) m c) defs₀ 𝒱₀ () Set.univ := fun t => by
  obtain rfl := fin_N0 t
  rw [none_held, none_held]
  rw [show (dat m c).Φ t0_0.castSucc = begun m c from rfl, show (dat m c).Φ t0_0.succ = ended m c from rfl]
  unfold begun Dat.owesAt Pipeline.owesWithin
  rw [owed_first, show (dat (F := F) m c).owed t0_0.succ = 0 from owed_last m c]
  iintro ⟨⟨⟨%K, Hg⟩, Hc, Hhalf, Hgot⟩, ⟨%W, -, HO⟩, -⟩
  iapply (body_run m K c W _)
  isplitl
  · isplitl [Hg]; · iexact Hg
    isplitl [Hc]; · iexact Hc
    isplitl [Hhalf]; · iexact Hhalf
    isplitl [Hgot] <;> iassumption
  iintro ⟨He, ⟨%W', HO⟩⟩
  isplitl [He]; · iexact He
  isplitl
  · iexists W'
    isplitr; · ipureintro; exact fun _ _ => Or.inl trivial
    iexact HO
  iempintro

end Cert.Share

end
-- ==== Proof.Share.Run.lean ====
/- The launch of the swap, and its run on the two cores.

   A core's first step is a write into the other core's result array, so the launch cannot hand each core only what is
   its own: the result arrays and the landings' tokens are dealt across before either core moves. The two cores' cells
   are opened together first, under names both know. -/
module

public import proofs.«01_k».proof.Proof.Share.Swap

@[expose] public section

set_option synthInstance.maxSize 4096

noncomputable section

namespace Cert.Share

open Cert.Kernel9Ideal Cert.Kernel9Ideal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ Ghost ℕ

variable (m : (ℓ : Loc nD τ sig) → Buf (Elt F) ℓ) (ρ : Dev nD → PrngReg)

/-! ## The cells opened -/

def allToks : Finset (GSem nD τ sig × ℕ × Unit) :=
  Finset.univ.map ⟨fun x : Dev nD × Fin 2 => (cellAt x, 0, ()), fun _ _ h => cellAt_inj (congrArg Prod.fst h)⟩

def seed : Ghost := (initOf ∅ ∅, initOf allCells allToks)

/-- Every cell's counter, with the ghost seed, becomes an invariant, a position at round 0 and one duty token. -/
theorem opened :
    iprop(BI.own (EX (F := F) (initOf allCells allToks)) ∗ bigSep Finset.univ fun x : Dev nD × Fin 2 => semVal (cellAt x) 0)
      ⊢ (|={Set.univ}=> iprop(∃ K : Dev nD × Fin 2 → ℕ,
          ((bigSep Finset.univ fun x => cellInv EX (plan m) (K x) (cellAt x)) ∗ bigSep Finset.univ fun x => reached EX (cellAt x) 0)
          ∗ (bigSep Finset.univ fun x => atPos EX (cellAt x) 0 ∅ 0) ∗ bigSep Finset.univ fun x => dutyTok EX (cellAt x) 0 ()) : sProp 𝕄) := by
  have hX (Φ : GSem nD τ sig → sProp 𝕄) : bigSep allCells Φ = bigSep Finset.univ fun x : Dev nD × Fin 2 => Φ (cellAt x) := by
    unfold allCells; rw [bigSep_map]; rfl
  have hT : bigSep allToks (fun t => (dutyTok EX t.1 t.2.1 t.2.2 : sProp 𝕄)) = bigSep Finset.univ fun x : Dev nD × Fin 2 => dutyTok EX (cellAt x) 0 () := by
    unfold allToks; rw [bigSep_map]; rfl
  iintro ⟨Hown, Hval⟩
  imod (Rounds.fund EX (plan m) allCells allToks) $$ Hown with ⟨Hst, Hr, Hat, Htok⟩
  ihave Hst := (Entails.of_eq (hX fun g => roundState EX (plan m) g 0)) $$ Hst
  ihave Hr := (Entails.of_eq (hX fun g => reached EX g 0)) $$ Hr
  ihave Hat := (Entails.of_eq (hX fun g => atPos EX g 0 ∅ 0)) $$ Hat
  ihave Htok := (Entails.of_eq hT) $$ Htok
  imod (show iprop((bigSep Finset.univ fun x : Dev nD × Fin 2 => semVal (cellAt x) 0) ∗ bigSep Finset.univ fun x => roundState EX (plan m) (cellAt x) 0)
      ⊢ (|={Set.univ}=> bigSep Finset.univ fun x => iprop(∃ κ : ℕ, cellInv EX (plan m) κ (cellAt x)) : sProp 𝕄) from by
        rw [← bigSep_sep']
        exact (bigSep_mono fun x _ => (Rounds.body_intro EX (plan m) (cellAt x)).trans inv_alloc).trans (bigSep_fupd _ _)) $$ [Hval Hst] with Hinv
  · isplitl [Hval] <;> iassumption
  ihave HK := (BI.bigSep_exists_pi Finset.univ (fun (x : Dev nD × Fin 2) (κ : ℕ) => (cellInv EX (plan m) κ (cellAt x) : sProp 𝕄))) $$ Hinv
  icases HK with ⟨%K, HI⟩
  imodintro
  iexists K
  isplitl [HI Hr]
  · isplitl [HI] <;> iassumption
  isplitl [Hat] <;> iassumption

/-! ## The credits -/

/-- The other core alone owes a core's landing. -/
theorem dues_land (d c : Dev nD) : dues d (landAt c) () = if d = other c then weight else 0 := by
  unfold dues
  rw [tallyAt_apply]
  refine if_congr ⟨fun h => ?_, fun h => ⟨by rw [h, other_other], rfl⟩⟩ rfl rfl
  have hc : c = other d := congrArg (fun g : GSem nD τ sig => g.1.1) h.1
  rw [hc, other_other]

theorem credit (c : Dev nD) : (launchCred dues c : sProp 𝕄) ⊢ cred (tallyAt (landAt c) () weight) := by
  have h : tallyOn (landAt c) (launchCredit (owing dues) 0 (landAt c)) = (tallyAt (landAt c) () weight : CellTallies nD τ sig Unit) := by
    unfold tallyAt; refine congrArg _ (Finsupp.ext fun u => ?_); cases u
    rw [launchCredit_owing, Finsupp.single_eq_same, Finset.sum_congr rfl fun d _ => dues_land d c,
      Finset.sum_ite_eq' Finset.univ (other c) fun _ => weight, if_pos (Finset.mem_univ _)]
  unfold launchCred
  rw [← h]
  exact bigSep_elim (Finset.mem_univ _)

/-! ## The deal -/

/-- What a core brings to the deal: its credit, its half, its own result array. -/
def brought (c : Dev nD) : sProp 𝕄 :=
  iprop(cred (tallyAt (landAt c) () weight) ∗ halfHeld m c ∗ gotHeld c (m ((c : Thread nD τ).loc main_v1)))

theorem two (Φ : Fin 2 → sProp 𝕄) : bigSep Finset.univ Φ = iprop(Φ 0 ∗ Φ 1) := bigSep_univ_eq_bigSepL [0, 1] (by decide) (by decide) Φ

/-- A product over the cells is one over the cores, of the leaving's and the landing's. -/
theorem by_core (Φ : Dev nD × Fin 2 → sProp 𝕄) :
    bigSep Finset.univ Φ = iprop((bigSep Finset.univ fun c : Dev nD => Φ (c, 0)) ∗ bigSep Finset.univ fun c : Dev nD => Φ (c, 1)) := by
  rw [bigSep_univ_prod, ← bigSep_sep']
  exact bigSep_congr fun c _ => two _

/-- A core's share of the records. -/
theorem begun_intro (K : Dev nD × Fin 2 → ℕ) (c : Dev nD) :
    iprop(((bigSep Finset.univ fun x => cellInv EX (plan m) (K x) (cellAt x)) ∗ bigSep Finset.univ fun x => (reached EX (cellAt x) 0 : sProp 𝕄))
        ∗ (atPos EX (leaveAt c) 0 ∅ 0 ∗ atPos EX (landAt c) 0 ∅ 0) ∗ (dutyTok EX (leaveAt c) 0 () ∗ dutyTok EX (landAt (other c)) 0 ())
        ∗ cred (tallyAt (landAt c) () weight) ∗ halfHeld m c ∗ gotHeld (other c) (m ((other c : Thread nD τ).loc main_v1)))
      ⊢ begun m c := by
  have hI (x : Dev nD × Fin 2) : (bigSep Finset.univ fun x => (cellInv EX (plan m) (K x) (cellAt x) : sProp 𝕄)) ⊢ cellInv EX (plan m) (K x) (cellAt x) :=
    bigSep_elim (Finset.mem_univ x)
  have hR (x : Dev nD × Fin 2) : (bigSep Finset.univ fun x => (reached EX (cellAt x) 0 : sProp 𝕄)) ⊢ reached EX (cellAt x) 0 :=
    bigSep_elim (Finset.mem_univ x)
  unfold begun kit
  iintro ⟨⟨#HI, #HR⟩, Hat, Ht, Hrest⟩
  isplitr [Hrest]
  · iexists K
    isplitr
    · isplitr; · iapply (hI (c, 0)); iexact HI
      isplitr; · iapply (hI (c, 1)); iexact HI
      isplitr; · iapply (hI (other c, 1)); iexact HI
      isplitr; · iapply (hR (c, 0)); iexact HR
      iapply (hR (other c, 1)); iexact HR
    isplitl [Hat] <;> iassumption
  iexact Hrest

/-- The deal: the landings' tokens and the result arrays go across, the rest stays. -/
theorem deal (K : Dev nD × Fin 2 → ℕ) :
    iprop((((bigSep Finset.univ fun x => cellInv EX (plan m) (K x) (cellAt x)) ∗ bigSep Finset.univ fun x => reached EX (cellAt x) 0)
          ∗ (bigSep Finset.univ fun x => atPos EX (cellAt x) 0 ∅ 0) ∗ bigSep Finset.univ fun x => dutyTok EX (cellAt x) 0 ())
        ∗ bigSep Finset.univ fun c : Dev nD => brought m c)
      ⊢ (bigSep Finset.univ fun c : Dev nD => begun m c : sProp 𝕄) := by
  have h : iprop(((bigSep Finset.univ fun x => cellInv EX (plan m) (K x) (cellAt x)) ∗ bigSep Finset.univ fun x => (reached EX (cellAt x) 0 : sProp 𝕄))
        ∗ bigSep Finset.univ fun c : Dev nD => iprop((atPos EX (leaveAt c) 0 ∅ 0 ∗ atPos EX (landAt c) 0 ∅ 0)
          ∗ (dutyTok EX (leaveAt c) 0 () ∗ dutyTok EX (landAt (other c)) 0 ())
          ∗ cred (tallyAt (landAt c) () weight) ∗ halfHeld m c ∗ gotHeld (other c) (m ((other c : Thread nD τ).loc main_v1))))
      ⊢ (bigSep Finset.univ fun c : Dev nD => begun m c : sProp 𝕄) :=
    (sep_mono_left (BI.bigSep_of_persistent Finset.univ _)).trans (by rw [← bigSep_sep']; exact bigSep_mono fun c _ => begun_intro m K c)
  simp only [bigSep_sep'] at h
  unfold brought
  simp only [bigSep_sep']
  rw [by_core (fun x => (atPos EX (cellAt x) 0 ∅ 0 : sProp 𝕄)), by_core (fun x => (dutyTok EX (cellAt x) 0 () : sProp 𝕄)),
    bigSep_univ_equiv across (fun c : Dev nD => (dutyTok EX (cellAt (c, 1)) 0 () : sProp 𝕄)),
    bigSep_univ_equiv across (fun c : Dev nD => (gotHeld c (m ((c : Thread nD τ).loc main_v1)) : sProp 𝕄))]
  iintro ⟨⟨HR, Hat, Ht⟩, Hc, Hh, Hg⟩
  iapply h
  isplitl [HR]; · iexact HR
  isplitl [Hat]; · iexact Hat
  isplitl [Ht]; · iexact Ht
  isplitl [Hc]; · iexact Hc
  isplitl [Hh]; · iexact Hh
  iexact Hg

/-! ## What a core holds at launch -/

theorem scoped_none (c : Dev nD) : (scopedBufs (c : Thread nD τ) : sProp 𝕄) = BI.emp := by
  rw [scopedBufs_tc]; exact BI.bigSep_eq_bigSepL_of_eq [] (by decide) (by decide) _
theorem scoped_sems (c : Dev nD) : (scopedSems0 (c : Thread nD τ) : sProp 𝕄) = iprop(semVal (leaveAt c) 0 ∗ semVal (landAt c) 0) := by
  rw [scopedSems0_tc]; exact BI.bigSep_eq_bigSepL_of_eq [mark 0, mark 1] (by decide) (by decide) _
theorem arrays_held (c : Dev nD) :
    (unscopedBufs c (fun b => m ((c : Thread nD τ).loc b)) : sProp 𝕄) = iprop(halfHeld m c ∗ gotHeld c (m ((c : Thread nD τ).loc main_v1))) := by
  rw [halfHeld_eq, gotHeld_eq]
  unfold unscopedBufs
  exact BI.bigSep_eq_bigSepL_of_eq [main_arg0, main_v1] (by decide) (by decide) _

/-- The launch's holdings of a core: what it owes, its two counters, and what it brings to the deal. -/
theorem holdings (c : Dev nD) :
    coreInit (Ix := Unit) (Name := ℕ) (U := Ghost) (Lvl := ℕ) (owing dues) 0 (⟨m, fun _ => 0, ρ⟩ : MemSt nD τ sig (Elt F)) (c.tc : Thread nD τ)
      ⊢ iprop(owes (c : Thread nD τ) (dues c) ∅ ∗ (bigSep Finset.univ fun k : Fin 2 => semVal (cellAt (c, k)) 0) ∗ brought m c) :=
  (coreInit_boundary_owing dues m ρ c).trans (by
    unfold boundary brought
    rw [scoped_sems, arrays_held, two]
    iintro ⟨⟨-, Hs, -⟩, ⟨Hh, Hg⟩, -, HO, -, -, Hc⟩
    isplitl [HO]; · iexact HO
    isplitl [Hs]; · iexact Hs
    isplitl [Hc]; · iapply (credit c); iexact Hc
    isplitl [Hh] <;> iassumption)

/-- From the launch to the two cores' starts. -/
theorem launched :
    iprop((bigSep Finset.univ fun c : Dev nD =>
          coreInit (Ix := Unit) (Name := ℕ) (U := Ghost) (Lvl := ℕ) (owing dues) 0 (⟨m, fun _ => 0, ρ⟩ : MemSt nD τ sig (Elt F)) (c.tc : Thread nD τ))
        ∗ ownU seed)
      ⊢ (|={Set.univ}=> bigSep Finset.univ fun c : Dev nD => iprop(owes (c : Thread nD τ) (dues c) ∅ ∗ begun m c) : sProp 𝕄) := by
  refine (sep_mono_left (bigSep_mono fun c _ => holdings m ρ c)).trans ?_
  rw [bigSep_sep', bigSep_sep', bigSep_sep', ← bigSep_univ_prod (fun x : Dev nD × Fin 2 => (semVal (cellAt x) 0 : sProp 𝕄))]
  unfold seed
  iintro ⟨⟨HO, Hs, Hb⟩, Hu⟩
  ihave Hu := (ownU_pair _ _) $$ Hu
  icases Hu with ⟨-, Hu⟩
  imod (opened m) $$ [Hu Hs] with ⟨%K, Hkit⟩
  · isplitl [Hu] <;> iassumption
  imodintro
  isplitl [HO]; · iexact HO
  iapply (deal m K)
  isplitl [Hkit] <;> iassumption

/-! ## A core's run -/

/-- What a core ends with: its half, its result holding the other's half, and its scoped semaphores at zero. -/
def final (c : Dev nD) : sProp 𝕄 := iprop((halfHeld m c ∗ gotHeld c (landed m c)) ∗ scopedSems0 (c.tc : Thread nD τ))

theorem no_staging (c : Dev nD) : (Dat.staging (pin (pcfgs (F := F)) adm 0) c : sProp 𝕄) = BI.emp := none_held _
theorem no_tables (c : Dev nD) (q) (V) :
    (prefHeld (Ix := Unit) (Name := ℕ) (U := Ghost) (Lvl := ℕ) (Val := Elt F) (pcfgs (F := F) 0).pre c q V : sProp 𝕄) = BI.emp := none_held _
theorem begins (c : Dev nD) : (datOf (F := F) m 0 c).Φ 0 = begun m c :=
  show (if ((0 : Fin (cfg0.N + 1)).val = 0) then begun m c else ended m c) = begun m c from if_pos rfl

theorem core_run (c : Dev nD) :
    iprop(owes (c : Thread nD τ) (dues c) ∅ ∗ begun m c)
      ⊢ wp frame (wpE (Pipeline.defs (pcfgs (F := F)) defs₀) (Variants.lift 𝒱₀) (c.tc : Thread nD τ) none) Set.univ (main c)
          (fun _ => iprop(final m c ∗ ∃ W, owes (c : Thread nD τ) (0 : CellTallies nD τ sig Unit) W)) := by
  rw [show main (F := F) c = .op (.customCall (entry 0) ()) fun _ => .ret ⟨⟩ from rfl]
  iintro ⟨HO, Hb⟩
  iapply (wp_customCall_entry_frame (pcfgs (F := F)) adm (datOf m) () EX (fun _ => 0) cellOf_inj 0 defs₀ 𝒱₀ (fun _ => fullShare) c Set.univ
      (fun _ _ => Set.mem_univ _) (body m c).loose (fun w => w.elim0) none (fun u h => nomatch h)
      (X := begun m c) (Y := iprop(halfHeld m c ∗ gotHeld c (landed m c))) (R := iprop(emp)) (I := iprop(emp))
      (by rw [scoped_none, no_staging]; iintro -; isplitr <;> iempintro)
      (by rw [begins]; iintro ⟨H, -⟩; iexact H)
      (by
        rw [show (datOf m 0 c).Φ (Fin.last (pin (pcfgs (F := F)) adm 0).N) = ended m c from rfl, scoped_none, scoped_sems]
        unfold ended
        iintro ⟨⟨H, Hs⟩, -⟩
        isplitl [H]; · iexact H
        isplitl [Hs]; · iexact Hs
        iempintro)
      (k := fun _ => .ret ⟨⟩)) $$ [HO Hb]
  · isplitl [HO]
    · unfold EntryPre PerCore.EntryPre Dat.owesAt owesWithin
      rw [owed_zero]
      isplitr; · iapply (Entails.of_eq (show ((datOf m 0 c).arrays _ : sProp 𝕄) = BI.emp from none_held _).symm); iempintro
      isplitl [HO]
      · iexists ∅; isplitr; · ipureintro; rw [Finset.coe_empty]; exact Set.empty_subset _
        iexact HO
      isplitr; · iapply (Entails.of_eq (show (PerCore.cellsWaits (fun _ => pin (pcfgs (F := F)) adm) (datOf m) () 0 c : sProp 𝕄) = BI.emp from none_held _).symm); iempintro
      isplitr; · iapply (Entails.of_eq (show (PerCore.cellsInit (fun _ => pin (pcfgs (F := F)) adm) (datOf m) EX (fun _ => 0) 0 c : sProp 𝕄) = BI.emp from none_held _).symm); iempintro
      iapply (Entails.of_eq (show (PerCore.toksInit (fun _ => pin (pcfgs (F := F)) adm) EX 0 c : sProp 𝕄) = BI.emp from none_held _).symm); iempintro
    isplitr; · iapply (Entails.of_eq (no_tables c _ _).symm); iempintro
    isplitl [Hb]; · iexact Hb
    rw [scoped_none]
    isplitr <;> iempintro
  unfold EntryPost PerCore.EntryPost Dat.owesAt owesWithin
  rw [owed_last]
  iintro ⟨⟨-, ⟨%W, -, HO⟩⟩, HY, Hs, -⟩
  rw [wp_ret]; imodintro
  unfold final
  isplitr [HO]
  · isplitl [HY] <;> iassumption
  iexists W; iexact HO

/-! ## The run -/

/-- An array held whole is what the memory holds. -/
theorem read_one (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  have h := pointsTo_read_all (Ix := Unit) (Name := ℕ) (U := Ghost) (Lvl := ℕ) {()} (fun _ : Unit => ℓ) (fun _ => f) s'
  rw [bigSep_singleton] at h
  refine h.trans (sep_mono_left ?_)
  iintro %h
  ipureintro
  exact h () (Finset.mem_singleton_self _)

/-- A final state's facts at a core, read off what the core ends with. -/
theorem read_core (c : Dev nD) (s' : Phys nD τ sig (Elt F)) :
    iprop(final m c ∗ SI s') ⊢ (|={Set.univ}=> iprop(⌜(s'.mem.mem ((c : Thread nD τ).loc main_v1) = landed m c
        ∧ s'.mem.mem ((c : Thread nD τ).loc main_arg0) = m ((c : Thread nD τ).loc main_arg0))
      ∧ ∀ sm : SemLoc sig, sm.isScoped .tc = true → s'.mem.sem ((c.tc : Thread nD τ), sm) = 0⌝ ∗ SI s') : sProp 𝕄) := by
  unfold final
  rw [halfHeld_eq, gotHeld_eq]
  iintro ⟨⟨⟨Hh, Hg⟩, Hs⟩, HSI⟩
  ihave %hz := (tcScoped_read_pers c s') $$ [Hs HSI]
  · isplitl [Hs] <;> iassumption
  ihave H := (read_one _ _ s') $$ [Hh HSI]
  · isplitl [Hh] <;> iassumption
  icases H with ⟨%hh, HSI⟩
  ihave H := (read_one _ _ s') $$ [Hg HSI]
  · isplitl [Hg] <;> iassumption
  icases H with ⟨%hg, HSI⟩
  imodintro
  isplitr
  · ipureintro; exact ⟨⟨hg, hh⟩, hz⟩
  · iexact HSI

/-- The swap's run: from any memory with zero counters every execution ends, each core's result holding the other's half,
    its half as it was, every semaphore at zero. -/
theorem run_main : θ_run defs (onTc (τ := τ) (main (F := F))) ⟨m, fun _ => 0, ρ⟩ (fun r =>
    (∀ c : Dev nD, r.2.mem ((c : Thread nD τ).loc main_v1) = landed m c
      ∧ r.2.mem ((c : Thread nD τ).loc main_arg0) = m ((c : Thread nD τ).loc main_arg0)) ∧ r.2.sem = fun _ => 0) := by
  refine (θ_run defs _ _).mono (Q := fun r => (∀ c : Dev nD, ((r.2.mem ((c : Thread nD τ).loc main_v1) = landed m c
        ∧ r.2.mem ((c : Thread nD τ).loc main_arg0) = m ((c : Thread nD τ).loc main_arg0))
      ∧ ∀ sm : SemLoc sig, sm.isScoped .tc = true → r.2.sem ((c.tc : Thread nD τ), sm) = 0))
      ∧ ∀ g : GSem nD τ sig, g.1.2 ≠ .tc → r.2.sem g = 0)
    (fun r hr => ⟨fun c => (hr.1 c).1, sem_eq_zero_of_scoped (by decide) (sems_of_reads (fun c => (hr.1 c).2) hr.2)⟩)
    (adequate_tpu defs _ _ _
      (reflect_intro_fupd_tc_sems (Ix := Unit) (Name := ℕ) (U := Ghost) (Lvl := ℕ) (X := Unit) (Variants.lift 𝒱₀) (owing dues) 0 (noBookings fun _ => le_rfl) (owing_of_ne dues) seed
        (fun _ c => iprop(owes (c : Thread nD τ) (dues c) ∅ ∗ begun m c)) (fun _ => final m)
        (fun _ => iprop(emp)) Set.univ ?_ (fun _ c => ?_) fun _ => ?_))
  · refine (launched m ρ).trans (BI.fupd_mono ?_)
    iintro H
    iexists ()
    isplitl [H]; · iexact H
    iempintro
  · unfold post; simp only [liftTc_tc]
    exact core_run m c
  · iintro ⟨H, -, Hsc⟩ %s' HSI
    ihave %hsc := (scSems_read_zero m ρ s') $$ [Hsc HSI]
    · isplitl [Hsc] <;> iassumption
    imod (posts_fupd Finset.univ (read_core m) s') $$ [H HSI] with %h
    · isplitl [H] <;> iassumption
    imodintro
    ipureintro
    exact ⟨fun c => h c (Finset.mem_univ c), hsc⟩

end Cert.Share

end
-- ==== Proof.Early.Body.lean ====
/- The early share of the two cores' halves: the protocol of its six semaphores, and the kernel's body run under it.

   Three weights' halves cross at once, each as one copy of a whole array. A core starts its three copies, waits for the
   three that come, then for its own three to have left. Nothing opens the exchange, so a core holds the OTHER core's
   three results from the start. Each copy has a semaphore for its landing and one for its leaving, used for one round:
   the landing hands over a result, filled; the leaving hands a half back. The arrays differ in size, and so does what
   their copies count. -/
module

public import proofs.«01_k».proof.Proof.Gen.Kernel11Ideal
public import proofs.«01_k».proof.Proof.Gen.Kernel11Ideal.Skeleton
public import proofs.«01_k».proof.Proof.Gen.Kernel11Ideal.Launch
public import Idealize.ShloMosaic.Lib.Pipeline.Launch
public import Idealize.ShloMosaic.Lib.Pipeline.Regions
public import Idealize.ShloMosaic.Lib.Pipeline.Kit
public import Idealize.ShloMosaic.Lib.Pipeline.Value
public import Idealize.ShloMosaic.Lib.ValueLayout
public import Idealize.ShloMosaic.Lib.Tactic

@[expose] public section

set_option synthInstance.maxSize 4096

noncomputable section

namespace Cert.Early

open Cert.Kernel11Ideal Cert.Kernel11Ideal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- The ghost state: one copy of the rounds algebra for the pipeline (it has no window, and uses none of it), one for
    the six semaphores. -/
abbrev Ghost : Type := UR sig nD τ × UR sig nD τ

local notation "𝕄" => MT nD τ sig Unit (Elt F) ℕ Ghost ℕ

abbrev EX : Emb (UR sig nD τ) (MT nD τ sig Unit (Elt F) ℕ Ghost ℕ) := embR

variable (m : (ℓ : Loc nD τ sig) → Buf (Elt F) ℓ)

/-! ## The arrays -/

/-- The core a core shares with. -/
def other (c : Dev nD) : Dev nD := Fin.rev c
theorem other_other (c : Dev nD) : other (other c) = c := Fin.rev_rev c
def across : Dev nD ≃ Dev nD := ⟨other, other, other_other, other_other⟩

/-- The three halves a core sends, and where the three it receives go. -/
abbrev arg : Fin 3 → Ref sig .tc | 0 => main_arg0 | 1 => main_arg1 | 2 => main_arg2
abbrev res : Fin 3 → Ref sig .tc | 0 => main_v1_0 | 1 => main_v1_1 | 2 => main_v1_2

/-- An array of a core at launch, -/
abbrev mine (c : Dev nD) (b : Ref sig .tc) : b.ty.Contents (Elt F) := m ((c : Thread nD τ).loc b)
/-- and what its results hold in the end: the other core's halves. -/
def landed (c : Dev nD) : (k : Fin 3) → (res k).ty.Contents (Elt F)
  | 0 => mine m (other c) main_arg0 | 1 => mine m (other c) main_arg1 | 2 => mine m (other c) main_arg2

/-- An array held whole. -/
def held (c : Dev nD) (b : Ref sig .tc) (f : b.ty.Contents (Elt F)) : sProp 𝕄 := ((c : Thread nD τ).loc b) ↦{fullShare} f
instance held_storable (c : Dev nD) (b) (f) : BI.Storable (upEmb : UEmb _ 𝕄) (held (F := F) c b f) := by unfold held; infer_instance
/-- The same, as a copy names it. -/
theorem held_eq (c : Dev nD) (b : Ref sig .tc) (f : b.ty.Contents (Elt F)) :
    held c b f = ((View.whole b).loc (c : Thread nD τ) ↦[(View.whole b).set]{fullShare} f : sProp 𝕄) := by
  unfold held; rw [View.set_whole]

abbrev args (c : Dev nD) : sProp 𝕄 := bigSep Finset.univ fun k : Fin 3 => held c (arg k) (mine m c (arg k))
abbrev results (c : Dev nD) (f : (k : Fin 3) → (res k).ty.Contents (Elt F)) : sProp 𝕄 := bigSep Finset.univ fun k : Fin 3 => held c (res k) (f k)
/-- A core's results as they are at launch. -/
abbrev unfilled (c : Dev nD) : sProp 𝕄 := results c fun k => mine m c (res k)

/-! ## The cells -/

theorem sem_inb : ∀ k : Fin 3, ∀ a, (![k.val] : Fin 1 → ℕ) a + S1.size a ≤ S3.size a := by decide
/-- The semaphore of the `k`-th copy's leaving, and of its landing. -/
abbrev leave (k : Fin 3) : DmaSem sig := ((cc0_scratch0.slice (Rect.unit (s := S3) ![k.val] S1.size (sem_inb k))).squeeze S_ squeezes_S1_S_).sem
abbrev land (k : Fin 3) : DmaSem sig := ((cc0_scratch1.slice (Rect.unit (s := S3) ![k.val] S1.size (sem_inb k))).squeeze S_ squeezes_S1_S_).sem

/-- A copy's two semaphores, of the three copies. -/
abbrev Spot : Type := Fin 2 × Fin 3
def mark (y : Spot) : SemLoc sig := if y.1 = 0 then .dma (leave y.2) else .dma (land y.2)
abbrev cellAt (x : Dev nD × Spot) : GSem nD τ sig := ((x.1 : Thread nD τ), mark x.2)

theorem mark_inj : Function.Injective mark := by
  have h : ∀ y z : Spot, mark y = mark z → y = z := by decide
  exact fun y z => h y z

theorem cellAt_inj : Function.Injective cellAt := by
  rintro ⟨c, y⟩ ⟨d, z⟩ h
  have hc : c = d := congrArg (fun g : GSem nD τ sig => g.1.1) h
  have hy : y = z := mark_inj (congrArg Prod.snd h)
  rw [hc, hy]

/-- The twelve cells of the two cores. -/
def allCells : Finset (GSem nD τ sig) := Finset.univ.map ⟨cellAt, cellAt_inj⟩
theorem mem_allCells (x : Dev nD × Spot) : cellAt x ∈ allCells := Finset.mem_map.mpr ⟨x, Finset.mem_univ _, rfl⟩

/-- What a copy of one array counts on a semaphore. -/
abbrev weight (k : Fin 3) : ℕ := (View.whole (res k)).dmaCredit
theorem weight_pos (k : Fin 3) : 0 < weight k := View.dmaCredit_pos _ (by revert k; decide)

/-! ## The schedule -/

/-- What a core is handed at one of its spots. -/
def pay (c : Dev nD) (y : Spot) : sProp 𝕄 := if y.1 = 0 then held c (arg y.2) (mine m c (arg y.2)) else held c (res y.2) (landed m c y.2)

theorem pay_leave (c : Dev nD) (k : Fin 3) : pay m c (0, k) = held c (arg k) (mine m c (arg k)) := if_pos rfl
theorem pay_land (c : Dev nD) (k : Fin 3) : pay m c (1, k) = held c (res k) (landed m c k) := if_neg (by decide : ¬ (1 : Fin 2) = 0)

instance pay_storable (c : Dev nD) (y : Spot) : BI.Storable (upEmb : UEmb _ 𝕄) (pay (F := F) m c y) := by
  unfold pay; split <;> infer_instance

/-- One round of every cell, one duty in it, paid with what its spot hands over. -/
def plan : Schedule (GSem nD τ sig) Unit 𝕄 where
  duties g r := if r = 0 ∧ g ∈ allCells then {()} else ∅
  unitless _ := False
  amount g _ _ := weight (Function.invFun mark g.2).2
  payload g _ _ := pay m g.1.1 (Function.invFun mark g.2)
  amount_pos _ _ _ _ := weight_pos _

instance plan_storable (g : GSem nD τ sig) (r : ℕ) (d : Unit) : BI.Storable (upEmb : UEmb _ 𝕄) ((plan (F := F) m).payload g r d) :=
  pay_storable m g.1.1 (Function.invFun mark g.2)

theorem plan_duties (x : Dev nD × Spot) : (plan (F := F) m).duties (cellAt x) 0 = {()} := if_pos ⟨rfl, mem_allCells x⟩
theorem plan_over (g : GSem nD τ sig) : ∀ r, 1 ≤ r → (plan (F := F) m).duties g r = ∅ :=
  fun r hr => if_neg fun h => absurd h.1 (Nat.one_le_iff_ne_zero.mp hr)
theorem plan_amount (x : Dev nD × Spot) (u : Unit) : (plan (F := F) m).amount (cellAt x) 0 u = weight x.2.2 := by
  dsimp only [plan]; rw [Function.leftInverse_invFun mark_inj x.2]
theorem plan_expect (x : Dev nD × Spot) : (plan (F := F) m).expect (cellAt x) 0 = weight x.2.2 := by
  unfold Schedule.expect Schedule.amountOf; rw [plan_duties, Finset.sum_singleton, plan_amount]
theorem plan_pay (x : Dev nD × Spot) (u : Unit) : (plan (F := F) m).payload (cellAt x) 0 u = pay m x.1 x.2 := by
  dsimp only [plan]; rw [Function.leftInverse_invFun mark_inj x.2]
theorem handed (x : Dev nD × Spot) :
    bigSep ((plan (F := F) m).duties (cellAt x) 0 \ ∅) (fun u => (plan (F := F) m).payload (cellAt x) 0 u) = pay m x.1 x.2 := by
  rw [Finset.sdiff_empty, plan_duties, bigSep_singleton, plan_pay]

/-- At launch a core owes the other's three landings; they are met from the first on. -/
abbrev due (c : Dev nD) (k : Fin 3) : CellTallies nD τ sig Unit := tallyAt (cellAt (other c, (1, k))) () (weight k)
def dues (c : Dev nD) : CellTallies nD τ sig Unit := 0 + due c 2 + due c 1 + due c 0

/-! ## The body -/

/-- The records of all cells, at the names `K` of their invariants. -/
abbrev records (K : Dev nD × Spot → ℕ) : sProp 𝕄 :=
  iprop((bigSep Finset.univ fun x => cellInv EX (plan m) (K x) (cellAt x)) ∗ bigSep Finset.univ fun x => reached EX (cellAt x) 0)

/-- A core's positions and tokens, with the records. -/
def kit (K : Dev nD × Spot → ℕ) (c : Dev nD) : sProp 𝕄 :=
  iprop(records m K ∗ (bigSep Finset.univ fun y : Spot => atPos EX (cellAt (c, y)) 0 ∅ 0)
    ∗ (bigSep Finset.univ fun k : Fin 3 => dutyTok EX (cellAt (c, (0, k))) 0 ()) ∗ bigSep Finset.univ fun k : Fin 3 => dutyTok EX (cellAt (other c, (1, k))) 0 ())

abbrev credits (c : Dev nD) : sProp 𝕄 := bigSep Finset.univ fun k : Fin 3 => cred (tallyAt (cellAt (c, (1, k))) () (weight k))

/-- What a core starts from: its kit, the credits of the copies it will be sent, its halves, the other's results. -/
def begun (c : Dev nD) : sProp 𝕄 :=
  iprop((∃ K, kit m K c) ∗ credits c ∗ args m c ∗ unfilled m (other c))
/-- What it ends with: its halves, its results holding the other's, its counters at zero. -/
def ended (c : Dev nD) : sProp 𝕄 :=
  iprop((args m c ∗ results c (landed m c)) ∗ bigSep Finset.univ fun y : Spot => semVal (cellAt (c, y)) 0)

abbrev 𝒱₀ : Variants := Variants.none

theorem three (Φ : Fin 3 → sProp 𝕄) : bigSep Finset.univ Φ = iprop(Φ 0 ∗ Φ 1 ∗ Φ 2) :=
  bigSep_univ_eq_bigSepL [0, 1, 2] (by decide) (by decide) Φ
theorem two (Φ : Fin 2 → sProp 𝕄) : bigSep Finset.univ Φ = iprop(Φ 0 ∗ Φ 1) := bigSep_univ_eq_bigSepL [0, 1] (by decide) (by decide) Φ
/-- A product over a core's spots is one over its leavings and one over its landings. -/
theorem spots (Φ : Spot → sProp 𝕄) :
    bigSep Finset.univ Φ = iprop((bigSep Finset.univ fun k => Φ (0, k)) ∗ bigSep Finset.univ fun k => Φ (1, k)) := by
  rw [bigSep_univ_prod, two]

theorem record (K : Dev nD × Spot → ℕ) (x : Dev nD × Spot) : records (F := F) m K ⊢ iprop(cellInv EX (plan m) (K x) (cellAt x) ∗ reached EX (cellAt x) 0) :=
  BIClass.sep_mono (bigSep_elim (Finset.mem_univ x)) (bigSep_elim (Finset.mem_univ x))

/-- The `k`-th copy started, between arrays named as the kernel does: both go into the flight, the leaving's credit
    comes back, and the landing is owed no more. -/
theorem wp_give (K : Dev nD × Spot → ℕ) (c : Dev nD) (k : Fin 3) (d : Dev nD) (hd : d = other c) (sl sr : DmaSem sig) (hl : sl = leave k) (hr : sr = land k)
    {s : Shape} {e : EltTy} {u v : Memref sig .tc .hbm s e} (fu : Buf (Elt F) (u.view.loc (c : Thread nD τ))) (fv : Buf (Elt F) (v.view.loc (other c : Thread nD τ)))
    (hu : held c (arg k) (mine m c (arg k)) = (u.view.loc (c : Thread nD τ) ↦[u.view.set]{fullShare} fu : sProp 𝕄))
    (hv : held (other c) (res k) (mine m (other c) (res k)) = (v.view.loc (other c : Thread nD τ) ↦[v.view.set]{fullShare} fv : sProp 𝕄))
    (hw : held (other c) (res k) (landed m (other c) k)
      = (v.view.loc (other c : Thread nD τ) ↦[v.view.set]{fullShare} v.view.write (Elt F) fv (u.view.read (Elt F) fu) Finset.univ : sProp 𝕄))
    (hn : v.view.dmaCredit = weight k)
    {hsc : (v : Memref sig (Dev.tc d : Thread nD τ).2.kind .hbm s e).view.ref.isScScratch = false}
    {hsrc : u.view.WordExact} {hdst : v.view.WordExact}
    {hsem : DmaTarget.Typed .hbm (.dma sr) (.remote (Dev.tc d : Thread nD τ) (v : Memref sig .tc .hbm s e) (.dma sl) hsc)}
    {α : Type} {Q : α → sProp 𝕄} {p : PUnit → Prog (TpuEff nD τ sig (Elt F) Λ₀ .tc) α}
    (O₀ O : CellTallies nD τ sig Unit) (hO : O₀ = O + due c k) (W : Waits sig Unit) :
    iprop(records m K ∗ held c (arg k) (mine m c (arg k)) ∗ held (other c) (res k) (mine m (other c) (res k)) ∗ owes (c : Thread nD τ) O₀ W
        ∗ dutyTok EX (cellAt (c, (0, k))) 0 () ∗ dutyTok EX (cellAt (other c, (1, k))) 0 ())
      ⊢ iprop(((cred (tallyAt (cellAt (c, (0, k))) () (weight k)) ∗ owes (c : Thread nD τ) O W) -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma u (.remote (Dev.tc d : Thread nD τ) v (.dma sl) hsc) (.dma sr) hsrc hdst hsem) p) Q) := by
  subst hd hl hr
  have send := Rounds.wp_send_pointsTo (Q := Q) (c' := (Dev.tc (other c) : Thread nD τ)) (src := u) (dst := v) (hsc := hsc) (hsrc := hsrc) (hdst := hdst) (hsem := hsem) (k := p) (defs := defs₀ (F := F)) (Γ := .empty) 𝒱₀ EX (plan m) (c : Thread nD τ) none
    (κ₁ := K (c, (0, k))) (κ₂ := K (other c, (1, k))) (q := fullShare) (fs := fu)
    (r₁ := 0) (r₂ := 0) (d₁ := ()) (d₂ := ()) (fd := fv)
    (by exact (plan_duties m (c, (0, k))).symm ▸ Finset.mem_singleton_self _) (by exact (plan_duties m (other c, (1, k))).symm ▸ Finset.mem_singleton_self _)
    () () (weight k) hn (plan_amount m (c, (0, k)) ()) (plan_amount m (other c, (1, k)) ()) O hO (W := W)
    (by rw [← hu]; exact Entails.of_eq (plan_pay m (c, (0, k)) ()).symm)
    (by rw [← hw]; exact Entails.of_eq (plan_pay m (other c, (1, k)) ()).symm) (Es := Set.univ)
  rw [← hu, ← hv] at send
  iintro ⟨#HR, Hs, Hd, HO, Tl, Tr⟩ Hk
  ihave ⟨#I₁, #R₁⟩ := (record m K (c, (0, k))) $$ HR
  ihave ⟨#I₂, #R₂⟩ := (record m K (other c, (1, k))) $$ HR
  iapply send $$ [Hs Hd HO Tl Tr]
  · isplitr; · iexact I₁
    isplitr; · iexact I₂
    isplitl [Hs]; · iexact Hs
    isplitl [Hd]; · iexact Hd
    isplitl [HO]; · iexact HO
    isplitl [Tl]; · iexact Tl
    isplitr; · iexact R₁
    isplitl [Tr]; · iexact Tr
    iexact R₂
  iexact Hk

/-- A wait at one of a core's spots: what the spot hands over comes, and the cell, done with, is closed at zero. -/
theorem wp_take (K : Dev nD × Spot → ℕ) (c : Dev nD) (y : Spot) (s : DmaSem sig) (hs : SemLoc.dma s = mark y)
    {t s' : Shape} {e e' : EltTy} {u : Memref sig .tc .hbm t e} {v : Memref sig .tc .hbm s' e'} (hv : v.view.dmaCredit = weight y.2) {hu : u.view.WordExact} {hw : v.view.WordExact}
    {α : Type} {Q : α → sProp 𝕄} {p : PUnit → Prog (TpuEff nD τ sig (Elt F) Λ₀ .tc) α} :
    iprop(records m K ∗ cred (tallyAt (cellAt (c, y)) () (weight y.2)) ∗ (∃ W, owes (c : Thread nD τ) 0 W) ∗ atPos EX (cellAt (c, y)) 0 ∅ 0)
      ⊢ iprop((((∃ W, owes (c : Thread nD τ) 0 W) ∗ semVal (cellAt (c, y)) 0 ∗ pay m c y)
            -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 s u v hu hw) p) Q) := by
  iintro ⟨#HR, Hc, ⟨%W, HO⟩, Hat⟩ Hk
  ihave ⟨#HI, -⟩ := (record m K (c, y)) $$ HR
  have wait := Rounds.wp_wait_rest_token (Lvl := ℕ) (Q := Q) (k := p) (defs := defs₀ (F := F)) (Γ := .empty) 𝒱₀ EX (plan m) (c : Thread nD τ) none (κ := K (c, y))
      (w := .waitDma2 s u v hu hw) (sm := mark y)
      (by rw [← hs, ← hv]; exact wpE_waitDma2_eq 𝒱₀ (c : Thread nD τ) none Set.univ) (Set.mem_univ _) () (O := 0) (W := W) (R := 0) (m := 0) (T := ∅)
      (k' := weight y.2) (by rw [Nat.zero_add]; exact (plan_expect m (c, y)).symm)
  iapply wait $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hpay := (Entails.of_eq (handed m (c, y))) $$ Hpay
  iapply (fupd_wp frame (wpE (defs₀ (F := F)) 𝒱₀ (c : Thread nD τ) none) Set.univ (p ⟨⟩) Q)
  imod (Rounds.cell_close EX (plan m) (Set.mem_univ (K (c, y))) (fun h => h) (R := 0 + 1) (plan_over m (cellAt (c, y)))) $$ [Hat] with Hz
  · isplitr; · iexact HI
    iexact Hat
  imodintro
  iapply Hk
  isplitl [HO]; · iexists _; iexact HO
  isplitl [Hz] <;> iassumption

/-- A copy of the whole of an array leaves the other's result holding it, whatever it held. -/
theorem filled (c : Dev nD) (k : Fin 3) (f : (res k).ty.Contents (Elt F)) (hf : landed m (other c) k = f) :
    held (other c) (res k) (landed m (other c) k) = ((View.whole (res k)).loc (other c : Thread nD τ) ↦[(View.whole (res k)).set]{fullShare}
        (View.whole (res k)).write (Elt F) (mine m (other c) (res k)) f Finset.univ : sProp 𝕄) := by
  rw [held_eq, hf]
  exact congrArg (fun g => ((View.whole (res k)).loc (other c : Thread nD τ) ↦[(View.whole (res k)).set]{fullShare} g : sProp 𝕄)) (View.write_whole_univ _ _ _).symm
theorem sent (c : Dev nD) :
    landed m (other c) 0 = (View.whole main_arg0).read (Elt F) (mine m c main_arg0) ∧ landed m (other c) 1 = (View.whole main_arg1).read (Elt F) (mine m c main_arg1)
      ∧ landed m (other c) 2 = (View.whole main_arg2).read (Elt F) (mine m c main_arg2) := by
  rw [View.read_whole, View.read_whole, View.read_whole]
  unfold landed
  rw [other_other]
  exact ⟨rfl, rfl, rfl⟩

set_option maxHeartbeats 1600000 in
/-- The body: three copies started; the three that come waited for; the three that leave. -/
theorem body_run (K : Dev nD × Spot → ℕ) (c : Dev nD) (W : Waits sig Unit) (Kt : PUnit → sProp 𝕄) :
    iprop((kit m K c ∗ credits c ∗ args m c ∗ unfilled m (other c) ∗ owes (c : Thread nD τ) (dues c) W)
        ∗ ((ended m c ∗ ∃ W', owes (c : Thread nD τ) 0 W') -∗ Kt ⟨⟩))
      ⊢ wp frame (wpE (defs₀ (F := F)) 𝒱₀ c none) Set.univ
          (cc0_grad_share_sibling_early (Memref.whole main_arg0) (Memref.isWhole_whole _) (Memref.whole main_arg1) (Memref.isWhole_whole _) (Memref.whole main_arg2) (Memref.isWhole_whole _)
            (Memref.whole main_v1_0) (Memref.isWhole_whole _) (Memref.whole main_v1_1) (Memref.isWhole_whole _) (Memref.whole main_v1_2) (Memref.isWhole_whole _) cc0_scratch0 cc0_scratch1) Kt := by
  have hd (f : Dev nD → ℕ) (hlt : ∀ c, f c < nD) (h : ∀ c, f c = 1 - c.val) : (⟨f c, hlt c⟩ : Dev nD) = other c :=
    Fin.ext ((h c).trans (by revert c; decide))
  simp only [cc0_grad_share_sibling_early_eq_skeleton]; unfold cc0_grad_share_sibling_early_skel
  simp only [k0_part1_eq_skeleton]; unfold k0_part1_skel
  simp only [Prog.lift, Prog.bind_op, Prog.bind_ret, Prog.pure_eq_ret, wp_deviceId]
  unfold kit ended
  rw [spots (fun y => (atPos EX (cellAt (c, y)) 0 ∅ 0 : sProp 𝕄)), spots (fun y => (semVal (cellAt (c, y)) 0 : sProp 𝕄))]
  simp only [three]
  iintro ⟨⟨⟨#HR, ⟨⟨Pl0, Pl1, Pl2⟩, Pr0, Pr1, Pr2⟩, ⟨Tl0, Tl1, Tl2⟩, Tr0, Tr1, Tr2⟩, ⟨Cr0, Cr1, Cr2⟩, ⟨S0, S1, S2⟩, ⟨D0, D1, D2⟩, HO⟩, Hk⟩
  iapply (wp_give m K c 0 _ (hd k0_dev1 k0_dev1_lt k0_dev1_eq) _ _ rfl rfl (u := Memref.whole main_arg0) (v := Memref.whole main_v1_0) _ _ (held_eq c _ _) (held_eq _ _ _) (filled m c 0 _ (sent m c).1) rfl (dues c) (0 + due c 2 + due c 1) rfl W) $$ [S0 D0 HO Tl0 Tr0]
  · isplitr; · iexact HR
    isplitl [S0]; · iexact S0
    isplitl [D0]; · iexact D0
    isplitl [HO]; · iexact HO
    isplitl [Tl0] <;> iassumption
  iintro ⟨Cl0, HO⟩
  iapply (wp_give m K c 1 _ (hd k0_dev2 k0_dev2_lt k0_dev2_eq) _ _ rfl rfl (u := Memref.whole main_arg1) (v := Memref.whole main_v1_1) _ _ (held_eq c _ _) (held_eq _ _ _) (filled m c 1 _ (sent m c).2.1) rfl _ (0 + due c 2) rfl W) $$ [S1 D1 HO Tl1 Tr1]
  · isplitr; · iexact HR
    isplitl [S1]; · iexact S1
    isplitl [D1]; · iexact D1
    isplitl [HO]; · iexact HO
    isplitl [Tl1] <;> iassumption
  iintro ⟨Cl1, HO⟩
  iapply (wp_give m K c 2 _ (hd k0_dev3 k0_dev3_lt k0_dev3_eq) _ _ rfl rfl (u := Memref.whole main_arg2) (v := Memref.whole main_v1_2) _ _ (held_eq c _ _) (held_eq _ _ _) (filled m c 2 _ (sent m c).2.2) rfl _ (0) rfl W) $$ [S2 D2 HO Tl2 Tr2]
  · isplitr; · iexact HR
    isplitl [S2]; · iexact S2
    isplitl [D2]; · iexact D2
    isplitl [HO]; · iexact HO
    isplitl [Tl2] <;> iassumption
  iintro ⟨Cl2, HO⟩
  ihave HO := (show owes (c : Thread nD τ) 0 W ⊢ (iprop(∃ W, owes (c : Thread nD τ) 0 W) : sProp 𝕄) from by iintro H; iexists W; iexact H) $$ HO
  iapply (wp_take m K c (1, 0) (land 0) rfl (v := Memref.whole main_v1_0) rfl) $$ [Cr0 HO Pr0]
  · isplitr; · iexact HR
    isplitl [Cr0]; · iexact Cr0
    isplitl [HO] <;> iassumption
  iintro ⟨HO, Zr0, D0⟩
  ihave D0 := (Entails.of_eq (pay_land m c 0)) $$ D0
  iapply (wp_take m K c (1, 1) (land 1) rfl (v := Memref.whole main_v1_1) rfl) $$ [Cr1 HO Pr1]
  · isplitr; · iexact HR
    isplitl [Cr1]; · iexact Cr1
    isplitl [HO] <;> iassumption
  iintro ⟨HO, Zr1, D1⟩
  ihave D1 := (Entails.of_eq (pay_land m c 1)) $$ D1
  iapply (wp_take m K c (1, 2) (land 2) rfl (v := Memref.whole main_v1_2) rfl) $$ [Cr2 HO Pr2]
  · isplitr; · iexact HR
    isplitl [Cr2]; · iexact Cr2
    isplitl [HO] <;> iassumption
  iintro ⟨HO, Zr2, D2⟩
  ihave D2 := (Entails.of_eq (pay_land m c 2)) $$ D2
  iapply (wp_take m K c (0, 0) (leave 0) rfl (v := Memref.whole main_arg0) rfl) $$ [Cl0 HO Pl0]
  · isplitr; · iexact HR
    isplitl [Cl0]; · iexact Cl0
    isplitl [HO] <;> iassumption
  iintro ⟨HO, Zl0, S0⟩
  ihave S0 := (Entails.of_eq (pay_leave m c 0)) $$ S0
  iapply (wp_take m K c (0, 1) (leave 1) rfl (v := Memref.whole main_arg1) rfl) $$ [Cl1 HO Pl1]
  · isplitr; · iexact HR
    isplitl [Cl1]; · iexact Cl1
    isplitl [HO] <;> iassumption
  iintro ⟨HO, Zl1, S1⟩
  ihave S1 := (Entails.of_eq (pay_leave m c 1)) $$ S1
  iapply (wp_take m K c (0, 2) (leave 2) rfl (v := Memref.whole main_arg2) rfl) $$ [Cl2 HO Pl2]
  · isplitr; · iexact HR
    isplitl [Cl2]; · iexact Cl2
    isplitl [HO] <;> iassumption
  iintro ⟨HO, Zl2, S2⟩
  ihave S2 := (Entails.of_eq (pay_leave m c 2)) $$ S2
  rw [wp_ret]
  imodintro
  iapply Hk
  isplitr [HO]
  · isplitl [S0 S1 S2 D0 D1 D2]
    · isplitl [S0 S1 S2]
      · isplitl [S0]; · iexact S0
        isplitl [S1] <;> iassumption
      isplitl [D0]; · iexact D0
      isplitl [D1] <;> iassumption
    isplitl [Zl0 Zl1 Zl2]
    · isplitl [Zl0]; · iexact Zl0
      isplitl [Zl1] <;> iassumption
    isplitl [Zr0]; · iexact Zr0
    isplitl [Zr1] <;> iassumption
  iexact HO

/-! ## The body at the pipeline's one point -/

/-- The pipeline has no window: before its point a core holds `begun` and owes the other's landings; after it, `ended`
    and nothing owed. -/
def dat (c : Dev nD) : Dat τ (Elt F) Unit ℕ Ghost ℕ cfg0 c where
  A w := w.elim0
  after w := w.elim0
  Φ t := if t.val = 0 then begun m c else ended m c
  q w := w.elim0
  owed t := if t.val = 0 then dues c else 0

abbrev adm : (p : Fin 1) → (pcfgs (F := F) p).Adm := fun p => (cfgs p).toPCfg_adm
def datOf : (p : Fin 1) → (c : Dev nD) → Dat τ (Elt F) Unit ℕ Ghost ℕ (Pipeline.pin (pcfgs (F := F)) adm p) c
  | 0 => dat m

/-- A separating product over no index holds nothing. -/
theorem none_held (Φ : Fin 0 → sProp 𝕄) : bigSep Finset.univ Φ = (BI.emp : sProp 𝕄) := bigSep_univ_eq_bigSepL [] (by decide) (by decide) Φ

theorem owed_first (c : Dev nD) : (dat (F := F) m c).owed t0_0.castSucc = dues c :=
  show (if (t0_0.castSucc : Fin (cfg0.N + 1)).val = 0 then dues c else 0) = dues c from if_pos rfl
theorem owed_zero (c : Dev nD) : (datOf (F := F) m 0 c).owed 0 = dues c :=
  show (if ((0 : Fin (cfg0.N + 1)).val = 0) then dues c else 0) = dues c from if_pos rfl
theorem owed_last (c : Dev nD) : (datOf (F := F) m 0 c).owed (Fin.last _) = 0 := by
  show (if (Fin.last cfg0.N).val = 0 then dues c else 0) = 0
  rw [Fin.val_last, if_neg (by rw [show cfg0.N = 1 from N_0]; decide)]

/-- The body's obligation at the one point. -/
theorem body (c : Dev nD) : BodyObligation (dat (F := F) m c) defs₀ 𝒱₀ () Set.univ := fun t => by
  obtain rfl := fin_N0 t
  rw [none_held, none_held]
  rw [show (dat m c).Φ t0_0.castSucc = begun m c from rfl, show (dat m c).Φ t0_0.succ = ended m c from rfl]
  unfold begun Dat.owesAt Pipeline.owesWithin
  rw [owed_first, show (dat (F := F) m c).owed t0_0.succ = 0 from owed_last m c]
  iintro ⟨⟨⟨%K, Hg⟩, Hc, Harg, Hres⟩, ⟨%W, -, HO⟩, -⟩
  iapply (body_run m K c W _)
  isplitl
  · isplitl [Hg]; · iexact Hg
    isplitl [Hc]; · iexact Hc
    isplitl [Harg]; · iexact Harg
    isplitl [Hres] <;> iassumption
  iintro ⟨He, ⟨%W', HO⟩⟩
  isplitl [He]; · iexact He
  isplitl
  · iexists W'
    isplitr; · ipureintro; exact fun _ _ => Or.inl trivial
    iexact HO
  iempintro

end Cert.Early

end
-- ==== Proof.Early.Run.lean ====
/- The early share's launch, and its run on the two cores.

   A core writes the other core's three results at once, so these, and the tokens of the landings, are dealt across
   before either core moves. The twelve cells are opened first, and both cores keep all their records. -/
module

public import proofs.«01_k».proof.Proof.Early.Body

@[expose] public section

set_option synthInstance.maxSize 4096

noncomputable section

namespace Cert.Early

open Cert.Kernel11Ideal Cert.Kernel11Ideal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ Ghost ℕ

variable (m : (ℓ : Loc nD τ sig) → Buf (Elt F) ℓ) (ρ : Dev nD → PrngReg)

/-! ## The cells opened -/

def allToks : Finset (GSem nD τ sig × ℕ × Unit) :=
  Finset.univ.map ⟨fun x : Dev nD × Spot => (cellAt x, 0, ()), fun _ _ h => cellAt_inj (congrArg Prod.fst h)⟩

def seed : Ghost := (initOf ∅ ∅, initOf allCells allToks)

/-- Every cell's counter, with the ghost seed, becomes an invariant, a position at round 0 and one duty token. -/
theorem opened :
    iprop(BI.own (EX (F := F) (initOf allCells allToks)) ∗ bigSep Finset.univ fun x : Dev nD × Spot => semVal (cellAt x) 0)
      ⊢ (|={Set.univ}=> iprop(∃ K : Dev nD × Spot → ℕ,
          ((bigSep Finset.univ fun x => cellInv EX (plan m) (K x) (cellAt x)) ∗ bigSep Finset.univ fun x => reached EX (cellAt x) 0)
          ∗ (bigSep Finset.univ fun x => atPos EX (cellAt x) 0 ∅ 0) ∗ bigSep Finset.univ fun x => dutyTok EX (cellAt x) 0 ()) : sProp 𝕄) := by
  have hX (Φ : GSem nD τ sig → sProp 𝕄) : bigSep allCells Φ = bigSep Finset.univ fun x : Dev nD × Spot => Φ (cellAt x) := by
    unfold allCells; rw [bigSep_map]; rfl
  have hT : bigSep allToks (fun t => (dutyTok EX t.1 t.2.1 t.2.2 : sProp 𝕄)) = bigSep Finset.univ fun x : Dev nD × Spot => dutyTok EX (cellAt x) 0 () := by
    unfold allToks; rw [bigSep_map]; rfl
  iintro ⟨Hown, Hval⟩
  imod (Rounds.fund EX (plan m) allCells allToks) $$ Hown with ⟨Hst, Hr, Hat, Htok⟩
  ihave Hst := (Entails.of_eq (hX fun g => roundState EX (plan m) g 0)) $$ Hst
  ihave Hr := (Entails.of_eq (hX fun g => reached EX g 0)) $$ Hr
  ihave Hat := (Entails.of_eq (hX fun g => atPos EX g 0 ∅ 0)) $$ Hat
  ihave Htok := (Entails.of_eq hT) $$ Htok
  imod (show iprop((bigSep Finset.univ fun x : Dev nD × Spot => semVal (cellAt x) 0) ∗ bigSep Finset.univ fun x => roundState EX (plan m) (cellAt x) 0)
      ⊢ (|={Set.univ}=> bigSep Finset.univ fun x => iprop(∃ κ : ℕ, cellInv EX (plan m) κ (cellAt x)) : sProp 𝕄) from by
        rw [← bigSep_sep']
        exact (bigSep_mono fun x _ => (Rounds.body_intro EX (plan m) (cellAt x)).trans inv_alloc).trans (bigSep_fupd _ _)) $$ [Hval Hst] with Hinv
  · isplitl [Hval] <;> iassumption
  ihave HK := (BI.bigSep_exists_pi Finset.univ (fun (x : Dev nD × Spot) (κ : ℕ) => (cellInv EX (plan m) κ (cellAt x) : sProp 𝕄))) $$ Hinv
  icases HK with ⟨%K, HI⟩
  imodintro
  iexists K
  isplitl [HI Hr]
  · isplitl [HI] <;> iassumption
  isplitl [Hat] <;> iassumption

/-! ## The credits -/

/-- What a core owes for one copy, read at a landing. -/
theorem due_at (d c : Dev nD) (j k : Fin 3) : due d j (cellAt (c, (1, k))) () = if d = other c ∧ j = k then weight k else 0 := by
  rw [tallyAt_apply]
  by_cases h : d = other c ∧ j = k
  · rw [if_pos ⟨by rw [h.1, h.2, other_other], rfl⟩, if_pos h, h.2]
  · rw [if_neg h, if_neg]
    intro e
    have e := cellAt_inj e.1
    have hc : c = other d := congrArg Prod.fst e
    exact h ⟨by rw [hc, other_other], (congrArg (fun x : Dev nD × Spot => x.2.2) e).symm⟩

/-- The other core alone owes a core's landing. -/
theorem dues_land (d c : Dev nD) (k : Fin 3) : dues d (cellAt (c, (1, k))) () = if d = other c then weight k else 0 := by
  have h : dues d (cellAt (c, (1, k))) () = 0 + due d 2 (cellAt (c, (1, k))) () + due d 1 (cellAt (c, (1, k))) () + due d 0 (cellAt (c, (1, k))) () := rfl
  rw [h, due_at, due_at, due_at]
  generalize weight k = w
  by_cases hd : d = other c
  · match k with
    | 0 => simp [hd]
    | 1 => simp [hd]
    | 2 => simp [hd]
  · simp [hd]

theorem credit (c : Dev nD) : (launchCred dues c : sProp 𝕄) ⊢ credits c := by
  have h (k : Fin 3) : tallyOn (cellAt (c, (1, k))) (launchCredit (owing dues) 0 (cellAt (c, (1, k)))) = (tallyAt (cellAt (c, (1, k))) () (weight k) : CellTallies nD τ sig Unit) := by
    unfold tallyAt; refine congrArg _ (Finsupp.ext fun u => ?_); cases u
    rw [launchCredit_owing, Finsupp.single_eq_same, Finset.sum_congr rfl fun d _ => dues_land d c k,
      Finset.sum_ite_eq' Finset.univ (other c) fun _ => weight k, if_pos (Finset.mem_univ _)]
  have hj : Function.Injective fun k : Fin 3 => mark (1, k) := fun j k e => congrArg Prod.snd (mark_inj e)
  unfold launchCred
  refine (bigSep_subset (Finset.subset_univ (Finset.univ.map ⟨fun k : Fin 3 => mark (1, k), hj⟩))).trans ?_
  rw [bigSep_map]
  exact bigSep_mono fun k _ => Entails.of_eq (congrArg cred (h k))

/-! ## The deal -/

/-- What a core brings to the deal: its credits, its halves, its own results. -/
def brought (c : Dev nD) : sProp 𝕄 :=
  iprop(credits c ∗ args m c ∗ unfilled m c)

/-- The deal: the landings' tokens and the results go across, the rest stays. -/
theorem deal (K : Dev nD × Spot → ℕ) :
    iprop((((bigSep Finset.univ fun x => cellInv EX (plan m) (K x) (cellAt x)) ∗ bigSep Finset.univ fun x => reached EX (cellAt x) 0)
          ∗ (bigSep Finset.univ fun x => atPos EX (cellAt x) 0 ∅ 0) ∗ bigSep Finset.univ fun x => dutyTok EX (cellAt x) 0 ())
        ∗ bigSep Finset.univ fun c : Dev nD => brought m c)
      ⊢ (bigSep Finset.univ fun c : Dev nD => begun m c : sProp 𝕄) := by
  have one (c : Dev nD) :
      iprop(records m K ∗ (bigSep Finset.univ fun y : Spot => (atPos EX (cellAt (c, y)) 0 ∅ 0 : sProp 𝕄))
          ∗ ((bigSep Finset.univ fun k : Fin 3 => (dutyTok EX (cellAt (c, (0, k))) 0 () : sProp 𝕄)) ∗ bigSep Finset.univ fun k : Fin 3 => (dutyTok EX (cellAt (other c, (1, k))) 0 () : sProp 𝕄))
          ∗ credits c ∗ args m c ∗ unfilled m (other c))
        ⊢ begun m c := by
    unfold begun kit
    iintro ⟨HR, Hat, Ht, Hrest⟩
    isplitr [Hrest]
    · iexists K
      isplitl [HR]; · iexact HR
      isplitl [Hat] <;> iassumption
    iexact Hrest
  have all : iprop(records m K ∗ bigSep Finset.univ fun c : Dev nD => iprop((bigSep Finset.univ fun y : Spot => (atPos EX (cellAt (c, y)) 0 ∅ 0 : sProp 𝕄))
          ∗ ((bigSep Finset.univ fun k : Fin 3 => (dutyTok EX (cellAt (c, (0, k))) 0 () : sProp 𝕄)) ∗ bigSep Finset.univ fun k : Fin 3 => (dutyTok EX (cellAt (other c, (1, k))) 0 () : sProp 𝕄))
          ∗ credits c ∗ args m c ∗ unfilled m (other c)))
      ⊢ (bigSep Finset.univ fun c : Dev nD => begun m c : sProp 𝕄) :=
    (sep_mono_left (BI.bigSep_of_persistent Finset.univ _)).trans (by rw [← bigSep_sep']; exact bigSep_mono fun c _ => one c)
  rw [bigSep_sep' (Φ := fun c : Dev nD => bigSep Finset.univ fun y : Spot => (atPos EX (cellAt (c, y)) 0 ∅ 0 : sProp 𝕄)), bigSep_sep', bigSep_sep', bigSep_sep', bigSep_sep'] at all
  unfold brought
  rw [bigSep_sep', bigSep_sep', bigSep_univ_prod (fun x : Dev nD × Spot => (atPos EX (cellAt x) 0 ∅ 0 : sProp 𝕄)),
    bigSep_univ_prod (fun x : Dev nD × Spot => (dutyTok EX (cellAt x) 0 () : sProp 𝕄)),
    bigSep_congr fun (c : Dev nD) _ => spots fun y => (dutyTok EX (cellAt (c, y)) 0 () : sProp 𝕄), bigSep_sep',
    bigSep_univ_equiv across (fun c : Dev nD => (bigSep Finset.univ fun k : Fin 3 => (dutyTok EX (cellAt (c, (1, k))) 0 () : sProp 𝕄))),
    bigSep_univ_equiv across (fun c : Dev nD => (unfilled m c : sProp 𝕄))]
  iintro ⟨⟨HR, Hat, Ht⟩, Hc, Ha, Hr⟩
  iapply all
  isplitl [HR]; · iexact HR
  isplitl [Hat]; · iexact Hat
  isplitl [Ht]; · iexact Ht
  isplitl [Hc]; · iexact Hc
  isplitl [Ha]; · iexact Ha
  iexact Hr

/-! ## What a core holds at launch -/

theorem scoped_none (c : Dev nD) : (scopedBufs (c : Thread nD τ) : sProp 𝕄) = BI.emp := by
  rw [scopedBufs_tc]; exact BI.bigSep_eq_bigSepL_of_eq [] (by decide) (by decide) _
theorem scoped_sems (c : Dev nD) : (scopedSems0 (c : Thread nD τ) : sProp 𝕄) = bigSep Finset.univ fun y : Spot => semVal (cellAt (c, y)) 0 := by
  have h : (Finset.univ.filter fun sm : SemLoc sig => sm.isScoped Kind.tc = true) = Finset.univ.map ⟨mark, mark_inj⟩ := by decide
  rw [scopedSems0_tc, h, bigSep_map]; rfl
theorem arrays_held (c : Dev nD) :
    (unscopedBufs c (fun b => m ((c : Thread nD τ).loc b)) : sProp 𝕄) ⊢ iprop(args m c ∗ unfilled m c) := by
  have h : (unscopedBufs c (fun b => m ((c : Thread nD τ).loc b)) : sProp 𝕄)
      = iprop(held c main_arg0 (mine m c main_arg0) ∗ held c main_arg1 (mine m c main_arg1) ∗ held c main_arg2 (mine m c main_arg2)
        ∗ held c main_v1_0 (mine m c main_v1_0) ∗ held c main_v1_1 (mine m c main_v1_1) ∗ held c main_v1_2 (mine m c main_v1_2)) := by
    unfold unscopedBufs
    exact BI.bigSep_eq_bigSepL_of_eq [main_arg0, main_arg1, main_arg2, main_v1_0, main_v1_1, main_v1_2] (by decide) (by decide) _
  rw [h]
  unfold args unfilled results
  rw [three, three]
  iintro ⟨H0, H1, H2, H3, H4, H5⟩
  isplitl [H0 H1 H2]
  · isplitl [H0]; · iexact H0
    isplitl [H1] <;> iassumption
  isplitl [H3]; · iexact H3
  isplitl [H4] <;> iassumption

/-- The launch's holdings of a core: what it owes, its six counters, and what it brings to the deal. -/
theorem holdings (c : Dev nD) :
    coreInit (Ix := Unit) (Name := ℕ) (U := Ghost) (Lvl := ℕ) (owing dues) 0 (⟨m, fun _ => 0, ρ⟩ : MemSt nD τ sig (Elt F)) (c.tc : Thread nD τ)
      ⊢ iprop(owes (c : Thread nD τ) (dues c) ∅ ∗ (bigSep Finset.univ fun y : Spot => semVal (cellAt (c, y)) 0) ∗ brought m c) :=
  (coreInit_boundary_owing dues m ρ c).trans (by
    unfold boundary brought
    rw [scoped_sems]
    iintro ⟨⟨-, Hs, -⟩, Hall, -, HO, -, -, Hc⟩
    ihave ⟨Ha, Hr⟩ := (arrays_held m c) $$ Hall
    isplitl [HO]; · iexact HO
    isplitl [Hs]; · iexact Hs
    isplitl [Hc]; · iapply (credit c); iexact Hc
    isplitl [Ha] <;> iassumption)

/-- From the launch to the two cores' starts. -/
theorem launched :
    iprop((bigSep Finset.univ fun c : Dev nD =>
          coreInit (Ix := Unit) (Name := ℕ) (U := Ghost) (Lvl := ℕ) (owing dues) 0 (⟨m, fun _ => 0, ρ⟩ : MemSt nD τ sig (Elt F)) (c.tc : Thread nD τ))
        ∗ ownU seed)
      ⊢ (|={Set.univ}=> bigSep Finset.univ fun c : Dev nD => iprop(owes (c : Thread nD τ) (dues c) ∅ ∗ begun m c) : sProp 𝕄) := by
  refine (sep_mono_left (bigSep_mono fun c _ => holdings m ρ c)).trans ?_
  rw [bigSep_sep', bigSep_sep', bigSep_sep', ← bigSep_univ_prod (fun x : Dev nD × Spot => (semVal (cellAt x) 0 : sProp 𝕄))]
  unfold seed
  iintro ⟨⟨HO, Hs, Hb⟩, Hu⟩
  ihave Hu := (ownU_pair _ _) $$ Hu
  icases Hu with ⟨-, Hu⟩
  imod (opened m) $$ [Hu Hs] with ⟨%K, Hkit⟩
  · isplitl [Hu] <;> iassumption
  imodintro
  isplitl [HO]; · iexact HO
  iapply (deal m K)
  isplitl [Hkit] <;> iassumption

/-! ## A core's run -/

/-- What a core ends with: its halves, its results holding the other's, and its scoped semaphores at zero. -/
def final (c : Dev nD) : sProp 𝕄 := iprop((args m c ∗ results c (landed m c)) ∗ scopedSems0 (c.tc : Thread nD τ))

theorem no_staging (c : Dev nD) : (Dat.staging (pin (pcfgs (F := F)) adm 0) c : sProp 𝕄) = BI.emp := none_held _
theorem no_tables (c : Dev nD) (q) (V) :
    (prefHeld (Ix := Unit) (Name := ℕ) (U := Ghost) (Lvl := ℕ) (Val := Elt F) (pcfgs (F := F) 0).pre c q V : sProp 𝕄) = BI.emp := none_held _
theorem begins (c : Dev nD) : (datOf (F := F) m 0 c).Φ 0 = begun m c :=
  show (if ((0 : Fin (cfg0.N + 1)).val = 0) then begun m c else ended m c) = begun m c from if_pos rfl

theorem core_run (c : Dev nD) :
    iprop(owes (c : Thread nD τ) (dues c) ∅ ∗ begun m c)
      ⊢ wp frame (wpE (Pipeline.defs (pcfgs (F := F)) defs₀) (Variants.lift 𝒱₀) (c.tc : Thread nD τ) none) Set.univ (main c)
          (fun _ => iprop(final m c ∗ ∃ W, owes (c : Thread nD τ) (0 : CellTallies nD τ sig Unit) W)) := by
  rw [show main (F := F) c = .op (.customCall (entry 0) ()) fun _ => .ret ⟨⟩ from rfl]
  iintro ⟨HO, Hb⟩
  iapply (wp_customCall_entry_frame (pcfgs (F := F)) adm (datOf m) () EX (fun _ => 0) cellOf_inj 0 defs₀ 𝒱₀ (fun _ => fullShare) c Set.univ
      (fun _ _ => Set.mem_univ _) (body m c).loose (fun w => w.elim0) none (fun u h => nomatch h)
      (X := begun m c) (Y := iprop(args m c ∗ results c (landed m c))) (R := iprop(emp)) (I := iprop(emp))
      (by rw [scoped_none, no_staging]; iintro -; isplitr <;> iempintro)
      (by rw [begins]; iintro ⟨H, -⟩; iexact H)
      (by
        rw [show (datOf m 0 c).Φ (Fin.last (pin (pcfgs (F := F)) adm 0).N) = ended m c from rfl, scoped_none, scoped_sems]
        unfold ended
        iintro ⟨⟨H, Hs⟩, -⟩
        isplitl [H]; · iexact H
        isplitl [Hs]; · iexact Hs
        iempintro)
      (k := fun _ => .ret ⟨⟩)) $$ [HO Hb]
  · isplitl [HO]
    · unfold EntryPre PerCore.EntryPre Dat.owesAt owesWithin
      rw [owed_zero]
      isplitr; · iapply (Entails.of_eq (show ((datOf m 0 c).arrays _ : sProp 𝕄) = BI.emp from none_held _).symm); iempintro
      isplitl [HO]
      · iexists ∅; isplitr; · ipureintro; rw [Finset.coe_empty]; exact Set.empty_subset _
        iexact HO
      isplitr; · iapply (Entails.of_eq (show (PerCore.cellsWaits (fun _ => pin (pcfgs (F := F)) adm) (datOf m) () 0 c : sProp 𝕄) = BI.emp from none_held _).symm); iempintro
      isplitr; · iapply (Entails.of_eq (show (PerCore.cellsInit (fun _ => pin (pcfgs (F := F)) adm) (datOf m) EX (fun _ => 0) 0 c : sProp 𝕄) = BI.emp from none_held _).symm); iempintro
      iapply (Entails.of_eq (show (PerCore.toksInit (fun _ => pin (pcfgs (F := F)) adm) EX 0 c : sProp 𝕄) = BI.emp from none_held _).symm); iempintro
    isplitr; · iapply (Entails.of_eq (no_tables c _ _).symm); iempintro
    isplitl [Hb]; · iexact Hb
    rw [scoped_none]
    isplitr <;> iempintro
  unfold EntryPost PerCore.EntryPost Dat.owesAt owesWithin
  rw [owed_last]
  iintro ⟨⟨-, ⟨%W, -, HO⟩⟩, HY, Hs, -⟩
  rw [wp_ret]; imodintro
  unfold final
  isplitr [HO]
  · isplitl [HY] <;> iassumption
  iexists W; iexact HO

/-! ## The run -/

/-- Three arrays held whole are what the memory holds. -/
theorem read_three (c : Dev nD) (b : Fin 3 → Ref sig .tc) (f : (k : Fin 3) → (b k).ty.Contents (Elt F)) (s' : Phys nD τ sig (Elt F)) :
    iprop((bigSep Finset.univ fun k => (held c (b k) (f k) : sProp 𝕄)) ∗ SI s') ⊢ iprop(⌜∀ k, s'.mem.mem ((c : Thread nD τ).loc (b k)) = f k⌝ ∗ SI s') := by
  refine (pointsTo_read_all (Ix := Unit) (Name := ℕ) (U := Ghost) (Lvl := ℕ) Finset.univ (fun k => (c : Thread nD τ).loc (b k)) f s').trans (sep_mono_left ?_)
  iintro %h
  ipureintro
  exact fun k => h k (Finset.mem_univ k)

/-- A final state's facts at a core, read off what the core ends with. -/
theorem read_core (c : Dev nD) (s' : Phys nD τ sig (Elt F)) :
    iprop(final m c ∗ SI s') ⊢ (|={Set.univ}=> iprop(⌜((∀ k, s'.mem.mem ((c : Thread nD τ).loc (res k)) = landed m c k)
        ∧ ∀ k, s'.mem.mem ((c : Thread nD τ).loc (arg k)) = m ((c : Thread nD τ).loc (arg k)))
      ∧ ∀ sm : SemLoc sig, sm.isScoped .tc = true → s'.mem.sem ((c.tc : Thread nD τ), sm) = 0⌝ ∗ SI s') : sProp 𝕄) := by
  unfold final
  iintro ⟨⟨⟨Hh, Hg⟩, Hs⟩, HSI⟩
  ihave %hz := (tcScoped_read_pers c s') $$ [Hs HSI]
  · isplitl [Hs] <;> iassumption
  ihave H := (read_three c arg _ s') $$ [Hh HSI]
  · isplitl [Hh] <;> iassumption
  icases H with ⟨%hh, HSI⟩
  ihave H := (read_three c res _ s') $$ [Hg HSI]
  · isplitl [Hg] <;> iassumption
  icases H with ⟨%hg, HSI⟩
  imodintro
  isplitr
  · ipureintro; exact ⟨⟨hg, hh⟩, hz⟩
  · iexact HSI

/-- The share's run: from any memory with zero counters every execution ends, each core's results holding the other's
    halves, its own halves as they were, every semaphore at zero. -/
theorem run_main : θ_run defs (onTc (τ := τ) (main (F := F))) ⟨m, fun _ => 0, ρ⟩ (fun r =>
    (∀ c : Dev nD, (∀ k, r.2.mem ((c : Thread nD τ).loc (res k)) = landed m c k)
      ∧ ∀ k, r.2.mem ((c : Thread nD τ).loc (arg k)) = m ((c : Thread nD τ).loc (arg k))) ∧ r.2.sem = fun _ => 0) := by
  refine (θ_run defs _ _).mono (Q := fun r => (∀ c : Dev nD, (((∀ k, r.2.mem ((c : Thread nD τ).loc (res k)) = landed m c k)
        ∧ ∀ k, r.2.mem ((c : Thread nD τ).loc (arg k)) = m ((c : Thread nD τ).loc (arg k)))
      ∧ ∀ sm : SemLoc sig, sm.isScoped .tc = true → r.2.sem ((c.tc : Thread nD τ), sm) = 0))
      ∧ ∀ g : GSem nD τ sig, g.1.2 ≠ .tc → r.2.sem g = 0)
    (fun r hr => ⟨fun c => (hr.1 c).1, sem_eq_zero_of_scoped (by decide) (sems_of_reads (fun c => (hr.1 c).2) hr.2)⟩)
    (adequate_tpu defs _ _ _
      (reflect_intro_fupd_tc_sems (Ix := Unit) (Name := ℕ) (U := Ghost) (Lvl := ℕ) (X := Unit) (Variants.lift 𝒱₀) (owing dues) 0 (noBookings fun _ => le_rfl) (owing_of_ne dues) seed
        (fun _ c => iprop(owes (c : Thread nD τ) (dues c) ∅ ∗ begun m c)) (fun _ => final m)
        (fun _ => iprop(emp)) Set.univ ?_ (fun _ c => ?_) fun _ => ?_))
  · refine (launched m ρ).trans (BI.fupd_mono ?_)
    iintro H
    iexists ()
    isplitl [H]; · iexact H
    iempintro
  · unfold post; simp only [liftTc_tc]
    exact core_run m c
  · iintro ⟨H, -, Hsc⟩ %s' HSI
    ihave %hsc := (scSems_read_zero m ρ s') $$ [Hsc HSI]
    · isplitl [Hsc] <;> iassumption
    imod (posts_fupd Finset.univ (read_core m) s') $$ [H HSI] with %h
    · isplitl [H] <;> iassumption
    imodintro
    ipureintro
    exact ⟨fun c => h c (Finset.mem_univ c), hsc⟩

end Cert.Early

end
-- ==== Proof.Early.Claim.lean ====
/- The early share's claims: the two cores' results together are the reference's three arrays, and the frames. -/
module

public import proofs.«01_k».proof.Proof.Gen.Kernel11
public import proofs.«01_k».proof.Proof.Early.Run
public import proofs.«01_k».proof.Proof.Gen.Reference11Ideal.Run
public import proofs.«01_k».proof.Proof.Gen.Reference11Ideal.Read
public import proofs.«01_k».proof.Proof.Gen.Reference11
public import proofs.«01_k».proof.Defs
public import Idealize.ShloMosaic.Lib.Pipeline.Value
public import Idealize.ShloMosaic.Lib.ValueLayout
public import Idealize.ShloMosaic.Lib.Claim

@[expose] public section

noncomputable section

namespace Cert.Early

open Cert.Kernel11Ideal Cert.Kernel11Ideal.Gen Idealize.ShloMosaic Idealize.ShloMosaic.TcCoe Idealize.SL.Sem

local instance factsK : Cert.Kernel11.Facts := Cert.Kernel11.Gen.facts
local instance factsI : Cert.Kernel11Ideal.Facts := Cert.Kernel11Ideal.Gen.facts
local instance factsB : Cert.Reference11.Facts := Cert.Reference11.Gen.facts
local instance factsR : Cert.Reference11Ideal.Facts := Cert.Reference11Ideal.Gen.facts

variable {F : FTy → Type} [FloatOps F]

/-- An array of two halves of `n` rows, the halves exchanged: its rows at a core are the array's own at the other core. -/
theorem swapped (n w : ℕ) (x : (⟨⟨2, ![n + n, w]⟩, .f32⟩ : BufTy).Contents (Elt F)) (c : Dev nD)
    (hT : Layout.Tiles ⟨2, ![n, w]⟩ ⟨2, ![n + n, w]⟩ 0 2)
    (hl : Shape.Slices ⟨2, ![n + n, w]⟩ ![n, 0] ⟨2, ![n, w]⟩) (hf : Shape.Slices ⟨2, ![n + n, w]⟩ ![0, 0] ⟨2, ![n, w]⟩)
    (hc : Shape.Concatenates [⟨2, ![n, w]⟩, ⟨2, ![n, w]⟩] ⟨2, ![n + n, w]⟩ 0) :
    Layout.block ⟨2, ![n, w]⟩ ⟨2, ![n + n, w]⟩ 0 2 (other c) x hT
      = Layout.block ⟨2, ![n, w]⟩ ⟨2, ![n + n, w]⟩ 0 2 c
          (concatenate ⟨2, ![n + n, w]⟩ 0 [⟨⟨2, ![n, w]⟩, extractStridedSlice ⟨2, ![n, w]⟩ ![n, 0] x hl⟩, ⟨⟨2, ![n, w]⟩, extractStridedSlice ⟨2, ![n, w]⟩ ![0, 0] x hf⟩] hc) hT := by
  funext i
  rw [Layout.block_apply, Layout.block_apply]
  have hd : c = 0 ∨ c = 1 := by revert c; decide
  rcases hd with rfl | rfl
  · refine Eq.trans ?_ (concatenate_pair_apply_left 0 _ _ hc _ rfl i ?_).symm
    · refine (extractStridedSlice_apply _ x hl i _ ?_).symm
      intro a
      match a with
      | ⟨0, _⟩ => show 1 * n + (i 0).val = n + (i 0).val; omega
      | ⟨1, _⟩ => show (i 1).val = 0 + (i 1).val; omega
    · intro b
      match b with
      | ⟨0, _⟩ => show (i 0).val = 0 * n + (i 0).val; omega
      | ⟨1, _⟩ => rfl
  · refine Eq.trans ?_ (concatenate_pair_apply_right 0 _ _ hc _ rfl rfl i ?_ ?_).symm
    · refine (extractStridedSlice_apply _ x hf i _ ?_).symm
      intro a
      match a with
      | ⟨0, _⟩ => show 0 * n + (i 0).val = 0 + (i 0).val; omega
      | ⟨1, _⟩ => show (i 1).val = 0 + (i 1).val; omega
    · intro b hb
      match b with
      | ⟨0, _⟩ => exact absurd rfl hb
      | ⟨1, _⟩ => rfl
    · show (i 0).val + n = 1 * n + (i 0).val; omega

open Cert.Reference11Ideal.Read in
/-- What a core ends with, when its halves are its blocks of the reference's arrays. -/
theorem landed_blocks (m : (ℓ : Loc nD τ sig) → Buf (Elt F) ℓ) (x0 : (⟨⟨2, ![256, 1024]⟩, .f32⟩ : BufTy).Contents (Elt F))
    (x1 : (⟨⟨2, ![1024, 1408]⟩, .f32⟩ : BufTy).Contents (Elt F)) (x2 : (⟨⟨2, ![704, 1024]⟩, .f32⟩ : BufTy).Contents (Elt F))
    (h : ∀ c : Dev nD, m ((c : Thread nD τ).loc main_arg0) = Layout.block ⟨2, ![128, 1024]⟩ ⟨2, ![256, 1024]⟩ 0 2 c x0
      ∧ m ((c : Thread nD τ).loc main_arg1) = Layout.block ⟨2, ![512, 1408]⟩ ⟨2, ![1024, 1408]⟩ 0 2 c x1
      ∧ m ((c : Thread nD τ).loc main_arg2) = Layout.block ⟨2, ![352, 1024]⟩ ⟨2, ![704, 1024]⟩ 0 2 c x2) (c : Dev nD) :
    landed m c 0 = Layout.block ⟨2, ![128, 1024]⟩ ⟨2, ![256, 1024]⟩ 0 2 c (val_main_v2 (F := F) x0)
      ∧ landed m c 1 = Layout.block ⟨2, ![512, 1408]⟩ ⟨2, ![1024, 1408]⟩ 0 2 c (val_main_v5 (F := F) x1)
      ∧ landed m c 2 = Layout.block ⟨2, ![352, 1024]⟩ ⟨2, ![704, 1024]⟩ 0 2 c (val_main_v8 (F := F) x2) :=
  ⟨(h (other c)).1.trans (swapped 128 1024 x0 c _ _ _ _), (h (other c)).2.1.trans (swapped 512 1408 x1 c _ _ _ _), (h (other c)).2.2.trans (swapped 352 1024 x2 c _ _ _ _)⟩

theorem algebraic : Cert.algebraic_Kernel11Ideal_Reference11Ideal := by
  intro m g m' g' _ hargs
  refine ⟨Cert.Reference11Ideal.Read.val_main_v2 (m' (((0 : Dev Cert.Reference11Ideal.nD).tc : Thread Cert.Reference11Ideal.nD Cert.Reference11Ideal.τ).loc Cert.Reference11Ideal.main_arg0)), Cert.Reference11Ideal.Read.val_main_v5 (m' (((0 : Dev Cert.Reference11Ideal.nD).tc : Thread Cert.Reference11Ideal.nD Cert.Reference11Ideal.τ).loc Cert.Reference11Ideal.main_arg1)), Cert.Reference11Ideal.Read.val_main_v8 (m' (((0 : Dev Cert.Reference11Ideal.nD).tc : Thread Cert.Reference11Ideal.nD Cert.Reference11Ideal.τ).loc Cert.Reference11Ideal.main_arg2)),
    (θ_run _ _ _).mono (fun r h c => ?_) (run_main m g), (θ_run _ _ _).mono (fun r h => ?_) (Cert.Reference11Ideal.Value.run m' g')⟩
  · have hb := landed_blocks m _ _ _ hargs c
    exact ⟨((h.1 c).1 0).trans hb.1, ((h.1 c).1 1).trans hb.2.1, ((h.1 c).1 2).trans hb.2.2, (h.1 c).2 0, (h.1 c).2 1, (h.1 c).2 2⟩
  · obtain ⟨h0, h1, h2, hk⟩ := h 0
    exact ⟨h0.trans (Cert.Reference11Ideal.Read.val_main_v2_eq _), h1.trans (Cert.Reference11Ideal.Read.val_main_v5_eq _), h2.trans (Cert.Reference11Ideal.Read.val_main_v8_eq _), hk⟩

/-- The run and the arrays' equality hold at the chip's bits as well: nothing is computed on the way. -/
theorem bitexact : Cert.bitexact_Kernel11_Reference11 := by
  intro m g m' g' _ hargs
  refine ⟨Cert.Reference11Ideal.Read.val_main_v2 (F := Bits) (m' (((0 : Dev Cert.Reference11Ideal.nD).tc : Thread Cert.Reference11Ideal.nD Cert.Reference11Ideal.τ).loc Cert.Reference11Ideal.main_arg0)), Cert.Reference11Ideal.Read.val_main_v5 (F := Bits) (m' (((0 : Dev Cert.Reference11Ideal.nD).tc : Thread Cert.Reference11Ideal.nD Cert.Reference11Ideal.τ).loc Cert.Reference11Ideal.main_arg1)), Cert.Reference11Ideal.Read.val_main_v8 (F := Bits) (m' (((0 : Dev Cert.Reference11Ideal.nD).tc : Thread Cert.Reference11Ideal.nD Cert.Reference11Ideal.τ).loc Cert.Reference11Ideal.main_arg2)),
    (θ_run Cert.Kernel11Ideal.defs _ _).mono (fun r h c => ?_) (run_main (F := Bits) m g),
    (θ_run Cert.Reference11Ideal.defs _ _).mono (fun r h => ?_) (Cert.Reference11Ideal.Value.run (F := Bits) m' g')⟩
  · have hb := landed_blocks (F := Bits) m _ _ _ hargs c
    exact ⟨((h.1 c).1 0).trans hb.1, ((h.1 c).1 1).trans hb.2.1, ((h.1 c).1 2).trans hb.2.2, (h.1 c).2 0, (h.1 c).2 1, (h.1 c).2 2⟩
  · obtain ⟨h0, h1, h2, hk⟩ := h 0
    exact ⟨h0.trans (Cert.Reference11Ideal.Read.val_main_v2_eq _), h1.trans (Cert.Reference11Ideal.Read.val_main_v5_eq _), h2.trans (Cert.Reference11Ideal.Read.val_main_v8_eq _), hk⟩

/-- The run, with the halves unchanged named one by one. -/
theorem run_frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run _ _ _).mono (fun _ h => ⟨fun c => ⟨(h.1 c).2 0, (h.1 c).2 1, (h.1 c).2 2⟩, h.2⟩) (run_main m ρ)

theorem kernel_frame : Cert.quiescent_Kernel11 := fun m ρ _ => run_frame (F := Bits) m ρ

theorem reference_frame : Cert.quiescent_Reference11Ideal := fun m g _ =>
  (θ_run _ _ _).mono (fun r h => ⟨fun c => (h c).2.2.2, sem_eq_zero_of_no_sems (by decide) r.2⟩)
    (Cert.Reference11Ideal.Value.run m g)

theorem reference_frame_bits : Cert.quiescent_Reference11 := fun m g _ =>
  (θ_run Cert.Reference11Ideal.defs _ _).mono (fun r h => ⟨fun c => (h c).2.2.2, sem_eq_zero_of_no_sems (by decide) r.2⟩)
    (Cert.Reference11Ideal.Value.run (F := Bits) m g)

theorem claim : Cert.quiescent_Kernel11 ∧ Cert.quiescent_Kernel11Ideal ∧ Cert.quiescent_Reference11Ideal ∧ Cert.quiescent_Reference11
    ∧ Cert.preserves_Kernel11_Kernel11Ideal ∧ Cert.algebraic_Kernel11Ideal_Reference11Ideal ∧ Cert.bitexact_Kernel11_Reference11 :=
  ⟨kernel_frame, fun m ρ _ => run_frame m ρ, reference_frame, reference_frame_bits, trivial, algebraic, bitexact⟩

end Cert.Early

end
-- ==== Proof.Share.Claim.lean ====
/- The swap's claims: the two cores' results together are the reference's array, and the frames. -/
module

public import proofs.«01_k».proof.Proof.Gen.Kernel9
public import proofs.«01_k».proof.Proof.Share.Run
public import proofs.«01_k».proof.Proof.Early.Claim
public import proofs.«01_k».proof.Proof.Gen.Reference9Ideal.Run
public import proofs.«01_k».proof.Proof.Gen.Reference9Ideal.Read
public import proofs.«01_k».proof.Proof.Gen.Reference9
public import proofs.«01_k».proof.Defs
public import Idealize.ShloMosaic.Lib.Claim

@[expose] public section

noncomputable section

namespace Cert.Share

open Cert.Kernel9Ideal Cert.Kernel9Ideal.Gen Idealize.ShloMosaic Idealize.ShloMosaic.TcCoe Idealize.SL.Sem

local instance factsK : Cert.Kernel9.Facts := Cert.Kernel9.Gen.facts
local instance factsI : Cert.Kernel9Ideal.Facts := Cert.Kernel9Ideal.Gen.facts
local instance factsB : Cert.Reference9.Facts := Cert.Reference9.Gen.facts
local instance factsR : Cert.Reference9Ideal.Facts := Cert.Reference9Ideal.Gen.facts

variable {F : FTy → Type} [FloatOps F]

/-- The reference's array at a core's rows is the argument's at the other core's: the early share's fact, at
    512 rows of 896. -/
theorem swapped (x : (⟨Cert.Reference9Ideal.S1024x896, .f32⟩ : BufTy).Contents (Elt F)) (c : Dev nD) :
    Layout.block ⟨2, ![512, 896]⟩ ⟨2, ![1024, 896]⟩ 0 2 (other c) x
      = Layout.block ⟨2, ![512, 896]⟩ ⟨2, ![1024, 896]⟩ 0 2 c (Cert.Reference9Ideal.Read.val_main_v2 (F := F) x) :=
  Cert.Early.swapped 512 896 x c _ _ _ _

theorem algebraic : Cert.algebraic_Kernel9Ideal_Reference9Ideal := by
  intro m g m' g' _ hargs
  refine ⟨_, (θ_run _ _ _).mono (fun r h c => ⟨?_, (h.1 c).2⟩) (run_main m g),
    (θ_run _ _ _).mono (fun r h => ⟨(h 0).1.trans (Cert.Reference9Ideal.Read.val_main_v2_eq _), (h 0).2⟩) (Cert.Reference9Ideal.Value.run m' g')⟩
  exact (h.1 c).1.trans ((hargs (other c)).trans (swapped _ c))

/-- The run and the two arrays' equality hold at the chip's bits as well: nothing is computed on the way. -/
theorem bitexact : Cert.bitexact_Kernel9_Reference9 := by
  intro m g m' g' _ hargs
  refine ⟨_, (θ_run Cert.Kernel9Ideal.defs _ _).mono (fun r h c => ⟨?_, (h.1 c).2⟩) (run_main (F := Bits) m g),
    (θ_run Cert.Reference9Ideal.defs _ _).mono (fun r h => ⟨(h 0).1.trans (Cert.Reference9Ideal.Read.val_main_v2_eq _), (h 0).2⟩)
      (Cert.Reference9Ideal.Value.run (F := Bits) m' g')⟩
  exact (h.1 c).1.trans ((hargs (other c)).trans (swapped (F := Bits) _ c))

theorem kernel_frame : Cert.quiescent_Kernel9 := fun m ρ _ =>
  (θ_run Cert.Kernel9Ideal.defs _ _).mono (fun _ h => ⟨fun c => (h.1 c).2, h.2⟩) (run_main (F := Bits) m ρ)

theorem reference_frame : Cert.quiescent_Reference9Ideal := fun m g _ =>
  (θ_run _ _ _).mono (fun r h => ⟨fun c => (h c).2, sem_eq_zero_of_no_sems (by decide) r.2⟩)
    (Cert.Reference9Ideal.Value.run m g)

theorem reference_frame_bits : Cert.quiescent_Reference9 := fun m g _ =>
  (θ_run Cert.Reference9Ideal.defs _ _).mono (fun r h => ⟨fun c => (h c).2, sem_eq_zero_of_no_sems (by decide) r.2⟩)
    (Cert.Reference9Ideal.Value.run (F := Bits) m g)

theorem claim : Cert.quiescent_Kernel9 ∧ Cert.quiescent_Kernel9Ideal ∧ Cert.quiescent_Reference9Ideal ∧ Cert.quiescent_Reference9
    ∧ Cert.preserves_Kernel9_Kernel9Ideal ∧ Cert.algebraic_Kernel9Ideal_Reference9Ideal ∧ Cert.bitexact_Kernel9_Reference9 :=
  ⟨kernel_frame, fun m ρ _ => (θ_run _ _ _).mono (fun _ h => ⟨fun c => (h.1 c).2, h.2⟩) (run_main m ρ), reference_frame, reference_frame_bits, trivial, algebraic, bitexact⟩

end Cert.Share

end
-- ==== Proof.Trade.Parts.lean ====
/- The exchange of the two cores' gradients: its parts.

   A core's argument is the four blocks of a gradient, each in two halves, one for each core to add up; it sends the half
   that is for the OTHER core of each, as four copies, into the other core's result. Here: the parts of the two arrays the copies read and write,
   the arrays taken apart into them, and what a copy leaves in the part it writes. -/
module

public import proofs.«01_k».proof.Proof.Gen.Kernel10Ideal
public import proofs.«01_k».proof.Proof.Gen.Kernel10Ideal.Skeleton
public import proofs.«01_k».proof.Proof.Gen.Kernel10Ideal.Launch
public import Idealize.ShloMosaic.Lib.Pipeline.Launch
public import Idealize.ShloMosaic.Lib.Pipeline.Regions
public import Idealize.ShloMosaic.Lib.Pipeline.Kit
public import Idealize.ShloMosaic.Lib.Pipeline.Value
public import Idealize.ShloMosaic.Lib.ValueLayout
public import Idealize.ShloMosaic.Lib.Tactic

@[expose] public section

set_option synthInstance.maxSize 4096

noncomputable section

namespace Cert.Trade

open Cert.Kernel10Ideal Cert.Kernel10Ideal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: one copy of the rounds algebra for the pipeline (it has no window, and uses none of it), one for
    the eight semaphores. -/
abbrev Ghost : Type := UR sig nD τ × UR sig nD τ

local notation "𝕄" => MT nD τ sig Unit (Elt F) ℕ Ghost ℕ

variable (m : (ℓ : Loc nD τ sig) → Buf (Elt F) ℓ)

/-- The core a core trades with. -/
def other (c : Dev nD) : Dev nD := Fin.rev c
theorem other_other (c : Dev nD) : other (other c) = c := Fin.rev_rev c
def across : Dev nD ≃ Dev nD := ⟨other, other, other_other, other_other⟩

/-- The other core's number, as the argument's second coordinate. -/
def side (c : Dev nD) : Fin 2 := ⟨1 - c.val, by omega⟩

/-! ## The parts -/

/-- Where the half of the `k`-th block for the other core begins in the argument, -/
abbrev srcOff (c : Dev nD) (k : Fin 4) : Fin 4 → ℕ := ![k.val, 1 - c.val, 0, 0]
/-- and where the `k`-th received begins in the result. -/
abbrev dstOff (k : Fin 4) : Fin 3 → ℕ := ![k.val, 0, 0]
theorem srcOff_inb : ∀ (c : Dev nD) (k : Fin 4), ∀ a, srcOff c k a + S1x1x512x896.size a ≤ S4x2x512x896.size a := by decide
theorem dstOff_inb : ∀ k : Fin 4, ∀ a, dstOff k a + S1x512x896.size a ≤ S4x512x896.size a := by decide

/-- A gradient of the argument, and one of the result, by where it begins. -/
abbrev srcAt (o : Fin 4 → ℕ) (h : ∀ a, o a + S1x1x512x896.size a ≤ S4x2x512x896.size a) : Memref sig .tc .hbm S512x896 .f32 :=
  ((Memref.whole main_arg0).slice (Rect.unit (s := S4x2x512x896) o S1x1x512x896.size h) (fun _ => rfl)).squeeze S512x896 squeezes_S1x1x512x896_S512x896
abbrev dstAt (o : Fin 3 → ℕ) (h : ∀ a, o a + S1x512x896.size a ≤ S4x512x896.size a) : Memref sig .tc .hbm S512x896 .f32 :=
  ((Memref.whole main_v1).slice (Rect.unit (s := S4x512x896) o S1x512x896.size h) (fun _ => rfl)).squeeze S512x896 squeezes_S1x512x896_S512x896
abbrev src (c : Dev nD) (k : Fin 4) : Memref sig .tc .hbm S512x896 .f32 := srcAt (srcOff c k) (srcOff_inb c k)
abbrev dst (k : Fin 4) : Memref sig .tc .hbm S512x896 .f32 := dstAt (dstOff k) (dstOff_inb k)

/-- The elements of each. -/
def srcSet (c : Dev nD) (k : Fin 4) : Finset main_arg0.ty.Idx := (Rect.unit (s := S4x2x512x896) (srcOff c k) S1x1x512x896.size (srcOff_inb c k)).set
def dstSet (k : Fin 4) : Finset main_v1.ty.Idx := (Rect.unit (s := S4x512x896) (dstOff k) S1x512x896.size (dstOff_inb k)).set
theorem src_set (c : Dev nD) (k : Fin 4) : (src c k).view.set = srcSet c k := (View.set_reshape _ _).trans (View.set_slice_whole main_arg0 _)
theorem dst_set (k : Fin 4) : (dst k).view.set = dstSet k := (View.set_reshape _ _).trans (View.set_slice_whole main_v1 _)

theorem apart {j k : Fin 4} (h : j ≠ k) : j.val + 1 ≤ k.val ∨ k.val + 1 ≤ j.val := by
  have : j.val ≠ k.val := fun e => h (Fin.ext e)
  omega
theorem src_disjoint (c : Dev nD) (j k : Fin 4) (h : j ≠ k) : Disjoint (srcSet c j) (srcSet c k) := Rect.unit_disjoint 0 (apart h)
theorem dst_disjoint (j k : Fin 4) (h : j ≠ k) : Disjoint (dstSet j) (dstSet k) := Rect.unit_disjoint 0 (apart h)

/-- The four parts of the result are all of it. -/
theorem dst_cover : (Finset.univ : Finset (Fin 4)).biUnion dstSet = Finset.univ := by
  ext i
  refine iff_of_true (Finset.mem_biUnion.mpr ⟨i 0, Finset.mem_univ _, ?_⟩) (Finset.mem_univ _)
  refine Rect.mem_set_unit.mpr fun a => ?_
  match a with
  | ⟨0, _⟩ => exact ⟨le_rfl, Nat.lt_succ_self _⟩
  | ⟨1, _⟩ => exact ⟨Nat.zero_le _, (i 1).isLt.trans_le (Nat.le_add_left _ _)⟩
  | ⟨2, _⟩ => exact ⟨Nat.zero_le _, (i 2).isLt.trans_le (Nat.le_add_left _ _)⟩

/-! ## What the arrays hold -/

/-- A core's gradients at launch, -/
abbrev mine (c : Dev nD) : main_arg0.ty.Contents (Elt F) := m ((c : Thread nD τ).loc main_arg0)
/-- and what its result holds in the end: the other core's four halves for it. -/
def landed (c : Dev nD) : main_v1.ty.Contents (Elt F) := fun i => mine m (other c) (ValueIdx.ix4 (n0 := 4) (n1 := 2) (n2 := 512) (n3 := 896) (i 0) (side (other c)) (i 1) (i 2))

def srcHeld (c : Dev nD) (k : Fin 4) : sProp 𝕄 := ((c : Thread nD τ).loc main_arg0) ↦[srcSet c k]{fullShare} mine m c
def dstHeld (c : Dev nD) (k : Fin 4) (f : main_v1.ty.Contents (Elt F)) : sProp 𝕄 := ((c : Thread nD τ).loc main_v1) ↦[dstSet k]{fullShare} f

/-- The same, as a copy names them. -/
theorem srcHeld_eq (c : Dev nD) (k : Fin 4) :
    srcHeld m c k = ((src c k).view.loc (c : Thread nD τ) ↦[(src c k).view.set]{fullShare} mine m c : sProp 𝕄) := by
  rw [src_set]; rfl
theorem dstHeld_eq (c : Dev nD) (k : Fin 4) (f : main_v1.ty.Contents (Elt F)) :
    dstHeld c k f = ((dst k).view.loc (c : Thread nD τ) ↦[(dst k).view.set]{fullShare} f : sProp 𝕄) := by
  rw [dst_set]; rfl

instance srcHeld_storable (c : Dev nD) (k : Fin 4) : BI.Storable (upEmb : UEmb _ 𝕄) (srcHeld (F := F) m c k) := by unfold srcHeld; infer_instance
instance dstHeld_storable (c : Dev nD) (k : Fin 4) (f) : BI.Storable (upEmb : UEmb _ 𝕄) (dstHeld (F := F) c k f) := by unfold dstHeld; infer_instance

/-- The argument whole, the result whole, and the argument's part no copy reads. -/
def argHeld (c : Dev nD) : sProp 𝕄 := ((c : Thread nD τ).loc main_arg0) ↦{fullShare} mine m c
def resHeld (c : Dev nD) (f : main_v1.ty.Contents (Elt F)) : sProp 𝕄 := ((c : Thread nD τ).loc main_v1) ↦{fullShare} f
def restHeld (c : Dev nD) : sProp 𝕄 :=
  ((c : Thread nD τ).loc main_arg0) ↦[Finset.univ \ (Finset.univ : Finset (Fin 4)).biUnion (srcSet c)]{fullShare} mine m c

/-- An array held whole is its parts, when they are disjoint and all of it; -/
theorem in_parts (ℓ : Loc nD τ sig) (f : Buf (Elt F) ℓ) (K : Fin 4 → Finset (Idx ℓ)) (hd : ∀ j k, j ≠ k → Disjoint (K j) (K k))
    (hc : (Finset.univ : Finset (Fin 4)).biUnion K = Finset.univ) :
    (ℓ ↦{fullShare} f : sProp 𝕄) = bigSep Finset.univ fun k => ℓ ↦[K k]{fullShare} f := by
  rw [← pointsTo_biUnion Finset.univ K (fun j _ k _ h => hd j k h), hc]
/-- when they are not all of it, the rest is beside them. -/
theorem in_parts_rest (ℓ : Loc nD τ sig) (f : Buf (Elt F) ℓ) (K : Fin 4 → Finset (Idx ℓ)) (hd : ∀ j k, j ≠ k → Disjoint (K j) (K k)) :
    (ℓ ↦{fullShare} f : sProp 𝕄)
      = iprop((bigSep Finset.univ fun k => ℓ ↦[K k]{fullShare} f) ∗ ℓ ↦[Finset.univ \ (Finset.univ : Finset (Fin 4)).biUnion K]{fullShare} f) := by
  rw [← pointsTo_biUnion Finset.univ K (fun j _ k _ h => hd j k h)]
  have h := pointsTo_split_subset (Ix := Unit) (Name := ℕ) (U := Ghost) (Lvl := ℕ) (q := fullShare) (f := f) (Finset.subset_univ ((Finset.univ : Finset (Fin 4)).biUnion K))
  exact BI.equiv_iff.mp ⟨h.1, h.2⟩

theorem res_parts (c : Dev nD) (f : main_v1.ty.Contents (Elt F)) : resHeld c f = (bigSep Finset.univ fun k => dstHeld c k f : sProp 𝕄) :=
  in_parts ((c : Thread nD τ).loc main_v1) f dstSet dst_disjoint dst_cover

theorem arg_parts (c : Dev nD) : argHeld m c = (iprop((bigSep Finset.univ fun k => srcHeld m c k) ∗ restHeld m c) : sProp 𝕄) :=
  in_parts_rest ((c : Thread nD τ).loc main_arg0) (mine m c) (srcSet c) (src_disjoint c)

/-! ## A copy -/

/-- A part's element by the element's place in the argument, and in the result. -/
theorem src_place (c : Dev nD) (k : Fin 4) (p : Fin 512) (q : Fin 896) :
    (src c k).view.emb (ValueIdx.ix2 p q) = ValueIdx.ix4 (n0 := 4) (n1 := 2) (n2 := 512) (n3 := 896) k (side c) p q := by
  have e : (src c k).view.emb (ValueIdx.ix2 p q)
      = (Rect.unit (s := S4x2x512x896) (srcOff c k) S1x1x512x896.size (srcOff_inb c k)).emb (Shape.reshapeEquiv (squeezes_S1x1x512x896_S512x896).numel_eq (ValueIdx.ix2 p q)) := rfl
  rw [e, ValueIdx.reshapeEquiv_ix2_11ab]
  funext a
  refine Fin.ext ?_
  match a with
  | ⟨0, _⟩ => show k.val + 1 * 0 = k.val; omega
  | ⟨1, _⟩ => show (1 - c.val) + 1 * 0 = 1 - c.val; omega
  | ⟨2, _⟩ => show 0 + 1 * p.val = p.val; omega
  | ⟨3, _⟩ => show 0 + 1 * q.val = q.val; omega
theorem dst_place (k : Fin 4) (p : Fin 512) (q : Fin 896) :
    (dst k).view.emb (ValueIdx.ix2 p q) = ValueIdx.ix3 (n0 := 4) (n1 := 512) (n2 := 896) k p q := by
  have e : (dst k).view.emb (ValueIdx.ix2 p q)
      = (Rect.unit (s := S4x512x896) (dstOff k) S1x512x896.size (dstOff_inb k)).emb (Shape.reshapeEquiv (squeezes_S1x512x896_S512x896).numel_eq (ValueIdx.ix2 p q)) := rfl
  rw [e, ValueIdx.reshapeEquiv_ix2_1ab]
  funext a
  refine Fin.ext ?_
  match a with
  | ⟨0, _⟩ => show k.val + 1 * 0 = k.val; omega
  | ⟨1, _⟩ => show 0 + 1 * p.val = p.val; omega
  | ⟨2, _⟩ => show 0 + 1 * q.val = q.val; omega

/-- A copy leaves in the part of the other core's result what that result holds in the end. -/
theorem copied (c : Dev nD) (k : Fin 4) (old : main_v1.ty.Contents (Elt F)) :
    ∀ i ∈ (dst k).view.set, (dst k).view.write (Elt F) old ((src c k).view.read (Elt F) (mine m c)) Finset.univ i = landed m (other c) i := by
  intro i hi
  obtain ⟨y, rfl⟩ := View.exists_emb_of_mem_set _ hi
  rw [View.write_emb_of_mem _ _ (Finset.mem_univ y), View.read_apply]
  obtain ⟨p, q, rfl⟩ : ∃ (p : Fin 512) (q : Fin 896), y = ValueIdx.ix2 p q := ⟨y 0, y 1, ValueIdx.eq_ix2 y⟩
  rw [src_place, dst_place]
  unfold landed
  rw [other_other]
  rfl

theorem given (c : Dev nD) (k : Fin 4) (old : main_v1.ty.Contents (Elt F)) :
    ((dst k).view.loc (other c : Thread nD τ) ↦[(dst k).view.set]{fullShare} (dst k).view.write (Elt F) old ((src c k).view.read (Elt F) (mine m c)) Finset.univ : sProp 𝕄)
      = dstHeld (other c) k (landed m (other c)) := by
  rw [dstHeld_eq]; exact pointsTo_congr (copied m c k old)

end Cert.Trade

end
-- ==== Proof.Trade.Body.lean ====
/- The exchange of the two cores' gradients: the protocol of its eight semaphores, and the kernel's body run under it.

   A core starts its four copies, then waits for the four that come to it, then for its own four to have left. No message
   opens the exchange, so a core must hold the OTHER core's result from the start: the launch (`Trade.Run`) deals it.
   Every copy has two semaphores to itself, and uses one round of each:
   * its landing hands the receiver that part of its own result, now holding the sender's gradient;
   * its leaving hands the sender that part of its argument back.
   So nothing has to be told apart on any of them. -/
module

public import proofs.«01_k».proof.Proof.Trade.Parts

@[expose] public section

set_option synthInstance.maxSize 4096

noncomputable section

namespace Cert.Trade

open Cert.Kernel10Ideal Cert.Kernel10Ideal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ Ghost ℕ

abbrev EX : Emb (UR sig nD τ) (MT nD τ sig Unit (Elt F) ℕ Ghost ℕ) := embR

variable (m : (ℓ : Loc nD τ sig) → Buf (Elt F) ℓ)

/-! ## The cells -/

theorem sem_inb : ∀ k : Fin 4, ∀ a, (![k.val] : Fin 1 → ℕ) a + S1.size a ≤ S4.size a := by decide
/-- The semaphore of the `k`-th copy's leaving, and of its landing. -/
abbrev leave (k : Fin 4) : DmaSem sig := ((cc0_scratch0.slice (Rect.unit (s := S4) ![k.val] S1.size (sem_inb k))).squeeze S_ squeezes_S1_S_).sem
abbrev land (k : Fin 4) : DmaSem sig := ((cc0_scratch1.slice (Rect.unit (s := S4) ![k.val] S1.size (sem_inb k))).squeeze S_ squeezes_S1_S_).sem

/-- A copy's two semaphores, of the four copies. -/
abbrev Spot : Type := Fin 2 × Fin 4
def mark (y : Spot) : SemLoc sig := if y.1 = 0 then .dma (leave y.2) else .dma (land y.2)
abbrev cellAt (x : Dev nD × Spot) : GSem nD τ sig := ((x.1 : Thread nD τ), mark x.2)

theorem mark_inj : Function.Injective mark := by
  have h : ∀ y z : Spot, mark y = mark z → y = z := by decide
  exact fun y z => h y z

theorem cellAt_inj : Function.Injective cellAt := by
  rintro ⟨c, y⟩ ⟨d, z⟩ h
  have hc : c = d := congrArg (fun g : GSem nD τ sig => g.1.1) h
  have hy : y = z := mark_inj (congrArg Prod.snd h)
  rw [hc, hy]

/-- The sixteen cells of the two cores. -/
def allCells : Finset (GSem nD τ sig) := Finset.univ.map ⟨cellAt, cellAt_inj⟩
theorem mem_allCells (x : Dev nD × Spot) : cellAt x ∈ allCells := Finset.mem_map.mpr ⟨x, Finset.mem_univ _, rfl⟩

/-- What a copy of one gradient counts on a semaphore. -/
abbrev weight : ℕ := (dst 0).view.dmaCredit
theorem weight_pos : 0 < weight := View.dmaCredit_pos _ (by decide)

/-! ## The schedule -/

/-- What a core is handed at one of its spots. -/
def pay (c : Dev nD) (y : Spot) : sProp 𝕄 := if y.1 = 0 then srcHeld m c y.2 else dstHeld c y.2 (landed m c)

theorem pay_leave (c : Dev nD) (k : Fin 4) : pay m c (0, k) = srcHeld m c k := if_pos rfl
theorem pay_land (c : Dev nD) (k : Fin 4) : pay m c (1, k) = dstHeld c k (landed m c) := if_neg (by decide : ¬ (1 : Fin 2) = 0)

instance pay_storable (c : Dev nD) (y : Spot) : BI.Storable (upEmb : UEmb _ 𝕄) (pay (F := F) m c y) := by
  unfold pay; split <;> infer_instance

/-- One round of every cell, one duty in it, paid with what its spot hands over. -/
def plan : Schedule (GSem nD τ sig) Unit 𝕄 where
  duties g r := if r = 0 ∧ g ∈ allCells then {()} else ∅
  unitless _ := False
  amount _ _ _ := weight
  payload g _ _ := pay m g.1.1 (Function.invFun mark g.2)
  amount_pos _ _ _ _ := weight_pos

instance plan_storable (g : GSem nD τ sig) (r : ℕ) (d : Unit) : BI.Storable (upEmb : UEmb _ 𝕄) ((plan (F := F) m).payload g r d) :=
  pay_storable m g.1.1 (Function.invFun mark g.2)

theorem plan_duties (x : Dev nD × Spot) : (plan (F := F) m).duties (cellAt x) 0 = {()} := if_pos ⟨rfl, mem_allCells x⟩
theorem plan_over (g : GSem nD τ sig) : ∀ r, 1 ≤ r → (plan (F := F) m).duties g r = ∅ :=
  fun r hr => if_neg fun h => absurd h.1 (Nat.one_le_iff_ne_zero.mp hr)
theorem plan_expect (x : Dev nD × Spot) : (plan (F := F) m).expect (cellAt x) 0 = weight := by
  unfold Schedule.expect Schedule.amountOf; rw [plan_duties, Finset.sum_singleton]; rfl
theorem plan_pay (x : Dev nD × Spot) (u : Unit) : (plan (F := F) m).payload (cellAt x) 0 u = pay m x.1 x.2 := by
  dsimp only [plan]; rw [Function.leftInverse_invFun mark_inj x.2]
theorem handed (x : Dev nD × Spot) :
    bigSep ((plan (F := F) m).duties (cellAt x) 0 \ ∅) (fun u => (plan (F := F) m).payload (cellAt x) 0 u) = pay m x.1 x.2 := by
  rw [Finset.sdiff_empty, plan_duties, bigSep_singleton, plan_pay]

/-- At launch a core owes the other's four landings; they are met from the first on. -/
abbrev due (c : Dev nD) (k : Fin 4) : CellTallies nD τ sig Unit := tallyAt (cellAt (other c, (1, k))) () weight
def dues (c : Dev nD) : CellTallies nD τ sig Unit := 0 + due c 3 + due c 2 + due c 1 + due c 0

/-! ## The body -/

/-- The records of all cells, at the names `K` of their invariants. -/
abbrev records (K : Dev nD × Spot → ℕ) : sProp 𝕄 :=
  iprop((bigSep Finset.univ fun x => cellInv EX (plan m) (K x) (cellAt x)) ∗ bigSep Finset.univ fun x => reached EX (cellAt x) 0)

/-- A core's positions and tokens, with the records. -/
def kit (K : Dev nD × Spot → ℕ) (c : Dev nD) : sProp 𝕄 :=
  iprop(records m K ∗ (bigSep Finset.univ fun y : Spot => atPos EX (cellAt (c, y)) 0 ∅ 0)
    ∗ (bigSep Finset.univ fun k : Fin 4 => dutyTok EX (cellAt (c, (0, k))) 0 ()) ∗ bigSep Finset.univ fun k : Fin 4 => dutyTok EX (cellAt (other c, (1, k))) 0 ())

abbrev credits (c : Dev nD) : sProp 𝕄 := bigSep Finset.univ fun k : Fin 4 => cred (tallyAt (cellAt (c, (1, k))) () weight)

/-- What a core starts from: its kit, the credits of the copies it will be sent, its argument, the other's result. -/
def begun (c : Dev nD) : sProp 𝕄 :=
  iprop((∃ K, kit m K c) ∗ credits c ∗ argHeld m c ∗ resHeld (other c) (m ((other c : Thread nD τ).loc main_v1)))
/-- What it ends with: its argument, its result holding the other's gradients, its counters at zero. -/
def ended (c : Dev nD) : sProp 𝕄 :=
  iprop((argHeld m c ∗ resHeld c (landed m c)) ∗ bigSep Finset.univ fun y : Spot => semVal (cellAt (c, y)) 0)

abbrev 𝒱₀ : Variants := Variants.none

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem two (Φ : Fin 2 → sProp 𝕄) : bigSep Finset.univ Φ = iprop(Φ 0 ∗ Φ 1) := bigSep_univ_eq_bigSepL [0, 1] (by decide) (by decide) Φ
/-- A product over a core's spots is one over its leavings and one over its landings. -/
theorem spots (Φ : Spot → sProp 𝕄) :
    bigSep Finset.univ Φ = iprop((bigSep Finset.univ fun k => Φ (0, k)) ∗ bigSep Finset.univ fun k => Φ (1, k)) := by
  rw [bigSep_univ_prod, two]

theorem record (K : Dev nD × Spot → ℕ) (x : Dev nD × Spot) : records (F := F) m K ⊢ iprop(cellInv EX (plan m) (K x) (cellAt x) ∗ reached EX (cellAt x) 0) :=
  BIClass.sep_mono (bigSep_elim (Finset.mem_univ x)) (bigSep_elim (Finset.mem_univ x))

/-- The `k`-th copy started: its parts of the two arrays go into the flight, the leaving's credit comes back, and the
    landing is owed no more. -/
theorem wp_give (K : Dev nD × Spot → ℕ) (c : Dev nD) (k : Fin 4) (d : Dev nD) (hd : d = other c)
    (os : Fin 4 → ℕ) (hos : os = srcOff c k) (od : Fin 3 → ℕ) (hod : od = dstOff k) (sl sr : DmaSem sig) (hl : sl = leave k) (hr : sr = land k)
    {is : ∀ a, os a + S1x1x512x896.size a ≤ S4x2x512x896.size a} {id : ∀ a, od a + S1x512x896.size a ≤ S4x512x896.size a}
    {hsc : (dstAt od id : Memref sig (Dev.tc d : Thread nD τ).2.kind .hbm S512x896 .f32).view.ref.isScScratch = false}
    {hsrc : (srcAt os is).view.WordExact} {hdst : (dstAt od id).view.WordExact}
    {hsem : DmaTarget.Typed .hbm (.dma sr) (.remote (Dev.tc d : Thread nD τ) (dstAt od id : Memref sig .tc .hbm S512x896 .f32) (.dma sl) hsc)}
    {α : Type} {Q : α → sProp 𝕄} {p : PUnit → Prog (TpuEff nD τ sig (Elt F) Λ₀ .tc) α}
    (old : main_v1.ty.Contents (Elt F)) (O₀ O : CellTallies nD τ sig Unit) (hO : O₀ = O + due c k) (W : Waits sig Unit) :
    iprop(records m K ∗ srcHeld m c k ∗ dstHeld (other c) k old ∗ owes (c : Thread nD τ) O₀ W
        ∗ dutyTok EX (cellAt (c, (0, k))) 0 () ∗ dutyTok EX (cellAt (other c, (1, k))) 0 ())
      ⊢ iprop(((cred (tallyAt (cellAt (c, (0, k))) () weight) ∗ owes (c : Thread nD τ) O W) -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma (srcAt os is) (.remote (Dev.tc d : Thread nD τ) (dstAt od id) (.dma sl) hsc) (.dma sr) hsrc hdst hsem) p) Q) := by
  subst hd hos hod hl hr
  have send := Rounds.wp_send_pointsTo (Q := Q) (hsc := hsc) (hsrc := hsrc) (hdst := hdst) (hsem := hsem) (k := p) (defs := defs₀ (F := F)) (Γ := .empty) 𝒱₀ EX (plan m) (c : Thread nD τ) none
    (κ₁ := K (c, (0, k))) (κ₂ := K (other c, (1, k))) (q := fullShare) (fs := mine m c)
    (r₁ := 0) (r₂ := 0) (d₁ := ()) (d₂ := ()) (fd := old)
    (by exact (plan_duties m (c, (0, k))).symm ▸ Finset.mem_singleton_self _) (by exact (plan_duties m (other c, (1, k))).symm ▸ Finset.mem_singleton_self _)
    () () weight rfl rfl rfl O hO (W := W)
    (by rw [← srcHeld_eq]; exact Entails.of_eq (plan_pay m (c, (0, k)) ()).symm)
    (by rw [given]; exact Entails.of_eq (plan_pay m (other c, (1, k)) ()).symm) (Es := Set.univ)
  rw [← srcHeld_eq, ← dstHeld_eq] at send
  iintro ⟨#HR, Hs, Hd, HO, Tl, Tr⟩ Hk
  ihave ⟨#I₁, #R₁⟩ := (record m K (c, (0, k))) $$ HR
  ihave ⟨#I₂, #R₂⟩ := (record m K (other c, (1, k))) $$ HR
  iapply send $$ [Hs Hd HO Tl Tr]
  · isplitr; · iexact I₁
    isplitr; · iexact I₂
    isplitl [Hs]; · iexact Hs
    isplitl [Hd]; · iexact Hd
    isplitl [HO]; · iexact HO
    isplitl [Tl]; · iexact Tl
    isplitr; · iexact R₁
    isplitl [Tr]; · iexact Tr
    iexact R₂
  iexact Hk

/-- A wait at one of a core's spots: what the spot hands over comes, and the cell, done with, is closed at zero. -/
theorem wp_take (K : Dev nD × Spot → ℕ) (c : Dev nD) (y : Spot) (s : DmaSem sig) (hs : SemLoc.dma s = mark y)
    {u v : Memref sig .tc .hbm S512x896 .f32} (hv : v.view.dmaCredit = weight) {hu : u.view.WordExact} {hw : v.view.WordExact}
    {α : Type} {Q : α → sProp 𝕄} {p : PUnit → Prog (TpuEff nD τ sig (Elt F) Λ₀ .tc) α} :
    iprop(records m K ∗ cred (tallyAt (cellAt (c, y)) () weight) ∗ (∃ W, owes (c : Thread nD τ) 0 W) ∗ atPos EX (cellAt (c, y)) 0 ∅ 0)
      ⊢ iprop((((∃ W, owes (c : Thread nD τ) 0 W) ∗ semVal (cellAt (c, y)) 0 ∗ pay m c y)
            -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 s u v hu hw) p) Q) := by
  iintro ⟨#HR, Hc, ⟨%W, HO⟩, Hat⟩ Hk
  ihave ⟨#HI, -⟩ := (record m K (c, y)) $$ HR
  have wait := Rounds.wp_wait_rest_token (Q := Q) (k := p) (defs := defs₀ (F := F)) (Γ := .empty) 𝒱₀ EX (plan m) (c : Thread nD τ) none (κ := K (c, y))
      (w := .waitDma2 s u v hu hw) (sm := mark y)
      (by rw [← hs]; exact wpE_waitDma2_eq 𝒱₀ (c : Thread nD τ) none Set.univ) (Set.mem_univ _) () (O := 0) (W := W) (R := 0) (m := 0) (T := ∅)
      (k' := weight) (by rw [Nat.zero_add]; exact (plan_expect m (c, y)).symm)
  iapply wait $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hpay := (Entails.of_eq (handed m (c, y))) $$ Hpay
  iapply (fupd_wp frame (wpE (defs₀ (F := F)) 𝒱₀ (c : Thread nD τ) none) Set.univ (p ⟨⟩) Q)
  imod (Rounds.cell_close EX (plan m) (Set.mem_univ (K (c, y))) (fun h => h) (R := 0 + 1) (plan_over m (cellAt (c, y)))) $$ [Hat] with Hz
  · isplitr; · iexact HI
    iexact Hat
  imodintro
  iapply Hk
  isplitl [HO]; · iexists _; iexact HO
  isplitl [Hz] <;> iassumption

set_option maxHeartbeats 1600000 in
/-- The body: four copies started; the four that come waited for; the four that leave. -/
theorem body_run (K : Dev nD × Spot → ℕ) (c : Dev nD) (W : Waits sig Unit) (Kt : PUnit → sProp 𝕄) :
    iprop((kit m K c ∗ credits c ∗ argHeld m c ∗ resHeld (other c) (m ((other c : Thread nD τ).loc main_v1)) ∗ owes (c : Thread nD τ) (dues c) W)
        ∗ ((ended m c ∗ ∃ W', owes (c : Thread nD τ) 0 W') -∗ Kt ⟨⟩))
      ⊢ wp frame (wpE (defs₀ (F := F)) 𝒱₀ c none) Set.univ
          (cc0_grad_exchange_sibling_late (Memref.whole main_arg0) (Memref.isWhole_whole _) (Memref.whole main_v1) (Memref.isWhole_whole _) cc0_scratch0 cc0_scratch1) Kt := by
  have hd (f : Dev nD → ℕ) (hlt : ∀ c, f c < nD) (h : ∀ c, f c = 1 - c.val) : (⟨f c, hlt c⟩ : Dev nD) = other c :=
    Fin.ext ((h c).trans (by revert c; decide))
  simp only [cc0_grad_exchange_sibling_late_eq_skeleton]; unfold cc0_grad_exchange_sibling_late_skel
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  unfold kit ended credits
  rw [arg_parts, res_parts, res_parts, spots (fun y => (atPos EX (cellAt (c, y)) 0 ∅ 0 : sProp 𝕄)), spots (fun y => (semVal (cellAt (c, y)) 0 : sProp 𝕄))]
  simp only [four]
  iintro ⟨⟨⟨#HR, ⟨⟨Pl0, Pl1, Pl2, Pl3⟩, Pr0, Pr1, Pr2, Pr3⟩, ⟨Tl0, Tl1, Tl2, Tl3⟩, Tr0, Tr1, Tr2, Tr3⟩, ⟨Cr0, Cr1, Cr2, Cr3⟩, ⟨⟨S0, S1, S2, S3⟩, Hrest⟩, ⟨D0, D1, D2, D3⟩, HO⟩, Hk⟩
  iapply (wp_give m K c 0 _ (hd k0_dev1 k0_dev1_lt k0_dev1_eq) _ (k0_off1_eq c) _ rfl _ _ rfl rfl _ (dues c) (0 + due c 3 + due c 2 + due c 1) rfl W) $$ [S0 D0 HO Tl0 Tr0]
  · isplitr; · iexact HR
    isplitl [S0]; · iexact S0
    isplitl [D0]; · iexact D0
    isplitl [HO]; · iexact HO
    isplitl [Tl0] <;> iassumption
  iintro ⟨Cl0, HO⟩
  iapply (wp_give m K c 1 _ (hd k0_dev2 k0_dev2_lt k0_dev2_eq) _ (k0_off2_eq c) _ rfl _ _ rfl rfl _ _ (0 + due c 3 + due c 2) rfl W) $$ [S1 D1 HO Tl1 Tr1]
  · isplitr; · iexact HR
    isplitl [S1]; · iexact S1
    isplitl [D1]; · iexact D1
    isplitl [HO]; · iexact HO
    isplitl [Tl1] <;> iassumption
  iintro ⟨Cl1, HO⟩
  iapply (wp_give m K c 2 _ (hd k0_dev3 k0_dev3_lt k0_dev3_eq) _ (k0_off3_eq c) _ rfl _ _ rfl rfl _ _ (0 + due c 3) rfl W) $$ [S2 D2 HO Tl2 Tr2]
  · isplitr; · iexact HR
    isplitl [S2]; · iexact S2
    isplitl [D2]; · iexact D2
    isplitl [HO]; · iexact HO
    isplitl [Tl2] <;> iassumption
  iintro ⟨Cl2, HO⟩
  iapply (wp_give m K c 3 _ (hd k0_dev4 k0_dev4_lt k0_dev4_eq) _ (k0_off4_eq c) _ rfl _ _ rfl rfl _ _ 0 rfl W) $$ [S3 D3 HO Tl3 Tr3]
  · isplitr; · iexact HR
    isplitl [S3]; · iexact S3
    isplitl [D3]; · iexact D3
    isplitl [HO]; · iexact HO
    isplitl [Tl3] <;> iassumption
  iintro ⟨Cl3, HO⟩
  ihave HO := (show owes (c : Thread nD τ) 0 W ⊢ (iprop(∃ W, owes (c : Thread nD τ) 0 W) : sProp 𝕄) from by iintro H; iexists W; iexact H) $$ HO
  iapply (wp_take m K c (1, 0) (land 0) rfl (v := dst 0) rfl) $$ [Cr0 HO Pr0]
  · isplitr; · iexact HR
    isplitl [Cr0]; · iexact Cr0
    isplitl [HO] <;> iassumption
  iintro ⟨HO, Zr0, D0⟩
  ihave D0 := (Entails.of_eq (pay_land m c 0)) $$ D0
  iapply (wp_take m K c (1, 1) (land 1) rfl (v := dst 1) rfl) $$ [Cr1 HO Pr1]
  · isplitr; · iexact HR
    isplitl [Cr1]; · iexact Cr1
    isplitl [HO] <;> iassumption
  iintro ⟨HO, Zr1, D1⟩
  ihave D1 := (Entails.of_eq (pay_land m c 1)) $$ D1
  iapply (wp_take m K c (1, 2) (land 2) rfl (v := dst 2) rfl) $$ [Cr2 HO Pr2]
  · isplitr; · iexact HR
    isplitl [Cr2]; · iexact Cr2
    isplitl [HO] <;> iassumption
  iintro ⟨HO, Zr2, D2⟩
  ihave D2 := (Entails.of_eq (pay_land m c 2)) $$ D2
  iapply (wp_take m K c (1, 3) (land 3) rfl (v := dst 3) rfl) $$ [Cr3 HO Pr3]
  · isplitr; · iexact HR
    isplitl [Cr3]; · iexact Cr3
    isplitl [HO] <;> iassumption
  iintro ⟨HO, Zr3, D3⟩
  ihave D3 := (Entails.of_eq (pay_land m c 3)) $$ D3
  iapply (wp_take m K c (0, 0) (leave 0) rfl (v := srcAt (k0_off1 c) (k0_off1_inb c)) rfl) $$ [Cl0 HO Pl0]
  · isplitr; · iexact HR
    isplitl [Cl0]; · iexact Cl0
    isplitl [HO] <;> iassumption
  iintro ⟨HO, Zl0, S0⟩
  ihave S0 := (Entails.of_eq (pay_leave m c 0)) $$ S0
  iapply (wp_take m K c (0, 1) (leave 1) rfl (v := srcAt (k0_off2 c) (k0_off2_inb c)) rfl) $$ [Cl1 HO Pl1]
  · isplitr; · iexact HR
    isplitl [Cl1]; · iexact Cl1
    isplitl [HO] <;> iassumption
  iintro ⟨HO, Zl1, S1⟩
  ihave S1 := (Entails.of_eq (pay_leave m c 1)) $$ S1
  iapply (wp_take m K c (0, 2) (leave 2) rfl (v := srcAt (k0_off3 c) (k0_off3_inb c)) rfl) $$ [Cl2 HO Pl2]
  · isplitr; · iexact HR
    isplitl [Cl2]; · iexact Cl2
    isplitl [HO] <;> iassumption
  iintro ⟨HO, Zl2, S2⟩
  ihave S2 := (Entails.of_eq (pay_leave m c 2)) $$ S2
  iapply (wp_take m K c (0, 3) (leave 3) rfl (v := srcAt (k0_off4 c) (k0_off4_inb c)) rfl) $$ [Cl3 HO Pl3]
  · isplitr; · iexact HR
    isplitl [Cl3]; · iexact Cl3
    isplitl [HO] <;> iassumption
  iintro ⟨HO, Zl3, S3⟩
  ihave S3 := (Entails.of_eq (pay_leave m c 3)) $$ S3
  rw [wp_ret]
  imodintro
  iapply Hk
  isplitr [HO]
  · isplitr [Zr0 Zr1 Zr2 Zr3 Zl0 Zl1 Zl2 Zl3]
    · isplitl [S0 S1 S2 S3 Hrest]
      · isplitr [Hrest]
        · isplitl [S0]; · iexact S0
          isplitl [S1]; · iexact S1
          isplitl [S2] <;> iassumption
        iexact Hrest
      isplitl [D0]; · iexact D0
      isplitl [D1]; · iexact D1
      isplitl [D2] <;> iassumption
    isplitl [Zl0 Zl1 Zl2 Zl3]
    · isplitl [Zl0]; · iexact Zl0
      isplitl [Zl1]; · iexact Zl1
      isplitl [Zl2] <;> iassumption
    isplitl [Zr0]; · iexact Zr0
    isplitl [Zr1]; · iexact Zr1
    isplitl [Zr2] <;> iassumption
  iexact HO

/-! ## The body at the pipeline's one point -/

/-- The pipeline has no window: before its point a core holds `begun` and owes the other's landings; after it, `ended`
    and nothing owed. -/
def dat (c : Dev nD) : Dat τ (Elt F) Unit ℕ Ghost ℕ cfg0 c where
  A w := w.elim0
  after w := w.elim0
  Φ t := if t.val = 0 then begun m c else ended m c
  q w := w.elim0
  owed t := if t.val = 0 then dues c else 0

abbrev adm : (p : Fin 1) → (pcfgs (F := F) p).Adm := fun p => (cfgs p).toPCfg_adm
def datOf : (p : Fin 1) → (c : Dev nD) → Dat τ (Elt F) Unit ℕ Ghost ℕ (Pipeline.pin (pcfgs (F := F)) adm p) c
  | 0 => dat m

/-- A separating product over no index holds nothing. -/
theorem none_held (Φ : Fin 0 → sProp 𝕄) : bigSep Finset.univ Φ = (BI.emp : sProp 𝕄) := bigSep_univ_eq_bigSepL [] (by decide) (by decide) Φ

theorem owed_first (c : Dev nD) : (dat (F := F) m c).owed t0_0.castSucc = dues c :=
  show (if (t0_0.castSucc : Fin (cfg0.N + 1)).val = 0 then dues c else 0) = dues c from if_pos rfl
theorem owed_zero (c : Dev nD) : (datOf (F := F) m 0 c).owed 0 = dues c :=
  show (if ((0 : Fin (cfg0.N + 1)).val = 0) then dues c else 0) = dues c from if_pos rfl
theorem owed_last (c : Dev nD) : (datOf (F := F) m 0 c).owed (Fin.last _) = 0 := by
  show (if (Fin.last cfg0.N).val = 0 then dues c else 0) = 0
  rw [Fin.val_last, if_neg (by rw [show cfg0.N = 1 from N_0]; decide)]

/-- The body's obligation at the one point. -/
theorem body (c : Dev nD) : BodyObligation (dat (F := F) m c) defs₀ 𝒱₀ () Set.univ := fun t => by
  obtain rfl := fin_N0 t
  rw [none_held, none_held]
  rw [show (dat m c).Φ t0_0.castSucc = begun m c from rfl, show (dat m c).Φ t0_0.succ = ended m c from rfl]
  unfold begun Dat.owesAt Pipeline.owesWithin
  rw [owed_first, show (dat (F := F) m c).owed t0_0.succ = 0 from owed_last m c]
  iintro ⟨⟨⟨%K, Hg⟩, Hc, Harg, Hres⟩, ⟨%W, -, HO⟩, -⟩
  iapply (body_run m K c W _)
  isplitl
  · isplitl [Hg]; · iexact Hg
    isplitl [Hc]; · iexact Hc
    isplitl [Harg]; · iexact Harg
    isplitl [Hres] <;> iassumption
  iintro ⟨He, ⟨%W', HO⟩⟩
  isplitl [He]; · iexact He
  isplitl
  · iexists W'
    isplitr; · ipureintro; exact fun _ _ => Or.inl trivial
    iexact HO
  iempintro

end Cert.Trade

end
-- ==== Proof.Trade.Run.lean ====
/- The launch of the exchange, and its run on the two cores.

   A core's first step is a write into the other core's result, so the launch deals the results, and the tokens of the
   landings, across before either core moves. All sixteen cells are opened first, and both cores keep every record: a
   core needs its own eight, and the other's four landings. -/
module

public import proofs.«01_k».proof.Proof.Trade.Body

@[expose] public section

set_option synthInstance.maxSize 4096

noncomputable section

namespace Cert.Trade

open Cert.Kernel10Ideal Cert.Kernel10Ideal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ Ghost ℕ

variable (m : (ℓ : Loc nD τ sig) → Buf (Elt F) ℓ) (ρ : Dev nD → PrngReg)

/-! ## The cells opened -/

def allToks : Finset (GSem nD τ sig × ℕ × Unit) :=
  Finset.univ.map ⟨fun x : Dev nD × Spot => (cellAt x, 0, ()), fun _ _ h => cellAt_inj (congrArg Prod.fst h)⟩

def seed : Ghost := (initOf ∅ ∅, initOf allCells allToks)

/-- Every cell's counter, with the ghost seed, becomes an invariant, a position at round 0 and one duty token. -/
theorem opened :
    iprop(BI.own (EX (F := F) (initOf allCells allToks)) ∗ bigSep Finset.univ fun x : Dev nD × Spot => semVal (cellAt x) 0)
      ⊢ (|={Set.univ}=> iprop(∃ K : Dev nD × Spot → ℕ,
          ((bigSep Finset.univ fun x => cellInv EX (plan m) (K x) (cellAt x)) ∗ bigSep Finset.univ fun x => reached EX (cellAt x) 0)
          ∗ (bigSep Finset.univ fun x => atPos EX (cellAt x) 0 ∅ 0) ∗ bigSep Finset.univ fun x => dutyTok EX (cellAt x) 0 ()) : sProp 𝕄) := by
  have hX (Φ : GSem nD τ sig → sProp 𝕄) : bigSep allCells Φ = bigSep Finset.univ fun x : Dev nD × Spot => Φ (cellAt x) := by
    unfold allCells; rw [bigSep_map]; rfl
  have hT : bigSep allToks (fun t => (dutyTok EX t.1 t.2.1 t.2.2 : sProp 𝕄)) = bigSep Finset.univ fun x : Dev nD × Spot => dutyTok EX (cellAt x) 0 () := by
    unfold allToks; rw [bigSep_map]; rfl
  iintro ⟨Hown, Hval⟩
  imod (Rounds.fund EX (plan m) allCells allToks) $$ Hown with ⟨Hst, Hr, Hat, Htok⟩
  ihave Hst := (Entails.of_eq (hX fun g => roundState EX (plan m) g 0)) $$ Hst
  ihave Hr := (Entails.of_eq (hX fun g => reached EX g 0)) $$ Hr
  ihave Hat := (Entails.of_eq (hX fun g => atPos EX g 0 ∅ 0)) $$ Hat
  ihave Htok := (Entails.of_eq hT) $$ Htok
  imod (show iprop((bigSep Finset.univ fun x : Dev nD × Spot => semVal (cellAt x) 0) ∗ bigSep Finset.univ fun x => roundState EX (plan m) (cellAt x) 0)
      ⊢ (|={Set.univ}=> bigSep Finset.univ fun x => iprop(∃ κ : ℕ, cellInv EX (plan m) κ (cellAt x)) : sProp 𝕄) from by
        rw [← bigSep_sep']
        exact (bigSep_mono fun x _ => (Rounds.body_intro EX (plan m) (cellAt x)).trans inv_alloc).trans (bigSep_fupd _ _)) $$ [Hval Hst] with Hinv
  · isplitl [Hval] <;> iassumption
  ihave HK := (BI.bigSep_exists_pi Finset.univ (fun (x : Dev nD × Spot) (κ : ℕ) => (cellInv EX (plan m) κ (cellAt x) : sProp 𝕄))) $$ Hinv
  icases HK with ⟨%K, HI⟩
  imodintro
  iexists K
  isplitl [HI Hr]
  · isplitl [HI] <;> iassumption
  isplitl [Hat] <;> iassumption

/-! ## The credits -/

/-- What a core owes for one copy, read at a landing. -/
theorem due_at (d c : Dev nD) (j k : Fin 4) : due d j (cellAt (c, (1, k))) () = if d = other c ∧ j = k then weight else 0 := by
  rw [tallyAt_apply]
  refine if_congr ⟨fun h => ?_, fun h => ⟨by rw [h.1, h.2, other_other], rfl⟩⟩ rfl rfl
  have e := cellAt_inj h.1
  have hc : c = other d := congrArg Prod.fst e
  exact ⟨by rw [hc, other_other], (congrArg (fun x : Dev nD × Spot => x.2.2) e).symm⟩

/-- The other core alone owes a core's landing. -/
theorem dues_land (d c : Dev nD) (k : Fin 4) : dues d (cellAt (c, (1, k))) () = if d = other c then weight else 0 := by
  have h : dues d (cellAt (c, (1, k))) () = 0 + due d 3 (cellAt (c, (1, k))) () + due d 2 (cellAt (c, (1, k))) () + due d 1 (cellAt (c, (1, k))) () + due d 0 (cellAt (c, (1, k))) () := rfl
  rw [h, due_at, due_at, due_at, due_at]
  generalize weight = w
  by_cases hd : d = other c
  · match k with
    | 0 => simp [hd]
    | 1 => simp [hd]
    | 2 => simp [hd]
    | 3 => simp [hd]
  · simp [hd]

theorem credit (c : Dev nD) : (launchCred dues c : sProp 𝕄) ⊢ credits c := by
  have h (k : Fin 4) : tallyOn (cellAt (c, (1, k))) (launchCredit (owing dues) 0 (cellAt (c, (1, k)))) = (tallyAt (cellAt (c, (1, k))) () weight : CellTallies nD τ sig Unit) := by
    unfold tallyAt; refine congrArg _ (Finsupp.ext fun u => ?_); cases u
    rw [launchCredit_owing, Finsupp.single_eq_same, Finset.sum_congr rfl fun d _ => dues_land d c k,
      Finset.sum_ite_eq' Finset.univ (other c) fun _ => weight, if_pos (Finset.mem_univ _)]
  have hj : Function.Injective fun k : Fin 4 => mark (1, k) := fun j k e => congrArg Prod.snd (mark_inj e)
  unfold launchCred
  refine (bigSep_subset (Finset.subset_univ (Finset.univ.map ⟨fun k : Fin 4 => mark (1, k), hj⟩))).trans ?_
  rw [bigSep_map]
  exact bigSep_mono fun k _ => Entails.of_eq (congrArg cred (h k))

/-! ## The deal -/

/-- What a core brings to the deal: its credits, its argument, its own result. -/
def brought (c : Dev nD) : sProp 𝕄 :=
  iprop(credits c ∗ argHeld m c ∗ resHeld c (m ((c : Thread nD τ).loc main_v1)))

/-- The deal: the landings' tokens and the results go across, the rest stays. -/
theorem deal (K : Dev nD × Spot → ℕ) :
    iprop((((bigSep Finset.univ fun x => cellInv EX (plan m) (K x) (cellAt x)) ∗ bigSep Finset.univ fun x => reached EX (cellAt x) 0)
          ∗ (bigSep Finset.univ fun x => atPos EX (cellAt x) 0 ∅ 0) ∗ bigSep Finset.univ fun x => dutyTok EX (cellAt x) 0 ())
        ∗ bigSep Finset.univ fun c : Dev nD => brought m c)
      ⊢ (bigSep Finset.univ fun c : Dev nD => begun m c : sProp 𝕄) := by
  have one (c : Dev nD) :
      iprop(records m K ∗ (bigSep Finset.univ fun y : Spot => (atPos EX (cellAt (c, y)) 0 ∅ 0 : sProp 𝕄))
          ∗ ((bigSep Finset.univ fun k : Fin 4 => (dutyTok EX (cellAt (c, (0, k))) 0 () : sProp 𝕄)) ∗ bigSep Finset.univ fun k : Fin 4 => (dutyTok EX (cellAt (other c, (1, k))) 0 () : sProp 𝕄))
          ∗ credits c ∗ argHeld m c ∗ resHeld (other c) (m ((other c : Thread nD τ).loc main_v1)))
        ⊢ begun m c := by
    unfold begun kit
    iintro ⟨HR, Hat, Ht, Hrest⟩
    isplitr [Hrest]
    · iexists K
      isplitl [HR]; · iexact HR
      isplitl [Hat] <;> iassumption
    iexact Hrest
  have all : iprop(records m K ∗ bigSep Finset.univ fun c : Dev nD => iprop((bigSep Finset.univ fun y : Spot => (atPos EX (cellAt (c, y)) 0 ∅ 0 : sProp 𝕄))
          ∗ ((bigSep Finset.univ fun k : Fin 4 => (dutyTok EX (cellAt (c, (0, k))) 0 () : sProp 𝕄)) ∗ bigSep Finset.univ fun k : Fin 4 => (dutyTok EX (cellAt (other c, (1, k))) 0 () : sProp 𝕄))
          ∗ credits c ∗ argHeld m c ∗ resHeld (other c) (m ((other c : Thread nD τ).loc main_v1))))
      ⊢ (bigSep Finset.univ fun c : Dev nD => begun m c : sProp 𝕄) :=
    (sep_mono_left (BI.bigSep_of_persistent Finset.univ _)).trans (by rw [← bigSep_sep']; exact bigSep_mono fun c _ => one c)
  rw [bigSep_sep' (Φ := fun c : Dev nD => bigSep Finset.univ fun y : Spot => (atPos EX (cellAt (c, y)) 0 ∅ 0 : sProp 𝕄)), bigSep_sep', bigSep_sep', bigSep_sep', bigSep_sep'] at all
  unfold brought
  rw [bigSep_sep', bigSep_sep', bigSep_univ_prod (fun x : Dev nD × Spot => (atPos EX (cellAt x) 0 ∅ 0 : sProp 𝕄)),
    bigSep_univ_prod (fun x : Dev nD × Spot => (dutyTok EX (cellAt x) 0 () : sProp 𝕄)),
    bigSep_congr fun (c : Dev nD) _ => spots fun y => (dutyTok EX (cellAt (c, y)) 0 () : sProp 𝕄), bigSep_sep',
    bigSep_univ_equiv across (fun c : Dev nD => (bigSep Finset.univ fun k : Fin 4 => (dutyTok EX (cellAt (c, (1, k))) 0 () : sProp 𝕄))),
    bigSep_univ_equiv across (fun c : Dev nD => (resHeld c (m ((c : Thread nD τ).loc main_v1)) : sProp 𝕄))]
  iintro ⟨⟨HR, Hat, Ht⟩, Hc, Ha, Hr⟩
  iapply all
  isplitl [HR]; · iexact HR
  isplitl [Hat]; · iexact Hat
  isplitl [Ht]; · iexact Ht
  isplitl [Hc]; · iexact Hc
  isplitl [Ha]; · iexact Ha
  iexact Hr

/-! ## What a core holds at launch -/

theorem scoped_none (c : Dev nD) : (scopedBufs (c : Thread nD τ) : sProp 𝕄) = BI.emp := by
  rw [scopedBufs_tc]; exact BI.bigSep_eq_bigSepL_of_eq [] (by decide) (by decide) _
theorem scoped_sems (c : Dev nD) : (scopedSems0 (c : Thread nD τ) : sProp 𝕄) = bigSep Finset.univ fun y : Spot => semVal (cellAt (c, y)) 0 := by
  have h : (Finset.univ.filter fun sm : SemLoc sig => sm.isScoped Kind.tc = true) = Finset.univ.map ⟨mark, mark_inj⟩ := by decide
  rw [scopedSems0_tc, h, bigSep_map]; rfl
theorem arrays_held (c : Dev nD) :
    (unscopedBufs c (fun b => m ((c : Thread nD τ).loc b)) : sProp 𝕄) = iprop(argHeld m c ∗ resHeld c (m ((c : Thread nD τ).loc main_v1))) := by
  unfold unscopedBufs
  exact BI.bigSep_eq_bigSepL_of_eq [main_arg0, main_v1] (by decide) (by decide) _

/-- The launch's holdings of a core: what it owes, its eight counters, and what it brings to the deal. -/
theorem holdings (c : Dev nD) :
    coreInit (Ix := Unit) (Name := ℕ) (U := Ghost) (Lvl := ℕ) (owing dues) 0 (⟨m, fun _ => 0, ρ⟩ : MemSt nD τ sig (Elt F)) (c.tc : Thread nD τ)
      ⊢ iprop(owes (c : Thread nD τ) (dues c) ∅ ∗ (bigSep Finset.univ fun y : Spot => semVal (cellAt (c, y)) 0) ∗ brought m c) :=
  (coreInit_boundary_owing dues m ρ c).trans (by
    unfold boundary brought
    rw [scoped_sems, arrays_held]
    iintro ⟨⟨-, Hs, -⟩, ⟨Ha, Hr⟩, -, HO, -, -, Hc⟩
    isplitl [HO]; · iexact HO
    isplitl [Hs]; · iexact Hs
    isplitl [Hc]; · iapply (credit c); iexact Hc
    isplitl [Ha] <;> iassumption)

/-- From the launch to the two cores' starts. -/
theorem launched :
    iprop((bigSep Finset.univ fun c : Dev nD =>
          coreInit (Ix := Unit) (Name := ℕ) (U := Ghost) (Lvl := ℕ) (owing dues) 0 (⟨m, fun _ => 0, ρ⟩ : MemSt nD τ sig (Elt F)) (c.tc : Thread nD τ))
        ∗ ownU seed)
      ⊢ (|={Set.univ}=> bigSep Finset.univ fun c : Dev nD => iprop(owes (c : Thread nD τ) (dues c) ∅ ∗ begun m c) : sProp 𝕄) := by
  refine (sep_mono_left (bigSep_mono fun c _ => holdings m ρ c)).trans ?_
  rw [bigSep_sep', bigSep_sep', bigSep_sep', ← bigSep_univ_prod (fun x : Dev nD × Spot => (semVal (cellAt x) 0 : sProp 𝕄))]
  unfold seed
  iintro ⟨⟨HO, Hs, Hb⟩, Hu⟩
  ihave Hu := (ownU_pair _ _) $$ Hu
  icases Hu with ⟨-, Hu⟩
  imod (opened m) $$ [Hu Hs] with ⟨%K, Hkit⟩
  · isplitl [Hu] <;> iassumption
  imodintro
  isplitl [HO]; · iexact HO
  iapply (deal m K)
  isplitl [Hkit] <;> iassumption

/-! ## A core's run -/

/-- What a core ends with: its argument, its result holding the other's gradients, and its scoped semaphores at zero. -/
def final (c : Dev nD) : sProp 𝕄 := iprop((argHeld m c ∗ resHeld c (landed m c)) ∗ scopedSems0 (c.tc : Thread nD τ))

theorem no_staging (c : Dev nD) : (Dat.staging (pin (pcfgs (F := F)) adm 0) c : sProp 𝕄) = BI.emp := none_held _
theorem no_tables (c : Dev nD) (q) (V) :
    (prefHeld (Ix := Unit) (Name := ℕ) (U := Ghost) (Lvl := ℕ) (Val := Elt F) (pcfgs (F := F) 0).pre c q V : sProp 𝕄) = BI.emp := none_held _
theorem begins (c : Dev nD) : (datOf (F := F) m 0 c).Φ 0 = begun m c :=
  show (if ((0 : Fin (cfg0.N + 1)).val = 0) then begun m c else ended m c) = begun m c from if_pos rfl

theorem core_run (c : Dev nD) :
    iprop(owes (c : Thread nD τ) (dues c) ∅ ∗ begun m c)
      ⊢ wp frame (wpE (Pipeline.defs (pcfgs (F := F)) defs₀) (Variants.lift 𝒱₀) (c.tc : Thread nD τ) none) Set.univ (main c)
          (fun _ => iprop(final m c ∗ ∃ W, owes (c : Thread nD τ) (0 : CellTallies nD τ sig Unit) W)) := by
  rw [show main (F := F) c = .op (.customCall (entry 0) ()) fun _ => .ret ⟨⟩ from rfl]
  iintro ⟨HO, Hb⟩
  iapply (wp_customCall_entry_frame (pcfgs (F := F)) adm (datOf m) () EX (fun _ => 0) cellOf_inj 0 defs₀ 𝒱₀ (fun _ => fullShare) c Set.univ
      (fun _ _ => Set.mem_univ _) (body m c).loose (fun w => w.elim0) none (fun u h => nomatch h)
      (X := begun m c) (Y := iprop(argHeld m c ∗ resHeld c (landed m c))) (R := iprop(emp)) (I := iprop(emp))
      (by rw [scoped_none, no_staging]; iintro -; isplitr <;> iempintro)
      (by rw [begins]; iintro ⟨H, -⟩; iexact H)
      (by
        rw [show (datOf m 0 c).Φ (Fin.last (pin (pcfgs (F := F)) adm 0).N) = ended m c from rfl, scoped_none, scoped_sems]
        unfold ended
        iintro ⟨⟨H, Hs⟩, -⟩
        isplitl [H]; · iexact H
        isplitl [Hs]; · iexact Hs
        iempintro)
      (k := fun _ => .ret ⟨⟩)) $$ [HO Hb]
  · isplitl [HO]
    · unfold EntryPre PerCore.EntryPre Dat.owesAt owesWithin
      rw [owed_zero]
      isplitr; · iapply (Entails.of_eq (show ((datOf m 0 c).arrays _ : sProp 𝕄) = BI.emp from none_held _).symm); iempintro
      isplitl [HO]
      · iexists ∅; isplitr; · ipureintro; rw [Finset.coe_empty]; exact Set.empty_subset _
        iexact HO
      isplitr; · iapply (Entails.of_eq (show (PerCore.cellsWaits (fun _ => pin (pcfgs (F := F)) adm) (datOf m) () 0 c : sProp 𝕄) = BI.emp from none_held _).symm); iempintro
      isplitr; · iapply (Entails.of_eq (show (PerCore.cellsInit (fun _ => pin (pcfgs (F := F)) adm) (datOf m) EX (fun _ => 0) 0 c : sProp 𝕄) = BI.emp from none_held _).symm); iempintro
      iapply (Entails.of_eq (show (PerCore.toksInit (fun _ => pin (pcfgs (F := F)) adm) EX 0 c : sProp 𝕄) = BI.emp from none_held _).symm); iempintro
    isplitr; · iapply (Entails.of_eq (no_tables c _ _).symm); iempintro
    isplitl [Hb]; · iexact Hb
    rw [scoped_none]
    isplitr <;> iempintro
  unfold EntryPost PerCore.EntryPost Dat.owesAt owesWithin
  rw [owed_last]
  iintro ⟨⟨-, ⟨%W, -, HO⟩⟩, HY, Hs, -⟩
  rw [wp_ret]; imodintro
  unfold final
  isplitr [HO]
  · isplitl [HY] <;> iassumption
  iexists W; iexact HO

/-! ## The run -/

/-- An array held whole is what the memory holds. -/
theorem read_one (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  have h := pointsTo_read_all (Ix := Unit) (Name := ℕ) (U := Ghost) (Lvl := ℕ) {()} (fun _ : Unit => ℓ) (fun _ => f) s'
  rw [bigSep_singleton] at h
  refine h.trans (sep_mono_left ?_)
  iintro %h
  ipureintro
  exact h () (Finset.mem_singleton_self _)

/-- A final state's facts at a core, read off what the core ends with. -/
theorem read_core (c : Dev nD) (s' : Phys nD τ sig (Elt F)) :
    iprop(final m c ∗ SI s') ⊢ (|={Set.univ}=> iprop(⌜(s'.mem.mem ((c : Thread nD τ).loc main_v1) = landed m c
        ∧ s'.mem.mem ((c : Thread nD τ).loc main_arg0) = m ((c : Thread nD τ).loc main_arg0))
      ∧ ∀ sm : SemLoc sig, sm.isScoped .tc = true → s'.mem.sem ((c.tc : Thread nD τ), sm) = 0⌝ ∗ SI s') : sProp 𝕄) := by
  unfold final argHeld resHeld
  iintro ⟨⟨⟨Hh, Hg⟩, Hs⟩, HSI⟩
  ihave %hz := (tcScoped_read_pers c s') $$ [Hs HSI]
  · isplitl [Hs] <;> iassumption
  ihave H := (read_one _ _ s') $$ [Hh HSI]
  · isplitl [Hh] <;> iassumption
  icases H with ⟨%hh, HSI⟩
  ihave H := (read_one _ _ s') $$ [Hg HSI]
  · isplitl [Hg] <;> iassumption
  icases H with ⟨%hg, HSI⟩
  imodintro
  isplitr
  · ipureintro; exact ⟨⟨hg, hh⟩, hz⟩
  · iexact HSI

/-- The exchange's run: from any memory with zero counters every execution ends, each core's result holding the
    other's gradients, its argument as it was, every semaphore at zero. -/
theorem run_main : θ_run defs (onTc (τ := τ) (main (F := F))) ⟨m, fun _ => 0, ρ⟩ (fun r =>
    (∀ c : Dev nD, r.2.mem ((c : Thread nD τ).loc main_v1) = landed m c
      ∧ r.2.mem ((c : Thread nD τ).loc main_arg0) = m ((c : Thread nD τ).loc main_arg0)) ∧ r.2.sem = fun _ => 0) := by
  refine (θ_run defs _ _).mono (Q := fun r => (∀ c : Dev nD, ((r.2.mem ((c : Thread nD τ).loc main_v1) = landed m c
        ∧ r.2.mem ((c : Thread nD τ).loc main_arg0) = m ((c : Thread nD τ).loc main_arg0))
      ∧ ∀ sm : SemLoc sig, sm.isScoped .tc = true → r.2.sem ((c.tc : Thread nD τ), sm) = 0))
      ∧ ∀ g : GSem nD τ sig, g.1.2 ≠ .tc → r.2.sem g = 0)
    (fun r hr => ⟨fun c => (hr.1 c).1, sem_eq_zero_of_scoped (by decide) (sems_of_reads (fun c => (hr.1 c).2) hr.2)⟩)
    (adequate_tpu defs _ _ _
      (reflect_intro_fupd_tc_sems (Ix := Unit) (Name := ℕ) (U := Ghost) (Lvl := ℕ) (X := Unit) (Variants.lift 𝒱₀) (owing dues) 0 (noBookings fun _ => le_rfl) (owing_of_ne dues) seed
        (fun _ c => iprop(owes (c : Thread nD τ) (dues c) ∅ ∗ begun m c)) (fun _ => final m)
        (fun _ => iprop(emp)) Set.univ ?_ (fun _ c => ?_) fun _ => ?_))
  · refine (launched m ρ).trans (BI.fupd_mono ?_)
    iintro H
    iexists ()
    isplitl [H]; · iexact H
    iempintro
  · unfold post; simp only [liftTc_tc]
    exact core_run m c
  · iintro ⟨H, -, Hsc⟩ %s' HSI
    ihave %hsc := (scSems_read_zero m ρ s') $$ [Hsc HSI]
    · isplitl [Hsc] <;> iassumption
    imod (posts_fupd Finset.univ (read_core m) s') $$ [H HSI] with %h
    · isplitl [H] <;> iassumption
    imodintro
    ipureintro
    exact ⟨fun c => h c (Finset.mem_univ c), hsc⟩

end Cert.Trade

end
-- ==== Proof.Trade.Claim.lean ====
/- The exchange's claims: the two cores' results together are the reference's array, and the frames. -/
module

public import proofs.«01_k».proof.Proof.Gen.Kernel10
public import proofs.«01_k».proof.Proof.Trade.Run
public import proofs.«01_k».proof.Proof.Gen.Reference10Ideal.Run
public import proofs.«01_k».proof.Proof.Gen.Reference10Ideal.Read
public import proofs.«01_k».proof.Proof.Gen.Reference10
public import proofs.«01_k».proof.Defs
public import Idealize.ShloMosaic.Lib.Claim

@[expose] public section

noncomputable section

namespace Cert.Trade

open Cert.Kernel10Ideal Cert.Kernel10Ideal.Gen Idealize.ShloMosaic Idealize.ShloMosaic.TcCoe Idealize.SL.Sem

local instance factsK : Cert.Kernel10.Facts := Cert.Kernel10.Gen.facts
local instance factsI : Cert.Kernel10Ideal.Facts := Cert.Kernel10Ideal.Gen.facts
local instance factsB : Cert.Reference10.Facts := Cert.Reference10.Gen.facts
local instance factsR : Cert.Reference10Ideal.Facts := Cert.Reference10Ideal.Gen.facts

variable {F : FTy → Type} [FloatOps F]

/-- The reference's array at a core's rows is what the core ends with: of the other core's four blocks, the half
    that is for it. Row `i` of core `c` is row `4 c + i` of the whole. -/
theorem traded (x : (⟨Cert.Reference10Ideal.S8x2x512x896, .f32⟩ : BufTy).Contents (Elt F)) (c : Dev nD) (i : S4x512x896.Idx) :
    (Layout.block ⟨4, ![4, 2, 512, 896]⟩ ⟨4, ![8, 2, 512, 896]⟩ 0 2 (other c) x)
        (ValueIdx.ix4 (n0 := 4) (n1 := 2) (n2 := 512) (n3 := 896) (i 0) (side (other c)) (i 1) (i 2))
      = (Layout.block ⟨3, ![4, 512, 896]⟩ ⟨3, ![8, 512, 896]⟩ 0 2 c (Cert.Reference10Ideal.Read.val_main_v4 (F := F) x)) i := by
  rw [Layout.block_apply, Layout.block_apply]
  unfold Cert.Reference10Ideal.Read.val_main_v4
  have h0 : (i 0).val < 4 := (i 0).isLt
  have h1 : (i 1).val < 512 := (i 1).isLt
  have h2 : (i 2).val < 896 := (i 2).isLt
  have hc : c = 0 ∨ c = 1 := by revert c; decide
  rcases hc with rfl | rfl
  · refine Eq.trans ?_ (concatenate_pair_apply_left (t := Cert.Reference10Ideal.S8x512x896) (s₁ := S4x512x896) (s₂ := S4x512x896) 0 _ _ _ _ rfl i ?_).symm
    · rw [Cert.Reference10Ideal.Read.val_main_v1_apply, Cert.Reference10Ideal.Read.val_main_v0_apply]
      refine congrArg x (funext fun a => Fin.ext ?_)
      match a with
      | ⟨0, _⟩ => show 1 * 4 + (i 0).val = 4 + (((i 0).val * 512 + (i 1).val) * 896 + (i 2).val) / 458752; omega
      | ⟨1, _⟩ => rfl
      | ⟨2, _⟩ => show (i 1).val = (((i 0).val * 512 + (i 1).val) * 896 + (i 2).val) / 896 % 512; omega
      | ⟨3, _⟩ => show (i 2).val = (((i 0).val * 512 + (i 1).val) * 896 + (i 2).val) % 896; omega
    · intro b
      match b with
      | ⟨0, _⟩ => show (i 0).val = 0 * 4 + (i 0).val; omega
      | ⟨1, _⟩ => rfl
      | ⟨2, _⟩ => rfl
  · refine Eq.trans ?_ (concatenate_pair_apply_right (t := Cert.Reference10Ideal.S8x512x896) (s₁ := S4x512x896) (s₂ := S4x512x896) 0 _ _ _ _ rfl rfl i ?_ ?_).symm
    · rw [Cert.Reference10Ideal.Read.val_main_v3_apply, Cert.Reference10Ideal.Read.val_main_v2_apply]
      refine congrArg x (funext fun a => Fin.ext ?_)
      match a with
      | ⟨0, _⟩ => show 0 * 4 + (i 0).val = (((i 0).val * 512 + (i 1).val) * 896 + (i 2).val) / 458752; omega
      | ⟨1, _⟩ => rfl
      | ⟨2, _⟩ => show (i 1).val = (((i 0).val * 512 + (i 1).val) * 896 + (i 2).val) / 896 % 512; omega
      | ⟨3, _⟩ => show (i 2).val = (((i 0).val * 512 + (i 1).val) * 896 + (i 2).val) % 896; omega
    · intro b hb
      match b with
      | ⟨0, _⟩ => exact absurd rfl hb
      | ⟨1, _⟩ => rfl
      | ⟨2, _⟩ => rfl
    · show (i 0).val + 4 = 1 * 4 + (i 0).val; omega

/-- What a core ends with, when its argument is its block of the reference's. -/
theorem landed_block (m : (ℓ : Loc nD τ sig) → Buf (Elt F) ℓ) (x : (⟨Cert.Reference10Ideal.S8x2x512x896, .f32⟩ : BufTy).Contents (Elt F))
    (h : ∀ c : Dev nD, m ((c : Thread nD τ).loc main_arg0) = Layout.block ⟨4, ![4, 2, 512, 896]⟩ ⟨4, ![8, 2, 512, 896]⟩ 0 2 c x) (c : Dev nD) :
    landed m c = Layout.block ⟨3, ![4, 512, 896]⟩ ⟨3, ![8, 512, 896]⟩ 0 2 c (Cert.Reference10Ideal.Read.val_main_v4 (F := F) x) :=
  funext fun i => (congrFun (h (other c)) _).trans (traded x c i)

theorem algebraic : Cert.algebraic_Kernel10Ideal_Reference10Ideal := by
  intro m g m' g' _ hargs
  refine ⟨_, (θ_run _ _ _).mono (fun r h c => ⟨?_, (h.1 c).2⟩) (run_main m g),
    (θ_run _ _ _).mono (fun r h => ⟨(h 0).1.trans (Cert.Reference10Ideal.Read.val_main_v4_eq _), (h 0).2⟩) (Cert.Reference10Ideal.Value.run m' g')⟩
  exact (h.1 c).1.trans (landed_block m _ hargs c)

/-- The run and the two arrays' equality hold at the chip's bits as well: nothing is computed on the way. -/
theorem bitexact : Cert.bitexact_Kernel10_Reference10 := by
  intro m g m' g' _ hargs
  refine ⟨_, (θ_run Cert.Kernel10Ideal.defs _ _).mono (fun r h c => ⟨?_, (h.1 c).2⟩) (run_main (F := Bits) m g),
    (θ_run Cert.Reference10Ideal.defs _ _).mono (fun r h => ⟨(h 0).1.trans (Cert.Reference10Ideal.Read.val_main_v4_eq _), (h 0).2⟩)
      (Cert.Reference10Ideal.Value.run (F := Bits) m' g')⟩
  exact (h.1 c).1.trans (landed_block (F := Bits) m _ hargs c)

theorem kernel_frame : Cert.quiescent_Kernel10 := fun m ρ _ =>
  (θ_run Cert.Kernel10Ideal.defs _ _).mono (fun _ h => ⟨fun c => (h.1 c).2, h.2⟩) (run_main (F := Bits) m ρ)

theorem reference_frame : Cert.quiescent_Reference10Ideal := fun m g _ =>
  (θ_run _ _ _).mono (fun r h => ⟨fun c => (h c).2, sem_eq_zero_of_no_sems (by decide) r.2⟩)
    (Cert.Reference10Ideal.Value.run m g)

theorem reference_frame_bits : Cert.quiescent_Reference10 := fun m g _ =>
  (θ_run Cert.Reference10Ideal.defs _ _).mono (fun r h => ⟨fun c => (h c).2, sem_eq_zero_of_no_sems (by decide) r.2⟩)
    (Cert.Reference10Ideal.Value.run (F := Bits) m g)

theorem claim : Cert.quiescent_Kernel10 ∧ Cert.quiescent_Kernel10Ideal ∧ Cert.quiescent_Reference10Ideal ∧ Cert.quiescent_Reference10
    ∧ Cert.preserves_Kernel10_Kernel10Ideal ∧ Cert.algebraic_Kernel10Ideal_Reference10Ideal ∧ Cert.bitexact_Kernel10_Reference10 :=
  ⟨kernel_frame, fun m ρ _ => (θ_run _ _ _).mono (fun _ h => ⟨fun c => (h.1 c).2, h.2⟩) (run_main m ρ), reference_frame, reference_frame_bits, trivial, algebraic, bitexact⟩

end Cert.Trade

end
-- ==== Proof.Adam.Value.lean ====
/- The optimiser's step on a shard of a weight: the gradient chosen between its two halves, the moments and the step. -/
module

public import proofs.«01_k».proof.Proof.Gen.Kernel7Ideal.Value
public import proofs.«01_k».proof.Proof.Gen.Reference7Ideal.Read
public import proofs.«01_k».proof.Proof.Small.Spec
public import Idealize.ShloMosaic.Lib.Pipeline.ValueKit

@[expose] public section

set_option maxRecDepth 65536

noncomputable section

namespace Cert.Adam

open Cert.Kernel7Ideal Cert.Kernel7Ideal.Gen Idealize.ShloMosaic Idealize.ShloMosaic.TcCoe
open Cert.Reference7Ideal.Read
open Cert.Small (nm nv dl)

variable (m : (ℓ : Loc nD τ sig) → Buf (Elt Ideal) ℓ) (c : Dev nD)

/-- Where the blocks stand. -/
theorem idx : ∀ t : Fin cfg0.N, win0_1.index t = ![t.val, 0] ∧ win0_2.index t = ![t.val % 4, 0] ∧ win0_3.index t = ![t.val % 4, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] :=
  (by decide +kernel : ∀ t : Fin grid0.N, win0_1.index t = ![t.val, 0] ∧ win0_2.index t = ![t.val % 4, 0] ∧ win0_3.index t = ![t.val % 4, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0])

/-- The choice of the half, at each point. -/
theorem pick (a b : FVec Ideal S128x896 .f32) (t : Fin cfg0.N) : k0_pay3 (F := Ideal) (grid0.coords t) (0#32 : BitVec 32) a b = if t.val < 4 then a else b := by
  obtain ⟨n, h⟩ := t
  have h8 : n < 8 := h
  unfold k0_pay3
  dsimp only
  by_cases h4 : n < 4
  · rw [if_pos h4]
    refine Eq.trans (congrArg (fun w => Scalar.select w a b) (a₂ := 1#1) ?_) rfl
    interval_cases n <;> decide +kernel +revert
  · rw [if_neg h4]
    refine Eq.trans (congrArg (fun w => Scalar.select w a b) (a₂ := 0#1) ?_) rfl
    interval_cases n <;> first | exact absurd (by decide) h4 | decide +kernel +revert

/-- The core's index, the operand in scalar memory. -/
theorem core (t : Fin cfg0.N) (j) : iblk m c 0 t j = (0#32 : BitVec 32) := by
  unfold iblk V
  after_results
  pointwise []
  rfl

/-- The reference's concatenation of the halves. -/
theorem cat (A B : FVec Ideal S512x896 .f32) (i : S1024x896.Idx) : val_main_v0 (F := Ideal) A B i
    = if h : (i 0).val < 512 then A (ix2 ⟨(i 0).val, h⟩ (i 1)) else B (ix2 ⟨(i 0).val - 512, by have : (i 0).val < 1024 := (i 0).isLt; omega⟩ (i 1)) := by
  pointwise [val_main_v0]

/-- The chosen gradient at a point is the concatenation of the halves. -/
theorem grad (t : Fin cfg0.N) (w) (y : S128x896.Idx) (i : S1024x896.Idx) (h0 : (i 0).val = t.val * 128 + (y 0).val) (h1 : (i 1).val = (y 1).val)
    (hw : w = (0#32 : BitVec 32)) :
    k0_pay3 (F := Ideal) (grid0.coords t) w (iblk m c 2 t) (iblk m c 3 t) y
      = val_main_v0 (F := Ideal) (m ((c : Thread nD τ).loc main_arg1)) (m ((c : Thread nD τ).loc main_arg2)) i := by
  subst hw
  rw [pick, cat]
  have : (y 0).val < 128 := (y 0).isLt
  have ht : t.val < 8 := t.isLt
  by_cases h : t.val < 4
  · rw [if_pos h, dif_pos (by omega)]
    blk_point [iblk, V, idx t]
  · rw [if_neg h, dif_neg (by omega)]
    blk_point [iblk, V, idx t]

/-- The gradient, the first result. -/
theorem final6 : (dats m 0 c).arrAt 6 cfg0.N = val_main_v0 (F := Ideal) (m ((c : Thread nD τ).loc main_arg1)) (m ((c : Thread nD τ).loc main_arg2)) := by
  refine (dats m 0 c).arrAt_eq_of_covers 6 _ (by decide +kernel) fun t _ y => ?_
  blk_simp
  rw [after0_6]; unfold outsAt0; frame_out
  refine grad m c t _ y _ ?_ ?_ (core m c t _) <;> blk_simp <;> simp [idx t]

/-- The first moment, the third result. -/
theorem final8 : (dats m 0 c).arrAt 8 cfg0.N = val_main_v5 (F := Ideal) (m ((c : Thread nD τ).loc main_arg1)) (m ((c : Thread nD τ).loc main_arg2))
    (m ((c : Thread nD τ).loc main_arg3)) := by
  refine (dats m 0 c).arrAt_eq_of_covers 8 _ (by decide +kernel) fun t _ y => ?_
  blk_simp
  rw [after0_8]; unfold outsAt0; frame_out
  refine Eq.trans (show _ = nm (iblk m c 4 t y) _ from rfl) (Eq.trans (congrArg₂ nm ?_ (grad m c t _ y _ ?_ ?_ (core m c t _))) (show nm _ _ = _ from rfl))
  · blk_point [iblk, V, idx t]
  all_goals blk_simp
  all_goals simp [idx t]

/-- The second moment, the fourth result. -/
theorem final9 : (dats m 0 c).arrAt 9 cfg0.N = val_main_v11 (F := Ideal) (m ((c : Thread nD τ).loc main_arg1)) (m ((c : Thread nD τ).loc main_arg2))
    (m ((c : Thread nD τ).loc main_arg4)) := by
  refine (dats m 0 c).arrAt_eq_of_covers 9 _ (by decide +kernel) fun t _ y => ?_
  blk_simp
  rw [after0_9]; unfold outsAt0; frame_out
  refine Eq.trans (show _ = nv (iblk m c 5 t y) _ from rfl) (Eq.trans (congrArg₂ nv ?_ (grad m c t _ y _ ?_ ?_ (core m c t _))) (show nv _ _ = _ from rfl))
  · blk_point [iblk, V, idx t]
  all_goals blk_simp
  all_goals simp [idx t]

/-- What the step adds to the weight, the second result. -/
theorem final7 : (dats m 0 c).arrAt 7 cfg0.N = val_main_v24 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]; unfold outsAt0; frame_out
  have ew : ∀ a a' b b' u u' v v', a = a' → b = b' → u = u' → v = v' → dl a b u v = dl a' b' u' v' := fun _ _ _ _ _ _ _ _ h1 h2 h3 h4 => by rw [h1, h2, h3, h4]
  refine Eq.trans (show _ = dl (iblk m c 1 t y) _ (iblk m c 4 t y) (iblk m c 5 t y) from rfl)
    (Eq.trans (ew _ _ _ _ _ _ _ _ ?_ (grad m c t _ y _ ?_ ?_ (core m c t _)) ?_ ?_) (show dl _ _ _ _ = _ from rfl))
  · blk_point [iblk, V, idx t]
  · blk_simp
    simp [idx t]
  · blk_simp
    simp [idx t]
  · blk_point [iblk, V, idx t]
  · blk_point [iblk, V, idx t]

end Cert.Adam
-- ==== Proof.Adam.Claim.lean ====
/- The optimiser's claims: the gradient, the step and both moments of the shard, and the frames. -/
module

public import proofs.«01_k».proof.Proof.Gen.Kernel7.Frame
public import proofs.«01_k».proof.Proof.Adam.Value
public import proofs.«01_k».proof.Proof.Gen.Reference7Ideal.Run
public import proofs.«01_k».proof.Defs
public import Idealize.ShloMosaic.Lib.Claim

@[expose] public section

set_option maxRecDepth 16384

noncomputable section

namespace Cert.Adam

open Cert.Kernel7Ideal Cert.Kernel7Ideal.Gen Cert.Kernel7Ideal.Value Idealize.ShloMosaic Idealize.ShloMosaic.TcCoe Idealize.SL.Sem

local instance factsK : Cert.Kernel7.Facts := Cert.Kernel7.Gen.facts
local instance factsI : Cert.Kernel7Ideal.Facts := Cert.Kernel7Ideal.Gen.facts
local instance factsR : Cert.Reference7Ideal.Facts := Cert.Reference7Ideal.Gen.facts

theorem algebraic : Cert.algebraic_Kernel7Ideal_Reference7Ideal := by
  intro m g m' g' _ hargs
  refine ⟨fun c => (dats m 0 c).arrAt 6 cfg0.N, fun c => (dats m 0 c).arrAt 7 cfg0.N, fun c => (dats m 0 c).arrAt 8 cfg0.N,
    fun c => (dats m 0 c).arrAt 9 cfg0.N, run_blocks m g, ?_⟩
  refine (θ_run _ _ _).mono (fun r h c => ?_) (Cert.Reference7Ideal.Value.run m' g')
  obtain ⟨h0, h1, h2, h3, hk⟩ := h c
  obtain ⟨a0, a1, a2, a3, a4⟩ := hargs c
  refine ⟨h0.trans ?_, h1.trans ?_, h2.trans ?_, h3.trans ?_, hk⟩
  · rw [Cert.Reference7Ideal.Read.val_main_v0_eq]
    refine Eq.trans ?_ (final6 m c).symm
    repeat rw [StableHlo.launchContents_devRef]
    rw [a1, a2]
  · rw [Cert.Reference7Ideal.Read.val_main_v24_eq]
    refine Eq.trans ?_ (final7 m c).symm
    repeat rw [StableHlo.launchContents_devRef]
    rw [a0, a1, a2, a3, a4]
  · rw [Cert.Reference7Ideal.Read.val_main_v5_eq]
    refine Eq.trans ?_ (final8 m c).symm
    repeat rw [StableHlo.launchContents_devRef]
    rw [a1, a2, a3]
  · rw [Cert.Reference7Ideal.Read.val_main_v11_eq]
    refine Eq.trans ?_ (final9 m c).symm
    repeat rw [StableHlo.launchContents_devRef]
    rw [a1, a2, a4]

theorem reference_frame : Cert.quiescent_Reference7Ideal := fun m g _ =>
  (θ_run _ _ _).mono (fun r h => ⟨fun c => (h c).2.2.2.2, sem_eq_zero_of_no_sems (by decide) r.2⟩)
    (Cert.Reference7Ideal.Value.run m g)

theorem claim : Cert.quiescent_Kernel7 ∧ Cert.quiescent_Kernel7Ideal ∧ Cert.quiescent_Reference7Ideal
    ∧ Cert.preserves_Kernel7_Kernel7Ideal ∧ Cert.algebraic_Kernel7Ideal_Reference7Ideal :=
  ⟨fun m ρ _ => Cert.Kernel7.Gen.frame m ρ, fun m ρ _ => Cert.Kernel7Ideal.Gen.frame m ρ, reference_frame, trivial, algebraic⟩

end Cert.Adam
-- ==== Proof.Wg.Value.lean ====
/- The weight gradient's array: eight blocks of rows added up in place are the reference's one product. -/
module

public import proofs.«01_k».proof.Proof.Gen.Kernel8Ideal.Value
public import proofs.«01_k».proof.Proof.Gen.Reference8Ideal.Read
public import Idealize.ShloMosaic.Lib.Pipeline.ValueKit
public import Idealize.ShloMosaic.Lib.Pipeline.ReadBack

@[expose] public section

set_option maxRecDepth 65536

noncomputable section

namespace Cert.Wg

open Cert.Kernel8Ideal Cert.Kernel8Ideal.Gen Idealize.ShloMosaic Idealize.ShloMosaic.TcCoe
open Cert.Reference8Ideal.Read (val_main_v4 val_main_v3 val_main_v2 val_main_v1 val_main_v0)

variable (m : (ℓ : Loc nD τ sig) → Buf (Elt Ideal) ℓ) (c : Dev nD)

/-- Where the blocks stand. -/
theorem idx : ∀ t : Fin cfg0.N, win0_0.index t = ![t.val % 8, 0] ∧ win0_1.index t = ![t.val % 8, t.val / 8] ∧ win0_2.index t = ![t.val / 8, 0, 0] :=
  (by decide +kernel : ∀ t : Fin grid0.N, win0_0.index t = ![t.val % 8, 0] ∧ win0_1.index t = ![t.val % 8, t.val / 8] ∧ win0_2.index t = ![t.val / 8, 0, 0])

/-- What a block of rows adds, at a slab, a row and a column. -/
def part (x0 : FVec Ideal S1024x1024 .bf16) (x1 : FVec Ideal S1024x2816 .bf16) (j : S2x1024x1408.Idx) : EReal :=
  ∑ k : Fin 1024, x0 (ix2 k (j 1)) * x1 (ix2 k ⟨(j 0).val * 1408 + (j 2).val, by have : (j 0).val < 2 := (j 0).isLt; have : (j 2).val < 1408 := (j 2).isLt; omega⟩)

/-- The reference at a slab, a row and a column. -/
theorem ref_at (X0 : FVec Ideal S8192x1024 .bf16) (X1 : FVec Ideal S8192x5632 .bf16) (j : S4x1024x1408.Idx) :
    val_main_v4 (F := Ideal) X0 X1 j
      = ∑ k : Fin 8192, X0 (ix2 k (j 1)) * X1 (ix2 k ⟨(j 0).val * 1408 + (j 2).val, by have : (j 0).val < 4 := (j 0).isLt; have : (j 2).val < 1408 := (j 2).isLt; omega⟩) := by
  pointwise [val_main_v4, val_main_v3, val_main_v2, val_main_v1, val_main_v0]

/-- The first slab after a block of rows, over what was there. -/
theorem pay3_at (x0 : FVec Ideal S1024x1024 .bf16) (x1 : FVec Ideal S1024x2816 .bf16) (a : FVec Ideal S1x1024x1408 .f32) (x : S1x1024x1408.Idx)
    (y : S2x1024x1408.Idx) (h0 : (y 0).val = (x 0).val) (h1 : (y 1).val = (x 1).val) (h2 : (y 2).val = (x 2).val) :
    k0_pay3 x0 x1 a x = a x + part x0 x1 y := by
  unfold part
  pointwise [k0_pay3, k0_pay2]
  blk_point []

/-- The second slab after a block of rows, over what was there. -/
theorem pay4_at (x0 : FVec Ideal S1024x1024 .bf16) (x1 : FVec Ideal S1024x2816 .bf16) (a : FVec Ideal S1x1024x1408 .f32) (x : S1x1024x1408.Idx)
    (y : S2x1024x1408.Idx) (h0 : (y 0).val = 1 + (x 0).val) (h1 : (y 1).val = (x 1).val) (h2 : (y 2).val = (x 2).val) :
    k0_pay4 x0 x1 a x = a x + part x0 x1 y := by
  unfold part
  pointwise [k0_pay4, k0_pay2]
  blk_point []

/-- A slab that stands one further, read where it stands. -/
theorem ld1 (A : FVec Ideal S2x1024x1408 .f32) (inb) (x : S1x1024x1408.Idx) (j : S2x1024x1408.Idx) (h0 : (j 0).val = 1 + (x 0).val) (h1 : (j 1).val = (x 1).val)
    (h2 : (j 2).val = (x 2).val) : View.ld (Val := Elt Ideal) (S := S2x1024x1408) (e' := .f32) A (Rect.unit ![1, 0, 0] S1x1024x1408.size inb) x = A j := by
  rw [View.ld_apply]
  refine congrArg A (funext fun k => Fin.ext ?_)
  match k with
  | ⟨0, _⟩ => exact (show _ = 1 + 1 * (x 0).val from rfl).trans (by show _ = (j 0).val; omega)
  | ⟨1, _⟩ => exact (show _ = 0 + 1 * (x 1).val from rfl).trans (by show _ = (j 1).val; omega)
  | ⟨2, _⟩ => exact (show _ = 0 + 1 * (x 2).val from rfl).trans (by show _ = (j 2).val; omega)

/-- The first slab, read where it stands. -/
theorem ld0 (A : FVec Ideal S2x1024x1408 .f32) (inb) (x : S1x1024x1408.Idx) (j : S2x1024x1408.Idx) (h0 : (j 0).val = (x 0).val) (h1 : (j 1).val = (x 1).val)
    (h2 : (j 2).val = (x 2).val) : View.ld (Val := Elt Ideal) (S := S2x1024x1408) (e' := .f32) A (Rect.unit ![0, 0, 0] S1x1024x1408.size inb) x = A j := by
  rw [View.ld_apply]
  refine congrArg A (funext fun k => Fin.ext ?_)
  match k with
  | ⟨0, _⟩ => exact (show _ = 0 + 1 * (x 0).val from rfl).trans (by show _ = (j 0).val; omega)
  | ⟨1, _⟩ => exact (show _ = 0 + 1 * (x 1).val from rfl).trans (by show _ = (j 1).val; omega)
  | ⟨2, _⟩ => exact (show _ = 0 + 1 * (x 2).val from rfl).trans (by show _ = (j 2).val; omega)

/-- Two slabs stored over a fill of both are the two slabs. -/
theorem slabs (G : FVec Ideal S2x1024x1408 .f32) (inb1 inb0) (w1 w0 : S1x1024x1408.Idx → EReal) (z : View.Piece (Elt Ideal) S2x1024x1408 .f32)
    (h1 : ∀ (x : S1x1024x1408.Idx) (j : S2x1024x1408.Idx), (j 0).val = 1 + (x 0).val → (j 1).val = (x 1).val → (j 2).val = (x 2).val → w1 x = G j)
    (h0 : ∀ (x : S1x1024x1408.Idx) (j : S2x1024x1408.Idx), (j 0).val = (x 0).val → (j 1).val = (x 1).val → (j 2).val = (x 2).val → w0 x = G j) (j) :
    View.canon (Val := Elt Ideal) (s := S2x1024x1408) (e := .f32)
      [⟨Rect.unit ![1, 0, 0] S1x1024x1408.size inb1, w1⟩, ⟨Rect.unit ![0, 0, 0] S1x1024x1408.size inb0, w0⟩, z] j = G j := by
  refine View.canon_append_of_piecesOf (Val := Elt Ideal) (s := S2x1024x1408) (e := .f32) G [z]
    [⟨Rect.unit ![1, 0, 0] S1x1024x1408.size inb1, w1⟩, ⟨Rect.unit ![0, 0, 0] S1x1024x1408.size inb0, w0⟩] ⟨fun x => h1 x _ ?_ ?_ ?_, fun x => h0 x _ ?_ ?_ ?_, trivial⟩ j ?_
  iterate 6 · simp
  have a1 : (j 1).val < 1024 := (j 1).isLt
  have a2 : (j 2).val < 1408 := (j 2).isLt
  have a0 : (j 0).val < 2 := (j 0).isLt
  by_cases e : (j 0).val = 1
  · refine ⟨_, List.mem_cons_self, (Rect.mem_set_unit (inb := inb1)).mpr fun a => ?_⟩
    match a with
    | ⟨0, _⟩ => show 1 ≤ (j 0).val ∧ (j 0).val < 1 + 1; omega
    | ⟨1, _⟩ => show 0 ≤ (j 1).val ∧ (j 1).val < 0 + 1024; omega
    | ⟨2, _⟩ => show 0 ≤ (j 2).val ∧ (j 2).val < 0 + 1408; omega
  · refine ⟨_, List.mem_cons_of_mem _ List.mem_cons_self, (Rect.mem_set_unit (inb := inb0)).mpr fun a => ?_⟩
    match a with
    | ⟨0, _⟩ => show 0 ≤ (j 0).val ∧ (j 0).val < 0 + 1; omega
    | ⟨1, _⟩ => show 0 ≤ (j 1).val ∧ (j 1).val < 0 + 1024; omega
    | ⟨2, _⟩ => show 0 ≤ (j 2).val ∧ (j 2).val < 0 + 1408; omega

/-- A block of rows that is not the first adds to what the block before left. -/
theorem step (t : Fin cfg0.N) (h : ¬ t.val % 8 = 0) (j) :
    outsAt0 m c t.val t.isLt j = outsAt0 m c (t.val - 1) (Nat.lt_of_le_of_lt (Nat.sub_le _ _) t.isLt) j + part (iblk m c 0 t) (iblk m c 1 t) j := by
  rw [outsAt0_B m c t h]
  frame_out
  canon_tiles x hx
  · exact (pay4_at _ _ _ x j hx0 hx1 hx2).trans (congrArg (· + _) (ld1 _ _ x j hx0 hx1 hx2))
  · exact (pay3_at _ _ _ x j hx0 hx1 hx2).trans (congrArg (· + _) (ld0 _ _ x j hx0 hx1 hx2))

/-- The first block of rows starts from zero. -/
theorem reset (t : Fin cfg0.N) (h : t.val % 8 = 0) (j) : outsAt0 m c t.val t.isLt j = 0 + part (iblk m c 0 t) (iblk m c 1 t) j := by
  rw [outsAt0_A m c t h]
  frame_out
  simp (disch := decide) only [↓View.readCov_skip, ↓View.readCov_cons_toLoadRect, ↓View.readCov_fill]
  refine slabs (fun j => 0 + part (iblk m c 0 t) (iblk m c 1 t) j) _ _ _ _ _ (fun x j h0 h1 h2 => ?_) (fun x j h0 h1 h2 => ?_) j
  · exact (pay4_at _ _ _ x j h0 h1 h2).trans (congrArg (· + _) ((ld1 _ _ x j h0 h1 h2).trans (by pointwise [k0_pay1])))
  · exact (pay3_at _ _ _ x j h0 h1 h2).trans (congrArg (· + _) ((ld0 _ _ x j h0 h1 h2).trans (by pointwise [k0_pay1])))

/-- The array the call leaves is the reference's. -/
theorem final : (dats m 0 c).arrAt 2 cfg0.N
    = val_main_v4 (F := Ideal) (V m c main_arg0) (V m c main_arg1) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) (fun t j => part (iblk m c 0 t) (iblk m c 1 t) j)
    (fun t h j => reset m c t h j) (fun t h j => step m c t h j) t ((flush0_2 t).mp hf) _, zero_add, ref_at]
  unfold part
  refine Fin.sum_mul_add_congr fun s k hl => ?_
  blk_point [iblk, V, idx t, idx ⟨_, Pipeline.run_point_lt_of_flush t ((flush0_2 t).mp hf) s⟩]

end Cert.Wg
-- ==== Proof.Wg.Claim.lean ====
/- The weight gradient's claims: its array, and the frames. -/
module

public import proofs.«01_k».proof.Proof.Gen.Kernel8.Frame
public import proofs.«01_k».proof.Proof.Wg.Value
public import proofs.«01_k».proof.Proof.Gen.Reference8Ideal.Run
public import proofs.«01_k».proof.Defs
public import Idealize.ShloMosaic.Lib.Claim

@[expose] public section

set_option maxRecDepth 16384

noncomputable section

namespace Cert.Wg

open Cert.Kernel8Ideal Cert.Kernel8Ideal.Gen Cert.Kernel8Ideal.Value Idealize.ShloMosaic Idealize.ShloMosaic.TcCoe Idealize.SL.Sem

local instance factsK : Cert.Kernel8.Facts := Cert.Kernel8.Gen.facts
local instance factsI : Cert.Kernel8Ideal.Facts := Cert.Kernel8Ideal.Gen.facts
local instance factsR : Cert.Reference8Ideal.Facts := Cert.Reference8Ideal.Gen.facts

theorem algebraic : Cert.algebraic_Kernel8Ideal_Reference8Ideal := by
  intro m g m' g' _ hargs
  refine ⟨fun c => (dats m 0 c).arrAt 2 cfg0.N, run_blocks m g, ?_⟩
  refine (θ_run _ _ _).mono (fun r h c => ?_) (Cert.Reference8Ideal.Value.run m' g')
  obtain ⟨h0, hk⟩ := h c
  obtain ⟨a0, a1⟩ := hargs c
  refine ⟨h0.trans ?_, hk⟩
  rw [Cert.Reference8Ideal.Read.val_main_v4_eq]
  refine Eq.trans ?_ (final m c).symm
  repeat rw [StableHlo.launchContents_devRef]
  rw [a0, a1]

theorem reference_frame : Cert.quiescent_Reference8Ideal := fun m g _ =>
  (θ_run _ _ _).mono (fun r h => ⟨fun c => (h c).2, sem_eq_zero_of_no_sems (by decide) r.2⟩)
    (Cert.Reference8Ideal.Value.run m g)

theorem claim : Cert.quiescent_Kernel8 ∧ Cert.quiescent_Kernel8Ideal ∧ Cert.quiescent_Reference8Ideal
    ∧ Cert.preserves_Kernel8_Kernel8Ideal ∧ Cert.algebraic_Kernel8Ideal_Reference8Ideal :=
  ⟨fun m ρ _ => Cert.Kernel8.Gen.frame m ρ, fun m ρ _ => Cert.Kernel8Ideal.Gen.frame m ρ, reference_frame, trivial, algebraic⟩

end Cert.Wg
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference4Ideal
public import proofs.«01_k».proof.Proof.Gen.Reference4Ideal.Run
public import proofs.«01_k».proof.Proof.Gen.Pre_finite_hgrn
public import proofs.«01_k».proof.Proof.Gen.Kernel4Ideal.Value
public import proofs.«01_k».proof.Proof.Gen.Reference4Ideal.Step
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Reference2Ideal
public import proofs.«01_k».proof.Proof.Gen.Pre_finite_ffn
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Reference3Ideal
public import proofs.«01_k».proof.Proof.Gen.Pre_finite_lb
public import proofs.«01_k».proof.Proof.InB.Claim
public import proofs.«01_k».proof.Proof.Ffn.Claim
public import proofs.«01_k».proof.Proof.Small.Claim
public import proofs.«01_k».proof.Proof.Hgrn.Frames
public import proofs.«01_k».proof.Proof.Hgrn.Claim
public import Idealize.ShloMosaic.Adequacy
public import Idealize.ShloMosaic.Init
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.InF.Claim
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Reference9Ideal
public import proofs.«01_k».proof.Proof.Gen.Reference9Ideal.Run
public import proofs.«01_k».proof.Proof.Gen.Reference9Ideal.Read
public import proofs.«01_k».proof.Proof.Gen.Reference9
public import proofs.«01_k».proof.Proof.Share.Claim
public import proofs.«01_k».proof.Proof.Trade.Claim
public import proofs.«01_k».proof.Proof.Early.Claim
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Reference10Ideal
public import proofs.«01_k».proof.Proof.Gen.Reference10Ideal.Run
public import proofs.«01_k».proof.Proof.Gen.Reference10Ideal.Read
public import proofs.«01_k».proof.Proof.Gen.Reference10
public import proofs.«01_k».proof.Proof.Adam.Claim
public import proofs.«01_k».proof.Proof.Wg.Claim
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Reference11Ideal
public import proofs.«01_k».proof.Proof.Gen.Reference11Ideal.Run
public import proofs.«01_k».proof.Proof.Gen.Reference11Ideal.Read
public import proofs.«01_k».proof.Proof.Gen.Reference11

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Kernel8.Gen.facts, Cert.Kernel8Ideal.Gen.facts,
    Cert.Reference8Ideal.Gen.facts, Cert.Kernel9.Gen.facts, Cert.Kernel9Ideal.Gen.facts, Cert.Reference9Ideal.Gen.facts, Cert.Reference9.Gen.facts,
    Cert.Kernel10.Gen.facts, Cert.Kernel10Ideal.Gen.facts, Cert.Reference10Ideal.Gen.facts, Cert.Reference10.Gen.facts,
    Cert.Kernel11.Gen.facts, Cert.Kernel11Ideal.Gen.facts, Cert.Reference11Ideal.Gen.facts, Cert.Reference11.Gen.facts,
    Cert.Pre_finite.Gen.facts, Cert.Pre_finite_ffn.Gen.facts, Cert.Pre_finite_lb.Gen.facts, Cert.Pre_finite_hgrn.Gen.facts, by
    obtain ⟨k, ki, kf, r, rf, p, a⟩ := Cert.InB.claim
    obtain ⟨fk, fi, fr, fp, fa⟩ := Cert.InF.claim
    obtain ⟨ok, oi, or, op, oa⟩ := Cert.Adam.claim
    obtain ⟨wk, wi, wr, wp, wa⟩ := Cert.Wg.claim
    obtain ⟨sk, si, sr, st, sp, sa, sb⟩ := Cert.Share.claim
    obtain ⟨xk, xi, xr, xt, xp, xa, xb⟩ := Cert.Trade.claim
    obtain ⟨yk, yi, yr, yt, yp, ya, yb⟩ := Cert.Early.claim
    exact ⟨k, ki, kf, r, rf, Cert.Ffn.kernel_frame, Cert.Ffn.kernel_frame_ideal, Cert.Ffn.kernel_frame_finite, Cert.Ffn.reference_frame,
      Cert.Ffn.reference_frame_finite, Cert.Small.kernel_frame, Cert.Small.kernelIdeal_frame, Cert.Small.kernelIdeal_frame_pre,
      Cert.Small.reference_frame, Cert.Small.reference_frame_pre, Cert.Hgrn.kernel_frame, Cert.Hgrn.kernelIdeal_frame, Cert.Hgrn.kernelIdeal_frame_pre,
      Cert.Hgrn.reference_frame, Cert.Hgrn.reference_frame_pre, Cert.Hgrn.back_frame, Cert.Hgrn.backIdeal_frame, fk, fi, fr, ok, oi, or, wk, wi, wr, sk, si, sr, st,
      xk, xi, xr, xt, yk, yi, yr, yt,
      p, a, Cert.Ffn.preserves, Cert.Ffn.algebraic,
      Cert.Small.preserves, Cert.Small.algebraic, Cert.Hgrn.preserves, Cert.Hgrn.algebraic, Cert.Hgrn.back_preserves,
      fp, fa, op, oa, wp, wa, sp, sa, sb, xp, xa, xb, yp, ya, yb⟩⟩

end Cert.Proof
